-- ==== Defs.lean ====
def Pre_LossBwd (m : (ℓ : Loc Cert.LossBwd.nD Cert.LossBwd.τ Cert.LossBwd.sig) → Buf (Elt Bits) ℓ) : Prop :=
  True

def Pre_LossBwdIdeal (m : (ℓ : Loc Cert.LossBwdIdeal.nD Cert.LossBwdIdeal.τ Cert.LossBwdIdeal.sig) → Buf (Elt Ideal) ℓ) : Prop :=
  True

def Pre_LossBwdIdeal_finite_final [hPre_finite_final : Cert.Pre_finite_final.Facts] (m : (ℓ : Loc Cert.LossBwdIdeal.nD Cert.LossBwdIdeal.τ Cert.LossBwdIdeal.sig) → Buf (Elt Ideal) ℓ) : Prop :=
  ∀ c : Dev Cert.LossBwdIdeal.nD,
    (Cert.Pre_finite_final.fn (F := Ideal) (m ((c.tc : Thread Cert.LossBwdIdeal.nD Cert.LossBwdIdeal.τ).loc Cert.LossBwdIdeal.main_arg0)) (m ((c.tc : Thread Cert.LossBwdIdeal.nD Cert.LossBwdIdeal.τ).loc Cert.LossBwdIdeal.main_arg1)) (m ((c.tc : Thread Cert.LossBwdIdeal.nD Cert.LossBwdIdeal.τ).loc Cert.LossBwdIdeal.main_arg2))) = (fun _ => 1#1)

def Pre_LossRefIdeal (m : (ℓ : Loc Cert.LossRefIdeal.nD Cert.LossRefIdeal.τ Cert.LossRefIdeal.sig) → Buf (Elt Ideal) ℓ) : Prop :=
  True

def Pre_LossRefIdeal_finite_final [hPre_finite_final : Cert.Pre_finite_final.Facts] (m : (ℓ : Loc Cert.LossRefIdeal.nD Cert.LossRefIdeal.τ Cert.LossRefIdeal.sig) → Buf (Elt Ideal) ℓ) : Prop :=
  ∀ c : Dev Cert.LossRefIdeal.nD,
    (Cert.Pre_finite_final.fn (F := Ideal) (m ((c.tc : Thread Cert.LossRefIdeal.nD Cert.LossRefIdeal.τ).loc Cert.LossRefIdeal.main_arg0)) (m ((c.tc : Thread Cert.LossRefIdeal.nD Cert.LossRefIdeal.τ).loc Cert.LossRefIdeal.main_arg1)) (m ((c.tc : Thread Cert.LossRefIdeal.nD Cert.LossRefIdeal.τ).loc Cert.LossRefIdeal.main_arg2))) = (fun _ => 1#1)

def Pre_FfnBwd (m : (ℓ : Loc Cert.FfnBwd.nD Cert.FfnBwd.τ Cert.FfnBwd.sig) → Buf (Elt Bits) ℓ) : Prop :=
  True

def Pre_FfnBwdIdeal (m : (ℓ : Loc Cert.FfnBwdIdeal.nD Cert.FfnBwdIdeal.τ Cert.FfnBwdIdeal.sig) → Buf (Elt Ideal) ℓ) : Prop :=
  True

def Pre_FfnBwdIdeal_finite_ffn [hPre_finite_ffn : Cert.Pre_finite_ffn.Facts] (m : (ℓ : Loc Cert.FfnBwdIdeal.nD Cert.FfnBwdIdeal.τ Cert.FfnBwdIdeal.sig) → Buf (Elt Ideal) ℓ) : Prop :=
  ∀ c : Dev Cert.FfnBwdIdeal.nD,
    (Cert.Pre_finite_ffn.fn (F := Ideal) (m ((c.tc : Thread Cert.FfnBwdIdeal.nD Cert.FfnBwdIdeal.τ).loc Cert.FfnBwdIdeal.main_arg0)) (m ((c.tc : Thread Cert.FfnBwdIdeal.nD Cert.FfnBwdIdeal.τ).loc Cert.FfnBwdIdeal.main_arg1)) (m ((c.tc : Thread Cert.FfnBwdIdeal.nD Cert.FfnBwdIdeal.τ).loc Cert.FfnBwdIdeal.main_arg2)) (m ((c.tc : Thread Cert.FfnBwdIdeal.nD Cert.FfnBwdIdeal.τ).loc Cert.FfnBwdIdeal.main_arg3)) (m ((c.tc : Thread Cert.FfnBwdIdeal.nD Cert.FfnBwdIdeal.τ).loc Cert.FfnBwdIdeal.main_arg4)) (m ((c.tc : Thread Cert.FfnBwdIdeal.nD Cert.FfnBwdIdeal.τ).loc Cert.FfnBwdIdeal.main_arg5)) (m ((c.tc : Thread Cert.FfnBwdIdeal.nD Cert.FfnBwdIdeal.τ).loc Cert.FfnBwdIdeal.main_arg6)) (m ((c.tc : Thread Cert.FfnBwdIdeal.nD Cert.FfnBwdIdeal.τ).loc Cert.FfnBwdIdeal.main_arg7))) = (fun _ => 1#1)

def Pre_FfnRefIdeal (m : (ℓ : Loc Cert.FfnRefIdeal.nD Cert.FfnRefIdeal.τ Cert.FfnRefIdeal.sig) → Buf (Elt Ideal) ℓ) : Prop :=
  True

def Pre_FfnRefIdeal_finite_ffn [hPre_finite_ffn : Cert.Pre_finite_ffn.Facts] (m : (ℓ : Loc Cert.FfnRefIdeal.nD Cert.FfnRefIdeal.τ Cert.FfnRefIdeal.sig) → Buf (Elt Ideal) ℓ) : Prop :=
  ∀ c : Dev Cert.FfnRefIdeal.nD,
    (Cert.Pre_finite_ffn.fn (F := Ideal) (m ((c.tc : Thread Cert.FfnRefIdeal.nD Cert.FfnRefIdeal.τ).loc Cert.FfnRefIdeal.main_arg0)) (m ((c.tc : Thread Cert.FfnRefIdeal.nD Cert.FfnRefIdeal.τ).loc Cert.FfnRefIdeal.main_arg1)) (m ((c.tc : Thread Cert.FfnRefIdeal.nD Cert.FfnRefIdeal.τ).loc Cert.FfnRefIdeal.main_arg2)) (m ((c.tc : Thread Cert.FfnRefIdeal.nD Cert.FfnRefIdeal.τ).loc Cert.FfnRefIdeal.main_arg3)) (m ((c.tc : Thread Cert.FfnRefIdeal.nD Cert.FfnRefIdeal.τ).loc Cert.FfnRefIdeal.main_arg4)) (m ((c.tc : Thread Cert.FfnRefIdeal.nD Cert.FfnRefIdeal.τ).loc Cert.FfnRefIdeal.main_arg5)) (m ((c.tc : Thread Cert.FfnRefIdeal.nD Cert.FfnRefIdeal.τ).loc Cert.FfnRefIdeal.main_arg6)) (m ((c.tc : Thread Cert.FfnRefIdeal.nD Cert.FfnRefIdeal.τ).loc Cert.FfnRefIdeal.main_arg7))) = (fun _ => 1#1)

def Pre_ConvBwd (m : (ℓ : Loc Cert.ConvBwd.nD Cert.ConvBwd.τ Cert.ConvBwd.sig) → Buf (Elt Bits) ℓ) : Prop :=
  True

def Pre_ConvBwdIdeal (m : (ℓ : Loc Cert.ConvBwdIdeal.nD Cert.ConvBwdIdeal.τ Cert.ConvBwdIdeal.sig) → Buf (Elt Ideal) ℓ) : Prop :=
  True

def Pre_ConvBwdIdeal_finite_conv [hPre_finite_conv : Cert.Pre_finite_conv.Facts] (m : (ℓ : Loc Cert.ConvBwdIdeal.nD Cert.ConvBwdIdeal.τ Cert.ConvBwdIdeal.sig) → Buf (Elt Ideal) ℓ) : Prop :=
  ∀ c : Dev Cert.ConvBwdIdeal.nD,
    (Cert.Pre_finite_conv.fn (F := Ideal) (m ((c.tc : Thread Cert.ConvBwdIdeal.nD Cert.ConvBwdIdeal.τ).loc Cert.ConvBwdIdeal.main_arg0)) (m ((c.tc : Thread Cert.ConvBwdIdeal.nD Cert.ConvBwdIdeal.τ).loc Cert.ConvBwdIdeal.main_arg1)) (m ((c.tc : Thread Cert.ConvBwdIdeal.nD Cert.ConvBwdIdeal.τ).loc Cert.ConvBwdIdeal.main_arg2)) (m ((c.tc : Thread Cert.ConvBwdIdeal.nD Cert.ConvBwdIdeal.τ).loc Cert.ConvBwdIdeal.main_arg3)) (m ((c.tc : Thread Cert.ConvBwdIdeal.nD Cert.ConvBwdIdeal.τ).loc Cert.ConvBwdIdeal.main_arg4)) (m ((c.tc : Thread Cert.ConvBwdIdeal.nD Cert.ConvBwdIdeal.τ).loc Cert.ConvBwdIdeal.main_arg5))) = (fun _ => 1#1)

def Pre_ConvRefIdeal (m : (ℓ : Loc Cert.ConvRefIdeal.nD Cert.ConvRefIdeal.τ Cert.ConvRefIdeal.sig) → Buf (Elt Ideal) ℓ) : Prop :=
  True

def Pre_ConvRefIdeal_finite_conv [hPre_finite_conv : Cert.Pre_finite_conv.Facts] (m : (ℓ : Loc Cert.ConvRefIdeal.nD Cert.ConvRefIdeal.τ Cert.ConvRefIdeal.sig) → Buf (Elt Ideal) ℓ) : Prop :=
  ∀ c : Dev Cert.ConvRefIdeal.nD,
    (Cert.Pre_finite_conv.fn (F := Ideal) (m ((c.tc : Thread Cert.ConvRefIdeal.nD Cert.ConvRefIdeal.τ).loc Cert.ConvRefIdeal.main_arg0)) (m ((c.tc : Thread Cert.ConvRefIdeal.nD Cert.ConvRefIdeal.τ).loc Cert.ConvRefIdeal.main_arg1)) (m ((c.tc : Thread Cert.ConvRefIdeal.nD Cert.ConvRefIdeal.τ).loc Cert.ConvRefIdeal.main_arg2)) (m ((c.tc : Thread Cert.ConvRefIdeal.nD Cert.ConvRefIdeal.τ).loc Cert.ConvRefIdeal.main_arg3)) (m ((c.tc : Thread Cert.ConvRefIdeal.nD Cert.ConvRefIdeal.τ).loc Cert.ConvRefIdeal.main_arg4)) (m ((c.tc : Thread Cert.ConvRefIdeal.nD Cert.ConvRefIdeal.τ).loc Cert.ConvRefIdeal.main_arg5))) = (fun _ => 1#1)

def Pre_PoolBwd (m : (ℓ : Loc Cert.PoolBwd.nD Cert.PoolBwd.τ Cert.PoolBwd.sig) → Buf (Elt Bits) ℓ) : Prop :=
  True

def Pre_PoolBwdIdeal (m : (ℓ : Loc Cert.PoolBwdIdeal.nD Cert.PoolBwdIdeal.τ Cert.PoolBwdIdeal.sig) → Buf (Elt Ideal) ℓ) : Prop :=
  True

def Pre_PoolBwdIdeal_finite_pool [hPre_finite_pool : Cert.Pre_finite_pool.Facts] (m : (ℓ : Loc Cert.PoolBwdIdeal.nD Cert.PoolBwdIdeal.τ Cert.PoolBwdIdeal.sig) → Buf (Elt Ideal) ℓ) : Prop :=
  ∀ c : Dev Cert.PoolBwdIdeal.nD,
    (Cert.Pre_finite_pool.fn (F := Ideal) (m ((c.tc : Thread Cert.PoolBwdIdeal.nD Cert.PoolBwdIdeal.τ).loc Cert.PoolBwdIdeal.main_arg0)) (m ((c.tc : Thread Cert.PoolBwdIdeal.nD Cert.PoolBwdIdeal.τ).loc Cert.PoolBwdIdeal.main_arg1)) (m ((c.tc : Thread Cert.PoolBwdIdeal.nD Cert.PoolBwdIdeal.τ).loc Cert.PoolBwdIdeal.main_arg2)) (m ((c.tc : Thread Cert.PoolBwdIdeal.nD Cert.PoolBwdIdeal.τ).loc Cert.PoolBwdIdeal.main_arg3)) (m ((c.tc : Thread Cert.PoolBwdIdeal.nD Cert.PoolBwdIdeal.τ).loc Cert.PoolBwdIdeal.main_arg4)) (m ((c.tc : Thread Cert.PoolBwdIdeal.nD Cert.PoolBwdIdeal.τ).loc Cert.PoolBwdIdeal.main_arg5)) (m ((c.tc : Thread Cert.PoolBwdIdeal.nD Cert.PoolBwdIdeal.τ).loc Cert.PoolBwdIdeal.main_arg6))) = (fun _ => 1#1)

def Pre_PoolRefIdeal (m : (ℓ : Loc Cert.PoolRefIdeal.nD Cert.PoolRefIdeal.τ Cert.PoolRefIdeal.sig) → Buf (Elt Ideal) ℓ) : Prop :=
  True

def Pre_PoolRefIdeal_finite_pool [hPre_finite_pool : Cert.Pre_finite_pool.Facts] (m : (ℓ : Loc Cert.PoolRefIdeal.nD Cert.PoolRefIdeal.τ Cert.PoolRefIdeal.sig) → Buf (Elt Ideal) ℓ) : Prop :=
  ∀ c : Dev Cert.PoolRefIdeal.nD,
    (Cert.Pre_finite_pool.fn (F := Ideal) (m ((c.tc : Thread Cert.PoolRefIdeal.nD Cert.PoolRefIdeal.τ).loc Cert.PoolRefIdeal.main_arg0)) (m ((c.tc : Thread Cert.PoolRefIdeal.nD Cert.PoolRefIdeal.τ).loc Cert.PoolRefIdeal.main_arg1)) (m ((c.tc : Thread Cert.PoolRefIdeal.nD Cert.PoolRefIdeal.τ).loc Cert.PoolRefIdeal.main_arg2)) (m ((c.tc : Thread Cert.PoolRefIdeal.nD Cert.PoolRefIdeal.τ).loc Cert.PoolRefIdeal.main_arg3)) (m ((c.tc : Thread Cert.PoolRefIdeal.nD Cert.PoolRefIdeal.τ).loc Cert.PoolRefIdeal.main_arg4)) (m ((c.tc : Thread Cert.PoolRefIdeal.nD Cert.PoolRefIdeal.τ).loc Cert.PoolRefIdeal.main_arg5)) (m ((c.tc : Thread Cert.PoolRefIdeal.nD Cert.PoolRefIdeal.τ).loc Cert.PoolRefIdeal.main_arg6))) = (fun _ => 1#1)

def Pre_GmlpBwd (m : (ℓ : Loc Cert.GmlpBwd.nD Cert.GmlpBwd.τ Cert.GmlpBwd.sig) → Buf (Elt Bits) ℓ) : Prop :=
  True

def Pre_GmlpBwdIdeal (m : (ℓ : Loc Cert.GmlpBwdIdeal.nD Cert.GmlpBwdIdeal.τ Cert.GmlpBwdIdeal.sig) → Buf (Elt Ideal) ℓ) : Prop :=
  True

def Pre_GmlpBwdIdeal_finite_gmlp [hPre_finite_gmlp : Cert.Pre_finite_gmlp.Facts] (m : (ℓ : Loc Cert.GmlpBwdIdeal.nD Cert.GmlpBwdIdeal.τ Cert.GmlpBwdIdeal.sig) → Buf (Elt Ideal) ℓ) : Prop :=
  ∀ c : Dev Cert.GmlpBwdIdeal.nD,
    (Cert.Pre_finite_gmlp.fn (F := Ideal) (m ((c.tc : Thread Cert.GmlpBwdIdeal.nD Cert.GmlpBwdIdeal.τ).loc Cert.GmlpBwdIdeal.main_arg0)) (m ((c.tc : Thread Cert.GmlpBwdIdeal.nD Cert.GmlpBwdIdeal.τ).loc Cert.GmlpBwdIdeal.main_arg1)) (m ((c.tc : Thread Cert.GmlpBwdIdeal.nD Cert.GmlpBwdIdeal.τ).loc Cert.GmlpBwdIdeal.main_arg2)) (m ((c.tc : Thread Cert.GmlpBwdIdeal.nD Cert.GmlpBwdIdeal.τ).loc Cert.GmlpBwdIdeal.main_arg3)) (m ((c.tc : Thread Cert.GmlpBwdIdeal.nD Cert.GmlpBwdIdeal.τ).loc Cert.GmlpBwdIdeal.main_arg4)) (m ((c.tc : Thread Cert.GmlpBwdIdeal.nD Cert.GmlpBwdIdeal.τ).loc Cert.GmlpBwdIdeal.main_arg5)) (m ((c.tc : Thread Cert.GmlpBwdIdeal.nD Cert.GmlpBwdIdeal.τ).loc Cert.GmlpBwdIdeal.main_arg6)) (m ((c.tc : Thread Cert.GmlpBwdIdeal.nD Cert.GmlpBwdIdeal.τ).loc Cert.GmlpBwdIdeal.main_arg7))) = (fun _ => 1#1)

def Pre_GmlpRefIdeal (m : (ℓ : Loc Cert.GmlpRefIdeal.nD Cert.GmlpRefIdeal.τ Cert.GmlpRefIdeal.sig) → Buf (Elt Ideal) ℓ) : Prop :=
  True

def Pre_GmlpRefIdeal_finite_gmlp [hPre_finite_gmlp : Cert.Pre_finite_gmlp.Facts] (m : (ℓ : Loc Cert.GmlpRefIdeal.nD Cert.GmlpRefIdeal.τ Cert.GmlpRefIdeal.sig) → Buf (Elt Ideal) ℓ) : Prop :=
  ∀ c : Dev Cert.GmlpRefIdeal.nD,
    (Cert.Pre_finite_gmlp.fn (F := Ideal) (m ((c.tc : Thread Cert.GmlpRefIdeal.nD Cert.GmlpRefIdeal.τ).loc Cert.GmlpRefIdeal.main_arg0)) (m ((c.tc : Thread Cert.GmlpRefIdeal.nD Cert.GmlpRefIdeal.τ).loc Cert.GmlpRefIdeal.main_arg1)) (m ((c.tc : Thread Cert.GmlpRefIdeal.nD Cert.GmlpRefIdeal.τ).loc Cert.GmlpRefIdeal.main_arg2)) (m ((c.tc : Thread Cert.GmlpRefIdeal.nD Cert.GmlpRefIdeal.τ).loc Cert.GmlpRefIdeal.main_arg3)) (m ((c.tc : Thread Cert.GmlpRefIdeal.nD Cert.GmlpRefIdeal.τ).loc Cert.GmlpRefIdeal.main_arg4)) (m ((c.tc : Thread Cert.GmlpRefIdeal.nD Cert.GmlpRefIdeal.τ).loc Cert.GmlpRefIdeal.main_arg5)) (m ((c.tc : Thread Cert.GmlpRefIdeal.nD Cert.GmlpRefIdeal.τ).loc Cert.GmlpRefIdeal.main_arg6)) (m ((c.tc : Thread Cert.GmlpRefIdeal.nD Cert.GmlpRefIdeal.τ).loc Cert.GmlpRefIdeal.main_arg7))) = (fun _ => 1#1)

def Pre_FfnFwd (m : (ℓ : Loc Cert.FfnFwd.nD Cert.FfnFwd.τ Cert.FfnFwd.sig) → Buf (Elt Bits) ℓ) : Prop :=
  True

def Pre_FfnFwdIdeal (m : (ℓ : Loc Cert.FfnFwdIdeal.nD Cert.FfnFwdIdeal.τ Cert.FfnFwdIdeal.sig) → Buf (Elt Ideal) ℓ) : Prop :=
  True

def Pre_FfnFwdIdeal_finite_ffn_fwd [hPre_finite_ffn_fwd : Cert.Pre_finite_ffn_fwd.Facts] (m : (ℓ : Loc Cert.FfnFwdIdeal.nD Cert.FfnFwdIdeal.τ Cert.FfnFwdIdeal.sig) → Buf (Elt Ideal) ℓ) : Prop :=
  ∀ c : Dev Cert.FfnFwdIdeal.nD,
    (Cert.Pre_finite_ffn_fwd.fn (F := Ideal) (m ((c.tc : Thread Cert.FfnFwdIdeal.nD Cert.FfnFwdIdeal.τ).loc Cert.FfnFwdIdeal.main_arg0)) (m ((c.tc : Thread Cert.FfnFwdIdeal.nD Cert.FfnFwdIdeal.τ).loc Cert.FfnFwdIdeal.main_arg1)) (m ((c.tc : Thread Cert.FfnFwdIdeal.nD Cert.FfnFwdIdeal.τ).loc Cert.FfnFwdIdeal.main_arg2)) (m ((c.tc : Thread Cert.FfnFwdIdeal.nD Cert.FfnFwdIdeal.τ).loc Cert.FfnFwdIdeal.main_arg3)) (m ((c.tc : Thread Cert.FfnFwdIdeal.nD Cert.FfnFwdIdeal.τ).loc Cert.FfnFwdIdeal.main_arg4)) (m ((c.tc : Thread Cert.FfnFwdIdeal.nD Cert.FfnFwdIdeal.τ).loc Cert.FfnFwdIdeal.main_arg5)) (m ((c.tc : Thread Cert.FfnFwdIdeal.nD Cert.FfnFwdIdeal.τ).loc Cert.FfnFwdIdeal.main_arg6))) = (fun _ => 1#1)

def Pre_FfnFwdRefIdeal (m : (ℓ : Loc Cert.FfnFwdRefIdeal.nD Cert.FfnFwdRefIdeal.τ Cert.FfnFwdRefIdeal.sig) → Buf (Elt Ideal) ℓ) : Prop :=
  True

def Pre_FfnFwdRefIdeal_finite_ffn_fwd [hPre_finite_ffn_fwd : Cert.Pre_finite_ffn_fwd.Facts] (m : (ℓ : Loc Cert.FfnFwdRefIdeal.nD Cert.FfnFwdRefIdeal.τ Cert.FfnFwdRefIdeal.sig) → Buf (Elt Ideal) ℓ) : Prop :=
  ∀ c : Dev Cert.FfnFwdRefIdeal.nD,
    (Cert.Pre_finite_ffn_fwd.fn (F := Ideal) (m ((c.tc : Thread Cert.FfnFwdRefIdeal.nD Cert.FfnFwdRefIdeal.τ).loc Cert.FfnFwdRefIdeal.main_arg0)) (m ((c.tc : Thread Cert.FfnFwdRefIdeal.nD Cert.FfnFwdRefIdeal.τ).loc Cert.FfnFwdRefIdeal.main_arg1)) (m ((c.tc : Thread Cert.FfnFwdRefIdeal.nD Cert.FfnFwdRefIdeal.τ).loc Cert.FfnFwdRefIdeal.main_arg2)) (m ((c.tc : Thread Cert.FfnFwdRefIdeal.nD Cert.FfnFwdRefIdeal.τ).loc Cert.FfnFwdRefIdeal.main_arg3)) (m ((c.tc : Thread Cert.FfnFwdRefIdeal.nD Cert.FfnFwdRefIdeal.τ).loc Cert.FfnFwdRefIdeal.main_arg4)) (m ((c.tc : Thread Cert.FfnFwdRefIdeal.nD Cert.FfnFwdRefIdeal.τ).loc Cert.FfnFwdRefIdeal.main_arg5)) (m ((c.tc : Thread Cert.FfnFwdRefIdeal.nD Cert.FfnFwdRefIdeal.τ).loc Cert.FfnFwdRefIdeal.main_arg6))) = (fun _ => 1#1)

def Pre_GmlpFwd (m : (ℓ : Loc Cert.GmlpFwd.nD Cert.GmlpFwd.τ Cert.GmlpFwd.sig) → Buf (Elt Bits) ℓ) : Prop :=
  True

def Pre_GmlpFwdIdeal (m : (ℓ : Loc Cert.GmlpFwdIdeal.nD Cert.GmlpFwdIdeal.τ Cert.GmlpFwdIdeal.sig) → Buf (Elt Ideal) ℓ) : Prop :=
  True

def Pre_GmlpFwdIdeal_finite_gmlp_fwd [hPre_finite_gmlp_fwd : Cert.Pre_finite_gmlp_fwd.Facts] (m : (ℓ : Loc Cert.GmlpFwdIdeal.nD Cert.GmlpFwdIdeal.τ Cert.GmlpFwdIdeal.sig) → Buf (Elt Ideal) ℓ) : Prop :=
  ∀ c : Dev Cert.GmlpFwdIdeal.nD,
    (Cert.Pre_finite_gmlp_fwd.fn (F := Ideal) (m ((c.tc : Thread Cert.GmlpFwdIdeal.nD Cert.GmlpFwdIdeal.τ).loc Cert.GmlpFwdIdeal.main_arg0)) (m ((c.tc : Thread Cert.GmlpFwdIdeal.nD Cert.GmlpFwdIdeal.τ).loc Cert.GmlpFwdIdeal.main_arg1)) (m ((c.tc : Thread Cert.GmlpFwdIdeal.nD Cert.GmlpFwdIdeal.τ).loc Cert.GmlpFwdIdeal.main_arg2)) (m ((c.tc : Thread Cert.GmlpFwdIdeal.nD Cert.GmlpFwdIdeal.τ).loc Cert.GmlpFwdIdeal.main_arg3)) (m ((c.tc : Thread Cert.GmlpFwdIdeal.nD Cert.GmlpFwdIdeal.τ).loc Cert.GmlpFwdIdeal.main_arg4)) (m ((c.tc : Thread Cert.GmlpFwdIdeal.nD Cert.GmlpFwdIdeal.τ).loc Cert.GmlpFwdIdeal.main_arg5))) = (fun _ => 1#1)

def Pre_GmlpFwdRefIdeal (m : (ℓ : Loc Cert.GmlpFwdRefIdeal.nD Cert.GmlpFwdRefIdeal.τ Cert.GmlpFwdRefIdeal.sig) → Buf (Elt Ideal) ℓ) : Prop :=
  True

def Pre_GmlpFwdRefIdeal_finite_gmlp_fwd [hPre_finite_gmlp_fwd : Cert.Pre_finite_gmlp_fwd.Facts] (m : (ℓ : Loc Cert.GmlpFwdRefIdeal.nD Cert.GmlpFwdRefIdeal.τ Cert.GmlpFwdRefIdeal.sig) → Buf (Elt Ideal) ℓ) : Prop :=
  ∀ c : Dev Cert.GmlpFwdRefIdeal.nD,
    (Cert.Pre_finite_gmlp_fwd.fn (F := Ideal) (m ((c.tc : Thread Cert.GmlpFwdRefIdeal.nD Cert.GmlpFwdRefIdeal.τ).loc Cert.GmlpFwdRefIdeal.main_arg0)) (m ((c.tc : Thread Cert.GmlpFwdRefIdeal.nD Cert.GmlpFwdRefIdeal.τ).loc Cert.GmlpFwdRefIdeal.main_arg1)) (m ((c.tc : Thread Cert.GmlpFwdRefIdeal.nD Cert.GmlpFwdRefIdeal.τ).loc Cert.GmlpFwdRefIdeal.main_arg2)) (m ((c.tc : Thread Cert.GmlpFwdRefIdeal.nD Cert.GmlpFwdRefIdeal.τ).loc Cert.GmlpFwdRefIdeal.main_arg3)) (m ((c.tc : Thread Cert.GmlpFwdRefIdeal.nD Cert.GmlpFwdRefIdeal.τ).loc Cert.GmlpFwdRefIdeal.main_arg4)) (m ((c.tc : Thread Cert.GmlpFwdRefIdeal.nD Cert.GmlpFwdRefIdeal.τ).loc Cert.GmlpFwdRefIdeal.main_arg5))) = (fun _ => 1#1)

def quiescent_LossBwd [hLossBwd : Cert.LossBwd.Facts] : Prop :=
  ∀ (m : (ℓ : Loc Cert.LossBwd.nD Cert.LossBwd.τ Cert.LossBwd.sig) → Buf (Elt Bits) ℓ) (g : Dev Cert.LossBwd.nD → PrngReg), Pre_LossBwd m →
    θ_run (Cert.LossBwd.defs (F := Bits)) (onTc (τ := Cert.LossBwd.τ) (Cert.LossBwd.main (F := Bits))) ⟨m, fun _ => 0, g⟩ (fun r => (∀ c : Dev Cert.LossBwd.nD,
      r.2.mem ((c.tc : Thread Cert.LossBwd.nD Cert.LossBwd.τ).loc Cert.LossBwd.main_arg0) = m ((c.tc : Thread Cert.LossBwd.nD Cert.LossBwd.τ).loc Cert.LossBwd.main_arg0)
      ∧ r.2.mem ((c.tc : Thread Cert.LossBwd.nD Cert.LossBwd.τ).loc Cert.LossBwd.main_arg1) = m ((c.tc : Thread Cert.LossBwd.nD Cert.LossBwd.τ).loc Cert.LossBwd.main_arg1)
      ∧ r.2.mem ((c.tc : Thread Cert.LossBwd.nD Cert.LossBwd.τ).loc Cert.LossBwd.main_arg2) = m ((c.tc : Thread Cert.LossBwd.nD Cert.LossBwd.τ).loc Cert.LossBwd.main_arg2))
      ∧ r.2.sem = fun _ => 0)

def quiescent_LossBwdIdeal [hLossBwdIdeal : Cert.LossBwdIdeal.Facts] : Prop :=
  ∀ (m : (ℓ : Loc Cert.LossBwdIdeal.nD Cert.LossBwdIdeal.τ Cert.LossBwdIdeal.sig) → Buf (Elt Ideal) ℓ) (g : Dev Cert.LossBwdIdeal.nD → PrngReg), Pre_LossBwdIdeal m →
    θ_run (Cert.LossBwdIdeal.defs (F := Ideal)) (onTc (τ := Cert.LossBwdIdeal.τ) (Cert.LossBwdIdeal.main (F := Ideal))) ⟨m, fun _ => 0, g⟩ (fun r => (∀ c : Dev Cert.LossBwdIdeal.nD,
      r.2.mem ((c.tc : Thread Cert.LossBwdIdeal.nD Cert.LossBwdIdeal.τ).loc Cert.LossBwdIdeal.main_arg0) = m ((c.tc : Thread Cert.LossBwdIdeal.nD Cert.LossBwdIdeal.τ).loc Cert.LossBwdIdeal.main_arg0)
      ∧ r.2.mem ((c.tc : Thread Cert.LossBwdIdeal.nD Cert.LossBwdIdeal.τ).loc Cert.LossBwdIdeal.main_arg1) = m ((c.tc : Thread Cert.LossBwdIdeal.nD Cert.LossBwdIdeal.τ).loc Cert.LossBwdIdeal.main_arg1)
      ∧ r.2.mem ((c.tc : Thread Cert.LossBwdIdeal.nD Cert.LossBwdIdeal.τ).loc Cert.LossBwdIdeal.main_arg2) = m ((c.tc : Thread Cert.LossBwdIdeal.nD Cert.LossBwdIdeal.τ).loc Cert.LossBwdIdeal.main_arg2))
      ∧ r.2.sem = fun _ => 0)

def quiescent_LossBwdIdeal_pre_finite_final [hLossBwdIdeal : Cert.LossBwdIdeal.Facts] [hPre_finite_final : Cert.Pre_finite_final.Facts] : Prop :=
  ∀ (m : (ℓ : Loc Cert.LossBwdIdeal.nD Cert.LossBwdIdeal.τ Cert.LossBwdIdeal.sig) → Buf (Elt Ideal) ℓ) (g : Dev Cert.LossBwdIdeal.nD → PrngReg), Pre_LossBwdIdeal_finite_final m →
    θ_run (Cert.LossBwdIdeal.defs (F := Ideal)) (onTc (τ := Cert.LossBwdIdeal.τ) (Cert.LossBwdIdeal.main (F := Ideal))) ⟨m, fun _ => 0, g⟩ (fun r => (∀ c : Dev Cert.LossBwdIdeal.nD,
      r.2.mem ((c.tc : Thread Cert.LossBwdIdeal.nD Cert.LossBwdIdeal.τ).loc Cert.LossBwdIdeal.main_arg0) = m ((c.tc : Thread Cert.LossBwdIdeal.nD Cert.LossBwdIdeal.τ).loc Cert.LossBwdIdeal.main_arg0)
      ∧ r.2.mem ((c.tc : Thread Cert.LossBwdIdeal.nD Cert.LossBwdIdeal.τ).loc Cert.LossBwdIdeal.main_arg1) = m ((c.tc : Thread Cert.LossBwdIdeal.nD Cert.LossBwdIdeal.τ).loc Cert.LossBwdIdeal.main_arg1)
      ∧ r.2.mem ((c.tc : Thread Cert.LossBwdIdeal.nD Cert.LossBwdIdeal.τ).loc Cert.LossBwdIdeal.main_arg2) = m ((c.tc : Thread Cert.LossBwdIdeal.nD Cert.LossBwdIdeal.τ).loc Cert.LossBwdIdeal.main_arg2))
      ∧ r.2.sem = fun _ => 0)

def quiescent_LossRefIdeal [hLossRefIdeal : Cert.LossRefIdeal.Facts] : Prop :=
  ∀ (m : (ℓ : Loc Cert.LossRefIdeal.nD Cert.LossRefIdeal.τ Cert.LossRefIdeal.sig) → Buf (Elt Ideal) ℓ) (g : Dev Cert.LossRefIdeal.nD → PrngReg), Pre_LossRefIdeal m →
    θ_run (Cert.LossRefIdeal.defs (F := Ideal)) (onTc (τ := Cert.LossRefIdeal.τ) (Cert.LossRefIdeal.main (F := Ideal))) ⟨m, fun _ => 0, g⟩ (fun r => (∀ c : Dev Cert.LossRefIdeal.nD,
      r.2.mem ((c.tc : Thread Cert.LossRefIdeal.nD Cert.LossRefIdeal.τ).loc Cert.LossRefIdeal.main_arg0) = m ((c.tc : Thread Cert.LossRefIdeal.nD Cert.LossRefIdeal.τ).loc Cert.LossRefIdeal.main_arg0)
      ∧ r.2.mem ((c.tc : Thread Cert.LossRefIdeal.nD Cert.LossRefIdeal.τ).loc Cert.LossRefIdeal.main_arg1) = m ((c.tc : Thread Cert.LossRefIdeal.nD Cert.LossRefIdeal.τ).loc Cert.LossRefIdeal.main_arg1)
      ∧ r.2.mem ((c.tc : Thread Cert.LossRefIdeal.nD Cert.LossRefIdeal.τ).loc Cert.LossRefIdeal.main_arg2) = m ((c.tc : Thread Cert.LossRefIdeal.nD Cert.LossRefIdeal.τ).loc Cert.LossRefIdeal.main_arg2))
      ∧ r.2.sem = fun _ => 0)

def quiescent_LossRefIdeal_pre_finite_final [hLossRefIdeal : Cert.LossRefIdeal.Facts] [hPre_finite_final : Cert.Pre_finite_final.Facts] : Prop :=
  ∀ (m : (ℓ : Loc Cert.LossRefIdeal.nD Cert.LossRefIdeal.τ Cert.LossRefIdeal.sig) → Buf (Elt Ideal) ℓ) (g : Dev Cert.LossRefIdeal.nD → PrngReg), Pre_LossRefIdeal_finite_final m →
    θ_run (Cert.LossRefIdeal.defs (F := Ideal)) (onTc (τ := Cert.LossRefIdeal.τ) (Cert.LossRefIdeal.main (F := Ideal))) ⟨m, fun _ => 0, g⟩ (fun r => (∀ c : Dev Cert.LossRefIdeal.nD,
      r.2.mem ((c.tc : Thread Cert.LossRefIdeal.nD Cert.LossRefIdeal.τ).loc Cert.LossRefIdeal.main_arg0) = m ((c.tc : Thread Cert.LossRefIdeal.nD Cert.LossRefIdeal.τ).loc Cert.LossRefIdeal.main_arg0)
      ∧ r.2.mem ((c.tc : Thread Cert.LossRefIdeal.nD Cert.LossRefIdeal.τ).loc Cert.LossRefIdeal.main_arg1) = m ((c.tc : Thread Cert.LossRefIdeal.nD Cert.LossRefIdeal.τ).loc Cert.LossRefIdeal.main_arg1)
      ∧ r.2.mem ((c.tc : Thread Cert.LossRefIdeal.nD Cert.LossRefIdeal.τ).loc Cert.LossRefIdeal.main_arg2) = m ((c.tc : Thread Cert.LossRefIdeal.nD Cert.LossRefIdeal.τ).loc Cert.LossRefIdeal.main_arg2))
      ∧ r.2.sem = fun _ => 0)

def quiescent_FfnBwd [hFfnBwd : Cert.FfnBwd.Facts] : Prop :=
  ∀ (m : (ℓ : Loc Cert.FfnBwd.nD Cert.FfnBwd.τ Cert.FfnBwd.sig) → Buf (Elt Bits) ℓ) (g : Dev Cert.FfnBwd.nD → PrngReg), Pre_FfnBwd m →
    θ_run (Cert.FfnBwd.defs (F := Bits)) (onTc (τ := Cert.FfnBwd.τ) (Cert.FfnBwd.main (F := Bits))) ⟨m, fun _ => 0, g⟩ (fun r => (∀ c : Dev Cert.FfnBwd.nD,
      r.2.mem ((c.tc : Thread Cert.FfnBwd.nD Cert.FfnBwd.τ).loc Cert.FfnBwd.main_arg0) = m ((c.tc : Thread Cert.FfnBwd.nD Cert.FfnBwd.τ).loc Cert.FfnBwd.main_arg0)
      ∧ r.2.mem ((c.tc : Thread Cert.FfnBwd.nD Cert.FfnBwd.τ).loc Cert.FfnBwd.main_arg1) = m ((c.tc : Thread Cert.FfnBwd.nD Cert.FfnBwd.τ).loc Cert.FfnBwd.main_arg1)
      ∧ r.2.mem ((c.tc : Thread Cert.FfnBwd.nD Cert.FfnBwd.τ).loc Cert.FfnBwd.main_arg2) = m ((c.tc : Thread Cert.FfnBwd.nD Cert.FfnBwd.τ).loc Cert.FfnBwd.main_arg2)
      ∧ r.2.mem ((c.tc : Thread Cert.FfnBwd.nD Cert.FfnBwd.τ).loc Cert.FfnBwd.main_arg3) = m ((c.tc : Thread Cert.FfnBwd.nD Cert.FfnBwd.τ).loc Cert.FfnBwd.main_arg3)
      ∧ r.2.mem ((c.tc : Thread Cert.FfnBwd.nD Cert.FfnBwd.τ).loc Cert.FfnBwd.main_arg4) = m ((c.tc : Thread Cert.FfnBwd.nD Cert.FfnBwd.τ).loc Cert.FfnBwd.main_arg4)
      ∧ r.2.mem ((c.tc : Thread Cert.FfnBwd.nD Cert.FfnBwd.τ).loc Cert.FfnBwd.main_arg5) = m ((c.tc : Thread Cert.FfnBwd.nD Cert.FfnBwd.τ).loc Cert.FfnBwd.main_arg5)
      ∧ r.2.mem ((c.tc : Thread Cert.FfnBwd.nD Cert.FfnBwd.τ).loc Cert.FfnBwd.main_arg6) = m ((c.tc : Thread Cert.FfnBwd.nD Cert.FfnBwd.τ).loc Cert.FfnBwd.main_arg6)
      ∧ r.2.mem ((c.tc : Thread Cert.FfnBwd.nD Cert.FfnBwd.τ).loc Cert.FfnBwd.main_arg7) = m ((c.tc : Thread Cert.FfnBwd.nD Cert.FfnBwd.τ).loc Cert.FfnBwd.main_arg7))
      ∧ r.2.sem = fun _ => 0)

def quiescent_FfnBwdIdeal [hFfnBwdIdeal : Cert.FfnBwdIdeal.Facts] : Prop :=
  ∀ (m : (ℓ : Loc Cert.FfnBwdIdeal.nD Cert.FfnBwdIdeal.τ Cert.FfnBwdIdeal.sig) → Buf (Elt Ideal) ℓ) (g : Dev Cert.FfnBwdIdeal.nD → PrngReg), Pre_FfnBwdIdeal m →
    θ_run (Cert.FfnBwdIdeal.defs (F := Ideal)) (onTc (τ := Cert.FfnBwdIdeal.τ) (Cert.FfnBwdIdeal.main (F := Ideal))) ⟨m, fun _ => 0, g⟩ (fun r => (∀ c : Dev Cert.FfnBwdIdeal.nD,
      r.2.mem ((c.tc : Thread Cert.FfnBwdIdeal.nD Cert.FfnBwdIdeal.τ).loc Cert.FfnBwdIdeal.main_arg0) = m ((c.tc : Thread Cert.FfnBwdIdeal.nD Cert.FfnBwdIdeal.τ).loc Cert.FfnBwdIdeal.main_arg0)
      ∧ r.2.mem ((c.tc : Thread Cert.FfnBwdIdeal.nD Cert.FfnBwdIdeal.τ).loc Cert.FfnBwdIdeal.main_arg1) = m ((c.tc : Thread Cert.FfnBwdIdeal.nD Cert.FfnBwdIdeal.τ).loc Cert.FfnBwdIdeal.main_arg1)
      ∧ r.2.mem ((c.tc : Thread Cert.FfnBwdIdeal.nD Cert.FfnBwdIdeal.τ).loc Cert.FfnBwdIdeal.main_arg2) = m ((c.tc : Thread Cert.FfnBwdIdeal.nD Cert.FfnBwdIdeal.τ).loc Cert.FfnBwdIdeal.main_arg2)
      ∧ r.2.mem ((c.tc : Thread Cert.FfnBwdIdeal.nD Cert.FfnBwdIdeal.τ).loc Cert.FfnBwdIdeal.main_arg3) = m ((c.tc : Thread Cert.FfnBwdIdeal.nD Cert.FfnBwdIdeal.τ).loc Cert.FfnBwdIdeal.main_arg3)
      ∧ r.2.mem ((c.tc : Thread Cert.FfnBwdIdeal.nD Cert.FfnBwdIdeal.τ).loc Cert.FfnBwdIdeal.main_arg4) = m ((c.tc : Thread Cert.FfnBwdIdeal.nD Cert.FfnBwdIdeal.τ).loc Cert.FfnBwdIdeal.main_arg4)
      ∧ r.2.mem ((c.tc : Thread Cert.FfnBwdIdeal.nD Cert.FfnBwdIdeal.τ).loc Cert.FfnBwdIdeal.main_arg5) = m ((c.tc : Thread Cert.FfnBwdIdeal.nD Cert.FfnBwdIdeal.τ).loc Cert.FfnBwdIdeal.main_arg5)
      ∧ r.2.mem ((c.tc : Thread Cert.FfnBwdIdeal.nD Cert.FfnBwdIdeal.τ).loc Cert.FfnBwdIdeal.main_arg6) = m ((c.tc : Thread Cert.FfnBwdIdeal.nD Cert.FfnBwdIdeal.τ).loc Cert.FfnBwdIdeal.main_arg6)
      ∧ r.2.mem ((c.tc : Thread Cert.FfnBwdIdeal.nD Cert.FfnBwdIdeal.τ).loc Cert.FfnBwdIdeal.main_arg7) = m ((c.tc : Thread Cert.FfnBwdIdeal.nD Cert.FfnBwdIdeal.τ).loc Cert.FfnBwdIdeal.main_arg7))
      ∧ r.2.sem = fun _ => 0)

def quiescent_FfnBwdIdeal_pre_finite_ffn [hFfnBwdIdeal : Cert.FfnBwdIdeal.Facts] [hPre_finite_ffn : Cert.Pre_finite_ffn.Facts] : Prop :=
  ∀ (m : (ℓ : Loc Cert.FfnBwdIdeal.nD Cert.FfnBwdIdeal.τ Cert.FfnBwdIdeal.sig) → Buf (Elt Ideal) ℓ) (g : Dev Cert.FfnBwdIdeal.nD → PrngReg), Pre_FfnBwdIdeal_finite_ffn m →
    θ_run (Cert.FfnBwdIdeal.defs (F := Ideal)) (onTc (τ := Cert.FfnBwdIdeal.τ) (Cert.FfnBwdIdeal.main (F := Ideal))) ⟨m, fun _ => 0, g⟩ (fun r => (∀ c : Dev Cert.FfnBwdIdeal.nD,
      r.2.mem ((c.tc : Thread Cert.FfnBwdIdeal.nD Cert.FfnBwdIdeal.τ).loc Cert.FfnBwdIdeal.main_arg0) = m ((c.tc : Thread Cert.FfnBwdIdeal.nD Cert.FfnBwdIdeal.τ).loc Cert.FfnBwdIdeal.main_arg0)
      ∧ r.2.mem ((c.tc : Thread Cert.FfnBwdIdeal.nD Cert.FfnBwdIdeal.τ).loc Cert.FfnBwdIdeal.main_arg1) = m ((c.tc : Thread Cert.FfnBwdIdeal.nD Cert.FfnBwdIdeal.τ).loc Cert.FfnBwdIdeal.main_arg1)
      ∧ r.2.mem ((c.tc : Thread Cert.FfnBwdIdeal.nD Cert.FfnBwdIdeal.τ).loc Cert.FfnBwdIdeal.main_arg2) = m ((c.tc : Thread Cert.FfnBwdIdeal.nD Cert.FfnBwdIdeal.τ).loc Cert.FfnBwdIdeal.main_arg2)
      ∧ r.2.mem ((c.tc : Thread Cert.FfnBwdIdeal.nD Cert.FfnBwdIdeal.τ).loc Cert.FfnBwdIdeal.main_arg3) = m ((c.tc : Thread Cert.FfnBwdIdeal.nD Cert.FfnBwdIdeal.τ).loc Cert.FfnBwdIdeal.main_arg3)
      ∧ r.2.mem ((c.tc : Thread Cert.FfnBwdIdeal.nD Cert.FfnBwdIdeal.τ).loc Cert.FfnBwdIdeal.main_arg4) = m ((c.tc : Thread Cert.FfnBwdIdeal.nD Cert.FfnBwdIdeal.τ).loc Cert.FfnBwdIdeal.main_arg4)
      ∧ r.2.mem ((c.tc : Thread Cert.FfnBwdIdeal.nD Cert.FfnBwdIdeal.τ).loc Cert.FfnBwdIdeal.main_arg5) = m ((c.tc : Thread Cert.FfnBwdIdeal.nD Cert.FfnBwdIdeal.τ).loc Cert.FfnBwdIdeal.main_arg5)
      ∧ r.2.mem ((c.tc : Thread Cert.FfnBwdIdeal.nD Cert.FfnBwdIdeal.τ).loc Cert.FfnBwdIdeal.main_arg6) = m ((c.tc : Thread Cert.FfnBwdIdeal.nD Cert.FfnBwdIdeal.τ).loc Cert.FfnBwdIdeal.main_arg6)
      ∧ r.2.mem ((c.tc : Thread Cert.FfnBwdIdeal.nD Cert.FfnBwdIdeal.τ).loc Cert.FfnBwdIdeal.main_arg7) = m ((c.tc : Thread Cert.FfnBwdIdeal.nD Cert.FfnBwdIdeal.τ).loc Cert.FfnBwdIdeal.main_arg7))
      ∧ r.2.sem = fun _ => 0)

def quiescent_FfnRefIdeal [hFfnRefIdeal : Cert.FfnRefIdeal.Facts] : Prop :=
  ∀ (m : (ℓ : Loc Cert.FfnRefIdeal.nD Cert.FfnRefIdeal.τ Cert.FfnRefIdeal.sig) → Buf (Elt Ideal) ℓ) (g : Dev Cert.FfnRefIdeal.nD → PrngReg), Pre_FfnRefIdeal m →
    θ_run (Cert.FfnRefIdeal.defs (F := Ideal)) (onTc (τ := Cert.FfnRefIdeal.τ) (Cert.FfnRefIdeal.main (F := Ideal))) ⟨m, fun _ => 0, g⟩ (fun r => (∀ c : Dev Cert.FfnRefIdeal.nD,
      r.2.mem ((c.tc : Thread Cert.FfnRefIdeal.nD Cert.FfnRefIdeal.τ).loc Cert.FfnRefIdeal.main_arg0) = m ((c.tc : Thread Cert.FfnRefIdeal.nD Cert.FfnRefIdeal.τ).loc Cert.FfnRefIdeal.main_arg0)
      ∧ r.2.mem ((c.tc : Thread Cert.FfnRefIdeal.nD Cert.FfnRefIdeal.τ).loc Cert.FfnRefIdeal.main_arg1) = m ((c.tc : Thread Cert.FfnRefIdeal.nD Cert.FfnRefIdeal.τ).loc Cert.FfnRefIdeal.main_arg1)
      ∧ r.2.mem ((c.tc : Thread Cert.FfnRefIdeal.nD Cert.FfnRefIdeal.τ).loc Cert.FfnRefIdeal.main_arg2) = m ((c.tc : Thread Cert.FfnRefIdeal.nD Cert.FfnRefIdeal.τ).loc Cert.FfnRefIdeal.main_arg2)
      ∧ r.2.mem ((c.tc : Thread Cert.FfnRefIdeal.nD Cert.FfnRefIdeal.τ).loc Cert.FfnRefIdeal.main_arg3) = m ((c.tc : Thread Cert.FfnRefIdeal.nD Cert.FfnRefIdeal.τ).loc Cert.FfnRefIdeal.main_arg3)
      ∧ r.2.mem ((c.tc : Thread Cert.FfnRefIdeal.nD Cert.FfnRefIdeal.τ).loc Cert.FfnRefIdeal.main_arg4) = m ((c.tc : Thread Cert.FfnRefIdeal.nD Cert.FfnRefIdeal.τ).loc Cert.FfnRefIdeal.main_arg4)
      ∧ r.2.mem ((c.tc : Thread Cert.FfnRefIdeal.nD Cert.FfnRefIdeal.τ).loc Cert.FfnRefIdeal.main_arg5) = m ((c.tc : Thread Cert.FfnRefIdeal.nD Cert.FfnRefIdeal.τ).loc Cert.FfnRefIdeal.main_arg5)
      ∧ r.2.mem ((c.tc : Thread Cert.FfnRefIdeal.nD Cert.FfnRefIdeal.τ).loc Cert.FfnRefIdeal.main_arg6) = m ((c.tc : Thread Cert.FfnRefIdeal.nD Cert.FfnRefIdeal.τ).loc Cert.FfnRefIdeal.main_arg6)
      ∧ r.2.mem ((c.tc : Thread Cert.FfnRefIdeal.nD Cert.FfnRefIdeal.τ).loc Cert.FfnRefIdeal.main_arg7) = m ((c.tc : Thread Cert.FfnRefIdeal.nD Cert.FfnRefIdeal.τ).loc Cert.FfnRefIdeal.main_arg7))
      ∧ r.2.sem = fun _ => 0)

def quiescent_FfnRefIdeal_pre_finite_ffn [hFfnRefIdeal : Cert.FfnRefIdeal.Facts] [hPre_finite_ffn : Cert.Pre_finite_ffn.Facts] : Prop :=
  ∀ (m : (ℓ : Loc Cert.FfnRefIdeal.nD Cert.FfnRefIdeal.τ Cert.FfnRefIdeal.sig) → Buf (Elt Ideal) ℓ) (g : Dev Cert.FfnRefIdeal.nD → PrngReg), Pre_FfnRefIdeal_finite_ffn m →
    θ_run (Cert.FfnRefIdeal.defs (F := Ideal)) (onTc (τ := Cert.FfnRefIdeal.τ) (Cert.FfnRefIdeal.main (F := Ideal))) ⟨m, fun _ => 0, g⟩ (fun r => (∀ c : Dev Cert.FfnRefIdeal.nD,
      r.2.mem ((c.tc : Thread Cert.FfnRefIdeal.nD Cert.FfnRefIdeal.τ).loc Cert.FfnRefIdeal.main_arg0) = m ((c.tc : Thread Cert.FfnRefIdeal.nD Cert.FfnRefIdeal.τ).loc Cert.FfnRefIdeal.main_arg0)
      ∧ r.2.mem ((c.tc : Thread Cert.FfnRefIdeal.nD Cert.FfnRefIdeal.τ).loc Cert.FfnRefIdeal.main_arg1) = m ((c.tc : Thread Cert.FfnRefIdeal.nD Cert.FfnRefIdeal.τ).loc Cert.FfnRefIdeal.main_arg1)
      ∧ r.2.mem ((c.tc : Thread Cert.FfnRefIdeal.nD Cert.FfnRefIdeal.τ).loc Cert.FfnRefIdeal.main_arg2) = m ((c.tc : Thread Cert.FfnRefIdeal.nD Cert.FfnRefIdeal.τ).loc Cert.FfnRefIdeal.main_arg2)
      ∧ r.2.mem ((c.tc : Thread Cert.FfnRefIdeal.nD Cert.FfnRefIdeal.τ).loc Cert.FfnRefIdeal.main_arg3) = m ((c.tc : Thread Cert.FfnRefIdeal.nD Cert.FfnRefIdeal.τ).loc Cert.FfnRefIdeal.main_arg3)
      ∧ r.2.mem ((c.tc : Thread Cert.FfnRefIdeal.nD Cert.FfnRefIdeal.τ).loc Cert.FfnRefIdeal.main_arg4) = m ((c.tc : Thread Cert.FfnRefIdeal.nD Cert.FfnRefIdeal.τ).loc Cert.FfnRefIdeal.main_arg4)
      ∧ r.2.mem ((c.tc : Thread Cert.FfnRefIdeal.nD Cert.FfnRefIdeal.τ).loc Cert.FfnRefIdeal.main_arg5) = m ((c.tc : Thread Cert.FfnRefIdeal.nD Cert.FfnRefIdeal.τ).loc Cert.FfnRefIdeal.main_arg5)
      ∧ r.2.mem ((c.tc : Thread Cert.FfnRefIdeal.nD Cert.FfnRefIdeal.τ).loc Cert.FfnRefIdeal.main_arg6) = m ((c.tc : Thread Cert.FfnRefIdeal.nD Cert.FfnRefIdeal.τ).loc Cert.FfnRefIdeal.main_arg6)
      ∧ r.2.mem ((c.tc : Thread Cert.FfnRefIdeal.nD Cert.FfnRefIdeal.τ).loc Cert.FfnRefIdeal.main_arg7) = m ((c.tc : Thread Cert.FfnRefIdeal.nD Cert.FfnRefIdeal.τ).loc Cert.FfnRefIdeal.main_arg7))
      ∧ r.2.sem = fun _ => 0)

def quiescent_ConvBwd [hConvBwd : Cert.ConvBwd.Facts] : Prop :=
  ∀ (m : (ℓ : Loc Cert.ConvBwd.nD Cert.ConvBwd.τ Cert.ConvBwd.sig) → Buf (Elt Bits) ℓ) (g : Dev Cert.ConvBwd.nD → PrngReg), Pre_ConvBwd m →
    θ_run (Cert.ConvBwd.defs (F := Bits)) (onTc (τ := Cert.ConvBwd.τ) (Cert.ConvBwd.main (F := Bits))) ⟨m, fun _ => 0, g⟩ (fun r => (∀ c : Dev Cert.ConvBwd.nD,
      r.2.mem ((c.tc : Thread Cert.ConvBwd.nD Cert.ConvBwd.τ).loc Cert.ConvBwd.main_arg0) = m ((c.tc : Thread Cert.ConvBwd.nD Cert.ConvBwd.τ).loc Cert.ConvBwd.main_arg0)
      ∧ r.2.mem ((c.tc : Thread Cert.ConvBwd.nD Cert.ConvBwd.τ).loc Cert.ConvBwd.main_arg1) = m ((c.tc : Thread Cert.ConvBwd.nD Cert.ConvBwd.τ).loc Cert.ConvBwd.main_arg1)
      ∧ r.2.mem ((c.tc : Thread Cert.ConvBwd.nD Cert.ConvBwd.τ).loc Cert.ConvBwd.main_arg2) = m ((c.tc : Thread Cert.ConvBwd.nD Cert.ConvBwd.τ).loc Cert.ConvBwd.main_arg2)
      ∧ r.2.mem ((c.tc : Thread Cert.ConvBwd.nD Cert.ConvBwd.τ).loc Cert.ConvBwd.main_arg3) = m ((c.tc : Thread Cert.ConvBwd.nD Cert.ConvBwd.τ).loc Cert.ConvBwd.main_arg3)
      ∧ r.2.mem ((c.tc : Thread Cert.ConvBwd.nD Cert.ConvBwd.τ).loc Cert.ConvBwd.main_arg4) = m ((c.tc : Thread Cert.ConvBwd.nD Cert.ConvBwd.τ).loc Cert.ConvBwd.main_arg4)
      ∧ r.2.mem ((c.tc : Thread Cert.ConvBwd.nD Cert.ConvBwd.τ).loc Cert.ConvBwd.main_arg5) = m ((c.tc : Thread Cert.ConvBwd.nD Cert.ConvBwd.τ).loc Cert.ConvBwd.main_arg5))
      ∧ r.2.sem = fun _ => 0)

def quiescent_ConvBwdIdeal [hConvBwdIdeal : Cert.ConvBwdIdeal.Facts] : Prop :=
  ∀ (m : (ℓ : Loc Cert.ConvBwdIdeal.nD Cert.ConvBwdIdeal.τ Cert.ConvBwdIdeal.sig) → Buf (Elt Ideal) ℓ) (g : Dev Cert.ConvBwdIdeal.nD → PrngReg), Pre_ConvBwdIdeal m →
    θ_run (Cert.ConvBwdIdeal.defs (F := Ideal)) (onTc (τ := Cert.ConvBwdIdeal.τ) (Cert.ConvBwdIdeal.main (F := Ideal))) ⟨m, fun _ => 0, g⟩ (fun r => (∀ c : Dev Cert.ConvBwdIdeal.nD,
      r.2.mem ((c.tc : Thread Cert.ConvBwdIdeal.nD Cert.ConvBwdIdeal.τ).loc Cert.ConvBwdIdeal.main_arg0) = m ((c.tc : Thread Cert.ConvBwdIdeal.nD Cert.ConvBwdIdeal.τ).loc Cert.ConvBwdIdeal.main_arg0)
      ∧ r.2.mem ((c.tc : Thread Cert.ConvBwdIdeal.nD Cert.ConvBwdIdeal.τ).loc Cert.ConvBwdIdeal.main_arg1) = m ((c.tc : Thread Cert.ConvBwdIdeal.nD Cert.ConvBwdIdeal.τ).loc Cert.ConvBwdIdeal.main_arg1)
      ∧ r.2.mem ((c.tc : Thread Cert.ConvBwdIdeal.nD Cert.ConvBwdIdeal.τ).loc Cert.ConvBwdIdeal.main_arg2) = m ((c.tc : Thread Cert.ConvBwdIdeal.nD Cert.ConvBwdIdeal.τ).loc Cert.ConvBwdIdeal.main_arg2)
      ∧ r.2.mem ((c.tc : Thread Cert.ConvBwdIdeal.nD Cert.ConvBwdIdeal.τ).loc Cert.ConvBwdIdeal.main_arg3) = m ((c.tc : Thread Cert.ConvBwdIdeal.nD Cert.ConvBwdIdeal.τ).loc Cert.ConvBwdIdeal.main_arg3)
      ∧ r.2.mem ((c.tc : Thread Cert.ConvBwdIdeal.nD Cert.ConvBwdIdeal.τ).loc Cert.ConvBwdIdeal.main_arg4) = m ((c.tc : Thread Cert.ConvBwdIdeal.nD Cert.ConvBwdIdeal.τ).loc Cert.ConvBwdIdeal.main_arg4)
      ∧ r.2.mem ((c.tc : Thread Cert.ConvBwdIdeal.nD Cert.ConvBwdIdeal.τ).loc Cert.ConvBwdIdeal.main_arg5) = m ((c.tc : Thread Cert.ConvBwdIdeal.nD Cert.ConvBwdIdeal.τ).loc Cert.ConvBwdIdeal.main_arg5))
      ∧ r.2.sem = fun _ => 0)

def quiescent_ConvBwdIdeal_pre_finite_conv [hConvBwdIdeal : Cert.ConvBwdIdeal.Facts] [hPre_finite_conv : Cert.Pre_finite_conv.Facts] : Prop :=
  ∀ (m : (ℓ : Loc Cert.ConvBwdIdeal.nD Cert.ConvBwdIdeal.τ Cert.ConvBwdIdeal.sig) → Buf (Elt Ideal) ℓ) (g : Dev Cert.ConvBwdIdeal.nD → PrngReg), Pre_ConvBwdIdeal_finite_conv m →
    θ_run (Cert.ConvBwdIdeal.defs (F := Ideal)) (onTc (τ := Cert.ConvBwdIdeal.τ) (Cert.ConvBwdIdeal.main (F := Ideal))) ⟨m, fun _ => 0, g⟩ (fun r => (∀ c : Dev Cert.ConvBwdIdeal.nD,
      r.2.mem ((c.tc : Thread Cert.ConvBwdIdeal.nD Cert.ConvBwdIdeal.τ).loc Cert.ConvBwdIdeal.main_arg0) = m ((c.tc : Thread Cert.ConvBwdIdeal.nD Cert.ConvBwdIdeal.τ).loc Cert.ConvBwdIdeal.main_arg0)
      ∧ r.2.mem ((c.tc : Thread Cert.ConvBwdIdeal.nD Cert.ConvBwdIdeal.τ).loc Cert.ConvBwdIdeal.main_arg1) = m ((c.tc : Thread Cert.ConvBwdIdeal.nD Cert.ConvBwdIdeal.τ).loc Cert.ConvBwdIdeal.main_arg1)
      ∧ r.2.mem ((c.tc : Thread Cert.ConvBwdIdeal.nD Cert.ConvBwdIdeal.τ).loc Cert.ConvBwdIdeal.main_arg2) = m ((c.tc : Thread Cert.ConvBwdIdeal.nD Cert.ConvBwdIdeal.τ).loc Cert.ConvBwdIdeal.main_arg2)
      ∧ r.2.mem ((c.tc : Thread Cert.ConvBwdIdeal.nD Cert.ConvBwdIdeal.τ).loc Cert.ConvBwdIdeal.main_arg3) = m ((c.tc : Thread Cert.ConvBwdIdeal.nD Cert.ConvBwdIdeal.τ).loc Cert.ConvBwdIdeal.main_arg3)
      ∧ r.2.mem ((c.tc : Thread Cert.ConvBwdIdeal.nD Cert.ConvBwdIdeal.τ).loc Cert.ConvBwdIdeal.main_arg4) = m ((c.tc : Thread Cert.ConvBwdIdeal.nD Cert.ConvBwdIdeal.τ).loc Cert.ConvBwdIdeal.main_arg4)
      ∧ r.2.mem ((c.tc : Thread Cert.ConvBwdIdeal.nD Cert.ConvBwdIdeal.τ).loc Cert.ConvBwdIdeal.main_arg5) = m ((c.tc : Thread Cert.ConvBwdIdeal.nD Cert.ConvBwdIdeal.τ).loc Cert.ConvBwdIdeal.main_arg5))
      ∧ r.2.sem = fun _ => 0)

def quiescent_ConvRefIdeal [hConvRefIdeal : Cert.ConvRefIdeal.Facts] : Prop :=
  ∀ (m : (ℓ : Loc Cert.ConvRefIdeal.nD Cert.ConvRefIdeal.τ Cert.ConvRefIdeal.sig) → Buf (Elt Ideal) ℓ) (g : Dev Cert.ConvRefIdeal.nD → PrngReg), Pre_ConvRefIdeal m →
    θ_run (Cert.ConvRefIdeal.defs (F := Ideal)) (onTc (τ := Cert.ConvRefIdeal.τ) (Cert.ConvRefIdeal.main (F := Ideal))) ⟨m, fun _ => 0, g⟩ (fun r => (∀ c : Dev Cert.ConvRefIdeal.nD,
      r.2.mem ((c.tc : Thread Cert.ConvRefIdeal.nD Cert.ConvRefIdeal.τ).loc Cert.ConvRefIdeal.main_arg0) = m ((c.tc : Thread Cert.ConvRefIdeal.nD Cert.ConvRefIdeal.τ).loc Cert.ConvRefIdeal.main_arg0)
      ∧ r.2.mem ((c.tc : Thread Cert.ConvRefIdeal.nD Cert.ConvRefIdeal.τ).loc Cert.ConvRefIdeal.main_arg1) = m ((c.tc : Thread Cert.ConvRefIdeal.nD Cert.ConvRefIdeal.τ).loc Cert.ConvRefIdeal.main_arg1)
      ∧ r.2.mem ((c.tc : Thread Cert.ConvRefIdeal.nD Cert.ConvRefIdeal.τ).loc Cert.ConvRefIdeal.main_arg2) = m ((c.tc : Thread Cert.ConvRefIdeal.nD Cert.ConvRefIdeal.τ).loc Cert.ConvRefIdeal.main_arg2)
      ∧ r.2.mem ((c.tc : Thread Cert.ConvRefIdeal.nD Cert.ConvRefIdeal.τ).loc Cert.ConvRefIdeal.main_arg3) = m ((c.tc : Thread Cert.ConvRefIdeal.nD Cert.ConvRefIdeal.τ).loc Cert.ConvRefIdeal.main_arg3)
      ∧ r.2.mem ((c.tc : Thread Cert.ConvRefIdeal.nD Cert.ConvRefIdeal.τ).loc Cert.ConvRefIdeal.main_arg4) = m ((c.tc : Thread Cert.ConvRefIdeal.nD Cert.ConvRefIdeal.τ).loc Cert.ConvRefIdeal.main_arg4)
      ∧ r.2.mem ((c.tc : Thread Cert.ConvRefIdeal.nD Cert.ConvRefIdeal.τ).loc Cert.ConvRefIdeal.main_arg5) = m ((c.tc : Thread Cert.ConvRefIdeal.nD Cert.ConvRefIdeal.τ).loc Cert.ConvRefIdeal.main_arg5))
      ∧ r.2.sem = fun _ => 0)

def quiescent_ConvRefIdeal_pre_finite_conv [hConvRefIdeal : Cert.ConvRefIdeal.Facts] [hPre_finite_conv : Cert.Pre_finite_conv.Facts] : Prop :=
  ∀ (m : (ℓ : Loc Cert.ConvRefIdeal.nD Cert.ConvRefIdeal.τ Cert.ConvRefIdeal.sig) → Buf (Elt Ideal) ℓ) (g : Dev Cert.ConvRefIdeal.nD → PrngReg), Pre_ConvRefIdeal_finite_conv m →
    θ_run (Cert.ConvRefIdeal.defs (F := Ideal)) (onTc (τ := Cert.ConvRefIdeal.τ) (Cert.ConvRefIdeal.main (F := Ideal))) ⟨m, fun _ => 0, g⟩ (fun r => (∀ c : Dev Cert.ConvRefIdeal.nD,
      r.2.mem ((c.tc : Thread Cert.ConvRefIdeal.nD Cert.ConvRefIdeal.τ).loc Cert.ConvRefIdeal.main_arg0) = m ((c.tc : Thread Cert.ConvRefIdeal.nD Cert.ConvRefIdeal.τ).loc Cert.ConvRefIdeal.main_arg0)
      ∧ r.2.mem ((c.tc : Thread Cert.ConvRefIdeal.nD Cert.ConvRefIdeal.τ).loc Cert.ConvRefIdeal.main_arg1) = m ((c.tc : Thread Cert.ConvRefIdeal.nD Cert.ConvRefIdeal.τ).loc Cert.ConvRefIdeal.main_arg1)
      ∧ r.2.mem ((c.tc : Thread Cert.ConvRefIdeal.nD Cert.ConvRefIdeal.τ).loc Cert.ConvRefIdeal.main_arg2) = m ((c.tc : Thread Cert.ConvRefIdeal.nD Cert.ConvRefIdeal.τ).loc Cert.ConvRefIdeal.main_arg2)
      ∧ r.2.mem ((c.tc : Thread Cert.ConvRefIdeal.nD Cert.ConvRefIdeal.τ).loc Cert.ConvRefIdeal.main_arg3) = m ((c.tc : Thread Cert.ConvRefIdeal.nD Cert.ConvRefIdeal.τ).loc Cert.ConvRefIdeal.main_arg3)
      ∧ r.2.mem ((c.tc : Thread Cert.ConvRefIdeal.nD Cert.ConvRefIdeal.τ).loc Cert.ConvRefIdeal.main_arg4) = m ((c.tc : Thread Cert.ConvRefIdeal.nD Cert.ConvRefIdeal.τ).loc Cert.ConvRefIdeal.main_arg4)
      ∧ r.2.mem ((c.tc : Thread Cert.ConvRefIdeal.nD Cert.ConvRefIdeal.τ).loc Cert.ConvRefIdeal.main_arg5) = m ((c.tc : Thread Cert.ConvRefIdeal.nD Cert.ConvRefIdeal.τ).loc Cert.ConvRefIdeal.main_arg5))
      ∧ r.2.sem = fun _ => 0)

def quiescent_PoolBwd [hPoolBwd : Cert.PoolBwd.Facts] : Prop :=
  ∀ (m : (ℓ : Loc Cert.PoolBwd.nD Cert.PoolBwd.τ Cert.PoolBwd.sig) → Buf (Elt Bits) ℓ) (g : Dev Cert.PoolBwd.nD → PrngReg), Pre_PoolBwd m →
    θ_run (Cert.PoolBwd.defs (F := Bits)) (onTc (τ := Cert.PoolBwd.τ) (Cert.PoolBwd.main (F := Bits))) ⟨m, fun _ => 0, g⟩ (fun r => (∀ c : Dev Cert.PoolBwd.nD,
      r.2.mem ((c.tc : Thread Cert.PoolBwd.nD Cert.PoolBwd.τ).loc Cert.PoolBwd.main_arg0) = m ((c.tc : Thread Cert.PoolBwd.nD Cert.PoolBwd.τ).loc Cert.PoolBwd.main_arg0)
      ∧ r.2.mem ((c.tc : Thread Cert.PoolBwd.nD Cert.PoolBwd.τ).loc Cert.PoolBwd.main_arg1) = m ((c.tc : Thread Cert.PoolBwd.nD Cert.PoolBwd.τ).loc Cert.PoolBwd.main_arg1)
      ∧ r.2.mem ((c.tc : Thread Cert.PoolBwd.nD Cert.PoolBwd.τ).loc Cert.PoolBwd.main_arg2) = m ((c.tc : Thread Cert.PoolBwd.nD Cert.PoolBwd.τ).loc Cert.PoolBwd.main_arg2)
      ∧ r.2.mem ((c.tc : Thread Cert.PoolBwd.nD Cert.PoolBwd.τ).loc Cert.PoolBwd.main_arg3) = m ((c.tc : Thread Cert.PoolBwd.nD Cert.PoolBwd.τ).loc Cert.PoolBwd.main_arg3)
      ∧ r.2.mem ((c.tc : Thread Cert.PoolBwd.nD Cert.PoolBwd.τ).loc Cert.PoolBwd.main_arg4) = m ((c.tc : Thread Cert.PoolBwd.nD Cert.PoolBwd.τ).loc Cert.PoolBwd.main_arg4)
      ∧ r.2.mem ((c.tc : Thread Cert.PoolBwd.nD Cert.PoolBwd.τ).loc Cert.PoolBwd.main_arg5) = m ((c.tc : Thread Cert.PoolBwd.nD Cert.PoolBwd.τ).loc Cert.PoolBwd.main_arg5)
      ∧ r.2.mem ((c.tc : Thread Cert.PoolBwd.nD Cert.PoolBwd.τ).loc Cert.PoolBwd.main_arg6) = m ((c.tc : Thread Cert.PoolBwd.nD Cert.PoolBwd.τ).loc Cert.PoolBwd.main_arg6))
      ∧ r.2.sem = fun _ => 0)

def quiescent_PoolBwdIdeal [hPoolBwdIdeal : Cert.PoolBwdIdeal.Facts] : Prop :=
  ∀ (m : (ℓ : Loc Cert.PoolBwdIdeal.nD Cert.PoolBwdIdeal.τ Cert.PoolBwdIdeal.sig) → Buf (Elt Ideal) ℓ) (g : Dev Cert.PoolBwdIdeal.nD → PrngReg), Pre_PoolBwdIdeal m →
    θ_run (Cert.PoolBwdIdeal.defs (F := Ideal)) (onTc (τ := Cert.PoolBwdIdeal.τ) (Cert.PoolBwdIdeal.main (F := Ideal))) ⟨m, fun _ => 0, g⟩ (fun r => (∀ c : Dev Cert.PoolBwdIdeal.nD,
      r.2.mem ((c.tc : Thread Cert.PoolBwdIdeal.nD Cert.PoolBwdIdeal.τ).loc Cert.PoolBwdIdeal.main_arg0) = m ((c.tc : Thread Cert.PoolBwdIdeal.nD Cert.PoolBwdIdeal.τ).loc Cert.PoolBwdIdeal.main_arg0)
      ∧ r.2.mem ((c.tc : Thread Cert.PoolBwdIdeal.nD Cert.PoolBwdIdeal.τ).loc Cert.PoolBwdIdeal.main_arg1) = m ((c.tc : Thread Cert.PoolBwdIdeal.nD Cert.PoolBwdIdeal.τ).loc Cert.PoolBwdIdeal.main_arg1)
      ∧ r.2.mem ((c.tc : Thread Cert.PoolBwdIdeal.nD Cert.PoolBwdIdeal.τ).loc Cert.PoolBwdIdeal.main_arg2) = m ((c.tc : Thread Cert.PoolBwdIdeal.nD Cert.PoolBwdIdeal.τ).loc Cert.PoolBwdIdeal.main_arg2)
      ∧ r.2.mem ((c.tc : Thread Cert.PoolBwdIdeal.nD Cert.PoolBwdIdeal.τ).loc Cert.PoolBwdIdeal.main_arg3) = m ((c.tc : Thread Cert.PoolBwdIdeal.nD Cert.PoolBwdIdeal.τ).loc Cert.PoolBwdIdeal.main_arg3)
      ∧ r.2.mem ((c.tc : Thread Cert.PoolBwdIdeal.nD Cert.PoolBwdIdeal.τ).loc Cert.PoolBwdIdeal.main_arg4) = m ((c.tc : Thread Cert.PoolBwdIdeal.nD Cert.PoolBwdIdeal.τ).loc Cert.PoolBwdIdeal.main_arg4)
      ∧ r.2.mem ((c.tc : Thread Cert.PoolBwdIdeal.nD Cert.PoolBwdIdeal.τ).loc Cert.PoolBwdIdeal.main_arg5) = m ((c.tc : Thread Cert.PoolBwdIdeal.nD Cert.PoolBwdIdeal.τ).loc Cert.PoolBwdIdeal.main_arg5)
      ∧ r.2.mem ((c.tc : Thread Cert.PoolBwdIdeal.nD Cert.PoolBwdIdeal.τ).loc Cert.PoolBwdIdeal.main_arg6) = m ((c.tc : Thread Cert.PoolBwdIdeal.nD Cert.PoolBwdIdeal.τ).loc Cert.PoolBwdIdeal.main_arg6))
      ∧ r.2.sem = fun _ => 0)

def quiescent_PoolBwdIdeal_pre_finite_pool [hPoolBwdIdeal : Cert.PoolBwdIdeal.Facts] [hPre_finite_pool : Cert.Pre_finite_pool.Facts] : Prop :=
  ∀ (m : (ℓ : Loc Cert.PoolBwdIdeal.nD Cert.PoolBwdIdeal.τ Cert.PoolBwdIdeal.sig) → Buf (Elt Ideal) ℓ) (g : Dev Cert.PoolBwdIdeal.nD → PrngReg), Pre_PoolBwdIdeal_finite_pool m →
    θ_run (Cert.PoolBwdIdeal.defs (F := Ideal)) (onTc (τ := Cert.PoolBwdIdeal.τ) (Cert.PoolBwdIdeal.main (F := Ideal))) ⟨m, fun _ => 0, g⟩ (fun r => (∀ c : Dev Cert.PoolBwdIdeal.nD,
      r.2.mem ((c.tc : Thread Cert.PoolBwdIdeal.nD Cert.PoolBwdIdeal.τ).loc Cert.PoolBwdIdeal.main_arg0) = m ((c.tc : Thread Cert.PoolBwdIdeal.nD Cert.PoolBwdIdeal.τ).loc Cert.PoolBwdIdeal.main_arg0)
      ∧ r.2.mem ((c.tc : Thread Cert.PoolBwdIdeal.nD Cert.PoolBwdIdeal.τ).loc Cert.PoolBwdIdeal.main_arg1) = m ((c.tc : Thread Cert.PoolBwdIdeal.nD Cert.PoolBwdIdeal.τ).loc Cert.PoolBwdIdeal.main_arg1)
      ∧ r.2.mem ((c.tc : Thread Cert.PoolBwdIdeal.nD Cert.PoolBwdIdeal.τ).loc Cert.PoolBwdIdeal.main_arg2) = m ((c.tc : Thread Cert.PoolBwdIdeal.nD Cert.PoolBwdIdeal.τ).loc Cert.PoolBwdIdeal.main_arg2)
      ∧ r.2.mem ((c.tc : Thread Cert.PoolBwdIdeal.nD Cert.PoolBwdIdeal.τ).loc Cert.PoolBwdIdeal.main_arg3) = m ((c.tc : Thread Cert.PoolBwdIdeal.nD Cert.PoolBwdIdeal.τ).loc Cert.PoolBwdIdeal.main_arg3)
      ∧ r.2.mem ((c.tc : Thread Cert.PoolBwdIdeal.nD Cert.PoolBwdIdeal.τ).loc Cert.PoolBwdIdeal.main_arg4) = m ((c.tc : Thread Cert.PoolBwdIdeal.nD Cert.PoolBwdIdeal.τ).loc Cert.PoolBwdIdeal.main_arg4)
      ∧ r.2.mem ((c.tc : Thread Cert.PoolBwdIdeal.nD Cert.PoolBwdIdeal.τ).loc Cert.PoolBwdIdeal.main_arg5) = m ((c.tc : Thread Cert.PoolBwdIdeal.nD Cert.PoolBwdIdeal.τ).loc Cert.PoolBwdIdeal.main_arg5)
      ∧ r.2.mem ((c.tc : Thread Cert.PoolBwdIdeal.nD Cert.PoolBwdIdeal.τ).loc Cert.PoolBwdIdeal.main_arg6) = m ((c.tc : Thread Cert.PoolBwdIdeal.nD Cert.PoolBwdIdeal.τ).loc Cert.PoolBwdIdeal.main_arg6))
      ∧ r.2.sem = fun _ => 0)

def quiescent_PoolRefIdeal [hPoolRefIdeal : Cert.PoolRefIdeal.Facts] : Prop :=
  ∀ (m : (ℓ : Loc Cert.PoolRefIdeal.nD Cert.PoolRefIdeal.τ Cert.PoolRefIdeal.sig) → Buf (Elt Ideal) ℓ) (g : Dev Cert.PoolRefIdeal.nD → PrngReg), Pre_PoolRefIdeal m →
    θ_run (Cert.PoolRefIdeal.defs (F := Ideal)) (onTc (τ := Cert.PoolRefIdeal.τ) (Cert.PoolRefIdeal.main (F := Ideal))) ⟨m, fun _ => 0, g⟩ (fun r => (∀ c : Dev Cert.PoolRefIdeal.nD,
      r.2.mem ((c.tc : Thread Cert.PoolRefIdeal.nD Cert.PoolRefIdeal.τ).loc Cert.PoolRefIdeal.main_arg0) = m ((c.tc : Thread Cert.PoolRefIdeal.nD Cert.PoolRefIdeal.τ).loc Cert.PoolRefIdeal.main_arg0)
      ∧ r.2.mem ((c.tc : Thread Cert.PoolRefIdeal.nD Cert.PoolRefIdeal.τ).loc Cert.PoolRefIdeal.main_arg1) = m ((c.tc : Thread Cert.PoolRefIdeal.nD Cert.PoolRefIdeal.τ).loc Cert.PoolRefIdeal.main_arg1)
      ∧ r.2.mem ((c.tc : Thread Cert.PoolRefIdeal.nD Cert.PoolRefIdeal.τ).loc Cert.PoolRefIdeal.main_arg2) = m ((c.tc : Thread Cert.PoolRefIdeal.nD Cert.PoolRefIdeal.τ).loc Cert.PoolRefIdeal.main_arg2)
      ∧ r.2.mem ((c.tc : Thread Cert.PoolRefIdeal.nD Cert.PoolRefIdeal.τ).loc Cert.PoolRefIdeal.main_arg3) = m ((c.tc : Thread Cert.PoolRefIdeal.nD Cert.PoolRefIdeal.τ).loc Cert.PoolRefIdeal.main_arg3)
      ∧ r.2.mem ((c.tc : Thread Cert.PoolRefIdeal.nD Cert.PoolRefIdeal.τ).loc Cert.PoolRefIdeal.main_arg4) = m ((c.tc : Thread Cert.PoolRefIdeal.nD Cert.PoolRefIdeal.τ).loc Cert.PoolRefIdeal.main_arg4)
      ∧ r.2.mem ((c.tc : Thread Cert.PoolRefIdeal.nD Cert.PoolRefIdeal.τ).loc Cert.PoolRefIdeal.main_arg5) = m ((c.tc : Thread Cert.PoolRefIdeal.nD Cert.PoolRefIdeal.τ).loc Cert.PoolRefIdeal.main_arg5)
      ∧ r.2.mem ((c.tc : Thread Cert.PoolRefIdeal.nD Cert.PoolRefIdeal.τ).loc Cert.PoolRefIdeal.main_arg6) = m ((c.tc : Thread Cert.PoolRefIdeal.nD Cert.PoolRefIdeal.τ).loc Cert.PoolRefIdeal.main_arg6))
      ∧ r.2.sem = fun _ => 0)

def quiescent_PoolRefIdeal_pre_finite_pool [hPoolRefIdeal : Cert.PoolRefIdeal.Facts] [hPre_finite_pool : Cert.Pre_finite_pool.Facts] : Prop :=
  ∀ (m : (ℓ : Loc Cert.PoolRefIdeal.nD Cert.PoolRefIdeal.τ Cert.PoolRefIdeal.sig) → Buf (Elt Ideal) ℓ) (g : Dev Cert.PoolRefIdeal.nD → PrngReg), Pre_PoolRefIdeal_finite_pool m →
    θ_run (Cert.PoolRefIdeal.defs (F := Ideal)) (onTc (τ := Cert.PoolRefIdeal.τ) (Cert.PoolRefIdeal.main (F := Ideal))) ⟨m, fun _ => 0, g⟩ (fun r => (∀ c : Dev Cert.PoolRefIdeal.nD,
      r.2.mem ((c.tc : Thread Cert.PoolRefIdeal.nD Cert.PoolRefIdeal.τ).loc Cert.PoolRefIdeal.main_arg0) = m ((c.tc : Thread Cert.PoolRefIdeal.nD Cert.PoolRefIdeal.τ).loc Cert.PoolRefIdeal.main_arg0)
      ∧ r.2.mem ((c.tc : Thread Cert.PoolRefIdeal.nD Cert.PoolRefIdeal.τ).loc Cert.PoolRefIdeal.main_arg1) = m ((c.tc : Thread Cert.PoolRefIdeal.nD Cert.PoolRefIdeal.τ).loc Cert.PoolRefIdeal.main_arg1)
      ∧ r.2.mem ((c.tc : Thread Cert.PoolRefIdeal.nD Cert.PoolRefIdeal.τ).loc Cert.PoolRefIdeal.main_arg2) = m ((c.tc : Thread Cert.PoolRefIdeal.nD Cert.PoolRefIdeal.τ).loc Cert.PoolRefIdeal.main_arg2)
      ∧ r.2.mem ((c.tc : Thread Cert.PoolRefIdeal.nD Cert.PoolRefIdeal.τ).loc Cert.PoolRefIdeal.main_arg3) = m ((c.tc : Thread Cert.PoolRefIdeal.nD Cert.PoolRefIdeal.τ).loc Cert.PoolRefIdeal.main_arg3)
      ∧ r.2.mem ((c.tc : Thread Cert.PoolRefIdeal.nD Cert.PoolRefIdeal.τ).loc Cert.PoolRefIdeal.main_arg4) = m ((c.tc : Thread Cert.PoolRefIdeal.nD Cert.PoolRefIdeal.τ).loc Cert.PoolRefIdeal.main_arg4)
      ∧ r.2.mem ((c.tc : Thread Cert.PoolRefIdeal.nD Cert.PoolRefIdeal.τ).loc Cert.PoolRefIdeal.main_arg5) = m ((c.tc : Thread Cert.PoolRefIdeal.nD Cert.PoolRefIdeal.τ).loc Cert.PoolRefIdeal.main_arg5)
      ∧ r.2.mem ((c.tc : Thread Cert.PoolRefIdeal.nD Cert.PoolRefIdeal.τ).loc Cert.PoolRefIdeal.main_arg6) = m ((c.tc : Thread Cert.PoolRefIdeal.nD Cert.PoolRefIdeal.τ).loc Cert.PoolRefIdeal.main_arg6))
      ∧ r.2.sem = fun _ => 0)

def quiescent_GmlpBwd [hGmlpBwd : Cert.GmlpBwd.Facts] : Prop :=
  ∀ (m : (ℓ : Loc Cert.GmlpBwd.nD Cert.GmlpBwd.τ Cert.GmlpBwd.sig) → Buf (Elt Bits) ℓ) (g : Dev Cert.GmlpBwd.nD → PrngReg), Pre_GmlpBwd m →
    θ_run (Cert.GmlpBwd.defs (F := Bits)) (onTc (τ := Cert.GmlpBwd.τ) (Cert.GmlpBwd.main (F := Bits))) ⟨m, fun _ => 0, g⟩ (fun r => (∀ c : Dev Cert.GmlpBwd.nD,
      r.2.mem ((c.tc : Thread Cert.GmlpBwd.nD Cert.GmlpBwd.τ).loc Cert.GmlpBwd.main_arg0) = m ((c.tc : Thread Cert.GmlpBwd.nD Cert.GmlpBwd.τ).loc Cert.GmlpBwd.main_arg0)
      ∧ r.2.mem ((c.tc : Thread Cert.GmlpBwd.nD Cert.GmlpBwd.τ).loc Cert.GmlpBwd.main_arg1) = m ((c.tc : Thread Cert.GmlpBwd.nD Cert.GmlpBwd.τ).loc Cert.GmlpBwd.main_arg1)
      ∧ r.2.mem ((c.tc : Thread Cert.GmlpBwd.nD Cert.GmlpBwd.τ).loc Cert.GmlpBwd.main_arg2) = m ((c.tc : Thread Cert.GmlpBwd.nD Cert.GmlpBwd.τ).loc Cert.GmlpBwd.main_arg2)
      ∧ r.2.mem ((c.tc : Thread Cert.GmlpBwd.nD Cert.GmlpBwd.τ).loc Cert.GmlpBwd.main_arg3) = m ((c.tc : Thread Cert.GmlpBwd.nD Cert.GmlpBwd.τ).loc Cert.GmlpBwd.main_arg3)
      ∧ r.2.mem ((c.tc : Thread Cert.GmlpBwd.nD Cert.GmlpBwd.τ).loc Cert.GmlpBwd.main_arg4) = m ((c.tc : Thread Cert.GmlpBwd.nD Cert.GmlpBwd.τ).loc Cert.GmlpBwd.main_arg4)
      ∧ r.2.mem ((c.tc : Thread Cert.GmlpBwd.nD Cert.GmlpBwd.τ).loc Cert.GmlpBwd.main_arg5) = m ((c.tc : Thread Cert.GmlpBwd.nD Cert.GmlpBwd.τ).loc Cert.GmlpBwd.main_arg5)
      ∧ r.2.mem ((c.tc : Thread Cert.GmlpBwd.nD Cert.GmlpBwd.τ).loc Cert.GmlpBwd.main_arg6) = m ((c.tc : Thread Cert.GmlpBwd.nD Cert.GmlpBwd.τ).loc Cert.GmlpBwd.main_arg6)
      ∧ r.2.mem ((c.tc : Thread Cert.GmlpBwd.nD Cert.GmlpBwd.τ).loc Cert.GmlpBwd.main_arg7) = m ((c.tc : Thread Cert.GmlpBwd.nD Cert.GmlpBwd.τ).loc Cert.GmlpBwd.main_arg7))
      ∧ r.2.sem = fun _ => 0)

def quiescent_GmlpBwdIdeal [hGmlpBwdIdeal : Cert.GmlpBwdIdeal.Facts] : Prop :=
  ∀ (m : (ℓ : Loc Cert.GmlpBwdIdeal.nD Cert.GmlpBwdIdeal.τ Cert.GmlpBwdIdeal.sig) → Buf (Elt Ideal) ℓ) (g : Dev Cert.GmlpBwdIdeal.nD → PrngReg), Pre_GmlpBwdIdeal m →
    θ_run (Cert.GmlpBwdIdeal.defs (F := Ideal)) (onTc (τ := Cert.GmlpBwdIdeal.τ) (Cert.GmlpBwdIdeal.main (F := Ideal))) ⟨m, fun _ => 0, g⟩ (fun r => (∀ c : Dev Cert.GmlpBwdIdeal.nD,
      r.2.mem ((c.tc : Thread Cert.GmlpBwdIdeal.nD Cert.GmlpBwdIdeal.τ).loc Cert.GmlpBwdIdeal.main_arg0) = m ((c.tc : Thread Cert.GmlpBwdIdeal.nD Cert.GmlpBwdIdeal.τ).loc Cert.GmlpBwdIdeal.main_arg0)
      ∧ r.2.mem ((c.tc : Thread Cert.GmlpBwdIdeal.nD Cert.GmlpBwdIdeal.τ).loc Cert.GmlpBwdIdeal.main_arg1) = m ((c.tc : Thread Cert.GmlpBwdIdeal.nD Cert.GmlpBwdIdeal.τ).loc Cert.GmlpBwdIdeal.main_arg1)
      ∧ r.2.mem ((c.tc : Thread Cert.GmlpBwdIdeal.nD Cert.GmlpBwdIdeal.τ).loc Cert.GmlpBwdIdeal.main_arg2) = m ((c.tc : Thread Cert.GmlpBwdIdeal.nD Cert.GmlpBwdIdeal.τ).loc Cert.GmlpBwdIdeal.main_arg2)
      ∧ r.2.mem ((c.tc : Thread Cert.GmlpBwdIdeal.nD Cert.GmlpBwdIdeal.τ).loc Cert.GmlpBwdIdeal.main_arg3) = m ((c.tc : Thread Cert.GmlpBwdIdeal.nD Cert.GmlpBwdIdeal.τ).loc Cert.GmlpBwdIdeal.main_arg3)
      ∧ r.2.mem ((c.tc : Thread Cert.GmlpBwdIdeal.nD Cert.GmlpBwdIdeal.τ).loc Cert.GmlpBwdIdeal.main_arg4) = m ((c.tc : Thread Cert.GmlpBwdIdeal.nD Cert.GmlpBwdIdeal.τ).loc Cert.GmlpBwdIdeal.main_arg4)
      ∧ r.2.mem ((c.tc : Thread Cert.GmlpBwdIdeal.nD Cert.GmlpBwdIdeal.τ).loc Cert.GmlpBwdIdeal.main_arg5) = m ((c.tc : Thread Cert.GmlpBwdIdeal.nD Cert.GmlpBwdIdeal.τ).loc Cert.GmlpBwdIdeal.main_arg5)
      ∧ r.2.mem ((c.tc : Thread Cert.GmlpBwdIdeal.nD Cert.GmlpBwdIdeal.τ).loc Cert.GmlpBwdIdeal.main_arg6) = m ((c.tc : Thread Cert.GmlpBwdIdeal.nD Cert.GmlpBwdIdeal.τ).loc Cert.GmlpBwdIdeal.main_arg6)
      ∧ r.2.mem ((c.tc : Thread Cert.GmlpBwdIdeal.nD Cert.GmlpBwdIdeal.τ).loc Cert.GmlpBwdIdeal.main_arg7) = m ((c.tc : Thread Cert.GmlpBwdIdeal.nD Cert.GmlpBwdIdeal.τ).loc Cert.GmlpBwdIdeal.main_arg7))
      ∧ r.2.sem = fun _ => 0)

def quiescent_GmlpBwdIdeal_pre_finite_gmlp [hGmlpBwdIdeal : Cert.GmlpBwdIdeal.Facts] [hPre_finite_gmlp : Cert.Pre_finite_gmlp.Facts] : Prop :=
  ∀ (m : (ℓ : Loc Cert.GmlpBwdIdeal.nD Cert.GmlpBwdIdeal.τ Cert.GmlpBwdIdeal.sig) → Buf (Elt Ideal) ℓ) (g : Dev Cert.GmlpBwdIdeal.nD → PrngReg), Pre_GmlpBwdIdeal_finite_gmlp m →
    θ_run (Cert.GmlpBwdIdeal.defs (F := Ideal)) (onTc (τ := Cert.GmlpBwdIdeal.τ) (Cert.GmlpBwdIdeal.main (F := Ideal))) ⟨m, fun _ => 0, g⟩ (fun r => (∀ c : Dev Cert.GmlpBwdIdeal.nD,
      r.2.mem ((c.tc : Thread Cert.GmlpBwdIdeal.nD Cert.GmlpBwdIdeal.τ).loc Cert.GmlpBwdIdeal.main_arg0) = m ((c.tc : Thread Cert.GmlpBwdIdeal.nD Cert.GmlpBwdIdeal.τ).loc Cert.GmlpBwdIdeal.main_arg0)
      ∧ r.2.mem ((c.tc : Thread Cert.GmlpBwdIdeal.nD Cert.GmlpBwdIdeal.τ).loc Cert.GmlpBwdIdeal.main_arg1) = m ((c.tc : Thread Cert.GmlpBwdIdeal.nD Cert.GmlpBwdIdeal.τ).loc Cert.GmlpBwdIdeal.main_arg1)
      ∧ r.2.mem ((c.tc : Thread Cert.GmlpBwdIdeal.nD Cert.GmlpBwdIdeal.τ).loc Cert.GmlpBwdIdeal.main_arg2) = m ((c.tc : Thread Cert.GmlpBwdIdeal.nD Cert.GmlpBwdIdeal.τ).loc Cert.GmlpBwdIdeal.main_arg2)
      ∧ r.2.mem ((c.tc : Thread Cert.GmlpBwdIdeal.nD Cert.GmlpBwdIdeal.τ).loc Cert.GmlpBwdIdeal.main_arg3) = m ((c.tc : Thread Cert.GmlpBwdIdeal.nD Cert.GmlpBwdIdeal.τ).loc Cert.GmlpBwdIdeal.main_arg3)
      ∧ r.2.mem ((c.tc : Thread Cert.GmlpBwdIdeal.nD Cert.GmlpBwdIdeal.τ).loc Cert.GmlpBwdIdeal.main_arg4) = m ((c.tc : Thread Cert.GmlpBwdIdeal.nD Cert.GmlpBwdIdeal.τ).loc Cert.GmlpBwdIdeal.main_arg4)
      ∧ r.2.mem ((c.tc : Thread Cert.GmlpBwdIdeal.nD Cert.GmlpBwdIdeal.τ).loc Cert.GmlpBwdIdeal.main_arg5) = m ((c.tc : Thread Cert.GmlpBwdIdeal.nD Cert.GmlpBwdIdeal.τ).loc Cert.GmlpBwdIdeal.main_arg5)
      ∧ r.2.mem ((c.tc : Thread Cert.GmlpBwdIdeal.nD Cert.GmlpBwdIdeal.τ).loc Cert.GmlpBwdIdeal.main_arg6) = m ((c.tc : Thread Cert.GmlpBwdIdeal.nD Cert.GmlpBwdIdeal.τ).loc Cert.GmlpBwdIdeal.main_arg6)
      ∧ r.2.mem ((c.tc : Thread Cert.GmlpBwdIdeal.nD Cert.GmlpBwdIdeal.τ).loc Cert.GmlpBwdIdeal.main_arg7) = m ((c.tc : Thread Cert.GmlpBwdIdeal.nD Cert.GmlpBwdIdeal.τ).loc Cert.GmlpBwdIdeal.main_arg7))
      ∧ r.2.sem = fun _ => 0)

def quiescent_GmlpRefIdeal [hGmlpRefIdeal : Cert.GmlpRefIdeal.Facts] : Prop :=
  ∀ (m : (ℓ : Loc Cert.GmlpRefIdeal.nD Cert.GmlpRefIdeal.τ Cert.GmlpRefIdeal.sig) → Buf (Elt Ideal) ℓ) (g : Dev Cert.GmlpRefIdeal.nD → PrngReg), Pre_GmlpRefIdeal m →
    θ_run (Cert.GmlpRefIdeal.defs (F := Ideal)) (onTc (τ := Cert.GmlpRefIdeal.τ) (Cert.GmlpRefIdeal.main (F := Ideal))) ⟨m, fun _ => 0, g⟩ (fun r => (∀ c : Dev Cert.GmlpRefIdeal.nD,
      r.2.mem ((c.tc : Thread Cert.GmlpRefIdeal.nD Cert.GmlpRefIdeal.τ).loc Cert.GmlpRefIdeal.main_arg0) = m ((c.tc : Thread Cert.GmlpRefIdeal.nD Cert.GmlpRefIdeal.τ).loc Cert.GmlpRefIdeal.main_arg0)
      ∧ r.2.mem ((c.tc : Thread Cert.GmlpRefIdeal.nD Cert.GmlpRefIdeal.τ).loc Cert.GmlpRefIdeal.main_arg1) = m ((c.tc : Thread Cert.GmlpRefIdeal.nD Cert.GmlpRefIdeal.τ).loc Cert.GmlpRefIdeal.main_arg1)
      ∧ r.2.mem ((c.tc : Thread Cert.GmlpRefIdeal.nD Cert.GmlpRefIdeal.τ).loc Cert.GmlpRefIdeal.main_arg2) = m ((c.tc : Thread Cert.GmlpRefIdeal.nD Cert.GmlpRefIdeal.τ).loc Cert.GmlpRefIdeal.main_arg2)
      ∧ r.2.mem ((c.tc : Thread Cert.GmlpRefIdeal.nD Cert.GmlpRefIdeal.τ).loc Cert.GmlpRefIdeal.main_arg3) = m ((c.tc : Thread Cert.GmlpRefIdeal.nD Cert.GmlpRefIdeal.τ).loc Cert.GmlpRefIdeal.main_arg3)
      ∧ r.2.mem ((c.tc : Thread Cert.GmlpRefIdeal.nD Cert.GmlpRefIdeal.τ).loc Cert.GmlpRefIdeal.main_arg4) = m ((c.tc : Thread Cert.GmlpRefIdeal.nD Cert.GmlpRefIdeal.τ).loc Cert.GmlpRefIdeal.main_arg4)
      ∧ r.2.mem ((c.tc : Thread Cert.GmlpRefIdeal.nD Cert.GmlpRefIdeal.τ).loc Cert.GmlpRefIdeal.main_arg5) = m ((c.tc : Thread Cert.GmlpRefIdeal.nD Cert.GmlpRefIdeal.τ).loc Cert.GmlpRefIdeal.main_arg5)
      ∧ r.2.mem ((c.tc : Thread Cert.GmlpRefIdeal.nD Cert.GmlpRefIdeal.τ).loc Cert.GmlpRefIdeal.main_arg6) = m ((c.tc : Thread Cert.GmlpRefIdeal.nD Cert.GmlpRefIdeal.τ).loc Cert.GmlpRefIdeal.main_arg6)
      ∧ r.2.mem ((c.tc : Thread Cert.GmlpRefIdeal.nD Cert.GmlpRefIdeal.τ).loc Cert.GmlpRefIdeal.main_arg7) = m ((c.tc : Thread Cert.GmlpRefIdeal.nD Cert.GmlpRefIdeal.τ).loc Cert.GmlpRefIdeal.main_arg7))
      ∧ r.2.sem = fun _ => 0)

def quiescent_GmlpRefIdeal_pre_finite_gmlp [hGmlpRefIdeal : Cert.GmlpRefIdeal.Facts] [hPre_finite_gmlp : Cert.Pre_finite_gmlp.Facts] : Prop :=
  ∀ (m : (ℓ : Loc Cert.GmlpRefIdeal.nD Cert.GmlpRefIdeal.τ Cert.GmlpRefIdeal.sig) → Buf (Elt Ideal) ℓ) (g : Dev Cert.GmlpRefIdeal.nD → PrngReg), Pre_GmlpRefIdeal_finite_gmlp m →
    θ_run (Cert.GmlpRefIdeal.defs (F := Ideal)) (onTc (τ := Cert.GmlpRefIdeal.τ) (Cert.GmlpRefIdeal.main (F := Ideal))) ⟨m, fun _ => 0, g⟩ (fun r => (∀ c : Dev Cert.GmlpRefIdeal.nD,
      r.2.mem ((c.tc : Thread Cert.GmlpRefIdeal.nD Cert.GmlpRefIdeal.τ).loc Cert.GmlpRefIdeal.main_arg0) = m ((c.tc : Thread Cert.GmlpRefIdeal.nD Cert.GmlpRefIdeal.τ).loc Cert.GmlpRefIdeal.main_arg0)
      ∧ r.2.mem ((c.tc : Thread Cert.GmlpRefIdeal.nD Cert.GmlpRefIdeal.τ).loc Cert.GmlpRefIdeal.main_arg1) = m ((c.tc : Thread Cert.GmlpRefIdeal.nD Cert.GmlpRefIdeal.τ).loc Cert.GmlpRefIdeal.main_arg1)
      ∧ r.2.mem ((c.tc : Thread Cert.GmlpRefIdeal.nD Cert.GmlpRefIdeal.τ).loc Cert.GmlpRefIdeal.main_arg2) = m ((c.tc : Thread Cert.GmlpRefIdeal.nD Cert.GmlpRefIdeal.τ).loc Cert.GmlpRefIdeal.main_arg2)
      ∧ r.2.mem ((c.tc : Thread Cert.GmlpRefIdeal.nD Cert.GmlpRefIdeal.τ).loc Cert.GmlpRefIdeal.main_arg3) = m ((c.tc : Thread Cert.GmlpRefIdeal.nD Cert.GmlpRefIdeal.τ).loc Cert.GmlpRefIdeal.main_arg3)
      ∧ r.2.mem ((c.tc : Thread Cert.GmlpRefIdeal.nD Cert.GmlpRefIdeal.τ).loc Cert.GmlpRefIdeal.main_arg4) = m ((c.tc : Thread Cert.GmlpRefIdeal.nD Cert.GmlpRefIdeal.τ).loc Cert.GmlpRefIdeal.main_arg4)
      ∧ r.2.mem ((c.tc : Thread Cert.GmlpRefIdeal.nD Cert.GmlpRefIdeal.τ).loc Cert.GmlpRefIdeal.main_arg5) = m ((c.tc : Thread Cert.GmlpRefIdeal.nD Cert.GmlpRefIdeal.τ).loc Cert.GmlpRefIdeal.main_arg5)
      ∧ r.2.mem ((c.tc : Thread Cert.GmlpRefIdeal.nD Cert.GmlpRefIdeal.τ).loc Cert.GmlpRefIdeal.main_arg6) = m ((c.tc : Thread Cert.GmlpRefIdeal.nD Cert.GmlpRefIdeal.τ).loc Cert.GmlpRefIdeal.main_arg6)
      ∧ r.2.mem ((c.tc : Thread Cert.GmlpRefIdeal.nD Cert.GmlpRefIdeal.τ).loc Cert.GmlpRefIdeal.main_arg7) = m ((c.tc : Thread Cert.GmlpRefIdeal.nD Cert.GmlpRefIdeal.τ).loc Cert.GmlpRefIdeal.main_arg7))
      ∧ r.2.sem = fun _ => 0)

def quiescent_FfnFwd [hFfnFwd : Cert.FfnFwd.Facts] : Prop :=
  ∀ (m : (ℓ : Loc Cert.FfnFwd.nD Cert.FfnFwd.τ Cert.FfnFwd.sig) → Buf (Elt Bits) ℓ) (g : Dev Cert.FfnFwd.nD → PrngReg), Pre_FfnFwd m →
    θ_run (Cert.FfnFwd.defs (F := Bits)) (onTc (τ := Cert.FfnFwd.τ) (Cert.FfnFwd.main (F := Bits))) ⟨m, fun _ => 0, g⟩ (fun r => (∀ c : Dev Cert.FfnFwd.nD,
      r.2.mem ((c.tc : Thread Cert.FfnFwd.nD Cert.FfnFwd.τ).loc Cert.FfnFwd.main_arg0) = m ((c.tc : Thread Cert.FfnFwd.nD Cert.FfnFwd.τ).loc Cert.FfnFwd.main_arg0)
      ∧ r.2.mem ((c.tc : Thread Cert.FfnFwd.nD Cert.FfnFwd.τ).loc Cert.FfnFwd.main_arg1) = m ((c.tc : Thread Cert.FfnFwd.nD Cert.FfnFwd.τ).loc Cert.FfnFwd.main_arg1)
      ∧ r.2.mem ((c.tc : Thread Cert.FfnFwd.nD Cert.FfnFwd.τ).loc Cert.FfnFwd.main_arg2) = m ((c.tc : Thread Cert.FfnFwd.nD Cert.FfnFwd.τ).loc Cert.FfnFwd.main_arg2)
      ∧ r.2.mem ((c.tc : Thread Cert.FfnFwd.nD Cert.FfnFwd.τ).loc Cert.FfnFwd.main_arg3) = m ((c.tc : Thread Cert.FfnFwd.nD Cert.FfnFwd.τ).loc Cert.FfnFwd.main_arg3)
      ∧ r.2.mem ((c.tc : Thread Cert.FfnFwd.nD Cert.FfnFwd.τ).loc Cert.FfnFwd.main_arg4) = m ((c.tc : Thread Cert.FfnFwd.nD Cert.FfnFwd.τ).loc Cert.FfnFwd.main_arg4)
      ∧ r.2.mem ((c.tc : Thread Cert.FfnFwd.nD Cert.FfnFwd.τ).loc Cert.FfnFwd.main_arg5) = m ((c.tc : Thread Cert.FfnFwd.nD Cert.FfnFwd.τ).loc Cert.FfnFwd.main_arg5)
      ∧ r.2.mem ((c.tc : Thread Cert.FfnFwd.nD Cert.FfnFwd.τ).loc Cert.FfnFwd.main_arg6) = m ((c.tc : Thread Cert.FfnFwd.nD Cert.FfnFwd.τ).loc Cert.FfnFwd.main_arg6))
      ∧ r.2.sem = fun _ => 0)

def quiescent_FfnFwdIdeal [hFfnFwdIdeal : Cert.FfnFwdIdeal.Facts] : Prop :=
  ∀ (m : (ℓ : Loc Cert.FfnFwdIdeal.nD Cert.FfnFwdIdeal.τ Cert.FfnFwdIdeal.sig) → Buf (Elt Ideal) ℓ) (g : Dev Cert.FfnFwdIdeal.nD → PrngReg), Pre_FfnFwdIdeal m →
    θ_run (Cert.FfnFwdIdeal.defs (F := Ideal)) (onTc (τ := Cert.FfnFwdIdeal.τ) (Cert.FfnFwdIdeal.main (F := Ideal))) ⟨m, fun _ => 0, g⟩ (fun r => (∀ c : Dev Cert.FfnFwdIdeal.nD,
      r.2.mem ((c.tc : Thread Cert.FfnFwdIdeal.nD Cert.FfnFwdIdeal.τ).loc Cert.FfnFwdIdeal.main_arg0) = m ((c.tc : Thread Cert.FfnFwdIdeal.nD Cert.FfnFwdIdeal.τ).loc Cert.FfnFwdIdeal.main_arg0)
      ∧ r.2.mem ((c.tc : Thread Cert.FfnFwdIdeal.nD Cert.FfnFwdIdeal.τ).loc Cert.FfnFwdIdeal.main_arg1) = m ((c.tc : Thread Cert.FfnFwdIdeal.nD Cert.FfnFwdIdeal.τ).loc Cert.FfnFwdIdeal.main_arg1)
      ∧ r.2.mem ((c.tc : Thread Cert.FfnFwdIdeal.nD Cert.FfnFwdIdeal.τ).loc Cert.FfnFwdIdeal.main_arg2) = m ((c.tc : Thread Cert.FfnFwdIdeal.nD Cert.FfnFwdIdeal.τ).loc Cert.FfnFwdIdeal.main_arg2)
      ∧ r.2.mem ((c.tc : Thread Cert.FfnFwdIdeal.nD Cert.FfnFwdIdeal.τ).loc Cert.FfnFwdIdeal.main_arg3) = m ((c.tc : Thread Cert.FfnFwdIdeal.nD Cert.FfnFwdIdeal.τ).loc Cert.FfnFwdIdeal.main_arg3)
      ∧ r.2.mem ((c.tc : Thread Cert.FfnFwdIdeal.nD Cert.FfnFwdIdeal.τ).loc Cert.FfnFwdIdeal.main_arg4) = m ((c.tc : Thread Cert.FfnFwdIdeal.nD Cert.FfnFwdIdeal.τ).loc Cert.FfnFwdIdeal.main_arg4)
      ∧ r.2.mem ((c.tc : Thread Cert.FfnFwdIdeal.nD Cert.FfnFwdIdeal.τ).loc Cert.FfnFwdIdeal.main_arg5) = m ((c.tc : Thread Cert.FfnFwdIdeal.nD Cert.FfnFwdIdeal.τ).loc Cert.FfnFwdIdeal.main_arg5)
      ∧ r.2.mem ((c.tc : Thread Cert.FfnFwdIdeal.nD Cert.FfnFwdIdeal.τ).loc Cert.FfnFwdIdeal.main_arg6) = m ((c.tc : Thread Cert.FfnFwdIdeal.nD Cert.FfnFwdIdeal.τ).loc Cert.FfnFwdIdeal.main_arg6))
      ∧ r.2.sem = fun _ => 0)

def quiescent_FfnFwdIdeal_pre_finite_ffn_fwd [hFfnFwdIdeal : Cert.FfnFwdIdeal.Facts] [hPre_finite_ffn_fwd : Cert.Pre_finite_ffn_fwd.Facts] : Prop :=
  ∀ (m : (ℓ : Loc Cert.FfnFwdIdeal.nD Cert.FfnFwdIdeal.τ Cert.FfnFwdIdeal.sig) → Buf (Elt Ideal) ℓ) (g : Dev Cert.FfnFwdIdeal.nD → PrngReg), Pre_FfnFwdIdeal_finite_ffn_fwd m →
    θ_run (Cert.FfnFwdIdeal.defs (F := Ideal)) (onTc (τ := Cert.FfnFwdIdeal.τ) (Cert.FfnFwdIdeal.main (F := Ideal))) ⟨m, fun _ => 0, g⟩ (fun r => (∀ c : Dev Cert.FfnFwdIdeal.nD,
      r.2.mem ((c.tc : Thread Cert.FfnFwdIdeal.nD Cert.FfnFwdIdeal.τ).loc Cert.FfnFwdIdeal.main_arg0) = m ((c.tc : Thread Cert.FfnFwdIdeal.nD Cert.FfnFwdIdeal.τ).loc Cert.FfnFwdIdeal.main_arg0)
      ∧ r.2.mem ((c.tc : Thread Cert.FfnFwdIdeal.nD Cert.FfnFwdIdeal.τ).loc Cert.FfnFwdIdeal.main_arg1) = m ((c.tc : Thread Cert.FfnFwdIdeal.nD Cert.FfnFwdIdeal.τ).loc Cert.FfnFwdIdeal.main_arg1)
      ∧ r.2.mem ((c.tc : Thread Cert.FfnFwdIdeal.nD Cert.FfnFwdIdeal.τ).loc Cert.FfnFwdIdeal.main_arg2) = m ((c.tc : Thread Cert.FfnFwdIdeal.nD Cert.FfnFwdIdeal.τ).loc Cert.FfnFwdIdeal.main_arg2)
      ∧ r.2.mem ((c.tc : Thread Cert.FfnFwdIdeal.nD Cert.FfnFwdIdeal.τ).loc Cert.FfnFwdIdeal.main_arg3) = m ((c.tc : Thread Cert.FfnFwdIdeal.nD Cert.FfnFwdIdeal.τ).loc Cert.FfnFwdIdeal.main_arg3)
      ∧ r.2.mem ((c.tc : Thread Cert.FfnFwdIdeal.nD Cert.FfnFwdIdeal.τ).loc Cert.FfnFwdIdeal.main_arg4) = m ((c.tc : Thread Cert.FfnFwdIdeal.nD Cert.FfnFwdIdeal.τ).loc Cert.FfnFwdIdeal.main_arg4)
      ∧ r.2.mem ((c.tc : Thread Cert.FfnFwdIdeal.nD Cert.FfnFwdIdeal.τ).loc Cert.FfnFwdIdeal.main_arg5) = m ((c.tc : Thread Cert.FfnFwdIdeal.nD Cert.FfnFwdIdeal.τ).loc Cert.FfnFwdIdeal.main_arg5)
      ∧ r.2.mem ((c.tc : Thread Cert.FfnFwdIdeal.nD Cert.FfnFwdIdeal.τ).loc Cert.FfnFwdIdeal.main_arg6) = m ((c.tc : Thread Cert.FfnFwdIdeal.nD Cert.FfnFwdIdeal.τ).loc Cert.FfnFwdIdeal.main_arg6))
      ∧ r.2.sem = fun _ => 0)

def quiescent_FfnFwdRefIdeal [hFfnFwdRefIdeal : Cert.FfnFwdRefIdeal.Facts] : Prop :=
  ∀ (m : (ℓ : Loc Cert.FfnFwdRefIdeal.nD Cert.FfnFwdRefIdeal.τ Cert.FfnFwdRefIdeal.sig) → Buf (Elt Ideal) ℓ) (g : Dev Cert.FfnFwdRefIdeal.nD → PrngReg), Pre_FfnFwdRefIdeal m →
    θ_run (Cert.FfnFwdRefIdeal.defs (F := Ideal)) (onTc (τ := Cert.FfnFwdRefIdeal.τ) (Cert.FfnFwdRefIdeal.main (F := Ideal))) ⟨m, fun _ => 0, g⟩ (fun r => (∀ c : Dev Cert.FfnFwdRefIdeal.nD,
      r.2.mem ((c.tc : Thread Cert.FfnFwdRefIdeal.nD Cert.FfnFwdRefIdeal.τ).loc Cert.FfnFwdRefIdeal.main_arg0) = m ((c.tc : Thread Cert.FfnFwdRefIdeal.nD Cert.FfnFwdRefIdeal.τ).loc Cert.FfnFwdRefIdeal.main_arg0)
      ∧ r.2.mem ((c.tc : Thread Cert.FfnFwdRefIdeal.nD Cert.FfnFwdRefIdeal.τ).loc Cert.FfnFwdRefIdeal.main_arg1) = m ((c.tc : Thread Cert.FfnFwdRefIdeal.nD Cert.FfnFwdRefIdeal.τ).loc Cert.FfnFwdRefIdeal.main_arg1)
      ∧ r.2.mem ((c.tc : Thread Cert.FfnFwdRefIdeal.nD Cert.FfnFwdRefIdeal.τ).loc Cert.FfnFwdRefIdeal.main_arg2) = m ((c.tc : Thread Cert.FfnFwdRefIdeal.nD Cert.FfnFwdRefIdeal.τ).loc Cert.FfnFwdRefIdeal.main_arg2)
      ∧ r.2.mem ((c.tc : Thread Cert.FfnFwdRefIdeal.nD Cert.FfnFwdRefIdeal.τ).loc Cert.FfnFwdRefIdeal.main_arg3) = m ((c.tc : Thread Cert.FfnFwdRefIdeal.nD Cert.FfnFwdRefIdeal.τ).loc Cert.FfnFwdRefIdeal.main_arg3)
      ∧ r.2.mem ((c.tc : Thread Cert.FfnFwdRefIdeal.nD Cert.FfnFwdRefIdeal.τ).loc Cert.FfnFwdRefIdeal.main_arg4) = m ((c.tc : Thread Cert.FfnFwdRefIdeal.nD Cert.FfnFwdRefIdeal.τ).loc Cert.FfnFwdRefIdeal.main_arg4)
      ∧ r.2.mem ((c.tc : Thread Cert.FfnFwdRefIdeal.nD Cert.FfnFwdRefIdeal.τ).loc Cert.FfnFwdRefIdeal.main_arg5) = m ((c.tc : Thread Cert.FfnFwdRefIdeal.nD Cert.FfnFwdRefIdeal.τ).loc Cert.FfnFwdRefIdeal.main_arg5)
      ∧ r.2.mem ((c.tc : Thread Cert.FfnFwdRefIdeal.nD Cert.FfnFwdRefIdeal.τ).loc Cert.FfnFwdRefIdeal.main_arg6) = m ((c.tc : Thread Cert.FfnFwdRefIdeal.nD Cert.FfnFwdRefIdeal.τ).loc Cert.FfnFwdRefIdeal.main_arg6))
      ∧ r.2.sem = fun _ => 0)

def quiescent_FfnFwdRefIdeal_pre_finite_ffn_fwd [hFfnFwdRefIdeal : Cert.FfnFwdRefIdeal.Facts] [hPre_finite_ffn_fwd : Cert.Pre_finite_ffn_fwd.Facts] : Prop :=
  ∀ (m : (ℓ : Loc Cert.FfnFwdRefIdeal.nD Cert.FfnFwdRefIdeal.τ Cert.FfnFwdRefIdeal.sig) → Buf (Elt Ideal) ℓ) (g : Dev Cert.FfnFwdRefIdeal.nD → PrngReg), Pre_FfnFwdRefIdeal_finite_ffn_fwd m →
    θ_run (Cert.FfnFwdRefIdeal.defs (F := Ideal)) (onTc (τ := Cert.FfnFwdRefIdeal.τ) (Cert.FfnFwdRefIdeal.main (F := Ideal))) ⟨m, fun _ => 0, g⟩ (fun r => (∀ c : Dev Cert.FfnFwdRefIdeal.nD,
      r.2.mem ((c.tc : Thread Cert.FfnFwdRefIdeal.nD Cert.FfnFwdRefIdeal.τ).loc Cert.FfnFwdRefIdeal.main_arg0) = m ((c.tc : Thread Cert.FfnFwdRefIdeal.nD Cert.FfnFwdRefIdeal.τ).loc Cert.FfnFwdRefIdeal.main_arg0)
      ∧ r.2.mem ((c.tc : Thread Cert.FfnFwdRefIdeal.nD Cert.FfnFwdRefIdeal.τ).loc Cert.FfnFwdRefIdeal.main_arg1) = m ((c.tc : Thread Cert.FfnFwdRefIdeal.nD Cert.FfnFwdRefIdeal.τ).loc Cert.FfnFwdRefIdeal.main_arg1)
      ∧ r.2.mem ((c.tc : Thread Cert.FfnFwdRefIdeal.nD Cert.FfnFwdRefIdeal.τ).loc Cert.FfnFwdRefIdeal.main_arg2) = m ((c.tc : Thread Cert.FfnFwdRefIdeal.nD Cert.FfnFwdRefIdeal.τ).loc Cert.FfnFwdRefIdeal.main_arg2)
      ∧ r.2.mem ((c.tc : Thread Cert.FfnFwdRefIdeal.nD Cert.FfnFwdRefIdeal.τ).loc Cert.FfnFwdRefIdeal.main_arg3) = m ((c.tc : Thread Cert.FfnFwdRefIdeal.nD Cert.FfnFwdRefIdeal.τ).loc Cert.FfnFwdRefIdeal.main_arg3)
      ∧ r.2.mem ((c.tc : Thread Cert.FfnFwdRefIdeal.nD Cert.FfnFwdRefIdeal.τ).loc Cert.FfnFwdRefIdeal.main_arg4) = m ((c.tc : Thread Cert.FfnFwdRefIdeal.nD Cert.FfnFwdRefIdeal.τ).loc Cert.FfnFwdRefIdeal.main_arg4)
      ∧ r.2.mem ((c.tc : Thread Cert.FfnFwdRefIdeal.nD Cert.FfnFwdRefIdeal.τ).loc Cert.FfnFwdRefIdeal.main_arg5) = m ((c.tc : Thread Cert.FfnFwdRefIdeal.nD Cert.FfnFwdRefIdeal.τ).loc Cert.FfnFwdRefIdeal.main_arg5)
      ∧ r.2.mem ((c.tc : Thread Cert.FfnFwdRefIdeal.nD Cert.FfnFwdRefIdeal.τ).loc Cert.FfnFwdRefIdeal.main_arg6) = m ((c.tc : Thread Cert.FfnFwdRefIdeal.nD Cert.FfnFwdRefIdeal.τ).loc Cert.FfnFwdRefIdeal.main_arg6))
      ∧ r.2.sem = fun _ => 0)

def quiescent_GmlpFwd [hGmlpFwd : Cert.GmlpFwd.Facts] : Prop :=
  ∀ (m : (ℓ : Loc Cert.GmlpFwd.nD Cert.GmlpFwd.τ Cert.GmlpFwd.sig) → Buf (Elt Bits) ℓ) (g : Dev Cert.GmlpFwd.nD → PrngReg), Pre_GmlpFwd m →
    θ_run (Cert.GmlpFwd.defs (F := Bits)) (onTc (τ := Cert.GmlpFwd.τ) (Cert.GmlpFwd.main (F := Bits))) ⟨m, fun _ => 0, g⟩ (fun r => (∀ c : Dev Cert.GmlpFwd.nD,
      r.2.mem ((c.tc : Thread Cert.GmlpFwd.nD Cert.GmlpFwd.τ).loc Cert.GmlpFwd.main_arg0) = m ((c.tc : Thread Cert.GmlpFwd.nD Cert.GmlpFwd.τ).loc Cert.GmlpFwd.main_arg0)
      ∧ r.2.mem ((c.tc : Thread Cert.GmlpFwd.nD Cert.GmlpFwd.τ).loc Cert.GmlpFwd.main_arg1) = m ((c.tc : Thread Cert.GmlpFwd.nD Cert.GmlpFwd.τ).loc Cert.GmlpFwd.main_arg1)
      ∧ r.2.mem ((c.tc : Thread Cert.GmlpFwd.nD Cert.GmlpFwd.τ).loc Cert.GmlpFwd.main_arg2) = m ((c.tc : Thread Cert.GmlpFwd.nD Cert.GmlpFwd.τ).loc Cert.GmlpFwd.main_arg2)
      ∧ r.2.mem ((c.tc : Thread Cert.GmlpFwd.nD Cert.GmlpFwd.τ).loc Cert.GmlpFwd.main_arg3) = m ((c.tc : Thread Cert.GmlpFwd.nD Cert.GmlpFwd.τ).loc Cert.GmlpFwd.main_arg3)
      ∧ r.2.mem ((c.tc : Thread Cert.GmlpFwd.nD Cert.GmlpFwd.τ).loc Cert.GmlpFwd.main_arg4) = m ((c.tc : Thread Cert.GmlpFwd.nD Cert.GmlpFwd.τ).loc Cert.GmlpFwd.main_arg4)
      ∧ r.2.mem ((c.tc : Thread Cert.GmlpFwd.nD Cert.GmlpFwd.τ).loc Cert.GmlpFwd.main_arg5) = m ((c.tc : Thread Cert.GmlpFwd.nD Cert.GmlpFwd.τ).loc Cert.GmlpFwd.main_arg5))
      ∧ r.2.sem = fun _ => 0)

def quiescent_GmlpFwdIdeal [hGmlpFwdIdeal : Cert.GmlpFwdIdeal.Facts] : Prop :=
  ∀ (m : (ℓ : Loc Cert.GmlpFwdIdeal.nD Cert.GmlpFwdIdeal.τ Cert.GmlpFwdIdeal.sig) → Buf (Elt Ideal) ℓ) (g : Dev Cert.GmlpFwdIdeal.nD → PrngReg), Pre_GmlpFwdIdeal m →
    θ_run (Cert.GmlpFwdIdeal.defs (F := Ideal)) (onTc (τ := Cert.GmlpFwdIdeal.τ) (Cert.GmlpFwdIdeal.main (F := Ideal))) ⟨m, fun _ => 0, g⟩ (fun r => (∀ c : Dev Cert.GmlpFwdIdeal.nD,
      r.2.mem ((c.tc : Thread Cert.GmlpFwdIdeal.nD Cert.GmlpFwdIdeal.τ).loc Cert.GmlpFwdIdeal.main_arg0) = m ((c.tc : Thread Cert.GmlpFwdIdeal.nD Cert.GmlpFwdIdeal.τ).loc Cert.GmlpFwdIdeal.main_arg0)
      ∧ r.2.mem ((c.tc : Thread Cert.GmlpFwdIdeal.nD Cert.GmlpFwdIdeal.τ).loc Cert.GmlpFwdIdeal.main_arg1) = m ((c.tc : Thread Cert.GmlpFwdIdeal.nD Cert.GmlpFwdIdeal.τ).loc Cert.GmlpFwdIdeal.main_arg1)
      ∧ r.2.mem ((c.tc : Thread Cert.GmlpFwdIdeal.nD Cert.GmlpFwdIdeal.τ).loc Cert.GmlpFwdIdeal.main_arg2) = m ((c.tc : Thread Cert.GmlpFwdIdeal.nD Cert.GmlpFwdIdeal.τ).loc Cert.GmlpFwdIdeal.main_arg2)
      ∧ r.2.mem ((c.tc : Thread Cert.GmlpFwdIdeal.nD Cert.GmlpFwdIdeal.τ).loc Cert.GmlpFwdIdeal.main_arg3) = m ((c.tc : Thread Cert.GmlpFwdIdeal.nD Cert.GmlpFwdIdeal.τ).loc Cert.GmlpFwdIdeal.main_arg3)
      ∧ r.2.mem ((c.tc : Thread Cert.GmlpFwdIdeal.nD Cert.GmlpFwdIdeal.τ).loc Cert.GmlpFwdIdeal.main_arg4) = m ((c.tc : Thread Cert.GmlpFwdIdeal.nD Cert.GmlpFwdIdeal.τ).loc Cert.GmlpFwdIdeal.main_arg4)
      ∧ r.2.mem ((c.tc : Thread Cert.GmlpFwdIdeal.nD Cert.GmlpFwdIdeal.τ).loc Cert.GmlpFwdIdeal.main_arg5) = m ((c.tc : Thread Cert.GmlpFwdIdeal.nD Cert.GmlpFwdIdeal.τ).loc Cert.GmlpFwdIdeal.main_arg5))
      ∧ r.2.sem = fun _ => 0)

def quiescent_GmlpFwdIdeal_pre_finite_gmlp_fwd [hGmlpFwdIdeal : Cert.GmlpFwdIdeal.Facts] [hPre_finite_gmlp_fwd : Cert.Pre_finite_gmlp_fwd.Facts] : Prop :=
  ∀ (m : (ℓ : Loc Cert.GmlpFwdIdeal.nD Cert.GmlpFwdIdeal.τ Cert.GmlpFwdIdeal.sig) → Buf (Elt Ideal) ℓ) (g : Dev Cert.GmlpFwdIdeal.nD → PrngReg), Pre_GmlpFwdIdeal_finite_gmlp_fwd m →
    θ_run (Cert.GmlpFwdIdeal.defs (F := Ideal)) (onTc (τ := Cert.GmlpFwdIdeal.τ) (Cert.GmlpFwdIdeal.main (F := Ideal))) ⟨m, fun _ => 0, g⟩ (fun r => (∀ c : Dev Cert.GmlpFwdIdeal.nD,
      r.2.mem ((c.tc : Thread Cert.GmlpFwdIdeal.nD Cert.GmlpFwdIdeal.τ).loc Cert.GmlpFwdIdeal.main_arg0) = m ((c.tc : Thread Cert.GmlpFwdIdeal.nD Cert.GmlpFwdIdeal.τ).loc Cert.GmlpFwdIdeal.main_arg0)
      ∧ r.2.mem ((c.tc : Thread Cert.GmlpFwdIdeal.nD Cert.GmlpFwdIdeal.τ).loc Cert.GmlpFwdIdeal.main_arg1) = m ((c.tc : Thread Cert.GmlpFwdIdeal.nD Cert.GmlpFwdIdeal.τ).loc Cert.GmlpFwdIdeal.main_arg1)
      ∧ r.2.mem ((c.tc : Thread Cert.GmlpFwdIdeal.nD Cert.GmlpFwdIdeal.τ).loc Cert.GmlpFwdIdeal.main_arg2) = m ((c.tc : Thread Cert.GmlpFwdIdeal.nD Cert.GmlpFwdIdeal.τ).loc Cert.GmlpFwdIdeal.main_arg2)
      ∧ r.2.mem ((c.tc : Thread Cert.GmlpFwdIdeal.nD Cert.GmlpFwdIdeal.τ).loc Cert.GmlpFwdIdeal.main_arg3) = m ((c.tc : Thread Cert.GmlpFwdIdeal.nD Cert.GmlpFwdIdeal.τ).loc Cert.GmlpFwdIdeal.main_arg3)
      ∧ r.2.mem ((c.tc : Thread Cert.GmlpFwdIdeal.nD Cert.GmlpFwdIdeal.τ).loc Cert.GmlpFwdIdeal.main_arg4) = m ((c.tc : Thread Cert.GmlpFwdIdeal.nD Cert.GmlpFwdIdeal.τ).loc Cert.GmlpFwdIdeal.main_arg4)
      ∧ r.2.mem ((c.tc : Thread Cert.GmlpFwdIdeal.nD Cert.GmlpFwdIdeal.τ).loc Cert.GmlpFwdIdeal.main_arg5) = m ((c.tc : Thread Cert.GmlpFwdIdeal.nD Cert.GmlpFwdIdeal.τ).loc Cert.GmlpFwdIdeal.main_arg5))
      ∧ r.2.sem = fun _ => 0)

def quiescent_GmlpFwdRefIdeal [hGmlpFwdRefIdeal : Cert.GmlpFwdRefIdeal.Facts] : Prop :=
  ∀ (m : (ℓ : Loc Cert.GmlpFwdRefIdeal.nD Cert.GmlpFwdRefIdeal.τ Cert.GmlpFwdRefIdeal.sig) → Buf (Elt Ideal) ℓ) (g : Dev Cert.GmlpFwdRefIdeal.nD → PrngReg), Pre_GmlpFwdRefIdeal m →
    θ_run (Cert.GmlpFwdRefIdeal.defs (F := Ideal)) (onTc (τ := Cert.GmlpFwdRefIdeal.τ) (Cert.GmlpFwdRefIdeal.main (F := Ideal))) ⟨m, fun _ => 0, g⟩ (fun r => (∀ c : Dev Cert.GmlpFwdRefIdeal.nD,
      r.2.mem ((c.tc : Thread Cert.GmlpFwdRefIdeal.nD Cert.GmlpFwdRefIdeal.τ).loc Cert.GmlpFwdRefIdeal.main_arg0) = m ((c.tc : Thread Cert.GmlpFwdRefIdeal.nD Cert.GmlpFwdRefIdeal.τ).loc Cert.GmlpFwdRefIdeal.main_arg0)
      ∧ r.2.mem ((c.tc : Thread Cert.GmlpFwdRefIdeal.nD Cert.GmlpFwdRefIdeal.τ).loc Cert.GmlpFwdRefIdeal.main_arg1) = m ((c.tc : Thread Cert.GmlpFwdRefIdeal.nD Cert.GmlpFwdRefIdeal.τ).loc Cert.GmlpFwdRefIdeal.main_arg1)
      ∧ r.2.mem ((c.tc : Thread Cert.GmlpFwdRefIdeal.nD Cert.GmlpFwdRefIdeal.τ).loc Cert.GmlpFwdRefIdeal.main_arg2) = m ((c.tc : Thread Cert.GmlpFwdRefIdeal.nD Cert.GmlpFwdRefIdeal.τ).loc Cert.GmlpFwdRefIdeal.main_arg2)
      ∧ r.2.mem ((c.tc : Thread Cert.GmlpFwdRefIdeal.nD Cert.GmlpFwdRefIdeal.τ).loc Cert.GmlpFwdRefIdeal.main_arg3) = m ((c.tc : Thread Cert.GmlpFwdRefIdeal.nD Cert.GmlpFwdRefIdeal.τ).loc Cert.GmlpFwdRefIdeal.main_arg3)
      ∧ r.2.mem ((c.tc : Thread Cert.GmlpFwdRefIdeal.nD Cert.GmlpFwdRefIdeal.τ).loc Cert.GmlpFwdRefIdeal.main_arg4) = m ((c.tc : Thread Cert.GmlpFwdRefIdeal.nD Cert.GmlpFwdRefIdeal.τ).loc Cert.GmlpFwdRefIdeal.main_arg4)
      ∧ r.2.mem ((c.tc : Thread Cert.GmlpFwdRefIdeal.nD Cert.GmlpFwdRefIdeal.τ).loc Cert.GmlpFwdRefIdeal.main_arg5) = m ((c.tc : Thread Cert.GmlpFwdRefIdeal.nD Cert.GmlpFwdRefIdeal.τ).loc Cert.GmlpFwdRefIdeal.main_arg5))
      ∧ r.2.sem = fun _ => 0)

def quiescent_GmlpFwdRefIdeal_pre_finite_gmlp_fwd [hGmlpFwdRefIdeal : Cert.GmlpFwdRefIdeal.Facts] [hPre_finite_gmlp_fwd : Cert.Pre_finite_gmlp_fwd.Facts] : Prop :=
  ∀ (m : (ℓ : Loc Cert.GmlpFwdRefIdeal.nD Cert.GmlpFwdRefIdeal.τ Cert.GmlpFwdRefIdeal.sig) → Buf (Elt Ideal) ℓ) (g : Dev Cert.GmlpFwdRefIdeal.nD → PrngReg), Pre_GmlpFwdRefIdeal_finite_gmlp_fwd m →
    θ_run (Cert.GmlpFwdRefIdeal.defs (F := Ideal)) (onTc (τ := Cert.GmlpFwdRefIdeal.τ) (Cert.GmlpFwdRefIdeal.main (F := Ideal))) ⟨m, fun _ => 0, g⟩ (fun r => (∀ c : Dev Cert.GmlpFwdRefIdeal.nD,
      r.2.mem ((c.tc : Thread Cert.GmlpFwdRefIdeal.nD Cert.GmlpFwdRefIdeal.τ).loc Cert.GmlpFwdRefIdeal.main_arg0) = m ((c.tc : Thread Cert.GmlpFwdRefIdeal.nD Cert.GmlpFwdRefIdeal.τ).loc Cert.GmlpFwdRefIdeal.main_arg0)
      ∧ r.2.mem ((c.tc : Thread Cert.GmlpFwdRefIdeal.nD Cert.GmlpFwdRefIdeal.τ).loc Cert.GmlpFwdRefIdeal.main_arg1) = m ((c.tc : Thread Cert.GmlpFwdRefIdeal.nD Cert.GmlpFwdRefIdeal.τ).loc Cert.GmlpFwdRefIdeal.main_arg1)
      ∧ r.2.mem ((c.tc : Thread Cert.GmlpFwdRefIdeal.nD Cert.GmlpFwdRefIdeal.τ).loc Cert.GmlpFwdRefIdeal.main_arg2) = m ((c.tc : Thread Cert.GmlpFwdRefIdeal.nD Cert.GmlpFwdRefIdeal.τ).loc Cert.GmlpFwdRefIdeal.main_arg2)
      ∧ r.2.mem ((c.tc : Thread Cert.GmlpFwdRefIdeal.nD Cert.GmlpFwdRefIdeal.τ).loc Cert.GmlpFwdRefIdeal.main_arg3) = m ((c.tc : Thread Cert.GmlpFwdRefIdeal.nD Cert.GmlpFwdRefIdeal.τ).loc Cert.GmlpFwdRefIdeal.main_arg3)
      ∧ r.2.mem ((c.tc : Thread Cert.GmlpFwdRefIdeal.nD Cert.GmlpFwdRefIdeal.τ).loc Cert.GmlpFwdRefIdeal.main_arg4) = m ((c.tc : Thread Cert.GmlpFwdRefIdeal.nD Cert.GmlpFwdRefIdeal.τ).loc Cert.GmlpFwdRefIdeal.main_arg4)
      ∧ r.2.mem ((c.tc : Thread Cert.GmlpFwdRefIdeal.nD Cert.GmlpFwdRefIdeal.τ).loc Cert.GmlpFwdRefIdeal.main_arg5) = m ((c.tc : Thread Cert.GmlpFwdRefIdeal.nD Cert.GmlpFwdRefIdeal.τ).loc Cert.GmlpFwdRefIdeal.main_arg5))
      ∧ r.2.sem = fun _ => 0)

def preserves_LossBwd_LossBwdIdeal : Prop :=
  True

def algebraic_LossBwdIdeal_LossRefIdeal_pre_finite_final [hLossBwdIdeal : Cert.LossBwdIdeal.Facts] [hLossRefIdeal : Cert.LossRefIdeal.Facts] [hPre_finite_final : Cert.Pre_finite_final.Facts] : Prop :=
  ∀ (m : (ℓ : Loc Cert.LossBwdIdeal.nD Cert.LossBwdIdeal.τ Cert.LossBwdIdeal.sig) → Buf (Elt Ideal) ℓ) (g : Dev Cert.LossBwdIdeal.nD → PrngReg)
    (m' : (ℓ : Loc Cert.LossRefIdeal.nD Cert.LossRefIdeal.τ Cert.LossRefIdeal.sig) → Buf (Elt Ideal) ℓ) (g' : Dev Cert.LossRefIdeal.nD → PrngReg), Pre_LossBwdIdeal_finite_final m →
    (∀ c : Dev Cert.LossBwdIdeal.nD,
      m' ((c.tc : Thread Cert.LossRefIdeal.nD Cert.LossRefIdeal.τ).loc Cert.LossRefIdeal.main_arg0) = m ((c.tc : Thread Cert.LossBwdIdeal.nD Cert.LossBwdIdeal.τ).loc Cert.LossBwdIdeal.main_arg0)
      ∧ m' ((c.tc : Thread Cert.LossRefIdeal.nD Cert.LossRefIdeal.τ).loc Cert.LossRefIdeal.main_arg1) = m ((c.tc : Thread Cert.LossBwdIdeal.nD Cert.LossBwdIdeal.τ).loc Cert.LossBwdIdeal.main_arg1)
      ∧ m' ((c.tc : Thread Cert.LossRefIdeal.nD Cert.LossRefIdeal.τ).loc Cert.LossRefIdeal.main_arg2) = m ((c.tc : Thread Cert.LossBwdIdeal.nD Cert.LossBwdIdeal.τ).loc Cert.LossBwdIdeal.main_arg2)) →
    ∃ (v0 : (c : Dev Cert.LossBwdIdeal.nD) → Buf (Elt Ideal) ((c.tc : Thread Cert.LossBwdIdeal.nD Cert.LossBwdIdeal.τ).loc Cert.LossBwdIdeal.main_v3_0)) (v1 : (c : Dev Cert.LossBwdIdeal.nD) → Buf (Elt Ideal) ((c.tc : Thread Cert.LossBwdIdeal.nD Cert.LossBwdIdeal.τ).loc Cert.LossBwdIdeal.main_v3_1)) (v2 : (c : Dev Cert.LossBwdIdeal.nD) → Buf (Elt Ideal) ((c.tc : Thread Cert.LossBwdIdeal.nD Cert.LossBwdIdeal.τ).loc Cert.LossBwdIdeal.main_v3_2)),
      θ_run (Cert.LossBwdIdeal.defs (F := Ideal)) (onTc (τ := Cert.LossBwdIdeal.τ) (Cert.LossBwdIdeal.main (F := Ideal))) ⟨m, fun _ => 0, g⟩ (fun r => ∀ c : Dev Cert.LossBwdIdeal.nD,
          r.2.mem ((c.tc : Thread Cert.LossBwdIdeal.nD Cert.LossBwdIdeal.τ).loc Cert.LossBwdIdeal.main_v3_0) = v0 c
          ∧ r.2.mem ((c.tc : Thread Cert.LossBwdIdeal.nD Cert.LossBwdIdeal.τ).loc Cert.LossBwdIdeal.main_v3_1) = v1 c
          ∧ r.2.mem ((c.tc : Thread Cert.LossBwdIdeal.nD Cert.LossBwdIdeal.τ).loc Cert.LossBwdIdeal.main_v3_2) = v2 c
          ∧ r.2.mem ((c.tc : Thread Cert.LossBwdIdeal.nD Cert.LossBwdIdeal.τ).loc Cert.LossBwdIdeal.main_arg0) = m ((c.tc : Thread Cert.LossBwdIdeal.nD Cert.LossBwdIdeal.τ).loc Cert.LossBwdIdeal.main_arg0)
          ∧ r.2.mem ((c.tc : Thread Cert.LossBwdIdeal.nD Cert.LossBwdIdeal.τ).loc Cert.LossBwdIdeal.main_arg1) = m ((c.tc : Thread Cert.LossBwdIdeal.nD Cert.LossBwdIdeal.τ).loc Cert.LossBwdIdeal.main_arg1)
          ∧ r.2.mem ((c.tc : Thread Cert.LossBwdIdeal.nD Cert.LossBwdIdeal.τ).loc Cert.LossBwdIdeal.main_arg2) = m ((c.tc : Thread Cert.LossBwdIdeal.nD Cert.LossBwdIdeal.τ).loc Cert.LossBwdIdeal.main_arg2))
      ∧ θ_run (Cert.LossRefIdeal.defs (F := Ideal)) (onTc (τ := Cert.LossRefIdeal.τ) (Cert.LossRefIdeal.main (F := Ideal))) ⟨m', fun _ => 0, g'⟩ (fun r => ∀ c : Dev Cert.LossRefIdeal.nD,
          r.2.mem ((c.tc : Thread Cert.LossRefIdeal.nD Cert.LossRefIdeal.τ).loc Cert.LossRefIdeal.main_v51) = v0 c
          ∧ r.2.mem ((c.tc : Thread Cert.LossRefIdeal.nD Cert.LossRefIdeal.τ).loc Cert.LossRefIdeal.main_v52) = v1 c
          ∧ r.2.mem ((c.tc : Thread Cert.LossRefIdeal.nD Cert.LossRefIdeal.τ).loc Cert.LossRefIdeal.main_v53) = v2 c
          ∧ r.2.mem ((c.tc : Thread Cert.LossRefIdeal.nD Cert.LossRefIdeal.τ).loc Cert.LossRefIdeal.main_arg0) = m' ((c.tc : Thread Cert.LossRefIdeal.nD Cert.LossRefIdeal.τ).loc Cert.LossRefIdeal.main_arg0)
          ∧ r.2.mem ((c.tc : Thread Cert.LossRefIdeal.nD Cert.LossRefIdeal.τ).loc Cert.LossRefIdeal.main_arg1) = m' ((c.tc : Thread Cert.LossRefIdeal.nD Cert.LossRefIdeal.τ).loc Cert.LossRefIdeal.main_arg1)
          ∧ r.2.mem ((c.tc : Thread Cert.LossRefIdeal.nD Cert.LossRefIdeal.τ).loc Cert.LossRefIdeal.main_arg2) = m' ((c.tc : Thread Cert.LossRefIdeal.nD Cert.LossRefIdeal.τ).loc Cert.LossRefIdeal.main_arg2))

def preserves_FfnBwd_FfnBwdIdeal : Prop :=
  True

def algebraic_FfnBwdIdeal_FfnRefIdeal_pre_finite_ffn [hFfnBwdIdeal : Cert.FfnBwdIdeal.Facts] [hFfnRefIdeal : Cert.FfnRefIdeal.Facts] [hPre_finite_ffn : Cert.Pre_finite_ffn.Facts] : Prop :=
  ∀ (m : (ℓ : Loc Cert.FfnBwdIdeal.nD Cert.FfnBwdIdeal.τ Cert.FfnBwdIdeal.sig) → Buf (Elt Ideal) ℓ) (g : Dev Cert.FfnBwdIdeal.nD → PrngReg)
    (m' : (ℓ : Loc Cert.FfnRefIdeal.nD Cert.FfnRefIdeal.τ Cert.FfnRefIdeal.sig) → Buf (Elt Ideal) ℓ) (g' : Dev Cert.FfnRefIdeal.nD → PrngReg), Pre_FfnBwdIdeal_finite_ffn m →
    (∀ c : Dev Cert.FfnBwdIdeal.nD,
      m' ((c.tc : Thread Cert.FfnRefIdeal.nD Cert.FfnRefIdeal.τ).loc Cert.FfnRefIdeal.main_arg0) = m ((c.tc : Thread Cert.FfnBwdIdeal.nD Cert.FfnBwdIdeal.τ).loc Cert.FfnBwdIdeal.main_arg0)
      ∧ m' ((c.tc : Thread Cert.FfnRefIdeal.nD Cert.FfnRefIdeal.τ).loc Cert.FfnRefIdeal.main_arg1) = m ((c.tc : Thread Cert.FfnBwdIdeal.nD Cert.FfnBwdIdeal.τ).loc Cert.FfnBwdIdeal.main_arg1)
      ∧ m' ((c.tc : Thread Cert.FfnRefIdeal.nD Cert.FfnRefIdeal.τ).loc Cert.FfnRefIdeal.main_arg2) = m ((c.tc : Thread Cert.FfnBwdIdeal.nD Cert.FfnBwdIdeal.τ).loc Cert.FfnBwdIdeal.main_arg2)
      ∧ m' ((c.tc : Thread Cert.FfnRefIdeal.nD Cert.FfnRefIdeal.τ).loc Cert.FfnRefIdeal.main_arg3) = m ((c.tc : Thread Cert.FfnBwdIdeal.nD Cert.FfnBwdIdeal.τ).loc Cert.FfnBwdIdeal.main_arg3)
      ∧ m' ((c.tc : Thread Cert.FfnRefIdeal.nD Cert.FfnRefIdeal.τ).loc Cert.FfnRefIdeal.main_arg4) = m ((c.tc : Thread Cert.FfnBwdIdeal.nD Cert.FfnBwdIdeal.τ).loc Cert.FfnBwdIdeal.main_arg4)
      ∧ m' ((c.tc : Thread Cert.FfnRefIdeal.nD Cert.FfnRefIdeal.τ).loc Cert.FfnRefIdeal.main_arg5) = m ((c.tc : Thread Cert.FfnBwdIdeal.nD Cert.FfnBwdIdeal.τ).loc Cert.FfnBwdIdeal.main_arg5)
      ∧ m' ((c.tc : Thread Cert.FfnRefIdeal.nD Cert.FfnRefIdeal.τ).loc Cert.FfnRefIdeal.main_arg6) = m ((c.tc : Thread Cert.FfnBwdIdeal.nD Cert.FfnBwdIdeal.τ).loc Cert.FfnBwdIdeal.main_arg6)
      ∧ m' ((c.tc : Thread Cert.FfnRefIdeal.nD Cert.FfnRefIdeal.τ).loc Cert.FfnRefIdeal.main_arg7) = m ((c.tc : Thread Cert.FfnBwdIdeal.nD Cert.FfnBwdIdeal.τ).loc Cert.FfnBwdIdeal.main_arg7)) →
    ∃ (v0 : (c : Dev Cert.FfnBwdIdeal.nD) → Buf (Elt Ideal) ((c.tc : Thread Cert.FfnBwdIdeal.nD Cert.FfnBwdIdeal.τ).loc Cert.FfnBwdIdeal.main_v29_0)) (v1 : (c : Dev Cert.FfnBwdIdeal.nD) → Buf (Elt Ideal) ((c.tc : Thread Cert.FfnBwdIdeal.nD Cert.FfnBwdIdeal.τ).loc Cert.FfnBwdIdeal.main_v29_1)) (v2 : (c : Dev Cert.FfnBwdIdeal.nD) → Buf (Elt Ideal) ((c.tc : Thread Cert.FfnBwdIdeal.nD Cert.FfnBwdIdeal.τ).loc Cert.FfnBwdIdeal.main_v29_2)) (v3 : (c : Dev Cert.FfnBwdIdeal.nD) → Buf (Elt Ideal) ((c.tc : Thread Cert.FfnBwdIdeal.nD Cert.FfnBwdIdeal.τ).loc Cert.FfnBwdIdeal.main_v29_3)) (v4 : (c : Dev Cert.FfnBwdIdeal.nD) → Buf (Elt Ideal) ((c.tc : Thread Cert.FfnBwdIdeal.nD Cert.FfnBwdIdeal.τ).loc Cert.FfnBwdIdeal.main_v29_4)) (v5 : (c : Dev Cert.FfnBwdIdeal.nD) → Buf (Elt Ideal) ((c.tc : Thread Cert.FfnBwdIdeal.nD Cert.FfnBwdIdeal.τ).loc Cert.FfnBwdIdeal.main_v29_5)) (v6 : (c : Dev Cert.FfnBwdIdeal.nD) → Buf (Elt Ideal) ((c.tc : Thread Cert.FfnBwdIdeal.nD Cert.FfnBwdIdeal.τ).loc Cert.FfnBwdIdeal.main_v29_6)),
      θ_run (Cert.FfnBwdIdeal.defs (F := Ideal)) (onTc (τ := Cert.FfnBwdIdeal.τ) (Cert.FfnBwdIdeal.main (F := Ideal))) ⟨m, fun _ => 0, g⟩ (fun r => ∀ c : Dev Cert.FfnBwdIdeal.nD,
          r.2.mem ((c.tc : Thread Cert.FfnBwdIdeal.nD Cert.FfnBwdIdeal.τ).loc Cert.FfnBwdIdeal.main_v29_0) = v0 c
          ∧ r.2.mem ((c.tc : Thread Cert.FfnBwdIdeal.nD Cert.FfnBwdIdeal.τ).loc Cert.FfnBwdIdeal.main_v29_1) = v1 c
          ∧ r.2.mem ((c.tc : Thread Cert.FfnBwdIdeal.nD Cert.FfnBwdIdeal.τ).loc Cert.FfnBwdIdeal.main_v29_2) = v2 c
          ∧ r.2.mem ((c.tc : Thread Cert.FfnBwdIdeal.nD Cert.FfnBwdIdeal.τ).loc Cert.FfnBwdIdeal.main_v29_3) = v3 c
          ∧ r.2.mem ((c.tc : Thread Cert.FfnBwdIdeal.nD Cert.FfnBwdIdeal.τ).loc Cert.FfnBwdIdeal.main_v29_4) = v4 c
          ∧ r.2.mem ((c.tc : Thread Cert.FfnBwdIdeal.nD Cert.FfnBwdIdeal.τ).loc Cert.FfnBwdIdeal.main_v29_5) = v5 c
          ∧ r.2.mem ((c.tc : Thread Cert.FfnBwdIdeal.nD Cert.FfnBwdIdeal.τ).loc Cert.FfnBwdIdeal.main_v29_6) = v6 c
          ∧ r.2.mem ((c.tc : Thread Cert.FfnBwdIdeal.nD Cert.FfnBwdIdeal.τ).loc Cert.FfnBwdIdeal.main_arg0) = m ((c.tc : Thread Cert.FfnBwdIdeal.nD Cert.FfnBwdIdeal.τ).loc Cert.FfnBwdIdeal.main_arg0)
          ∧ r.2.mem ((c.tc : Thread Cert.FfnBwdIdeal.nD Cert.FfnBwdIdeal.τ).loc Cert.FfnBwdIdeal.main_arg1) = m ((c.tc : Thread Cert.FfnBwdIdeal.nD Cert.FfnBwdIdeal.τ).loc Cert.FfnBwdIdeal.main_arg1)
          ∧ r.2.mem ((c.tc : Thread Cert.FfnBwdIdeal.nD Cert.FfnBwdIdeal.τ).loc Cert.FfnBwdIdeal.main_arg2) = m ((c.tc : Thread Cert.FfnBwdIdeal.nD Cert.FfnBwdIdeal.τ).loc Cert.FfnBwdIdeal.main_arg2)
          ∧ r.2.mem ((c.tc : Thread Cert.FfnBwdIdeal.nD Cert.FfnBwdIdeal.τ).loc Cert.FfnBwdIdeal.main_arg3) = m ((c.tc : Thread Cert.FfnBwdIdeal.nD Cert.FfnBwdIdeal.τ).loc Cert.FfnBwdIdeal.main_arg3)
          ∧ r.2.mem ((c.tc : Thread Cert.FfnBwdIdeal.nD Cert.FfnBwdIdeal.τ).loc Cert.FfnBwdIdeal.main_arg4) = m ((c.tc : Thread Cert.FfnBwdIdeal.nD Cert.FfnBwdIdeal.τ).loc Cert.FfnBwdIdeal.main_arg4)
          ∧ r.2.mem ((c.tc : Thread Cert.FfnBwdIdeal.nD Cert.FfnBwdIdeal.τ).loc Cert.FfnBwdIdeal.main_arg5) = m ((c.tc : Thread Cert.FfnBwdIdeal.nD Cert.FfnBwdIdeal.τ).loc Cert.FfnBwdIdeal.main_arg5)
          ∧ r.2.mem ((c.tc : Thread Cert.FfnBwdIdeal.nD Cert.FfnBwdIdeal.τ).loc Cert.FfnBwdIdeal.main_arg6) = m ((c.tc : Thread Cert.FfnBwdIdeal.nD Cert.FfnBwdIdeal.τ).loc Cert.FfnBwdIdeal.main_arg6)
          ∧ r.2.mem ((c.tc : Thread Cert.FfnBwdIdeal.nD Cert.FfnBwdIdeal.τ).loc Cert.FfnBwdIdeal.main_arg7) = m ((c.tc : Thread Cert.FfnBwdIdeal.nD Cert.FfnBwdIdeal.τ).loc Cert.FfnBwdIdeal.main_arg7))
      ∧ θ_run (Cert.FfnRefIdeal.defs (F := Ideal)) (onTc (τ := Cert.FfnRefIdeal.τ) (Cert.FfnRefIdeal.main (F := Ideal))) ⟨m', fun _ => 0, g'⟩ (fun r => ∀ c : Dev Cert.FfnRefIdeal.nD,
          r.2.mem ((c.tc : Thread Cert.FfnRefIdeal.nD Cert.FfnRefIdeal.τ).loc Cert.FfnRefIdeal.main_v61) = v0 c
          ∧ r.2.mem ((c.tc : Thread Cert.FfnRefIdeal.nD Cert.FfnRefIdeal.τ).loc Cert.FfnRefIdeal.main_v63) = v1 c
          ∧ r.2.mem ((c.tc : Thread Cert.FfnRefIdeal.nD Cert.FfnRefIdeal.τ).loc Cert.FfnRefIdeal.main_v65) = v2 c
          ∧ r.2.mem ((c.tc : Thread Cert.FfnRefIdeal.nD Cert.FfnRefIdeal.τ).loc Cert.FfnRefIdeal.main_v66) = v3 c
          ∧ r.2.mem ((c.tc : Thread Cert.FfnRefIdeal.nD Cert.FfnRefIdeal.τ).loc Cert.FfnRefIdeal.main_v67) = v4 c
          ∧ r.2.mem ((c.tc : Thread Cert.FfnRefIdeal.nD Cert.FfnRefIdeal.τ).loc Cert.FfnRefIdeal.main_v69) = v5 c
          ∧ r.2.mem ((c.tc : Thread Cert.FfnRefIdeal.nD Cert.FfnRefIdeal.τ).loc Cert.FfnRefIdeal.main_v71) = v6 c
          ∧ r.2.mem ((c.tc : Thread Cert.FfnRefIdeal.nD Cert.FfnRefIdeal.τ).loc Cert.FfnRefIdeal.main_arg0) = m' ((c.tc : Thread Cert.FfnRefIdeal.nD Cert.FfnRefIdeal.τ).loc Cert.FfnRefIdeal.main_arg0)
          ∧ r.2.mem ((c.tc : Thread Cert.FfnRefIdeal.nD Cert.FfnRefIdeal.τ).loc Cert.FfnRefIdeal.main_arg1) = m' ((c.tc : Thread Cert.FfnRefIdeal.nD Cert.FfnRefIdeal.τ).loc Cert.FfnRefIdeal.main_arg1)
          ∧ r.2.mem ((c.tc : Thread Cert.FfnRefIdeal.nD Cert.FfnRefIdeal.τ).loc Cert.FfnRefIdeal.main_arg2) = m' ((c.tc : Thread Cert.FfnRefIdeal.nD Cert.FfnRefIdeal.τ).loc Cert.FfnRefIdeal.main_arg2)
          ∧ r.2.mem ((c.tc : Thread Cert.FfnRefIdeal.nD Cert.FfnRefIdeal.τ).loc Cert.FfnRefIdeal.main_arg3) = m' ((c.tc : Thread Cert.FfnRefIdeal.nD Cert.FfnRefIdeal.τ).loc Cert.FfnRefIdeal.main_arg3)
          ∧ r.2.mem ((c.tc : Thread Cert.FfnRefIdeal.nD Cert.FfnRefIdeal.τ).loc Cert.FfnRefIdeal.main_arg4) = m' ((c.tc : Thread Cert.FfnRefIdeal.nD Cert.FfnRefIdeal.τ).loc Cert.FfnRefIdeal.main_arg4)
          ∧ r.2.mem ((c.tc : Thread Cert.FfnRefIdeal.nD Cert.FfnRefIdeal.τ).loc Cert.FfnRefIdeal.main_arg5) = m' ((c.tc : Thread Cert.FfnRefIdeal.nD Cert.FfnRefIdeal.τ).loc Cert.FfnRefIdeal.main_arg5)
          ∧ r.2.mem ((c.tc : Thread Cert.FfnRefIdeal.nD Cert.FfnRefIdeal.τ).loc Cert.FfnRefIdeal.main_arg6) = m' ((c.tc : Thread Cert.FfnRefIdeal.nD Cert.FfnRefIdeal.τ).loc Cert.FfnRefIdeal.main_arg6)
          ∧ r.2.mem ((c.tc : Thread Cert.FfnRefIdeal.nD Cert.FfnRefIdeal.τ).loc Cert.FfnRefIdeal.main_arg7) = m' ((c.tc : Thread Cert.FfnRefIdeal.nD Cert.FfnRefIdeal.τ).loc Cert.FfnRefIdeal.main_arg7))

def preserves_ConvBwd_ConvBwdIdeal : Prop :=
  True

def algebraic_ConvBwdIdeal_ConvRefIdeal_pre_finite_conv [hConvBwdIdeal : Cert.ConvBwdIdeal.Facts] [hConvRefIdeal : Cert.ConvRefIdeal.Facts] [hPre_finite_conv : Cert.Pre_finite_conv.Facts] : Prop :=
  ∀ (m : (ℓ : Loc Cert.ConvBwdIdeal.nD Cert.ConvBwdIdeal.τ Cert.ConvBwdIdeal.sig) → Buf (Elt Ideal) ℓ) (g : Dev Cert.ConvBwdIdeal.nD → PrngReg)
    (m' : (ℓ : Loc Cert.ConvRefIdeal.nD Cert.ConvRefIdeal.τ Cert.ConvRefIdeal.sig) → Buf (Elt Ideal) ℓ) (g' : Dev Cert.ConvRefIdeal.nD → PrngReg), Pre_ConvBwdIdeal_finite_conv m →
    (∀ c : Dev Cert.ConvBwdIdeal.nD,
      m' ((c.tc : Thread Cert.ConvRefIdeal.nD Cert.ConvRefIdeal.τ).loc Cert.ConvRefIdeal.main_arg0) = m ((c.tc : Thread Cert.ConvBwdIdeal.nD Cert.ConvBwdIdeal.τ).loc Cert.ConvBwdIdeal.main_arg0)
      ∧ m' ((c.tc : Thread Cert.ConvRefIdeal.nD Cert.ConvRefIdeal.τ).loc Cert.ConvRefIdeal.main_arg1) = m ((c.tc : Thread Cert.ConvBwdIdeal.nD Cert.ConvBwdIdeal.τ).loc Cert.ConvBwdIdeal.main_arg1)
      ∧ m' ((c.tc : Thread Cert.ConvRefIdeal.nD Cert.ConvRefIdeal.τ).loc Cert.ConvRefIdeal.main_arg2) = m ((c.tc : Thread Cert.ConvBwdIdeal.nD Cert.ConvBwdIdeal.τ).loc Cert.ConvBwdIdeal.main_arg2)
      ∧ m' ((c.tc : Thread Cert.ConvRefIdeal.nD Cert.ConvRefIdeal.τ).loc Cert.ConvRefIdeal.main_arg3) = m ((c.tc : Thread Cert.ConvBwdIdeal.nD Cert.ConvBwdIdeal.τ).loc Cert.ConvBwdIdeal.main_arg3)
      ∧ m' ((c.tc : Thread Cert.ConvRefIdeal.nD Cert.ConvRefIdeal.τ).loc Cert.ConvRefIdeal.main_arg4) = m ((c.tc : Thread Cert.ConvBwdIdeal.nD Cert.ConvBwdIdeal.τ).loc Cert.ConvBwdIdeal.main_arg4)
      ∧ m' ((c.tc : Thread Cert.ConvRefIdeal.nD Cert.ConvRefIdeal.τ).loc Cert.ConvRefIdeal.main_arg5) = m ((c.tc : Thread Cert.ConvBwdIdeal.nD Cert.ConvBwdIdeal.τ).loc Cert.ConvBwdIdeal.main_arg5)) →
    ∃ (v0 : (c : Dev Cert.ConvBwdIdeal.nD) → Buf (Elt Ideal) ((c.tc : Thread Cert.ConvBwdIdeal.nD Cert.ConvBwdIdeal.τ).loc Cert.ConvBwdIdeal.main_v23_0)) (v1 : (c : Dev Cert.ConvBwdIdeal.nD) → Buf (Elt Ideal) ((c.tc : Thread Cert.ConvBwdIdeal.nD Cert.ConvBwdIdeal.τ).loc Cert.ConvBwdIdeal.main_v23_1)) (v2 : (c : Dev Cert.ConvBwdIdeal.nD) → Buf (Elt Ideal) ((c.tc : Thread Cert.ConvBwdIdeal.nD Cert.ConvBwdIdeal.τ).loc Cert.ConvBwdIdeal.main_v23_2)) (v3 : (c : Dev Cert.ConvBwdIdeal.nD) → Buf (Elt Ideal) ((c.tc : Thread Cert.ConvBwdIdeal.nD Cert.ConvBwdIdeal.τ).loc Cert.ConvBwdIdeal.main_v23_3)),
      θ_run (Cert.ConvBwdIdeal.defs (F := Ideal)) (onTc (τ := Cert.ConvBwdIdeal.τ) (Cert.ConvBwdIdeal.main (F := Ideal))) ⟨m, fun _ => 0, g⟩ (fun r => ∀ c : Dev Cert.ConvBwdIdeal.nD,
          r.2.mem ((c.tc : Thread Cert.ConvBwdIdeal.nD Cert.ConvBwdIdeal.τ).loc Cert.ConvBwdIdeal.main_v23_0) = v0 c
          ∧ r.2.mem ((c.tc : Thread Cert.ConvBwdIdeal.nD Cert.ConvBwdIdeal.τ).loc Cert.ConvBwdIdeal.main_v23_1) = v1 c
          ∧ r.2.mem ((c.tc : Thread Cert.ConvBwdIdeal.nD Cert.ConvBwdIdeal.τ).loc Cert.ConvBwdIdeal.main_v23_2) = v2 c
          ∧ r.2.mem ((c.tc : Thread Cert.ConvBwdIdeal.nD Cert.ConvBwdIdeal.τ).loc Cert.ConvBwdIdeal.main_v23_3) = v3 c
          ∧ r.2.mem ((c.tc : Thread Cert.ConvBwdIdeal.nD Cert.ConvBwdIdeal.τ).loc Cert.ConvBwdIdeal.main_arg0) = m ((c.tc : Thread Cert.ConvBwdIdeal.nD Cert.ConvBwdIdeal.τ).loc Cert.ConvBwdIdeal.main_arg0)
          ∧ r.2.mem ((c.tc : Thread Cert.ConvBwdIdeal.nD Cert.ConvBwdIdeal.τ).loc Cert.ConvBwdIdeal.main_arg1) = m ((c.tc : Thread Cert.ConvBwdIdeal.nD Cert.ConvBwdIdeal.τ).loc Cert.ConvBwdIdeal.main_arg1)
          ∧ r.2.mem ((c.tc : Thread Cert.ConvBwdIdeal.nD Cert.ConvBwdIdeal.τ).loc Cert.ConvBwdIdeal.main_arg2) = m ((c.tc : Thread Cert.ConvBwdIdeal.nD Cert.ConvBwdIdeal.τ).loc Cert.ConvBwdIdeal.main_arg2)
          ∧ r.2.mem ((c.tc : Thread Cert.ConvBwdIdeal.nD Cert.ConvBwdIdeal.τ).loc Cert.ConvBwdIdeal.main_arg3) = m ((c.tc : Thread Cert.ConvBwdIdeal.nD Cert.ConvBwdIdeal.τ).loc Cert.ConvBwdIdeal.main_arg3)
          ∧ r.2.mem ((c.tc : Thread Cert.ConvBwdIdeal.nD Cert.ConvBwdIdeal.τ).loc Cert.ConvBwdIdeal.main_arg4) = m ((c.tc : Thread Cert.ConvBwdIdeal.nD Cert.ConvBwdIdeal.τ).loc Cert.ConvBwdIdeal.main_arg4)
          ∧ r.2.mem ((c.tc : Thread Cert.ConvBwdIdeal.nD Cert.ConvBwdIdeal.τ).loc Cert.ConvBwdIdeal.main_arg5) = m ((c.tc : Thread Cert.ConvBwdIdeal.nD Cert.ConvBwdIdeal.τ).loc Cert.ConvBwdIdeal.main_arg5))
      ∧ θ_run (Cert.ConvRefIdeal.defs (F := Ideal)) (onTc (τ := Cert.ConvRefIdeal.τ) (Cert.ConvRefIdeal.main (F := Ideal))) ⟨m', fun _ => 0, g'⟩ (fun r => ∀ c : Dev Cert.ConvRefIdeal.nD,
          r.2.mem ((c.tc : Thread Cert.ConvRefIdeal.nD Cert.ConvRefIdeal.τ).loc Cert.ConvRefIdeal.main_v110) = v0 c
          ∧ r.2.mem ((c.tc : Thread Cert.ConvRefIdeal.nD Cert.ConvRefIdeal.τ).loc Cert.ConvRefIdeal.main_v81) = v1 c
          ∧ r.2.mem ((c.tc : Thread Cert.ConvRefIdeal.nD Cert.ConvRefIdeal.τ).loc Cert.ConvRefIdeal.main_v111) = v2 c
          ∧ r.2.mem ((c.tc : Thread Cert.ConvRefIdeal.nD Cert.ConvRefIdeal.τ).loc Cert.ConvRefIdeal.main_v112) = v3 c
          ∧ r.2.mem ((c.tc : Thread Cert.ConvRefIdeal.nD Cert.ConvRefIdeal.τ).loc Cert.ConvRefIdeal.main_arg0) = m' ((c.tc : Thread Cert.ConvRefIdeal.nD Cert.ConvRefIdeal.τ).loc Cert.ConvRefIdeal.main_arg0)
          ∧ r.2.mem ((c.tc : Thread Cert.ConvRefIdeal.nD Cert.ConvRefIdeal.τ).loc Cert.ConvRefIdeal.main_arg1) = m' ((c.tc : Thread Cert.ConvRefIdeal.nD Cert.ConvRefIdeal.τ).loc Cert.ConvRefIdeal.main_arg1)
          ∧ r.2.mem ((c.tc : Thread Cert.ConvRefIdeal.nD Cert.ConvRefIdeal.τ).loc Cert.ConvRefIdeal.main_arg2) = m' ((c.tc : Thread Cert.ConvRefIdeal.nD Cert.ConvRefIdeal.τ).loc Cert.ConvRefIdeal.main_arg2)
          ∧ r.2.mem ((c.tc : Thread Cert.ConvRefIdeal.nD Cert.ConvRefIdeal.τ).loc Cert.ConvRefIdeal.main_arg3) = m' ((c.tc : Thread Cert.ConvRefIdeal.nD Cert.ConvRefIdeal.τ).loc Cert.ConvRefIdeal.main_arg3)
          ∧ r.2.mem ((c.tc : Thread Cert.ConvRefIdeal.nD Cert.ConvRefIdeal.τ).loc Cert.ConvRefIdeal.main_arg4) = m' ((c.tc : Thread Cert.ConvRefIdeal.nD Cert.ConvRefIdeal.τ).loc Cert.ConvRefIdeal.main_arg4)
          ∧ r.2.mem ((c.tc : Thread Cert.ConvRefIdeal.nD Cert.ConvRefIdeal.τ).loc Cert.ConvRefIdeal.main_arg5) = m' ((c.tc : Thread Cert.ConvRefIdeal.nD Cert.ConvRefIdeal.τ).loc Cert.ConvRefIdeal.main_arg5))

def preserves_PoolBwd_PoolBwdIdeal : Prop :=
  True

def algebraic_PoolBwdIdeal_PoolRefIdeal_pre_finite_pool [hPoolBwdIdeal : Cert.PoolBwdIdeal.Facts] [hPoolRefIdeal : Cert.PoolRefIdeal.Facts] [hPre_finite_pool : Cert.Pre_finite_pool.Facts] : Prop :=
  ∀ (m : (ℓ : Loc Cert.PoolBwdIdeal.nD Cert.PoolBwdIdeal.τ Cert.PoolBwdIdeal.sig) → Buf (Elt Ideal) ℓ) (g : Dev Cert.PoolBwdIdeal.nD → PrngReg)
    (m' : (ℓ : Loc Cert.PoolRefIdeal.nD Cert.PoolRefIdeal.τ Cert.PoolRefIdeal.sig) → Buf (Elt Ideal) ℓ) (g' : Dev Cert.PoolRefIdeal.nD → PrngReg), Pre_PoolBwdIdeal_finite_pool m →
    (∀ c : Dev Cert.PoolBwdIdeal.nD,
      m' ((c.tc : Thread Cert.PoolRefIdeal.nD Cert.PoolRefIdeal.τ).loc Cert.PoolRefIdeal.main_arg0) = m ((c.tc : Thread Cert.PoolBwdIdeal.nD Cert.PoolBwdIdeal.τ).loc Cert.PoolBwdIdeal.main_arg0)
      ∧ m' ((c.tc : Thread Cert.PoolRefIdeal.nD Cert.PoolRefIdeal.τ).loc Cert.PoolRefIdeal.main_arg1) = m ((c.tc : Thread Cert.PoolBwdIdeal.nD Cert.PoolBwdIdeal.τ).loc Cert.PoolBwdIdeal.main_arg1)
      ∧ m' ((c.tc : Thread Cert.PoolRefIdeal.nD Cert.PoolRefIdeal.τ).loc Cert.PoolRefIdeal.main_arg2) = m ((c.tc : Thread Cert.PoolBwdIdeal.nD Cert.PoolBwdIdeal.τ).loc Cert.PoolBwdIdeal.main_arg2)
      ∧ m' ((c.tc : Thread Cert.PoolRefIdeal.nD Cert.PoolRefIdeal.τ).loc Cert.PoolRefIdeal.main_arg3) = m ((c.tc : Thread Cert.PoolBwdIdeal.nD Cert.PoolBwdIdeal.τ).loc Cert.PoolBwdIdeal.main_arg3)
      ∧ m' ((c.tc : Thread Cert.PoolRefIdeal.nD Cert.PoolRefIdeal.τ).loc Cert.PoolRefIdeal.main_arg4) = m ((c.tc : Thread Cert.PoolBwdIdeal.nD Cert.PoolBwdIdeal.τ).loc Cert.PoolBwdIdeal.main_arg4)
      ∧ m' ((c.tc : Thread Cert.PoolRefIdeal.nD Cert.PoolRefIdeal.τ).loc Cert.PoolRefIdeal.main_arg5) = m ((c.tc : Thread Cert.PoolBwdIdeal.nD Cert.PoolBwdIdeal.τ).loc Cert.PoolBwdIdeal.main_arg5)
      ∧ m' ((c.tc : Thread Cert.PoolRefIdeal.nD Cert.PoolRefIdeal.τ).loc Cert.PoolRefIdeal.main_arg6) = m ((c.tc : Thread Cert.PoolBwdIdeal.nD Cert.PoolBwdIdeal.τ).loc Cert.PoolBwdIdeal.main_arg6)) →
    ∃ (v0 : (c : Dev Cert.PoolBwdIdeal.nD) → Buf (Elt Ideal) ((c.tc : Thread Cert.PoolBwdIdeal.nD Cert.PoolBwdIdeal.τ).loc Cert.PoolBwdIdeal.main_v26_0)) (v1 : (c : Dev Cert.PoolBwdIdeal.nD) → Buf (Elt Ideal) ((c.tc : Thread Cert.PoolBwdIdeal.nD Cert.PoolBwdIdeal.τ).loc Cert.PoolBwdIdeal.main_v26_1)) (v2 : (c : Dev Cert.PoolBwdIdeal.nD) → Buf (Elt Ideal) ((c.tc : Thread Cert.PoolBwdIdeal.nD Cert.PoolBwdIdeal.τ).loc Cert.PoolBwdIdeal.main_v26_2)) (v3 : (c : Dev Cert.PoolBwdIdeal.nD) → Buf (Elt Ideal) ((c.tc : Thread Cert.PoolBwdIdeal.nD Cert.PoolBwdIdeal.τ).loc Cert.PoolBwdIdeal.main_v26_3)) (v4 : (c : Dev Cert.PoolBwdIdeal.nD) → Buf (Elt Ideal) ((c.tc : Thread Cert.PoolBwdIdeal.nD Cert.PoolBwdIdeal.τ).loc Cert.PoolBwdIdeal.main_v26_4)),
      θ_run (Cert.PoolBwdIdeal.defs (F := Ideal)) (onTc (τ := Cert.PoolBwdIdeal.τ) (Cert.PoolBwdIdeal.main (F := Ideal))) ⟨m, fun _ => 0, g⟩ (fun r => ∀ c : Dev Cert.PoolBwdIdeal.nD,
          r.2.mem ((c.tc : Thread Cert.PoolBwdIdeal.nD Cert.PoolBwdIdeal.τ).loc Cert.PoolBwdIdeal.main_v26_0) = v0 c
          ∧ r.2.mem ((c.tc : Thread Cert.PoolBwdIdeal.nD Cert.PoolBwdIdeal.τ).loc Cert.PoolBwdIdeal.main_v26_1) = v1 c
          ∧ r.2.mem ((c.tc : Thread Cert.PoolBwdIdeal.nD Cert.PoolBwdIdeal.τ).loc Cert.PoolBwdIdeal.main_v26_2) = v2 c
          ∧ r.2.mem ((c.tc : Thread Cert.PoolBwdIdeal.nD Cert.PoolBwdIdeal.τ).loc Cert.PoolBwdIdeal.main_v26_3) = v3 c
          ∧ r.2.mem ((c.tc : Thread Cert.PoolBwdIdeal.nD Cert.PoolBwdIdeal.τ).loc Cert.PoolBwdIdeal.main_v26_4) = v4 c
          ∧ r.2.mem ((c.tc : Thread Cert.PoolBwdIdeal.nD Cert.PoolBwdIdeal.τ).loc Cert.PoolBwdIdeal.main_arg0) = m ((c.tc : Thread Cert.PoolBwdIdeal.nD Cert.PoolBwdIdeal.τ).loc Cert.PoolBwdIdeal.main_arg0)
          ∧ r.2.mem ((c.tc : Thread Cert.PoolBwdIdeal.nD Cert.PoolBwdIdeal.τ).loc Cert.PoolBwdIdeal.main_arg1) = m ((c.tc : Thread Cert.PoolBwdIdeal.nD Cert.PoolBwdIdeal.τ).loc Cert.PoolBwdIdeal.main_arg1)
          ∧ r.2.mem ((c.tc : Thread Cert.PoolBwdIdeal.nD Cert.PoolBwdIdeal.τ).loc Cert.PoolBwdIdeal.main_arg2) = m ((c.tc : Thread Cert.PoolBwdIdeal.nD Cert.PoolBwdIdeal.τ).loc Cert.PoolBwdIdeal.main_arg2)
          ∧ r.2.mem ((c.tc : Thread Cert.PoolBwdIdeal.nD Cert.PoolBwdIdeal.τ).loc Cert.PoolBwdIdeal.main_arg3) = m ((c.tc : Thread Cert.PoolBwdIdeal.nD Cert.PoolBwdIdeal.τ).loc Cert.PoolBwdIdeal.main_arg3)
          ∧ r.2.mem ((c.tc : Thread Cert.PoolBwdIdeal.nD Cert.PoolBwdIdeal.τ).loc Cert.PoolBwdIdeal.main_arg4) = m ((c.tc : Thread Cert.PoolBwdIdeal.nD Cert.PoolBwdIdeal.τ).loc Cert.PoolBwdIdeal.main_arg4)
          ∧ r.2.mem ((c.tc : Thread Cert.PoolBwdIdeal.nD Cert.PoolBwdIdeal.τ).loc Cert.PoolBwdIdeal.main_arg5) = m ((c.tc : Thread Cert.PoolBwdIdeal.nD Cert.PoolBwdIdeal.τ).loc Cert.PoolBwdIdeal.main_arg5)
          ∧ r.2.mem ((c.tc : Thread Cert.PoolBwdIdeal.nD Cert.PoolBwdIdeal.τ).loc Cert.PoolBwdIdeal.main_arg6) = m ((c.tc : Thread Cert.PoolBwdIdeal.nD Cert.PoolBwdIdeal.τ).loc Cert.PoolBwdIdeal.main_arg6))
      ∧ θ_run (Cert.PoolRefIdeal.defs (F := Ideal)) (onTc (τ := Cert.PoolRefIdeal.τ) (Cert.PoolRefIdeal.main (F := Ideal))) ⟨m', fun _ => 0, g'⟩ (fun r => ∀ c : Dev Cert.PoolRefIdeal.nD,
          r.2.mem ((c.tc : Thread Cert.PoolRefIdeal.nD Cert.PoolRefIdeal.τ).loc Cert.PoolRefIdeal.main_v196) = v0 c
          ∧ r.2.mem ((c.tc : Thread Cert.PoolRefIdeal.nD Cert.PoolRefIdeal.τ).loc Cert.PoolRefIdeal.main_v197) = v1 c
          ∧ r.2.mem ((c.tc : Thread Cert.PoolRefIdeal.nD Cert.PoolRefIdeal.τ).loc Cert.PoolRefIdeal.main_v107) = v2 c
          ∧ r.2.mem ((c.tc : Thread Cert.PoolRefIdeal.nD Cert.PoolRefIdeal.τ).loc Cert.PoolRefIdeal.main_v198) = v3 c
          ∧ r.2.mem ((c.tc : Thread Cert.PoolRefIdeal.nD Cert.PoolRefIdeal.τ).loc Cert.PoolRefIdeal.main_v199) = v4 c
          ∧ r.2.mem ((c.tc : Thread Cert.PoolRefIdeal.nD Cert.PoolRefIdeal.τ).loc Cert.PoolRefIdeal.main_arg0) = m' ((c.tc : Thread Cert.PoolRefIdeal.nD Cert.PoolRefIdeal.τ).loc Cert.PoolRefIdeal.main_arg0)
          ∧ r.2.mem ((c.tc : Thread Cert.PoolRefIdeal.nD Cert.PoolRefIdeal.τ).loc Cert.PoolRefIdeal.main_arg1) = m' ((c.tc : Thread Cert.PoolRefIdeal.nD Cert.PoolRefIdeal.τ).loc Cert.PoolRefIdeal.main_arg1)
          ∧ r.2.mem ((c.tc : Thread Cert.PoolRefIdeal.nD Cert.PoolRefIdeal.τ).loc Cert.PoolRefIdeal.main_arg2) = m' ((c.tc : Thread Cert.PoolRefIdeal.nD Cert.PoolRefIdeal.τ).loc Cert.PoolRefIdeal.main_arg2)
          ∧ r.2.mem ((c.tc : Thread Cert.PoolRefIdeal.nD Cert.PoolRefIdeal.τ).loc Cert.PoolRefIdeal.main_arg3) = m' ((c.tc : Thread Cert.PoolRefIdeal.nD Cert.PoolRefIdeal.τ).loc Cert.PoolRefIdeal.main_arg3)
          ∧ r.2.mem ((c.tc : Thread Cert.PoolRefIdeal.nD Cert.PoolRefIdeal.τ).loc Cert.PoolRefIdeal.main_arg4) = m' ((c.tc : Thread Cert.PoolRefIdeal.nD Cert.PoolRefIdeal.τ).loc Cert.PoolRefIdeal.main_arg4)
          ∧ r.2.mem ((c.tc : Thread Cert.PoolRefIdeal.nD Cert.PoolRefIdeal.τ).loc Cert.PoolRefIdeal.main_arg5) = m' ((c.tc : Thread Cert.PoolRefIdeal.nD Cert.PoolRefIdeal.τ).loc Cert.PoolRefIdeal.main_arg5)
          ∧ r.2.mem ((c.tc : Thread Cert.PoolRefIdeal.nD Cert.PoolRefIdeal.τ).loc Cert.PoolRefIdeal.main_arg6) = m' ((c.tc : Thread Cert.PoolRefIdeal.nD Cert.PoolRefIdeal.τ).loc Cert.PoolRefIdeal.main_arg6))

def preserves_GmlpBwd_GmlpBwdIdeal : Prop :=
  IdealRules.named_const.Statement Cert.GmlpBwdIdeal.κ "root_half" .f32 0x3F3504F3#32 (((Real.sqrt 2)⁻¹ : ℝ) : EReal)
  ∧ IdealRules.named_const.Statement Cert.GmlpBwdIdeal.κ "density" .f32 0x3ECC422A#32 (((9465531 / 16777216) * (Real.sqrt 2)⁻¹ : ℝ) : EReal)

def algebraic_GmlpBwdIdeal_GmlpRefIdeal_pre_finite_gmlp [hGmlpBwdIdeal : Cert.GmlpBwdIdeal.Facts] [hGmlpRefIdeal : Cert.GmlpRefIdeal.Facts] [hPre_finite_gmlp : Cert.Pre_finite_gmlp.Facts] : Prop :=
  ∀ (m : (ℓ : Loc Cert.GmlpBwdIdeal.nD Cert.GmlpBwdIdeal.τ Cert.GmlpBwdIdeal.sig) → Buf (Elt Ideal) ℓ) (g : Dev Cert.GmlpBwdIdeal.nD → PrngReg)
    (m' : (ℓ : Loc Cert.GmlpRefIdeal.nD Cert.GmlpRefIdeal.τ Cert.GmlpRefIdeal.sig) → Buf (Elt Ideal) ℓ) (g' : Dev Cert.GmlpRefIdeal.nD → PrngReg), Pre_GmlpBwdIdeal_finite_gmlp m →
    (∀ c : Dev Cert.GmlpBwdIdeal.nD,
      m' ((c.tc : Thread Cert.GmlpRefIdeal.nD Cert.GmlpRefIdeal.τ).loc Cert.GmlpRefIdeal.main_arg0) = m ((c.tc : Thread Cert.GmlpBwdIdeal.nD Cert.GmlpBwdIdeal.τ).loc Cert.GmlpBwdIdeal.main_arg0)
      ∧ m' ((c.tc : Thread Cert.GmlpRefIdeal.nD Cert.GmlpRefIdeal.τ).loc Cert.GmlpRefIdeal.main_arg1) = m ((c.tc : Thread Cert.GmlpBwdIdeal.nD Cert.GmlpBwdIdeal.τ).loc Cert.GmlpBwdIdeal.main_arg1)
      ∧ m' ((c.tc : Thread Cert.GmlpRefIdeal.nD Cert.GmlpRefIdeal.τ).loc Cert.GmlpRefIdeal.main_arg2) = m ((c.tc : Thread Cert.GmlpBwdIdeal.nD Cert.GmlpBwdIdeal.τ).loc Cert.GmlpBwdIdeal.main_arg2)
      ∧ m' ((c.tc : Thread Cert.GmlpRefIdeal.nD Cert.GmlpRefIdeal.τ).loc Cert.GmlpRefIdeal.main_arg3) = m ((c.tc : Thread Cert.GmlpBwdIdeal.nD Cert.GmlpBwdIdeal.τ).loc Cert.GmlpBwdIdeal.main_arg3)
      ∧ m' ((c.tc : Thread Cert.GmlpRefIdeal.nD Cert.GmlpRefIdeal.τ).loc Cert.GmlpRefIdeal.main_arg4) = m ((c.tc : Thread Cert.GmlpBwdIdeal.nD Cert.GmlpBwdIdeal.τ).loc Cert.GmlpBwdIdeal.main_arg4)
      ∧ m' ((c.tc : Thread Cert.GmlpRefIdeal.nD Cert.GmlpRefIdeal.τ).loc Cert.GmlpRefIdeal.main_arg5) = m ((c.tc : Thread Cert.GmlpBwdIdeal.nD Cert.GmlpBwdIdeal.τ).loc Cert.GmlpBwdIdeal.main_arg5)
      ∧ m' ((c.tc : Thread Cert.GmlpRefIdeal.nD Cert.GmlpRefIdeal.τ).loc Cert.GmlpRefIdeal.main_arg6) = m ((c.tc : Thread Cert.GmlpBwdIdeal.nD Cert.GmlpBwdIdeal.τ).loc Cert.GmlpBwdIdeal.main_arg6)
      ∧ m' ((c.tc : Thread Cert.GmlpRefIdeal.nD Cert.GmlpRefIdeal.τ).loc Cert.GmlpRefIdeal.main_arg7) = m ((c.tc : Thread Cert.GmlpBwdIdeal.nD Cert.GmlpBwdIdeal.τ).loc Cert.GmlpBwdIdeal.main_arg7)) →
    ∃ (v0 : (c : Dev Cert.GmlpBwdIdeal.nD) → Buf (Elt Ideal) ((c.tc : Thread Cert.GmlpBwdIdeal.nD Cert.GmlpBwdIdeal.τ).loc Cert.GmlpBwdIdeal.main_v37_0)) (v1 : (c : Dev Cert.GmlpBwdIdeal.nD) → Buf (Elt Ideal) ((c.tc : Thread Cert.GmlpBwdIdeal.nD Cert.GmlpBwdIdeal.τ).loc Cert.GmlpBwdIdeal.main_v37_1)) (v2 : (c : Dev Cert.GmlpBwdIdeal.nD) → Buf (Elt Ideal) ((c.tc : Thread Cert.GmlpBwdIdeal.nD Cert.GmlpBwdIdeal.τ).loc Cert.GmlpBwdIdeal.main_v37_2)) (v3 : (c : Dev Cert.GmlpBwdIdeal.nD) → Buf (Elt Ideal) ((c.tc : Thread Cert.GmlpBwdIdeal.nD Cert.GmlpBwdIdeal.τ).loc Cert.GmlpBwdIdeal.main_v37_3)) (v4 : (c : Dev Cert.GmlpBwdIdeal.nD) → Buf (Elt Ideal) ((c.tc : Thread Cert.GmlpBwdIdeal.nD Cert.GmlpBwdIdeal.τ).loc Cert.GmlpBwdIdeal.main_v37_4)) (v5 : (c : Dev Cert.GmlpBwdIdeal.nD) → Buf (Elt Ideal) ((c.tc : Thread Cert.GmlpBwdIdeal.nD Cert.GmlpBwdIdeal.τ).loc Cert.GmlpBwdIdeal.main_v37_5)),
      θ_run (Cert.GmlpBwdIdeal.defs (F := Ideal)) (onTc (τ := Cert.GmlpBwdIdeal.τ) (Cert.GmlpBwdIdeal.main (F := Ideal))) ⟨m, fun _ => 0, g⟩ (fun r => ∀ c : Dev Cert.GmlpBwdIdeal.nD,
          r.2.mem ((c.tc : Thread Cert.GmlpBwdIdeal.nD Cert.GmlpBwdIdeal.τ).loc Cert.GmlpBwdIdeal.main_v37_0) = v0 c
          ∧ r.2.mem ((c.tc : Thread Cert.GmlpBwdIdeal.nD Cert.GmlpBwdIdeal.τ).loc Cert.GmlpBwdIdeal.main_v37_1) = v1 c
          ∧ r.2.mem ((c.tc : Thread Cert.GmlpBwdIdeal.nD Cert.GmlpBwdIdeal.τ).loc Cert.GmlpBwdIdeal.main_v37_2) = v2 c
          ∧ r.2.mem ((c.tc : Thread Cert.GmlpBwdIdeal.nD Cert.GmlpBwdIdeal.τ).loc Cert.GmlpBwdIdeal.main_v37_3) = v3 c
          ∧ r.2.mem ((c.tc : Thread Cert.GmlpBwdIdeal.nD Cert.GmlpBwdIdeal.τ).loc Cert.GmlpBwdIdeal.main_v37_4) = v4 c
          ∧ r.2.mem ((c.tc : Thread Cert.GmlpBwdIdeal.nD Cert.GmlpBwdIdeal.τ).loc Cert.GmlpBwdIdeal.main_v37_5) = v5 c
          ∧ r.2.mem ((c.tc : Thread Cert.GmlpBwdIdeal.nD Cert.GmlpBwdIdeal.τ).loc Cert.GmlpBwdIdeal.main_arg0) = m ((c.tc : Thread Cert.GmlpBwdIdeal.nD Cert.GmlpBwdIdeal.τ).loc Cert.GmlpBwdIdeal.main_arg0)
          ∧ r.2.mem ((c.tc : Thread Cert.GmlpBwdIdeal.nD Cert.GmlpBwdIdeal.τ).loc Cert.GmlpBwdIdeal.main_arg1) = m ((c.tc : Thread Cert.GmlpBwdIdeal.nD Cert.GmlpBwdIdeal.τ).loc Cert.GmlpBwdIdeal.main_arg1)
          ∧ r.2.mem ((c.tc : Thread Cert.GmlpBwdIdeal.nD Cert.GmlpBwdIdeal.τ).loc Cert.GmlpBwdIdeal.main_arg2) = m ((c.tc : Thread Cert.GmlpBwdIdeal.nD Cert.GmlpBwdIdeal.τ).loc Cert.GmlpBwdIdeal.main_arg2)
          ∧ r.2.mem ((c.tc : Thread Cert.GmlpBwdIdeal.nD Cert.GmlpBwdIdeal.τ).loc Cert.GmlpBwdIdeal.main_arg3) = m ((c.tc : Thread Cert.GmlpBwdIdeal.nD Cert.GmlpBwdIdeal.τ).loc Cert.GmlpBwdIdeal.main_arg3)
          ∧ r.2.mem ((c.tc : Thread Cert.GmlpBwdIdeal.nD Cert.GmlpBwdIdeal.τ).loc Cert.GmlpBwdIdeal.main_arg4) = m ((c.tc : Thread Cert.GmlpBwdIdeal.nD Cert.GmlpBwdIdeal.τ).loc Cert.GmlpBwdIdeal.main_arg4)
          ∧ r.2.mem ((c.tc : Thread Cert.GmlpBwdIdeal.nD Cert.GmlpBwdIdeal.τ).loc Cert.GmlpBwdIdeal.main_arg5) = m ((c.tc : Thread Cert.GmlpBwdIdeal.nD Cert.GmlpBwdIdeal.τ).loc Cert.GmlpBwdIdeal.main_arg5)
          ∧ r.2.mem ((c.tc : Thread Cert.GmlpBwdIdeal.nD Cert.GmlpBwdIdeal.τ).loc Cert.GmlpBwdIdeal.main_arg6) = m ((c.tc : Thread Cert.GmlpBwdIdeal.nD Cert.GmlpBwdIdeal.τ).loc Cert.GmlpBwdIdeal.main_arg6)
          ∧ r.2.mem ((c.tc : Thread Cert.GmlpBwdIdeal.nD Cert.GmlpBwdIdeal.τ).loc Cert.GmlpBwdIdeal.main_arg7) = m ((c.tc : Thread Cert.GmlpBwdIdeal.nD Cert.GmlpBwdIdeal.τ).loc Cert.GmlpBwdIdeal.main_arg7))
      ∧ θ_run (Cert.GmlpRefIdeal.defs (F := Ideal)) (onTc (τ := Cert.GmlpRefIdeal.τ) (Cert.GmlpRefIdeal.main (F := Ideal))) ⟨m', fun _ => 0, g'⟩ (fun r => ∀ c : Dev Cert.GmlpRefIdeal.nD,
          r.2.mem ((c.tc : Thread Cert.GmlpRefIdeal.nD Cert.GmlpRefIdeal.τ).loc Cert.GmlpRefIdeal.main_v156) = v0 c
          ∧ r.2.mem ((c.tc : Thread Cert.GmlpRefIdeal.nD Cert.GmlpRefIdeal.τ).loc Cert.GmlpRefIdeal.main_v157) = v1 c
          ∧ r.2.mem ((c.tc : Thread Cert.GmlpRefIdeal.nD Cert.GmlpRefIdeal.τ).loc Cert.GmlpRefIdeal.main_v87) = v2 c
          ∧ r.2.mem ((c.tc : Thread Cert.GmlpRefIdeal.nD Cert.GmlpRefIdeal.τ).loc Cert.GmlpRefIdeal.main_v158) = v3 c
          ∧ r.2.mem ((c.tc : Thread Cert.GmlpRefIdeal.nD Cert.GmlpRefIdeal.τ).loc Cert.GmlpRefIdeal.main_v159) = v4 c
          ∧ r.2.mem ((c.tc : Thread Cert.GmlpRefIdeal.nD Cert.GmlpRefIdeal.τ).loc Cert.GmlpRefIdeal.main_v160) = v5 c
          ∧ r.2.mem ((c.tc : Thread Cert.GmlpRefIdeal.nD Cert.GmlpRefIdeal.τ).loc Cert.GmlpRefIdeal.main_arg0) = m' ((c.tc : Thread Cert.GmlpRefIdeal.nD Cert.GmlpRefIdeal.τ).loc Cert.GmlpRefIdeal.main_arg0)
          ∧ r.2.mem ((c.tc : Thread Cert.GmlpRefIdeal.nD Cert.GmlpRefIdeal.τ).loc Cert.GmlpRefIdeal.main_arg1) = m' ((c.tc : Thread Cert.GmlpRefIdeal.nD Cert.GmlpRefIdeal.τ).loc Cert.GmlpRefIdeal.main_arg1)
          ∧ r.2.mem ((c.tc : Thread Cert.GmlpRefIdeal.nD Cert.GmlpRefIdeal.τ).loc Cert.GmlpRefIdeal.main_arg2) = m' ((c.tc : Thread Cert.GmlpRefIdeal.nD Cert.GmlpRefIdeal.τ).loc Cert.GmlpRefIdeal.main_arg2)
          ∧ r.2.mem ((c.tc : Thread Cert.GmlpRefIdeal.nD Cert.GmlpRefIdeal.τ).loc Cert.GmlpRefIdeal.main_arg3) = m' ((c.tc : Thread Cert.GmlpRefIdeal.nD Cert.GmlpRefIdeal.τ).loc Cert.GmlpRefIdeal.main_arg3)
          ∧ r.2.mem ((c.tc : Thread Cert.GmlpRefIdeal.nD Cert.GmlpRefIdeal.τ).loc Cert.GmlpRefIdeal.main_arg4) = m' ((c.tc : Thread Cert.GmlpRefIdeal.nD Cert.GmlpRefIdeal.τ).loc Cert.GmlpRefIdeal.main_arg4)
          ∧ r.2.mem ((c.tc : Thread Cert.GmlpRefIdeal.nD Cert.GmlpRefIdeal.τ).loc Cert.GmlpRefIdeal.main_arg5) = m' ((c.tc : Thread Cert.GmlpRefIdeal.nD Cert.GmlpRefIdeal.τ).loc Cert.GmlpRefIdeal.main_arg5)
          ∧ r.2.mem ((c.tc : Thread Cert.GmlpRefIdeal.nD Cert.GmlpRefIdeal.τ).loc Cert.GmlpRefIdeal.main_arg6) = m' ((c.tc : Thread Cert.GmlpRefIdeal.nD Cert.GmlpRefIdeal.τ).loc Cert.GmlpRefIdeal.main_arg6)
          ∧ r.2.mem ((c.tc : Thread Cert.GmlpRefIdeal.nD Cert.GmlpRefIdeal.τ).loc Cert.GmlpRefIdeal.main_arg7) = m' ((c.tc : Thread Cert.GmlpRefIdeal.nD Cert.GmlpRefIdeal.τ).loc Cert.GmlpRefIdeal.main_arg7))

def preserves_FfnFwd_FfnFwdIdeal : Prop :=
  True

def algebraic_FfnFwdIdeal_FfnFwdRefIdeal_pre_finite_ffn_fwd [hFfnFwdIdeal : Cert.FfnFwdIdeal.Facts] [hFfnFwdRefIdeal : Cert.FfnFwdRefIdeal.Facts] [hPre_finite_ffn_fwd : Cert.Pre_finite_ffn_fwd.Facts] : Prop :=
  ∀ (m : (ℓ : Loc Cert.FfnFwdIdeal.nD Cert.FfnFwdIdeal.τ Cert.FfnFwdIdeal.sig) → Buf (Elt Ideal) ℓ) (g : Dev Cert.FfnFwdIdeal.nD → PrngReg)
    (m' : (ℓ : Loc Cert.FfnFwdRefIdeal.nD Cert.FfnFwdRefIdeal.τ Cert.FfnFwdRefIdeal.sig) → Buf (Elt Ideal) ℓ) (g' : Dev Cert.FfnFwdRefIdeal.nD → PrngReg), Pre_FfnFwdIdeal_finite_ffn_fwd m →
    (∀ c : Dev Cert.FfnFwdIdeal.nD,
      m' ((c.tc : Thread Cert.FfnFwdRefIdeal.nD Cert.FfnFwdRefIdeal.τ).loc Cert.FfnFwdRefIdeal.main_arg0) = m ((c.tc : Thread Cert.FfnFwdIdeal.nD Cert.FfnFwdIdeal.τ).loc Cert.FfnFwdIdeal.main_arg0)
      ∧ m' ((c.tc : Thread Cert.FfnFwdRefIdeal.nD Cert.FfnFwdRefIdeal.τ).loc Cert.FfnFwdRefIdeal.main_arg1) = m ((c.tc : Thread Cert.FfnFwdIdeal.nD Cert.FfnFwdIdeal.τ).loc Cert.FfnFwdIdeal.main_arg1)
      ∧ m' ((c.tc : Thread Cert.FfnFwdRefIdeal.nD Cert.FfnFwdRefIdeal.τ).loc Cert.FfnFwdRefIdeal.main_arg2) = m ((c.tc : Thread Cert.FfnFwdIdeal.nD Cert.FfnFwdIdeal.τ).loc Cert.FfnFwdIdeal.main_arg2)
      ∧ m' ((c.tc : Thread Cert.FfnFwdRefIdeal.nD Cert.FfnFwdRefIdeal.τ).loc Cert.FfnFwdRefIdeal.main_arg3) = m ((c.tc : Thread Cert.FfnFwdIdeal.nD Cert.FfnFwdIdeal.τ).loc Cert.FfnFwdIdeal.main_arg3)
      ∧ m' ((c.tc : Thread Cert.FfnFwdRefIdeal.nD Cert.FfnFwdRefIdeal.τ).loc Cert.FfnFwdRefIdeal.main_arg4) = m ((c.tc : Thread Cert.FfnFwdIdeal.nD Cert.FfnFwdIdeal.τ).loc Cert.FfnFwdIdeal.main_arg4)
      ∧ m' ((c.tc : Thread Cert.FfnFwdRefIdeal.nD Cert.FfnFwdRefIdeal.τ).loc Cert.FfnFwdRefIdeal.main_arg5) = m ((c.tc : Thread Cert.FfnFwdIdeal.nD Cert.FfnFwdIdeal.τ).loc Cert.FfnFwdIdeal.main_arg5)
      ∧ m' ((c.tc : Thread Cert.FfnFwdRefIdeal.nD Cert.FfnFwdRefIdeal.τ).loc Cert.FfnFwdRefIdeal.main_arg6) = m ((c.tc : Thread Cert.FfnFwdIdeal.nD Cert.FfnFwdIdeal.τ).loc Cert.FfnFwdIdeal.main_arg6)) →
    ∃ (v0 : (c : Dev Cert.FfnFwdIdeal.nD) → Buf (Elt Ideal) ((c.tc : Thread Cert.FfnFwdIdeal.nD Cert.FfnFwdIdeal.τ).loc Cert.FfnFwdIdeal.main_v10_0)) (v1 : (c : Dev Cert.FfnFwdIdeal.nD) → Buf (Elt Ideal) ((c.tc : Thread Cert.FfnFwdIdeal.nD Cert.FfnFwdIdeal.τ).loc Cert.FfnFwdIdeal.main_v10_1)) (v2 : (c : Dev Cert.FfnFwdIdeal.nD) → Buf (Elt Ideal) ((c.tc : Thread Cert.FfnFwdIdeal.nD Cert.FfnFwdIdeal.τ).loc Cert.FfnFwdIdeal.main_v10_2)) (v3 : (c : Dev Cert.FfnFwdIdeal.nD) → Buf (Elt Ideal) ((c.tc : Thread Cert.FfnFwdIdeal.nD Cert.FfnFwdIdeal.τ).loc Cert.FfnFwdIdeal.main_v10_3)) (v4 : (c : Dev Cert.FfnFwdIdeal.nD) → Buf (Elt Ideal) ((c.tc : Thread Cert.FfnFwdIdeal.nD Cert.FfnFwdIdeal.τ).loc Cert.FfnFwdIdeal.main_v10_4)) (v5 : (c : Dev Cert.FfnFwdIdeal.nD) → Buf (Elt Ideal) ((c.tc : Thread Cert.FfnFwdIdeal.nD Cert.FfnFwdIdeal.τ).loc Cert.FfnFwdIdeal.main_v10_5)),
      θ_run (Cert.FfnFwdIdeal.defs (F := Ideal)) (onTc (τ := Cert.FfnFwdIdeal.τ) (Cert.FfnFwdIdeal.main (F := Ideal))) ⟨m, fun _ => 0, g⟩ (fun r => ∀ c : Dev Cert.FfnFwdIdeal.nD,
          r.2.mem ((c.tc : Thread Cert.FfnFwdIdeal.nD Cert.FfnFwdIdeal.τ).loc Cert.FfnFwdIdeal.main_v10_0) = v0 c
          ∧ r.2.mem ((c.tc : Thread Cert.FfnFwdIdeal.nD Cert.FfnFwdIdeal.τ).loc Cert.FfnFwdIdeal.main_v10_1) = v1 c
          ∧ r.2.mem ((c.tc : Thread Cert.FfnFwdIdeal.nD Cert.FfnFwdIdeal.τ).loc Cert.FfnFwdIdeal.main_v10_2) = v2 c
          ∧ r.2.mem ((c.tc : Thread Cert.FfnFwdIdeal.nD Cert.FfnFwdIdeal.τ).loc Cert.FfnFwdIdeal.main_v10_3) = v3 c
          ∧ r.2.mem ((c.tc : Thread Cert.FfnFwdIdeal.nD Cert.FfnFwdIdeal.τ).loc Cert.FfnFwdIdeal.main_v10_4) = v4 c
          ∧ r.2.mem ((c.tc : Thread Cert.FfnFwdIdeal.nD Cert.FfnFwdIdeal.τ).loc Cert.FfnFwdIdeal.main_v10_5) = v5 c
          ∧ r.2.mem ((c.tc : Thread Cert.FfnFwdIdeal.nD Cert.FfnFwdIdeal.τ).loc Cert.FfnFwdIdeal.main_arg0) = m ((c.tc : Thread Cert.FfnFwdIdeal.nD Cert.FfnFwdIdeal.τ).loc Cert.FfnFwdIdeal.main_arg0)
          ∧ r.2.mem ((c.tc : Thread Cert.FfnFwdIdeal.nD Cert.FfnFwdIdeal.τ).loc Cert.FfnFwdIdeal.main_arg1) = m ((c.tc : Thread Cert.FfnFwdIdeal.nD Cert.FfnFwdIdeal.τ).loc Cert.FfnFwdIdeal.main_arg1)
          ∧ r.2.mem ((c.tc : Thread Cert.FfnFwdIdeal.nD Cert.FfnFwdIdeal.τ).loc Cert.FfnFwdIdeal.main_arg2) = m ((c.tc : Thread Cert.FfnFwdIdeal.nD Cert.FfnFwdIdeal.τ).loc Cert.FfnFwdIdeal.main_arg2)
          ∧ r.2.mem ((c.tc : Thread Cert.FfnFwdIdeal.nD Cert.FfnFwdIdeal.τ).loc Cert.FfnFwdIdeal.main_arg3) = m ((c.tc : Thread Cert.FfnFwdIdeal.nD Cert.FfnFwdIdeal.τ).loc Cert.FfnFwdIdeal.main_arg3)
          ∧ r.2.mem ((c.tc : Thread Cert.FfnFwdIdeal.nD Cert.FfnFwdIdeal.τ).loc Cert.FfnFwdIdeal.main_arg4) = m ((c.tc : Thread Cert.FfnFwdIdeal.nD Cert.FfnFwdIdeal.τ).loc Cert.FfnFwdIdeal.main_arg4)
          ∧ r.2.mem ((c.tc : Thread Cert.FfnFwdIdeal.nD Cert.FfnFwdIdeal.τ).loc Cert.FfnFwdIdeal.main_arg5) = m ((c.tc : Thread Cert.FfnFwdIdeal.nD Cert.FfnFwdIdeal.τ).loc Cert.FfnFwdIdeal.main_arg5)
          ∧ r.2.mem ((c.tc : Thread Cert.FfnFwdIdeal.nD Cert.FfnFwdIdeal.τ).loc Cert.FfnFwdIdeal.main_arg6) = m ((c.tc : Thread Cert.FfnFwdIdeal.nD Cert.FfnFwdIdeal.τ).loc Cert.FfnFwdIdeal.main_arg6))
      ∧ θ_run (Cert.FfnFwdRefIdeal.defs (F := Ideal)) (onTc (τ := Cert.FfnFwdRefIdeal.τ) (Cert.FfnFwdRefIdeal.main (F := Ideal))) ⟨m', fun _ => 0, g'⟩ (fun r => ∀ c : Dev Cert.FfnFwdRefIdeal.nD,
          r.2.mem ((c.tc : Thread Cert.FfnFwdRefIdeal.nD Cert.FfnFwdRefIdeal.τ).loc Cert.FfnFwdRefIdeal.main_v21) = v0 c
          ∧ r.2.mem ((c.tc : Thread Cert.FfnFwdRefIdeal.nD Cert.FfnFwdRefIdeal.τ).loc Cert.FfnFwdRefIdeal.main_v22) = v1 c
          ∧ r.2.mem ((c.tc : Thread Cert.FfnFwdRefIdeal.nD Cert.FfnFwdRefIdeal.τ).loc Cert.FfnFwdRefIdeal.main_v24) = v2 c
          ∧ r.2.mem ((c.tc : Thread Cert.FfnFwdRefIdeal.nD Cert.FfnFwdRefIdeal.τ).loc Cert.FfnFwdRefIdeal.main_v26) = v3 c
          ∧ r.2.mem ((c.tc : Thread Cert.FfnFwdRefIdeal.nD Cert.FfnFwdRefIdeal.τ).loc Cert.FfnFwdRefIdeal.main_v28) = v4 c
          ∧ r.2.mem ((c.tc : Thread Cert.FfnFwdRefIdeal.nD Cert.FfnFwdRefIdeal.τ).loc Cert.FfnFwdRefIdeal.main_v30) = v5 c
          ∧ r.2.mem ((c.tc : Thread Cert.FfnFwdRefIdeal.nD Cert.FfnFwdRefIdeal.τ).loc Cert.FfnFwdRefIdeal.main_arg0) = m' ((c.tc : Thread Cert.FfnFwdRefIdeal.nD Cert.FfnFwdRefIdeal.τ).loc Cert.FfnFwdRefIdeal.main_arg0)
          ∧ r.2.mem ((c.tc : Thread Cert.FfnFwdRefIdeal.nD Cert.FfnFwdRefIdeal.τ).loc Cert.FfnFwdRefIdeal.main_arg1) = m' ((c.tc : Thread Cert.FfnFwdRefIdeal.nD Cert.FfnFwdRefIdeal.τ).loc Cert.FfnFwdRefIdeal.main_arg1)
          ∧ r.2.mem ((c.tc : Thread Cert.FfnFwdRefIdeal.nD Cert.FfnFwdRefIdeal.τ).loc Cert.FfnFwdRefIdeal.main_arg2) = m' ((c.tc : Thread Cert.FfnFwdRefIdeal.nD Cert.FfnFwdRefIdeal.τ).loc Cert.FfnFwdRefIdeal.main_arg2)
          ∧ r.2.mem ((c.tc : Thread Cert.FfnFwdRefIdeal.nD Cert.FfnFwdRefIdeal.τ).loc Cert.FfnFwdRefIdeal.main_arg3) = m' ((c.tc : Thread Cert.FfnFwdRefIdeal.nD Cert.FfnFwdRefIdeal.τ).loc Cert.FfnFwdRefIdeal.main_arg3)
          ∧ r.2.mem ((c.tc : Thread Cert.FfnFwdRefIdeal.nD Cert.FfnFwdRefIdeal.τ).loc Cert.FfnFwdRefIdeal.main_arg4) = m' ((c.tc : Thread Cert.FfnFwdRefIdeal.nD Cert.FfnFwdRefIdeal.τ).loc Cert.FfnFwdRefIdeal.main_arg4)
          ∧ r.2.mem ((c.tc : Thread Cert.FfnFwdRefIdeal.nD Cert.FfnFwdRefIdeal.τ).loc Cert.FfnFwdRefIdeal.main_arg5) = m' ((c.tc : Thread Cert.FfnFwdRefIdeal.nD Cert.FfnFwdRefIdeal.τ).loc Cert.FfnFwdRefIdeal.main_arg5)
          ∧ r.2.mem ((c.tc : Thread Cert.FfnFwdRefIdeal.nD Cert.FfnFwdRefIdeal.τ).loc Cert.FfnFwdRefIdeal.main_arg6) = m' ((c.tc : Thread Cert.FfnFwdRefIdeal.nD Cert.FfnFwdRefIdeal.τ).loc Cert.FfnFwdRefIdeal.main_arg6))

def preserves_GmlpFwd_GmlpFwdIdeal : Prop :=
  IdealRules.named_const.Statement Cert.GmlpFwdIdeal.κ "root_half" .f32 0x3F3504F3#32 (((Real.sqrt 2)⁻¹ : ℝ) : EReal)

def algebraic_GmlpFwdIdeal_GmlpFwdRefIdeal_pre_finite_gmlp_fwd [hGmlpFwdIdeal : Cert.GmlpFwdIdeal.Facts] [hGmlpFwdRefIdeal : Cert.GmlpFwdRefIdeal.Facts] [hPre_finite_gmlp_fwd : Cert.Pre_finite_gmlp_fwd.Facts] : Prop :=
  ∀ (m : (ℓ : Loc Cert.GmlpFwdIdeal.nD Cert.GmlpFwdIdeal.τ Cert.GmlpFwdIdeal.sig) → Buf (Elt Ideal) ℓ) (g : Dev Cert.GmlpFwdIdeal.nD → PrngReg)
    (m' : (ℓ : Loc Cert.GmlpFwdRefIdeal.nD Cert.GmlpFwdRefIdeal.τ Cert.GmlpFwdRefIdeal.sig) → Buf (Elt Ideal) ℓ) (g' : Dev Cert.GmlpFwdRefIdeal.nD → PrngReg), Pre_GmlpFwdIdeal_finite_gmlp_fwd m →
    (∀ c : Dev Cert.GmlpFwdIdeal.nD,
      m' ((c.tc : Thread Cert.GmlpFwdRefIdeal.nD Cert.GmlpFwdRefIdeal.τ).loc Cert.GmlpFwdRefIdeal.main_arg0) = m ((c.tc : Thread Cert.GmlpFwdIdeal.nD Cert.GmlpFwdIdeal.τ).loc Cert.GmlpFwdIdeal.main_arg0)
      ∧ m' ((c.tc : Thread Cert.GmlpFwdRefIdeal.nD Cert.GmlpFwdRefIdeal.τ).loc Cert.GmlpFwdRefIdeal.main_arg1) = m ((c.tc : Thread Cert.GmlpFwdIdeal.nD Cert.GmlpFwdIdeal.τ).loc Cert.GmlpFwdIdeal.main_arg1)
      ∧ m' ((c.tc : Thread Cert.GmlpFwdRefIdeal.nD Cert.GmlpFwdRefIdeal.τ).loc Cert.GmlpFwdRefIdeal.main_arg2) = m ((c.tc : Thread Cert.GmlpFwdIdeal.nD Cert.GmlpFwdIdeal.τ).loc Cert.GmlpFwdIdeal.main_arg2)
      ∧ m' ((c.tc : Thread Cert.GmlpFwdRefIdeal.nD Cert.GmlpFwdRefIdeal.τ).loc Cert.GmlpFwdRefIdeal.main_arg3) = m ((c.tc : Thread Cert.GmlpFwdIdeal.nD Cert.GmlpFwdIdeal.τ).loc Cert.GmlpFwdIdeal.main_arg3)
      ∧ m' ((c.tc : Thread Cert.GmlpFwdRefIdeal.nD Cert.GmlpFwdRefIdeal.τ).loc Cert.GmlpFwdRefIdeal.main_arg4) = m ((c.tc : Thread Cert.GmlpFwdIdeal.nD Cert.GmlpFwdIdeal.τ).loc Cert.GmlpFwdIdeal.main_arg4)
      ∧ m' ((c.tc : Thread Cert.GmlpFwdRefIdeal.nD Cert.GmlpFwdRefIdeal.τ).loc Cert.GmlpFwdRefIdeal.main_arg5) = m ((c.tc : Thread Cert.GmlpFwdIdeal.nD Cert.GmlpFwdIdeal.τ).loc Cert.GmlpFwdIdeal.main_arg5)) →
    ∃ (v0 : (c : Dev Cert.GmlpFwdIdeal.nD) → Buf (Elt Ideal) ((c.tc : Thread Cert.GmlpFwdIdeal.nD Cert.GmlpFwdIdeal.τ).loc Cert.GmlpFwdIdeal.main_v18_0)) (v1 : (c : Dev Cert.GmlpFwdIdeal.nD) → Buf (Elt Ideal) ((c.tc : Thread Cert.GmlpFwdIdeal.nD Cert.GmlpFwdIdeal.τ).loc Cert.GmlpFwdIdeal.main_v18_1)) (v2 : (c : Dev Cert.GmlpFwdIdeal.nD) → Buf (Elt Ideal) ((c.tc : Thread Cert.GmlpFwdIdeal.nD Cert.GmlpFwdIdeal.τ).loc Cert.GmlpFwdIdeal.main_v18_2)),
      θ_run (Cert.GmlpFwdIdeal.defs (F := Ideal)) (onTc (τ := Cert.GmlpFwdIdeal.τ) (Cert.GmlpFwdIdeal.main (F := Ideal))) ⟨m, fun _ => 0, g⟩ (fun r => ∀ c : Dev Cert.GmlpFwdIdeal.nD,
          r.2.mem ((c.tc : Thread Cert.GmlpFwdIdeal.nD Cert.GmlpFwdIdeal.τ).loc Cert.GmlpFwdIdeal.main_v18_0) = v0 c
          ∧ r.2.mem ((c.tc : Thread Cert.GmlpFwdIdeal.nD Cert.GmlpFwdIdeal.τ).loc Cert.GmlpFwdIdeal.main_v18_1) = v1 c
          ∧ r.2.mem ((c.tc : Thread Cert.GmlpFwdIdeal.nD Cert.GmlpFwdIdeal.τ).loc Cert.GmlpFwdIdeal.main_v18_2) = v2 c
          ∧ r.2.mem ((c.tc : Thread Cert.GmlpFwdIdeal.nD Cert.GmlpFwdIdeal.τ).loc Cert.GmlpFwdIdeal.main_arg0) = m ((c.tc : Thread Cert.GmlpFwdIdeal.nD Cert.GmlpFwdIdeal.τ).loc Cert.GmlpFwdIdeal.main_arg0)
          ∧ r.2.mem ((c.tc : Thread Cert.GmlpFwdIdeal.nD Cert.GmlpFwdIdeal.τ).loc Cert.GmlpFwdIdeal.main_arg1) = m ((c.tc : Thread Cert.GmlpFwdIdeal.nD Cert.GmlpFwdIdeal.τ).loc Cert.GmlpFwdIdeal.main_arg1)
          ∧ r.2.mem ((c.tc : Thread Cert.GmlpFwdIdeal.nD Cert.GmlpFwdIdeal.τ).loc Cert.GmlpFwdIdeal.main_arg2) = m ((c.tc : Thread Cert.GmlpFwdIdeal.nD Cert.GmlpFwdIdeal.τ).loc Cert.GmlpFwdIdeal.main_arg2)
          ∧ r.2.mem ((c.tc : Thread Cert.GmlpFwdIdeal.nD Cert.GmlpFwdIdeal.τ).loc Cert.GmlpFwdIdeal.main_arg3) = m ((c.tc : Thread Cert.GmlpFwdIdeal.nD Cert.GmlpFwdIdeal.τ).loc Cert.GmlpFwdIdeal.main_arg3)
          ∧ r.2.mem ((c.tc : Thread Cert.GmlpFwdIdeal.nD Cert.GmlpFwdIdeal.τ).loc Cert.GmlpFwdIdeal.main_arg4) = m ((c.tc : Thread Cert.GmlpFwdIdeal.nD Cert.GmlpFwdIdeal.τ).loc Cert.GmlpFwdIdeal.main_arg4)
          ∧ r.2.mem ((c.tc : Thread Cert.GmlpFwdIdeal.nD Cert.GmlpFwdIdeal.τ).loc Cert.GmlpFwdIdeal.main_arg5) = m ((c.tc : Thread Cert.GmlpFwdIdeal.nD Cert.GmlpFwdIdeal.τ).loc Cert.GmlpFwdIdeal.main_arg5))
      ∧ θ_run (Cert.GmlpFwdRefIdeal.defs (F := Ideal)) (onTc (τ := Cert.GmlpFwdRefIdeal.τ) (Cert.GmlpFwdRefIdeal.main (F := Ideal))) ⟨m', fun _ => 0, g'⟩ (fun r => ∀ c : Dev Cert.GmlpFwdRefIdeal.nD,
          r.2.mem ((c.tc : Thread Cert.GmlpFwdRefIdeal.nD Cert.GmlpFwdRefIdeal.τ).loc Cert.GmlpFwdRefIdeal.main_v83) = v0 c
          ∧ r.2.mem ((c.tc : Thread Cert.GmlpFwdRefIdeal.nD Cert.GmlpFwdRefIdeal.τ).loc Cert.GmlpFwdRefIdeal.main_v85) = v1 c
          ∧ r.2.mem ((c.tc : Thread Cert.GmlpFwdRefIdeal.nD Cert.GmlpFwdRefIdeal.τ).loc Cert.GmlpFwdRefIdeal.main_v87) = v2 c
          ∧ r.2.mem ((c.tc : Thread Cert.GmlpFwdRefIdeal.nD Cert.GmlpFwdRefIdeal.τ).loc Cert.GmlpFwdRefIdeal.main_arg0) = m' ((c.tc : Thread Cert.GmlpFwdRefIdeal.nD Cert.GmlpFwdRefIdeal.τ).loc Cert.GmlpFwdRefIdeal.main_arg0)
          ∧ r.2.mem ((c.tc : Thread Cert.GmlpFwdRefIdeal.nD Cert.GmlpFwdRefIdeal.τ).loc Cert.GmlpFwdRefIdeal.main_arg1) = m' ((c.tc : Thread Cert.GmlpFwdRefIdeal.nD Cert.GmlpFwdRefIdeal.τ).loc Cert.GmlpFwdRefIdeal.main_arg1)
          ∧ r.2.mem ((c.tc : Thread Cert.GmlpFwdRefIdeal.nD Cert.GmlpFwdRefIdeal.τ).loc Cert.GmlpFwdRefIdeal.main_arg2) = m' ((c.tc : Thread Cert.GmlpFwdRefIdeal.nD Cert.GmlpFwdRefIdeal.τ).loc Cert.GmlpFwdRefIdeal.main_arg2)
          ∧ r.2.mem ((c.tc : Thread Cert.GmlpFwdRefIdeal.nD Cert.GmlpFwdRefIdeal.τ).loc Cert.GmlpFwdRefIdeal.main_arg3) = m' ((c.tc : Thread Cert.GmlpFwdRefIdeal.nD Cert.GmlpFwdRefIdeal.τ).loc Cert.GmlpFwdRefIdeal.main_arg3)
          ∧ r.2.mem ((c.tc : Thread Cert.GmlpFwdRefIdeal.nD Cert.GmlpFwdRefIdeal.τ).loc Cert.GmlpFwdRefIdeal.main_arg4) = m' ((c.tc : Thread Cert.GmlpFwdRefIdeal.nD Cert.GmlpFwdRefIdeal.τ).loc Cert.GmlpFwdRefIdeal.main_arg4)
          ∧ r.2.mem ((c.tc : Thread Cert.GmlpFwdRefIdeal.nD Cert.GmlpFwdRefIdeal.τ).loc Cert.GmlpFwdRefIdeal.main_arg5) = m' ((c.tc : Thread Cert.GmlpFwdRefIdeal.nD Cert.GmlpFwdRefIdeal.τ).loc Cert.GmlpFwdRefIdeal.main_arg5))

def Claim : Prop :=
  ∃ (hLossBwd : Cert.LossBwd.Facts) (hLossBwdIdeal : Cert.LossBwdIdeal.Facts) (hLossRefIdeal : Cert.LossRefIdeal.Facts) (hFfnBwd : Cert.FfnBwd.Facts) (hFfnBwdIdeal : Cert.FfnBwdIdeal.Facts) (hFfnRefIdeal : Cert.FfnRefIdeal.Facts) (hConvBwd : Cert.ConvBwd.Facts) (hConvBwdIdeal : Cert.ConvBwdIdeal.Facts) (hConvRefIdeal : Cert.ConvRefIdeal.Facts) (hPoolBwd : Cert.PoolBwd.Facts) (hPoolBwdIdeal : Cert.PoolBwdIdeal.Facts) (hPoolRefIdeal : Cert.PoolRefIdeal.Facts) (hGmlpBwd : Cert.GmlpBwd.Facts) (hGmlpBwdIdeal : Cert.GmlpBwdIdeal.Facts) (hGmlpRefIdeal : Cert.GmlpRefIdeal.Facts) (hFfnFwd : Cert.FfnFwd.Facts) (hFfnFwdIdeal : Cert.FfnFwdIdeal.Facts) (hFfnFwdRefIdeal : Cert.FfnFwdRefIdeal.Facts) (hGmlpFwd : Cert.GmlpFwd.Facts) (hGmlpFwdIdeal : Cert.GmlpFwdIdeal.Facts) (hGmlpFwdRefIdeal : Cert.GmlpFwdRefIdeal.Facts) (hPre_finite_final : Cert.Pre_finite_final.Facts) (hPre_finite_ffn : Cert.Pre_finite_ffn.Facts) (hPre_finite_conv : Cert.Pre_finite_conv.Facts) (hPre_finite_pool : Cert.Pre_finite_pool.Facts) (hPre_finite_gmlp : Cert.Pre_finite_gmlp.Facts) (hPre_finite_ffn_fwd : Cert.Pre_finite_ffn_fwd.Facts) (hPre_finite_gmlp_fwd : Cert.Pre_finite_gmlp_fwd.Facts),
    quiescent_LossBwd (hLossBwd := hLossBwd)
    ∧ quiescent_LossBwdIdeal (hLossBwdIdeal := hLossBwdIdeal)
    ∧ quiescent_LossBwdIdeal_pre_finite_final (hLossBwdIdeal := hLossBwdIdeal) (hPre_finite_final := hPre_finite_final)
    ∧ quiescent_LossRefIdeal (hLossRefIdeal := hLossRefIdeal)
    ∧ quiescent_LossRefIdeal_pre_finite_final (hLossRefIdeal := hLossRefIdeal) (hPre_finite_final := hPre_finite_final)
    ∧ quiescent_FfnBwd (hFfnBwd := hFfnBwd)
    ∧ quiescent_FfnBwdIdeal (hFfnBwdIdeal := hFfnBwdIdeal)
    ∧ quiescent_FfnBwdIdeal_pre_finite_ffn (hFfnBwdIdeal := hFfnBwdIdeal) (hPre_finite_ffn := hPre_finite_ffn)
    ∧ quiescent_FfnRefIdeal (hFfnRefIdeal := hFfnRefIdeal)
    ∧ quiescent_FfnRefIdeal_pre_finite_ffn (hFfnRefIdeal := hFfnRefIdeal) (hPre_finite_ffn := hPre_finite_ffn)
    ∧ quiescent_ConvBwd (hConvBwd := hConvBwd)
    ∧ quiescent_ConvBwdIdeal (hConvBwdIdeal := hConvBwdIdeal)
    ∧ quiescent_ConvBwdIdeal_pre_finite_conv (hConvBwdIdeal := hConvBwdIdeal) (hPre_finite_conv := hPre_finite_conv)
    ∧ quiescent_ConvRefIdeal (hConvRefIdeal := hConvRefIdeal)
    ∧ quiescent_ConvRefIdeal_pre_finite_conv (hConvRefIdeal := hConvRefIdeal) (hPre_finite_conv := hPre_finite_conv)
    ∧ quiescent_PoolBwd (hPoolBwd := hPoolBwd)
    ∧ quiescent_PoolBwdIdeal (hPoolBwdIdeal := hPoolBwdIdeal)
    ∧ quiescent_PoolBwdIdeal_pre_finite_pool (hPoolBwdIdeal := hPoolBwdIdeal) (hPre_finite_pool := hPre_finite_pool)
    ∧ quiescent_PoolRefIdeal (hPoolRefIdeal := hPoolRefIdeal)
    ∧ quiescent_PoolRefIdeal_pre_finite_pool (hPoolRefIdeal := hPoolRefIdeal) (hPre_finite_pool := hPre_finite_pool)
    ∧ quiescent_GmlpBwd (hGmlpBwd := hGmlpBwd)
    ∧ quiescent_GmlpBwdIdeal (hGmlpBwdIdeal := hGmlpBwdIdeal)
    ∧ quiescent_GmlpBwdIdeal_pre_finite_gmlp (hGmlpBwdIdeal := hGmlpBwdIdeal) (hPre_finite_gmlp := hPre_finite_gmlp)
    ∧ quiescent_GmlpRefIdeal (hGmlpRefIdeal := hGmlpRefIdeal)
    ∧ quiescent_GmlpRefIdeal_pre_finite_gmlp (hGmlpRefIdeal := hGmlpRefIdeal) (hPre_finite_gmlp := hPre_finite_gmlp)
    ∧ quiescent_FfnFwd (hFfnFwd := hFfnFwd)
    ∧ quiescent_FfnFwdIdeal (hFfnFwdIdeal := hFfnFwdIdeal)
    ∧ quiescent_FfnFwdIdeal_pre_finite_ffn_fwd (hFfnFwdIdeal := hFfnFwdIdeal) (hPre_finite_ffn_fwd := hPre_finite_ffn_fwd)
    ∧ quiescent_FfnFwdRefIdeal (hFfnFwdRefIdeal := hFfnFwdRefIdeal)
    ∧ quiescent_FfnFwdRefIdeal_pre_finite_ffn_fwd (hFfnFwdRefIdeal := hFfnFwdRefIdeal) (hPre_finite_ffn_fwd := hPre_finite_ffn_fwd)
    ∧ quiescent_GmlpFwd (hGmlpFwd := hGmlpFwd)
    ∧ quiescent_GmlpFwdIdeal (hGmlpFwdIdeal := hGmlpFwdIdeal)
    ∧ quiescent_GmlpFwdIdeal_pre_finite_gmlp_fwd (hGmlpFwdIdeal := hGmlpFwdIdeal) (hPre_finite_gmlp_fwd := hPre_finite_gmlp_fwd)
    ∧ quiescent_GmlpFwdRefIdeal (hGmlpFwdRefIdeal := hGmlpFwdRefIdeal)
    ∧ quiescent_GmlpFwdRefIdeal_pre_finite_gmlp_fwd (hGmlpFwdRefIdeal := hGmlpFwdRefIdeal) (hPre_finite_gmlp_fwd := hPre_finite_gmlp_fwd)
    ∧ preserves_LossBwd_LossBwdIdeal
    ∧ algebraic_LossBwdIdeal_LossRefIdeal_pre_finite_final (hLossBwdIdeal := hLossBwdIdeal) (hLossRefIdeal := hLossRefIdeal) (hPre_finite_final := hPre_finite_final)
    ∧ preserves_FfnBwd_FfnBwdIdeal
    ∧ algebraic_FfnBwdIdeal_FfnRefIdeal_pre_finite_ffn (hFfnBwdIdeal := hFfnBwdIdeal) (hFfnRefIdeal := hFfnRefIdeal) (hPre_finite_ffn := hPre_finite_ffn)
    ∧ preserves_ConvBwd_ConvBwdIdeal
    ∧ algebraic_ConvBwdIdeal_ConvRefIdeal_pre_finite_conv (hConvBwdIdeal := hConvBwdIdeal) (hConvRefIdeal := hConvRefIdeal) (hPre_finite_conv := hPre_finite_conv)
    ∧ preserves_PoolBwd_PoolBwdIdeal
    ∧ algebraic_PoolBwdIdeal_PoolRefIdeal_pre_finite_pool (hPoolBwdIdeal := hPoolBwdIdeal) (hPoolRefIdeal := hPoolRefIdeal) (hPre_finite_pool := hPre_finite_pool)
    ∧ preserves_GmlpBwd_GmlpBwdIdeal
    ∧ algebraic_GmlpBwdIdeal_GmlpRefIdeal_pre_finite_gmlp (hGmlpBwdIdeal := hGmlpBwdIdeal) (hGmlpRefIdeal := hGmlpRefIdeal) (hPre_finite_gmlp := hPre_finite_gmlp)
    ∧ preserves_FfnFwd_FfnFwdIdeal
    ∧ algebraic_FfnFwdIdeal_FfnFwdRefIdeal_pre_finite_ffn_fwd (hFfnFwdIdeal := hFfnFwdIdeal) (hFfnFwdRefIdeal := hFfnFwdRefIdeal) (hPre_finite_ffn_fwd := hPre_finite_ffn_fwd)
    ∧ preserves_GmlpFwd_GmlpFwdIdeal
    ∧ algebraic_GmlpFwdIdeal_GmlpFwdRefIdeal_pre_finite_gmlp_fwd (hGmlpFwdIdeal := hGmlpFwdIdeal) (hGmlpFwdRefIdeal := hGmlpFwdRefIdeal) (hPre_finite_gmlp_fwd := hPre_finite_gmlp_fwd)
-- ==== Pre_finite_conv.lean ====
abbrev S2x2048x1024 : Shape := ⟨3, ![2, 2048, 1024]⟩
abbrev S1024 : Shape := ⟨1, ![1024]⟩
abbrev S1024x3072 : Shape := ⟨2, ![1024, 3072]⟩
abbrev S3x1024 : Shape := ⟨2, ![3, 1024]⟩
abbrev S_ : Shape := ⟨0, ![]⟩

class Facts : Prop where
  bcast_S_S2x2048x1024 : S_.BroadcastsInDim S2x2048x1024 (![] : Fin 0 → Fin S2x2048x1024.rank)
  reducesTo_S2x2048x1024_S_d0_1_2 : S2x2048x1024.ReducesTo [0, 1, 2] S_
  h_S_ : 0 < S_.numel
  bcast_S_S1024 : S_.BroadcastsInDim S1024 (![] : Fin 0 → Fin S1024.rank)
  reducesTo_S1024_S_d0 : S1024.ReducesTo [0] S_
  bcast_S_S1024x3072 : S_.BroadcastsInDim S1024x3072 (![] : Fin 0 → Fin S1024x3072.rank)
  reducesTo_S1024x3072_S_d0_1 : S1024x3072.ReducesTo [0, 1] S_
  bcast_S_S3x1024 : S_.BroadcastsInDim S3x1024 (![] : Fin 0 → Fin S3x1024.rank)
  reducesTo_S3x1024_S_d0_1 : S3x1024.ReducesTo [0, 1] S_

variable [Facts]

def fn_part1 {F : FTy → Type} [FloatOps F] (main_arg4 : FVec F S2x2048x1024 .f32) (main_arg5 : FVec F S2x2048x1024 .f32) (main_v13 : IVec S_ 1) (main_v16 : IVec S3x1024 1) : IVec S_ 1 :=
  let main_c_5 : IVec S_ 1 := constantI S_ 1 1#1
  let main_v17 : IVec S_ 1 := (fun x v => Host.reduce IntOp.andi x v reducesTo_S3x1024_S_d0_1 h_S_) main_v16 main_c_5
  let main_v18 : IVec S_ 1 := andi main_v13 main_v17
  let main_v19 : FVec F S2x2048x1024 .f32 := Host.absf main_arg4
  let main_cst_6 : FVec F S_ .f32 := constant S_ .f32 0x7F800000#32
  let main_v20 : FVec F S2x2048x1024 .f32 := broadcastInDim S2x2048x1024 ![] bcast_S_S2x2048x1024 main_cst_6
  let main_v21 : IVec S2x2048x1024 1 := cmpf .olt main_v19 main_v20
  let main_c_7 : IVec S_ 1 := constantI S_ 1 1#1
  let main_v22 : IVec S_ 1 := (fun x v => Host.reduce IntOp.andi x v reducesTo_S2x2048x1024_S_d0_1_2 h_S_) main_v21 main_c_7
  let main_v23 : IVec S_ 1 := andi main_v18 main_v22
  let main_v24 : FVec F S2x2048x1024 .f32 := Host.absf main_arg5
  let main_cst_8 : FVec F S_ .f32 := constant S_ .f32 0x7F800000#32
  let main_v25 : FVec F S2x2048x1024 .f32 := broadcastInDim S2x2048x1024 ![] bcast_S_S2x2048x1024 main_cst_8
  let main_v26 : IVec S2x2048x1024 1 := cmpf .olt main_v24 main_v25
  let main_c_9 : IVec S_ 1 := constantI S_ 1 1#1
  let main_v27 : IVec S_ 1 := (fun x v => Host.reduce IntOp.andi x v reducesTo_S2x2048x1024_S_d0_1_2 h_S_) main_v26 main_c_9
  let main_v28 : IVec S_ 1 := andi main_v23 main_v27
  main_v28

def fn {F : FTy → Type} [FloatOps F] (main_arg0 : FVec F S2x2048x1024 .f32) (main_arg1 : FVec F S1024 .f32) (main_arg2 : FVec F S1024x3072 .f32) (main_arg3 : FVec F S3x1024 .f32) (main_arg4 : FVec F S2x2048x1024 .f32) (main_arg5 : FVec F S2x2048x1024 .f32) : IVec S_ 1 :=
  let main_v0 : FVec F S2x2048x1024 .f32 := Host.absf main_arg0
  let main_cst : FVec F S_ .f32 := constant S_ .f32 0x7F800000#32
  let main_v1 : FVec F S2x2048x1024 .f32 := broadcastInDim S2x2048x1024 ![] bcast_S_S2x2048x1024 main_cst
  let main_v2 : IVec S2x2048x1024 1 := cmpf .olt main_v0 main_v1
  let main_c : IVec S_ 1 := constantI S_ 1 1#1
  let main_v3 : IVec S_ 1 := (fun x v => Host.reduce IntOp.andi x v reducesTo_S2x2048x1024_S_d0_1_2 h_S_) main_v2 main_c
  let main_v4 : FVec F S1024 .f32 := Host.absf main_arg1
  let main_cst_0 : FVec F S_ .f32 := constant S_ .f32 0x7F800000#32
  let main_v5 : FVec F S1024 .f32 := broadcastInDim S1024 ![] bcast_S_S1024 main_cst_0
  let main_v6 : IVec S1024 1 := cmpf .olt main_v4 main_v5
  let main_c_1 : IVec S_ 1 := constantI S_ 1 1#1
  let main_v7 : IVec S_ 1 := (fun x v => Host.reduce IntOp.andi x v reducesTo_S1024_S_d0 h_S_) main_v6 main_c_1
  let main_v8 : IVec S_ 1 := andi main_v3 main_v7
  let main_v9 : FVec F S1024x3072 .f32 := Host.absf main_arg2
  let main_cst_2 : FVec F S_ .f32 := constant S_ .f32 0x7F800000#32
  let main_v10 : FVec F S1024x3072 .f32 := broadcastInDim S1024x3072 ![] bcast_S_S1024x3072 main_cst_2
  let main_v11 : IVec S1024x3072 1 := cmpf .olt main_v9 main_v10
  let main_c_3 : IVec S_ 1 := constantI S_ 1 1#1
  let main_v12 : IVec S_ 1 := (fun x v => Host.reduce IntOp.andi x v reducesTo_S1024x3072_S_d0_1 h_S_) main_v11 main_c_3
  let main_v13 : IVec S_ 1 := andi main_v8 main_v12
  let main_v14 : FVec F S3x1024 .f32 := Host.absf main_arg3
  let main_cst_4 : FVec F S_ .f32 := constant S_ .f32 0x7F800000#32
  let main_v15 : FVec F S3x1024 .f32 := broadcastInDim S3x1024 ![] bcast_S_S3x1024 main_cst_4
  let main_v16 : IVec S3x1024 1 := cmpf .olt main_v14 main_v15
  fn_part1 (F := F) main_arg4 main_arg5 main_v13 main_v16
-- ==== Pre_finite_ffn.lean ====
abbrev S2x2048x1024 : Shape := ⟨3, ![2, 2048, 1024]⟩
abbrev S1024x1024 : Shape := ⟨2, ![1024, 1024]⟩
abbrev S1024 : Shape := ⟨1, ![1024]⟩
abbrev S1024x2816 : Shape := ⟨2, ![1024, 2816]⟩
abbrev S2816x1024 : Shape := ⟨2, ![2816, 1024]⟩
abbrev S_ : Shape := ⟨0, ![]⟩

class Facts : Prop where
  bcast_S_S2x2048x1024 : S_.BroadcastsInDim S2x2048x1024 (![] : Fin 0 → Fin S2x2048x1024.rank)
  reducesTo_S2x2048x1024_S_d0_1_2 : S2x2048x1024.ReducesTo [0, 1, 2] S_
  h_S_ : 0 < S_.numel
  bcast_S_S1024x1024 : S_.BroadcastsInDim S1024x1024 (![] : Fin 0 → Fin S1024x1024.rank)
  reducesTo_S1024x1024_S_d0_1 : S1024x1024.ReducesTo [0, 1] S_
  bcast_S_S1024 : S_.BroadcastsInDim S1024 (![] : Fin 0 → Fin S1024.rank)
  reducesTo_S1024_S_d0 : S1024.ReducesTo [0] S_
  bcast_S_S1024x2816 : S_.BroadcastsInDim S1024x2816 (![] : Fin 0 → Fin S1024x2816.rank)
  reducesTo_S1024x2816_S_d0_1 : S1024x2816.ReducesTo [0, 1] S_
  bcast_S_S2816x1024 : S_.BroadcastsInDim S2816x1024 (![] : Fin 0 → Fin S2816x1024.rank)
  reducesTo_S2816x1024_S_d0_1 : S2816x1024.ReducesTo [0, 1] S_

variable [Facts]

def fn_part2 {F : FTy → Type} [FloatOps F] (main_arg7 : FVec F S2x2048x1024 .f32) (main_v33 : IVec S_ 1) : IVec S_ 1 :=
  let main_v34 : FVec F S2x2048x1024 .f32 := Host.absf main_arg7
  let main_cst_12 : FVec F S_ .f32 := constant S_ .f32 0x7F800000#32
  let main_v35 : FVec F S2x2048x1024 .f32 := broadcastInDim S2x2048x1024 ![] bcast_S_S2x2048x1024 main_cst_12
  let main_v36 : IVec S2x2048x1024 1 := cmpf .olt main_v34 main_v35
  let main_c_13 : IVec S_ 1 := constantI S_ 1 1#1
  let main_v37 : IVec S_ 1 := (fun x v => Host.reduce IntOp.andi x v reducesTo_S2x2048x1024_S_d0_1_2 h_S_) main_v36 main_c_13
  let main_v38 : IVec S_ 1 := andi main_v33 main_v37
  main_v38

def fn_part1 {F : FTy → Type} [FloatOps F] (main_arg4 : FVec F S1024x2816 .f32) (main_arg5 : FVec F S1024x2816 .f32) (main_arg6 : FVec F S2816x1024 .f32) (main_arg7 : FVec F S2x2048x1024 .f32) (main_v13 : IVec S_ 1) (main_v16 : IVec S1024 1) : IVec S_ 1 :=
  let main_c_5 : IVec S_ 1 := constantI S_ 1 1#1
  let main_v17 : IVec S_ 1 := (fun x v => Host.reduce IntOp.andi x v reducesTo_S1024_S_d0 h_S_) main_v16 main_c_5
  let main_v18 : IVec S_ 1 := andi main_v13 main_v17
  let main_v19 : FVec F S1024x2816 .f32 := Host.absf main_arg4
  let main_cst_6 : FVec F S_ .f32 := constant S_ .f32 0x7F800000#32
  let main_v20 : FVec F S1024x2816 .f32 := broadcastInDim S1024x2816 ![] bcast_S_S1024x2816 main_cst_6
  let main_v21 : IVec S1024x2816 1 := cmpf .olt main_v19 main_v20
  let main_c_7 : IVec S_ 1 := constantI S_ 1 1#1
  let main_v22 : IVec S_ 1 := (fun x v => Host.reduce IntOp.andi x v reducesTo_S1024x2816_S_d0_1 h_S_) main_v21 main_c_7
  let main_v23 : IVec S_ 1 := andi main_v18 main_v22
  let main_v24 : FVec F S1024x2816 .f32 := Host.absf main_arg5
  let main_cst_8 : FVec F S_ .f32 := constant S_ .f32 0x7F800000#32
  let main_v25 : FVec F S1024x2816 .f32 := broadcastInDim S1024x2816 ![] bcast_S_S1024x2816 main_cst_8
  let main_v26 : IVec S1024x2816 1 := cmpf .olt main_v24 main_v25
  let main_c_9 : IVec S_ 1 := constantI S_ 1 1#1
  let main_v27 : IVec S_ 1 := (fun x v => Host.reduce IntOp.andi x v reducesTo_S1024x2816_S_d0_1 h_S_) main_v26 main_c_9
  let main_v28 : IVec S_ 1 := andi main_v23 main_v27
  let main_v29 : FVec F S2816x1024 .f32 := Host.absf main_arg6
  let main_cst_10 : FVec F S_ .f32 := constant S_ .f32 0x7F800000#32
  let main_v30 : FVec F S2816x1024 .f32 := broadcastInDim S2816x1024 ![] bcast_S_S2816x1024 main_cst_10
  let main_v31 : IVec S2816x1024 1 := cmpf .olt main_v29 main_v30
  let main_c_11 : IVec S_ 1 := constantI S_ 1 1#1
  let main_v32 : IVec S_ 1 := (fun x v => Host.reduce IntOp.andi x v reducesTo_S2816x1024_S_d0_1 h_S_) main_v31 main_c_11
  let main_v33 : IVec S_ 1 := andi main_v28 main_v32
  fn_part2 (F := F) main_arg7 main_v33

def fn {F : FTy → Type} [FloatOps F] (main_arg0 : FVec F S2x2048x1024 .f32) (main_arg1 : FVec F S1024x1024 .f32) (main_arg2 : FVec F S2x2048x1024 .f32) (main_arg3 : FVec F S1024 .f32) (main_arg4 : FVec F S1024x2816 .f32) (main_arg5 : FVec F S1024x2816 .f32) (main_arg6 : FVec F S2816x1024 .f32) (main_arg7 : FVec F S2x2048x1024 .f32) : IVec S_ 1 :=
  let main_v0 : FVec F S2x2048x1024 .f32 := Host.absf main_arg0
  let main_cst : FVec F S_ .f32 := constant S_ .f32 0x7F800000#32
  let main_v1 : FVec F S2x2048x1024 .f32 := broadcastInDim S2x2048x1024 ![] bcast_S_S2x2048x1024 main_cst
  let main_v2 : IVec S2x2048x1024 1 := cmpf .olt main_v0 main_v1
  let main_c : IVec S_ 1 := constantI S_ 1 1#1
  let main_v3 : IVec S_ 1 := (fun x v => Host.reduce IntOp.andi x v reducesTo_S2x2048x1024_S_d0_1_2 h_S_) main_v2 main_c
  let main_v4 : FVec F S1024x1024 .f32 := Host.absf main_arg1
  let main_cst_0 : FVec F S_ .f32 := constant S_ .f32 0x7F800000#32
  let main_v5 : FVec F S1024x1024 .f32 := broadcastInDim S1024x1024 ![] bcast_S_S1024x1024 main_cst_0
  let main_v6 : IVec S1024x1024 1 := cmpf .olt main_v4 main_v5
  let main_c_1 : IVec S_ 1 := constantI S_ 1 1#1
  let main_v7 : IVec S_ 1 := (fun x v => Host.reduce IntOp.andi x v reducesTo_S1024x1024_S_d0_1 h_S_) main_v6 main_c_1
  let main_v8 : IVec S_ 1 := andi main_v3 main_v7
  let main_v9 : FVec F S2x2048x1024 .f32 := Host.absf main_arg2
  let main_cst_2 : FVec F S_ .f32 := constant S_ .f32 0x7F800000#32
  let main_v10 : FVec F S2x2048x1024 .f32 := broadcastInDim S2x2048x1024 ![] bcast_S_S2x2048x1024 main_cst_2
  let main_v11 : IVec S2x2048x1024 1 := cmpf .olt main_v9 main_v10
  let main_c_3 : IVec S_ 1 := constantI S_ 1 1#1
  let main_v12 : IVec S_ 1 := (fun x v => Host.reduce IntOp.andi x v reducesTo_S2x2048x1024_S_d0_1_2 h_S_) main_v11 main_c_3
  let main_v13 : IVec S_ 1 := andi main_v8 main_v12
  let main_v14 : FVec F S1024 .f32 := Host.absf main_arg3
  let main_cst_4 : FVec F S_ .f32 := constant S_ .f32 0x7F800000#32
  let main_v15 : FVec F S1024 .f32 := broadcastInDim S1024 ![] bcast_S_S1024 main_cst_4
  let main_v16 : IVec S1024 1 := cmpf .olt main_v14 main_v15
  fn_part1 (F := F) main_arg4 main_arg5 main_arg6 main_arg7 main_v13 main_v16
-- ==== Pre_finite_ffn_fwd.lean ====
abbrev S2x2048x1024 : Shape := ⟨3, ![2, 2048, 1024]⟩
abbrev S1024x1024 : Shape := ⟨2, ![1024, 1024]⟩
abbrev S1024 : Shape := ⟨1, ![1024]⟩
abbrev S1024x2816 : Shape := ⟨2, ![1024, 2816]⟩
abbrev S2816x1024 : Shape := ⟨2, ![2816, 1024]⟩
abbrev S_ : Shape := ⟨0, ![]⟩

class Facts : Prop where
  bcast_S_S2x2048x1024 : S_.BroadcastsInDim S2x2048x1024 (![] : Fin 0 → Fin S2x2048x1024.rank)
  reducesTo_S2x2048x1024_S_d0_1_2 : S2x2048x1024.ReducesTo [0, 1, 2] S_
  h_S_ : 0 < S_.numel
  bcast_S_S1024x1024 : S_.BroadcastsInDim S1024x1024 (![] : Fin 0 → Fin S1024x1024.rank)
  reducesTo_S1024x1024_S_d0_1 : S1024x1024.ReducesTo [0, 1] S_
  bcast_S_S1024 : S_.BroadcastsInDim S1024 (![] : Fin 0 → Fin S1024.rank)
  reducesTo_S1024_S_d0 : S1024.ReducesTo [0] S_
  bcast_S_S1024x2816 : S_.BroadcastsInDim S1024x2816 (![] : Fin 0 → Fin S1024x2816.rank)
  reducesTo_S1024x2816_S_d0_1 : S1024x2816.ReducesTo [0, 1] S_
  bcast_S_S2816x1024 : S_.BroadcastsInDim S2816x1024 (![] : Fin 0 → Fin S2816x1024.rank)
  reducesTo_S2816x1024_S_d0_1 : S2816x1024.ReducesTo [0, 1] S_

variable [Facts]

def fn_part1 {F : FTy → Type} [FloatOps F] (main_arg4 : FVec F S1024x2816 .f32) (main_arg5 : FVec F S1024x2816 .f32) (main_arg6 : FVec F S2816x1024 .f32) (main_v13 : IVec S_ 1) (main_v16 : IVec S1024 1) : IVec S_ 1 :=
  let main_c_5 : IVec S_ 1 := constantI S_ 1 1#1
  let main_v17 : IVec S_ 1 := (fun x v => Host.reduce IntOp.andi x v reducesTo_S1024_S_d0 h_S_) main_v16 main_c_5
  let main_v18 : IVec S_ 1 := andi main_v13 main_v17
  let main_v19 : FVec F S1024x2816 .f32 := Host.absf main_arg4
  let main_cst_6 : FVec F S_ .f32 := constant S_ .f32 0x7F800000#32
  let main_v20 : FVec F S1024x2816 .f32 := broadcastInDim S1024x2816 ![] bcast_S_S1024x2816 main_cst_6
  let main_v21 : IVec S1024x2816 1 := cmpf .olt main_v19 main_v20
  let main_c_7 : IVec S_ 1 := constantI S_ 1 1#1
  let main_v22 : IVec S_ 1 := (fun x v => Host.reduce IntOp.andi x v reducesTo_S1024x2816_S_d0_1 h_S_) main_v21 main_c_7
  let main_v23 : IVec S_ 1 := andi main_v18 main_v22
  let main_v24 : FVec F S1024x2816 .f32 := Host.absf main_arg5
  let main_cst_8 : FVec F S_ .f32 := constant S_ .f32 0x7F800000#32
  let main_v25 : FVec F S1024x2816 .f32 := broadcastInDim S1024x2816 ![] bcast_S_S1024x2816 main_cst_8
  let main_v26 : IVec S1024x2816 1 := cmpf .olt main_v24 main_v25
  let main_c_9 : IVec S_ 1 := constantI S_ 1 1#1
  let main_v27 : IVec S_ 1 := (fun x v => Host.reduce IntOp.andi x v reducesTo_S1024x2816_S_d0_1 h_S_) main_v26 main_c_9
  let main_v28 : IVec S_ 1 := andi main_v23 main_v27
  let main_v29 : FVec F S2816x1024 .f32 := Host.absf main_arg6
  let main_cst_10 : FVec F S_ .f32 := constant S_ .f32 0x7F800000#32
  let main_v30 : FVec F S2816x1024 .f32 := broadcastInDim S2816x1024 ![] bcast_S_S2816x1024 main_cst_10
  let main_v31 : IVec S2816x1024 1 := cmpf .olt main_v29 main_v30
  let main_c_11 : IVec S_ 1 := constantI S_ 1 1#1
  let main_v32 : IVec S_ 1 := (fun x v => Host.reduce IntOp.andi x v reducesTo_S2816x1024_S_d0_1 h_S_) main_v31 main_c_11
  let main_v33 : IVec S_ 1 := andi main_v28 main_v32
  main_v33

def fn {F : FTy → Type} [FloatOps F] (main_arg0 : FVec F S2x2048x1024 .f32) (main_arg1 : FVec F S1024x1024 .f32) (main_arg2 : FVec F S2x2048x1024 .f32) (main_arg3 : FVec F S1024 .f32) (main_arg4 : FVec F S1024x2816 .f32) (main_arg5 : FVec F S1024x2816 .f32) (main_arg6 : FVec F S2816x1024 .f32) : IVec S_ 1 :=
  let main_v0 : FVec F S2x2048x1024 .f32 := Host.absf main_arg0
  let main_cst : FVec F S_ .f32 := constant S_ .f32 0x7F800000#32
  let main_v1 : FVec F S2x2048x1024 .f32 := broadcastInDim S2x2048x1024 ![] bcast_S_S2x2048x1024 main_cst
  let main_v2 : IVec S2x2048x1024 1 := cmpf .olt main_v0 main_v1
  let main_c : IVec S_ 1 := constantI S_ 1 1#1
  let main_v3 : IVec S_ 1 := (fun x v => Host.reduce IntOp.andi x v reducesTo_S2x2048x1024_S_d0_1_2 h_S_) main_v2 main_c
  let main_v4 : FVec F S1024x1024 .f32 := Host.absf main_arg1
  let main_cst_0 : FVec F S_ .f32 := constant S_ .f32 0x7F800000#32
  let main_v5 : FVec F S1024x1024 .f32 := broadcastInDim S1024x1024 ![] bcast_S_S1024x1024 main_cst_0
  let main_v6 : IVec S1024x1024 1 := cmpf .olt main_v4 main_v5
  let main_c_1 : IVec S_ 1 := constantI S_ 1 1#1
  let main_v7 : IVec S_ 1 := (fun x v => Host.reduce IntOp.andi x v reducesTo_S1024x1024_S_d0_1 h_S_) main_v6 main_c_1
  let main_v8 : IVec S_ 1 := andi main_v3 main_v7
  let main_v9 : FVec F S2x2048x1024 .f32 := Host.absf main_arg2
  let main_cst_2 : FVec F S_ .f32 := constant S_ .f32 0x7F800000#32
  let main_v10 : FVec F S2x2048x1024 .f32 := broadcastInDim S2x2048x1024 ![] bcast_S_S2x2048x1024 main_cst_2
  let main_v11 : IVec S2x2048x1024 1 := cmpf .olt main_v9 main_v10
  let main_c_3 : IVec S_ 1 := constantI S_ 1 1#1
  let main_v12 : IVec S_ 1 := (fun x v => Host.reduce IntOp.andi x v reducesTo_S2x2048x1024_S_d0_1_2 h_S_) main_v11 main_c_3
  let main_v13 : IVec S_ 1 := andi main_v8 main_v12
  let main_v14 : FVec F S1024 .f32 := Host.absf main_arg3
  let main_cst_4 : FVec F S_ .f32 := constant S_ .f32 0x7F800000#32
  let main_v15 : FVec F S1024 .f32 := broadcastInDim S1024 ![] bcast_S_S1024 main_cst_4
  let main_v16 : IVec S1024 1 := cmpf .olt main_v14 main_v15
  fn_part1 (F := F) main_arg4 main_arg5 main_arg6 main_v13 main_v16
-- ==== Pre_finite_final.lean ====
abbrev S2x2048x1024 : Shape := ⟨3, ![2, 2048, 1024]⟩
abbrev S1024 : Shape := ⟨1, ![1024]⟩
abbrev S_ : Shape := ⟨0, ![]⟩

class Facts : Prop where
  bcast_S_S2x2048x1024 : S_.BroadcastsInDim S2x2048x1024 (![] : Fin 0 → Fin S2x2048x1024.rank)
  reducesTo_S2x2048x1024_S_d0_1_2 : S2x2048x1024.ReducesTo [0, 1, 2] S_
  h_S_ : 0 < S_.numel
  bcast_S_S1024 : S_.BroadcastsInDim S1024 (![] : Fin 0 → Fin S1024.rank)
  reducesTo_S1024_S_d0 : S1024.ReducesTo [0] S_

variable [Facts]

def fn {F : FTy → Type} [FloatOps F] (main_arg0 : FVec F S2x2048x1024 .f32) (main_arg1 : FVec F S1024 .f32) (main_arg2 : FVec F S2x2048x1024 .f32) : IVec S_ 1 :=
  let main_v0 : FVec F S2x2048x1024 .f32 := Host.absf main_arg0
  let main_cst : FVec F S_ .f32 := constant S_ .f32 0x7F800000#32
  let main_v1 : FVec F S2x2048x1024 .f32 := broadcastInDim S2x2048x1024 ![] bcast_S_S2x2048x1024 main_cst
  let main_v2 : IVec S2x2048x1024 1 := cmpf .olt main_v0 main_v1
  let main_c : IVec S_ 1 := constantI S_ 1 1#1
  let main_v3 : IVec S_ 1 := (fun x v => Host.reduce IntOp.andi x v reducesTo_S2x2048x1024_S_d0_1_2 h_S_) main_v2 main_c
  let main_v4 : FVec F S1024 .f32 := Host.absf main_arg1
  let main_cst_0 : FVec F S_ .f32 := constant S_ .f32 0x7F800000#32
  let main_v5 : FVec F S1024 .f32 := broadcastInDim S1024 ![] bcast_S_S1024 main_cst_0
  let main_v6 : IVec S1024 1 := cmpf .olt main_v4 main_v5
  let main_c_1 : IVec S_ 1 := constantI S_ 1 1#1
  let main_v7 : IVec S_ 1 := (fun x v => Host.reduce IntOp.andi x v reducesTo_S1024_S_d0 h_S_) main_v6 main_c_1
  let main_v8 : IVec S_ 1 := andi main_v3 main_v7
  let main_v9 : FVec F S2x2048x1024 .f32 := Host.absf main_arg2
  let main_cst_2 : FVec F S_ .f32 := constant S_ .f32 0x7F800000#32
  let main_v10 : FVec F S2x2048x1024 .f32 := broadcastInDim S2x2048x1024 ![] bcast_S_S2x2048x1024 main_cst_2
  let main_v11 : IVec S2x2048x1024 1 := cmpf .olt main_v9 main_v10
  let main_c_3 : IVec S_ 1 := constantI S_ 1 1#1
  let main_v12 : IVec S_ 1 := (fun x v => Host.reduce IntOp.andi x v reducesTo_S2x2048x1024_S_d0_1_2 h_S_) main_v11 main_c_3
  let main_v13 : IVec S_ 1 := andi main_v8 main_v12
  main_v13
-- ==== Pre_finite_gmlp.lean ====
abbrev S2x2048x1024 : Shape := ⟨3, ![2, 2048, 1024]⟩
abbrev S1024 : Shape := ⟨1, ![1024]⟩
abbrev S1024x2048 : Shape := ⟨2, ![1024, 2048]⟩
abbrev S8x128x128 : Shape := ⟨3, ![8, 128, 128]⟩
abbrev S8x128 : Shape := ⟨2, ![8, 128]⟩
abbrev S_ : Shape := ⟨0, ![]⟩

class Facts : Prop where
  bcast_S_S2x2048x1024 : S_.BroadcastsInDim S2x2048x1024 (![] : Fin 0 → Fin S2x2048x1024.rank)
  reducesTo_S2x2048x1024_S_d0_1_2 : S2x2048x1024.ReducesTo [0, 1, 2] S_
  h_S_ : 0 < S_.numel
  bcast_S_S1024 : S_.BroadcastsInDim S1024 (![] : Fin 0 → Fin S1024.rank)
  reducesTo_S1024_S_d0 : S1024.ReducesTo [0] S_
  bcast_S_S1024x2048 : S_.BroadcastsInDim S1024x2048 (![] : Fin 0 → Fin S1024x2048.rank)
  reducesTo_S1024x2048_S_d0_1 : S1024x2048.ReducesTo [0, 1] S_
  bcast_S_S8x128x128 : S_.BroadcastsInDim S8x128x128 (![] : Fin 0 → Fin S8x128x128.rank)
  reducesTo_S8x128x128_S_d0_1_2 : S8x128x128.ReducesTo [0, 1, 2] S_
  bcast_S_S8x128 : S_.BroadcastsInDim S8x128 (![] : Fin 0 → Fin S8x128.rank)
  reducesTo_S8x128_S_d0_1 : S8x128.ReducesTo [0, 1] S_

variable [Facts]

def fn_part2 {F : FTy → Type} [FloatOps F] (main_arg7 : FVec F S2x2048x1024 .f32) (main_v33 : IVec S_ 1) : IVec S_ 1 :=
  let main_v34 : FVec F S2x2048x1024 .f32 := Host.absf main_arg7
  let main_cst_12 : FVec F S_ .f32 := constant S_ .f32 0x7F800000#32
  let main_v35 : FVec F S2x2048x1024 .f32 := broadcastInDim S2x2048x1024 ![] bcast_S_S2x2048x1024 main_cst_12
  let main_v36 : IVec S2x2048x1024 1 := cmpf .olt main_v34 main_v35
  let main_c_13 : IVec S_ 1 := constantI S_ 1 1#1
  let main_v37 : IVec S_ 1 := (fun x v => Host.reduce IntOp.andi x v reducesTo_S2x2048x1024_S_d0_1_2 h_S_) main_v36 main_c_13
  let main_v38 : IVec S_ 1 := andi main_v33 main_v37
  main_v38

def fn_part1 {F : FTy → Type} [FloatOps F] (main_arg4 : FVec F S8x128x128 .f32) (main_arg5 : FVec F S8x128 .f32) (main_arg6 : FVec F S2x2048x1024 .f32) (main_arg7 : FVec F S2x2048x1024 .f32) (main_v13 : IVec S_ 1) (main_v16 : IVec S1024 1) : IVec S_ 1 :=
  let main_c_5 : IVec S_ 1 := constantI S_ 1 1#1
  let main_v17 : IVec S_ 1 := (fun x v => Host.reduce IntOp.andi x v reducesTo_S1024_S_d0 h_S_) main_v16 main_c_5
  let main_v18 : IVec S_ 1 := andi main_v13 main_v17
  let main_v19 : FVec F S8x128x128 .f32 := Host.absf main_arg4
  let main_cst_6 : FVec F S_ .f32 := constant S_ .f32 0x7F800000#32
  let main_v20 : FVec F S8x128x128 .f32 := broadcastInDim S8x128x128 ![] bcast_S_S8x128x128 main_cst_6
  let main_v21 : IVec S8x128x128 1 := cmpf .olt main_v19 main_v20
  let main_c_7 : IVec S_ 1 := constantI S_ 1 1#1
  let main_v22 : IVec S_ 1 := (fun x v => Host.reduce IntOp.andi x v reducesTo_S8x128x128_S_d0_1_2 h_S_) main_v21 main_c_7
  let main_v23 : IVec S_ 1 := andi main_v18 main_v22
  let main_v24 : FVec F S8x128 .f32 := Host.absf main_arg5
  let main_cst_8 : FVec F S_ .f32 := constant S_ .f32 0x7F800000#32
  let main_v25 : FVec F S8x128 .f32 := broadcastInDim S8x128 ![] bcast_S_S8x128 main_cst_8
  let main_v26 : IVec S8x128 1 := cmpf .olt main_v24 main_v25
  let main_c_9 : IVec S_ 1 := constantI S_ 1 1#1
  let main_v27 : IVec S_ 1 := (fun x v => Host.reduce IntOp.andi x v reducesTo_S8x128_S_d0_1 h_S_) main_v26 main_c_9
  let main_v28 : IVec S_ 1 := andi main_v23 main_v27
  let main_v29 : FVec F S2x2048x1024 .f32 := Host.absf main_arg6
  let main_cst_10 : FVec F S_ .f32 := constant S_ .f32 0x7F800000#32
  let main_v30 : FVec F S2x2048x1024 .f32 := broadcastInDim S2x2048x1024 ![] bcast_S_S2x2048x1024 main_cst_10
  let main_v31 : IVec S2x2048x1024 1 := cmpf .olt main_v29 main_v30
  let main_c_11 : IVec S_ 1 := constantI S_ 1 1#1
  let main_v32 : IVec S_ 1 := (fun x v => Host.reduce IntOp.andi x v reducesTo_S2x2048x1024_S_d0_1_2 h_S_) main_v31 main_c_11
  let main_v33 : IVec S_ 1 := andi main_v28 main_v32
  fn_part2 (F := F) main_arg7 main_v33

def fn {F : FTy → Type} [FloatOps F] (main_arg0 : FVec F S2x2048x1024 .f32) (main_arg1 : FVec F S1024 .f32) (main_arg2 : FVec F S1024x2048 .f32) (main_arg3 : FVec F S1024 .f32) (main_arg4 : FVec F S8x128x128 .f32) (main_arg5 : FVec F S8x128 .f32) (main_arg6 : FVec F S2x2048x1024 .f32) (main_arg7 : FVec F S2x2048x1024 .f32) : IVec S_ 1 :=
  let main_v0 : FVec F S2x2048x1024 .f32 := Host.absf main_arg0
  let main_cst : FVec F S_ .f32 := constant S_ .f32 0x7F800000#32
  let main_v1 : FVec F S2x2048x1024 .f32 := broadcastInDim S2x2048x1024 ![] bcast_S_S2x2048x1024 main_cst
  let main_v2 : IVec S2x2048x1024 1 := cmpf .olt main_v0 main_v1
  let main_c : IVec S_ 1 := constantI S_ 1 1#1
  let main_v3 : IVec S_ 1 := (fun x v => Host.reduce IntOp.andi x v reducesTo_S2x2048x1024_S_d0_1_2 h_S_) main_v2 main_c
  let main_v4 : FVec F S1024 .f32 := Host.absf main_arg1
  let main_cst_0 : FVec F S_ .f32 := constant S_ .f32 0x7F800000#32
  let main_v5 : FVec F S1024 .f32 := broadcastInDim S1024 ![] bcast_S_S1024 main_cst_0
  let main_v6 : IVec S1024 1 := cmpf .olt main_v4 main_v5
  let main_c_1 : IVec S_ 1 := constantI S_ 1 1#1
  let main_v7 : IVec S_ 1 := (fun x v => Host.reduce IntOp.andi x v reducesTo_S1024_S_d0 h_S_) main_v6 main_c_1
  let main_v8 : IVec S_ 1 := andi main_v3 main_v7
  let main_v9 : FVec F S1024x2048 .f32 := Host.absf main_arg2
  let main_cst_2 : FVec F S_ .f32 := constant S_ .f32 0x7F800000#32
  let main_v10 : FVec F S1024x2048 .f32 := broadcastInDim S1024x2048 ![] bcast_S_S1024x2048 main_cst_2
  let main_v11 : IVec S1024x2048 1 := cmpf .olt main_v9 main_v10
  let main_c_3 : IVec S_ 1 := constantI S_ 1 1#1
  let main_v12 : IVec S_ 1 := (fun x v => Host.reduce IntOp.andi x v reducesTo_S1024x2048_S_d0_1 h_S_) main_v11 main_c_3
  let main_v13 : IVec S_ 1 := andi main_v8 main_v12
  let main_v14 : FVec F S1024 .f32 := Host.absf main_arg3
  let main_cst_4 : FVec F S_ .f32 := constant S_ .f32 0x7F800000#32
  let main_v15 : FVec F S1024 .f32 := broadcastInDim S1024 ![] bcast_S_S1024 main_cst_4
  let main_v16 : IVec S1024 1 := cmpf .olt main_v14 main_v15
  fn_part1 (F := F) main_arg4 main_arg5 main_arg6 main_arg7 main_v13 main_v16
-- ==== Pre_finite_gmlp_fwd.lean ====
abbrev S2x2048x1024 : Shape := ⟨3, ![2, 2048, 1024]⟩
abbrev S1024 : Shape := ⟨1, ![1024]⟩
abbrev S1024x2048 : Shape := ⟨2, ![1024, 2048]⟩
abbrev S8x128x128 : Shape := ⟨3, ![8, 128, 128]⟩
abbrev S8x128 : Shape := ⟨2, ![8, 128]⟩
abbrev S_ : Shape := ⟨0, ![]⟩

class Facts : Prop where
  bcast_S_S2x2048x1024 : S_.BroadcastsInDim S2x2048x1024 (![] : Fin 0 → Fin S2x2048x1024.rank)
  reducesTo_S2x2048x1024_S_d0_1_2 : S2x2048x1024.ReducesTo [0, 1, 2] S_
  h_S_ : 0 < S_.numel
  bcast_S_S1024 : S_.BroadcastsInDim S1024 (![] : Fin 0 → Fin S1024.rank)
  reducesTo_S1024_S_d0 : S1024.ReducesTo [0] S_
  bcast_S_S1024x2048 : S_.BroadcastsInDim S1024x2048 (![] : Fin 0 → Fin S1024x2048.rank)
  reducesTo_S1024x2048_S_d0_1 : S1024x2048.ReducesTo [0, 1] S_
  bcast_S_S8x128x128 : S_.BroadcastsInDim S8x128x128 (![] : Fin 0 → Fin S8x128x128.rank)
  reducesTo_S8x128x128_S_d0_1_2 : S8x128x128.ReducesTo [0, 1, 2] S_
  bcast_S_S8x128 : S_.BroadcastsInDim S8x128 (![] : Fin 0 → Fin S8x128.rank)
  reducesTo_S8x128_S_d0_1 : S8x128.ReducesTo [0, 1] S_

variable [Facts]

def fn_part1 {F : FTy → Type} [FloatOps F] (main_arg4 : FVec F S8x128x128 .f32) (main_arg5 : FVec F S8x128 .f32) (main_v13 : IVec S_ 1) (main_v16 : IVec S1024 1) : IVec S_ 1 :=
  let main_c_5 : IVec S_ 1 := constantI S_ 1 1#1
  let main_v17 : IVec S_ 1 := (fun x v => Host.reduce IntOp.andi x v reducesTo_S1024_S_d0 h_S_) main_v16 main_c_5
  let main_v18 : IVec S_ 1 := andi main_v13 main_v17
  let main_v19 : FVec F S8x128x128 .f32 := Host.absf main_arg4
  let main_cst_6 : FVec F S_ .f32 := constant S_ .f32 0x7F800000#32
  let main_v20 : FVec F S8x128x128 .f32 := broadcastInDim S8x128x128 ![] bcast_S_S8x128x128 main_cst_6
  let main_v21 : IVec S8x128x128 1 := cmpf .olt main_v19 main_v20
  let main_c_7 : IVec S_ 1 := constantI S_ 1 1#1
  let main_v22 : IVec S_ 1 := (fun x v => Host.reduce IntOp.andi x v reducesTo_S8x128x128_S_d0_1_2 h_S_) main_v21 main_c_7
  let main_v23 : IVec S_ 1 := andi main_v18 main_v22
  let main_v24 : FVec F S8x128 .f32 := Host.absf main_arg5
  let main_cst_8 : FVec F S_ .f32 := constant S_ .f32 0x7F800000#32
  let main_v25 : FVec F S8x128 .f32 := broadcastInDim S8x128 ![] bcast_S_S8x128 main_cst_8
  let main_v26 : IVec S8x128 1 := cmpf .olt main_v24 main_v25
  let main_c_9 : IVec S_ 1 := constantI S_ 1 1#1
  let main_v27 : IVec S_ 1 := (fun x v => Host.reduce IntOp.andi x v reducesTo_S8x128_S_d0_1 h_S_) main_v26 main_c_9
  let main_v28 : IVec S_ 1 := andi main_v23 main_v27
  main_v28

def fn {F : FTy → Type} [FloatOps F] (main_arg0 : FVec F S2x2048x1024 .f32) (main_arg1 : FVec F S1024 .f32) (main_arg2 : FVec F S1024x2048 .f32) (main_arg3 : FVec F S1024 .f32) (main_arg4 : FVec F S8x128x128 .f32) (main_arg5 : FVec F S8x128 .f32) : IVec S_ 1 :=
  let main_v0 : FVec F S2x2048x1024 .f32 := Host.absf main_arg0
  let main_cst : FVec F S_ .f32 := constant S_ .f32 0x7F800000#32
  let main_v1 : FVec F S2x2048x1024 .f32 := broadcastInDim S2x2048x1024 ![] bcast_S_S2x2048x1024 main_cst
  let main_v2 : IVec S2x2048x1024 1 := cmpf .olt main_v0 main_v1
  let main_c : IVec S_ 1 := constantI S_ 1 1#1
  let main_v3 : IVec S_ 1 := (fun x v => Host.reduce IntOp.andi x v reducesTo_S2x2048x1024_S_d0_1_2 h_S_) main_v2 main_c
  let main_v4 : FVec F S1024 .f32 := Host.absf main_arg1
  let main_cst_0 : FVec F S_ .f32 := constant S_ .f32 0x7F800000#32
  let main_v5 : FVec F S1024 .f32 := broadcastInDim S1024 ![] bcast_S_S1024 main_cst_0
  let main_v6 : IVec S1024 1 := cmpf .olt main_v4 main_v5
  let main_c_1 : IVec S_ 1 := constantI S_ 1 1#1
  let main_v7 : IVec S_ 1 := (fun x v => Host.reduce IntOp.andi x v reducesTo_S1024_S_d0 h_S_) main_v6 main_c_1
  let main_v8 : IVec S_ 1 := andi main_v3 main_v7
  let main_v9 : FVec F S1024x2048 .f32 := Host.absf main_arg2
  let main_cst_2 : FVec F S_ .f32 := constant S_ .f32 0x7F800000#32
  let main_v10 : FVec F S1024x2048 .f32 := broadcastInDim S1024x2048 ![] bcast_S_S1024x2048 main_cst_2
  let main_v11 : IVec S1024x2048 1 := cmpf .olt main_v9 main_v10
  let main_c_3 : IVec S_ 1 := constantI S_ 1 1#1
  let main_v12 : IVec S_ 1 := (fun x v => Host.reduce IntOp.andi x v reducesTo_S1024x2048_S_d0_1 h_S_) main_v11 main_c_3
  let main_v13 : IVec S_ 1 := andi main_v8 main_v12
  let main_v14 : FVec F S1024 .f32 := Host.absf main_arg3
  let main_cst_4 : FVec F S_ .f32 := constant S_ .f32 0x7F800000#32
  let main_v15 : FVec F S1024 .f32 := broadcastInDim S1024 ![] bcast_S_S1024 main_cst_4
  let main_v16 : IVec S1024 1 := cmpf .olt main_v14 main_v15
  fn_part1 (F := F) main_arg4 main_arg5 main_v13 main_v16
-- ==== Pre_finite_pool.lean ====
abbrev S2x2048x1024 : Shape := ⟨3, ![2, 2048, 1024]⟩
abbrev S1024 : Shape := ⟨1, ![1024]⟩
abbrev S1024x1024 : Shape := ⟨2, ![1024, 1024]⟩
abbrev S4x256x256 : Shape := ⟨3, ![4, 256, 256]⟩
abbrev S_ : Shape := ⟨0, ![]⟩

class Facts : Prop where
  bcast_S_S2x2048x1024 : S_.BroadcastsInDim S2x2048x1024 (![] : Fin 0 → Fin S2x2048x1024.rank)
  reducesTo_S2x2048x1024_S_d0_1_2 : S2x2048x1024.ReducesTo [0, 1, 2] S_
  h_S_ : 0 < S_.numel
  bcast_S_S1024 : S_.BroadcastsInDim S1024 (![] : Fin 0 → Fin S1024.rank)
  reducesTo_S1024_S_d0 : S1024.ReducesTo [0] S_
  bcast_S_S1024x1024 : S_.BroadcastsInDim S1024x1024 (![] : Fin 0 → Fin S1024x1024.rank)
  reducesTo_S1024x1024_S_d0_1 : S1024x1024.ReducesTo [0, 1] S_
  bcast_S_S4x256x256 : S_.BroadcastsInDim S4x256x256 (![] : Fin 0 → Fin S4x256x256.rank)
  reducesTo_S4x256x256_S_d0_1_2 : S4x256x256.ReducesTo [0, 1, 2] S_

variable [Facts]

def fn_part1 {F : FTy → Type} [FloatOps F] (main_arg4 : FVec F S1024 .f32) (main_arg5 : FVec F S2x2048x1024 .f32) (main_arg6 : FVec F S2x2048x1024 .f32) (main_v13 : IVec S_ 1) (main_v16 : IVec S4x256x256 1) : IVec S_ 1 :=
  let main_c_5 : IVec S_ 1 := constantI S_ 1 1#1
  let main_v17 : IVec S_ 1 := (fun x v => Host.reduce IntOp.andi x v reducesTo_S4x256x256_S_d0_1_2 h_S_) main_v16 main_c_5
  let main_v18 : IVec S_ 1 := andi main_v13 main_v17
  let main_v19 : FVec F S1024 .f32 := Host.absf main_arg4
  let main_cst_6 : FVec F S_ .f32 := constant S_ .f32 0x7F800000#32
  let main_v20 : FVec F S1024 .f32 := broadcastInDim S1024 ![] bcast_S_S1024 main_cst_6
  let main_v21 : IVec S1024 1 := cmpf .olt main_v19 main_v20
  let main_c_7 : IVec S_ 1 := constantI S_ 1 1#1
  let main_v22 : IVec S_ 1 := (fun x v => Host.reduce IntOp.andi x v reducesTo_S1024_S_d0 h_S_) main_v21 main_c_7
  let main_v23 : IVec S_ 1 := andi main_v18 main_v22
  let main_v24 : FVec F S2x2048x1024 .f32 := Host.absf main_arg5
  let main_cst_8 : FVec F S_ .f32 := constant S_ .f32 0x7F800000#32
  let main_v25 : FVec F S2x2048x1024 .f32 := broadcastInDim S2x2048x1024 ![] bcast_S_S2x2048x1024 main_cst_8
  let main_v26 : IVec S2x2048x1024 1 := cmpf .olt main_v24 main_v25
  let main_c_9 : IVec S_ 1 := constantI S_ 1 1#1
  let main_v27 : IVec S_ 1 := (fun x v => Host.reduce IntOp.andi x v reducesTo_S2x2048x1024_S_d0_1_2 h_S_) main_v26 main_c_9
  let main_v28 : IVec S_ 1 := andi main_v23 main_v27
  let main_v29 : FVec F S2x2048x1024 .f32 := Host.absf main_arg6
  let main_cst_10 : FVec F S_ .f32 := constant S_ .f32 0x7F800000#32
  let main_v30 : FVec F S2x2048x1024 .f32 := broadcastInDim S2x2048x1024 ![] bcast_S_S2x2048x1024 main_cst_10
  let main_v31 : IVec S2x2048x1024 1 := cmpf .olt main_v29 main_v30
  let main_c_11 : IVec S_ 1 := constantI S_ 1 1#1
  let main_v32 : IVec S_ 1 := (fun x v => Host.reduce IntOp.andi x v reducesTo_S2x2048x1024_S_d0_1_2 h_S_) main_v31 main_c_11
  let main_v33 : IVec S_ 1 := andi main_v28 main_v32
  main_v33

def fn {F : FTy → Type} [FloatOps F] (main_arg0 : FVec F S2x2048x1024 .f32) (main_arg1 : FVec F S1024 .f32) (main_arg2 : FVec F S1024x1024 .f32) (main_arg3 : FVec F S4x256x256 .f32) (main_arg4 : FVec F S1024 .f32) (main_arg5 : FVec F S2x2048x1024 .f32) (main_arg6 : FVec F S2x2048x1024 .f32) : IVec S_ 1 :=
  let main_v0 : FVec F S2x2048x1024 .f32 := Host.absf main_arg0
  let main_cst : FVec F S_ .f32 := constant S_ .f32 0x7F800000#32
  let main_v1 : FVec F S2x2048x1024 .f32 := broadcastInDim S2x2048x1024 ![] bcast_S_S2x2048x1024 main_cst
  let main_v2 : IVec S2x2048x1024 1 := cmpf .olt main_v0 main_v1
  let main_c : IVec S_ 1 := constantI S_ 1 1#1
  let main_v3 : IVec S_ 1 := (fun x v => Host.reduce IntOp.andi x v reducesTo_S2x2048x1024_S_d0_1_2 h_S_) main_v2 main_c
  let main_v4 : FVec F S1024 .f32 := Host.absf main_arg1
  let main_cst_0 : FVec F S_ .f32 := constant S_ .f32 0x7F800000#32
  let main_v5 : FVec F S1024 .f32 := broadcastInDim S1024 ![] bcast_S_S1024 main_cst_0
  let main_v6 : IVec S1024 1 := cmpf .olt main_v4 main_v5
  let main_c_1 : IVec S_ 1 := constantI S_ 1 1#1
  let main_v7 : IVec S_ 1 := (fun x v => Host.reduce IntOp.andi x v reducesTo_S1024_S_d0 h_S_) main_v6 main_c_1
  let main_v8 : IVec S_ 1 := andi main_v3 main_v7
  let main_v9 : FVec F S1024x1024 .f32 := Host.absf main_arg2
  let main_cst_2 : FVec F S_ .f32 := constant S_ .f32 0x7F800000#32
  let main_v10 : FVec F S1024x1024 .f32 := broadcastInDim S1024x1024 ![] bcast_S_S1024x1024 main_cst_2
  let main_v11 : IVec S1024x1024 1 := cmpf .olt main_v9 main_v10
  let main_c_3 : IVec S_ 1 := constantI S_ 1 1#1
  let main_v12 : IVec S_ 1 := (fun x v => Host.reduce IntOp.andi x v reducesTo_S1024x1024_S_d0_1 h_S_) main_v11 main_c_3
  let main_v13 : IVec S_ 1 := andi main_v8 main_v12
  let main_v14 : FVec F S4x256x256 .f32 := Host.absf main_arg3
  let main_cst_4 : FVec F S_ .f32 := constant S_ .f32 0x7F800000#32
  let main_v15 : FVec F S4x256x256 .f32 := broadcastInDim S4x256x256 ![] bcast_S_S4x256x256 main_cst_4
  let main_v16 : IVec S4x256x256 1 := cmpf .olt main_v14 main_v15
  fn_part1 (F := F) main_arg4 main_arg5 main_arg6 main_v13 main_v16
-- ==== LossBwd.lean ====
abbrev S2x2048x1024 : Shape := ⟨3, ![2, 2048, 1024]⟩
abbrev S1024 : Shape := ⟨1, ![1024]⟩
abbrev S4096x1024 : Shape := ⟨2, ![4096, 1024]⟩
abbrev S1x1024 : Shape := ⟨2, ![1, 1024]⟩
abbrev S8x128 : Shape := ⟨2, ![8, 128]⟩
abbrev S512x1024 : Shape := ⟨2, ![512, 1024]⟩
abbrev S512 : Shape := ⟨1, ![512]⟩
abbrev S512x1 : Shape := ⟨2, ![512, 1]⟩
abbrev S1x512x1 : Shape := ⟨3, ![1, 512, 1]⟩
abbrev S1 : Shape := ⟨1, ![1]⟩
abbrev S1x1x1 : Shape := ⟨3, ![1, 1, 1]⟩

abbrev nBuf : Space → Nat
  | .hbm => 9
  | .vmem => 9
  | .smem => 0
  | _ => 0

abbrev bufTy : (tb : Table) → Fin (tcTables nBuf tb) → BufTy
  | .hbm, ⟨0, _⟩ => ⟨S2x2048x1024, .f32⟩
  | .hbm, ⟨1, _⟩ => ⟨S1024, .f32⟩
  | .hbm, ⟨2, _⟩ => ⟨S2x2048x1024, .f32⟩
  | .hbm, ⟨3, _⟩ => ⟨S4096x1024, .f32⟩
  | .hbm, ⟨4, _⟩ => ⟨S1x1024, .f32⟩
  | .hbm, ⟨5, _⟩ => ⟨S4096x1024, .f32⟩
  | .hbm, ⟨6, _⟩ => ⟨S8x128, .f32⟩
  | .hbm, ⟨7, _⟩ => ⟨S4096x1024, .f32⟩
  | .hbm, ⟨8, _⟩ => ⟨S1x1024, .f32⟩
  | .local _ .vmem, ⟨0, _⟩ => ⟨S512x1024, .f32⟩
  | .local _ .vmem, ⟨1, _⟩ => ⟨S512x1024, .f32⟩
  | .local _ .vmem, ⟨2, _⟩ => ⟨S1x1024, .f32⟩
  | .local _ .vmem, ⟨3, _⟩ => ⟨S512x1024, .f32⟩
  | .local _ .vmem, ⟨4, _⟩ => ⟨S512x1024, .f32⟩
  | .local _ .vmem, ⟨5, _⟩ => ⟨S8x128, .f32⟩
  | .local _ .vmem, ⟨6, _⟩ => ⟨S512x1024, .f32⟩
  | .local _ .vmem, ⟨7, _⟩ => ⟨S512x1024, .f32⟩
  | .local _ .vmem, ⟨8, _⟩ => ⟨S1x1024, .f32⟩
  | _, _ => ⟨S2x2048x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 9 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | _ => false

abbrev sig : RefSig :=
  ofTc nBuf bufTy 0 9 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3_0 : Ref sig .tc := ⟨.hbm, 6, rfl⟩
abbrev main_v3_1 : Ref sig .tc := ⟨.hbm, 7, rfl⟩
abbrev main_v3_2 : Ref sig .tc := ⟨.hbm, 8, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem4_0 : DmaSem sig := 6
abbrev cc0_sem4_1 : DmaSem sig := 7
abbrev cc0_sem5_0 : DmaSem sig := 8

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S512x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S8x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S512x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 1 → Memref sig .tc .vmem S1x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]
-- ==== LossRefIdeal.lean ====
abbrev S2x2048x1024 : Shape := ⟨3, ![2, 2048, 1024]⟩
abbrev S1024 : Shape := ⟨1, ![1024]⟩
abbrev S_ : Shape := ⟨0, ![]⟩
abbrev S2x2048 : Shape := ⟨2, ![2, 2048]⟩
abbrev S2x2048x1 : Shape := ⟨3, ![2, 2048, 1]⟩
abbrev S1x1x1024 : Shape := ⟨3, ![1, 1, 1024]⟩
abbrev S8x128 : Shape := ⟨2, ![8, 128]⟩
abbrev S4096x1024 : Shape := ⟨2, ![4096, 1024]⟩
abbrev S1x1024 : Shape := ⟨2, ![1, 1024]⟩

abbrev nBuf : Space → Nat
  | .hbm => 74
  | .vmem => 0
  | .smem => 0
  | _ => 0

abbrev bufTy : (tb : Table) → Fin (tcTables nBuf tb) → BufTy
  | .hbm, ⟨0, _⟩ => ⟨S2x2048x1024, .f32⟩
  | .hbm, ⟨1, _⟩ => ⟨S1024, .f32⟩
  | .hbm, ⟨2, _⟩ => ⟨S2x2048x1024, .f32⟩
  | .hbm, ⟨3, _⟩ => ⟨S2x2048x1024, .f32⟩
  | .hbm, ⟨4, _⟩ => ⟨S_, .f32⟩
  | .hbm, ⟨5, _⟩ => ⟨S2x2048, .f32⟩
  | .hbm, ⟨6, _⟩ => ⟨S2x2048x1, .f32⟩
  | .hbm, ⟨7, _⟩ => ⟨S_, .f32⟩
  | .hbm, ⟨8, _⟩ => ⟨S2x2048x1, .f32⟩
  | .hbm, ⟨9, _⟩ => ⟨S2x2048x1, .f32⟩
  | .hbm, ⟨10, _⟩ => ⟨S_, .f32⟩
  | .hbm, ⟨11, _⟩ => ⟨S2x2048x1, .f32⟩
  | .hbm, ⟨12, _⟩ => ⟨S2x2048x1, .f32⟩
  | .hbm, ⟨13, _⟩ => ⟨S2x2048x1, .f32⟩
  | .hbm, ⟨14, _⟩ => ⟨S2x2048x1, .f32⟩
  | .hbm, ⟨15, _⟩ => ⟨S_, .f32⟩
  | .hbm, ⟨16, _⟩ => ⟨S2x2048x1, .f32⟩
  | .hbm, ⟨17, _⟩ => ⟨S2x2048x1, .f32⟩
  | .hbm, ⟨18, _⟩ => ⟨S2x2048x1024, .f32⟩
  | .hbm, ⟨19, _⟩ => ⟨S2x2048x1024, .f32⟩
  | .hbm, ⟨20, _⟩ => ⟨S1x1x1024, .f32⟩
  | .hbm, ⟨21, _⟩ => ⟨S2x2048x1024, .f32⟩
  | .hbm, ⟨22, _⟩ => ⟨S2x2048x1024, .f32⟩
  | .hbm, ⟨23, _⟩ => ⟨S2x2048x1024, .f32⟩
  | .hbm, ⟨24, _⟩ => ⟨S2x2048x1024, .f32⟩
  | .hbm, ⟨25, _⟩ => ⟨S_, .f32⟩
  | .hbm, ⟨26, _⟩ => ⟨S2x2048x1024, .f32⟩
  | .hbm, ⟨27, _⟩ => ⟨S2x2048x1024, .f32⟩
  | .hbm, ⟨28, _⟩ => ⟨S_, .f32⟩
  | .hbm, ⟨29, _⟩ => ⟨S2x2048, .f32⟩
  | .hbm, ⟨30, _⟩ => ⟨S_, .f32⟩
  | .hbm, ⟨31, _⟩ => ⟨S2x2048, .f32⟩
  | .hbm, ⟨32, _⟩ => ⟨S2x2048, .f32⟩
  | .hbm, ⟨33, _⟩ => ⟨S_, .f32⟩
  | .hbm, ⟨34, _⟩ => ⟨S_, .f32⟩
  | .hbm, ⟨35, _⟩ => ⟨S_, .f32⟩
  | .hbm, ⟨36, _⟩ => ⟨S_, .f32⟩
  | .hbm, ⟨37, _⟩ => ⟨S_, .f32⟩
  | .hbm, ⟨38, _⟩ => ⟨S_, .f32⟩
  | .hbm, ⟨39, _⟩ => ⟨S_, .f32⟩
  | .hbm, ⟨40, _⟩ => ⟨S2x2048, .f32⟩
  | .hbm, ⟨41, _⟩ => ⟨S_, .f32⟩
  | .hbm, ⟨42, _⟩ => ⟨S2x2048, .f32⟩
  | .hbm, ⟨43, _⟩ => ⟨S2x2048, .f32⟩
  | .hbm, ⟨44, _⟩ => ⟨S2x2048x1024, .f32⟩
  | .hbm, ⟨45, _⟩ => ⟨S2x2048x1024, .f32⟩
  | .hbm, ⟨46, _⟩ => ⟨S2x2048x1024, .f32⟩
  | .hbm, ⟨47, _⟩ => ⟨S_, .f32⟩
  | .hbm, ⟨48, _⟩ => ⟨S1024, .f32⟩
  | .hbm, ⟨49, _⟩ => ⟨S1x1x1024, .f32⟩
  | .hbm, ⟨50, _⟩ => ⟨S2x2048x1024, .f32⟩
  | .hbm, ⟨51, _⟩ => ⟨S2x2048x1024, .f32⟩
  | .hbm, ⟨52, _⟩ => ⟨S_, .f32⟩
  | .hbm, ⟨53, _⟩ => ⟨S1024, .f32⟩
  | .hbm, ⟨54, _⟩ => ⟨S2x2048x1024, .f32⟩
  | .hbm, ⟨55, _⟩ => ⟨S_, .f32⟩
  | .hbm, ⟨56, _⟩ => ⟨S2x2048, .f32⟩
  | .hbm, ⟨57, _⟩ => ⟨S2x2048x1, .f32⟩
  | .hbm, ⟨58, _⟩ => ⟨S2x2048x1024, .f32⟩
  | .hbm, ⟨59, _⟩ => ⟨S2x2048x1024, .f32⟩
  | .hbm, ⟨60, _⟩ => ⟨S2x2048x1, .f32⟩
  | .hbm, ⟨61, _⟩ => ⟨S_, .f32⟩
  | .hbm, ⟨62, _⟩ => ⟨S2x2048x1, .f32⟩
  | .hbm, ⟨63, _⟩ => ⟨S2x2048x1, .f32⟩
  | .hbm, ⟨64, _⟩ => ⟨S_, .f32⟩
  | .hbm, ⟨65, _⟩ => ⟨S2x2048, .f32⟩
  | .hbm, ⟨66, _⟩ => ⟨S2x2048x1024, .f32⟩
  | .hbm, ⟨67, _⟩ => ⟨S2x2048x1024, .f32⟩
  | .hbm, ⟨68, _⟩ => ⟨S2x2048x1024, .f32⟩
  | .hbm, ⟨69, _⟩ => ⟨S2x2048x1024, .f32⟩
  | .hbm, ⟨70, _⟩ => ⟨S2x2048x1024, .f32⟩
  | .hbm, ⟨71, _⟩ => ⟨S8x128, .f32⟩
  | .hbm, ⟨72, _⟩ => ⟨S4096x1024, .f32⟩
  | .hbm, ⟨73, _⟩ => ⟨S1x1024, .f32⟩
  | _, _ => ⟨S2x2048x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_cst : Ref sig .tc := ⟨.hbm, 4, rfl⟩
abbrev main_v1 : Ref sig .tc := ⟨.hbm, 5, rfl⟩
abbrev main_v2 : Ref sig .tc := ⟨.hbm, 6, rfl⟩
abbrev main_cst_0 : Ref sig .tc := ⟨.hbm, 7, rfl⟩
abbrev main_v3 : Ref sig .tc := ⟨.hbm, 8, rfl⟩
abbrev main_v4 : Ref sig .tc := ⟨.hbm, 9, rfl⟩
abbrev main_cst_1 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_cst_2 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_cst_3 : Ref sig .tc := ⟨.hbm, 25, rfl⟩
abbrev main_v18 : Ref sig .tc := ⟨.hbm, 26, rfl⟩
abbrev main_v19 : Ref sig .tc := ⟨.hbm, 27, rfl⟩
abbrev main_cst_4 : Ref sig .tc := ⟨.hbm, 28, rfl⟩
abbrev main_v20 : Ref sig .tc := ⟨.hbm, 29, rfl⟩
abbrev main_cst_5 : Ref sig .tc := ⟨.hbm, 30, rfl⟩
abbrev main_v21 : Ref sig .tc := ⟨.hbm, 31, rfl⟩
abbrev main_v22 : Ref sig .tc := ⟨.hbm, 32, rfl⟩
abbrev main_cst_6 : Ref sig .tc := ⟨.hbm, 33, rfl⟩
abbrev main_v23 : Ref sig .tc := ⟨.hbm, 34, rfl⟩
abbrev main_cst_7 : Ref sig .tc := ⟨.hbm, 35, rfl⟩
abbrev main_v24 : Ref sig .tc := ⟨.hbm, 36, rfl⟩
abbrev main_cst_8 : Ref sig .tc := ⟨.hbm, 37, rfl⟩
abbrev main_cst_9 : Ref sig .tc := ⟨.hbm, 38, rfl⟩
abbrev main_v25 : Ref sig .tc := ⟨.hbm, 39, rfl⟩
abbrev main_v26 : Ref sig .tc := ⟨.hbm, 40, rfl⟩
abbrev main_cst_10 : Ref sig .tc := ⟨.hbm, 41, rfl⟩
abbrev main_v27 : Ref sig .tc := ⟨.hbm, 42, rfl⟩
abbrev main_v28 : Ref sig .tc := ⟨.hbm, 43, rfl⟩
abbrev main_v29 : Ref sig .tc := ⟨.hbm, 44, rfl⟩
abbrev main_v30 : Ref sig .tc := ⟨.hbm, 45, rfl⟩
abbrev main_v31 : Ref sig .tc := ⟨.hbm, 46, rfl⟩
abbrev main_cst_11 : Ref sig .tc := ⟨.hbm, 47, rfl⟩
abbrev main_v32 : Ref sig .tc := ⟨.hbm, 48, rfl⟩
abbrev main_v33 : Ref sig .tc := ⟨.hbm, 49, rfl⟩
abbrev main_v34 : Ref sig .tc := ⟨.hbm, 50, rfl⟩
abbrev main_v35 : Ref sig .tc := ⟨.hbm, 51, rfl⟩
abbrev main_cst_12 : Ref sig .tc := ⟨.hbm, 52, rfl⟩
abbrev main_v36 : Ref sig .tc := ⟨.hbm, 53, rfl⟩
abbrev main_v37 : Ref sig .tc := ⟨.hbm, 54, rfl⟩
abbrev main_cst_13 : Ref sig .tc := ⟨.hbm, 55, rfl⟩
abbrev main_v38 : Ref sig .tc := ⟨.hbm, 56, rfl⟩
abbrev main_v39 : Ref sig .tc := ⟨.hbm, 57, rfl⟩
abbrev main_v40 : Ref sig .tc := ⟨.hbm, 58, rfl⟩
abbrev main_v41 : Ref sig .tc := ⟨.hbm, 59, rfl⟩
abbrev main_v42 : Ref sig .tc := ⟨.hbm, 60, rfl⟩
abbrev main_cst_14 : Ref sig .tc := ⟨.hbm, 61, rfl⟩
abbrev main_v43 : Ref sig .tc := ⟨.hbm, 62, rfl⟩
abbrev main_v44 : Ref sig .tc := ⟨.hbm, 63, rfl⟩
abbrev main_cst_15 : Ref sig .tc := ⟨.hbm, 64, rfl⟩
abbrev main_v45 : Ref sig .tc := ⟨.hbm, 65, rfl⟩
abbrev main_v46 : Ref sig .tc := ⟨.hbm, 66, rfl⟩
abbrev main_v47 : Ref sig .tc := ⟨.hbm, 67, rfl⟩
abbrev main_v48 : Ref sig .tc := ⟨.hbm, 68, rfl⟩
abbrev main_v49 : Ref sig .tc := ⟨.hbm, 69, rfl⟩
abbrev main_v50 : Ref sig .tc := ⟨.hbm, 70, rfl⟩
abbrev main_v51 : Ref sig .tc := ⟨.hbm, 71, rfl⟩
abbrev main_v52 : Ref sig .tc := ⟨.hbm, 72, rfl⟩
abbrev main_v53 : Ref sig .tc := ⟨.hbm, 73, rfl⟩

abbrev nD : Nat := 1
abbrev τ : Topo := Topo.v7x

variable {F : FTy → Type} [FloatOps F]
-- ==== FfnBwd.lean ====
abbrev S2x2048x1024 : Shape := ⟨3, ![2, 2048, 1024]⟩
abbrev S1024x1024 : Shape := ⟨2, ![1024, 1024]⟩
abbrev S1024 : Shape := ⟨1, ![1024]⟩
abbrev S1024x2816 : Shape := ⟨2, ![1024, 2816]⟩
abbrev S2816x1024 : Shape := ⟨2, ![2816, 1024]⟩
abbrev S4096x1024 : Shape := ⟨2, ![4096, 1024]⟩
abbrev S_ : Shape := ⟨0, ![]⟩
abbrev S4096 : Shape := ⟨1, ![4096]⟩
abbrev S4096x1 : Shape := ⟨2, ![4096, 1]⟩
abbrev S1x1024 : Shape := ⟨2, ![1, 1024]⟩
abbrev S4096x2816 : Shape := ⟨2, ![4096, 2816]⟩
abbrev S256x1024 : Shape := ⟨2, ![256, 1024]⟩
abbrev S256x2816 : Shape := ⟨2, ![256, 2816]⟩
abbrev S768x1024 : Shape := ⟨2, ![768, 1024]⟩
abbrev S256x768 : Shape := ⟨2, ![256, 768]⟩
abbrev S256 : Shape := ⟨1, ![256]⟩
abbrev S256x1 : Shape := ⟨2, ![256, 1]⟩

abbrev nBuf : Space → Nat
  | .hbm => 47
  | .vmem => 26
  | .smem => 0
  | _ => 0

abbrev bufTy : (tb : Table) → Fin (tcTables nBuf tb) → BufTy
  | .hbm, ⟨0, _⟩ => ⟨S2x2048x1024, .f32⟩
  | .hbm, ⟨1, _⟩ => ⟨S1024x1024, .f32⟩
  | .hbm, ⟨2, _⟩ => ⟨S2x2048x1024, .f32⟩
  | .hbm, ⟨3, _⟩ => ⟨S1024, .f32⟩
  | .hbm, ⟨4, _⟩ => ⟨S1024x2816, .f32⟩
  | .hbm, ⟨5, _⟩ => ⟨S1024x2816, .f32⟩
  | .hbm, ⟨6, _⟩ => ⟨S2816x1024, .f32⟩
  | .hbm, ⟨7, _⟩ => ⟨S2x2048x1024, .f32⟩
  | .hbm, ⟨8, _⟩ => ⟨S4096x1024, .f32⟩
  | .hbm, ⟨9, _⟩ => ⟨S4096x1024, .f32⟩
  | .hbm, ⟨10, _⟩ => ⟨S4096x1024, .f32⟩
  | .hbm, ⟨11, _⟩ => ⟨S4096x1024, .f32⟩
  | .hbm, ⟨12, _⟩ => ⟨S4096x1024, .f32⟩
  | .hbm, ⟨13, _⟩ => ⟨S_, .f32⟩
  | .hbm, ⟨14, _⟩ => ⟨S4096, .f32⟩
  | .hbm, ⟨15, _⟩ => ⟨S4096x1, .f32⟩
  | .hbm, ⟨16, _⟩ => ⟨S_, .f32⟩
  | .hbm, ⟨17, _⟩ => ⟨S4096x1, .f32⟩
  | .hbm, ⟨18, _⟩ => ⟨S4096x1, .f32⟩
  | .hbm, ⟨19, _⟩ => ⟨S_, .f32⟩
  | .hbm, ⟨20, _⟩ => ⟨S4096x1, .f32⟩
  | .hbm, ⟨21, _⟩ => ⟨S4096x1, .f32⟩
  | .hbm, ⟨22, _⟩ => ⟨S4096x1, .f32⟩
  | .hbm, ⟨23, _⟩ => ⟨S4096x1024, .f32⟩
  | .hbm, ⟨24, _⟩ => ⟨S4096x1024, .f32⟩
  | .hbm, ⟨25, _⟩ => ⟨S1x1024, .f32⟩
  | .hbm, ⟨26, _⟩ => ⟨S4096x1024, .f32⟩
  | .hbm, ⟨27, _⟩ => ⟨S4096x1024, .f32⟩
  | .hbm, ⟨28, _⟩ => ⟨S2816x1024, .f32⟩
  | .hbm, ⟨29, _⟩ => ⟨S2816x1024, .bf16⟩
  | .hbm, ⟨30, _⟩ => ⟨S2816x1024, .f32⟩
  | .hbm, ⟨31, _⟩ => ⟨S2816x1024, .bf16⟩
  | .hbm, ⟨32, _⟩ => ⟨S4096x2816, .f32⟩
  | .hbm, ⟨33, _⟩ => ⟨S4096x2816, .bf16⟩
  | .hbm, ⟨34, _⟩ => ⟨S4096x2816, .f32⟩
  | .hbm, ⟨35, _⟩ => ⟨S4096x2816, .bf16⟩
  | .hbm, ⟨36, _⟩ => ⟨S4096x1024, .f32⟩
  | .hbm, ⟨37, _⟩ => ⟨S2816x1024, .bf16⟩
  | .hbm, ⟨38, _⟩ => ⟨S1x1024, .f32⟩
  | .hbm, ⟨39, _⟩ => ⟨S1024x1024, .bf16⟩
  | .hbm, ⟨40, _⟩ => ⟨S4096x2816, .bf16⟩
  | .hbm, ⟨41, _⟩ => ⟨S4096x2816, .bf16⟩
  | .hbm, ⟨42, _⟩ => ⟨S4096x1024, .bf16⟩
  | .hbm, ⟨43, _⟩ => ⟨S4096x1024, .f32⟩
  | .hbm, ⟨44, _⟩ => ⟨S1x1024, .f32⟩
  | .hbm, ⟨45, _⟩ => ⟨S4096x1024, .bf16⟩
  | .hbm, ⟨46, _⟩ => ⟨S4096x1024, .bf16⟩
  | .local _ .vmem, ⟨0, _⟩ => ⟨S256x1024, .f32⟩
  | .local _ .vmem, ⟨1, _⟩ => ⟨S256x1024, .f32⟩
  | .local _ .vmem, ⟨2, _⟩ => ⟨S2816x1024, .bf16⟩
  | .local _ .vmem, ⟨3, _⟩ => ⟨S256x2816, .bf16⟩
  | .local _ .vmem, ⟨4, _⟩ => ⟨S256x2816, .bf16⟩
  | .local _ .vmem, ⟨5, _⟩ => ⟨S256x2816, .bf16⟩
  | .local _ .vmem, ⟨6, _⟩ => ⟨S256x2816, .bf16⟩
  | .local _ .vmem, ⟨7, _⟩ => ⟨S2816x1024, .bf16⟩
  | .local _ .vmem, ⟨8, _⟩ => ⟨S2816x1024, .bf16⟩
  | .local _ .vmem, ⟨9, _⟩ => ⟨S256x1024, .f32⟩
  | .local _ .vmem, ⟨10, _⟩ => ⟨S256x1024, .f32⟩
  | .local _ .vmem, ⟨11, _⟩ => ⟨S1x1024, .f32⟩
  | .local _ .vmem, ⟨12, _⟩ => ⟨S1024x1024, .bf16⟩
  | .local _ .vmem, ⟨13, _⟩ => ⟨S256x2816, .bf16⟩
  | .local _ .vmem, ⟨14, _⟩ => ⟨S256x2816, .bf16⟩
  | .local _ .vmem, ⟨15, _⟩ => ⟨S256x2816, .bf16⟩
  | .local _ .vmem, ⟨16, _⟩ => ⟨S256x2816, .bf16⟩
  | .local _ .vmem, ⟨17, _⟩ => ⟨S256x1024, .bf16⟩
  | .local _ .vmem, ⟨18, _⟩ => ⟨S256x1024, .bf16⟩
  | .local _ .vmem, ⟨19, _⟩ => ⟨S256x1024, .f32⟩
  | .local _ .vmem, ⟨20, _⟩ => ⟨S256x1024, .f32⟩
  | .local _ .vmem, ⟨21, _⟩ => ⟨S1x1024, .f32⟩
  | .local _ .vmem, ⟨22, _⟩ => ⟨S256x1024, .bf16⟩
  | .local _ .vmem, ⟨23, _⟩ => ⟨S256x1024, .bf16⟩
  | .local _ .vmem, ⟨24, _⟩ => ⟨S256x1024, .bf16⟩
  | .local _ .vmem, ⟨25, _⟩ => ⟨S256x1024, .bf16⟩
  | _, _ => ⟨S2x2048x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | _, _ => false

abbrev semScoped : Fin 0 → Bool
  | ⟨_, h⟩ => absurd h (Nat.not_lt_zero _)

abbrev dmaSemScoped : Fin 26 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | _ => false

abbrev sig : RefSig :=
  ofTc nBuf bufTy 0 26 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_cst : Ref sig .tc := ⟨.hbm, 13, rfl⟩
abbrev main_v5 : Ref sig .tc := ⟨.hbm, 14, rfl⟩
abbrev main_v6 : Ref sig .tc := ⟨.hbm, 15, rfl⟩
abbrev main_cst_0 : Ref sig .tc := ⟨.hbm, 16, rfl⟩
abbrev main_v7 : Ref sig .tc := ⟨.hbm, 17, rfl⟩
abbrev main_v8 : Ref sig .tc := ⟨.hbm, 18, rfl⟩
abbrev main_cst_1 : Ref sig .tc := ⟨.hbm, 19, rfl⟩
abbrev main_v9 : Ref sig .tc := ⟨.hbm, 20, rfl⟩
abbrev main_v10 : Ref sig .tc := ⟨.hbm, 21, rfl⟩
abbrev main_v11 : Ref sig .tc := ⟨.hbm, 22, rfl⟩
abbrev main_v12 : Ref sig .tc := ⟨.hbm, 23, rfl⟩
abbrev main_v13 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_v19 : Ref sig .tc := ⟨.hbm, 30, rfl⟩
abbrev main_v20 : Ref sig .tc := ⟨.hbm, 31, rfl⟩
abbrev main_v21 : Ref sig .tc := ⟨.hbm, 32, rfl⟩
abbrev main_v22 : Ref sig .tc := ⟨.hbm, 33, rfl⟩
abbrev main_v23 : Ref sig .tc := ⟨.hbm, 34, rfl⟩
abbrev main_v24 : Ref sig .tc := ⟨.hbm, 35, rfl⟩
abbrev main_v25 : Ref sig .tc := ⟨.hbm, 36, rfl⟩
abbrev main_v26 : Ref sig .tc := ⟨.hbm, 37, rfl⟩
abbrev main_v27 : Ref sig .tc := ⟨.hbm, 38, rfl⟩
abbrev main_v28 : Ref sig .tc := ⟨.hbm, 39, rfl⟩
abbrev main_v29_0 : Ref sig .tc := ⟨.hbm, 40, rfl⟩
abbrev main_v29_1 : Ref sig .tc := ⟨.hbm, 41, rfl⟩
abbrev main_v29_2 : Ref sig .tc := ⟨.hbm, 42, rfl⟩
abbrev main_v29_3 : Ref sig .tc := ⟨.hbm, 43, rfl⟩
abbrev main_v29_4 : Ref sig .tc := ⟨.hbm, 44, rfl⟩
abbrev main_v29_5 : Ref sig .tc := ⟨.hbm, 45, rfl⟩
abbrev main_v29_6 : Ref sig .tc := ⟨.hbm, 46, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg6_0 : Ref sig .tc := ⟨.vmem, 9, rfl⟩
abbrev cc0_stg6_1 : Ref sig .tc := ⟨.vmem, 10, rfl⟩
abbrev cc0_stg7_0 : Ref sig .tc := ⟨.vmem, 11, rfl⟩
abbrev cc0_stg8_0 : Ref sig .tc := ⟨.vmem, 12, rfl⟩
abbrev cc0_stg9_0 : Ref sig .tc := ⟨.vmem, 13, rfl⟩
abbrev cc0_stg9_1 : Ref sig .tc := ⟨.vmem, 14, rfl⟩
abbrev cc0_stg10_0 : Ref sig .tc := ⟨.vmem, 15, rfl⟩
abbrev cc0_stg10_1 : Ref sig .tc := ⟨.vmem, 16, rfl⟩
abbrev cc0_stg11_0 : Ref sig .tc := ⟨.vmem, 17, rfl⟩
abbrev cc0_stg11_1 : Ref sig .tc := ⟨.vmem, 18, rfl⟩
abbrev cc0_stg12_0 : Ref sig .tc := ⟨.vmem, 19, rfl⟩
abbrev cc0_stg12_1 : Ref sig .tc := ⟨.vmem, 20, rfl⟩
abbrev cc0_stg13_0 : Ref sig .tc := ⟨.vmem, 21, rfl⟩
abbrev cc0_stg14_0 : Ref sig .tc := ⟨.vmem, 22, rfl⟩
abbrev cc0_stg14_1 : Ref sig .tc := ⟨.vmem, 23, rfl⟩
abbrev cc0_stg15_0 : Ref sig .tc := ⟨.vmem, 24, rfl⟩
abbrev cc0_stg15_1 : Ref sig .tc := ⟨.vmem, 25, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem5_0 : DmaSem sig := 8
abbrev cc0_sem6_0 : DmaSem sig := 9
abbrev cc0_sem6_1 : DmaSem sig := 10
abbrev cc0_sem7_0 : DmaSem sig := 11
abbrev cc0_sem8_0 : DmaSem sig := 12
abbrev cc0_sem9_0 : DmaSem sig := 13
abbrev cc0_sem9_1 : DmaSem sig := 14
abbrev cc0_sem10_0 : DmaSem sig := 15
abbrev cc0_sem10_1 : DmaSem sig := 16
abbrev cc0_sem11_0 : DmaSem sig := 17
abbrev cc0_sem11_1 : DmaSem sig := 18
abbrev cc0_sem12_0 : DmaSem sig := 19
abbrev cc0_sem12_1 : DmaSem sig := 20
abbrev cc0_sem13_0 : DmaSem sig := 21
abbrev cc0_sem14_0 : DmaSem sig := 22
abbrev cc0_sem14_1 : DmaSem sig := 23
abbrev cc0_sem15_0 : DmaSem sig := 24
abbrev cc0_sem15_1 : DmaSem sig := 25

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_10 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_11 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_12 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_13 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_14 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_15 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S2816x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S256x2816 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S256x2816 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 1 → Memref sig .tc .vmem S2816x1024 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S2816x1024 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 2 → Memref sig .tc .vmem S256x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 1 → Memref sig .tc .vmem S1x1024 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S1024x1024 .bf16 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 2 → Memref sig .tc .vmem S256x2816 .bf16 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev stage0_10 : Fin 2 → Memref sig .tc .vmem S256x2816 .bf16 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]

abbrev stage0_11 : Fin 2 → Memref sig .tc .vmem S256x1024 .bf16 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true]

abbrev stage0_12 : Fin 2 → Memref sig .tc .vmem S256x1024 .f32 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true]

abbrev stage0_13 : Fin 1 → Memref sig .tc .vmem S1x1024 .f32 := fun | 0 => Memref.whole cc0_stg13_0 | ⟨_ + 1, h⟩ => absurd h (Nat.not_lt.2 (Nat.le_add_left _ _))
abbrev sem0_13 : Fin 1 → DmaSem sig := fun | 0 => cc0_sem13_0 | ⟨_ + 1, h⟩ => absurd h (Nat.not_lt.2 (Nat.le_add_left _ _))
abbrev reads0_13 : Fin grid0.rank → Bool := ![false]

abbrev stage0_14 : Fin 2 → Memref sig .tc .vmem S256x1024 .bf16 := fun | 0 => Memref.whole cc0_stg14_0 | 1 => Memref.whole cc0_stg14_1 | ⟨_ + 2, h⟩ => absurd h (Nat.not_lt.2 (Nat.le_add_left _ _))
abbrev sem0_14 : Fin 2 → DmaSem sig := fun | 0 => cc0_sem14_0 | 1 => cc0_sem14_1 | ⟨_ + 2, h⟩ => absurd h (Nat.not_lt.2 (Nat.le_add_left _ _))
abbrev reads0_14 : Fin grid0.rank → Bool := ![true]

abbrev stage0_15 : Fin 2 → Memref sig .tc .vmem S256x1024 .bf16 := fun | 0 => Memref.whole cc0_stg15_0 | 1 => Memref.whole cc0_stg15_1 | ⟨_ + 2, h⟩ => absurd h (Nat.not_lt.2 (Nat.le_add_left _ _))
abbrev sem0_15 : Fin 2 → DmaSem sig := fun | 0 => cc0_sem15_0 | 1 => cc0_sem15_1 | ⟨_ + 2, h⟩ => absurd h (Nat.not_lt.2 (Nat.le_add_left _ _))
abbrev reads0_15 : Fin grid0.rank → Bool := ![true]
-- ==== FfnRefIdeal.lean ====
abbrev S2x2048x1024 : Shape := ⟨3, ![2, 2048, 1024]⟩
abbrev S1024x1024 : Shape := ⟨2, ![1024, 1024]⟩
abbrev S1024 : Shape := ⟨1, ![1024]⟩
abbrev S1024x2816 : Shape := ⟨2, ![1024, 2816]⟩
abbrev S2816x1024 : Shape := ⟨2, ![2816, 1024]⟩
abbrev S_ : Shape := ⟨0, ![]⟩
abbrev S2x2048x2816 : Shape := ⟨3, ![2, 2048, 2816]⟩
abbrev S2x2048 : Shape := ⟨2, ![2, 2048]⟩
abbrev S2x2048x1 : Shape := ⟨3, ![2, 2048, 1]⟩
abbrev S1x1x1024 : Shape := ⟨3, ![1, 1, 1024]⟩
abbrev S4096x2816 : Shape := ⟨2, ![4096, 2816]⟩
abbrev S4096x1024 : Shape := ⟨2, ![4096, 1024]⟩
abbrev S1x1024 : Shape := ⟨2, ![1, 1024]⟩

abbrev nBuf : Space → Nat
  | .hbm => 106
  | .vmem => 0
  | .smem => 0
  | _ => 0

abbrev bufTy : (tb : Table) → Fin (tcTables nBuf tb) → BufTy
  | .hbm, ⟨0, _⟩ => ⟨S2x2048x1024, .f32⟩
  | .hbm, ⟨1, _⟩ => ⟨S1024x1024, .f32⟩
  | .hbm, ⟨2, _⟩ => ⟨S2x2048x1024, .f32⟩
  | .hbm, ⟨3, _⟩ => ⟨S1024, .f32⟩
  | .hbm, ⟨4, _⟩ => ⟨S1024x2816, .f32⟩
  | .hbm, ⟨5, _⟩ => ⟨S1024x2816, .f32⟩
  | .hbm, ⟨6, _⟩ => ⟨S2816x1024, .f32⟩
  | .hbm, ⟨7, _⟩ => ⟨S2x2048x1024, .f32⟩
  | .hbm, ⟨8, _⟩ => ⟨S_, .f32⟩
  | .hbm, ⟨9, _⟩ => ⟨S2x2048x2816, .f32⟩
  | .hbm, ⟨10, _⟩ => ⟨S_, .f32⟩
  | .hbm, ⟨11, _⟩ => ⟨S2x2048x1024, .f32⟩
  | .hbm, ⟨12, _⟩ => ⟨S2x2048x1024, .f32⟩
  | .hbm, ⟨13, _⟩ => ⟨S2x2048x1024, .f32⟩
  | .hbm, ⟨14, _⟩ => ⟨S2x2048x1024, .f32⟩
  | .hbm, ⟨15, _⟩ => ⟨S_, .f32⟩
  | .hbm, ⟨16, _⟩ => ⟨S2x2048, .f32⟩
  | .hbm, ⟨17, _⟩ => ⟨S2x2048x1, .f32⟩
  | .hbm, ⟨18, _⟩ => ⟨S_, .f32⟩
  | .hbm, ⟨19, _⟩ => ⟨S2x2048x1, .f32⟩
  | .hbm, ⟨20, _⟩ => ⟨S2x2048x1, .f32⟩
  | .hbm, ⟨21, _⟩ => ⟨S_, .f32⟩
  | .hbm, ⟨22, _⟩ => ⟨S2x2048x1, .f32⟩
  | .hbm, ⟨23, _⟩ => ⟨S2x2048x1, .f32⟩
  | .hbm, ⟨24, _⟩ => ⟨S2x2048x1, .f32⟩
  | .hbm, ⟨25, _⟩ => ⟨S2x2048x1, .f32⟩
  | .hbm, ⟨26, _⟩ => ⟨S_, .f32⟩
  | .hbm, ⟨27, _⟩ => ⟨S2x2048x1, .f32⟩
  | .hbm, ⟨28, _⟩ => ⟨S2x2048x1, .f32⟩
  | .hbm, ⟨29, _⟩ => ⟨S2x2048x1024, .f32⟩
  | .hbm, ⟨30, _⟩ => ⟨S2x2048x1024, .f32⟩
  | .hbm, ⟨31, _⟩ => ⟨S1x1x1024, .f32⟩
  | .hbm, ⟨32, _⟩ => ⟨S2x2048x1024, .f32⟩
  | .hbm, ⟨33, _⟩ => ⟨S2x2048x1024, .f32⟩
  | .hbm, ⟨34, _⟩ => ⟨S2x2048x2816, .f32⟩
  | .hbm, ⟨35, _⟩ => ⟨S2x2048x2816, .f32⟩
  | .hbm, ⟨36, _⟩ => ⟨S2x2048x2816, .f32⟩
  | .hbm, ⟨37, _⟩ => ⟨S2x2048x2816, .f32⟩
  | .hbm, ⟨38, _⟩ => ⟨S2x2048x2816, .f32⟩
  | .hbm, ⟨39, _⟩ => ⟨S2x2048x2816, .f32⟩
  | .hbm, ⟨40, _⟩ => ⟨S_, .f32⟩
  | .hbm, ⟨41, _⟩ => ⟨S2x2048x2816, .f32⟩
  | .hbm, ⟨42, _⟩ => ⟨S2x2048x2816, .f32⟩
  | .hbm, ⟨43, _⟩ => ⟨S_, .f32⟩
  | .hbm, ⟨44, _⟩ => ⟨S2x2048x2816, .f32⟩
  | .hbm, ⟨45, _⟩ => ⟨S2x2048x2816, .f32⟩
  | .hbm, ⟨46, _⟩ => ⟨S_, .f32⟩
  | .hbm, ⟨47, _⟩ => ⟨S2x2048x2816, .f32⟩
  | .hbm, ⟨48, _⟩ => ⟨S2x2048x2816, .f32⟩
  | .hbm, ⟨49, _⟩ => ⟨S2x2048x2816, .f32⟩
  | .hbm, ⟨50, _⟩ => ⟨S2x2048x2816, .f32⟩
  | .hbm, ⟨51, _⟩ => ⟨S2x2048x2816, .f32⟩
  | .hbm, ⟨52, _⟩ => ⟨S2x2048x1024, .f32⟩
  | .hbm, ⟨53, _⟩ => ⟨S2x2048x1024, .f32⟩
  | .hbm, ⟨54, _⟩ => ⟨S2x2048x1024, .f32⟩
  | .hbm, ⟨55, _⟩ => ⟨S2x2048x1024, .f32⟩
  | .hbm, ⟨56, _⟩ => ⟨S2x2048x1024, .f32⟩
  | .hbm, ⟨57, _⟩ => ⟨S2x2048x2816, .f32⟩
  | .hbm, ⟨58, _⟩ => ⟨S2x2048x2816, .f32⟩
  | .hbm, ⟨59, _⟩ => ⟨S2x2048x2816, .f32⟩
  | .hbm, ⟨60, _⟩ => ⟨S2x2048x2816, .f32⟩
  | .hbm, ⟨61, _⟩ => ⟨S2x2048x2816, .f32⟩
  | .hbm, ⟨62, _⟩ => ⟨S2x2048x2816, .f32⟩
  | .hbm, ⟨63, _⟩ => ⟨S2x2048x2816, .f32⟩
  | .hbm, ⟨64, _⟩ => ⟨S2x2048x1024, .f32⟩
  | .hbm, ⟨65, _⟩ => ⟨S2x2048x1024, .f32⟩
  | .hbm, ⟨66, _⟩ => ⟨S2x2048x1024, .f32⟩
  | .hbm, ⟨67, _⟩ => ⟨S2x2048x1024, .f32⟩
  | .hbm, ⟨68, _⟩ => ⟨S_, .f32⟩
  | .hbm, ⟨69, _⟩ => ⟨S1024, .f32⟩
  | .hbm, ⟨70, _⟩ => ⟨S1x1x1024, .f32⟩
  | .hbm, ⟨71, _⟩ => ⟨S2x2048x1024, .f32⟩
  | .hbm, ⟨72, _⟩ => ⟨S2x2048x1024, .f32⟩
  | .hbm, ⟨73, _⟩ => ⟨S_, .f32⟩
  | .hbm, ⟨74, _⟩ => ⟨S1024, .f32⟩
  | .hbm, ⟨75, _⟩ => ⟨S2x2048x1024, .f32⟩
  | .hbm, ⟨76, _⟩ => ⟨S_, .f32⟩
  | .hbm, ⟨77, _⟩ => ⟨S2x2048, .f32⟩
  | .hbm, ⟨78, _⟩ => ⟨S2x2048x1, .f32⟩
  | .hbm, ⟨79, _⟩ => ⟨S2x2048x1024, .f32⟩
  | .hbm, ⟨80, _⟩ => ⟨S2x2048x1024, .f32⟩
  | .hbm, ⟨81, _⟩ => ⟨S2x2048x1024, .f32⟩
  | .hbm, ⟨82, _⟩ => ⟨S2x2048x1, .f32⟩
  | .hbm, ⟨83, _⟩ => ⟨S_, .f32⟩
  | .hbm, ⟨84, _⟩ => ⟨S2x2048x1, .f32⟩
  | .hbm, ⟨85, _⟩ => ⟨S2x2048x1, .f32⟩
  | .hbm, ⟨86, _⟩ => ⟨S_, .f32⟩
  | .hbm, ⟨87, _⟩ => ⟨S2x2048, .f32⟩
  | .hbm, ⟨88, _⟩ => ⟨S2x2048x1024, .f32⟩
  | .hbm, ⟨89, _⟩ => ⟨S2x2048x1024, .f32⟩
  | .hbm, ⟨90, _⟩ => ⟨S2x2048x1024, .f32⟩
  | .hbm, ⟨91, _⟩ => ⟨S2x2048x1024, .f32⟩
  | .hbm, ⟨92, _⟩ => ⟨S2x2048x1024, .f32⟩
  | .hbm, ⟨93, _⟩ => ⟨S2x2048x1024, .f32⟩
  | .hbm, ⟨94, _⟩ => ⟨S4096x2816, .f32⟩
  | .hbm, ⟨95, _⟩ => ⟨S4096x2816, .bf16⟩
  | .hbm, ⟨96, _⟩ => ⟨S4096x2816, .f32⟩
  | .hbm, ⟨97, _⟩ => ⟨S4096x2816, .bf16⟩
  | .hbm, ⟨98, _⟩ => ⟨S4096x1024, .f32⟩
  | .hbm, ⟨99, _⟩ => ⟨S4096x1024, .bf16⟩
  | .hbm, ⟨100, _⟩ => ⟨S4096x1024, .f32⟩
  | .hbm, ⟨101, _⟩ => ⟨S1x1024, .f32⟩
  | .hbm, ⟨102, _⟩ => ⟨S4096x1024, .f32⟩
  | .hbm, ⟨103, _⟩ => ⟨S4096x1024, .bf16⟩
  | .hbm, ⟨104, _⟩ => ⟨S4096x1024, .f32⟩
  | .hbm, ⟨105, _⟩ => ⟨S4096x1024, .bf16⟩
  | _, _ => ⟨S2x2048x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_cst : Ref sig .tc := ⟨.hbm, 8, rfl⟩
abbrev main_v0 : Ref sig .tc := ⟨.hbm, 9, rfl⟩
abbrev main_cst_0 : Ref sig .tc := ⟨.hbm, 10, rfl⟩
abbrev main_v1 : Ref sig .tc := ⟨.hbm, 11, rfl⟩
abbrev main_v2 : Ref sig .tc := ⟨.hbm, 12, rfl⟩
abbrev main_v3 : Ref sig .tc := ⟨.hbm, 13, rfl⟩
abbrev main_v4 : Ref sig .tc := ⟨.hbm, 14, rfl⟩
abbrev main_cst_1 : Ref sig .tc := ⟨.hbm, 15, rfl⟩
abbrev main_v5 : Ref sig .tc := ⟨.hbm, 16, rfl⟩
abbrev main_v6 : Ref sig .tc := ⟨.hbm, 17, rfl⟩
abbrev main_cst_2 : Ref sig .tc := ⟨.hbm, 18, rfl⟩
abbrev main_v7 : Ref sig .tc := ⟨.hbm, 19, rfl⟩
abbrev main_v8 : Ref sig .tc := ⟨.hbm, 20, rfl⟩
abbrev main_cst_3 : Ref sig .tc := ⟨.hbm, 21, rfl⟩
abbrev main_v9 : Ref sig .tc := ⟨.hbm, 22, rfl⟩
abbrev main_v10 : Ref sig .tc := ⟨.hbm, 23, rfl⟩
abbrev main_v11 : Ref sig .tc := ⟨.hbm, 24, rfl⟩
abbrev main_v12 : Ref sig .tc := ⟨.hbm, 25, rfl⟩
abbrev main_cst_4 : Ref sig .tc := ⟨.hbm, 26, rfl⟩
abbrev main_v13 : Ref sig .tc := ⟨.hbm, 27, rfl⟩
abbrev main_v14 : Ref sig .tc := ⟨.hbm, 28, rfl⟩
abbrev main_v15 : Ref sig .tc := ⟨.hbm, 29, rfl⟩
abbrev main_v16 : Ref sig .tc := ⟨.hbm, 30, rfl⟩
abbrev main_v17 : Ref sig .tc := ⟨.hbm, 31, rfl⟩
abbrev main_v18 : Ref sig .tc := ⟨.hbm, 32, rfl⟩
abbrev main_v19 : Ref sig .tc := ⟨.hbm, 33, rfl⟩
abbrev main_v20 : Ref sig .tc := ⟨.hbm, 34, rfl⟩
abbrev main_v21 : Ref sig .tc := ⟨.hbm, 35, rfl⟩
abbrev main_v22 : Ref sig .tc := ⟨.hbm, 36, rfl⟩
abbrev main_v23 : Ref sig .tc := ⟨.hbm, 37, rfl⟩
abbrev main_call0_v0 : Ref sig .tc := ⟨.hbm, 38, rfl⟩
abbrev main_call0_v1 : Ref sig .tc := ⟨.hbm, 39, rfl⟩
abbrev main_call0_cst : Ref sig .tc := ⟨.hbm, 40, rfl⟩
abbrev main_call0_v2 : Ref sig .tc := ⟨.hbm, 41, rfl⟩
abbrev main_call0_v3 : Ref sig .tc := ⟨.hbm, 42, rfl⟩
abbrev main_call0_cst_0 : Ref sig .tc := ⟨.hbm, 43, rfl⟩
abbrev main_call0_v4 : Ref sig .tc := ⟨.hbm, 44, rfl⟩
abbrev main_v24_2 : Ref sig .tc := ⟨.hbm, 45, rfl⟩
abbrev main_call0_cst_1 : Ref sig .tc := ⟨.hbm, 46, rfl⟩
abbrev main_call0_v6 : Ref sig .tc := ⟨.hbm, 47, rfl⟩
abbrev main_call0_v7 : Ref sig .tc := ⟨.hbm, 48, rfl⟩
abbrev main_v24_1 : Ref sig .tc := ⟨.hbm, 49, rfl⟩
abbrev main_v24_0 : Ref sig .tc := ⟨.hbm, 50, rfl⟩
abbrev main_v25 : Ref sig .tc := ⟨.hbm, 51, rfl⟩
abbrev main_v26 : Ref sig .tc := ⟨.hbm, 52, rfl⟩
abbrev main_v27 : Ref sig .tc := ⟨.hbm, 53, rfl⟩
abbrev main_v28 : Ref sig .tc := ⟨.hbm, 54, rfl⟩
abbrev main_v29 : Ref sig .tc := ⟨.hbm, 55, rfl⟩
abbrev main_v30 : Ref sig .tc := ⟨.hbm, 56, rfl⟩
abbrev main_v31 : Ref sig .tc := ⟨.hbm, 57, rfl⟩
abbrev main_v32 : Ref sig .tc := ⟨.hbm, 58, rfl⟩
abbrev main_v33 : Ref sig .tc := ⟨.hbm, 59, rfl⟩
abbrev main_call1_v0 : Ref sig .tc := ⟨.hbm, 60, rfl⟩
abbrev main_call1_v1 : Ref sig .tc := ⟨.hbm, 61, rfl⟩
abbrev main_call1_v2 : Ref sig .tc := ⟨.hbm, 62, rfl⟩
abbrev main_v34 : Ref sig .tc := ⟨.hbm, 63, rfl⟩
abbrev main_v35 : Ref sig .tc := ⟨.hbm, 64, rfl⟩
abbrev main_v36 : Ref sig .tc := ⟨.hbm, 65, rfl⟩
abbrev main_v37 : Ref sig .tc := ⟨.hbm, 66, rfl⟩
abbrev main_v38 : Ref sig .tc := ⟨.hbm, 67, rfl⟩
abbrev main_cst_5 : Ref sig .tc := ⟨.hbm, 68, rfl⟩
abbrev main_v39 : Ref sig .tc := ⟨.hbm, 69, rfl⟩
abbrev main_v40 : Ref sig .tc := ⟨.hbm, 70, rfl⟩
abbrev main_v41 : Ref sig .tc := ⟨.hbm, 71, rfl⟩
abbrev main_v42 : Ref sig .tc := ⟨.hbm, 72, rfl⟩
abbrev main_cst_6 : Ref sig .tc := ⟨.hbm, 73, rfl⟩
abbrev main_v43 : Ref sig .tc := ⟨.hbm, 74, rfl⟩
abbrev main_v44 : Ref sig .tc := ⟨.hbm, 75, rfl⟩
abbrev main_cst_7 : Ref sig .tc := ⟨.hbm, 76, rfl⟩
abbrev main_v45 : Ref sig .tc := ⟨.hbm, 77, rfl⟩
abbrev main_v46 : Ref sig .tc := ⟨.hbm, 78, rfl⟩
abbrev main_v47 : Ref sig .tc := ⟨.hbm, 79, rfl⟩
abbrev main_v48 : Ref sig .tc := ⟨.hbm, 80, rfl⟩
abbrev main_v49 : Ref sig .tc := ⟨.hbm, 81, rfl⟩
abbrev main_v50 : Ref sig .tc := ⟨.hbm, 82, rfl⟩
abbrev main_cst_8 : Ref sig .tc := ⟨.hbm, 83, rfl⟩
abbrev main_v51 : Ref sig .tc := ⟨.hbm, 84, rfl⟩
abbrev main_v52 : Ref sig .tc := ⟨.hbm, 85, rfl⟩
abbrev main_cst_9 : Ref sig .tc := ⟨.hbm, 86, rfl⟩
abbrev main_v53 : Ref sig .tc := ⟨.hbm, 87, rfl⟩
abbrev main_v54 : Ref sig .tc := ⟨.hbm, 88, rfl⟩
abbrev main_v55 : Ref sig .tc := ⟨.hbm, 89, rfl⟩
abbrev main_v56 : Ref sig .tc := ⟨.hbm, 90, rfl⟩
abbrev main_v57 : Ref sig .tc := ⟨.hbm, 91, rfl⟩
abbrev main_v58 : Ref sig .tc := ⟨.hbm, 92, rfl⟩
abbrev main_v59 : Ref sig .tc := ⟨.hbm, 93, rfl⟩
abbrev main_v60 : Ref sig .tc := ⟨.hbm, 94, rfl⟩
abbrev main_v61 : Ref sig .tc := ⟨.hbm, 95, rfl⟩
abbrev main_v62 : Ref sig .tc := ⟨.hbm, 96, rfl⟩
abbrev main_v63 : Ref sig .tc := ⟨.hbm, 97, rfl⟩
abbrev main_v64 : Ref sig .tc := ⟨.hbm, 98, rfl⟩
abbrev main_v65 : Ref sig .tc := ⟨.hbm, 99, rfl⟩
abbrev main_v66 : Ref sig .tc := ⟨.hbm, 100, rfl⟩
abbrev main_v67 : Ref sig .tc := ⟨.hbm, 101, rfl⟩
abbrev main_v68 : Ref sig .tc := ⟨.hbm, 102, rfl⟩
abbrev main_v69 : Ref sig .tc := ⟨.hbm, 103, rfl⟩
abbrev main_v70 : Ref sig .tc := ⟨.hbm, 104, rfl⟩
abbrev main_v71 : Ref sig .tc := ⟨.hbm, 105, rfl⟩

abbrev nD : Nat := 1
abbrev τ : Topo := Topo.v7x

variable {F : FTy → Type} [FloatOps F]
-- ==== ConvBwd.lean ====
abbrev S2x2048x1024 : Shape := ⟨3, ![2, 2048, 1024]⟩
abbrev S1024 : Shape := ⟨1, ![1024]⟩
abbrev S1024x3072 : Shape := ⟨2, ![1024, 3072]⟩
abbrev S3x1024 : Shape := ⟨2, ![3, 1024]⟩
abbrev S4096x1024 : Shape := ⟨2, ![4096, 1024]⟩
abbrev S_ : Shape := ⟨0, ![]⟩
abbrev S4096 : Shape := ⟨1, ![4096]⟩
abbrev S4096x1 : Shape := ⟨2, ![4096, 1]⟩
abbrev S1x1024 : Shape := ⟨2, ![1, 1024]⟩
abbrev S4096x3072 : Shape := ⟨2, ![4096, 3072]⟩
abbrev S8x128 : Shape := ⟨2, ![8, 128]⟩
abbrev S3072x1024 : Shape := ⟨2, ![3072, 1024]⟩
abbrev S512x3072 : Shape := ⟨2, ![512, 3072]⟩
abbrev S16x3072 : Shape := ⟨2, ![16, 3072]⟩
abbrev S512x1024 : Shape := ⟨2, ![512, 1024]⟩
abbrev S16x1024 : Shape := ⟨2, ![16, 1024]⟩
abbrev S528x1024 : Shape := ⟨2, ![528, 1024]⟩
abbrev S512x256 : Shape := ⟨2, ![512, 256]⟩
abbrev S16x256 : Shape := ⟨2, ![16, 256]⟩
abbrev S1x256 : Shape := ⟨2, ![1, 256]⟩
abbrev S256 : Shape := ⟨1, ![256]⟩
abbrev S1x1 : Shape := ⟨2, ![1, 1]⟩
abbrev S512 : Shape := ⟨1, ![512]⟩
abbrev S512x1 : Shape := ⟨2, ![512, 1]⟩

abbrev nBuf : Space → Nat
  | .hbm => 37
  | .vmem => 26
  | .smem => 0
  | _ => 0

abbrev bufTy : (tb : Table) → Fin (tcTables nBuf tb) → BufTy
  | .hbm, ⟨0, _⟩ => ⟨S2x2048x1024, .f32⟩
  | .hbm, ⟨1, _⟩ => ⟨S1024, .f32⟩
  | .hbm, ⟨2, _⟩ => ⟨S1024x3072, .f32⟩
  | .hbm, ⟨3, _⟩ => ⟨S3x1024, .f32⟩
  | .hbm, ⟨4, _⟩ => ⟨S2x2048x1024, .f32⟩
  | .hbm, ⟨5, _⟩ => ⟨S2x2048x1024, .f32⟩
  | .hbm, ⟨6, _⟩ => ⟨S4096x1024, .f32⟩
  | .hbm, ⟨7, _⟩ => ⟨S4096x1024, .f32⟩
  | .hbm, ⟨8, _⟩ => ⟨S_, .f32⟩
  | .hbm, ⟨9, _⟩ => ⟨S4096, .f32⟩
  | .hbm, ⟨10, _⟩ => ⟨S4096x1, .f32⟩
  | .hbm, ⟨11, _⟩ => ⟨S_, .f32⟩
  | .hbm, ⟨12, _⟩ => ⟨S4096x1, .f32⟩
  | .hbm, ⟨13, _⟩ => ⟨S4096x1, .f32⟩
  | .hbm, ⟨14, _⟩ => ⟨S_, .f32⟩
  | .hbm, ⟨15, _⟩ => ⟨S4096x1, .f32⟩
  | .hbm, ⟨16, _⟩ => ⟨S4096x1, .f32⟩
  | .hbm, ⟨17, _⟩ => ⟨S4096x1, .f32⟩
  | .hbm, ⟨18, _⟩ => ⟨S4096x1024, .f32⟩
  | .hbm, ⟨19, _⟩ => ⟨S4096x1024, .f32⟩
  | .hbm, ⟨20, _⟩ => ⟨S1x1024, .f32⟩
  | .hbm, ⟨21, _⟩ => ⟨S4096x1024, .f32⟩
  | .hbm, ⟨22, _⟩ => ⟨S4096x1024, .f32⟩
  | .hbm, ⟨23, _⟩ => ⟨S4096x3072, .f32⟩
  | .hbm, ⟨24, _⟩ => ⟨S4096x3072, .bf16⟩
  | .hbm, ⟨25, _⟩ => ⟨S_, .f32⟩
  | .hbm, ⟨26, _⟩ => ⟨S8x128, .f32⟩
  | .hbm, ⟨27, _⟩ => ⟨S4096x1024, .f32⟩
  | .hbm, ⟨28, _⟩ => ⟨S4096x1024, .bf16⟩
  | .hbm, ⟨29, _⟩ => ⟨S3072x1024, .f32⟩
  | .hbm, ⟨30, _⟩ => ⟨S3072x1024, .bf16⟩
  | .hbm, ⟨31, _⟩ => ⟨S1x1024, .f32⟩
  | .hbm, ⟨32, _⟩ => ⟨S4096x1024, .f32⟩
  | .hbm, ⟨33, _⟩ => ⟨S4096x3072, .bf16⟩
  | .hbm, ⟨34, _⟩ => ⟨S3x1024, .f32⟩
  | .hbm, ⟨35, _⟩ => ⟨S4096x1024, .f32⟩
  | .hbm, ⟨36, _⟩ => ⟨S1x1024, .f32⟩
  | .local _ .vmem, ⟨0, _⟩ => ⟨S512x3072, .bf16⟩
  | .local _ .vmem, ⟨1, _⟩ => ⟨S512x3072, .bf16⟩
  | .local _ .vmem, ⟨2, _⟩ => ⟨S16x3072, .bf16⟩
  | .local _ .vmem, ⟨3, _⟩ => ⟨S16x3072, .bf16⟩
  | .local _ .vmem, ⟨4, _⟩ => ⟨S16x3072, .bf16⟩
  | .local _ .vmem, ⟨5, _⟩ => ⟨S16x3072, .bf16⟩
  | .local _ .vmem, ⟨6, _⟩ => ⟨S512x1024, .bf16⟩
  | .local _ .vmem, ⟨7, _⟩ => ⟨S512x1024, .bf16⟩
  | .local _ .vmem, ⟨8, _⟩ => ⟨S16x1024, .bf16⟩
  | .local _ .vmem, ⟨9, _⟩ => ⟨S16x1024, .bf16⟩
  | .local _ .vmem, ⟨10, _⟩ => ⟨S3x1024, .f32⟩
  | .local _ .vmem, ⟨11, _⟩ => ⟨S3072x1024, .bf16⟩
  | .local _ .vmem, ⟨12, _⟩ => ⟨S512x1024, .f32⟩
  | .local _ .vmem, ⟨13, _⟩ => ⟨S512x1024, .f32⟩
  | .local _ .vmem, ⟨14, _⟩ => ⟨S1x1024, .f32⟩
  | .local _ .vmem, ⟨15, _⟩ => ⟨S8x128, .f32⟩
  | .local _ .vmem, ⟨16, _⟩ => ⟨S512x1024, .f32⟩
  | .local _ .vmem, ⟨17, _⟩ => ⟨S512x1024, .f32⟩
  | .local _ .vmem, ⟨18, _⟩ => ⟨S512x3072, .bf16⟩
  | .local _ .vmem, ⟨19, _⟩ => ⟨S512x3072, .bf16⟩
  | .local _ .vmem, ⟨20, _⟩ => ⟨S3x1024, .f32⟩
  | .local _ .vmem, ⟨21, _⟩ => ⟨S512x1024, .f32⟩
  | .local _ .vmem, ⟨22, _⟩ => ⟨S512x1024, .f32⟩
  | .local _ .vmem, ⟨23, _⟩ => ⟨S1x1024, .f32⟩
  | .local _ .vmem, ⟨24, _⟩ => ⟨S528x1024, .f32⟩
  | .local _ .vmem, ⟨25, _⟩ => ⟨S528x1024, .f32⟩
  | _, _ => ⟨S2x2048x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | _, _ => false

abbrev semScoped : Fin 0 → Bool
  | ⟨_, h⟩ => absurd h (Nat.not_lt_zero _)

abbrev dmaSemScoped : Fin 24 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | _ => false

abbrev sig : RefSig :=
  ofTc nBuf bufTy 0 24 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_cst : Ref sig .tc := ⟨.hbm, 8, rfl⟩
abbrev main_v2 : Ref sig .tc := ⟨.hbm, 9, rfl⟩
abbrev main_v3 : Ref sig .tc := ⟨.hbm, 10, rfl⟩
abbrev main_cst_0 : Ref sig .tc := ⟨.hbm, 11, rfl⟩
abbrev main_v4 : Ref sig .tc := ⟨.hbm, 12, rfl⟩
abbrev main_v5 : Ref sig .tc := ⟨.hbm, 13, rfl⟩
abbrev main_cst_1 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_cst_2 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev main_v19 : Ref sig .tc := ⟨.hbm, 29, rfl⟩
abbrev main_v20 : Ref sig .tc := ⟨.hbm, 30, rfl⟩
abbrev main_v21 : Ref sig .tc := ⟨.hbm, 31, rfl⟩
abbrev main_v22 : Ref sig .tc := ⟨.hbm, 32, rfl⟩
abbrev main_v23_0 : Ref sig .tc := ⟨.hbm, 33, rfl⟩
abbrev main_v23_1 : Ref sig .tc := ⟨.hbm, 34, rfl⟩
abbrev main_v23_2 : Ref sig .tc := ⟨.hbm, 35, rfl⟩
abbrev main_v23_3 : Ref sig .tc := ⟨.hbm, 36, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg6_0 : Ref sig .tc := ⟨.vmem, 11, rfl⟩
abbrev cc0_stg7_0 : Ref sig .tc := ⟨.vmem, 12, rfl⟩
abbrev cc0_stg7_1 : Ref sig .tc := ⟨.vmem, 13, rfl⟩
abbrev cc0_stg8_0 : Ref sig .tc := ⟨.vmem, 14, rfl⟩
abbrev cc0_stg9_0 : Ref sig .tc := ⟨.vmem, 15, rfl⟩
abbrev cc0_stg10_0 : Ref sig .tc := ⟨.vmem, 16, rfl⟩
abbrev cc0_stg10_1 : Ref sig .tc := ⟨.vmem, 17, rfl⟩
abbrev cc0_stg11_0 : Ref sig .tc := ⟨.vmem, 18, rfl⟩
abbrev cc0_stg11_1 : Ref sig .tc := ⟨.vmem, 19, rfl⟩
abbrev cc0_stg12_0 : Ref sig .tc := ⟨.vmem, 20, rfl⟩
abbrev cc0_stg13_0 : Ref sig .tc := ⟨.vmem, 21, rfl⟩
abbrev cc0_stg13_1 : Ref sig .tc := ⟨.vmem, 22, rfl⟩
abbrev cc0_stg14_0 : Ref sig .tc := ⟨.vmem, 23, rfl⟩
abbrev cc0_scratch0 : Ref sig .tc := ⟨.vmem, 24, rfl⟩
abbrev cc0_scratch1 : Ref sig .tc := ⟨.vmem, 25, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem6_0 : DmaSem sig := 11
abbrev cc0_sem7_0 : DmaSem sig := 12
abbrev cc0_sem7_1 : DmaSem sig := 13
abbrev cc0_sem8_0 : DmaSem sig := 14
abbrev cc0_sem9_0 : DmaSem sig := 15
abbrev cc0_sem10_0 : DmaSem sig := 16
abbrev cc0_sem10_1 : DmaSem sig := 17
abbrev cc0_sem11_0 : DmaSem sig := 18
abbrev cc0_sem11_1 : DmaSem sig := 19
abbrev cc0_sem12_0 : DmaSem sig := 20
abbrev cc0_sem13_0 : DmaSem sig := 21
abbrev cc0_sem13_1 : DmaSem sig := 22
abbrev cc0_sem14_0 : DmaSem sig := 23

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c32_i32 : BitVec 32 := 32#32
  let v0 : BitVec 32 := Scalar.muli arg0 c32_i32
  let c1_i32 : BitVec 32 := 1#32
  let v1 : BitVec 32 := Scalar.subi v0 c1_i32
  let c0_i32 : BitVec 32 := 0#32
  let v2 : BitVec 32 := Scalar.maxsi v1 c0_i32
  let c0_i32_0 : BitVec 32 := 0#32
  let c0_i32_1 : BitVec 32 := 0#32
  ![v2.toNat, c0_i32_0.toNat]

def cc0_transform_2 (i : grid0.Coords) : Fin 2 → Nat :=
  let arg0 : BitVec 32 := BitVec.ofNat 32 (i 0).val
  let c1_i32 : BitVec 32 := 1#32
  let v0 : BitVec 32 := Scalar.addi arg0 c1_i32
  let c32_i32 : BitVec 32 := 32#32
  let v1 : BitVec 32 := Scalar.muli v0 c32_i32
  let c255_i32 : BitVec 32 := 255#32
  let v2 : BitVec 32 := Scalar.minsi v1 c255_i32
  let c0_i32 : BitVec 32 := 0#32
  let c0_i32_0 : BitVec 32 := 0#32
  ![v2.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c1_i32 : BitVec 32 := 1#32
  let v0 : BitVec 32 := Scalar.addi arg0 c1_i32
  let c32_i32 : BitVec 32 := 32#32
  let v1 : BitVec 32 := Scalar.muli v0 c32_i32
  let c255_i32 : BitVec 32 := 255#32
  let v2 : BitVec 32 := Scalar.minsi v1 c255_i32
  let c0_i32 : BitVec 32 := 0#32
  let c0_i32_0 : BitVec 32 := 0#32
  ![v2.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_11 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_12 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_13 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_14 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S512x3072 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S16x3072 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S16x3072 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S512x1024 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S16x1024 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 1 → Memref sig .tc .vmem S3x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S3072x1024 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 2 → Memref sig .tc .vmem S512x1024 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 1 → Memref sig .tc .vmem S1x1024 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S8x128 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 2 → Memref sig .tc .vmem S512x1024 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]

abbrev stage0_11 : Fin 2 → Memref sig .tc .vmem S512x3072 .bf16 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true]

abbrev stage0_12 : Fin 1 → Memref sig .tc .vmem S3x1024 .f32 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))
abbrev reads0_12 : Fin grid0.rank → Bool := ![false]

abbrev stage0_13 : Fin 2 → Memref sig .tc .vmem S512x1024 .f32 := fun | 0 => Memref.whole cc0_stg13_0 | 1 => Memref.whole cc0_stg13_1 | ⟨_ + 2, h⟩ => absurd h (Nat.not_lt.2 (Nat.le_add_left _ _))
abbrev sem0_13 : Fin 2 → DmaSem sig := fun | 0 => cc0_sem13_0 | 1 => cc0_sem13_1 | ⟨_ + 2, h⟩ => absurd h (Nat.not_lt.2 (Nat.le_add_left _ _))
abbrev reads0_13 : Fin grid0.rank → Bool := ![true]

abbrev stage0_14 : Fin 1 → Memref sig .tc .vmem S1x1024 .f32 := fun | 0 => Memref.whole cc0_stg14_0 | ⟨_ + 1, h⟩ => absurd h (Nat.not_lt.2 (Nat.le_add_left _ _))
abbrev sem0_14 : Fin 1 → DmaSem sig := fun | 0 => cc0_sem14_0 | ⟨_ + 1, h⟩ => absurd h (Nat.not_lt.2 (Nat.le_add_left _ _))
abbrev reads0_14 : Fin grid0.rank → Bool := ![false]
-- ==== ConvRefIdeal.lean ====
abbrev S2x2048x1024 : Shape := ⟨3, ![2, 2048, 1024]⟩
abbrev S1024 : Shape := ⟨1, ![1024]⟩
abbrev S1024x3072 : Shape := ⟨2, ![1024, 3072]⟩
abbrev S3x1024 : Shape := ⟨2, ![3, 1024]⟩
abbrev S_ : Shape := ⟨0, ![]⟩
abbrev S2x2048x3072 : Shape := ⟨3, ![2, 2048, 3072]⟩
abbrev S2x2048 : Shape := ⟨2, ![2, 2048]⟩
abbrev S2x2048x1 : Shape := ⟨3, ![2, 2048, 1]⟩
abbrev S1x1x1024 : Shape := ⟨3, ![1, 1, 1024]⟩
abbrev S2x2x1024 : Shape := ⟨3, ![2, 2, 1024]⟩
abbrev S2x2050x1024 : Shape := ⟨3, ![2, 2050, 1024]⟩
abbrev S1x1024 : Shape := ⟨2, ![1, 1024]⟩
abbrev S4096x3072 : Shape := ⟨2, ![4096, 3072]⟩
abbrev S4096x1024 : Shape := ⟨2, ![4096, 1024]⟩

abbrev nBuf : Space → Nat
  | .hbm => 144
  | .vmem => 0
  | .smem => 0
  | _ => 0

abbrev hbmTy0_0 (i : Nat) : BufTy := match i % 128 with
  | 0 => ⟨S2x2048x1024, .f32⟩
  | 1 => ⟨S1024, .f32⟩
  | 2 => ⟨S1024x3072, .f32⟩
  | 3 => ⟨S3x1024, .f32⟩
  | 4 => ⟨S2x2048x1024, .f32⟩
  | 5 => ⟨S2x2048x1024, .f32⟩
  | 6 => ⟨S_, .f32⟩
  | 7 => ⟨S2x2048x3072, .f32⟩
  | 8 => ⟨S2x2048x1024, .f32⟩
  | 9 => ⟨S_, .f32⟩
  | 10 => ⟨S2x2048, .f32⟩
  | 11 => ⟨S2x2048x1, .f32⟩
  | 12 => ⟨S_, .f32⟩
  | 13 => ⟨S2x2048x1, .f32⟩
  | 14 => ⟨S2x2048x1, .f32⟩
  | 15 => ⟨S_, .f32⟩
  | 16 => ⟨S2x2048x1, .f32⟩
  | 17 => ⟨S2x2048x1, .f32⟩
  | 18 => ⟨S2x2048x1, .f32⟩
  | 19 => ⟨S2x2048x1, .f32⟩
  | 20 => ⟨S_, .f32⟩
  | 21 => ⟨S2x2048x1, .f32⟩
  | 22 => ⟨S2x2048x1, .f32⟩
  | 23 => ⟨S2x2048x1024, .f32⟩
  | 24 => ⟨S2x2048x1024, .f32⟩
  | 25 => ⟨S1x1x1024, .f32⟩
  | 26 => ⟨S2x2048x1024, .f32⟩
  | 27 => ⟨S2x2048x1024, .f32⟩
  | 28 => ⟨S2x2048x3072, .f32⟩
  | 29 => ⟨S2x2048x3072, .f32⟩
  | 30 => ⟨S2x2048x1024, .f32⟩
  | 31 => ⟨S2x2048x1024, .f32⟩
  | 32 => ⟨S2x2048x1024, .f32⟩
  | 33 => ⟨S_, .f32⟩
  | 34 => ⟨S2x2x1024, .f32⟩
  | 35 => ⟨S2x2048x1024, .f32⟩
  | 36 => ⟨S2x2050x1024, .f32⟩
  | 37 => ⟨S_, .f32⟩
  | 38 => ⟨S2x2x1024, .f32⟩
  | 39 => ⟨S1x1024, .f32⟩
  | 40 => ⟨S1024, .f32⟩
  | 41 => ⟨S2x2048x1024, .f32⟩
  | 42 => ⟨S1x1x1024, .f32⟩
  | 43 => ⟨S2x2048x1024, .f32⟩
  | 44 => ⟨S2x2048x1024, .f32⟩
  | 45 => ⟨S_, .f32⟩
  | 46 => ⟨S2x2048x1024, .f32⟩
  | 47 => ⟨S2x2048x1024, .f32⟩
  | 48 => ⟨S1x1024, .f32⟩
  | 49 => ⟨S1024, .f32⟩
  | 50 => ⟨S2x2048x1024, .f32⟩
  | 51 => ⟨S1x1x1024, .f32⟩
  | 52 => ⟨S2x2048x1024, .f32⟩
  | 53 => ⟨S2x2048x1024, .f32⟩
  | 54 => ⟨S2x2048x1024, .f32⟩
  | 55 => ⟨S1x1024, .f32⟩
  | 56 => ⟨S1024, .f32⟩
  | 57 => ⟨S2x2048x1024, .f32⟩
  | 58 => ⟨S1x1x1024, .f32⟩
  | 59 => ⟨S2x2048x1024, .f32⟩
  | 60 => ⟨S2x2048x1024, .f32⟩
  | 61 => ⟨S2x2048x1024, .f32⟩
  | 62 => ⟨S2x2048x1024, .f32⟩
  | 63 => ⟨S2x2048x1024, .f32⟩
  | 64 => ⟨S2x2048x1024, .f32⟩
  | 65 => ⟨S2x2048x1024, .f32⟩
  | 66 => ⟨S2x2048x1024, .f32⟩
  | 67 => ⟨S2x2048x1024, .f32⟩
  | 68 => ⟨S_, .f32⟩
  | 69 => ⟨S1024, .f32⟩
  | 70 => ⟨S1x1x1024, .f32⟩
  | 71 => ⟨S_, .f32⟩
  | 72 => ⟨S1024, .f32⟩
  | 73 => ⟨S_, .f32⟩
  | 74 => ⟨S2x2050x1024, .f32⟩
  | 75 => ⟨S1x1024, .f32⟩
  | 76 => ⟨S_, .f32⟩
  | 77 => ⟨S3x1024, .f32⟩
  | 78 => ⟨S2x2048x1024, .f32⟩
  | 79 => ⟨S2x2048x1024, .f32⟩
  | 80 => ⟨S2x2048x1024, .f32⟩
  | 81 => ⟨S_, .f32⟩
  | 82 => ⟨S1024, .f32⟩
  | 83 => ⟨S1x1x1024, .f32⟩
  | 84 => ⟨S_, .f32⟩
  | 85 => ⟨S1024, .f32⟩
  | 86 => ⟨S_, .f32⟩
  | 87 => ⟨S2x2050x1024, .f32⟩
  | 88 => ⟨S2x2050x1024, .f32⟩
  | 89 => ⟨S1x1024, .f32⟩
  | 90 => ⟨S_, .f32⟩
  | 91 => ⟨S3x1024, .f32⟩
  | 92 => ⟨S3x1024, .f32⟩
  | 93 => ⟨S2x2048x1024, .f32⟩
  | 94 => ⟨S2x2048x1024, .f32⟩
  | 95 => ⟨S2x2048x1024, .f32⟩
  | 96 => ⟨S_, .f32⟩
  | 97 => ⟨S1024, .f32⟩
  | 98 => ⟨S1x1x1024, .f32⟩
  | 99 => ⟨S_, .f32⟩
  | 100 => ⟨S1024, .f32⟩
  | 101 => ⟨S_, .f32⟩
  | 102 => ⟨S2x2050x1024, .f32⟩
  | 103 => ⟨S2x2050x1024, .f32⟩
  | 104 => ⟨S1x1024, .f32⟩
  | 105 => ⟨S_, .f32⟩
  | 106 => ⟨S3x1024, .f32⟩
  | 107 => ⟨S3x1024, .f32⟩
  | 108 => ⟨S2x2x1024, .f32⟩
  | 109 => ⟨S2x2048x1024, .f32⟩
  | 110 => ⟨S2x2048x1024, .f32⟩
  | 111 => ⟨S2x2048x1024, .f32⟩
  | 112 => ⟨S2x2048x3072, .f32⟩
  | 113 => ⟨S2x2048x1024, .f32⟩
  | 114 => ⟨S2x2048x1024, .f32⟩
  | 115 => ⟨S_, .f32⟩
  | 116 => ⟨S1024, .f32⟩
  | 117 => ⟨S1x1x1024, .f32⟩
  | 118 => ⟨S2x2048x1024, .f32⟩
  | 119 => ⟨S2x2048x1024, .f32⟩
  | 120 => ⟨S_, .f32⟩
  | 121 => ⟨S1024, .f32⟩
  | 122 => ⟨S2x2048x1024, .f32⟩
  | 123 => ⟨S_, .f32⟩
  | 124 => ⟨S2x2048, .f32⟩
  | 125 => ⟨S2x2048x1, .f32⟩
  | 126 => ⟨S2x2048x1024, .f32⟩
  | 127 => ⟨S2x2048x1024, .f32⟩
  | _ => ⟨S2x2048x1024, .f32⟩

abbrev hbmTy0_1 (i : Nat) : BufTy := match i % 128 with
  | 0 => ⟨S2x2048x1024, .f32⟩
  | 1 => ⟨S2x2048x1, .f32⟩
  | 2 => ⟨S_, .f32⟩
  | 3 => ⟨S2x2048x1, .f32⟩
  | 4 => ⟨S2x2048x1, .f32⟩
  | 5 => ⟨S_, .f32⟩
  | 6 => ⟨S2x2048, .f32⟩
  | 7 => ⟨S2x2048x1024, .f32⟩
  | 8 => ⟨S2x2048x1024, .f32⟩
  | 9 => ⟨S2x2048x1024, .f32⟩
  | 10 => ⟨S2x2048x1024, .f32⟩
  | 11 => ⟨S2x2048x1024, .f32⟩
  | 12 => ⟨S4096x3072, .f32⟩
  | 13 => ⟨S4096x3072, .bf16⟩
  | 14 => ⟨S4096x1024, .f32⟩
  | 15 => ⟨S1x1024, .f32⟩
  | _ => ⟨S2x2048x1024, .f32⟩

abbrev hbmTy (i : Nat) : BufTy := match i / 128 with
  | 0 => hbmTy0_0 i
  | 1 => hbmTy0_1 i
  | _ => ⟨S2x2048x1024, .f32⟩

abbrev bufTy : (tb : Table) → Fin (tcTables nBuf tb) → BufTy
  | .hbm, ⟨i, _⟩ => hbmTy i
  | _, _ => ⟨S2x2048x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_cst : Ref sig .tc := ⟨.hbm, 6, rfl⟩
abbrev main_v0 : Ref sig .tc := ⟨.hbm, 7, rfl⟩
abbrev main_v1 : Ref sig .tc := ⟨.hbm, 8, rfl⟩
abbrev main_cst_0 : Ref sig .tc := ⟨.hbm, 9, rfl⟩
abbrev main_v2 : Ref sig .tc := ⟨.hbm, 10, rfl⟩
abbrev main_v3 : Ref sig .tc := ⟨.hbm, 11, rfl⟩
abbrev main_cst_1 : Ref sig .tc := ⟨.hbm, 12, rfl⟩
abbrev main_v4 : Ref sig .tc := ⟨.hbm, 13, rfl⟩
abbrev main_v5 : Ref sig .tc := ⟨.hbm, 14, rfl⟩
abbrev main_cst_2 : Ref sig .tc := ⟨.hbm, 15, rfl⟩
abbrev main_v6 : Ref sig .tc := ⟨.hbm, 16, rfl⟩
abbrev main_v7 : Ref sig .tc := ⟨.hbm, 17, rfl⟩
abbrev main_v8 : Ref sig .tc := ⟨.hbm, 18, rfl⟩
abbrev main_v9 : Ref sig .tc := ⟨.hbm, 19, rfl⟩
abbrev main_cst_3 : Ref sig .tc := ⟨.hbm, 20, rfl⟩
abbrev main_v10 : Ref sig .tc := ⟨.hbm, 21, rfl⟩
abbrev main_v11 : Ref sig .tc := ⟨.hbm, 22, rfl⟩
abbrev main_v12 : Ref sig .tc := ⟨.hbm, 23, rfl⟩
abbrev main_v13 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_v19 : Ref sig .tc := ⟨.hbm, 30, rfl⟩
abbrev main_v20 : Ref sig .tc := ⟨.hbm, 31, rfl⟩
abbrev main_v21 : Ref sig .tc := ⟨.hbm, 32, rfl⟩
abbrev main_cst_4 : Ref sig .tc := ⟨.hbm, 33, rfl⟩
abbrev main_v22 : Ref sig .tc := ⟨.hbm, 34, rfl⟩
abbrev main_v23 : Ref sig .tc := ⟨.hbm, 35, rfl⟩
abbrev main_v24 : Ref sig .tc := ⟨.hbm, 36, rfl⟩
abbrev main_cst_5 : Ref sig .tc := ⟨.hbm, 37, rfl⟩
abbrev main_v25 : Ref sig .tc := ⟨.hbm, 38, rfl⟩
abbrev main_v26 : Ref sig .tc := ⟨.hbm, 39, rfl⟩
abbrev main_v27 : Ref sig .tc := ⟨.hbm, 40, rfl⟩
abbrev main_v28 : Ref sig .tc := ⟨.hbm, 41, rfl⟩
abbrev main_v29 : Ref sig .tc := ⟨.hbm, 42, rfl⟩
abbrev main_v30 : Ref sig .tc := ⟨.hbm, 43, rfl⟩
abbrev main_v31 : Ref sig .tc := ⟨.hbm, 44, rfl⟩
abbrev main_cst_6 : Ref sig .tc := ⟨.hbm, 45, rfl⟩
abbrev main_v32 : Ref sig .tc := ⟨.hbm, 46, rfl⟩
abbrev main_v33 : Ref sig .tc := ⟨.hbm, 47, rfl⟩
abbrev main_v34 : Ref sig .tc := ⟨.hbm, 48, rfl⟩
abbrev main_v35 : Ref sig .tc := ⟨.hbm, 49, rfl⟩
abbrev main_v36 : Ref sig .tc := ⟨.hbm, 50, rfl⟩
abbrev main_v37 : Ref sig .tc := ⟨.hbm, 51, rfl⟩
abbrev main_v38 : Ref sig .tc := ⟨.hbm, 52, rfl⟩
abbrev main_v39 : Ref sig .tc := ⟨.hbm, 53, rfl⟩
abbrev main_v40 : Ref sig .tc := ⟨.hbm, 54, rfl⟩
abbrev main_v41 : Ref sig .tc := ⟨.hbm, 55, rfl⟩
abbrev main_v42 : Ref sig .tc := ⟨.hbm, 56, rfl⟩
abbrev main_v43 : Ref sig .tc := ⟨.hbm, 57, rfl⟩
abbrev main_v44 : Ref sig .tc := ⟨.hbm, 58, rfl⟩
abbrev main_v45 : Ref sig .tc := ⟨.hbm, 59, rfl⟩
abbrev main_v46 : Ref sig .tc := ⟨.hbm, 60, rfl⟩
abbrev main_v47 : Ref sig .tc := ⟨.hbm, 61, rfl⟩
abbrev main_v48 : Ref sig .tc := ⟨.hbm, 62, rfl⟩
abbrev main_v49 : Ref sig .tc := ⟨.hbm, 63, rfl⟩
abbrev main_v50 : Ref sig .tc := ⟨.hbm, 64, rfl⟩
abbrev main_v51 : Ref sig .tc := ⟨.hbm, 65, rfl⟩
abbrev main_v52 : Ref sig .tc := ⟨.hbm, 66, rfl⟩
abbrev main_v53 : Ref sig .tc := ⟨.hbm, 67, rfl⟩
abbrev main_cst_7 : Ref sig .tc := ⟨.hbm, 68, rfl⟩
abbrev main_v54 : Ref sig .tc := ⟨.hbm, 69, rfl⟩
abbrev main_v55 : Ref sig .tc := ⟨.hbm, 70, rfl⟩
abbrev main_cst_8 : Ref sig .tc := ⟨.hbm, 71, rfl⟩
abbrev main_v56 : Ref sig .tc := ⟨.hbm, 72, rfl⟩
abbrev main_cst_9 : Ref sig .tc := ⟨.hbm, 73, rfl⟩
abbrev main_v57 : Ref sig .tc := ⟨.hbm, 74, rfl⟩
abbrev main_v58 : Ref sig .tc := ⟨.hbm, 75, rfl⟩
abbrev main_cst_10 : Ref sig .tc := ⟨.hbm, 76, rfl⟩
abbrev main_v59 : Ref sig .tc := ⟨.hbm, 77, rfl⟩
abbrev main_v60 : Ref sig .tc := ⟨.hbm, 78, rfl⟩
abbrev main_v61 : Ref sig .tc := ⟨.hbm, 79, rfl⟩
abbrev main_v62 : Ref sig .tc := ⟨.hbm, 80, rfl⟩
abbrev main_cst_11 : Ref sig .tc := ⟨.hbm, 81, rfl⟩
abbrev main_v63 : Ref sig .tc := ⟨.hbm, 82, rfl⟩
abbrev main_v64 : Ref sig .tc := ⟨.hbm, 83, rfl⟩
abbrev main_cst_12 : Ref sig .tc := ⟨.hbm, 84, rfl⟩
abbrev main_v65 : Ref sig .tc := ⟨.hbm, 85, rfl⟩
abbrev main_cst_13 : Ref sig .tc := ⟨.hbm, 86, rfl⟩
abbrev main_v66 : Ref sig .tc := ⟨.hbm, 87, rfl⟩
abbrev main_v67 : Ref sig .tc := ⟨.hbm, 88, rfl⟩
abbrev main_v68 : Ref sig .tc := ⟨.hbm, 89, rfl⟩
abbrev main_cst_14 : Ref sig .tc := ⟨.hbm, 90, rfl⟩
abbrev main_v69 : Ref sig .tc := ⟨.hbm, 91, rfl⟩
abbrev main_v70 : Ref sig .tc := ⟨.hbm, 92, rfl⟩
abbrev main_v71 : Ref sig .tc := ⟨.hbm, 93, rfl⟩
abbrev main_v72 : Ref sig .tc := ⟨.hbm, 94, rfl⟩
abbrev main_v73 : Ref sig .tc := ⟨.hbm, 95, rfl⟩
abbrev main_cst_15 : Ref sig .tc := ⟨.hbm, 96, rfl⟩
abbrev main_v74 : Ref sig .tc := ⟨.hbm, 97, rfl⟩
abbrev main_v75 : Ref sig .tc := ⟨.hbm, 98, rfl⟩
abbrev main_cst_16 : Ref sig .tc := ⟨.hbm, 99, rfl⟩
abbrev main_v76 : Ref sig .tc := ⟨.hbm, 100, rfl⟩
abbrev main_cst_17 : Ref sig .tc := ⟨.hbm, 101, rfl⟩
abbrev main_v77 : Ref sig .tc := ⟨.hbm, 102, rfl⟩
abbrev main_v78 : Ref sig .tc := ⟨.hbm, 103, rfl⟩
abbrev main_v79 : Ref sig .tc := ⟨.hbm, 104, rfl⟩
abbrev main_cst_18 : Ref sig .tc := ⟨.hbm, 105, rfl⟩
abbrev main_v80 : Ref sig .tc := ⟨.hbm, 106, rfl⟩
abbrev main_v81 : Ref sig .tc := ⟨.hbm, 107, rfl⟩
abbrev main_v82 : Ref sig .tc := ⟨.hbm, 108, rfl⟩
abbrev main_v83 : Ref sig .tc := ⟨.hbm, 109, rfl⟩
abbrev main_v84 : Ref sig .tc := ⟨.hbm, 110, rfl⟩
abbrev main_v85 : Ref sig .tc := ⟨.hbm, 111, rfl⟩
abbrev main_v86 : Ref sig .tc := ⟨.hbm, 112, rfl⟩
abbrev main_v87 : Ref sig .tc := ⟨.hbm, 113, rfl⟩
abbrev main_v88 : Ref sig .tc := ⟨.hbm, 114, rfl⟩
abbrev main_cst_19 : Ref sig .tc := ⟨.hbm, 115, rfl⟩
abbrev main_v89 : Ref sig .tc := ⟨.hbm, 116, rfl⟩
abbrev main_v90 : Ref sig .tc := ⟨.hbm, 117, rfl⟩
abbrev main_v91 : Ref sig .tc := ⟨.hbm, 118, rfl⟩
abbrev main_v92 : Ref sig .tc := ⟨.hbm, 119, rfl⟩
abbrev main_cst_20 : Ref sig .tc := ⟨.hbm, 120, rfl⟩
abbrev main_v93 : Ref sig .tc := ⟨.hbm, 121, rfl⟩
abbrev main_v94 : Ref sig .tc := ⟨.hbm, 122, rfl⟩
abbrev main_cst_21 : Ref sig .tc := ⟨.hbm, 123, rfl⟩
abbrev main_v95 : Ref sig .tc := ⟨.hbm, 124, rfl⟩
abbrev main_v96 : Ref sig .tc := ⟨.hbm, 125, rfl⟩
abbrev main_v97 : Ref sig .tc := ⟨.hbm, 126, rfl⟩
abbrev main_v98 : Ref sig .tc := ⟨.hbm, 127, rfl⟩
abbrev main_v99 : Ref sig .tc := ⟨.hbm, 128, rfl⟩
abbrev main_v100 : Ref sig .tc := ⟨.hbm, 129, rfl⟩
abbrev main_cst_22 : Ref sig .tc := ⟨.hbm, 130, rfl⟩
abbrev main_v101 : Ref sig .tc := ⟨.hbm, 131, rfl⟩
abbrev main_v102 : Ref sig .tc := ⟨.hbm, 132, rfl⟩
abbrev main_cst_23 : Ref sig .tc := ⟨.hbm, 133, rfl⟩
abbrev main_v103 : Ref sig .tc := ⟨.hbm, 134, rfl⟩
abbrev main_v104 : Ref sig .tc := ⟨.hbm, 135, rfl⟩
abbrev main_v105 : Ref sig .tc := ⟨.hbm, 136, rfl⟩
abbrev main_v106 : Ref sig .tc := ⟨.hbm, 137, rfl⟩
abbrev main_v107 : Ref sig .tc := ⟨.hbm, 138, rfl⟩
abbrev main_v108 : Ref sig .tc := ⟨.hbm, 139, rfl⟩
abbrev main_v109 : Ref sig .tc := ⟨.hbm, 140, rfl⟩
abbrev main_v110 : Ref sig .tc := ⟨.hbm, 141, rfl⟩
abbrev main_v111 : Ref sig .tc := ⟨.hbm, 142, rfl⟩
abbrev main_v112 : Ref sig .tc := ⟨.hbm, 143, rfl⟩

abbrev nD : Nat := 1
abbrev τ : Topo := Topo.v7x

variable {F : FTy → Type} [FloatOps F]
-- ==== PoolBwd.lean ====
abbrev S2x2048x1024 : Shape := ⟨3, ![2, 2048, 1024]⟩
abbrev S1024 : Shape := ⟨1, ![1024]⟩
abbrev S1024x1024 : Shape := ⟨2, ![1024, 1024]⟩
abbrev S4x256x256 : Shape := ⟨3, ![4, 256, 256]⟩
abbrev S4096x1024 : Shape := ⟨2, ![4096, 1024]⟩
abbrev S_ : Shape := ⟨0, ![]⟩
abbrev S4096 : Shape := ⟨1, ![4096]⟩
abbrev S4096x1 : Shape := ⟨2, ![4096, 1]⟩
abbrev S1x1024 : Shape := ⟨2, ![1, 1024]⟩
abbrev S8x128 : Shape := ⟨2, ![8, 128]⟩
abbrev S4x8x32x256 : Shape := ⟨4, ![4, 8, 32, 256]⟩
abbrev S8x4x32x256 : Shape := ⟨4, ![8, 4, 32, 256]⟩
abbrev S512x1024 : Shape := ⟨2, ![512, 1024]⟩
abbrev S16x1024 : Shape := ⟨2, ![16, 1024]⟩
abbrev S528x1024 : Shape := ⟨2, ![528, 1024]⟩
abbrev S512x256 : Shape := ⟨2, ![512, 256]⟩
abbrev S512x1 : Shape := ⟨2, ![512, 1]⟩
abbrev S8x1x32x256 : Shape := ⟨4, ![8, 1, 32, 256]⟩
abbrev S8x32x256 : Shape := ⟨3, ![8, 32, 256]⟩
abbrev S256x256 : Shape := ⟨2, ![256, 256]⟩
abbrev S1x256 : Shape := ⟨2, ![1, 256]⟩
abbrev S256 : Shape := ⟨1, ![256]⟩
abbrev S16x256 : Shape := ⟨2, ![16, 256]⟩
abbrev S1x256x256 : Shape := ⟨3, ![1, 256, 256]⟩
abbrev S16x1 : Shape := ⟨2, ![16, 1]⟩
abbrev S1x1 : Shape := ⟨2, ![1, 1]⟩
abbrev S512 : Shape := ⟨1, ![512]⟩

abbrev nBuf : Space → Nat
  | .hbm => 42
  | .vmem => 26
  | .smem => 0
  | _ => 0

abbrev bufTy : (tb : Table) → Fin (tcTables nBuf tb) → BufTy
  | .hbm, ⟨0, _⟩ => ⟨S2x2048x1024, .f32⟩
  | .hbm, ⟨1, _⟩ => ⟨S1024, .f32⟩
  | .hbm, ⟨2, _⟩ => ⟨S1024x1024, .f32⟩
  | .hbm, ⟨3, _⟩ => ⟨S4x256x256, .f32⟩
  | .hbm, ⟨4, _⟩ => ⟨S1024, .f32⟩
  | .hbm, ⟨5, _⟩ => ⟨S2x2048x1024, .f32⟩
  | .hbm, ⟨6, _⟩ => ⟨S2x2048x1024, .f32⟩
  | .hbm, ⟨7, _⟩ => ⟨S4096x1024, .f32⟩
  | .hbm, ⟨8, _⟩ => ⟨S4096x1024, .f32⟩
  | .hbm, ⟨9, _⟩ => ⟨S_, .f32⟩
  | .hbm, ⟨10, _⟩ => ⟨S4096, .f32⟩
  | .hbm, ⟨11, _⟩ => ⟨S4096x1, .f32⟩
  | .hbm, ⟨12, _⟩ => ⟨S_, .f32⟩
  | .hbm, ⟨13, _⟩ => ⟨S4096x1, .f32⟩
  | .hbm, ⟨14, _⟩ => ⟨S4096x1, .f32⟩
  | .hbm, ⟨15, _⟩ => ⟨S_, .f32⟩
  | .hbm, ⟨16, _⟩ => ⟨S4096x1, .f32⟩
  | .hbm, ⟨17, _⟩ => ⟨S4096x1, .f32⟩
  | .hbm, ⟨18, _⟩ => ⟨S4096x1, .f32⟩
  | .hbm, ⟨19, _⟩ => ⟨S4096x1024, .f32⟩
  | .hbm, ⟨20, _⟩ => ⟨S4096x1024, .f32⟩
  | .hbm, ⟨21, _⟩ => ⟨S1x1024, .f32⟩
  | .hbm, ⟨22, _⟩ => ⟨S4096x1024, .f32⟩
  | .hbm, ⟨23, _⟩ => ⟨S4096x1024, .f32⟩
  | .hbm, ⟨24, _⟩ => ⟨S4096x1024, .f32⟩
  | .hbm, ⟨25, _⟩ => ⟨S4096x1024, .bf16⟩
  | .hbm, ⟨26, _⟩ => ⟨S_, .f32⟩
  | .hbm, ⟨27, _⟩ => ⟨S8x128, .f32⟩
  | .hbm, ⟨28, _⟩ => ⟨S4x256x256, .bf16⟩
  | .hbm, ⟨29, _⟩ => ⟨S4x8x32x256, .bf16⟩
  | .hbm, ⟨30, _⟩ => ⟨S8x4x32x256, .bf16⟩
  | .hbm, ⟨31, _⟩ => ⟨S4096x1024, .f32⟩
  | .hbm, ⟨32, _⟩ => ⟨S4096x1024, .bf16⟩
  | .hbm, ⟨33, _⟩ => ⟨S1x1024, .f32⟩
  | .hbm, ⟨34, _⟩ => ⟨S1024x1024, .bf16⟩
  | .hbm, ⟨35, _⟩ => ⟨S1x1024, .f32⟩
  | .hbm, ⟨36, _⟩ => ⟨S4096x1024, .f32⟩
  | .hbm, ⟨37, _⟩ => ⟨S4096x1024, .bf16⟩
  | .hbm, ⟨38, _⟩ => ⟨S1x1024, .f32⟩
  | .hbm, ⟨39, _⟩ => ⟨S4x256x256, .f32⟩
  | .hbm, ⟨40, _⟩ => ⟨S4096x1024, .f32⟩
  | .hbm, ⟨41, _⟩ => ⟨S1x1024, .f32⟩
  | .local _ .vmem, ⟨0, _⟩ => ⟨S512x1024, .bf16⟩
  | .local _ .vmem, ⟨1, _⟩ => ⟨S512x1024, .bf16⟩
  | .local _ .vmem, ⟨2, _⟩ => ⟨S16x1024, .bf16⟩
  | .local _ .vmem, ⟨3, _⟩ => ⟨S16x1024, .bf16⟩
  | .local _ .vmem, ⟨4, _⟩ => ⟨S512x1024, .bf16⟩
  | .local _ .vmem, ⟨5, _⟩ => ⟨S512x1024, .bf16⟩
  | .local _ .vmem, ⟨6, _⟩ => ⟨S16x1024, .bf16⟩
  | .local _ .vmem, ⟨7, _⟩ => ⟨S16x1024, .bf16⟩
  | .local _ .vmem, ⟨8, _⟩ => ⟨S8x4x32x256, .bf16⟩
  | .local _ .vmem, ⟨9, _⟩ => ⟨S1x1024, .f32⟩
  | .local _ .vmem, ⟨10, _⟩ => ⟨S1024x1024, .bf16⟩
  | .local _ .vmem, ⟨11, _⟩ => ⟨S512x1024, .f32⟩
  | .local _ .vmem, ⟨12, _⟩ => ⟨S512x1024, .f32⟩
  | .local _ .vmem, ⟨13, _⟩ => ⟨S1x1024, .f32⟩
  | .local _ .vmem, ⟨14, _⟩ => ⟨S8x128, .f32⟩
  | .local _ .vmem, ⟨15, _⟩ => ⟨S512x1024, .f32⟩
  | .local _ .vmem, ⟨16, _⟩ => ⟨S512x1024, .f32⟩
  | .local _ .vmem, ⟨17, _⟩ => ⟨S512x1024, .bf16⟩
  | .local _ .vmem, ⟨18, _⟩ => ⟨S512x1024, .bf16⟩
  | .local _ .vmem, ⟨19, _⟩ => ⟨S1x1024, .f32⟩
  | .local _ .vmem, ⟨20, _⟩ => ⟨S4x256x256, .f32⟩
  | .local _ .vmem, ⟨21, _⟩ => ⟨S512x1024, .f32⟩
  | .local _ .vmem, ⟨22, _⟩ => ⟨S512x1024, .f32⟩
  | .local _ .vmem, ⟨23, _⟩ => ⟨S1x1024, .f32⟩
  | .local _ .vmem, ⟨24, _⟩ => ⟨S528x1024, .f32⟩
  | .local _ .vmem, ⟨25, _⟩ => ⟨S528x1024, .f32⟩
  | _, _ => ⟨S2x2048x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | _, _ => false

abbrev semScoped : Fin 0 → Bool
  | ⟨_, h⟩ => absurd h (Nat.not_lt_zero _)

abbrev dmaSemScoped : Fin 24 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | _ => false

abbrev sig : RefSig :=
  ofTc nBuf bufTy 0 24 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_cst : Ref sig .tc := ⟨.hbm, 9, rfl⟩
abbrev main_v2 : Ref sig .tc := ⟨.hbm, 10, rfl⟩
abbrev main_v3 : Ref sig .tc := ⟨.hbm, 11, rfl⟩
abbrev main_cst_0 : Ref sig .tc := ⟨.hbm, 12, rfl⟩
abbrev main_v4 : Ref sig .tc := ⟨.hbm, 13, rfl⟩
abbrev main_v5 : Ref sig .tc := ⟨.hbm, 14, rfl⟩
abbrev main_cst_1 : Ref sig .tc := ⟨.hbm, 15, rfl⟩
abbrev main_v6 : Ref sig .tc := ⟨.hbm, 16, rfl⟩
abbrev main_v7 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_cst_2 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_v19 : Ref sig .tc := ⟨.hbm, 30, rfl⟩
abbrev main_v20 : Ref sig .tc := ⟨.hbm, 31, rfl⟩
abbrev main_v21 : Ref sig .tc := ⟨.hbm, 32, rfl⟩
abbrev main_v22 : Ref sig .tc := ⟨.hbm, 33, rfl⟩
abbrev main_v23 : Ref sig .tc := ⟨.hbm, 34, rfl⟩
abbrev main_v24 : Ref sig .tc := ⟨.hbm, 35, rfl⟩
abbrev main_v25 : Ref sig .tc := ⟨.hbm, 36, rfl⟩
abbrev main_v26_0 : Ref sig .tc := ⟨.hbm, 37, rfl⟩
abbrev main_v26_1 : Ref sig .tc := ⟨.hbm, 38, rfl⟩
abbrev main_v26_2 : Ref sig .tc := ⟨.hbm, 39, rfl⟩
abbrev main_v26_3 : Ref sig .tc := ⟨.hbm, 40, rfl⟩
abbrev main_v26_4 : Ref sig .tc := ⟨.hbm, 41, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg5_0 : Ref sig .tc := ⟨.vmem, 9, rfl⟩
abbrev cc0_stg6_0 : Ref sig .tc := ⟨.vmem, 10, rfl⟩
abbrev cc0_stg7_0 : Ref sig .tc := ⟨.vmem, 11, rfl⟩
abbrev cc0_stg7_1 : Ref sig .tc := ⟨.vmem, 12, rfl⟩
abbrev cc0_stg8_0 : Ref sig .tc := ⟨.vmem, 13, rfl⟩
abbrev cc0_stg9_0 : Ref sig .tc := ⟨.vmem, 14, rfl⟩
abbrev cc0_stg10_0 : Ref sig .tc := ⟨.vmem, 15, rfl⟩
abbrev cc0_stg10_1 : Ref sig .tc := ⟨.vmem, 16, rfl⟩
abbrev cc0_stg11_0 : Ref sig .tc := ⟨.vmem, 17, rfl⟩
abbrev cc0_stg11_1 : Ref sig .tc := ⟨.vmem, 18, rfl⟩
abbrev cc0_stg12_0 : Ref sig .tc := ⟨.vmem, 19, rfl⟩
abbrev cc0_stg13_0 : Ref sig .tc := ⟨.vmem, 20, rfl⟩
abbrev cc0_stg14_0 : Ref sig .tc := ⟨.vmem, 21, rfl⟩
abbrev cc0_stg14_1 : Ref sig .tc := ⟨.vmem, 22, rfl⟩
abbrev cc0_stg15_0 : Ref sig .tc := ⟨.vmem, 23, rfl⟩
abbrev cc0_scratch0 : Ref sig .tc := ⟨.vmem, 24, rfl⟩
abbrev cc0_scratch1 : Ref sig .tc := ⟨.vmem, 25, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem5_0 : DmaSem sig := 9
abbrev cc0_sem6_0 : DmaSem sig := 10
abbrev cc0_sem7_0 : DmaSem sig := 11
abbrev cc0_sem7_1 : DmaSem sig := 12
abbrev cc0_sem8_0 : DmaSem sig := 13
abbrev cc0_sem9_0 : DmaSem sig := 14
abbrev cc0_sem10_0 : DmaSem sig := 15
abbrev cc0_sem10_1 : DmaSem sig := 16
abbrev cc0_sem11_0 : DmaSem sig := 17
abbrev cc0_sem11_1 : DmaSem sig := 18
abbrev cc0_sem12_0 : DmaSem sig := 19
abbrev cc0_sem13_0 : DmaSem sig := 20
abbrev cc0_sem14_0 : DmaSem sig := 21
abbrev cc0_sem14_1 : DmaSem sig := 22
abbrev cc0_sem15_0 : DmaSem sig := 23

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c32_i32 : BitVec 32 := 32#32
  let v0 : BitVec 32 := Scalar.muli arg0 c32_i32
  let c1_i32 : BitVec 32 := 1#32
  let v1 : BitVec 32 := Scalar.subi v0 c1_i32
  let c0_i32 : BitVec 32 := 0#32
  let v2 : BitVec 32 := Scalar.maxsi v1 c0_i32
  let c0_i32_0 : BitVec 32 := 0#32
  let c0_i32_1 : BitVec 32 := 0#32
  ![v2.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c1_i32 : BitVec 32 := 1#32
  let v0 : BitVec 32 := Scalar.addi arg0 c1_i32
  let c32_i32 : BitVec 32 := 32#32
  let v1 : BitVec 32 := Scalar.muli v0 c32_i32
  let c255_i32 : BitVec 32 := 255#32
  let v2 : BitVec 32 := Scalar.minsi v1 c255_i32
  let c0_i32 : BitVec 32 := 0#32
  let c0_i32_0 : BitVec 32 := 0#32
  ![v2.toNat, c0_i32.toNat]

def cc0_transform_4 (i : grid0.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  let c0_i32_3 : BitVec 32 := 0#32
  ![c0_i32.toNat, c0_i32_0.toNat, c0_i32_1.toNat, c0_i32_2.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_11 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_12 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_13 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_14 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_15 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S512x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S16x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S512x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S16x1024 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 1 → Memref sig .tc .vmem S8x4x32x256 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1024x1024 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 2 → Memref sig .tc .vmem S512x1024 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 1 → Memref sig .tc .vmem S1x1024 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S8x128 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 2 → Memref sig .tc .vmem S512x1024 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]

abbrev stage0_11 : Fin 2 → Memref sig .tc .vmem S512x1024 .bf16 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true]

abbrev stage0_12 : Fin 1 → Memref sig .tc .vmem S1x1024 .f32 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))
abbrev reads0_12 : Fin grid0.rank → Bool := ![false]

abbrev stage0_13 : Fin 1 → Memref sig .tc .vmem S4x256x256 .f32 := fun | 0 => Memref.whole cc0_stg13_0 | ⟨_ + 1, h⟩ => absurd h (Nat.not_lt.2 (Nat.le_add_left _ _))
abbrev sem0_13 : Fin 1 → DmaSem sig := fun | 0 => cc0_sem13_0 | ⟨_ + 1, h⟩ => absurd h (Nat.not_lt.2 (Nat.le_add_left _ _))
abbrev reads0_13 : Fin grid0.rank → Bool := ![false]

abbrev stage0_14 : Fin 2 → Memref sig .tc .vmem S512x1024 .f32 := fun | 0 => Memref.whole cc0_stg14_0 | 1 => Memref.whole cc0_stg14_1 | ⟨_ + 2, h⟩ => absurd h (Nat.not_lt.2 (Nat.le_add_left _ _))
abbrev sem0_14 : Fin 2 → DmaSem sig := fun | 0 => cc0_sem14_0 | 1 => cc0_sem14_1 | ⟨_ + 2, h⟩ => absurd h (Nat.not_lt.2 (Nat.le_add_left _ _))
abbrev reads0_14 : Fin grid0.rank → Bool := ![true]

abbrev stage0_15 : Fin 1 → Memref sig .tc .vmem S1x1024 .f32 := fun | 0 => Memref.whole cc0_stg15_0 | ⟨_ + 1, h⟩ => absurd h (Nat.not_lt.2 (Nat.le_add_left _ _))
abbrev sem0_15 : Fin 1 → DmaSem sig := fun | 0 => cc0_sem15_0 | ⟨_ + 1, h⟩ => absurd h (Nat.not_lt.2 (Nat.le_add_left _ _))
abbrev reads0_15 : Fin grid0.rank → Bool := ![false]
-- ==== PoolRefIdeal.lean ====
abbrev S2x2048x1024 : Shape := ⟨3, ![2, 2048, 1024]⟩
abbrev S1024 : Shape := ⟨1, ![1024]⟩
abbrev S1024x1024 : Shape := ⟨2, ![1024, 1024]⟩
abbrev S4x256x256 : Shape := ⟨3, ![4, 256, 256]⟩
abbrev S_ : Shape := ⟨0, ![]⟩
abbrev S2x2048 : Shape := ⟨2, ![2, 2048]⟩
abbrev S2x2048x1 : Shape := ⟨3, ![2, 2048, 1]⟩
abbrev S1x1x1024 : Shape := ⟨3, ![1, 1, 1024]⟩
abbrev S2x2048x4x256 : Shape := ⟨4, ![2, 2048, 4, 256]⟩
abbrev S2048 : Shape := ⟨1, ![2048]⟩
abbrev S2x2048x1x256 : Shape := ⟨4, ![2, 2048, 1, 256]⟩
abbrev S2x2048x256 : Shape := ⟨3, ![2, 2048, 256]⟩
abbrev S2x2x256 : Shape := ⟨3, ![2, 2, 256]⟩
abbrev S2x2046x256 : Shape := ⟨3, ![2, 2046, 256]⟩
abbrev S1x2048x1 : Shape := ⟨3, ![1, 2048, 1]⟩
abbrev S2x4x256 : Shape := ⟨3, ![2, 4, 256]⟩
abbrev S2x2044x256 : Shape := ⟨3, ![2, 2044, 256]⟩
abbrev S2x8x256 : Shape := ⟨3, ![2, 8, 256]⟩
abbrev S2x2040x256 : Shape := ⟨3, ![2, 2040, 256]⟩
abbrev S2x16x256 : Shape := ⟨3, ![2, 16, 256]⟩
abbrev S2x2032x256 : Shape := ⟨3, ![2, 2032, 256]⟩
abbrev S4x256x2x2048 : Shape := ⟨4, ![4, 256, 2, 2048]⟩
abbrev S4x2x2048x256 : Shape := ⟨4, ![4, 2, 2048, 256]⟩
abbrev S4096x1024 : Shape := ⟨2, ![4096, 1024]⟩
abbrev S1x1024 : Shape := ⟨2, ![1, 1024]⟩

abbrev nBuf : Space → Nat
  | .hbm => 248
  | .vmem => 0
  | .smem => 0
  | _ => 0

abbrev hbmTy0_0 (i : Nat) : BufTy := match i % 128 with
  | 0 => ⟨S2x2048x1024, .f32⟩
  | 1 => ⟨S1024, .f32⟩
  | 2 => ⟨S1024x1024, .f32⟩
  | 3 => ⟨S4x256x256, .f32⟩
  | 4 => ⟨S1024, .f32⟩
  | 5 => ⟨S2x2048x1024, .f32⟩
  | 6 => ⟨S2x2048x1024, .f32⟩
  | 7 => ⟨S_, .f32⟩
  | 8 => ⟨S2x2048x1024, .f32⟩
  | 9 => ⟨S2x2048x1024, .f32⟩
  | 10 => ⟨S_, .f32⟩
  | 11 => ⟨S2x2048, .f32⟩
  | 12 => ⟨S2x2048x1, .f32⟩
  | 13 => ⟨S_, .f32⟩
  | 14 => ⟨S2x2048x1, .f32⟩
  | 15 => ⟨S2x2048x1, .f32⟩
  | 16 => ⟨S_, .f32⟩
  | 17 => ⟨S2x2048x1, .f32⟩
  | 18 => ⟨S2x2048x1, .f32⟩
  | 19 => ⟨S2x2048x1, .f32⟩
  | 20 => ⟨S2x2048x1, .f32⟩
  | 21 => ⟨S_, .f32⟩
  | 22 => ⟨S2x2048x1, .f32⟩
  | 23 => ⟨S2x2048x1, .f32⟩
  | 24 => ⟨S2x2048x1024, .f32⟩
  | 25 => ⟨S2x2048x1024, .f32⟩
  | 26 => ⟨S1x1x1024, .f32⟩
  | 27 => ⟨S2x2048x1024, .f32⟩
  | 28 => ⟨S2x2048x1024, .f32⟩
  | 29 => ⟨S2x2048x1024, .f32⟩
  | 30 => ⟨S2x2048x1024, .f32⟩
  | 31 => ⟨S2x2048x4x256, .f32⟩
  | 32 => ⟨S_, .f32⟩
  | 33 => ⟨S_, .f32⟩
  | 34 => ⟨S2x2048x4x256, .f32⟩
  | 35 => ⟨S2048, .i32⟩
  | 36 => ⟨S_, .i32⟩
  | 37 => ⟨S2048, .i32⟩
  | 38 => ⟨S2048, .i32⟩
  | 39 => ⟨S2048, .f32⟩
  | 40 => ⟨S2x2048x1x256, .f32⟩
  | 41 => ⟨S2x2048x256, .f32⟩
  | 42 => ⟨S_, .f32⟩
  | 43 => ⟨S2x2x256, .f32⟩
  | 44 => ⟨S2x2046x256, .f32⟩
  | 45 => ⟨S2x2048x256, .f32⟩
  | 46 => ⟨S_, .f32⟩
  | 47 => ⟨S2x2x256, .f32⟩
  | 48 => ⟨S2x2048x256, .f32⟩
  | 49 => ⟨S_, .f32⟩
  | 50 => ⟨S2048, .f32⟩
  | 51 => ⟨S2048, .f32⟩
  | 52 => ⟨S1x2048x1, .f32⟩
  | 53 => ⟨S2x2048x256, .f32⟩
  | 54 => ⟨S2x2048x256, .f32⟩
  | 55 => ⟨S2x2048x1x256, .f32⟩
  | 56 => ⟨S2x2048x256, .f32⟩
  | 57 => ⟨S2x2048x256, .f32⟩
  | 58 => ⟨S2x2048x1x256, .f32⟩
  | 59 => ⟨S2x2048x256, .f32⟩
  | 60 => ⟨S_, .f32⟩
  | 61 => ⟨S2x4x256, .f32⟩
  | 62 => ⟨S2x2044x256, .f32⟩
  | 63 => ⟨S2x2048x256, .f32⟩
  | 64 => ⟨S_, .f32⟩
  | 65 => ⟨S2x4x256, .f32⟩
  | 66 => ⟨S2x2048x256, .f32⟩
  | 67 => ⟨S_, .f32⟩
  | 68 => ⟨S2048, .f32⟩
  | 69 => ⟨S2048, .f32⟩
  | 70 => ⟨S1x2048x1, .f32⟩
  | 71 => ⟨S2x2048x256, .f32⟩
  | 72 => ⟨S2x2048x256, .f32⟩
  | 73 => ⟨S2x2048x1x256, .f32⟩
  | 74 => ⟨S2x2048x256, .f32⟩
  | 75 => ⟨S2x2048x256, .f32⟩
  | 76 => ⟨S2x2048x1x256, .f32⟩
  | 77 => ⟨S2x2048x256, .f32⟩
  | 78 => ⟨S_, .f32⟩
  | 79 => ⟨S2x8x256, .f32⟩
  | 80 => ⟨S2x2040x256, .f32⟩
  | 81 => ⟨S2x2048x256, .f32⟩
  | 82 => ⟨S_, .f32⟩
  | 83 => ⟨S2x8x256, .f32⟩
  | 84 => ⟨S2x2048x256, .f32⟩
  | 85 => ⟨S_, .f32⟩
  | 86 => ⟨S2048, .f32⟩
  | 87 => ⟨S2048, .f32⟩
  | 88 => ⟨S1x2048x1, .f32⟩
  | 89 => ⟨S2x2048x256, .f32⟩
  | 90 => ⟨S2x2048x256, .f32⟩
  | 91 => ⟨S2x2048x1x256, .f32⟩
  | 92 => ⟨S2x2048x256, .f32⟩
  | 93 => ⟨S2x2048x256, .f32⟩
  | 94 => ⟨S2x2048x1x256, .f32⟩
  | 95 => ⟨S2x2048x256, .f32⟩
  | 96 => ⟨S_, .f32⟩
  | 97 => ⟨S2x16x256, .f32⟩
  | 98 => ⟨S2x2032x256, .f32⟩
  | 99 => ⟨S2x2048x256, .f32⟩
  | 100 => ⟨S_, .f32⟩
  | 101 => ⟨S2x16x256, .f32⟩
  | 102 => ⟨S2x2048x256, .f32⟩
  | 103 => ⟨S_, .f32⟩
  | 104 => ⟨S2048, .f32⟩
  | 105 => ⟨S2048, .f32⟩
  | 106 => ⟨S1x2048x1, .f32⟩
  | 107 => ⟨S2x2048x256, .f32⟩
  | 108 => ⟨S2x2048x256, .f32⟩
  | 109 => ⟨S2x2048x1x256, .f32⟩
  | 110 => ⟨S2x2048x256, .f32⟩
  | 111 => ⟨S2x2048x256, .f32⟩
  | 112 => ⟨S2x2048x1x256, .f32⟩
  | 113 => ⟨S2x2048x1x256, .f32⟩
  | 114 => ⟨S2x2048x1x256, .f32⟩
  | 115 => ⟨S2x2048x1x256, .f32⟩
  | 116 => ⟨S2x2048x4x256, .f32⟩
  | 117 => ⟨S4x256x2x2048, .f32⟩
  | 118 => ⟨S2x2048x4x256, .f32⟩
  | 119 => ⟨S2x2048x1024, .f32⟩
  | 120 => ⟨S1x1x1024, .f32⟩
  | 121 => ⟨S2x2048x1024, .f32⟩
  | 122 => ⟨S2x2048x1024, .f32⟩
  | 123 => ⟨S2x2048x1024, .f32⟩
  | 124 => ⟨S_, .f32⟩
  | 125 => ⟨S1024, .f32⟩
  | 126 => ⟨S1x1x1024, .f32⟩
  | 127 => ⟨S2x2048x1024, .f32⟩
  | _ => ⟨S2x2048x1024, .f32⟩

abbrev hbmTy0_1 (i : Nat) : BufTy := match i % 128 with
  | 0 => ⟨S2x2048x1024, .f32⟩
  | 1 => ⟨S_, .f32⟩
  | 2 => ⟨S1024, .f32⟩
  | 3 => ⟨S2x2048x4x256, .f32⟩
  | 4 => ⟨S4x256x2x2048, .f32⟩
  | 5 => ⟨S4x2x2048x256, .f32⟩
  | 6 => ⟨S2x2048x4x256, .f32⟩
  | 7 => ⟨S4x256x256, .f32⟩
  | 8 => ⟨S4x256x256, .f32⟩
  | 9 => ⟨S2x2048x1x256, .f32⟩
  | 10 => ⟨S2x2048x256, .f32⟩
  | 11 => ⟨S2x2048x1x256, .f32⟩
  | 12 => ⟨S2x2048x256, .f32⟩
  | 13 => ⟨S2x2048x1x256, .f32⟩
  | 14 => ⟨S2x2048x256, .f32⟩
  | 15 => ⟨S2x2048x1x256, .f32⟩
  | 16 => ⟨S2x2048x256, .f32⟩
  | 17 => ⟨S2x2048x256, .f32⟩
  | 18 => ⟨S2x2048x1x256, .f32⟩
  | 19 => ⟨S_, .f32⟩
  | 20 => ⟨S2x2048x4x256, .f32⟩
  | 21 => ⟨S2x2048x256, .f32⟩
  | 22 => ⟨S2x2048x256, .f32⟩
  | 23 => ⟨S2x2048x256, .f32⟩
  | 24 => ⟨S2x16x256, .f32⟩
  | 25 => ⟨S2x2032x256, .f32⟩
  | 26 => ⟨S_, .f32⟩
  | 27 => ⟨S2x2048x256, .f32⟩
  | 28 => ⟨S2x2048x256, .f32⟩
  | 29 => ⟨S2x2048x1x256, .f32⟩
  | 30 => ⟨S_, .f32⟩
  | 31 => ⟨S2x2048x4x256, .f32⟩
  | 32 => ⟨S2x2048x256, .f32⟩
  | 33 => ⟨S2x2048x1x256, .f32⟩
  | 34 => ⟨S_, .f32⟩
  | 35 => ⟨S2x2048x4x256, .f32⟩
  | 36 => ⟨S2x2048x4x256, .f32⟩
  | 37 => ⟨S2x2048x256, .f32⟩
  | 38 => ⟨S2x2048x256, .f32⟩
  | 39 => ⟨S2x2048x256, .f32⟩
  | 40 => ⟨S2x8x256, .f32⟩
  | 41 => ⟨S2x2040x256, .f32⟩
  | 42 => ⟨S_, .f32⟩
  | 43 => ⟨S2x2048x256, .f32⟩
  | 44 => ⟨S2x2048x256, .f32⟩
  | 45 => ⟨S2x2048x1x256, .f32⟩
  | 46 => ⟨S_, .f32⟩
  | 47 => ⟨S2x2048x4x256, .f32⟩
  | 48 => ⟨S2x2048x4x256, .f32⟩
  | 49 => ⟨S2x2048x256, .f32⟩
  | 50 => ⟨S2x2048x1x256, .f32⟩
  | 51 => ⟨S_, .f32⟩
  | 52 => ⟨S2x2048x4x256, .f32⟩
  | 53 => ⟨S2x2048x4x256, .f32⟩
  | 54 => ⟨S2x2048x256, .f32⟩
  | 55 => ⟨S2x2048x256, .f32⟩
  | 56 => ⟨S2x2048x256, .f32⟩
  | 57 => ⟨S2x4x256, .f32⟩
  | 58 => ⟨S2x2044x256, .f32⟩
  | 59 => ⟨S_, .f32⟩
  | 60 => ⟨S2x2048x256, .f32⟩
  | 61 => ⟨S2x2048x256, .f32⟩
  | 62 => ⟨S2x2048x1x256, .f32⟩
  | 63 => ⟨S_, .f32⟩
  | 64 => ⟨S2x2048x4x256, .f32⟩
  | 65 => ⟨S2x2048x4x256, .f32⟩
  | 66 => ⟨S2x2048x256, .f32⟩
  | 67 => ⟨S2x2048x1x256, .f32⟩
  | 68 => ⟨S_, .f32⟩
  | 69 => ⟨S2x2048x4x256, .f32⟩
  | 70 => ⟨S2x2048x4x256, .f32⟩
  | 71 => ⟨S2x2048x256, .f32⟩
  | 72 => ⟨S2x2048x256, .f32⟩
  | 73 => ⟨S2x2048x256, .f32⟩
  | 74 => ⟨S2x2x256, .f32⟩
  | 75 => ⟨S2x2046x256, .f32⟩
  | 76 => ⟨S_, .f32⟩
  | 77 => ⟨S2x2048x256, .f32⟩
  | 78 => ⟨S2x2048x256, .f32⟩
  | 79 => ⟨S2x2048x1x256, .f32⟩
  | 80 => ⟨S_, .f32⟩
  | 81 => ⟨S2x2048x4x256, .f32⟩
  | 82 => ⟨S2x2048x4x256, .f32⟩
  | 83 => ⟨S_, .f32⟩
  | 84 => ⟨S_, .f32⟩
  | 85 => ⟨S2x2048x4x256, .f32⟩
  | 86 => ⟨S2x2048x4x256, .f32⟩
  | 87 => ⟨S2x2048x1024, .f32⟩
  | 88 => ⟨S2x2048x1024, .f32⟩
  | 89 => ⟨S2x2048x1024, .f32⟩
  | 90 => ⟨S_, .f32⟩
  | 91 => ⟨S1024, .f32⟩
  | 92 => ⟨S1x1x1024, .f32⟩
  | 93 => ⟨S2x2048x1024, .f32⟩
  | 94 => ⟨S2x2048x1024, .f32⟩
  | 95 => ⟨S_, .f32⟩
  | 96 => ⟨S1024, .f32⟩
  | 97 => ⟨S2x2048x1024, .f32⟩
  | 98 => ⟨S_, .f32⟩
  | 99 => ⟨S2x2048, .f32⟩
  | 100 => ⟨S2x2048x1, .f32⟩
  | 101 => ⟨S2x2048x1024, .f32⟩
  | 102 => ⟨S2x2048x1024, .f32⟩
  | 103 => ⟨S2x2048x1024, .f32⟩
  | 104 => ⟨S2x2048x1, .f32⟩
  | 105 => ⟨S_, .f32⟩
  | 106 => ⟨S2x2048x1, .f32⟩
  | 107 => ⟨S2x2048x1, .f32⟩
  | 108 => ⟨S_, .f32⟩
  | 109 => ⟨S2x2048, .f32⟩
  | 110 => ⟨S2x2048x1024, .f32⟩
  | 111 => ⟨S2x2048x1024, .f32⟩
  | 112 => ⟨S2x2048x1024, .f32⟩
  | 113 => ⟨S2x2048x1024, .f32⟩
  | 114 => ⟨S2x2048x1024, .f32⟩
  | 115 => ⟨S4096x1024, .f32⟩
  | 116 => ⟨S4096x1024, .bf16⟩
  | 117 => ⟨S1x1024, .f32⟩
  | 118 => ⟨S4096x1024, .f32⟩
  | 119 => ⟨S1x1024, .f32⟩
  | _ => ⟨S2x2048x1024, .f32⟩

abbrev hbmTy (i : Nat) : BufTy := match i / 128 with
  | 0 => hbmTy0_0 i
  | 1 => hbmTy0_1 i
  | _ => ⟨S2x2048x1024, .f32⟩

abbrev bufTy : (tb : Table) → Fin (tcTables nBuf tb) → BufTy
  | .hbm, ⟨i, _⟩ => hbmTy i
  | _, _ => ⟨S2x2048x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_cst : Ref sig .tc := ⟨.hbm, 7, rfl⟩
abbrev main_v0 : Ref sig .tc := ⟨.hbm, 8, rfl⟩
abbrev main_v1 : Ref sig .tc := ⟨.hbm, 9, rfl⟩
abbrev main_cst_0 : Ref sig .tc := ⟨.hbm, 10, rfl⟩
abbrev main_v2 : Ref sig .tc := ⟨.hbm, 11, rfl⟩
abbrev main_v3 : Ref sig .tc := ⟨.hbm, 12, rfl⟩
abbrev main_cst_1 : Ref sig .tc := ⟨.hbm, 13, rfl⟩
abbrev main_v4 : Ref sig .tc := ⟨.hbm, 14, rfl⟩
abbrev main_v5 : Ref sig .tc := ⟨.hbm, 15, rfl⟩
abbrev main_cst_2 : Ref sig .tc := ⟨.hbm, 16, rfl⟩
abbrev main_v6 : Ref sig .tc := ⟨.hbm, 17, rfl⟩
abbrev main_v7 : Ref sig .tc := ⟨.hbm, 18, rfl⟩
abbrev main_v8 : Ref sig .tc := ⟨.hbm, 19, rfl⟩
abbrev main_v9 : Ref sig .tc := ⟨.hbm, 20, rfl⟩
abbrev main_cst_3 : Ref sig .tc := ⟨.hbm, 21, rfl⟩
abbrev main_v10 : Ref sig .tc := ⟨.hbm, 22, rfl⟩
abbrev main_v11 : Ref sig .tc := ⟨.hbm, 23, rfl⟩
abbrev main_v12 : Ref sig .tc := ⟨.hbm, 24, rfl⟩
abbrev main_v13 : Ref sig .tc := ⟨.hbm, 25, rfl⟩
abbrev main_v14 : Ref sig .tc := ⟨.hbm, 26, rfl⟩
abbrev main_v15 : Ref sig .tc := ⟨.hbm, 27, rfl⟩
abbrev main_v16 : Ref sig .tc := ⟨.hbm, 28, rfl⟩
abbrev main_v17 : Ref sig .tc := ⟨.hbm, 29, rfl⟩
abbrev main_v18 : Ref sig .tc := ⟨.hbm, 30, rfl⟩
abbrev main_v19 : Ref sig .tc := ⟨.hbm, 31, rfl⟩
abbrev main_call0_call0_cst : Ref sig .tc := ⟨.hbm, 32, rfl⟩
abbrev main_call0_call0_v0 : Ref sig .tc := ⟨.hbm, 33, rfl⟩
abbrev main_v20 : Ref sig .tc := ⟨.hbm, 34, rfl⟩
abbrev main_v21 : Ref sig .tc := ⟨.hbm, 35, rfl⟩
abbrev main_c : Ref sig .tc := ⟨.hbm, 36, rfl⟩
abbrev main_v22 : Ref sig .tc := ⟨.hbm, 37, rfl⟩
abbrev main_v23 : Ref sig .tc := ⟨.hbm, 38, rfl⟩
abbrev main_v24 : Ref sig .tc := ⟨.hbm, 39, rfl⟩
abbrev main_v25 : Ref sig .tc := ⟨.hbm, 40, rfl⟩
abbrev main_v26 : Ref sig .tc := ⟨.hbm, 41, rfl⟩
abbrev main_cst_4 : Ref sig .tc := ⟨.hbm, 42, rfl⟩
abbrev main_v27 : Ref sig .tc := ⟨.hbm, 43, rfl⟩
abbrev main_v28 : Ref sig .tc := ⟨.hbm, 44, rfl⟩
abbrev main_v29 : Ref sig .tc := ⟨.hbm, 45, rfl⟩
abbrev main_cst_5 : Ref sig .tc := ⟨.hbm, 46, rfl⟩
abbrev main_v30 : Ref sig .tc := ⟨.hbm, 47, rfl⟩
abbrev main_v31 : Ref sig .tc := ⟨.hbm, 48, rfl⟩
abbrev main_cst_6 : Ref sig .tc := ⟨.hbm, 49, rfl⟩
abbrev main_v32 : Ref sig .tc := ⟨.hbm, 50, rfl⟩
abbrev main_v33 : Ref sig .tc := ⟨.hbm, 51, rfl⟩
abbrev main_v34 : Ref sig .tc := ⟨.hbm, 52, rfl⟩
abbrev main_v35 : Ref sig .tc := ⟨.hbm, 53, rfl⟩
abbrev main_v36 : Ref sig .tc := ⟨.hbm, 54, rfl⟩
abbrev main_v37 : Ref sig .tc := ⟨.hbm, 55, rfl⟩
abbrev main_v38 : Ref sig .tc := ⟨.hbm, 56, rfl⟩
abbrev main_v39 : Ref sig .tc := ⟨.hbm, 57, rfl⟩
abbrev main_v40 : Ref sig .tc := ⟨.hbm, 58, rfl⟩
abbrev main_v41 : Ref sig .tc := ⟨.hbm, 59, rfl⟩
abbrev main_cst_7 : Ref sig .tc := ⟨.hbm, 60, rfl⟩
abbrev main_v42 : Ref sig .tc := ⟨.hbm, 61, rfl⟩
abbrev main_v43 : Ref sig .tc := ⟨.hbm, 62, rfl⟩
abbrev main_v44 : Ref sig .tc := ⟨.hbm, 63, rfl⟩
abbrev main_cst_8 : Ref sig .tc := ⟨.hbm, 64, rfl⟩
abbrev main_v45 : Ref sig .tc := ⟨.hbm, 65, rfl⟩
abbrev main_v46 : Ref sig .tc := ⟨.hbm, 66, rfl⟩
abbrev main_cst_9 : Ref sig .tc := ⟨.hbm, 67, rfl⟩
abbrev main_v47 : Ref sig .tc := ⟨.hbm, 68, rfl⟩
abbrev main_v48 : Ref sig .tc := ⟨.hbm, 69, rfl⟩
abbrev main_v49 : Ref sig .tc := ⟨.hbm, 70, rfl⟩
abbrev main_v50 : Ref sig .tc := ⟨.hbm, 71, rfl⟩
abbrev main_v51 : Ref sig .tc := ⟨.hbm, 72, rfl⟩
abbrev main_v52 : Ref sig .tc := ⟨.hbm, 73, rfl⟩
abbrev main_v53 : Ref sig .tc := ⟨.hbm, 74, rfl⟩
abbrev main_v54 : Ref sig .tc := ⟨.hbm, 75, rfl⟩
abbrev main_v55 : Ref sig .tc := ⟨.hbm, 76, rfl⟩
abbrev main_v56 : Ref sig .tc := ⟨.hbm, 77, rfl⟩
abbrev main_cst_10 : Ref sig .tc := ⟨.hbm, 78, rfl⟩
abbrev main_v57 : Ref sig .tc := ⟨.hbm, 79, rfl⟩
abbrev main_v58 : Ref sig .tc := ⟨.hbm, 80, rfl⟩
abbrev main_v59 : Ref sig .tc := ⟨.hbm, 81, rfl⟩
abbrev main_cst_11 : Ref sig .tc := ⟨.hbm, 82, rfl⟩
abbrev main_v60 : Ref sig .tc := ⟨.hbm, 83, rfl⟩
abbrev main_v61 : Ref sig .tc := ⟨.hbm, 84, rfl⟩
abbrev main_cst_12 : Ref sig .tc := ⟨.hbm, 85, rfl⟩
abbrev main_v62 : Ref sig .tc := ⟨.hbm, 86, rfl⟩
abbrev main_v63 : Ref sig .tc := ⟨.hbm, 87, rfl⟩
abbrev main_v64 : Ref sig .tc := ⟨.hbm, 88, rfl⟩
abbrev main_v65 : Ref sig .tc := ⟨.hbm, 89, rfl⟩
abbrev main_v66 : Ref sig .tc := ⟨.hbm, 90, rfl⟩
abbrev main_v67 : Ref sig .tc := ⟨.hbm, 91, rfl⟩
abbrev main_v68 : Ref sig .tc := ⟨.hbm, 92, rfl⟩
abbrev main_v69 : Ref sig .tc := ⟨.hbm, 93, rfl⟩
abbrev main_v70 : Ref sig .tc := ⟨.hbm, 94, rfl⟩
abbrev main_v71 : Ref sig .tc := ⟨.hbm, 95, rfl⟩
abbrev main_cst_13 : Ref sig .tc := ⟨.hbm, 96, rfl⟩
abbrev main_v72 : Ref sig .tc := ⟨.hbm, 97, rfl⟩
abbrev main_v73 : Ref sig .tc := ⟨.hbm, 98, rfl⟩
abbrev main_v74 : Ref sig .tc := ⟨.hbm, 99, rfl⟩
abbrev main_cst_14 : Ref sig .tc := ⟨.hbm, 100, rfl⟩
abbrev main_v75 : Ref sig .tc := ⟨.hbm, 101, rfl⟩
abbrev main_v76 : Ref sig .tc := ⟨.hbm, 102, rfl⟩
abbrev main_cst_15 : Ref sig .tc := ⟨.hbm, 103, rfl⟩
abbrev main_v77 : Ref sig .tc := ⟨.hbm, 104, rfl⟩
abbrev main_v78 : Ref sig .tc := ⟨.hbm, 105, rfl⟩
abbrev main_v79 : Ref sig .tc := ⟨.hbm, 106, rfl⟩
abbrev main_v80 : Ref sig .tc := ⟨.hbm, 107, rfl⟩
abbrev main_v81 : Ref sig .tc := ⟨.hbm, 108, rfl⟩
abbrev main_v82 : Ref sig .tc := ⟨.hbm, 109, rfl⟩
abbrev main_v83 : Ref sig .tc := ⟨.hbm, 110, rfl⟩
abbrev main_v84 : Ref sig .tc := ⟨.hbm, 111, rfl⟩
abbrev main_v85 : Ref sig .tc := ⟨.hbm, 112, rfl⟩
abbrev main_v86 : Ref sig .tc := ⟨.hbm, 113, rfl⟩
abbrev main_v87 : Ref sig .tc := ⟨.hbm, 114, rfl⟩
abbrev main_v88 : Ref sig .tc := ⟨.hbm, 115, rfl⟩
abbrev main_v89 : Ref sig .tc := ⟨.hbm, 116, rfl⟩
abbrev main_v90 : Ref sig .tc := ⟨.hbm, 117, rfl⟩
abbrev main_v91 : Ref sig .tc := ⟨.hbm, 118, rfl⟩
abbrev main_v92 : Ref sig .tc := ⟨.hbm, 119, rfl⟩
abbrev main_v93 : Ref sig .tc := ⟨.hbm, 120, rfl⟩
abbrev main_v94 : Ref sig .tc := ⟨.hbm, 121, rfl⟩
abbrev main_v95 : Ref sig .tc := ⟨.hbm, 122, rfl⟩
abbrev main_v96 : Ref sig .tc := ⟨.hbm, 123, rfl⟩
abbrev main_cst_16 : Ref sig .tc := ⟨.hbm, 124, rfl⟩
abbrev main_v97 : Ref sig .tc := ⟨.hbm, 125, rfl⟩
abbrev main_v98 : Ref sig .tc := ⟨.hbm, 126, rfl⟩
abbrev main_v99 : Ref sig .tc := ⟨.hbm, 127, rfl⟩
abbrev main_v100 : Ref sig .tc := ⟨.hbm, 128, rfl⟩
abbrev main_cst_17 : Ref sig .tc := ⟨.hbm, 129, rfl⟩
abbrev main_v101 : Ref sig .tc := ⟨.hbm, 130, rfl⟩
abbrev main_v102 : Ref sig .tc := ⟨.hbm, 131, rfl⟩
abbrev main_v103 : Ref sig .tc := ⟨.hbm, 132, rfl⟩
abbrev main_v104 : Ref sig .tc := ⟨.hbm, 133, rfl⟩
abbrev main_v105 : Ref sig .tc := ⟨.hbm, 134, rfl⟩
abbrev main_v106 : Ref sig .tc := ⟨.hbm, 135, rfl⟩
abbrev main_v107 : Ref sig .tc := ⟨.hbm, 136, rfl⟩
abbrev main_v108 : Ref sig .tc := ⟨.hbm, 137, rfl⟩
abbrev main_v109 : Ref sig .tc := ⟨.hbm, 138, rfl⟩
abbrev main_v110 : Ref sig .tc := ⟨.hbm, 139, rfl⟩
abbrev main_v111 : Ref sig .tc := ⟨.hbm, 140, rfl⟩
abbrev main_v112 : Ref sig .tc := ⟨.hbm, 141, rfl⟩
abbrev main_v113 : Ref sig .tc := ⟨.hbm, 142, rfl⟩
abbrev main_v114 : Ref sig .tc := ⟨.hbm, 143, rfl⟩
abbrev main_v115 : Ref sig .tc := ⟨.hbm, 144, rfl⟩
abbrev main_v116 : Ref sig .tc := ⟨.hbm, 145, rfl⟩
abbrev main_v117 : Ref sig .tc := ⟨.hbm, 146, rfl⟩
abbrev main_cst_18 : Ref sig .tc := ⟨.hbm, 147, rfl⟩
abbrev main_v118 : Ref sig .tc := ⟨.hbm, 148, rfl⟩
abbrev main_v119 : Ref sig .tc := ⟨.hbm, 149, rfl⟩
abbrev main_v120 : Ref sig .tc := ⟨.hbm, 150, rfl⟩
abbrev main_v121 : Ref sig .tc := ⟨.hbm, 151, rfl⟩
abbrev main_v122 : Ref sig .tc := ⟨.hbm, 152, rfl⟩
abbrev main_v123 : Ref sig .tc := ⟨.hbm, 153, rfl⟩
abbrev main_cst_19 : Ref sig .tc := ⟨.hbm, 154, rfl⟩
abbrev main_v124 : Ref sig .tc := ⟨.hbm, 155, rfl⟩
abbrev main_v125 : Ref sig .tc := ⟨.hbm, 156, rfl⟩
abbrev main_v126 : Ref sig .tc := ⟨.hbm, 157, rfl⟩
abbrev main_cst_20 : Ref sig .tc := ⟨.hbm, 158, rfl⟩
abbrev main_v127 : Ref sig .tc := ⟨.hbm, 159, rfl⟩
abbrev main_v128 : Ref sig .tc := ⟨.hbm, 160, rfl⟩
abbrev main_v129 : Ref sig .tc := ⟨.hbm, 161, rfl⟩
abbrev main_cst_21 : Ref sig .tc := ⟨.hbm, 162, rfl⟩
abbrev main_v130 : Ref sig .tc := ⟨.hbm, 163, rfl⟩
abbrev main_v131 : Ref sig .tc := ⟨.hbm, 164, rfl⟩
abbrev main_v132 : Ref sig .tc := ⟨.hbm, 165, rfl⟩
abbrev main_v133 : Ref sig .tc := ⟨.hbm, 166, rfl⟩
abbrev main_v134 : Ref sig .tc := ⟨.hbm, 167, rfl⟩
abbrev main_v135 : Ref sig .tc := ⟨.hbm, 168, rfl⟩
abbrev main_v136 : Ref sig .tc := ⟨.hbm, 169, rfl⟩
abbrev main_cst_22 : Ref sig .tc := ⟨.hbm, 170, rfl⟩
abbrev main_v137 : Ref sig .tc := ⟨.hbm, 171, rfl⟩
abbrev main_v138 : Ref sig .tc := ⟨.hbm, 172, rfl⟩
abbrev main_v139 : Ref sig .tc := ⟨.hbm, 173, rfl⟩
abbrev main_cst_23 : Ref sig .tc := ⟨.hbm, 174, rfl⟩
abbrev main_v140 : Ref sig .tc := ⟨.hbm, 175, rfl⟩
abbrev main_v141 : Ref sig .tc := ⟨.hbm, 176, rfl⟩
abbrev main_v142 : Ref sig .tc := ⟨.hbm, 177, rfl⟩
abbrev main_v143 : Ref sig .tc := ⟨.hbm, 178, rfl⟩
abbrev main_cst_24 : Ref sig .tc := ⟨.hbm, 179, rfl⟩
abbrev main_v144 : Ref sig .tc := ⟨.hbm, 180, rfl⟩
abbrev main_v145 : Ref sig .tc := ⟨.hbm, 181, rfl⟩
abbrev main_v146 : Ref sig .tc := ⟨.hbm, 182, rfl⟩
abbrev main_v147 : Ref sig .tc := ⟨.hbm, 183, rfl⟩
abbrev main_v148 : Ref sig .tc := ⟨.hbm, 184, rfl⟩
abbrev main_v149 : Ref sig .tc := ⟨.hbm, 185, rfl⟩
abbrev main_v150 : Ref sig .tc := ⟨.hbm, 186, rfl⟩
abbrev main_cst_25 : Ref sig .tc := ⟨.hbm, 187, rfl⟩
abbrev main_v151 : Ref sig .tc := ⟨.hbm, 188, rfl⟩
abbrev main_v152 : Ref sig .tc := ⟨.hbm, 189, rfl⟩
abbrev main_v153 : Ref sig .tc := ⟨.hbm, 190, rfl⟩
abbrev main_cst_26 : Ref sig .tc := ⟨.hbm, 191, rfl⟩
abbrev main_v154 : Ref sig .tc := ⟨.hbm, 192, rfl⟩
abbrev main_v155 : Ref sig .tc := ⟨.hbm, 193, rfl⟩
abbrev main_v156 : Ref sig .tc := ⟨.hbm, 194, rfl⟩
abbrev main_v157 : Ref sig .tc := ⟨.hbm, 195, rfl⟩
abbrev main_cst_27 : Ref sig .tc := ⟨.hbm, 196, rfl⟩
abbrev main_v158 : Ref sig .tc := ⟨.hbm, 197, rfl⟩
abbrev main_v159 : Ref sig .tc := ⟨.hbm, 198, rfl⟩
abbrev main_v160 : Ref sig .tc := ⟨.hbm, 199, rfl⟩
abbrev main_v161 : Ref sig .tc := ⟨.hbm, 200, rfl⟩
abbrev main_v162 : Ref sig .tc := ⟨.hbm, 201, rfl⟩
abbrev main_v163 : Ref sig .tc := ⟨.hbm, 202, rfl⟩
abbrev main_v164 : Ref sig .tc := ⟨.hbm, 203, rfl⟩
abbrev main_cst_28 : Ref sig .tc := ⟨.hbm, 204, rfl⟩
abbrev main_v165 : Ref sig .tc := ⟨.hbm, 205, rfl⟩
abbrev main_v166 : Ref sig .tc := ⟨.hbm, 206, rfl⟩
abbrev main_v167 : Ref sig .tc := ⟨.hbm, 207, rfl⟩
abbrev main_cst_29 : Ref sig .tc := ⟨.hbm, 208, rfl⟩
abbrev main_v168 : Ref sig .tc := ⟨.hbm, 209, rfl⟩
abbrev main_v169 : Ref sig .tc := ⟨.hbm, 210, rfl⟩
abbrev main_call1_call0_cst : Ref sig .tc := ⟨.hbm, 211, rfl⟩
abbrev main_call1_call0_v0 : Ref sig .tc := ⟨.hbm, 212, rfl⟩
abbrev main_v170 : Ref sig .tc := ⟨.hbm, 213, rfl⟩
abbrev main_v171 : Ref sig .tc := ⟨.hbm, 214, rfl⟩
abbrev main_v172 : Ref sig .tc := ⟨.hbm, 215, rfl⟩
abbrev main_v173 : Ref sig .tc := ⟨.hbm, 216, rfl⟩
abbrev main_v174 : Ref sig .tc := ⟨.hbm, 217, rfl⟩
abbrev main_cst_30 : Ref sig .tc := ⟨.hbm, 218, rfl⟩
abbrev main_v175 : Ref sig .tc := ⟨.hbm, 219, rfl⟩
abbrev main_v176 : Ref sig .tc := ⟨.hbm, 220, rfl⟩
abbrev main_v177 : Ref sig .tc := ⟨.hbm, 221, rfl⟩
abbrev main_v178 : Ref sig .tc := ⟨.hbm, 222, rfl⟩
abbrev main_cst_31 : Ref sig .tc := ⟨.hbm, 223, rfl⟩
abbrev main_v179 : Ref sig .tc := ⟨.hbm, 224, rfl⟩
abbrev main_v180 : Ref sig .tc := ⟨.hbm, 225, rfl⟩
abbrev main_cst_32 : Ref sig .tc := ⟨.hbm, 226, rfl⟩
abbrev main_v181 : Ref sig .tc := ⟨.hbm, 227, rfl⟩
abbrev main_v182 : Ref sig .tc := ⟨.hbm, 228, rfl⟩
abbrev main_v183 : Ref sig .tc := ⟨.hbm, 229, rfl⟩
abbrev main_v184 : Ref sig .tc := ⟨.hbm, 230, rfl⟩
abbrev main_v185 : Ref sig .tc := ⟨.hbm, 231, rfl⟩
abbrev main_v186 : Ref sig .tc := ⟨.hbm, 232, rfl⟩
abbrev main_cst_33 : Ref sig .tc := ⟨.hbm, 233, rfl⟩
abbrev main_v187 : Ref sig .tc := ⟨.hbm, 234, rfl⟩
abbrev main_v188 : Ref sig .tc := ⟨.hbm, 235, rfl⟩
abbrev main_cst_34 : Ref sig .tc := ⟨.hbm, 236, rfl⟩
abbrev main_v189 : Ref sig .tc := ⟨.hbm, 237, rfl⟩
abbrev main_v190 : Ref sig .tc := ⟨.hbm, 238, rfl⟩
abbrev main_v191 : Ref sig .tc := ⟨.hbm, 239, rfl⟩
abbrev main_v192 : Ref sig .tc := ⟨.hbm, 240, rfl⟩
abbrev main_v193 : Ref sig .tc := ⟨.hbm, 241, rfl⟩
abbrev main_v194 : Ref sig .tc := ⟨.hbm, 242, rfl⟩
abbrev main_v195 : Ref sig .tc := ⟨.hbm, 243, rfl⟩
abbrev main_v196 : Ref sig .tc := ⟨.hbm, 244, rfl⟩
abbrev main_v197 : Ref sig .tc := ⟨.hbm, 245, rfl⟩
abbrev main_v198 : Ref sig .tc := ⟨.hbm, 246, rfl⟩
abbrev main_v199 : Ref sig .tc := ⟨.hbm, 247, rfl⟩

abbrev nD : Nat := 1
abbrev τ : Topo := Topo.v7x

variable {F : FTy → Type} [FloatOps F]
-- ==== GmlpBwd.lean ====
abbrev S2x2048x1024 : Shape := ⟨3, ![2, 2048, 1024]⟩
abbrev S1024 : Shape := ⟨1, ![1024]⟩
abbrev S1024x2048 : Shape := ⟨2, ![1024, 2048]⟩
abbrev S8x128x128 : Shape := ⟨3, ![8, 128, 128]⟩
abbrev S8x128 : Shape := ⟨2, ![8, 128]⟩
abbrev S4096x1024 : Shape := ⟨2, ![4096, 1024]⟩
abbrev S_ : Shape := ⟨0, ![]⟩
abbrev S4096 : Shape := ⟨1, ![4096]⟩
abbrev S4096x1 : Shape := ⟨2, ![4096, 1]⟩
abbrev S1x1024 : Shape := ⟨2, ![1, 1024]⟩
abbrev S4096x2048 : Shape := ⟨2, ![4096, 2048]⟩
abbrev S128 : Shape := ⟨1, ![128]⟩
abbrev S1x128 : Shape := ⟨2, ![1, 128]⟩
abbrev S128x1 : Shape := ⟨2, ![128, 1]⟩
abbrev S128x128 : Shape := ⟨2, ![128, 128]⟩
abbrev S1x128x128 : Shape := ⟨3, ![1, 128, 128]⟩
abbrev S8x128x1 : Shape := ⟨3, ![8, 128, 1]⟩
abbrev S2048x1024 : Shape := ⟨2, ![2048, 1024]⟩
abbrev S256x2048 : Shape := ⟨2, ![256, 2048]⟩
abbrev S256x1024 : Shape := ⟨2, ![256, 1024]⟩
abbrev S256 : Shape := ⟨1, ![256]⟩
abbrev S256x1 : Shape := ⟨2, ![256, 1]⟩
abbrev S1x128x1 : Shape := ⟨3, ![1, 128, 1]⟩
abbrev S1x1 : Shape := ⟨2, ![1, 1]⟩

abbrev nBuf : Space → Nat
  | .hbm => 93
  | .vmem => 24
  | .smem => 0
  | _ => 0

abbrev bufTy : (tb : Table) → Fin (tcTables nBuf tb) → BufTy
  | .hbm, ⟨0, _⟩ => ⟨S2x2048x1024, .f32⟩
  | .hbm, ⟨1, _⟩ => ⟨S1024, .f32⟩
  | .hbm, ⟨2, _⟩ => ⟨S1024x2048, .f32⟩
  | .hbm, ⟨3, _⟩ => ⟨S1024, .f32⟩
  | .hbm, ⟨4, _⟩ => ⟨S8x128x128, .f32⟩
  | .hbm, ⟨5, _⟩ => ⟨S8x128, .f32⟩
  | .hbm, ⟨6, _⟩ => ⟨S2x2048x1024, .f32⟩
  | .hbm, ⟨7, _⟩ => ⟨S2x2048x1024, .f32⟩
  | .hbm, ⟨8, _⟩ => ⟨S4096x1024, .f32⟩
  | .hbm, ⟨9, _⟩ => ⟨S4096x1024, .f32⟩
  | .hbm, ⟨10, _⟩ => ⟨S_, .f32⟩
  | .hbm, ⟨11, _⟩ => ⟨S4096, .f32⟩
  | .hbm, ⟨12, _⟩ => ⟨S4096x1, .f32⟩
  | .hbm, ⟨13, _⟩ => ⟨S_, .f32⟩
  | .hbm, ⟨14, _⟩ => ⟨S4096x1, .f32⟩
  | .hbm, ⟨15, _⟩ => ⟨S4096x1, .f32⟩
  | .hbm, ⟨16, _⟩ => ⟨S_, .f32⟩
  | .hbm, ⟨17, _⟩ => ⟨S4096x1, .f32⟩
  | .hbm, ⟨18, _⟩ => ⟨S4096x1, .f32⟩
  | .hbm, ⟨19, _⟩ => ⟨S4096x1, .f32⟩
  | .hbm, ⟨20, _⟩ => ⟨S4096x1024, .f32⟩
  | .hbm, ⟨21, _⟩ => ⟨S4096x1024, .f32⟩
  | .hbm, ⟨22, _⟩ => ⟨S1x1024, .f32⟩
  | .hbm, ⟨23, _⟩ => ⟨S4096x1024, .f32⟩
  | .hbm, ⟨24, _⟩ => ⟨S4096x1024, .f32⟩
  | .hbm, ⟨25, _⟩ => ⟨S4096x2048, .f32⟩
  | .hbm, ⟨26, _⟩ => ⟨S4096x2048, .bf16⟩
  | .hbm, ⟨27, _⟩ => ⟨S_, .f32⟩
  | .hbm, ⟨28, _⟩ => ⟨S8x128, .f32⟩
  | .hbm, ⟨29, _⟩ => ⟨S128, .i32⟩
  | .hbm, ⟨30, _⟩ => ⟨S1x128, .i32⟩
  | .hbm, ⟨31, _⟩ => ⟨S_, .i32⟩
  | .hbm, ⟨32, _⟩ => ⟨S_, .i32⟩
  | .hbm, ⟨33, _⟩ => ⟨S1x128, .i32⟩
  | .hbm, ⟨34, _⟩ => ⟨S1x128, .i32⟩
  | .hbm, ⟨35, _⟩ => ⟨S1x128, .i32⟩
  | .hbm, ⟨36, _⟩ => ⟨S_, .i32⟩
  | .hbm, ⟨37, _⟩ => ⟨S1x128, .i32⟩
  | .hbm, ⟨38, _⟩ => ⟨S1x128, .i1⟩
  | .hbm, ⟨39, _⟩ => ⟨S1x128, .i32⟩
  | .hbm, ⟨40, _⟩ => ⟨S1x128, .i32⟩
  | .hbm, ⟨41, _⟩ => ⟨S_, .i32⟩
  | .hbm, ⟨42, _⟩ => ⟨S1x128, .i32⟩
  | .hbm, ⟨43, _⟩ => ⟨S1x128, .i1⟩
  | .hbm, ⟨44, _⟩ => ⟨S1x128, .i1⟩
  | .hbm, ⟨45, _⟩ => ⟨S_, .i32⟩
  | .hbm, ⟨46, _⟩ => ⟨S1x128, .i32⟩
  | .hbm, ⟨47, _⟩ => ⟨S1x128, .i32⟩
  | .hbm, ⟨48, _⟩ => ⟨S1x128, .i32⟩
  | .hbm, ⟨49, _⟩ => ⟨S128x1, .i32⟩
  | .hbm, ⟨50, _⟩ => ⟨S_, .i32⟩
  | .hbm, ⟨51, _⟩ => ⟨S_, .i32⟩
  | .hbm, ⟨52, _⟩ => ⟨S128x1, .i32⟩
  | .hbm, ⟨53, _⟩ => ⟨S128x1, .i32⟩
  | .hbm, ⟨54, _⟩ => ⟨S128x1, .i32⟩
  | .hbm, ⟨55, _⟩ => ⟨S_, .i32⟩
  | .hbm, ⟨56, _⟩ => ⟨S128x1, .i32⟩
  | .hbm, ⟨57, _⟩ => ⟨S128x1, .i1⟩
  | .hbm, ⟨58, _⟩ => ⟨S128x1, .i32⟩
  | .hbm, ⟨59, _⟩ => ⟨S128x1, .i32⟩
  | .hbm, ⟨60, _⟩ => ⟨S_, .i32⟩
  | .hbm, ⟨61, _⟩ => ⟨S128x1, .i32⟩
  | .hbm, ⟨62, _⟩ => ⟨S128x1, .i1⟩
  | .hbm, ⟨63, _⟩ => ⟨S128x1, .i1⟩
  | .hbm, ⟨64, _⟩ => ⟨S_, .i32⟩
  | .hbm, ⟨65, _⟩ => ⟨S128x1, .i32⟩
  | .hbm, ⟨66, _⟩ => ⟨S128x1, .i32⟩
  | .hbm, ⟨67, _⟩ => ⟨S128x1, .i32⟩
  | .hbm, ⟨68, _⟩ => ⟨S128x128, .i32⟩
  | .hbm, ⟨69, _⟩ => ⟨S128x128, .i32⟩
  | .hbm, ⟨70, _⟩ => ⟨S128x128, .i1⟩
  | .hbm, ⟨71, _⟩ => ⟨S1x128x128, .i1⟩
  | .hbm, ⟨72, _⟩ => ⟨S_, .f32⟩
  | .hbm, ⟨73, _⟩ => ⟨S_, .f32⟩
  | .hbm, ⟨74, _⟩ => ⟨S8x128x128, .i1⟩
  | .hbm, ⟨75, _⟩ => ⟨S8x128x128, .f32⟩
  | .hbm, ⟨76, _⟩ => ⟨S8x128x128, .f32⟩
  | .hbm, ⟨77, _⟩ => ⟨S8x128x128, .bf16⟩
  | .hbm, ⟨78, _⟩ => ⟨S8x128x1, .f32⟩
  | .hbm, ⟨79, _⟩ => ⟨S8x128x128, .f32⟩
  | .hbm, ⟨80, _⟩ => ⟨S4096x1024, .f32⟩
  | .hbm, ⟨81, _⟩ => ⟨S4096x1024, .bf16⟩
  | .hbm, ⟨82, _⟩ => ⟨S1x1024, .f32⟩
  | .hbm, ⟨83, _⟩ => ⟨S2048x1024, .f32⟩
  | .hbm, ⟨84, _⟩ => ⟨S2048x1024, .bf16⟩
  | .hbm, ⟨85, _⟩ => ⟨S1x1024, .f32⟩
  | .hbm, ⟨86, _⟩ => ⟨S4096x1024, .f32⟩
  | .hbm, ⟨87, _⟩ => ⟨S4096x2048, .bf16⟩
  | .hbm, ⟨88, _⟩ => ⟨S1x1024, .f32⟩
  | .hbm, ⟨89, _⟩ => ⟨S8x128x128, .f32⟩
  | .hbm, ⟨90, _⟩ => ⟨S8x128x1, .f32⟩
  | .hbm, ⟨91, _⟩ => ⟨S4096x1024, .f32⟩
  | .hbm, ⟨92, _⟩ => ⟨S1x1024, .f32⟩
  | .local _ .vmem, ⟨0, _⟩ => ⟨S256x2048, .bf16⟩
  | .local _ .vmem, ⟨1, _⟩ => ⟨S256x2048, .bf16⟩
  | .local _ .vmem, ⟨2, _⟩ => ⟨S256x1024, .bf16⟩
  | .local _ .vmem, ⟨3, _⟩ => ⟨S256x1024, .bf16⟩
  | .local _ .vmem, ⟨4, _⟩ => ⟨S1x1024, .f32⟩
  | .local _ .vmem, ⟨5, _⟩ => ⟨S8x128x128, .bf16⟩
  | .local _ .vmem, ⟨6, _⟩ => ⟨S8x128x128, .f32⟩
  | .local _ .vmem, ⟨7, _⟩ => ⟨S2048x1024, .bf16⟩
  | .local _ .vmem, ⟨8, _⟩ => ⟨S256x1024, .f32⟩
  | .local _ .vmem, ⟨9, _⟩ => ⟨S256x1024, .f32⟩
  | .local _ .vmem, ⟨10, _⟩ => ⟨S1x1024, .f32⟩
  | .local _ .vmem, ⟨11, _⟩ => ⟨S8x128, .f32⟩
  | .local _ .vmem, ⟨12, _⟩ => ⟨S256x1024, .f32⟩
  | .local _ .vmem, ⟨13, _⟩ => ⟨S256x1024, .f32⟩
  | .local _ .vmem, ⟨14, _⟩ => ⟨S256x2048, .bf16⟩
  | .local _ .vmem, ⟨15, _⟩ => ⟨S256x2048, .bf16⟩
  | .local _ .vmem, ⟨16, _⟩ => ⟨S1x1024, .f32⟩
  | .local _ .vmem, ⟨17, _⟩ => ⟨S8x128x128, .f32⟩
  | .local _ .vmem, ⟨18, _⟩ => ⟨S8x128x1, .f32⟩
  | .local _ .vmem, ⟨19, _⟩ => ⟨S256x1024, .f32⟩
  | .local _ .vmem, ⟨20, _⟩ => ⟨S256x1024, .f32⟩
  | .local _ .vmem, ⟨21, _⟩ => ⟨S1x1024, .f32⟩
  | .local _ .vmem, ⟨22, _⟩ => ⟨S256x1024, .bf16⟩
  | .local _ .vmem, ⟨23, _⟩ => ⟨S256x1024, .f32⟩
  | _, _ => ⟨S2x2048x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | _, _ => false

abbrev semScoped : Fin 0 → Bool
  | ⟨_, h⟩ => absurd h (Nat.not_lt_zero _)

abbrev dmaSemScoped : Fin 22 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | _ => false

abbrev sig : RefSig :=
  ofTc nBuf bufTy 0 22 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_cst : Ref sig .tc := ⟨.hbm, 10, rfl⟩
abbrev main_v2 : Ref sig .tc := ⟨.hbm, 11, rfl⟩
abbrev main_v3 : Ref sig .tc := ⟨.hbm, 12, rfl⟩
abbrev main_cst_0 : Ref sig .tc := ⟨.hbm, 13, rfl⟩
abbrev main_v4 : Ref sig .tc := ⟨.hbm, 14, rfl⟩
abbrev main_v5 : Ref sig .tc := ⟨.hbm, 15, rfl⟩
abbrev main_cst_1 : Ref sig .tc := ⟨.hbm, 16, rfl⟩
abbrev main_v6 : Ref sig .tc := ⟨.hbm, 17, rfl⟩
abbrev main_v7 : Ref sig .tc := ⟨.hbm, 18, rfl⟩
abbrev main_v8 : Ref sig .tc := ⟨.hbm, 19, rfl⟩
abbrev main_v9 : Ref sig .tc := ⟨.hbm, 20, rfl⟩
abbrev main_v10 : Ref sig .tc := ⟨.hbm, 21, rfl⟩
abbrev main_v11 : Ref sig .tc := ⟨.hbm, 22, rfl⟩
abbrev main_v12 : Ref sig .tc := ⟨.hbm, 23, rfl⟩
abbrev main_v13 : Ref sig .tc := ⟨.hbm, 24, rfl⟩
abbrev main_v14 : Ref sig .tc := ⟨.hbm, 25, rfl⟩
abbrev main_v15 : Ref sig .tc := ⟨.hbm, 26, rfl⟩
abbrev main_cst_2 : Ref sig .tc := ⟨.hbm, 27, rfl⟩
abbrev main_v16 : Ref sig .tc := ⟨.hbm, 28, rfl⟩
abbrev main_v17 : Ref sig .tc := ⟨.hbm, 29, rfl⟩
abbrev main_v18 : Ref sig .tc := ⟨.hbm, 30, rfl⟩
abbrev main_c : Ref sig .tc := ⟨.hbm, 31, rfl⟩
abbrev main_call0_v0 : Ref sig .tc := ⟨.hbm, 32, rfl⟩
abbrev main_call0_v1 : Ref sig .tc := ⟨.hbm, 33, rfl⟩
abbrev main_call0_v2 : Ref sig .tc := ⟨.hbm, 34, rfl⟩
abbrev main_call0_v3 : Ref sig .tc := ⟨.hbm, 35, rfl⟩
abbrev main_call0_v4 : Ref sig .tc := ⟨.hbm, 36, rfl⟩
abbrev main_call0_v5 : Ref sig .tc := ⟨.hbm, 37, rfl⟩
abbrev main_call0_v6 : Ref sig .tc := ⟨.hbm, 38, rfl⟩
abbrev main_call0_v7 : Ref sig .tc := ⟨.hbm, 39, rfl⟩
abbrev main_call0_v8 : Ref sig .tc := ⟨.hbm, 40, rfl⟩
abbrev main_call0_c : Ref sig .tc := ⟨.hbm, 41, rfl⟩
abbrev main_call0_v9 : Ref sig .tc := ⟨.hbm, 42, rfl⟩
abbrev main_call0_v10 : Ref sig .tc := ⟨.hbm, 43, rfl⟩
abbrev main_call0_v11 : Ref sig .tc := ⟨.hbm, 44, rfl⟩
abbrev main_call0_c_0 : Ref sig .tc := ⟨.hbm, 45, rfl⟩
abbrev main_call0_v12 : Ref sig .tc := ⟨.hbm, 46, rfl⟩
abbrev main_call0_v13 : Ref sig .tc := ⟨.hbm, 47, rfl⟩
abbrev main_v19 : Ref sig .tc := ⟨.hbm, 48, rfl⟩
abbrev main_v20 : Ref sig .tc := ⟨.hbm, 49, rfl⟩
abbrev main_c_3 : Ref sig .tc := ⟨.hbm, 50, rfl⟩
abbrev main_call1_v0 : Ref sig .tc := ⟨.hbm, 51, rfl⟩
abbrev main_call1_v1 : Ref sig .tc := ⟨.hbm, 52, rfl⟩
abbrev main_call1_v2 : Ref sig .tc := ⟨.hbm, 53, rfl⟩
abbrev main_call1_v3 : Ref sig .tc := ⟨.hbm, 54, rfl⟩
abbrev main_call1_v4 : Ref sig .tc := ⟨.hbm, 55, rfl⟩
abbrev main_call1_v5 : Ref sig .tc := ⟨.hbm, 56, rfl⟩
abbrev main_call1_v6 : Ref sig .tc := ⟨.hbm, 57, rfl⟩
abbrev main_call1_v7 : Ref sig .tc := ⟨.hbm, 58, rfl⟩
abbrev main_call1_v8 : Ref sig .tc := ⟨.hbm, 59, rfl⟩
abbrev main_call1_c : Ref sig .tc := ⟨.hbm, 60, rfl⟩
abbrev main_call1_v9 : Ref sig .tc := ⟨.hbm, 61, rfl⟩
abbrev main_call1_v10 : Ref sig .tc := ⟨.hbm, 62, rfl⟩
abbrev main_call1_v11 : Ref sig .tc := ⟨.hbm, 63, rfl⟩
abbrev main_call1_c_0 : Ref sig .tc := ⟨.hbm, 64, rfl⟩
abbrev main_call1_v12 : Ref sig .tc := ⟨.hbm, 65, rfl⟩
abbrev main_call1_v13 : Ref sig .tc := ⟨.hbm, 66, rfl⟩
abbrev main_v21 : Ref sig .tc := ⟨.hbm, 67, rfl⟩
abbrev main_v22 : Ref sig .tc := ⟨.hbm, 68, rfl⟩
abbrev main_v23 : Ref sig .tc := ⟨.hbm, 69, rfl⟩
abbrev main_v24 : Ref sig .tc := ⟨.hbm, 70, rfl⟩
abbrev main_v25 : Ref sig .tc := ⟨.hbm, 71, rfl⟩
abbrev main_cst_4 : Ref sig .tc := ⟨.hbm, 72, rfl⟩
abbrev main_call2_v0 : Ref sig .tc := ⟨.hbm, 73, rfl⟩
abbrev main_call2_v1 : Ref sig .tc := ⟨.hbm, 74, rfl⟩
abbrev main_call2_v2 : Ref sig .tc := ⟨.hbm, 75, rfl⟩
abbrev main_v26 : Ref sig .tc := ⟨.hbm, 76, rfl⟩
abbrev main_v27 : Ref sig .tc := ⟨.hbm, 77, rfl⟩
abbrev main_v28 : Ref sig .tc := ⟨.hbm, 78, rfl⟩
abbrev main_v29 : Ref sig .tc := ⟨.hbm, 79, rfl⟩
abbrev main_v30 : Ref sig .tc := ⟨.hbm, 80, rfl⟩
abbrev main_v31 : Ref sig .tc := ⟨.hbm, 81, rfl⟩
abbrev main_v32 : Ref sig .tc := ⟨.hbm, 82, rfl⟩
abbrev main_v33 : Ref sig .tc := ⟨.hbm, 83, rfl⟩
abbrev main_v34 : Ref sig .tc := ⟨.hbm, 84, rfl⟩
abbrev main_v35 : Ref sig .tc := ⟨.hbm, 85, rfl⟩
abbrev main_v36 : Ref sig .tc := ⟨.hbm, 86, rfl⟩
abbrev main_v37_0 : Ref sig .tc := ⟨.hbm, 87, rfl⟩
abbrev main_v37_1 : Ref sig .tc := ⟨.hbm, 88, rfl⟩
abbrev main_v37_2 : Ref sig .tc := ⟨.hbm, 89, rfl⟩
abbrev main_v37_3 : Ref sig .tc := ⟨.hbm, 90, rfl⟩
abbrev main_v37_4 : Ref sig .tc := ⟨.hbm, 91, rfl⟩
abbrev main_v37_5 : Ref sig .tc := ⟨.hbm, 92, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg6_0 : Ref sig .tc := ⟨.vmem, 8, rfl⟩
abbrev cc0_stg6_1 : Ref sig .tc := ⟨.vmem, 9, rfl⟩
abbrev cc0_stg7_0 : Ref sig .tc := ⟨.vmem, 10, rfl⟩
abbrev cc0_stg8_0 : Ref sig .tc := ⟨.vmem, 11, rfl⟩
abbrev cc0_stg9_0 : Ref sig .tc := ⟨.vmem, 12, rfl⟩
abbrev cc0_stg9_1 : Ref sig .tc := ⟨.vmem, 13, rfl⟩
abbrev cc0_stg10_0 : Ref sig .tc := ⟨.vmem, 14, rfl⟩
abbrev cc0_stg10_1 : Ref sig .tc := ⟨.vmem, 15, rfl⟩
abbrev cc0_stg11_0 : Ref sig .tc := ⟨.vmem, 16, rfl⟩
abbrev cc0_stg12_0 : Ref sig .tc := ⟨.vmem, 17, rfl⟩
abbrev cc0_stg13_0 : Ref sig .tc := ⟨.vmem, 18, rfl⟩
abbrev cc0_stg14_0 : Ref sig .tc := ⟨.vmem, 19, rfl⟩
abbrev cc0_stg14_1 : Ref sig .tc := ⟨.vmem, 20, rfl⟩
abbrev cc0_stg15_0 : Ref sig .tc := ⟨.vmem, 21, rfl⟩
abbrev cc0_scratch0 : Ref sig .tc := ⟨.vmem, 22, rfl⟩
abbrev cc0_scratch1 : Ref sig .tc := ⟨.vmem, 23, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem6_0 : DmaSem sig := 8
abbrev cc0_sem6_1 : DmaSem sig := 9
abbrev cc0_sem7_0 : DmaSem sig := 10
abbrev cc0_sem8_0 : DmaSem sig := 11
abbrev cc0_sem9_0 : DmaSem sig := 12
abbrev cc0_sem9_1 : DmaSem sig := 13
abbrev cc0_sem10_0 : DmaSem sig := 14
abbrev cc0_sem10_1 : DmaSem sig := 15
abbrev cc0_sem11_0 : DmaSem sig := 16
abbrev cc0_sem12_0 : DmaSem sig := 17
abbrev cc0_sem13_0 : DmaSem sig := 18
abbrev cc0_sem14_0 : DmaSem sig := 19
abbrev cc0_sem14_1 : DmaSem sig := 20
abbrev cc0_sem15_0 : DmaSem sig := 21

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_4 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_10 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_11 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_12 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_13 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_14 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_15 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S256x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S1x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S8x128x128 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S8x128x128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S2048x1024 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 2 → Memref sig .tc .vmem S256x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 1 → Memref sig .tc .vmem S1x1024 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S8x128 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 2 → Memref sig .tc .vmem S256x1024 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev stage0_10 : Fin 2 → Memref sig .tc .vmem S256x2048 .bf16 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]

abbrev stage0_11 : Fin 1 → Memref sig .tc .vmem S1x1024 .f32 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false]

abbrev stage0_12 : Fin 1 → Memref sig .tc .vmem S8x128x128 .f32 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))
abbrev reads0_12 : Fin grid0.rank → Bool := ![false]

abbrev stage0_13 : Fin 1 → Memref sig .tc .vmem S8x128x1 .f32 := fun | 0 => Memref.whole cc0_stg13_0 | ⟨_ + 1, h⟩ => absurd h (Nat.not_lt.2 (Nat.le_add_left _ _))
abbrev sem0_13 : Fin 1 → DmaSem sig := fun | 0 => cc0_sem13_0 | ⟨_ + 1, h⟩ => absurd h (Nat.not_lt.2 (Nat.le_add_left _ _))
abbrev reads0_13 : Fin grid0.rank → Bool := ![false]

abbrev stage0_14 : Fin 2 → Memref sig .tc .vmem S256x1024 .f32 := fun | 0 => Memref.whole cc0_stg14_0 | 1 => Memref.whole cc0_stg14_1 | ⟨_ + 2, h⟩ => absurd h (Nat.not_lt.2 (Nat.le_add_left _ _))
abbrev sem0_14 : Fin 2 → DmaSem sig := fun | 0 => cc0_sem14_0 | 1 => cc0_sem14_1 | ⟨_ + 2, h⟩ => absurd h (Nat.not_lt.2 (Nat.le_add_left _ _))
abbrev reads0_14 : Fin grid0.rank → Bool := ![true]

abbrev stage0_15 : Fin 1 → Memref sig .tc .vmem S1x1024 .f32 := fun | 0 => Memref.whole cc0_stg15_0 | ⟨_ + 1, h⟩ => absurd h (Nat.not_lt.2 (Nat.le_add_left _ _))
abbrev sem0_15 : Fin 1 → DmaSem sig := fun | 0 => cc0_sem15_0 | ⟨_ + 1, h⟩ => absurd h (Nat.not_lt.2 (Nat.le_add_left _ _))
abbrev reads0_15 : Fin grid0.rank → Bool := ![false]
-- ==== GmlpBwdIdeal.lean ====
variable {F : FTy → Type} [FloatOps F] [Named F]
def κ : String → Option EReal := fun
  | "density" => some (((9465531 / 16777216) * (Real.sqrt 2)⁻¹ : ℝ) : EReal)
  | "root_half" => some (((Real.sqrt 2)⁻¹ : ℝ) : EReal)
  | _ => none
-- ==== GmlpRefIdeal.lean ====
abbrev S2x2048x1024 : Shape := ⟨3, ![2, 2048, 1024]⟩
abbrev S1024 : Shape := ⟨1, ![1024]⟩
abbrev S1024x2048 : Shape := ⟨2, ![1024, 2048]⟩
abbrev S8x128x128 : Shape := ⟨3, ![8, 128, 128]⟩
abbrev S8x128 : Shape := ⟨2, ![8, 128]⟩
abbrev S_ : Shape := ⟨0, ![]⟩
abbrev S2x2048x2048 : Shape := ⟨3, ![2, 2048, 2048]⟩
abbrev S2x2048 : Shape := ⟨2, ![2, 2048]⟩
abbrev S2x2048x1 : Shape := ⟨3, ![2, 2048, 1]⟩
abbrev S1x1x1024 : Shape := ⟨3, ![1, 1, 1024]⟩
abbrev S2x16x128x8x128 : Shape := ⟨5, ![2, 16, 128, 8, 128]⟩
abbrev S128 : Shape := ⟨1, ![128]⟩
abbrev S1x128 : Shape := ⟨2, ![1, 128]⟩
abbrev S128x1 : Shape := ⟨2, ![128, 1]⟩
abbrev S128x128 : Shape := ⟨2, ![128, 128]⟩
abbrev S1x128x128 : Shape := ⟨3, ![1, 128, 128]⟩
abbrev S8x2x16x128x128 : Shape := ⟨5, ![8, 2, 16, 128, 128]⟩
abbrev S128x8 : Shape := ⟨2, ![128, 8]⟩
abbrev S1x1x128x8x1 : Shape := ⟨5, ![1, 1, 128, 8, 1]⟩
abbrev S4096x2048 : Shape := ⟨2, ![4096, 2048]⟩
abbrev S1x1024 : Shape := ⟨2, ![1, 1024]⟩
abbrev S8x128x1 : Shape := ⟨3, ![8, 128, 1]⟩
abbrev S4096x1024 : Shape := ⟨2, ![4096, 1024]⟩

abbrev nBuf : Space → Nat
  | .hbm => 240
  | .vmem => 0
  | .smem => 0
  | _ => 0

abbrev hbmTy0_0 (i : Nat) : BufTy := match i % 128 with
  | 0 => ⟨S2x2048x1024, .f32⟩
  | 1 => ⟨S1024, .f32⟩
  | 2 => ⟨S1024x2048, .f32⟩
  | 3 => ⟨S1024, .f32⟩
  | 4 => ⟨S8x128x128, .f32⟩
  | 5 => ⟨S8x128, .f32⟩
  | 6 => ⟨S2x2048x1024, .f32⟩
  | 7 => ⟨S2x2048x1024, .f32⟩
  | 8 => ⟨S_, .f32⟩
  | 9 => ⟨S2x2048x2048, .f32⟩
  | 10 => ⟨S_, .f32⟩
  | 11 => ⟨S8x128x128, .f32⟩
  | 12 => ⟨S2x2048x1024, .f32⟩
  | 13 => ⟨S_, .f32⟩
  | 14 => ⟨S2x2048, .f32⟩
  | 15 => ⟨S2x2048x1, .f32⟩
  | 16 => ⟨S_, .f32⟩
  | 17 => ⟨S2x2048x1, .f32⟩
  | 18 => ⟨S2x2048x1, .f32⟩
  | 19 => ⟨S_, .f32⟩
  | 20 => ⟨S2x2048x1, .f32⟩
  | 21 => ⟨S2x2048x1, .f32⟩
  | 22 => ⟨S2x2048x1, .f32⟩
  | 23 => ⟨S2x2048x1, .f32⟩
  | 24 => ⟨S_, .f32⟩
  | 25 => ⟨S2x2048x1, .f32⟩
  | 26 => ⟨S2x2048x1, .f32⟩
  | 27 => ⟨S2x2048x1024, .f32⟩
  | 28 => ⟨S2x2048x1024, .f32⟩
  | 29 => ⟨S1x1x1024, .f32⟩
  | 30 => ⟨S2x2048x1024, .f32⟩
  | 31 => ⟨S2x2048x1024, .f32⟩
  | 32 => ⟨S2x2048x2048, .f32⟩
  | 33 => ⟨S2x2048x2048, .f32⟩
  | 34 => ⟨S_, .f32⟩
  | 35 => ⟨S2x2048x2048, .f32⟩
  | 36 => ⟨S2x2048x2048, .f32⟩
  | 37 => ⟨S2x2048x2048, .f32⟩
  | 38 => ⟨S_, .f32⟩
  | 39 => ⟨S_, .f32⟩
  | 40 => ⟨S2x2048x2048, .f32⟩
  | 41 => ⟨S2x2048x2048, .f32⟩
  | 42 => ⟨S2x2048x2048, .f32⟩
  | 43 => ⟨S2x2048x2048, .f32⟩
  | 44 => ⟨S2x2048x2048, .f32⟩
  | 45 => ⟨S2x2048x2048, .f32⟩
  | 46 => ⟨S2x2048x2048, .f32⟩
  | 47 => ⟨S2x2048x1024, .f32⟩
  | 48 => ⟨S2x2048x1024, .f32⟩
  | 49 => ⟨S_, .f32⟩
  | 50 => ⟨S2x2048, .f32⟩
  | 51 => ⟨S2x2048x1, .f32⟩
  | 52 => ⟨S_, .f32⟩
  | 53 => ⟨S2x2048x1, .f32⟩
  | 54 => ⟨S2x2048x1, .f32⟩
  | 55 => ⟨S2x2048x1024, .f32⟩
  | 56 => ⟨S2x2048x1024, .f32⟩
  | 57 => ⟨S2x2048x1024, .f32⟩
  | 58 => ⟨S_, .f32⟩
  | 59 => ⟨S2x2048x1024, .f32⟩
  | 60 => ⟨S2x2048x1024, .f32⟩
  | 61 => ⟨S_, .f32⟩
  | 62 => ⟨S2x2048, .f32⟩
  | 63 => ⟨S2x2048x1, .f32⟩
  | 64 => ⟨S_, .f32⟩
  | 65 => ⟨S2x2048x1, .f32⟩
  | 66 => ⟨S2x2048x1, .f32⟩
  | 67 => ⟨S2x2048x1024, .f32⟩
  | 68 => ⟨S2x2048x1024, .f32⟩
  | 69 => ⟨S_, .f32⟩
  | 70 => ⟨S2x2048x1, .f32⟩
  | 71 => ⟨S2x2048x1, .f32⟩
  | 72 => ⟨S2x2048x1, .f32⟩
  | 73 => ⟨S2x2048x1, .f32⟩
  | 74 => ⟨S_, .f32⟩
  | 75 => ⟨S2x2048x1, .f32⟩
  | 76 => ⟨S2x2048x1, .f32⟩
  | 77 => ⟨S2x2048x1024, .f32⟩
  | 78 => ⟨S2x2048x1024, .f32⟩
  | 79 => ⟨S1x1x1024, .f32⟩
  | 80 => ⟨S2x2048x1024, .f32⟩
  | 81 => ⟨S2x2048x1024, .f32⟩
  | 82 => ⟨S2x16x128x8x128, .f32⟩
  | 83 => ⟨S128, .i32⟩
  | 84 => ⟨S1x128, .i32⟩
  | 85 => ⟨S_, .i32⟩
  | 86 => ⟨S_, .i32⟩
  | 87 => ⟨S1x128, .i32⟩
  | 88 => ⟨S1x128, .i32⟩
  | 89 => ⟨S1x128, .i32⟩
  | 90 => ⟨S_, .i32⟩
  | 91 => ⟨S1x128, .i32⟩
  | 92 => ⟨S1x128, .i1⟩
  | 93 => ⟨S1x128, .i32⟩
  | 94 => ⟨S1x128, .i32⟩
  | 95 => ⟨S_, .i32⟩
  | 96 => ⟨S1x128, .i32⟩
  | 97 => ⟨S1x128, .i1⟩
  | 98 => ⟨S1x128, .i1⟩
  | 99 => ⟨S_, .i32⟩
  | 100 => ⟨S1x128, .i32⟩
  | 101 => ⟨S1x128, .i32⟩
  | 102 => ⟨S1x128, .i32⟩
  | 103 => ⟨S128x1, .i32⟩
  | 104 => ⟨S_, .i32⟩
  | 105 => ⟨S_, .i32⟩
  | 106 => ⟨S128x1, .i32⟩
  | 107 => ⟨S128x1, .i32⟩
  | 108 => ⟨S128x1, .i32⟩
  | 109 => ⟨S_, .i32⟩
  | 110 => ⟨S128x1, .i32⟩
  | 111 => ⟨S128x1, .i1⟩
  | 112 => ⟨S128x1, .i32⟩
  | 113 => ⟨S128x1, .i32⟩
  | 114 => ⟨S_, .i32⟩
  | 115 => ⟨S128x1, .i32⟩
  | 116 => ⟨S128x1, .i1⟩
  | 117 => ⟨S128x1, .i1⟩
  | 118 => ⟨S_, .i32⟩
  | 119 => ⟨S128x1, .i32⟩
  | 120 => ⟨S128x1, .i32⟩
  | 121 => ⟨S128x1, .i32⟩
  | 122 => ⟨S128x128, .i32⟩
  | 123 => ⟨S128x128, .i32⟩
  | 124 => ⟨S128x128, .i1⟩
  | 125 => ⟨S1x128x128, .i1⟩
  | 126 => ⟨S_, .f32⟩
  | 127 => ⟨S_, .f32⟩
  | _ => ⟨S2x2048x1024, .f32⟩

abbrev hbmTy0_1 (i : Nat) : BufTy := match i % 128 with
  | 0 => ⟨S8x128x128, .i1⟩
  | 1 => ⟨S8x128x128, .f32⟩
  | 2 => ⟨S8x128x128, .f32⟩
  | 3 => ⟨S8x128x128, .f32⟩
  | 4 => ⟨S8x2x16x128x128, .f32⟩
  | 5 => ⟨S2x16x128x8x128, .f32⟩
  | 6 => ⟨S128x8, .f32⟩
  | 7 => ⟨S1x1x128x8x1, .f32⟩
  | 8 => ⟨S2x16x128x8x128, .f32⟩
  | 9 => ⟨S2x16x128x8x128, .f32⟩
  | 10 => ⟨S2x2048x1024, .f32⟩
  | 11 => ⟨S2x2048x1024, .f32⟩
  | 12 => ⟨S2x2048x1024, .f32⟩
  | 13 => ⟨S2x2048x1024, .f32⟩
  | 14 => ⟨S2x16x128x8x128, .f32⟩
  | 15 => ⟨S_, .f32⟩
  | 16 => ⟨S128x8, .f32⟩
  | 17 => ⟨S1x1x128x8x1, .f32⟩
  | 18 => ⟨S_, .f32⟩
  | 19 => ⟨S128x8, .f32⟩
  | 20 => ⟨S8x128, .f32⟩
  | 21 => ⟨S8x2x16x128x128, .f32⟩
  | 22 => ⟨S8x128x128, .f32⟩
  | 23 => ⟨S8x2x16x128x128, .f32⟩
  | 24 => ⟨S2x16x128x8x128, .f32⟩
  | 25 => ⟨S2x2048x1024, .f32⟩
  | 26 => ⟨S2x2048x1024, .f32⟩
  | 27 => ⟨S_, .f32⟩
  | 28 => ⟨S1024, .f32⟩
  | 29 => ⟨S1x1x1024, .f32⟩
  | 30 => ⟨S2x2048x1024, .f32⟩
  | 31 => ⟨S2x2048x1024, .f32⟩
  | 32 => ⟨S_, .f32⟩
  | 33 => ⟨S1024, .f32⟩
  | 34 => ⟨S2x2048x1024, .f32⟩
  | 35 => ⟨S_, .f32⟩
  | 36 => ⟨S2x2048, .f32⟩
  | 37 => ⟨S2x2048x1, .f32⟩
  | 38 => ⟨S2x2048x1024, .f32⟩
  | 39 => ⟨S2x2048x1024, .f32⟩
  | 40 => ⟨S2x2048x1, .f32⟩
  | 41 => ⟨S2x2048x1024, .f32⟩
  | 42 => ⟨S_, .f32⟩
  | 43 => ⟨S2x2048, .f32⟩
  | 44 => ⟨S2x2048x1, .f32⟩
  | 45 => ⟨S_, .f32⟩
  | 46 => ⟨S2x2048x1, .f32⟩
  | 47 => ⟨S2x2048x1, .f32⟩
  | 48 => ⟨S_, .f32⟩
  | 49 => ⟨S2x2048, .f32⟩
  | 50 => ⟨S2x2048x1024, .f32⟩
  | 51 => ⟨S2x2048x1024, .f32⟩
  | 52 => ⟨S2x2048x1024, .f32⟩
  | 53 => ⟨S_, .f32⟩
  | 54 => ⟨S2x2048, .f32⟩
  | 55 => ⟨S2x2048x1, .f32⟩
  | 56 => ⟨S2x2048x1024, .f32⟩
  | 57 => ⟨S2x2048x1, .f32⟩
  | 58 => ⟨S_, .f32⟩
  | 59 => ⟨S2x2048x1, .f32⟩
  | 60 => ⟨S2x2048x1, .f32⟩
  | 61 => ⟨S_, .f32⟩
  | 62 => ⟨S2x2048, .f32⟩
  | 63 => ⟨S2x2048x1024, .f32⟩
  | 64 => ⟨S2x2048x1024, .f32⟩
  | 65 => ⟨S2x2048x2048, .f32⟩
  | 66 => ⟨S2x2048x2048, .f32⟩
  | 67 => ⟨S2x2048x2048, .f32⟩
  | 68 => ⟨S_, .f32⟩
  | 69 => ⟨S2x2048x2048, .f32⟩
  | 70 => ⟨S2x2048x2048, .f32⟩
  | 71 => ⟨S2x2048x2048, .f32⟩
  | 72 => ⟨S2x2048x2048, .f32⟩
  | 73 => ⟨S2x2048x2048, .f32⟩
  | 74 => ⟨S2x2048x2048, .f32⟩
  | 75 => ⟨S_, .f32⟩
  | 76 => ⟨S2x2048x2048, .f32⟩
  | 77 => ⟨S2x2048x2048, .f32⟩
  | 78 => ⟨S2x2048x2048, .f32⟩
  | 79 => ⟨S2x2048x1024, .f32⟩
  | 80 => ⟨S2x2048x1024, .f32⟩
  | 81 => ⟨S_, .f32⟩
  | 82 => ⟨S1024, .f32⟩
  | 83 => ⟨S1x1x1024, .f32⟩
  | 84 => ⟨S2x2048x1024, .f32⟩
  | 85 => ⟨S2x2048x1024, .f32⟩
  | 86 => ⟨S_, .f32⟩
  | 87 => ⟨S1024, .f32⟩
  | 88 => ⟨S2x2048x1024, .f32⟩
  | 89 => ⟨S_, .f32⟩
  | 90 => ⟨S2x2048, .f32⟩
  | 91 => ⟨S2x2048x1, .f32⟩
  | 92 => ⟨S2x2048x1024, .f32⟩
  | 93 => ⟨S2x2048x1024, .f32⟩
  | 94 => ⟨S2x2048x1024, .f32⟩
  | 95 => ⟨S2x2048x1, .f32⟩
  | 96 => ⟨S_, .f32⟩
  | 97 => ⟨S2x2048x1, .f32⟩
  | 98 => ⟨S2x2048x1, .f32⟩
  | 99 => ⟨S_, .f32⟩
  | 100 => ⟨S2x2048, .f32⟩
  | 101 => ⟨S2x2048x1024, .f32⟩
  | 102 => ⟨S2x2048x1024, .f32⟩
  | 103 => ⟨S2x2048x1024, .f32⟩
  | 104 => ⟨S2x2048x1024, .f32⟩
  | 105 => ⟨S2x2048x1024, .f32⟩
  | 106 => ⟨S4096x2048, .f32⟩
  | 107 => ⟨S4096x2048, .bf16⟩
  | 108 => ⟨S1x1024, .f32⟩
  | 109 => ⟨S8x128x1, .f32⟩
  | 110 => ⟨S4096x1024, .f32⟩
  | 111 => ⟨S1x1024, .f32⟩
  | _ => ⟨S2x2048x1024, .f32⟩

abbrev hbmTy (i : Nat) : BufTy := match i / 128 with
  | 0 => hbmTy0_0 i
  | 1 => hbmTy0_1 i
  | _ => ⟨S2x2048x1024, .f32⟩

abbrev bufTy : (tb : Table) → Fin (tcTables nBuf tb) → BufTy
  | .hbm, ⟨i, _⟩ => hbmTy i
  | _, _ => ⟨S2x2048x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_cst : Ref sig .tc := ⟨.hbm, 8, rfl⟩
abbrev main_v0 : Ref sig .tc := ⟨.hbm, 9, rfl⟩
abbrev main_cst_0 : Ref sig .tc := ⟨.hbm, 10, rfl⟩
abbrev main_v1 : Ref sig .tc := ⟨.hbm, 11, rfl⟩
abbrev main_v2 : Ref sig .tc := ⟨.hbm, 12, rfl⟩
abbrev main_cst_1 : Ref sig .tc := ⟨.hbm, 13, rfl⟩
abbrev main_v3 : Ref sig .tc := ⟨.hbm, 14, rfl⟩
abbrev main_v4 : Ref sig .tc := ⟨.hbm, 15, rfl⟩
abbrev main_cst_2 : Ref sig .tc := ⟨.hbm, 16, rfl⟩
abbrev main_v5 : Ref sig .tc := ⟨.hbm, 17, rfl⟩
abbrev main_v6 : Ref sig .tc := ⟨.hbm, 18, rfl⟩
abbrev main_cst_3 : Ref sig .tc := ⟨.hbm, 19, rfl⟩
abbrev main_v7 : Ref sig .tc := ⟨.hbm, 20, rfl⟩
abbrev main_v8 : Ref sig .tc := ⟨.hbm, 21, rfl⟩
abbrev main_v9 : Ref sig .tc := ⟨.hbm, 22, rfl⟩
abbrev main_v10 : Ref sig .tc := ⟨.hbm, 23, rfl⟩
abbrev main_cst_4 : Ref sig .tc := ⟨.hbm, 24, rfl⟩
abbrev main_v11 : Ref sig .tc := ⟨.hbm, 25, rfl⟩
abbrev main_v12 : Ref sig .tc := ⟨.hbm, 26, rfl⟩
abbrev main_v13 : Ref sig .tc := ⟨.hbm, 27, rfl⟩
abbrev main_v14 : Ref sig .tc := ⟨.hbm, 28, rfl⟩
abbrev main_v15 : Ref sig .tc := ⟨.hbm, 29, rfl⟩
abbrev main_v16 : Ref sig .tc := ⟨.hbm, 30, rfl⟩
abbrev main_v17 : Ref sig .tc := ⟨.hbm, 31, rfl⟩
abbrev main_v18 : Ref sig .tc := ⟨.hbm, 32, rfl⟩
abbrev main_v19 : Ref sig .tc := ⟨.hbm, 33, rfl⟩
abbrev main_cst_5 : Ref sig .tc := ⟨.hbm, 34, rfl⟩
abbrev main_v20 : Ref sig .tc := ⟨.hbm, 35, rfl⟩
abbrev main_v21 : Ref sig .tc := ⟨.hbm, 36, rfl⟩
abbrev main_v22 : Ref sig .tc := ⟨.hbm, 37, rfl⟩
abbrev main_cst_6 : Ref sig .tc := ⟨.hbm, 38, rfl⟩
abbrev main_v23 : Ref sig .tc := ⟨.hbm, 39, rfl⟩
abbrev main_v24 : Ref sig .tc := ⟨.hbm, 40, rfl⟩
abbrev main_v25 : Ref sig .tc := ⟨.hbm, 41, rfl⟩
abbrev main_v26 : Ref sig .tc := ⟨.hbm, 42, rfl⟩
abbrev main_v27 : Ref sig .tc := ⟨.hbm, 43, rfl⟩
abbrev main_v28 : Ref sig .tc := ⟨.hbm, 44, rfl⟩
abbrev main_v29 : Ref sig .tc := ⟨.hbm, 45, rfl⟩
abbrev main_v30 : Ref sig .tc := ⟨.hbm, 46, rfl⟩
abbrev main_v31 : Ref sig .tc := ⟨.hbm, 47, rfl⟩
abbrev main_v32 : Ref sig .tc := ⟨.hbm, 48, rfl⟩
abbrev main_cst_7 : Ref sig .tc := ⟨.hbm, 49, rfl⟩
abbrev main_v33 : Ref sig .tc := ⟨.hbm, 50, rfl⟩
abbrev main_v34 : Ref sig .tc := ⟨.hbm, 51, rfl⟩
abbrev main_cst_8 : Ref sig .tc := ⟨.hbm, 52, rfl⟩
abbrev main_v35 : Ref sig .tc := ⟨.hbm, 53, rfl⟩
abbrev main_v36 : Ref sig .tc := ⟨.hbm, 54, rfl⟩
abbrev main_v37 : Ref sig .tc := ⟨.hbm, 55, rfl⟩
abbrev main_v38 : Ref sig .tc := ⟨.hbm, 56, rfl⟩
abbrev main_v39 : Ref sig .tc := ⟨.hbm, 57, rfl⟩
abbrev main_cst_9 : Ref sig .tc := ⟨.hbm, 58, rfl⟩
abbrev main_v40 : Ref sig .tc := ⟨.hbm, 59, rfl⟩
abbrev main_v41 : Ref sig .tc := ⟨.hbm, 60, rfl⟩
abbrev main_cst_10 : Ref sig .tc := ⟨.hbm, 61, rfl⟩
abbrev main_v42 : Ref sig .tc := ⟨.hbm, 62, rfl⟩
abbrev main_v43 : Ref sig .tc := ⟨.hbm, 63, rfl⟩
abbrev main_cst_11 : Ref sig .tc := ⟨.hbm, 64, rfl⟩
abbrev main_v44 : Ref sig .tc := ⟨.hbm, 65, rfl⟩
abbrev main_v45 : Ref sig .tc := ⟨.hbm, 66, rfl⟩
abbrev main_v46 : Ref sig .tc := ⟨.hbm, 67, rfl⟩
abbrev main_v47 : Ref sig .tc := ⟨.hbm, 68, rfl⟩
abbrev main_cst_12 : Ref sig .tc := ⟨.hbm, 69, rfl⟩
abbrev main_v48 : Ref sig .tc := ⟨.hbm, 70, rfl⟩
abbrev main_v49 : Ref sig .tc := ⟨.hbm, 71, rfl⟩
abbrev main_v50 : Ref sig .tc := ⟨.hbm, 72, rfl⟩
abbrev main_v51 : Ref sig .tc := ⟨.hbm, 73, rfl⟩
abbrev main_cst_13 : Ref sig .tc := ⟨.hbm, 74, rfl⟩
abbrev main_v52 : Ref sig .tc := ⟨.hbm, 75, rfl⟩
abbrev main_v53 : Ref sig .tc := ⟨.hbm, 76, rfl⟩
abbrev main_v54 : Ref sig .tc := ⟨.hbm, 77, rfl⟩
abbrev main_v55 : Ref sig .tc := ⟨.hbm, 78, rfl⟩
abbrev main_v56 : Ref sig .tc := ⟨.hbm, 79, rfl⟩
abbrev main_v57 : Ref sig .tc := ⟨.hbm, 80, rfl⟩
abbrev main_v58 : Ref sig .tc := ⟨.hbm, 81, rfl⟩
abbrev main_v59 : Ref sig .tc := ⟨.hbm, 82, rfl⟩
abbrev main_v60 : Ref sig .tc := ⟨.hbm, 83, rfl⟩
abbrev main_v61 : Ref sig .tc := ⟨.hbm, 84, rfl⟩
abbrev main_c : Ref sig .tc := ⟨.hbm, 85, rfl⟩
abbrev main_call0_v0 : Ref sig .tc := ⟨.hbm, 86, rfl⟩
abbrev main_call0_v1 : Ref sig .tc := ⟨.hbm, 87, rfl⟩
abbrev main_call0_v2 : Ref sig .tc := ⟨.hbm, 88, rfl⟩
abbrev main_call0_v3 : Ref sig .tc := ⟨.hbm, 89, rfl⟩
abbrev main_call0_v4 : Ref sig .tc := ⟨.hbm, 90, rfl⟩
abbrev main_call0_v5 : Ref sig .tc := ⟨.hbm, 91, rfl⟩
abbrev main_call0_v6 : Ref sig .tc := ⟨.hbm, 92, rfl⟩
abbrev main_call0_v7 : Ref sig .tc := ⟨.hbm, 93, rfl⟩
abbrev main_call0_v8 : Ref sig .tc := ⟨.hbm, 94, rfl⟩
abbrev main_call0_c : Ref sig .tc := ⟨.hbm, 95, rfl⟩
abbrev main_call0_v9 : Ref sig .tc := ⟨.hbm, 96, rfl⟩
abbrev main_call0_v10 : Ref sig .tc := ⟨.hbm, 97, rfl⟩
abbrev main_call0_v11 : Ref sig .tc := ⟨.hbm, 98, rfl⟩
abbrev main_call0_c_0 : Ref sig .tc := ⟨.hbm, 99, rfl⟩
abbrev main_call0_v12 : Ref sig .tc := ⟨.hbm, 100, rfl⟩
abbrev main_call0_v13 : Ref sig .tc := ⟨.hbm, 101, rfl⟩
abbrev main_v62 : Ref sig .tc := ⟨.hbm, 102, rfl⟩
abbrev main_v63 : Ref sig .tc := ⟨.hbm, 103, rfl⟩
abbrev main_c_14 : Ref sig .tc := ⟨.hbm, 104, rfl⟩
abbrev main_call1_v0 : Ref sig .tc := ⟨.hbm, 105, rfl⟩
abbrev main_call1_v1 : Ref sig .tc := ⟨.hbm, 106, rfl⟩
abbrev main_call1_v2 : Ref sig .tc := ⟨.hbm, 107, rfl⟩
abbrev main_call1_v3 : Ref sig .tc := ⟨.hbm, 108, rfl⟩
abbrev main_call1_v4 : Ref sig .tc := ⟨.hbm, 109, rfl⟩
abbrev main_call1_v5 : Ref sig .tc := ⟨.hbm, 110, rfl⟩
abbrev main_call1_v6 : Ref sig .tc := ⟨.hbm, 111, rfl⟩
abbrev main_call1_v7 : Ref sig .tc := ⟨.hbm, 112, rfl⟩
abbrev main_call1_v8 : Ref sig .tc := ⟨.hbm, 113, rfl⟩
abbrev main_call1_c : Ref sig .tc := ⟨.hbm, 114, rfl⟩
abbrev main_call1_v9 : Ref sig .tc := ⟨.hbm, 115, rfl⟩
abbrev main_call1_v10 : Ref sig .tc := ⟨.hbm, 116, rfl⟩
abbrev main_call1_v11 : Ref sig .tc := ⟨.hbm, 117, rfl⟩
abbrev main_call1_c_0 : Ref sig .tc := ⟨.hbm, 118, rfl⟩
abbrev main_call1_v12 : Ref sig .tc := ⟨.hbm, 119, rfl⟩
abbrev main_call1_v13 : Ref sig .tc := ⟨.hbm, 120, rfl⟩
abbrev main_v64 : Ref sig .tc := ⟨.hbm, 121, rfl⟩
abbrev main_v65 : Ref sig .tc := ⟨.hbm, 122, rfl⟩
abbrev main_v66 : Ref sig .tc := ⟨.hbm, 123, rfl⟩
abbrev main_v67 : Ref sig .tc := ⟨.hbm, 124, rfl⟩
abbrev main_v68 : Ref sig .tc := ⟨.hbm, 125, rfl⟩
abbrev main_cst_15 : Ref sig .tc := ⟨.hbm, 126, rfl⟩
abbrev main_call2_v0 : Ref sig .tc := ⟨.hbm, 127, rfl⟩
abbrev main_call2_v1 : Ref sig .tc := ⟨.hbm, 128, rfl⟩
abbrev main_call2_v2 : Ref sig .tc := ⟨.hbm, 129, rfl⟩
abbrev main_v69 : Ref sig .tc := ⟨.hbm, 130, rfl⟩
abbrev main_v70 : Ref sig .tc := ⟨.hbm, 131, rfl⟩
abbrev main_v71 : Ref sig .tc := ⟨.hbm, 132, rfl⟩
abbrev main_v72 : Ref sig .tc := ⟨.hbm, 133, rfl⟩
abbrev main_v73 : Ref sig .tc := ⟨.hbm, 134, rfl⟩
abbrev main_v74 : Ref sig .tc := ⟨.hbm, 135, rfl⟩
abbrev main_v75 : Ref sig .tc := ⟨.hbm, 136, rfl⟩
abbrev main_v76 : Ref sig .tc := ⟨.hbm, 137, rfl⟩
abbrev main_v77 : Ref sig .tc := ⟨.hbm, 138, rfl⟩
abbrev main_v78 : Ref sig .tc := ⟨.hbm, 139, rfl⟩
abbrev main_v79 : Ref sig .tc := ⟨.hbm, 140, rfl⟩
abbrev main_v80 : Ref sig .tc := ⟨.hbm, 141, rfl⟩
abbrev main_v81 : Ref sig .tc := ⟨.hbm, 142, rfl⟩
abbrev main_cst_16 : Ref sig .tc := ⟨.hbm, 143, rfl⟩
abbrev main_v82 : Ref sig .tc := ⟨.hbm, 144, rfl⟩
abbrev main_v83 : Ref sig .tc := ⟨.hbm, 145, rfl⟩
abbrev main_cst_17 : Ref sig .tc := ⟨.hbm, 146, rfl⟩
abbrev main_v84 : Ref sig .tc := ⟨.hbm, 147, rfl⟩
abbrev main_v85 : Ref sig .tc := ⟨.hbm, 148, rfl⟩
abbrev main_v86 : Ref sig .tc := ⟨.hbm, 149, rfl⟩
abbrev main_v87 : Ref sig .tc := ⟨.hbm, 150, rfl⟩
abbrev main_v88 : Ref sig .tc := ⟨.hbm, 151, rfl⟩
abbrev main_v89 : Ref sig .tc := ⟨.hbm, 152, rfl⟩
abbrev main_v90 : Ref sig .tc := ⟨.hbm, 153, rfl⟩
abbrev main_v91 : Ref sig .tc := ⟨.hbm, 154, rfl⟩
abbrev main_cst_18 : Ref sig .tc := ⟨.hbm, 155, rfl⟩
abbrev main_v92 : Ref sig .tc := ⟨.hbm, 156, rfl⟩
abbrev main_v93 : Ref sig .tc := ⟨.hbm, 157, rfl⟩
abbrev main_v94 : Ref sig .tc := ⟨.hbm, 158, rfl⟩
abbrev main_v95 : Ref sig .tc := ⟨.hbm, 159, rfl⟩
abbrev main_cst_19 : Ref sig .tc := ⟨.hbm, 160, rfl⟩
abbrev main_v96 : Ref sig .tc := ⟨.hbm, 161, rfl⟩
abbrev main_v97 : Ref sig .tc := ⟨.hbm, 162, rfl⟩
abbrev main_cst_20 : Ref sig .tc := ⟨.hbm, 163, rfl⟩
abbrev main_v98 : Ref sig .tc := ⟨.hbm, 164, rfl⟩
abbrev main_v99 : Ref sig .tc := ⟨.hbm, 165, rfl⟩
abbrev main_v100 : Ref sig .tc := ⟨.hbm, 166, rfl⟩
abbrev main_v101 : Ref sig .tc := ⟨.hbm, 167, rfl⟩
abbrev main_v102 : Ref sig .tc := ⟨.hbm, 168, rfl⟩
abbrev main_v103 : Ref sig .tc := ⟨.hbm, 169, rfl⟩
abbrev main_cst_21 : Ref sig .tc := ⟨.hbm, 170, rfl⟩
abbrev main_v104 : Ref sig .tc := ⟨.hbm, 171, rfl⟩
abbrev main_v105 : Ref sig .tc := ⟨.hbm, 172, rfl⟩
abbrev main_cst_22 : Ref sig .tc := ⟨.hbm, 173, rfl⟩
abbrev main_v106 : Ref sig .tc := ⟨.hbm, 174, rfl⟩
abbrev main_v107 : Ref sig .tc := ⟨.hbm, 175, rfl⟩
abbrev main_cst_23 : Ref sig .tc := ⟨.hbm, 176, rfl⟩
abbrev main_v108 : Ref sig .tc := ⟨.hbm, 177, rfl⟩
abbrev main_v109 : Ref sig .tc := ⟨.hbm, 178, rfl⟩
abbrev main_v110 : Ref sig .tc := ⟨.hbm, 179, rfl⟩
abbrev main_v111 : Ref sig .tc := ⟨.hbm, 180, rfl⟩
abbrev main_cst_24 : Ref sig .tc := ⟨.hbm, 181, rfl⟩
abbrev main_v112 : Ref sig .tc := ⟨.hbm, 182, rfl⟩
abbrev main_v113 : Ref sig .tc := ⟨.hbm, 183, rfl⟩
abbrev main_v114 : Ref sig .tc := ⟨.hbm, 184, rfl⟩
abbrev main_v115 : Ref sig .tc := ⟨.hbm, 185, rfl⟩
abbrev main_cst_25 : Ref sig .tc := ⟨.hbm, 186, rfl⟩
abbrev main_v116 : Ref sig .tc := ⟨.hbm, 187, rfl⟩
abbrev main_v117 : Ref sig .tc := ⟨.hbm, 188, rfl⟩
abbrev main_cst_26 : Ref sig .tc := ⟨.hbm, 189, rfl⟩
abbrev main_v118 : Ref sig .tc := ⟨.hbm, 190, rfl⟩
abbrev main_v119 : Ref sig .tc := ⟨.hbm, 191, rfl⟩
abbrev main_v120 : Ref sig .tc := ⟨.hbm, 192, rfl⟩
abbrev main_v121 : Ref sig .tc := ⟨.hbm, 193, rfl⟩
abbrev main_v122 : Ref sig .tc := ⟨.hbm, 194, rfl⟩
abbrev main_v123 : Ref sig .tc := ⟨.hbm, 195, rfl⟩
abbrev main_cst_27 : Ref sig .tc := ⟨.hbm, 196, rfl⟩
abbrev main_v124 : Ref sig .tc := ⟨.hbm, 197, rfl⟩
abbrev main_v125 : Ref sig .tc := ⟨.hbm, 198, rfl⟩
abbrev main_v126 : Ref sig .tc := ⟨.hbm, 199, rfl⟩
abbrev main_v127 : Ref sig .tc := ⟨.hbm, 200, rfl⟩
abbrev main_v128 : Ref sig .tc := ⟨.hbm, 201, rfl⟩
abbrev main_v129 : Ref sig .tc := ⟨.hbm, 202, rfl⟩
abbrev main_cst_28 : Ref sig .tc := ⟨.hbm, 203, rfl⟩
abbrev main_v130 : Ref sig .tc := ⟨.hbm, 204, rfl⟩
abbrev main_v131 : Ref sig .tc := ⟨.hbm, 205, rfl⟩
abbrev main_v132 : Ref sig .tc := ⟨.hbm, 206, rfl⟩
abbrev main_v133 : Ref sig .tc := ⟨.hbm, 207, rfl⟩
abbrev main_v134 : Ref sig .tc := ⟨.hbm, 208, rfl⟩
abbrev main_cst_29 : Ref sig .tc := ⟨.hbm, 209, rfl⟩
abbrev main_v135 : Ref sig .tc := ⟨.hbm, 210, rfl⟩
abbrev main_v136 : Ref sig .tc := ⟨.hbm, 211, rfl⟩
abbrev main_v137 : Ref sig .tc := ⟨.hbm, 212, rfl⟩
abbrev main_v138 : Ref sig .tc := ⟨.hbm, 213, rfl⟩
abbrev main_cst_30 : Ref sig .tc := ⟨.hbm, 214, rfl⟩
abbrev main_v139 : Ref sig .tc := ⟨.hbm, 215, rfl⟩
abbrev main_v140 : Ref sig .tc := ⟨.hbm, 216, rfl⟩
abbrev main_cst_31 : Ref sig .tc := ⟨.hbm, 217, rfl⟩
abbrev main_v141 : Ref sig .tc := ⟨.hbm, 218, rfl⟩
abbrev main_v142 : Ref sig .tc := ⟨.hbm, 219, rfl⟩
abbrev main_v143 : Ref sig .tc := ⟨.hbm, 220, rfl⟩
abbrev main_v144 : Ref sig .tc := ⟨.hbm, 221, rfl⟩
abbrev main_v145 : Ref sig .tc := ⟨.hbm, 222, rfl⟩
abbrev main_v146 : Ref sig .tc := ⟨.hbm, 223, rfl⟩
abbrev main_cst_32 : Ref sig .tc := ⟨.hbm, 224, rfl⟩
abbrev main_v147 : Ref sig .tc := ⟨.hbm, 225, rfl⟩
abbrev main_v148 : Ref sig .tc := ⟨.hbm, 226, rfl⟩
abbrev main_cst_33 : Ref sig .tc := ⟨.hbm, 227, rfl⟩
abbrev main_v149 : Ref sig .tc := ⟨.hbm, 228, rfl⟩
abbrev main_v150 : Ref sig .tc := ⟨.hbm, 229, rfl⟩
abbrev main_v151 : Ref sig .tc := ⟨.hbm, 230, rfl⟩
abbrev main_v152 : Ref sig .tc := ⟨.hbm, 231, rfl⟩
abbrev main_v153 : Ref sig .tc := ⟨.hbm, 232, rfl⟩
abbrev main_v154 : Ref sig .tc := ⟨.hbm, 233, rfl⟩
abbrev main_v155 : Ref sig .tc := ⟨.hbm, 234, rfl⟩
abbrev main_v156 : Ref sig .tc := ⟨.hbm, 235, rfl⟩
abbrev main_v157 : Ref sig .tc := ⟨.hbm, 236, rfl⟩
abbrev main_v158 : Ref sig .tc := ⟨.hbm, 237, rfl⟩
abbrev main_v159 : Ref sig .tc := ⟨.hbm, 238, rfl⟩
abbrev main_v160 : Ref sig .tc := ⟨.hbm, 239, rfl⟩

abbrev nD : Nat := 1
abbrev τ : Topo := Topo.v7x

variable {F : FTy → Type} [FloatOps F]
-- ==== FfnFwd.lean ====
abbrev S2x2048x1024 : Shape := ⟨3, ![2, 2048, 1024]⟩
abbrev S1024x1024 : Shape := ⟨2, ![1024, 1024]⟩
abbrev S1024 : Shape := ⟨1, ![1024]⟩
abbrev S1024x2816 : Shape := ⟨2, ![1024, 2816]⟩
abbrev S2816x1024 : Shape := ⟨2, ![2816, 1024]⟩
abbrev S4096x1024 : Shape := ⟨2, ![4096, 1024]⟩
abbrev S1x1024 : Shape := ⟨2, ![1, 1024]⟩
abbrev S4096x2816 : Shape := ⟨2, ![4096, 2816]⟩
abbrev S256x1024 : Shape := ⟨2, ![256, 1024]⟩
abbrev S256x2816 : Shape := ⟨2, ![256, 2816]⟩
abbrev S256 : Shape := ⟨1, ![256]⟩
abbrev S256x1 : Shape := ⟨2, ![256, 1]⟩
abbrev S768x1024 : Shape := ⟨2, ![768, 1024]⟩
abbrev S256x768 : Shape := ⟨2, ![256, 768]⟩

abbrev nBuf : Space → Nat
  | .hbm => 23
  | .vmem => 21
  | .smem => 0
  | _ => 0

abbrev bufTy : (tb : Table) → Fin (tcTables nBuf tb) → BufTy
  | .hbm, ⟨0, _⟩ => ⟨S2x2048x1024, .f32⟩
  | .hbm, ⟨1, _⟩ => ⟨S1024x1024, .f32⟩
  | .hbm, ⟨2, _⟩ => ⟨S2x2048x1024, .f32⟩
  | .hbm, ⟨3, _⟩ => ⟨S1024, .f32⟩
  | .hbm, ⟨4, _⟩ => ⟨S1024x2816, .f32⟩
  | .hbm, ⟨5, _⟩ => ⟨S1024x2816, .f32⟩
  | .hbm, ⟨6, _⟩ => ⟨S2816x1024, .f32⟩
  | .hbm, ⟨7, _⟩ => ⟨S4096x1024, .f32⟩
  | .hbm, ⟨8, _⟩ => ⟨S4096x1024, .bf16⟩
  | .hbm, ⟨9, _⟩ => ⟨S1024x1024, .bf16⟩
  | .hbm, ⟨10, _⟩ => ⟨S4096x1024, .f32⟩
  | .hbm, ⟨11, _⟩ => ⟨S1x1024, .f32⟩
  | .hbm, ⟨12, _⟩ => ⟨S2816x1024, .f32⟩
  | .hbm, ⟨13, _⟩ => ⟨S2816x1024, .bf16⟩
  | .hbm, ⟨14, _⟩ => ⟨S2816x1024, .f32⟩
  | .hbm, ⟨15, _⟩ => ⟨S2816x1024, .bf16⟩
  | .hbm, ⟨16, _⟩ => ⟨S2816x1024, .bf16⟩
  | .hbm, ⟨17, _⟩ => ⟨S4096x1024, .f32⟩
  | .hbm, ⟨18, _⟩ => ⟨S4096x1024, .f32⟩
  | .hbm, ⟨19, _⟩ => ⟨S4096x2816, .bf16⟩
  | .hbm, ⟨20, _⟩ => ⟨S4096x2816, .bf16⟩
  | .hbm, ⟨21, _⟩ => ⟨S4096x2816, .bf16⟩
  | .hbm, ⟨22, _⟩ => ⟨S4096x1024, .bf16⟩
  | .local _ .vmem, ⟨0, _⟩ => ⟨S256x1024, .bf16⟩
  | .local _ .vmem, ⟨1, _⟩ => ⟨S256x1024, .bf16⟩
  | .local _ .vmem, ⟨2, _⟩ => ⟨S1024x1024, .bf16⟩
  | .local _ .vmem, ⟨3, _⟩ => ⟨S256x1024, .f32⟩
  | .local _ .vmem, ⟨4, _⟩ => ⟨S256x1024, .f32⟩
  | .local _ .vmem, ⟨5, _⟩ => ⟨S1x1024, .f32⟩
  | .local _ .vmem, ⟨6, _⟩ => ⟨S2816x1024, .bf16⟩
  | .local _ .vmem, ⟨7, _⟩ => ⟨S2816x1024, .bf16⟩
  | .local _ .vmem, ⟨8, _⟩ => ⟨S2816x1024, .bf16⟩
  | .local _ .vmem, ⟨9, _⟩ => ⟨S256x1024, .f32⟩
  | .local _ .vmem, ⟨10, _⟩ => ⟨S256x1024, .f32⟩
  | .local _ .vmem, ⟨11, _⟩ => ⟨S256x1024, .f32⟩
  | .local _ .vmem, ⟨12, _⟩ => ⟨S256x1024, .f32⟩
  | .local _ .vmem, ⟨13, _⟩ => ⟨S256x2816, .bf16⟩
  | .local _ .vmem, ⟨14, _⟩ => ⟨S256x2816, .bf16⟩
  | .local _ .vmem, ⟨15, _⟩ => ⟨S256x2816, .bf16⟩
  | .local _ .vmem, ⟨16, _⟩ => ⟨S256x2816, .bf16⟩
  | .local _ .vmem, ⟨17, _⟩ => ⟨S256x2816, .bf16⟩
  | .local _ .vmem, ⟨18, _⟩ => ⟨S256x2816, .bf16⟩
  | .local _ .vmem, ⟨19, _⟩ => ⟨S256x1024, .bf16⟩
  | .local _ .vmem, ⟨20, _⟩ => ⟨S256x1024, .bf16⟩
  | _, _ => ⟨S2x2048x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | _, _ => false

abbrev semScoped : Fin 0 → Bool
  | ⟨_, h⟩ => absurd h (Nat.not_lt_zero _)

abbrev dmaSemScoped : Fin 21 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | _ => false

abbrev sig : RefSig :=
  ofTc nBuf bufTy 0 21 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10_0 : Ref sig .tc := ⟨.hbm, 17, rfl⟩
abbrev main_v10_1 : Ref sig .tc := ⟨.hbm, 18, rfl⟩
abbrev main_v10_2 : Ref sig .tc := ⟨.hbm, 19, rfl⟩
abbrev main_v10_3 : Ref sig .tc := ⟨.hbm, 20, rfl⟩
abbrev main_v10_4 : Ref sig .tc := ⟨.hbm, 21, rfl⟩
abbrev main_v10_5 : Ref sig .tc := ⟨.hbm, 22, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg6_0 : Ref sig .tc := ⟨.vmem, 8, rfl⟩
abbrev cc0_stg7_0 : Ref sig .tc := ⟨.vmem, 9, rfl⟩
abbrev cc0_stg7_1 : Ref sig .tc := ⟨.vmem, 10, rfl⟩
abbrev cc0_stg8_0 : Ref sig .tc := ⟨.vmem, 11, rfl⟩
abbrev cc0_stg8_1 : Ref sig .tc := ⟨.vmem, 12, rfl⟩
abbrev cc0_stg9_0 : Ref sig .tc := ⟨.vmem, 13, rfl⟩
abbrev cc0_stg9_1 : Ref sig .tc := ⟨.vmem, 14, rfl⟩
abbrev cc0_stg10_0 : Ref sig .tc := ⟨.vmem, 15, rfl⟩
abbrev cc0_stg10_1 : Ref sig .tc := ⟨.vmem, 16, rfl⟩
abbrev cc0_stg11_0 : Ref sig .tc := ⟨.vmem, 17, rfl⟩
abbrev cc0_stg11_1 : Ref sig .tc := ⟨.vmem, 18, rfl⟩
abbrev cc0_stg12_0 : Ref sig .tc := ⟨.vmem, 19, rfl⟩
abbrev cc0_stg12_1 : Ref sig .tc := ⟨.vmem, 20, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem4_0 : DmaSem sig := 6
abbrev cc0_sem5_0 : DmaSem sig := 7
abbrev cc0_sem6_0 : DmaSem sig := 8
abbrev cc0_sem7_0 : DmaSem sig := 9
abbrev cc0_sem7_1 : DmaSem sig := 10
abbrev cc0_sem8_0 : DmaSem sig := 11
abbrev cc0_sem8_1 : DmaSem sig := 12
abbrev cc0_sem9_0 : DmaSem sig := 13
abbrev cc0_sem9_1 : DmaSem sig := 14
abbrev cc0_sem10_0 : DmaSem sig := 15
abbrev cc0_sem10_1 : DmaSem sig := 16
abbrev cc0_sem11_0 : DmaSem sig := 17
abbrev cc0_sem11_1 : DmaSem sig := 18
abbrev cc0_sem12_0 : DmaSem sig := 19
abbrev cc0_sem12_1 : DmaSem sig := 20

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_9 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_10 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_11 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_12 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1024x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S256x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S1x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S2816x1024 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S2816x1024 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S2816x1024 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 2 → Memref sig .tc .vmem S256x1024 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S256x1024 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 2 → Memref sig .tc .vmem S256x2816 .bf16 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev stage0_10 : Fin 2 → Memref sig .tc .vmem S256x2816 .bf16 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]

abbrev stage0_11 : Fin 2 → Memref sig .tc .vmem S256x2816 .bf16 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true]

abbrev stage0_12 : Fin 2 → Memref sig .tc .vmem S256x1024 .bf16 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true]
-- ==== FfnFwdRefIdeal.lean ====
abbrev S2x2048x1024 : Shape := ⟨3, ![2, 2048, 1024]⟩
abbrev S1024x1024 : Shape := ⟨2, ![1024, 1024]⟩
abbrev S1024 : Shape := ⟨1, ![1024]⟩
abbrev S1024x2816 : Shape := ⟨2, ![1024, 2816]⟩
abbrev S2816x1024 : Shape := ⟨2, ![2816, 1024]⟩
abbrev S_ : Shape := ⟨0, ![]⟩
abbrev S2x2048 : Shape := ⟨2, ![2, 2048]⟩
abbrev S2x2048x1 : Shape := ⟨3, ![2, 2048, 1]⟩
abbrev S1x1x1024 : Shape := ⟨3, ![1, 1, 1024]⟩
abbrev S2x2048x2816 : Shape := ⟨3, ![2, 2048, 2816]⟩
abbrev S4096x1024 : Shape := ⟨2, ![4096, 1024]⟩
abbrev S4096x2816 : Shape := ⟨2, ![4096, 2816]⟩

abbrev nBuf : Space → Nat
  | .hbm => 49
  | .vmem => 0
  | .smem => 0
  | _ => 0

abbrev bufTy : (tb : Table) → Fin (tcTables nBuf tb) → BufTy
  | .hbm, ⟨0, _⟩ => ⟨S2x2048x1024, .f32⟩
  | .hbm, ⟨1, _⟩ => ⟨S1024x1024, .f32⟩
  | .hbm, ⟨2, _⟩ => ⟨S2x2048x1024, .f32⟩
  | .hbm, ⟨3, _⟩ => ⟨S1024, .f32⟩
  | .hbm, ⟨4, _⟩ => ⟨S1024x2816, .f32⟩
  | .hbm, ⟨5, _⟩ => ⟨S1024x2816, .f32⟩
  | .hbm, ⟨6, _⟩ => ⟨S2816x1024, .f32⟩
  | .hbm, ⟨7, _⟩ => ⟨S2x2048x1024, .f32⟩
  | .hbm, ⟨8, _⟩ => ⟨S2x2048x1024, .f32⟩
  | .hbm, ⟨9, _⟩ => ⟨S2x2048x1024, .f32⟩
  | .hbm, ⟨10, _⟩ => ⟨S_, .f32⟩
  | .hbm, ⟨11, _⟩ => ⟨S2x2048, .f32⟩
  | .hbm, ⟨12, _⟩ => ⟨S2x2048x1, .f32⟩
  | .hbm, ⟨13, _⟩ => ⟨S_, .f32⟩
  | .hbm, ⟨14, _⟩ => ⟨S2x2048x1, .f32⟩
  | .hbm, ⟨15, _⟩ => ⟨S2x2048x1, .f32⟩
  | .hbm, ⟨16, _⟩ => ⟨S_, .f32⟩
  | .hbm, ⟨17, _⟩ => ⟨S2x2048x1, .f32⟩
  | .hbm, ⟨18, _⟩ => ⟨S2x2048x1, .f32⟩
  | .hbm, ⟨19, _⟩ => ⟨S2x2048x1, .f32⟩
  | .hbm, ⟨20, _⟩ => ⟨S2x2048x1024, .f32⟩
  | .hbm, ⟨21, _⟩ => ⟨S2x2048x1024, .f32⟩
  | .hbm, ⟨22, _⟩ => ⟨S1x1x1024, .f32⟩
  | .hbm, ⟨23, _⟩ => ⟨S2x2048x1024, .f32⟩
  | .hbm, ⟨24, _⟩ => ⟨S2x2048x1024, .f32⟩
  | .hbm, ⟨25, _⟩ => ⟨S2x2048x2816, .f32⟩
  | .hbm, ⟨26, _⟩ => ⟨S2x2048x2816, .f32⟩
  | .hbm, ⟨27, _⟩ => ⟨S2x2048x2816, .f32⟩
  | .hbm, ⟨28, _⟩ => ⟨S2x2048x2816, .f32⟩
  | .hbm, ⟨29, _⟩ => ⟨S_, .f32⟩
  | .hbm, ⟨30, _⟩ => ⟨S2x2048x2816, .f32⟩
  | .hbm, ⟨31, _⟩ => ⟨S2x2048x2816, .f32⟩
  | .hbm, ⟨32, _⟩ => ⟨S_, .f32⟩
  | .hbm, ⟨33, _⟩ => ⟨S2x2048x2816, .f32⟩
  | .hbm, ⟨34, _⟩ => ⟨S2x2048x2816, .f32⟩
  | .hbm, ⟨35, _⟩ => ⟨S2x2048x2816, .f32⟩
  | .hbm, ⟨36, _⟩ => ⟨S2x2048x2816, .f32⟩
  | .hbm, ⟨37, _⟩ => ⟨S2x2048x1024, .f32⟩
  | .hbm, ⟨38, _⟩ => ⟨S2x2048x1024, .f32⟩
  | .hbm, ⟨39, _⟩ => ⟨S4096x1024, .f32⟩
  | .hbm, ⟨40, _⟩ => ⟨S4096x1024, .f32⟩
  | .hbm, ⟨41, _⟩ => ⟨S4096x2816, .f32⟩
  | .hbm, ⟨42, _⟩ => ⟨S4096x2816, .bf16⟩
  | .hbm, ⟨43, _⟩ => ⟨S4096x2816, .f32⟩
  | .hbm, ⟨44, _⟩ => ⟨S4096x2816, .bf16⟩
  | .hbm, ⟨45, _⟩ => ⟨S4096x2816, .f32⟩
  | .hbm, ⟨46, _⟩ => ⟨S4096x2816, .bf16⟩
  | .hbm, ⟨47, _⟩ => ⟨S4096x1024, .f32⟩
  | .hbm, ⟨48, _⟩ => ⟨S4096x1024, .bf16⟩
  | _, _ => ⟨S2x2048x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_cst : Ref sig .tc := ⟨.hbm, 10, rfl⟩
abbrev main_v3 : Ref sig .tc := ⟨.hbm, 11, rfl⟩
abbrev main_v4 : Ref sig .tc := ⟨.hbm, 12, rfl⟩
abbrev main_cst_0 : Ref sig .tc := ⟨.hbm, 13, rfl⟩
abbrev main_v5 : Ref sig .tc := ⟨.hbm, 14, rfl⟩
abbrev main_v6 : Ref sig .tc := ⟨.hbm, 15, rfl⟩
abbrev main_cst_1 : Ref sig .tc := ⟨.hbm, 16, rfl⟩
abbrev main_v7 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_call0_v0 : Ref sig .tc := ⟨.hbm, 27, rfl⟩
abbrev main_call0_v1 : Ref sig .tc := ⟨.hbm, 28, rfl⟩
abbrev main_call0_cst : Ref sig .tc := ⟨.hbm, 29, rfl⟩
abbrev main_call0_v2 : Ref sig .tc := ⟨.hbm, 30, rfl⟩
abbrev main_call0_v3 : Ref sig .tc := ⟨.hbm, 31, rfl⟩
abbrev main_call0_cst_0 : Ref sig .tc := ⟨.hbm, 32, rfl⟩
abbrev main_call0_v4 : Ref sig .tc := ⟨.hbm, 33, rfl⟩
abbrev main_call0_v5 : Ref sig .tc := ⟨.hbm, 34, rfl⟩
abbrev main_v17 : Ref sig .tc := ⟨.hbm, 35, rfl⟩
abbrev main_v18 : Ref sig .tc := ⟨.hbm, 36, rfl⟩
abbrev main_v19 : Ref sig .tc := ⟨.hbm, 37, rfl⟩
abbrev main_v20 : Ref sig .tc := ⟨.hbm, 38, rfl⟩
abbrev main_v21 : Ref sig .tc := ⟨.hbm, 39, rfl⟩
abbrev main_v22 : Ref sig .tc := ⟨.hbm, 40, rfl⟩
abbrev main_v23 : Ref sig .tc := ⟨.hbm, 41, rfl⟩
abbrev main_v24 : Ref sig .tc := ⟨.hbm, 42, rfl⟩
abbrev main_v25 : Ref sig .tc := ⟨.hbm, 43, rfl⟩
abbrev main_v26 : Ref sig .tc := ⟨.hbm, 44, rfl⟩
abbrev main_v27 : Ref sig .tc := ⟨.hbm, 45, rfl⟩
abbrev main_v28 : Ref sig .tc := ⟨.hbm, 46, rfl⟩
abbrev main_v29 : Ref sig .tc := ⟨.hbm, 47, rfl⟩
abbrev main_v30 : Ref sig .tc := ⟨.hbm, 48, rfl⟩

abbrev nD : Nat := 1
abbrev τ : Topo := Topo.v7x

variable {F : FTy → Type} [FloatOps F]
-- ==== GmlpFwd.lean ====
abbrev S2x2048x1024 : Shape := ⟨3, ![2, 2048, 1024]⟩
abbrev S1024 : Shape := ⟨1, ![1024]⟩
abbrev S1024x2048 : Shape := ⟨2, ![1024, 2048]⟩
abbrev S8x128x128 : Shape := ⟨3, ![8, 128, 128]⟩
abbrev S8x128 : Shape := ⟨2, ![8, 128]⟩
abbrev S128 : Shape := ⟨1, ![128]⟩
abbrev S1x128 : Shape := ⟨2, ![1, 128]⟩
abbrev S_ : Shape := ⟨0, ![]⟩
abbrev S128x1 : Shape := ⟨2, ![128, 1]⟩
abbrev S128x128 : Shape := ⟨2, ![128, 128]⟩
abbrev S1x128x128 : Shape := ⟨3, ![1, 128, 128]⟩
abbrev S8x128x1 : Shape := ⟨3, ![8, 128, 1]⟩
abbrev S4096x1024 : Shape := ⟨2, ![4096, 1024]⟩
abbrev S1x1024 : Shape := ⟨2, ![1, 1024]⟩
abbrev S2048x1024 : Shape := ⟨2, ![2048, 1024]⟩
abbrev S4096x2048 : Shape := ⟨2, ![4096, 2048]⟩
abbrev S256x1024 : Shape := ⟨2, ![256, 1024]⟩
abbrev S256x2048 : Shape := ⟨2, ![256, 2048]⟩
abbrev S256 : Shape := ⟨1, ![256]⟩
abbrev S256x1 : Shape := ⟨2, ![256, 1]⟩

abbrev nBuf : Space → Nat
  | .hbm => 66
  | .vmem => 15
  | .smem => 0
  | _ => 0

abbrev bufTy : (tb : Table) → Fin (tcTables nBuf tb) → BufTy
  | .hbm, ⟨0, _⟩ => ⟨S2x2048x1024, .f32⟩
  | .hbm, ⟨1, _⟩ => ⟨S1024, .f32⟩
  | .hbm, ⟨2, _⟩ => ⟨S1024x2048, .f32⟩
  | .hbm, ⟨3, _⟩ => ⟨S1024, .f32⟩
  | .hbm, ⟨4, _⟩ => ⟨S8x128x128, .f32⟩
  | .hbm, ⟨5, _⟩ => ⟨S8x128, .f32⟩
  | .hbm, ⟨6, _⟩ => ⟨S128, .i32⟩
  | .hbm, ⟨7, _⟩ => ⟨S1x128, .i32⟩
  | .hbm, ⟨8, _⟩ => ⟨S_, .i32⟩
  | .hbm, ⟨9, _⟩ => ⟨S_, .i32⟩
  | .hbm, ⟨10, _⟩ => ⟨S1x128, .i32⟩
  | .hbm, ⟨11, _⟩ => ⟨S1x128, .i32⟩
  | .hbm, ⟨12, _⟩ => ⟨S1x128, .i32⟩
  | .hbm, ⟨13, _⟩ => ⟨S_, .i32⟩
  | .hbm, ⟨14, _⟩ => ⟨S1x128, .i32⟩
  | .hbm, ⟨15, _⟩ => ⟨S1x128, .i1⟩
  | .hbm, ⟨16, _⟩ => ⟨S1x128, .i32⟩
  | .hbm, ⟨17, _⟩ => ⟨S1x128, .i32⟩
  | .hbm, ⟨18, _⟩ => ⟨S_, .i32⟩
  | .hbm, ⟨19, _⟩ => ⟨S1x128, .i32⟩
  | .hbm, ⟨20, _⟩ => ⟨S1x128, .i1⟩
  | .hbm, ⟨21, _⟩ => ⟨S1x128, .i1⟩
  | .hbm, ⟨22, _⟩ => ⟨S_, .i32⟩
  | .hbm, ⟨23, _⟩ => ⟨S1x128, .i32⟩
  | .hbm, ⟨24, _⟩ => ⟨S1x128, .i32⟩
  | .hbm, ⟨25, _⟩ => ⟨S1x128, .i32⟩
  | .hbm, ⟨26, _⟩ => ⟨S128x1, .i32⟩
  | .hbm, ⟨27, _⟩ => ⟨S_, .i32⟩
  | .hbm, ⟨28, _⟩ => ⟨S_, .i32⟩
  | .hbm, ⟨29, _⟩ => ⟨S128x1, .i32⟩
  | .hbm, ⟨30, _⟩ => ⟨S128x1, .i32⟩
  | .hbm, ⟨31, _⟩ => ⟨S128x1, .i32⟩
  | .hbm, ⟨32, _⟩ => ⟨S_, .i32⟩
  | .hbm, ⟨33, _⟩ => ⟨S128x1, .i32⟩
  | .hbm, ⟨34, _⟩ => ⟨S128x1, .i1⟩
  | .hbm, ⟨35, _⟩ => ⟨S128x1, .i32⟩
  | .hbm, ⟨36, _⟩ => ⟨S128x1, .i32⟩
  | .hbm, ⟨37, _⟩ => ⟨S_, .i32⟩
  | .hbm, ⟨38, _⟩ => ⟨S128x1, .i32⟩
  | .hbm, ⟨39, _⟩ => ⟨S128x1, .i1⟩
  | .hbm, ⟨40, _⟩ => ⟨S128x1, .i1⟩
  | .hbm, ⟨41, _⟩ => ⟨S_, .i32⟩
  | .hbm, ⟨42, _⟩ => ⟨S128x1, .i32⟩
  | .hbm, ⟨43, _⟩ => ⟨S128x1, .i32⟩
  | .hbm, ⟨44, _⟩ => ⟨S128x1, .i32⟩
  | .hbm, ⟨45, _⟩ => ⟨S128x128, .i32⟩
  | .hbm, ⟨46, _⟩ => ⟨S128x128, .i32⟩
  | .hbm, ⟨47, _⟩ => ⟨S128x128, .i1⟩
  | .hbm, ⟨48, _⟩ => ⟨S1x128x128, .i1⟩
  | .hbm, ⟨49, _⟩ => ⟨S_, .f32⟩
  | .hbm, ⟨50, _⟩ => ⟨S_, .f32⟩
  | .hbm, ⟨51, _⟩ => ⟨S8x128x128, .i1⟩
  | .hbm, ⟨52, _⟩ => ⟨S8x128x128, .f32⟩
  | .hbm, ⟨53, _⟩ => ⟨S8x128x128, .f32⟩
  | .hbm, ⟨54, _⟩ => ⟨S8x128x128, .bf16⟩
  | .hbm, ⟨55, _⟩ => ⟨S8x128x1, .f32⟩
  | .hbm, ⟨56, _⟩ => ⟨S8x128x128, .f32⟩
  | .hbm, ⟨57, _⟩ => ⟨S4096x1024, .f32⟩
  | .hbm, ⟨58, _⟩ => ⟨S1x1024, .f32⟩
  | .hbm, ⟨59, _⟩ => ⟨S2048x1024, .f32⟩
  | .hbm, ⟨60, _⟩ => ⟨S2048x1024, .bf16⟩
  | .hbm, ⟨61, _⟩ => ⟨S1x1024, .f32⟩
  | .hbm, ⟨62, _⟩ => ⟨S4096x2048, .bf16⟩
  | .hbm, ⟨63, _⟩ => ⟨S4096x1024, .bf16⟩
  | .hbm, ⟨64, _⟩ => ⟨S4096x1024, .bf16⟩
  | .hbm, ⟨65, _⟩ => ⟨S8x128, .f32⟩
  | .local _ .vmem, ⟨0, _⟩ => ⟨S256x1024, .f32⟩
  | .local _ .vmem, ⟨1, _⟩ => ⟨S256x1024, .f32⟩
  | .local _ .vmem, ⟨2, _⟩ => ⟨S1x1024, .f32⟩
  | .local _ .vmem, ⟨3, _⟩ => ⟨S2048x1024, .bf16⟩
  | .local _ .vmem, ⟨4, _⟩ => ⟨S1x1024, .f32⟩
  | .local _ .vmem, ⟨5, _⟩ => ⟨S8x128x128, .bf16⟩
  | .local _ .vmem, ⟨6, _⟩ => ⟨S8x128x128, .f32⟩
  | .local _ .vmem, ⟨7, _⟩ => ⟨S256x2048, .bf16⟩
  | .local _ .vmem, ⟨8, _⟩ => ⟨S256x2048, .bf16⟩
  | .local _ .vmem, ⟨9, _⟩ => ⟨S256x1024, .bf16⟩
  | .local _ .vmem, ⟨10, _⟩ => ⟨S256x1024, .bf16⟩
  | .local _ .vmem, ⟨11, _⟩ => ⟨S256x1024, .bf16⟩
  | .local _ .vmem, ⟨12, _⟩ => ⟨S256x1024, .bf16⟩
  | .local _ .vmem, ⟨13, _⟩ => ⟨S8x128, .f32⟩
  | .local _ .vmem, ⟨14, _⟩ => ⟨S256x1024, .bf16⟩
  | _, _ => ⟨S2x2048x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_c : Ref sig .tc := ⟨.hbm, 8, rfl⟩
abbrev main_call0_v0 : Ref sig .tc := ⟨.hbm, 9, rfl⟩
abbrev main_call0_v1 : Ref sig .tc := ⟨.hbm, 10, rfl⟩
abbrev main_call0_v2 : Ref sig .tc := ⟨.hbm, 11, rfl⟩
abbrev main_call0_v3 : Ref sig .tc := ⟨.hbm, 12, rfl⟩
abbrev main_call0_v4 : Ref sig .tc := ⟨.hbm, 13, rfl⟩
abbrev main_call0_v5 : Ref sig .tc := ⟨.hbm, 14, rfl⟩
abbrev main_call0_v6 : Ref sig .tc := ⟨.hbm, 15, rfl⟩
abbrev main_call0_v7 : Ref sig .tc := ⟨.hbm, 16, rfl⟩
abbrev main_call0_v8 : Ref sig .tc := ⟨.hbm, 17, rfl⟩
abbrev main_call0_c : Ref sig .tc := ⟨.hbm, 18, rfl⟩
abbrev main_call0_v9 : Ref sig .tc := ⟨.hbm, 19, rfl⟩
abbrev main_call0_v10 : Ref sig .tc := ⟨.hbm, 20, rfl⟩
abbrev main_call0_v11 : Ref sig .tc := ⟨.hbm, 21, rfl⟩
abbrev main_call0_c_0 : Ref sig .tc := ⟨.hbm, 22, rfl⟩
abbrev main_call0_v12 : Ref sig .tc := ⟨.hbm, 23, rfl⟩
abbrev main_call0_v13 : Ref sig .tc := ⟨.hbm, 24, rfl⟩
abbrev main_v2 : Ref sig .tc := ⟨.hbm, 25, rfl⟩
abbrev main_v3 : Ref sig .tc := ⟨.hbm, 26, rfl⟩
abbrev main_c_0 : Ref sig .tc := ⟨.hbm, 27, rfl⟩
abbrev main_call1_v0 : Ref sig .tc := ⟨.hbm, 28, rfl⟩
abbrev main_call1_v1 : Ref sig .tc := ⟨.hbm, 29, rfl⟩
abbrev main_call1_v2 : Ref sig .tc := ⟨.hbm, 30, rfl⟩
abbrev main_call1_v3 : Ref sig .tc := ⟨.hbm, 31, rfl⟩
abbrev main_call1_v4 : Ref sig .tc := ⟨.hbm, 32, rfl⟩
abbrev main_call1_v5 : Ref sig .tc := ⟨.hbm, 33, rfl⟩
abbrev main_call1_v6 : Ref sig .tc := ⟨.hbm, 34, rfl⟩
abbrev main_call1_v7 : Ref sig .tc := ⟨.hbm, 35, rfl⟩
abbrev main_call1_v8 : Ref sig .tc := ⟨.hbm, 36, rfl⟩
abbrev main_call1_c : Ref sig .tc := ⟨.hbm, 37, rfl⟩
abbrev main_call1_v9 : Ref sig .tc := ⟨.hbm, 38, rfl⟩
abbrev main_call1_v10 : Ref sig .tc := ⟨.hbm, 39, rfl⟩
abbrev main_call1_v11 : Ref sig .tc := ⟨.hbm, 40, rfl⟩
abbrev main_call1_c_0 : Ref sig .tc := ⟨.hbm, 41, rfl⟩
abbrev main_call1_v12 : Ref sig .tc := ⟨.hbm, 42, rfl⟩
abbrev main_call1_v13 : Ref sig .tc := ⟨.hbm, 43, rfl⟩
abbrev main_v4 : Ref sig .tc := ⟨.hbm, 44, rfl⟩
abbrev main_v5 : Ref sig .tc := ⟨.hbm, 45, rfl⟩
abbrev main_v6 : Ref sig .tc := ⟨.hbm, 46, rfl⟩
abbrev main_v7 : Ref sig .tc := ⟨.hbm, 47, rfl⟩
abbrev main_v8 : Ref sig .tc := ⟨.hbm, 48, rfl⟩
abbrev main_cst : Ref sig .tc := ⟨.hbm, 49, rfl⟩
abbrev main_call2_v0 : Ref sig .tc := ⟨.hbm, 50, rfl⟩
abbrev main_call2_v1 : Ref sig .tc := ⟨.hbm, 51, rfl⟩
abbrev main_call2_v2 : Ref sig .tc := ⟨.hbm, 52, rfl⟩
abbrev main_v9 : Ref sig .tc := ⟨.hbm, 53, rfl⟩
abbrev main_v10 : Ref sig .tc := ⟨.hbm, 54, rfl⟩
abbrev main_v11 : Ref sig .tc := ⟨.hbm, 55, rfl⟩
abbrev main_v12 : Ref sig .tc := ⟨.hbm, 56, rfl⟩
abbrev main_v13 : Ref sig .tc := ⟨.hbm, 57, rfl⟩
abbrev main_v14 : Ref sig .tc := ⟨.hbm, 58, rfl⟩
abbrev main_v15 : Ref sig .tc := ⟨.hbm, 59, rfl⟩
abbrev main_v16 : Ref sig .tc := ⟨.hbm, 60, rfl⟩
abbrev main_v17 : Ref sig .tc := ⟨.hbm, 61, rfl⟩
abbrev main_v18_0 : Ref sig .tc := ⟨.hbm, 62, rfl⟩
abbrev main_v18_1 : Ref sig .tc := ⟨.hbm, 63, rfl⟩
abbrev main_v18_2 : Ref sig .tc := ⟨.hbm, 64, rfl⟩
abbrev main_v18_3 : Ref sig .tc := ⟨.hbm, 65, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg6_0 : Ref sig .tc := ⟨.vmem, 7, rfl⟩
abbrev cc0_stg6_1 : Ref sig .tc := ⟨.vmem, 8, rfl⟩
abbrev cc0_stg7_0 : Ref sig .tc := ⟨.vmem, 9, rfl⟩
abbrev cc0_stg7_1 : Ref sig .tc := ⟨.vmem, 10, rfl⟩
abbrev cc0_stg8_0 : Ref sig .tc := ⟨.vmem, 11, rfl⟩
abbrev cc0_stg8_1 : Ref sig .tc := ⟨.vmem, 12, rfl⟩
abbrev cc0_stg9_0 : Ref sig .tc := ⟨.vmem, 13, rfl⟩
abbrev cc0_scratch0 : Ref sig .tc := ⟨.vmem, 14, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem6_0 : DmaSem sig := 7
abbrev cc0_sem6_1 : DmaSem sig := 8
abbrev cc0_sem7_0 : DmaSem sig := 9
abbrev cc0_sem7_1 : DmaSem sig := 10
abbrev cc0_sem8_0 : DmaSem sig := 11
abbrev cc0_sem8_1 : DmaSem sig := 12
abbrev cc0_sem9_0 : DmaSem sig := 13

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_5 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S256x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S2048x1024 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S8x128x128 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S8x128x128 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 2 → Memref sig .tc .vmem S256x2048 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S256x1024 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S256x1024 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 1 → Memref sig .tc .vmem S8x128 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]
-- ==== GmlpFwdIdeal.lean ====
variable {F : FTy → Type} [FloatOps F] [Named F]
def κ : String → Option EReal := fun
  | "root_half" => some (((Real.sqrt 2)⁻¹ : ℝ) : EReal)
  | _ => none
-- ==== GmlpFwdRefIdeal.lean ====
abbrev S2x2048x1024 : Shape := ⟨3, ![2, 2048, 1024]⟩
abbrev S1024 : Shape := ⟨1, ![1024]⟩
abbrev S1024x2048 : Shape := ⟨2, ![1024, 2048]⟩
abbrev S8x128x128 : Shape := ⟨3, ![8, 128, 128]⟩
abbrev S8x128 : Shape := ⟨2, ![8, 128]⟩
abbrev S_ : Shape := ⟨0, ![]⟩
abbrev S2x2048 : Shape := ⟨2, ![2, 2048]⟩
abbrev S2x2048x1 : Shape := ⟨3, ![2, 2048, 1]⟩
abbrev S1x1x1024 : Shape := ⟨3, ![1, 1, 1024]⟩
abbrev S2x2048x2048 : Shape := ⟨3, ![2, 2048, 2048]⟩
abbrev S2x16x128x8x128 : Shape := ⟨5, ![2, 16, 128, 8, 128]⟩
abbrev S128 : Shape := ⟨1, ![128]⟩
abbrev S1x128 : Shape := ⟨2, ![1, 128]⟩
abbrev S128x1 : Shape := ⟨2, ![128, 1]⟩
abbrev S128x128 : Shape := ⟨2, ![128, 128]⟩
abbrev S1x128x128 : Shape := ⟨3, ![1, 128, 128]⟩
abbrev S8x2x16x128x128 : Shape := ⟨5, ![8, 2, 16, 128, 128]⟩
abbrev S128x8 : Shape := ⟨2, ![128, 8]⟩
abbrev S1x1x128x8x1 : Shape := ⟨5, ![1, 1, 128, 8, 1]⟩
abbrev S4096x2048 : Shape := ⟨2, ![4096, 2048]⟩
abbrev S4096x1024 : Shape := ⟨2, ![4096, 1024]⟩

abbrev nBuf : Space → Nat
  | .hbm => 147
  | .vmem => 0
  | .smem => 0
  | _ => 0

abbrev hbmTy0_0 (i : Nat) : BufTy := match i % 128 with
  | 0 => ⟨S2x2048x1024, .f32⟩
  | 1 => ⟨S1024, .f32⟩
  | 2 => ⟨S1024x2048, .f32⟩
  | 3 => ⟨S1024, .f32⟩
  | 4 => ⟨S8x128x128, .f32⟩
  | 5 => ⟨S8x128, .f32⟩
  | 6 => ⟨S2x2048x1024, .f32⟩
  | 7 => ⟨S_, .f32⟩
  | 8 => ⟨S2x2048, .f32⟩
  | 9 => ⟨S2x2048x1, .f32⟩
  | 10 => ⟨S_, .f32⟩
  | 11 => ⟨S2x2048x1, .f32⟩
  | 12 => ⟨S2x2048x1, .f32⟩
  | 13 => ⟨S_, .f32⟩
  | 14 => ⟨S2x2048x1, .f32⟩
  | 15 => ⟨S2x2048x1, .f32⟩
  | 16 => ⟨S2x2048x1, .f32⟩
  | 17 => ⟨S2x2048x1024, .f32⟩
  | 18 => ⟨S2x2048x1024, .f32⟩
  | 19 => ⟨S1x1x1024, .f32⟩
  | 20 => ⟨S2x2048x1024, .f32⟩
  | 21 => ⟨S2x2048x1024, .f32⟩
  | 22 => ⟨S2x2048x1024, .f32⟩
  | 23 => ⟨S_, .f32⟩
  | 24 => ⟨S2x2048, .f32⟩
  | 25 => ⟨S2x2048x1, .f32⟩
  | 26 => ⟨S_, .f32⟩
  | 27 => ⟨S2x2048x1, .f32⟩
  | 28 => ⟨S2x2048x1, .f32⟩
  | 29 => ⟨S_, .f32⟩
  | 30 => ⟨S2x2048x1, .f32⟩
  | 31 => ⟨S2x2048x1, .f32⟩
  | 32 => ⟨S2x2048x1, .f32⟩
  | 33 => ⟨S2x2048x1024, .f32⟩
  | 34 => ⟨S2x2048x1024, .f32⟩
  | 35 => ⟨S1x1x1024, .f32⟩
  | 36 => ⟨S2x2048x1024, .f32⟩
  | 37 => ⟨S2x2048x1024, .f32⟩
  | 38 => ⟨S2x2048x2048, .f32⟩
  | 39 => ⟨S_, .f32⟩
  | 40 => ⟨S2x2048x2048, .f32⟩
  | 41 => ⟨S2x2048x2048, .f32⟩
  | 42 => ⟨S_, .f32⟩
  | 43 => ⟨S2x2048x2048, .f32⟩
  | 44 => ⟨S2x2048x2048, .f32⟩
  | 45 => ⟨S2x2048x2048, .f32⟩
  | 46 => ⟨S_, .f32⟩
  | 47 => ⟨S_, .f32⟩
  | 48 => ⟨S2x2048x2048, .f32⟩
  | 49 => ⟨S2x2048x2048, .f32⟩
  | 50 => ⟨S2x2048x2048, .f32⟩
  | 51 => ⟨S2x2048x2048, .f32⟩
  | 52 => ⟨S2x2048x1024, .f32⟩
  | 53 => ⟨S2x2048x1024, .f32⟩
  | 54 => ⟨S_, .f32⟩
  | 55 => ⟨S2x2048, .f32⟩
  | 56 => ⟨S2x2048x1, .f32⟩
  | 57 => ⟨S_, .f32⟩
  | 58 => ⟨S2x2048x1, .f32⟩
  | 59 => ⟨S2x2048x1, .f32⟩
  | 60 => ⟨S2x2048x1024, .f32⟩
  | 61 => ⟨S2x2048x1024, .f32⟩
  | 62 => ⟨S2x2048x1024, .f32⟩
  | 63 => ⟨S_, .f32⟩
  | 64 => ⟨S2x2048, .f32⟩
  | 65 => ⟨S2x2048x1, .f32⟩
  | 66 => ⟨S_, .f32⟩
  | 67 => ⟨S2x2048x1, .f32⟩
  | 68 => ⟨S2x2048x1, .f32⟩
  | 69 => ⟨S2x2048x1024, .f32⟩
  | 70 => ⟨S2x2048x1024, .f32⟩
  | 71 => ⟨S_, .f32⟩
  | 72 => ⟨S2x2048x1, .f32⟩
  | 73 => ⟨S2x2048x1, .f32⟩
  | 74 => ⟨S2x2048x1, .f32⟩
  | 75 => ⟨S2x2048x1024, .f32⟩
  | 76 => ⟨S2x2048x1024, .f32⟩
  | 77 => ⟨S1x1x1024, .f32⟩
  | 78 => ⟨S2x2048x1024, .f32⟩
  | 79 => ⟨S2x2048x1024, .f32⟩
  | 80 => ⟨S2x16x128x8x128, .f32⟩
  | 81 => ⟨S128, .i32⟩
  | 82 => ⟨S1x128, .i32⟩
  | 83 => ⟨S_, .i32⟩
  | 84 => ⟨S_, .i32⟩
  | 85 => ⟨S1x128, .i32⟩
  | 86 => ⟨S1x128, .i32⟩
  | 87 => ⟨S1x128, .i32⟩
  | 88 => ⟨S_, .i32⟩
  | 89 => ⟨S1x128, .i32⟩
  | 90 => ⟨S1x128, .i1⟩
  | 91 => ⟨S1x128, .i32⟩
  | 92 => ⟨S1x128, .i32⟩
  | 93 => ⟨S_, .i32⟩
  | 94 => ⟨S1x128, .i32⟩
  | 95 => ⟨S1x128, .i1⟩
  | 96 => ⟨S1x128, .i1⟩
  | 97 => ⟨S_, .i32⟩
  | 98 => ⟨S1x128, .i32⟩
  | 99 => ⟨S1x128, .i32⟩
  | 100 => ⟨S1x128, .i32⟩
  | 101 => ⟨S128x1, .i32⟩
  | 102 => ⟨S_, .i32⟩
  | 103 => ⟨S_, .i32⟩
  | 104 => ⟨S128x1, .i32⟩
  | 105 => ⟨S128x1, .i32⟩
  | 106 => ⟨S128x1, .i32⟩
  | 107 => ⟨S_, .i32⟩
  | 108 => ⟨S128x1, .i32⟩
  | 109 => ⟨S128x1, .i1⟩
  | 110 => ⟨S128x1, .i32⟩
  | 111 => ⟨S128x1, .i32⟩
  | 112 => ⟨S_, .i32⟩
  | 113 => ⟨S128x1, .i32⟩
  | 114 => ⟨S128x1, .i1⟩
  | 115 => ⟨S128x1, .i1⟩
  | 116 => ⟨S_, .i32⟩
  | 117 => ⟨S128x1, .i32⟩
  | 118 => ⟨S128x1, .i32⟩
  | 119 => ⟨S128x1, .i32⟩
  | 120 => ⟨S128x128, .i32⟩
  | 121 => ⟨S128x128, .i32⟩
  | 122 => ⟨S128x128, .i1⟩
  | 123 => ⟨S1x128x128, .i1⟩
  | 124 => ⟨S_, .f32⟩
  | 125 => ⟨S_, .f32⟩
  | 126 => ⟨S8x128x128, .i1⟩
  | 127 => ⟨S8x128x128, .f32⟩
  | _ => ⟨S2x2048x1024, .f32⟩

abbrev hbmTy0_1 (i : Nat) : BufTy := match i % 128 with
  | 0 => ⟨S8x128x128, .f32⟩
  | 1 => ⟨S_, .f32⟩
  | 2 => ⟨S8x128x128, .f32⟩
  | 3 => ⟨S8x128x128, .f32⟩
  | 4 => ⟨S8x2x16x128x128, .f32⟩
  | 5 => ⟨S2x16x128x8x128, .f32⟩
  | 6 => ⟨S128x8, .f32⟩
  | 7 => ⟨S1x1x128x8x1, .f32⟩
  | 8 => ⟨S2x16x128x8x128, .f32⟩
  | 9 => ⟨S2x16x128x8x128, .f32⟩
  | 10 => ⟨S2x2048x1024, .f32⟩
  | 11 => ⟨S2x2048x1024, .f32⟩
  | 12 => ⟨S2x2048x2048, .f32⟩
  | 13 => ⟨S4096x2048, .f32⟩
  | 14 => ⟨S4096x2048, .bf16⟩
  | 15 => ⟨S4096x1024, .f32⟩
  | 16 => ⟨S4096x1024, .bf16⟩
  | 17 => ⟨S4096x1024, .f32⟩
  | 18 => ⟨S4096x1024, .bf16⟩
  | _ => ⟨S2x2048x1024, .f32⟩

abbrev hbmTy (i : Nat) : BufTy := match i / 128 with
  | 0 => hbmTy0_0 i
  | 1 => hbmTy0_1 i
  | _ => ⟨S2x2048x1024, .f32⟩

abbrev bufTy : (tb : Table) → Fin (tcTables nBuf tb) → BufTy
  | .hbm, ⟨i, _⟩ => hbmTy i
  | _, _ => ⟨S2x2048x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_cst : Ref sig .tc := ⟨.hbm, 7, rfl⟩
abbrev main_v1 : Ref sig .tc := ⟨.hbm, 8, rfl⟩
abbrev main_v2 : Ref sig .tc := ⟨.hbm, 9, rfl⟩
abbrev main_cst_0 : Ref sig .tc := ⟨.hbm, 10, rfl⟩
abbrev main_v3 : Ref sig .tc := ⟨.hbm, 11, rfl⟩
abbrev main_v4 : Ref sig .tc := ⟨.hbm, 12, rfl⟩
abbrev main_cst_1 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_cst_2 : Ref sig .tc := ⟨.hbm, 23, rfl⟩
abbrev main_v14 : Ref sig .tc := ⟨.hbm, 24, rfl⟩
abbrev main_v15 : Ref sig .tc := ⟨.hbm, 25, rfl⟩
abbrev main_cst_3 : Ref sig .tc := ⟨.hbm, 26, rfl⟩
abbrev main_v16 : Ref sig .tc := ⟨.hbm, 27, rfl⟩
abbrev main_v17 : Ref sig .tc := ⟨.hbm, 28, rfl⟩
abbrev main_cst_4 : Ref sig .tc := ⟨.hbm, 29, rfl⟩
abbrev main_v18 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_v22 : Ref sig .tc := ⟨.hbm, 34, rfl⟩
abbrev main_v23 : Ref sig .tc := ⟨.hbm, 35, rfl⟩
abbrev main_v24 : Ref sig .tc := ⟨.hbm, 36, rfl⟩
abbrev main_v25 : Ref sig .tc := ⟨.hbm, 37, rfl⟩
abbrev main_v26 : Ref sig .tc := ⟨.hbm, 38, rfl⟩
abbrev main_cst_5 : Ref sig .tc := ⟨.hbm, 39, rfl⟩
abbrev main_v27 : Ref sig .tc := ⟨.hbm, 40, rfl⟩
abbrev main_v28 : Ref sig .tc := ⟨.hbm, 41, rfl⟩
abbrev main_cst_6 : Ref sig .tc := ⟨.hbm, 42, rfl⟩
abbrev main_v29 : Ref sig .tc := ⟨.hbm, 43, rfl⟩
abbrev main_v30 : Ref sig .tc := ⟨.hbm, 44, rfl⟩
abbrev main_v31 : Ref sig .tc := ⟨.hbm, 45, rfl⟩
abbrev main_cst_7 : Ref sig .tc := ⟨.hbm, 46, rfl⟩
abbrev main_v32 : Ref sig .tc := ⟨.hbm, 47, rfl⟩
abbrev main_v33 : Ref sig .tc := ⟨.hbm, 48, rfl⟩
abbrev main_v34 : Ref sig .tc := ⟨.hbm, 49, rfl⟩
abbrev main_v35 : Ref sig .tc := ⟨.hbm, 50, rfl⟩
abbrev main_v36 : Ref sig .tc := ⟨.hbm, 51, rfl⟩
abbrev main_v37 : Ref sig .tc := ⟨.hbm, 52, rfl⟩
abbrev main_v38 : Ref sig .tc := ⟨.hbm, 53, rfl⟩
abbrev main_cst_8 : Ref sig .tc := ⟨.hbm, 54, rfl⟩
abbrev main_v39 : Ref sig .tc := ⟨.hbm, 55, rfl⟩
abbrev main_v40 : Ref sig .tc := ⟨.hbm, 56, rfl⟩
abbrev main_cst_9 : Ref sig .tc := ⟨.hbm, 57, rfl⟩
abbrev main_v41 : Ref sig .tc := ⟨.hbm, 58, rfl⟩
abbrev main_v42 : Ref sig .tc := ⟨.hbm, 59, rfl⟩
abbrev main_v43 : Ref sig .tc := ⟨.hbm, 60, rfl⟩
abbrev main_v44 : Ref sig .tc := ⟨.hbm, 61, rfl⟩
abbrev main_v45 : Ref sig .tc := ⟨.hbm, 62, rfl⟩
abbrev main_cst_10 : Ref sig .tc := ⟨.hbm, 63, rfl⟩
abbrev main_v46 : Ref sig .tc := ⟨.hbm, 64, rfl⟩
abbrev main_v47 : Ref sig .tc := ⟨.hbm, 65, rfl⟩
abbrev main_cst_11 : Ref sig .tc := ⟨.hbm, 66, rfl⟩
abbrev main_v48 : Ref sig .tc := ⟨.hbm, 67, rfl⟩
abbrev main_v49 : Ref sig .tc := ⟨.hbm, 68, rfl⟩
abbrev main_v50 : Ref sig .tc := ⟨.hbm, 69, rfl⟩
abbrev main_v51 : Ref sig .tc := ⟨.hbm, 70, rfl⟩
abbrev main_cst_12 : Ref sig .tc := ⟨.hbm, 71, rfl⟩
abbrev main_v52 : Ref sig .tc := ⟨.hbm, 72, rfl⟩
abbrev main_v53 : Ref sig .tc := ⟨.hbm, 73, rfl⟩
abbrev main_v54 : Ref sig .tc := ⟨.hbm, 74, rfl⟩
abbrev main_v55 : Ref sig .tc := ⟨.hbm, 75, rfl⟩
abbrev main_v56 : Ref sig .tc := ⟨.hbm, 76, rfl⟩
abbrev main_v57 : Ref sig .tc := ⟨.hbm, 77, rfl⟩
abbrev main_v58 : Ref sig .tc := ⟨.hbm, 78, rfl⟩
abbrev main_v59 : Ref sig .tc := ⟨.hbm, 79, rfl⟩
abbrev main_v60 : Ref sig .tc := ⟨.hbm, 80, rfl⟩
abbrev main_v61 : Ref sig .tc := ⟨.hbm, 81, rfl⟩
abbrev main_v62 : Ref sig .tc := ⟨.hbm, 82, rfl⟩
abbrev main_c : Ref sig .tc := ⟨.hbm, 83, rfl⟩
abbrev main_call0_v0 : Ref sig .tc := ⟨.hbm, 84, rfl⟩
abbrev main_call0_v1 : Ref sig .tc := ⟨.hbm, 85, rfl⟩
abbrev main_call0_v2 : Ref sig .tc := ⟨.hbm, 86, rfl⟩
abbrev main_call0_v3 : Ref sig .tc := ⟨.hbm, 87, rfl⟩
abbrev main_call0_v4 : Ref sig .tc := ⟨.hbm, 88, rfl⟩
abbrev main_call0_v5 : Ref sig .tc := ⟨.hbm, 89, rfl⟩
abbrev main_call0_v6 : Ref sig .tc := ⟨.hbm, 90, rfl⟩
abbrev main_call0_v7 : Ref sig .tc := ⟨.hbm, 91, rfl⟩
abbrev main_call0_v8 : Ref sig .tc := ⟨.hbm, 92, rfl⟩
abbrev main_call0_c : Ref sig .tc := ⟨.hbm, 93, rfl⟩
abbrev main_call0_v9 : Ref sig .tc := ⟨.hbm, 94, rfl⟩
abbrev main_call0_v10 : Ref sig .tc := ⟨.hbm, 95, rfl⟩
abbrev main_call0_v11 : Ref sig .tc := ⟨.hbm, 96, rfl⟩
abbrev main_call0_c_0 : Ref sig .tc := ⟨.hbm, 97, rfl⟩
abbrev main_call0_v12 : Ref sig .tc := ⟨.hbm, 98, rfl⟩
abbrev main_call0_v13 : Ref sig .tc := ⟨.hbm, 99, rfl⟩
abbrev main_v63 : Ref sig .tc := ⟨.hbm, 100, rfl⟩
abbrev main_v64 : Ref sig .tc := ⟨.hbm, 101, rfl⟩
abbrev main_c_13 : Ref sig .tc := ⟨.hbm, 102, rfl⟩
abbrev main_call1_v0 : Ref sig .tc := ⟨.hbm, 103, rfl⟩
abbrev main_call1_v1 : Ref sig .tc := ⟨.hbm, 104, rfl⟩
abbrev main_call1_v2 : Ref sig .tc := ⟨.hbm, 105, rfl⟩
abbrev main_call1_v3 : Ref sig .tc := ⟨.hbm, 106, rfl⟩
abbrev main_call1_v4 : Ref sig .tc := ⟨.hbm, 107, rfl⟩
abbrev main_call1_v5 : Ref sig .tc := ⟨.hbm, 108, rfl⟩
abbrev main_call1_v6 : Ref sig .tc := ⟨.hbm, 109, rfl⟩
abbrev main_call1_v7 : Ref sig .tc := ⟨.hbm, 110, rfl⟩
abbrev main_call1_v8 : Ref sig .tc := ⟨.hbm, 111, rfl⟩
abbrev main_call1_c : Ref sig .tc := ⟨.hbm, 112, rfl⟩
abbrev main_call1_v9 : Ref sig .tc := ⟨.hbm, 113, rfl⟩
abbrev main_call1_v10 : Ref sig .tc := ⟨.hbm, 114, rfl⟩
abbrev main_call1_v11 : Ref sig .tc := ⟨.hbm, 115, rfl⟩
abbrev main_call1_c_0 : Ref sig .tc := ⟨.hbm, 116, rfl⟩
abbrev main_call1_v12 : Ref sig .tc := ⟨.hbm, 117, rfl⟩
abbrev main_call1_v13 : Ref sig .tc := ⟨.hbm, 118, rfl⟩
abbrev main_v65 : Ref sig .tc := ⟨.hbm, 119, rfl⟩
abbrev main_v66 : Ref sig .tc := ⟨.hbm, 120, rfl⟩
abbrev main_v67 : Ref sig .tc := ⟨.hbm, 121, rfl⟩
abbrev main_v68 : Ref sig .tc := ⟨.hbm, 122, rfl⟩
abbrev main_v69 : Ref sig .tc := ⟨.hbm, 123, rfl⟩
abbrev main_cst_14 : Ref sig .tc := ⟨.hbm, 124, rfl⟩
abbrev main_call2_v0 : Ref sig .tc := ⟨.hbm, 125, rfl⟩
abbrev main_call2_v1 : Ref sig .tc := ⟨.hbm, 126, rfl⟩
abbrev main_call2_v2 : Ref sig .tc := ⟨.hbm, 127, rfl⟩
abbrev main_v70 : Ref sig .tc := ⟨.hbm, 128, rfl⟩
abbrev main_cst_15 : Ref sig .tc := ⟨.hbm, 129, rfl⟩
abbrev main_v71 : Ref sig .tc := ⟨.hbm, 130, rfl⟩
abbrev main_v72 : Ref sig .tc := ⟨.hbm, 131, rfl⟩
abbrev main_v73 : Ref sig .tc := ⟨.hbm, 132, rfl⟩
abbrev main_v74 : Ref sig .tc := ⟨.hbm, 133, rfl⟩
abbrev main_v75 : Ref sig .tc := ⟨.hbm, 134, rfl⟩
abbrev main_v76 : Ref sig .tc := ⟨.hbm, 135, rfl⟩
abbrev main_v77 : Ref sig .tc := ⟨.hbm, 136, rfl⟩
abbrev main_v78 : Ref sig .tc := ⟨.hbm, 137, rfl⟩
abbrev main_v79 : Ref sig .tc := ⟨.hbm, 138, rfl⟩
abbrev main_v80 : Ref sig .tc := ⟨.hbm, 139, rfl⟩
abbrev main_v81 : Ref sig .tc := ⟨.hbm, 140, rfl⟩
abbrev main_v82 : Ref sig .tc := ⟨.hbm, 141, rfl⟩
abbrev main_v83 : Ref sig .tc := ⟨.hbm, 142, rfl⟩
abbrev main_v84 : Ref sig .tc := ⟨.hbm, 143, rfl⟩
abbrev main_v85 : Ref sig .tc := ⟨.hbm, 144, rfl⟩
abbrev main_v86 : Ref sig .tc := ⟨.hbm, 145, rfl⟩
abbrev main_v87 : Ref sig .tc := ⟨.hbm, 146, rfl⟩

abbrev nD : Nat := 1
abbrev τ : Topo := Topo.v7x

variable {F : FTy → Type} [FloatOps F]
-- ==== Proof.Reals.lean ====
/- Finite extended reals: sums, quotients and the reciprocal root of real arguments are real, and the constants the
   programs print are these reals. `var`, `rstd` are the root-mean-square norm's quantities of one row of 1024, and
   `norm_bwd` is the identity between the gradient written with the normalised row and the gradient through the rows. -/
module

public import Idealize.ShloMosaic.Lib.Pointwise
public import Idealize.ShloMosaic.Lib.ReduceAll
public import Idealize.ShloMosaic.Lib.Pipeline.ValueKit
public import Idealize.ShloMosaic.Lib.Pointwise.Select

@[expose] public section

noncomputable section

namespace Cert.Reals

open Idealize.ShloMosaic

/-! ## Real arithmetic inside the extended reals -/

theorem add_real (a b : ℝ) : (a : EReal) + (b : EReal) = ((a + b : ℝ) : EReal) := (EReal.coe_add a b).symm
theorem sub_real (a b : ℝ) : (a : EReal) - (b : EReal) = ((a - b : ℝ) : EReal) := (EReal.coe_sub a b).symm
theorem mul_real (a b : ℝ) : (a : EReal) * (b : EReal) = ((a * b : ℝ) : EReal) := (EReal.coe_mul a b).symm
theorem neg_real (a : ℝ) : -(a : EReal) = ((-a : ℝ) : EReal) := (EReal.coe_neg a).symm

theorem sum_real {ι : Type*} (s : Finset ι) (f : ι → ℝ) : ∑ k ∈ s, (f k : EReal) = ((∑ k ∈ s, f k : ℝ) : EReal) :=
  (map_sum (⟨⟨fun x : ℝ => (x : EReal), EReal.coe_zero⟩, EReal.coe_add⟩ : ℝ →+ EReal) f s).symm

theorem div_real (a : ℝ) {b : ℝ} (h : b ≠ 0) : Ideal.div (a : EReal) (b : EReal) = ((a / b : ℝ) : EReal) := by
  rw [Ideal.div_coe h, mul_real, mul_one_div]

theorem rsqrt_real {a : ℝ} (h : 0 < a) : Ideal.rsqrt (a : EReal) = (((Real.sqrt a)⁻¹ : ℝ) : EReal) := by
  rw [Ideal.rsqrt_coe, if_neg (not_lt.mpr h.le), if_neg h.ne']

/-! ## The printed constants -/

/-- The f32 nearest to 10⁻⁶. -/
def eps : ℝ := 8796093 / 2 ^ 43

theorem eps_pos : 0 < eps := by unfold eps; positivity

theorem bits_eps : Ideal.ofBits .f32 0x358637BD#32 = (eps : EReal) := by
  simp [Ideal.ofBits, Ideal.ieee, -EReal.coe_mul, eps]; norm_num
theorem bits_1024 : Ideal.ofBits .f32 0x44800000#32 = ((1024 : ℝ) : EReal) := by
  simp [Ideal.ofBits, Ideal.ieee, -EReal.coe_mul]; norm_num
theorem bits_inv_1024 : Ideal.ofBits .f32 0x3A800000#32 = ((1 / 1024 : ℝ) : EReal) := by
  simp [Ideal.ofBits, Ideal.ieee, -EReal.coe_mul]; norm_num
theorem bits_one : Ideal.ofBits .f32 0x3F800000#32 = ((1 : ℝ) : EReal) := by
  simp [Ideal.ofBits, Ideal.ieee, -EReal.coe_mul]; norm_num
theorem bits_zero : Ideal.ofBits .f32 0x00000000#32 = ((0 : ℝ) : EReal) := by
  simp [Ideal.ofBits, Ideal.ieee]
theorem bits_half : Ideal.ofBits .f32 0x3F000000#32 = ((1 / 2 : ℝ) : EReal) := by
  simp [Ideal.ofBits, Ideal.ieee, -EReal.coe_mul]; norm_num
theorem bits_neg_half : Ideal.ofBits .f32 0xBF000000#32 = ((-(1 / 2) : ℝ) : EReal) := by
  simp [Ideal.ofBits, Ideal.ieee, -EReal.coe_mul, -EReal.coe_neg]; norm_num
theorem bits_two : Ideal.ofBits .f32 0x40000000#32 = ((2 : ℝ) : EReal) := by
  simp [Ideal.ofBits, Ideal.ieee, -EReal.coe_mul]; norm_num
theorem bits_inf : Ideal.ofBits .f32 0x7F800000#32 = ⊤ := by
  simp [Ideal.ofBits, Ideal.ieee]

/-! ## Sums over the leading axes -/

/-- The host's sum over the two leading axes, at a coordinate of the last. -/
@[pointwise] theorem sum_leading {a b n : ℕ} (h : (⟨3, ![a, b, n]⟩ : Shape).ReducesTo [0, 1] ⟨1, ![n]⟩)
    (v : (⟨3, ![a, b, n]⟩ : Shape).Idx → EReal) (init : EReal) (d : Fin n) :
    Ideal.hostReduceAdd h v init (ix1 d) = init + ∑ p : Fin a, ∑ q : Fin b, v (ix3 p q d) := by
  have fiber : ∀ i : (⟨3, ![a, b, n]⟩ : Shape).Idx, h.drop i = ix1 d ↔ ∃ k : Fin a × Fin b, ix3 k.1 k.2 d = i := fun i => by
    constructor
    · intro e
      refine ⟨(i 0, i 1), funext fun x => Fin.ext ?_⟩
      have e0 : (i 2).val = d.val := congrArg Fin.val (congrFun e 0)
      match x with
      | ⟨0, _⟩ => rfl
      | ⟨1, _⟩ => rfl
      | ⟨2, _⟩ => exact e0.symm
    · rintro ⟨k, rfl⟩
      refine funext fun x => Fin.ext ?_
      match x with
      | ⟨0, _⟩ => rfl
  refine congrArg (init + ·) ?_
  rw [Finset.sum_filter_eq_sum_of_fiber _ (fun k : Fin a × Fin b => (ix3 k.1 k.2 d : (⟨3, ![a, b, n]⟩ : Shape).Idx))
    (fun _ _ e => Prod.ext (congrFun e 0) (congrFun e 1)) fiber v, Fintype.sum_prod_type]

/-! ## Finite arrays -/

/-- `jnp.abs(x) < jnp.inf` at every index: `x` is real. -/
theorem real_of_finite {s u : Shape} {axes : List (Fin s.rank)} (x : FVec Ideal s .f32)
    (hb : (⟨0, ![]⟩ : Shape).BroadcastsInDim s (![] : Fin 0 → Fin s.rank)) (h : s.ReducesTo axes ⟨0, ![]⟩)
    (hu : 0 < u.numel) (init : u.Idx → BitVec 1) (j : (⟨0, ![]⟩ : Shape).Idx)
    (e : Host.reduce IntOp.andi (cmpf .olt (Host.absf x) (broadcastInDim s ![] hb (constant (F := Ideal) ⟨0, ![]⟩ .f32 0x7F800000#32)))
      init h hu j = 1#1) (i : s.Idx) : x i = ((x i).toReal : EReal) := by
  have hs : Subsingleton (⟨0, ![]⟩ : Shape).Idx := ⟨fun a b => funext fun d => d.elim0⟩
  have e1 := Host.reduce_andi_all _ init h hu j e i
  have e2 : max (x i) (-(x i)) < (⊤ : EReal) := by
    rw [← bits_inf]; exact (Ideal.cmp_olt_eq_one _ _).mp e1
  refine (EReal.coe_toReal (fun ht => ?_) fun hbot => ?_).symm
  · rw [ht] at e2; simp at e2
  · rw [hbot] at e2; simp at e2

/-- A conjunction that is one everywhere has both sides one everywhere. -/
theorem both_of_and {s : Shape} {a b : IVec s 1} (h : andi a b = fun _ => 1#1) : a = (fun _ => 1#1) ∧ b = fun _ => 1#1 :=
  ⟨funext fun i => (IntOp.andi_eq_one.mp (congrFun h i)).1, funext fun i => (IntOp.andi_eq_one.mp (congrFun h i)).2⟩

/-- The real rows of a batch of two sequences of 2048 rows, the sequences end to end. -/
def rows {n : ℕ} (A : FVec Ideal ⟨3, ![2, 2048, n]⟩ .f32) (r : Fin 4096) (d : Fin n) : ℝ :=
  (A (ix3 ⟨r.val / 2048, by omega⟩ ⟨r.val % 2048, by omega⟩ d)).toReal

/-- The real entries of a vector. -/
def entries {n : ℕ} (A : FVec Ideal ⟨1, ![n]⟩ .f32) (d : Fin n) : ℝ := (A (ix1 d)).toReal

/-- Row `s` of sequence `b`. -/
abbrev row (b : Fin 2) (s : Fin 2048) : Fin 4096 := ⟨2048 * b + s, by omega⟩

theorem row_split (r : Fin 4096) (hb : r.val / 2048 < 2) (hs : r.val % 2048 < 2048) : row ⟨r.val / 2048, hb⟩ ⟨r.val % 2048, hs⟩ = r :=
  Fin.ext (Nat.div_add_mod r.val 2048)

theorem sum_rows (f : Fin 4096 → ℝ) : ∑ b, ∑ s, f (row b s) = ∑ r, f r := by
  refine Fin.sum_mul_add_congr (L := 4096) (S := 2) (n := 2048) (F := fun b s => f (row b s)) fun b s hl => ?_
  exact congrArg f (Fin.ext (by show 2048 * b.val + s.val = b.val * 2048 + s.val; omega))

theorem rows_real {n : ℕ} {A : FVec Ideal ⟨3, ![2, 2048, n]⟩ .f32} (h : ∀ i, A i = ((A i).toReal : EReal)) (b : Fin 2) (s : Fin 2048)
    (d : Fin n) : A (ix3 b s d) = (rows A (row b s) d : EReal) := by
  rw [h]; unfold rows
  congr 3
  have hb : (2048 * b.val + s.val) / 2048 = b.val := by omega
  have hs : (2048 * b.val + s.val) % 2048 = s.val := by omega
  congr 1 <;> exact Fin.ext (by simp only [hb, hs])

theorem entries_real {n : ℕ} {A : FVec Ideal ⟨1, ![n]⟩ .f32} (h : ∀ i, A i = ((A i).toReal : EReal)) (d : Fin n) :
    A (ix1 d) = (entries A d : EReal) := h _

/-- The real entries of a matrix. -/
def matrix {n k : ℕ} (A : FVec Ideal ⟨2, ![n, k]⟩ .f32) (i : Fin n) (j : Fin k) : ℝ := (A (ix2 i j)).toReal

theorem matrix_real {n k : ℕ} {A : FVec Ideal ⟨2, ![n, k]⟩ .f32} (h : ∀ i, A i = ((A i).toReal : EReal)) (i : Fin n) (j : Fin k) :
    A (ix2 i j) = (matrix A i j : EReal) := h _

/-- Reading a run of whole rows. -/
theorem ld_rows {n k n' : ℕ} {e : EltTy} (A : Vec Ideal ⟨2, ![n, k]⟩ e) {o : ℕ} (inb) (j : Fin n') (d : Fin k) (hj : o + j.val < n) :
    View.ld A (Rect.unit ![o, 0] ![n', k] inb) (ix2 j d) = A (ix2 ⟨o + j.val, hj⟩ d) := by
  pointwise; blk_ext <;> first | rfl | exact Nat.zero_add _

/-- Reading a run of whole columns. -/
theorem ld_cols {n k k' : ℕ} {e : EltTy} (A : Vec Ideal ⟨2, ![n, k]⟩ e) {o : ℕ} (inb) (r : Fin n) (j : Fin k') (hj : o + j.val < k) :
    View.ld A (Rect.unit ![0, o] ![n, k'] inb) (ix2 r j) = A (ix2 r ⟨o + j.val, hj⟩) := by
  pointwise; blk_ext <;> first | rfl | exact Nat.zero_add _

/-! ## The logistic function -/

/-- The logistic function. -/
def sig (z : ℝ) : ℝ := (1 + Real.exp (-z))⁻¹

theorem logistic_real (z : ℝ) : Ideal.logistic (z : EReal) = (sig z : EReal) := Ideal.logistic_coe z

theorem exp_real (z : ℝ) : Ideal.exp (z : EReal) = (Real.exp z : EReal) := Ideal.exp_coe z

theorem one_add_exp_ne_zero (z : ℝ) : 1 + Real.exp z ≠ 0 := (add_pos one_pos (Real.exp_pos z)).ne'

/-- The quotient a host program writes for the logistic function. -/
theorem div_one_add_exp (z : ℝ) : Ideal.div 1 (1 + (Real.exp (-z) : EReal)) = (sig z : EReal) :=
  (div_real 1 (one_add_exp_ne_zero (-z))).trans (congrArg _ (one_div _))

theorem one_sub_real (a : ℝ) : (1 : EReal) - (a : EReal) = ((1 - a : ℝ) : EReal) := sub_real 1 a
theorem one_add_real (a : ℝ) : (1 : EReal) + (a : EReal) = ((1 + a : ℝ) : EReal) := add_real 1 a

/-! ## The root-mean-square norm of one row -/

/-- The row's mean square plus `eps`. -/
def var (x : Fin 1024 → ℝ) : ℝ := (∑ k, x k * x k) / 1024 + eps

/-- One over the root of `var`. -/
def rstd (x : Fin 1024 → ℝ) : ℝ := (Real.sqrt (var x))⁻¹

theorem var_pos (x : Fin 1024 → ℝ) : 0 < var x :=
  add_pos_of_nonneg_of_pos (div_nonneg (Finset.sum_nonneg fun k _ => mul_self_nonneg (x k)) (by norm_num)) eps_pos

theorem var_ne_zero (x : Fin 1024 → ℝ) : var x ≠ 0 := (var_pos x).ne'

theorem rstd_sq (x : Fin 1024 → ℝ) : rstd x * rstd x = 1 / var x := by
  unfold rstd
  rw [← mul_inv, Real.mul_self_sqrt (var_pos x).le, one_div]

theorem var_def (x : Fin 1024 → ℝ) : (∑ k, x k * x k) / 1024 + eps = var x := rfl

theorem rsqrt_var (x : Fin 1024 → ℝ) : Ideal.rsqrt (var x : EReal) = (rstd x : EReal) := rsqrt_real (var_pos x)

theorem div_1024 (a : ℝ) : Ideal.div (a : EReal) ((1024 : ℝ) : EReal) = ((a / 1024 : ℝ) : EReal) := div_real a (by norm_num)

theorem div_var (a : ℝ) (x : Fin 1024 → ℝ) : Ideal.div (a : EReal) (var x : EReal) = ((a / var x : ℝ) : EReal) :=
  div_real a (var_ne_zero x)

/-- The row's gradient through the norm, `u` being the cotangent of the normalised row. -/
def normBwd (x u : Fin 1024 → ℝ) (d : Fin 1024) : ℝ :=
  rstd x * (u d - x d * rstd x * ((∑ k, u k * (x k * rstd x)) / 1024))

/-- The gradient as the chain rule writes it: through the row and, twice, through its square. -/
theorem norm_bwd (x u : Fin 1024 → ℝ) (d : Fin 1024) :
    u d * rstd x + x d * ((∑ k, x k * u k) * (-(1 / 2) * (rstd x / var x)) / 1024)
        + (∑ k, x k * u k) * (-(1 / 2) * (rstd x / var x)) / 1024 * x d
      = normBwd x u d := by
  have h : ∑ k, u k * (x k * rstd x) = (∑ k, x k * u k) * rstd x := by
    rw [Finset.sum_mul]; exact Finset.sum_congr rfl fun k _ => by ring
  have hv : rstd x / var x = rstd x * (rstd x * rstd x) := by rw [rstd_sq]; ring
  unfold normBwd
  rw [h, hv]; ring

/-- The same with the residual's cotangent in front. -/
theorem norm_bwd_add (c : ℝ) (x u : Fin 1024 → ℝ) (d : Fin 1024) :
    c + u d * rstd x + x d * ((∑ k, x k * u k) * (-(1 / 2) * (rstd x / var x)) / 1024)
        + (∑ k, x k * u k) * (-(1 / 2) * (rstd x / var x)) / 1024 * x d
      = c + normBwd x u d := by
  rw [← norm_bwd]; ring

theorem row_exists (n : Fin 4096) : ∃ b s, n = row b s :=
  ⟨⟨n.val / 2048, by omega⟩, ⟨n.val % 2048, by omega⟩, (row_split n (by omega) (by omega)).symm⟩

/-- Two sequences of rows laid out as one list of rows. -/
theorem flat {h : (⟨3, ![2, 2048, 1024]⟩ : Shape).ShapeCasts ⟨2, ![4096, 1024]⟩} (A : FVec Ideal ⟨3, ![2, 2048, 1024]⟩ .f32) (b : Fin 2) (s : Fin 2048) (d : Fin 1024) :
    shapeCast ⟨2, ![4096, 1024]⟩ A h (ix2 (row b s) d) = A (ix3 b s d) := by
  pointwise
  have hb : (2048 * b.val + s.val) / 2048 = b.val := by omega
  have hs : (2048 * b.val + s.val) % 2048 = s.val := by omega
  simp only [hb, hs]

end Cert.Reals

end
-- ==== Proof.LossReal.lean ====
/- The final norm and loss's backward kernel on real blocks: each payload of one point as the real quantity it holds. -/
module

public import proofs.«01_k».proof.Proof.Reals
public import proofs.«01_k».proof.Proof.Gen.LossBwdIdeal.Value

@[expose] public section

set_option maxRecDepth 16384

noncomputable section

namespace Cert.Reals

open Idealize.ShloMosaic

/-- The scaled row less its target. -/
def err (x g y : Fin 1024 → ℝ) (d : Fin 1024) : ℝ := x d * rstd x * g d - y d

/-- One row's loss: half the mean of the error's squares. -/
def rowLoss (x g y : Fin 1024 → ℝ) : ℝ := (∑ d, err x g y d * err x g y d) / 1024

/-- One row's part of the gain's gradient. -/
def rowGain (x g y : Fin 1024 → ℝ) (d : Fin 1024) : ℝ := err x g y d * (1 / 1024) * (x d * rstd x)

/-- The loss's gradient at the row. -/
def rowGrad (x g y : Fin 1024 → ℝ) (d : Fin 1024) : ℝ := normBwd x (fun k => err x g y k * (1 / 1024) * g k) d

end Cert.Reals

namespace Cert.LossBwdIdeal.Value

open Cert.LossBwdIdeal Cert.LossBwdIdeal.Gen Cert.Reals Idealize.ShloMosaic

/-- One over the row's length. -/
abbrev invD : Ideal .f32 := Scalar.ofBits .f32 0x3A800000#32

abbrev lossStep (x : Vec Ideal S512x1024 .f32) (g : Vec Ideal S1x1024 .f32) (y : Vec Ideal S512x1024 .f32) (l : Vec Ideal S8x128 .f32) :=
  k0_pay10 x g y l
abbrev gainStep (x : Vec Ideal S512x1024 .f32) (g : Vec Ideal S1x1024 .f32) (y : Vec Ideal S512x1024 .f32) (dg : Vec Ideal S1x1024 .f32) :=
  k0_pay2 (k0_pay8 x) (k0_pay9 x g y) invD dg
abbrev rowsStep (x : Vec Ideal S512x1024 .f32) (g : Vec Ideal S1x1024 .f32) (y : Vec Ideal S512x1024 .f32) :=
  k0_pay3 (k0_pay7 x) (k0_pay8 x) (k0_pay9 x g y) invD g

section Block

variable {x : Vec Ideal S512x1024 .f32} {g : Vec Ideal S1x1024 .f32} {y : Vec Ideal S512x1024 .f32}
  {X : Fin 512 → Fin 1024 → ℝ} {G : Fin 1024 → ℝ} {Y : Fin 512 → Fin 1024 → ℝ}
  (hx : ∀ r d, x (ix2 r d) = (X r d : EReal)) (hg : ∀ d, g (ix2 0 d) = (G d : EReal)) (hy : ∀ r d, y (ix2 r d) = (Y r d : EReal))

include hx in
theorem rstd_block (r : Fin 512) : k0_pay7 x (ix2 r 0) = (rstd (X r) : EReal) := by
  pointwise [k0_pay7, k0_pay6]
  simp only [hx, bits_1024, bits_eps, mul_real, sum_real, div_1024, add_real, var_def, rsqrt_var]

include hx in
theorem hat_block (r : Fin 512) (d : Fin 1024) : k0_pay8 x (ix2 r d) = ((X r d * rstd (X r) : ℝ) : EReal) := by
  pointwise [k0_pay8, k0_pay6]
  simp only [hx, rstd_block hx, mul_real]

include hx hg hy in
theorem err_block (r : Fin 512) (d : Fin 1024) : k0_pay9 x g y (ix2 r d) = (err (X r) G (Y r) d : EReal) := by
  pointwise [k0_pay9]
  simp only [hat_block hx, hg, hy, mul_real, sub_real]
  rfl

include hx hg hy in
theorem loss_block (l : Vec Ideal S8x128 .f32) (a : Fin 8) (b : Fin 128) :
    lossStep x g y l (ix2 a b) = l (ix2 a b) + ((1 / 2 * ∑ r, rowLoss (X r) G (Y r) : ℝ) : EReal) := by
  pointwise [k0_pay10]
  simp only [err_block hx hg hy, bits_1024, bits_half, Fin.sum_univ_one, mul_real, sum_real, div_1024]
  rfl

include hx hg hy in
theorem gain_block (dg : Vec Ideal S1x1024 .f32) (d : Fin 1024) :
    gainStep x g y dg (ix2 0 d) = dg (ix2 0 d) + ((∑ r, rowGain (X r) G (Y r) d : ℝ) : EReal) := by
  pointwise [k0_pay2, k0_pay1]
  simp only [err_block hx hg hy, hat_block hx, bits_inv_1024, mul_real, sum_real]
  rfl

include hx hg hy in
theorem rows_block (r : Fin 512) (d : Fin 1024) : rowsStep x g y (ix2 r d) = (rowGrad (X r) G (Y r) d : EReal) := by
  pointwise [k0_pay3, k0_pay1]
  simp only [err_block hx hg hy, hat_block hx, rstd_block hx, hg, bits_inv_1024, bits_1024, mul_real, sum_real, div_1024, sub_real]
  rfl

end Block

end Cert.LossBwdIdeal.Value

end
-- ==== Proof.LossKernel.lean ====
/- The three arrays the final norm and loss's backward kernel leaves: the loss in every entry of its block, the gradient row by
   row, and the gain's gradient summed over all rows. -/
module

public import proofs.«01_k».proof.Proof.LossReal
public import Idealize.ShloMosaic.Lib.Pipeline.ValueKit
public import Idealize.ShloMosaic.Lib.Claim

@[expose] public section

set_option maxRecDepth 16384

noncomputable section

namespace Cert.LossBwdIdeal.Value

open Cert.LossBwdIdeal Cert.LossBwdIdeal.Gen Cert.Reals Idealize.ShloMosaic Idealize.ShloMosaic.TcCoe Idealize.SL.Sem
open Idealize.ShloMosaic.Pipeline (Dat)

variable (m : (ℓ : Loc nD τ sig) → Buf (Elt Ideal) ℓ) (c : Dev nD)

/-- The three arguments are real. -/
structure Real : Prop where
  x : ∀ i, (m ((c : Thread nD τ).loc main_arg0) : FVec Ideal S2x2048x1024 .f32) i = ((m ((c : Thread nD τ).loc main_arg0) i).toReal : EReal)
  g : ∀ i, (m ((c : Thread nD τ).loc main_arg1) : FVec Ideal S1024 .f32) i = ((m ((c : Thread nD τ).loc main_arg1) i).toReal : EReal)
  y : ∀ i, (m ((c : Thread nD τ).loc main_arg2) : FVec Ideal S2x2048x1024 .f32) i = ((m ((c : Thread nD τ).loc main_arg2) i).toReal : EReal)

abbrev X : Fin 4096 → Fin 1024 → ℝ := rows (m ((c : Thread nD τ).loc main_arg0))
abbrev G : Fin 1024 → ℝ := entries (m ((c : Thread nD τ).loc main_arg1))
abbrev Y : Fin 4096 → Fin 1024 → ℝ := rows (m ((c : Thread nD τ).loc main_arg2))

theorem idx : ∀ t : Fin cfg0.N, win0_0.index t = ![t.val, 0] ∧ win0_1.index t = ![0, 0] ∧ win0_2.index t = ![t.val, 0]
    ∧ win0_3.index t = ![0, 0] ∧ win0_4.index t = ![t.val, 0] ∧ win0_5.index t = ![0, 0] ∧ t.val < 8 :=
  (by decide +kernel : ∀ t : Fin grid0.N, _)

/-- Row `r` of block `t`. -/
def at_ (t : Fin 8) (r : Fin 512) : Fin 4096 := ⟨t.val * 512 + r.val, by omega⟩

abbrev pt (t : Fin cfg0.N) : Fin 8 := ⟨t.val, (idx t).2.2.2.2.2.2⟩

variable {m c}

theorem block_x (h : Real m c) (t : Fin cfg0.N) (r : Fin 512) (d : Fin 1024) :
    (iblk m c 0 t : Vec Ideal S512x1024 .f32) (ix2 r d) = (X m c (at_ (pt t) r) d : EReal) := by
  unfold X rows
  rw [← h.x]
  blk_point [iblk, V, idx t] <;> rfl

theorem block_g (h : Real m c) (t : Fin cfg0.N) (d : Fin 1024) :
    (iblk m c 1 t : Vec Ideal S1x1024 .f32) (ix2 0 d) = (G m c d : EReal) := by
  unfold G entries
  rw [← h.g]
  blk_point [iblk, V, idx t]

theorem block_y (h : Real m c) (t : Fin cfg0.N) (r : Fin 512) (d : Fin 1024) :
    (iblk m c 2 t : Vec Ideal S512x1024 .f32) (ix2 r d) = (Y m c (at_ (pt t) r) d : EReal) := by
  unfold Y rows
  rw [← h.y]
  blk_point [iblk, V, idx t] <;> rfl

/-- Summing a block's rows over the blocks sums all rows. -/
theorem sum_points (f : Fin 4096 → ℝ) : ∑ t : Fin cfg0.N, ∑ r, f (at_ (pt t) r) = ∑ n, f n :=
  Fin.sum_mul_add_congr (L := 4096) (S := 8) (n := 512) (F := fun t r => f (at_ t r)) fun t k hl => rfl

theorem rows_at (t : Fin cfg0.N) : (outsAt0 m c t.val t.isLt).2.1 = rowsStep (iblk m c 0 t) (iblk m c 1 t) (iblk m c 2 t) := by
  by_cases h0 : t.val % 8 = 0
  · rw [outsAt0_A m c t h0]; frame_out
  · rw [outsAt0_B m c t h0]; frame_out

theorem loss_last (h : Real m c) (i : S8x128.Idx) :
    (outsAt0 m c t0_7.val t0_7.isLt).1 i = ((1 / 2 * ∑ n, rowLoss (X m c n) (G m c) (Y m c n) : ℝ) : EReal) := by
  have hb := fun t : Fin cfg0.N => loss_block (block_x h t) (block_g h t) (block_y h t)
  rw [Pipeline.eq_sum_fin_of_reset_step_apply_last (fun n h => (outsAt0 m c n h).1) 8 (fun _ => (0 : EReal))
    (fun t _ => ((1 / 2 * ∑ r, rowLoss (X m c (at_ (pt t) r)) (G m c) (Y m c (at_ (pt t) r)) : ℝ) : EReal))
    (fun t h0 i => by
      idx_vars i
      rw [outsAt0_A m c t h0]; frame_out [hb t]
      pointwise [k0_pay4])
    (fun t h0 i => by
      idx_vars i
      rw [outsAt0_B m c t h0]; frame_out [hb t]) (le_of_eq N_0) t0_7 rfl]
  rw [sum_real, ← Finset.mul_sum, sum_points (fun n => rowLoss (X m c n) (G m c) (Y m c n)), zero_add]

theorem gain_last (h : Real m c) (d : Fin 1024) :
    (outsAt0 m c t0_7.val t0_7.isLt).2.2 (ix2 0 d) = ((∑ n, rowGain (X m c n) (G m c) (Y m c n) d : ℝ) : EReal) := by
  have hb := fun t : Fin cfg0.N => gain_block (block_x h t) (block_g h t) (block_y h t)
  rw [Pipeline.eq_sum_fin_of_reset_step_apply_last (fun n h (d : Fin 1024) => (outsAt0 m c n h).2.2 (ix2 0 d)) 8 (fun _ => (0 : EReal))
    (fun t d => ((∑ r, rowGain (X m c (at_ (pt t) r)) (G m c) (Y m c (at_ (pt t) r)) d : ℝ) : EReal))
    (fun t h0 i => by
      rw [outsAt0_A m c t h0]; frame_out [hb t]
      pointwise [k0_pay5])
    (fun t h0 i => by
      rw [outsAt0_B m c t h0]; frame_out [hb t]) (le_of_eq N_0) t0_7 rfl]
  rw [sum_real, sum_points (fun n => rowGain (X m c n) (G m c) (Y m c n) d), zero_add]

variable (m c) in
/-- The rows' gradient, as an array. -/
def gradRows : Vec Ideal S4096x1024 .f32 := fun i => (rowGrad (X m c (i 0)) (G m c) (Y m c (i 0)) (i 1) : EReal)

theorem emb_rows (t : Fin cfg0.N) (r : Fin 512) (d : Fin 1024) :
    ((cfg0.win 4).blk t).view.emb (ix2 r d) = (ix2 (at_ (pt t) r) d : S4096x1024.Idx) := by
  blk_ext [idx t] <;> rfl

theorem final_rows (h : Real m c) : (dats m 0 c).arrAt 4 cfg0.N = gradRows m c := by
  refine (dats m 0 c).arrAt_eq_of_covers 4 (gradRows m c) (by decide +kernel) fun t hf y => ?_
  blk_simp
  rw [after0_4, rows_at]
  idx_vars y
  exact (rows_block (block_x h t) (block_g h t) (block_y h t) y0 y1).trans (congrArg (gradRows m c) (emb_rows t y0 y1)).symm

/-- The loss, in every entry of its block. -/
theorem final_loss (h : Real m c) : ((dats m 0 c).arrAt 3 cfg0.N : Vec Ideal S8x128 .f32)
    = fun _ => ((1 / 2 * ∑ n, rowLoss (X m c n) (G m c) (Y m c n) : ℝ) : EReal) := by
  refine (dats m 0 c).arrAt_eq_of_after_last 3 t0_7 (by decide +kernel) _ fun y => ?_
  blk_simp
  rw [after0_3]
  exact loss_last h _

/-- The gain's gradient. -/
theorem final_gain (h : Real m c) : ((dats m 0 c).arrAt 5 cfg0.N : Vec Ideal S1x1024 .f32)
    = fun i => ((∑ n, rowGain (X m c n) (G m c) (Y m c n) (i 1) : ℝ) : EReal) := by
  refine (dats m 0 c).arrAt_eq_of_after_last 5 t0_7 (by decide +kernel) _ fun y => ?_
  blk_simp
  rw [after0_5]
  obtain ⟨a, d, rfl⟩ : ∃ (a : Fin 1) (d : Fin 1024), y = ix2 a d := ⟨y 0, y 1, by blk_ext⟩
  obtain rfl : a = 0 := Subsingleton.elim _ _
  exact gain_last h d

end Cert.LossBwdIdeal.Value

end
-- ==== Proof.LossRef.lean ====
/- The reference of the final norm and loss's gradients on real arguments: its three results as real quantities. -/
module

public import proofs.«01_k».proof.Proof.LossReal
public import proofs.«01_k».proof.Proof.Gen.LossRefIdeal.Run
public import Idealize.ShloMosaic.Lib.Claim

@[expose] public section

set_option maxRecDepth 16384

noncomputable section

namespace Cert.LossRefIdeal.Value

open Cert.LossRefIdeal Cert.LossRefIdeal.Gen Cert.Reals Idealize.ShloMosaic Idealize.ShloMosaic.TcCoe Idealize.SL.Sem

variable (m : (ℓ : Loc nD τ sig) → Buf (Elt Ideal) ℓ) (ρ : Dev nD → PrngReg)
  (X : Dev nD → Fin 4096 → Fin 1024 → ℝ) (G : Dev nD → Fin 1024 → ℝ) (Y : Dev nD → Fin 4096 → Fin 1024 → ℝ)

theorem real_run (hx : ∀ (c : Dev nD) b s d, (m ((c : Thread nD τ).loc main_arg0) : FVec Ideal S2x2048x1024 .f32) (ix3 b s d) = (X c (row b s) d : EReal))
    (hg : ∀ (c : Dev nD) d, (m ((c : Thread nD τ).loc main_arg1) : FVec Ideal S1024 .f32) (ix1 d) = (G c d : EReal))
    (hy : ∀ (c : Dev nD) b s d, (m ((c : Thread nD τ).loc main_arg2) : FVec Ideal S2x2048x1024 .f32) (ix3 b s d) = (Y c (row b s) d : EReal)) :
    θ_run defs (onTc (τ := τ) (main (F := Ideal))) ⟨m, fun _ => 0, ρ⟩ fun r => ∀ c : Dev nD,
      r.2.mem ((c : Thread nD τ).loc main_v51) = (fun _ : S8x128.Idx => ((1 / 2 * ∑ n, rowLoss (X c n) (G c) (Y c n) : ℝ) : EReal))
      ∧ r.2.mem ((c : Thread nD τ).loc main_v52) = (fun i : S4096x1024.Idx => (rowGrad (X c (i 0)) (G c) (Y c (i 0)) (i 1) : EReal))
      ∧ r.2.mem ((c : Thread nD τ).loc main_v53) = (fun i : S1x1024.Idx => ((∑ n, rowGain (X c n) (G c) (Y c n) (i 1) : ℝ) : EReal))
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2) := by
  refine (θ_run defs _ _).mono (fun r h c => ⟨(h c).1.trans ?_, (h c).2.1.trans ?_, (h c).2.2.1.trans ?_, (h c).2.2.2⟩) (run m ρ)
  all_goals
    clear h
    specialize hx c
    specialize hg c
    specialize hy c
    generalize X c = X at *
    generalize G c = G at *
    generalize Y c = Y at *
    try unfold res_main_v52
    generalize (m ((c : Thread nD τ).loc main_arg0) : FVec Ideal S2x2048x1024 .f32) = A at *
    generalize (m ((c : Thread nD τ).loc main_arg1) : FVec Ideal S1024 .f32) = B at *
    generalize (m ((c : Thread nD τ).loc main_arg2) : FVec Ideal S2x2048x1024 .f32) = C at *
    funext i
    idx_vars i
    pointwise
  all_goals try simp only [hx, hg, hy, bits_1024, bits_eps, bits_half, bits_two, bits_neg_half, row_split, var_def, rsqrt_var, mul_real, sub_real,
    add_real, sum_real, div_1024, div_var, Fin.sum_univ_one]
  · rw [sum_rows fun n => (∑ d, (X n d * rstd (X n) * G d - Y n d) * (X n d * rstd (X n) * G d - Y n d)) / 1024]
    rfl
  · refine congrArg _ (Eq.trans ?_ (norm_bwd _ _ _))
    have e : ∀ k, 1 / 2 / 1024 * (2 * (X i0 k * rstd (X i0) * G k - Y i0 k)) * G k = err (X i0) G (Y i0) k * (1 / 1024) * G k := fun k => by
      unfold err; ring
    simp only [e]
  · rw [sum_rows fun n => X n i1 * rstd (X n) * (1 / 2 / 1024 * (2 * (X n i1 * rstd (X n) * G i1 - Y n i1)))]
    refine congrArg _ (Finset.sum_congr rfl fun n _ => ?_)
    unfold rowGain err
    ring

end Cert.LossRefIdeal.Value

end
-- ==== Proof.LossClaim.lean ====
/- The final norm and loss's backward pair: on finite arguments both programs leave the same three arrays. -/
module

public import proofs.«01_k».proof.Defs
public import proofs.«01_k».proof.Proof.LossKernel
public import proofs.«01_k».proof.Proof.LossRef
public import proofs.«01_k».proof.Proof.Gen.LossBwd.Frame
public import proofs.«01_k».proof.Proof.Gen.LossBwdIdeal.Frame
public import proofs.«01_k».proof.Proof.Gen.Pre_finite_final
public import Idealize.ShloMosaic.Lib.Quiescent

@[expose] public section

noncomputable section

namespace Cert.Loss

open Idealize.ShloMosaic Idealize.ShloMosaic.TcCoe Idealize.SL.Sem Cert.Reals

theorem real (m : (ℓ : Loc LossBwdIdeal.nD LossBwdIdeal.τ LossBwdIdeal.sig) → Buf (Elt Ideal) ℓ) (h : Pre_LossBwdIdeal_finite_final m)
    (c : Dev LossBwdIdeal.nD) : LossBwdIdeal.Value.Real m c := by
  obtain ⟨h01, h2⟩ := both_of_and (h c)
  obtain ⟨h0, h1⟩ := both_of_and h01
  exact ⟨real_of_finite _ _ _ _ _ _ (congrFun h0 ix0), real_of_finite _ _ _ _ _ _ (congrFun h1 ix0), real_of_finite _ _ _ _ _ _ (congrFun h2 ix0)⟩

theorem frame_ref : quiescent_LossRefIdeal := fun m ρ _ =>
  (θ_run LossRefIdeal.defs _ _).mono (fun r h => ⟨fun c => (h c).2.2.2, sem_eq_zero_of_no_sems (by decide) r.2⟩) (LossRefIdeal.Value.run m ρ)

theorem algebraic : algebraic_LossBwdIdeal_LossRefIdeal_pre_finite_final := by
  intro m g m' g' hpre hargs
  have hr := real m hpre
  refine ⟨_, _, _, (θ_run LossBwdIdeal.defs _ _).mono (fun r h c => ⟨(h c).1.trans (LossBwdIdeal.Value.final_loss (hr c)),
      (h c).2.1.trans (LossBwdIdeal.Value.final_rows (hr c)), (h c).2.2.1.trans (LossBwdIdeal.Value.final_gain (hr c)), (h c).2.2.2⟩)
    (LossBwdIdeal.Value.run_blocks m g), ?_⟩
  exact LossRefIdeal.Value.real_run m' g' (LossBwdIdeal.Value.X m) (LossBwdIdeal.Value.G m) (LossBwdIdeal.Value.Y m)
    (fun c b s d => by rw [(hargs c).1]; exact rows_real (hr c).x b s d)
    (fun c d => by rw [(hargs c).2.1]; exact entries_real (hr c).g d)
    (fun c b s d => by rw [(hargs c).2.2]; exact rows_real (hr c).y b s d)

end Cert.Loss

end
-- ==== Proof.FfnReal.lean ====
/- The gated feed-forward block and its gradients on real rows. -/
module

public import proofs.«01_k».proof.Proof.Reals

@[expose] public section

noncomputable section

namespace Cert.Ffn

open Idealize.ShloMosaic Cert.Reals

/-- The block's inputs: the mixer's rows and output weight, the residual rows, the norm's gain, the three weights, and the
    cotangent of the block's result. -/
structure In where
  y : Fin 4096 → Fin 1024 → ℝ
  wo : Fin 1024 → Fin 1024 → ℝ
  x : Fin 4096 → Fin 1024 → ℝ
  g : Fin 1024 → ℝ
  wg : Fin 1024 → Fin 2816 → ℝ
  wu : Fin 1024 → Fin 2816 → ℝ
  wd : Fin 2816 → Fin 1024 → ℝ
  ct : Fin 4096 → Fin 1024 → ℝ

namespace In

variable (a : In) (n : Fin 4096)

/-- The block's input row: the residual plus the mixer's output. -/
def x1 (d : Fin 1024) : ℝ := a.x n d + ∑ k, a.y n k * a.wo k d

/-- The normalised row. -/
def hat (d : Fin 1024) : ℝ := a.x1 n d * rstd (a.x1 n)

def gate (j : Fin 2816) : ℝ := ∑ d, a.hat n d * a.g d * a.wg d j
def up (j : Fin 2816) : ℝ := ∑ d, a.hat n d * a.g d * a.wu d j

/-- The gradient of the gated product. -/
def da (j : Fin 2816) : ℝ := ∑ d, a.ct n d * a.wd j d

def dgate (j : Fin 2816) : ℝ := a.da n j * a.up n j * (sig (a.gate n j) * (1 + a.gate n j * (1 - sig (a.gate n j))))
def dup (j : Fin 2816) : ℝ := a.da n j * a.gate n j * sig (a.gate n j)

/-- One column's part of the scaled row's gradient. -/
def dhPart (d : Fin 1024) (j : Fin 2816) : ℝ := a.dgate n j * a.wg d j + a.dup n j * a.wu d j

/-- The gradient of the scaled normalised row. -/
def dh (d : Fin 1024) : ℝ := ∑ j, a.dhPart n d j

/-- The gradient of the block's input row. -/
def dx1 (d : Fin 1024) : ℝ := a.ct n d + normBwd (a.x1 n) (fun k => a.dh n k * a.g k) d

/-- The row's part of the gain's gradient. -/
def dgain (d : Fin 1024) : ℝ := a.dh n d * a.hat n d

/-- The gradient of the mixer's row. -/
def dy (k : Fin 1024) : ℝ := ∑ d, a.dx1 n d * a.wo k d

theorem x1_def (d : Fin 1024) : a.x n d + ∑ k, a.y n k * a.wo k d = a.x1 n d := rfl
theorem gate_def (j : Fin 2816) : ∑ d, a.x1 n d * rstd (a.x1 n) * a.g d * a.wg d j = a.gate n j := rfl
theorem up_def (j : Fin 2816) : ∑ d, a.x1 n d * rstd (a.x1 n) * a.g d * a.wu d j = a.up n j := rfl
theorem da_def (j : Fin 2816) : ∑ d, a.ct n d * a.wd j d = a.da n j := rfl
theorem dup_def (j : Fin 2816) : a.gate n j * sig (a.gate n j) * a.da n j = a.dup n j := by unfold dup; ring
theorem dgate_def (j : Fin 2816) : a.da n j * a.up n j * sig (a.gate n j)
    + a.gate n j * (a.da n j * a.up n j) * (sig (a.gate n j) * (1 - sig (a.gate n j))) = a.dgate n j := by unfold dgate; ring
theorem dh_def (d : Fin 1024) : ∑ j, a.dup n j * a.wu d j + ∑ j, a.dgate n j * a.wg d j = a.dh n d := by
  unfold dh dhPart; rw [Finset.sum_add_distrib, add_comm]

theorem dx1_def (d : Fin 1024) : a.ct n d + a.dh n d * a.g d * rstd (a.x1 n)
      + a.x1 n d * ((∑ k, a.x1 n k * (a.dh n k * a.g k)) * (-(1 / 2) * (rstd (a.x1 n) / var (a.x1 n))) / 1024)
      + (∑ k, a.x1 n k * (a.dh n k * a.g k)) * (-(1 / 2) * (rstd (a.x1 n) / var (a.x1 n))) / 1024 * a.x1 n d = a.dx1 n d :=
  norm_bwd_add _ _ (fun k => a.dh n k * a.g k) d

end In

/-- The inputs a program's eight arrays hold. -/
def input (y : FVec Ideal ⟨3, ![2, 2048, 1024]⟩ .f32) (wo : FVec Ideal ⟨2, ![1024, 1024]⟩ .f32) (x : FVec Ideal ⟨3, ![2, 2048, 1024]⟩ .f32)
    (g : FVec Ideal ⟨1, ![1024]⟩ .f32) (wg wu : FVec Ideal ⟨2, ![1024, 2816]⟩ .f32) (wd : FVec Ideal ⟨2, ![2816, 1024]⟩ .f32)
    (ct : FVec Ideal ⟨3, ![2, 2048, 1024]⟩ .f32) : In :=
  ⟨rows y, matrix wo, rows x, entries g, matrix wg, matrix wu, matrix wd, rows ct⟩

/-- The eight arrays are real: they hold the inputs. -/
structure Holds (a : In) (y : FVec Ideal ⟨3, ![2, 2048, 1024]⟩ .f32) (wo : FVec Ideal ⟨2, ![1024, 1024]⟩ .f32)
    (x : FVec Ideal ⟨3, ![2, 2048, 1024]⟩ .f32) (g : FVec Ideal ⟨1, ![1024]⟩ .f32) (wg wu : FVec Ideal ⟨2, ![1024, 2816]⟩ .f32)
    (wd : FVec Ideal ⟨2, ![2816, 1024]⟩ .f32) (ct : FVec Ideal ⟨3, ![2, 2048, 1024]⟩ .f32) : Prop where
  y : ∀ b s d, y (ix3 b s d) = (a.y (row b s) d : EReal)
  wo : ∀ k d, wo (ix2 k d) = (a.wo k d : EReal)
  x : ∀ b s d, x (ix3 b s d) = (a.x (row b s) d : EReal)
  g : ∀ d, g (ix1 d) = (a.g d : EReal)
  wg : ∀ d j, wg (ix2 d j) = (a.wg d j : EReal)
  wu : ∀ d j, wu (ix2 d j) = (a.wu d j : EReal)
  wd : ∀ j d, wd (ix2 j d) = (a.wd j d : EReal)
  ct : ∀ b s d, ct (ix3 b s d) = (a.ct (row b s) d : EReal)

theorem sum_parts {N p q r : ℕ} (h : N = p + (q + r)) (f : Fin N → ℝ) :
    (∑ j : Fin p, f ⟨j.val, by omega⟩) + (∑ j : Fin q, f ⟨p + j.val, by omega⟩) + ∑ j : Fin r, f ⟨p + q + j.val, by omega⟩ = ∑ j, f j := by
  subst h
  rw [Fin.sum_univ_add, Fin.sum_univ_add, add_assoc]
  refine congrArg₂ (· + ·) rfl (congrArg₂ (· + ·) rfl (Finset.sum_congr rfl fun j _ => congrArg f (Fin.ext ?_)))
  exact add_assoc p q j.val

/-- A sum over the 2816 columns, the columns taken as 1024, 1024 and 768. -/
theorem sum_columns (f : Fin 2816 → ℝ) :
    (∑ j : Fin 1024, f ⟨j.val, by omega⟩) + (∑ j : Fin 1024, f ⟨1024 + j.val, by omega⟩) + ∑ j : Fin 768, f ⟨2048 + j.val, by omega⟩
      = ∑ j, f j :=
  sum_parts (p := 1024) (q := 1024) (r := 768) (by norm_num) f

end Cert.Ffn

end
-- ==== Proof.FfnKernel.lean ====
/- The feed-forward block's backward kernel on real inputs: the seven arrays it leaves. -/
module

public import proofs.«01_k».proof.Proof.FfnReal
public import proofs.«01_k».proof.Proof.Gen.FfnBwdIdeal.Value
public import Idealize.ShloMosaic.Lib.Pipeline.ValueKit
public import Idealize.ShloMosaic.Lib.Claim

@[expose] public section

set_option maxRecDepth 16384

noncomputable section

namespace Cert.FfnBwdIdeal.Value

open Cert.FfnBwdIdeal Cert.FfnBwdIdeal.Gen Cert.Reals Cert.Ffn Idealize.ShloMosaic Idealize.ShloMosaic.TcCoe Idealize.SL.Sem

section Block

/-! ## One chunk of columns -/

variable {a : In} {n : Fin 256 → Fin 4096}

theorem da_first {ct : Vec Ideal S256x1024 .f32} {wd : Vec Ideal S1024x1024 .bf16} {f : Fin 1024 → Fin 2816}
    (hct : ∀ r d, ct (ix2 r d) = (a.ct (n r) d : EReal)) (hwd : ∀ j d, wd (ix2 j d) = (a.wd (f j) d : EReal)) (r : Fin 256) (j : Fin 1024) :
    k0_pay4 ct wd (ix2 r j) = (a.da (n r) (f j) : EReal) := by
  pointwise [k0_pay4, k0_pay3, k0_pay2]
  simp only [hct, hwd, mul_real, sum_real]
  rfl

theorem da_second {ct : FVec Ideal S256x1024 .bf16} {wd : Vec Ideal S1024x1024 .bf16} {f : Fin 1024 → Fin 2816}
    (hct : ∀ r d, ct (ix2 r d) = (a.ct (n r) d : EReal)) (hwd : ∀ j d, wd (ix2 j d) = (a.wd (f j) d : EReal)) (r : Fin 256) (j : Fin 1024) :
    k0_pay11 ct wd (ix2 r j) = (a.da (n r) (f j) : EReal) := by
  pointwise [k0_pay11]
  simp only [hct, hwd, mul_real, sum_real]
  rfl

theorem da_third {ct : FVec Ideal S256x1024 .bf16} {wd : Vec Ideal S768x1024 .bf16} {f : Fin 768 → Fin 2816}
    (hct : ∀ r d, ct (ix2 r d) = (a.ct (n r) d : EReal)) (hwd : ∀ j d, wd (ix2 j d) = (a.wd (f j) d : EReal)) (r : Fin 256) (j : Fin 768) :
    k0_pay17 ct wd (ix2 r j) = (a.da (n r) (f j) : EReal) := by
  pointwise [k0_pay17]
  simp only [hct, hwd, mul_real, sum_real]
  rfl

section First

variable {ct : Vec Ideal S256x1024 .f32} {wd : Vec Ideal S1024x1024 .bf16} {pg pu : Vec Ideal S256x1024 .bf16} {f : Fin 1024 → Fin 2816}
  (hct : ∀ r d, ct (ix2 r d) = (a.ct (n r) d : EReal)) (hwd : ∀ j d, wd (ix2 j d) = (a.wd (f j) d : EReal))
  (hpg : ∀ r j, pg (ix2 r j) = (a.gate (n r) (f j) : EReal)) (hpu : ∀ r j, pu (ix2 r j) = (a.up (n r) (f j) : EReal))

include hct hwd hpg hpu in
theorem dgate_first (r : Fin 256) (j : Fin 1024) : k0_pay7 ct wd pg pu (ix2 r j) = (a.dgate (n r) (f j) : EReal) := by
  pointwise [k0_pay7, k0_pay6, k0_pay5]
  simp only [da_first hct hwd, hpg, hpu, bits_one, logistic_real, mul_real, sub_real, add_real]
  rfl

include hct hwd hpg in
theorem dup_first (r : Fin 256) (j : Fin 1024) : k0_pay8 ct wd pg (ix2 r j) = (a.dup (n r) (f j) : EReal) := by
  pointwise [k0_pay8, k0_pay6, k0_pay5]
  simp only [da_first hct hwd, hpg, logistic_real, mul_real]
  rfl

end First

section Second

variable {ct : FVec Ideal S256x1024 .bf16} {wd : Vec Ideal S1024x1024 .bf16} {pg pu : Vec Ideal S256x1024 .bf16} {f : Fin 1024 → Fin 2816}
  (hct : ∀ r d, ct (ix2 r d) = (a.ct (n r) d : EReal)) (hwd : ∀ j d, wd (ix2 j d) = (a.wd (f j) d : EReal))
  (hpg : ∀ r j, pg (ix2 r j) = (a.gate (n r) (f j) : EReal)) (hpu : ∀ r j, pu (ix2 r j) = (a.up (n r) (f j) : EReal))

include hct hwd hpg hpu in
theorem dgate_second (r : Fin 256) (j : Fin 1024) : k0_pay14 ct wd pg pu (ix2 r j) = (a.dgate (n r) (f j) : EReal) := by
  pointwise [k0_pay14, k0_pay13, k0_pay12]
  simp only [da_second hct hwd, hpg, hpu, bits_one, logistic_real, mul_real, sub_real, add_real]
  rfl

include hct hwd hpg in
theorem dup_second (r : Fin 256) (j : Fin 1024) : k0_pay15 ct wd pg (ix2 r j) = (a.dup (n r) (f j) : EReal) := by
  pointwise [k0_pay15, k0_pay13, k0_pay12]
  simp only [da_second hct hwd, hpg, logistic_real, mul_real]
  rfl

end Second

section Third

variable {ct : FVec Ideal S256x1024 .bf16} {wd : Vec Ideal S768x1024 .bf16} {pg pu : Vec Ideal S256x768 .bf16} {f : Fin 768 → Fin 2816}
  (hct : ∀ r d, ct (ix2 r d) = (a.ct (n r) d : EReal)) (hwd : ∀ j d, wd (ix2 j d) = (a.wd (f j) d : EReal))
  (hpg : ∀ r j, pg (ix2 r j) = (a.gate (n r) (f j) : EReal)) (hpu : ∀ r j, pu (ix2 r j) = (a.up (n r) (f j) : EReal))

include hct hwd hpg hpu in
theorem dgate_third (r : Fin 256) (j : Fin 768) : k0_pay20 ct wd pg pu (ix2 r j) = (a.dgate (n r) (f j) : EReal) := by
  pointwise [k0_pay20, k0_pay19, k0_pay18]
  simp only [da_third hct hwd, hpg, hpu, bits_one, logistic_real, mul_real, sub_real, add_real]
  rfl

include hct hwd hpg in
theorem dup_third (r : Fin 256) (j : Fin 768) : k0_pay21 ct wd pg (ix2 r j) = (a.dup (n r) (f j) : EReal) := by
  pointwise [k0_pay21, k0_pay19, k0_pay18]
  simp only [da_third hct hwd, hpg, logistic_real, mul_real]
  rfl

end Third

/-! ## The rows' gradients -/

/-- A column of the first, second and third chunk. -/
def col0 (j : Fin 1024) : Fin 2816 := ⟨0 + j.val, by omega⟩
def col1 (j : Fin 1024) : Fin 2816 := ⟨1024 + j.val, by omega⟩
def col2 (j : Fin 768) : Fin 2816 := ⟨2048 + j.val, by omega⟩

theorem sum_cols (f : Fin 2816 → ℝ) : (∑ j, f (col0 j)) + (∑ j, f (col1 j)) + ∑ j, f (col2 j) = ∑ j, f j := by
  have e : ∀ j, col0 j = ⟨j.val, by omega⟩ := fun j => Fin.ext (Nat.zero_add _)
  simp only [e]
  exact sum_columns f

section Rows

variable {ct : Vec Ideal S256x1024 .f32} {wd0 wd1 : Vec Ideal S1024x1024 .bf16} {wd2 : Vec Ideal S768x1024 .bf16}
  {pg0 pu0 pg1 pu1 : Vec Ideal S256x1024 .bf16} {pg2 pu2 : Vec Ideal S256x768 .bf16}
  {wg0 wg1 wu0 wu1 : Vec Ideal S1024x1024 .bf16} {wg2 wu2 : Vec Ideal S768x1024 .bf16}
  (hct : ∀ r d, ct (ix2 r d) = (a.ct (n r) d : EReal))

include hct in
theorem ct_cast (r : Fin 256) (d : Fin 1024) : k0_pay3 ct (ix2 r d) = (a.ct (n r) d : EReal) := by
  pointwise [k0_pay3, k0_pay2]
  rw [hct]

include hct in
theorem ct_wide (r : Fin 256) (d : Fin 1024) : k0_pay2 ct (ix2 r d) = (a.ct (n r) d : EReal) := by
  pointwise [k0_pay2]
  rw [hct]

variable (hwd0 : ∀ j d, wd0 (ix2 j d) = (a.wd (col0 j) d : EReal)) (hwd1 : ∀ j d, wd1 (ix2 j d) = (a.wd (col1 j) d : EReal))
  (hwd2 : ∀ j d, wd2 (ix2 j d) = (a.wd (col2 j) d : EReal))
  (hpg0 : ∀ r j, pg0 (ix2 r j) = (a.gate (n r) (col0 j) : EReal)) (hpu0 : ∀ r j, pu0 (ix2 r j) = (a.up (n r) (col0 j) : EReal))
  (hpg1 : ∀ r j, pg1 (ix2 r j) = (a.gate (n r) (col1 j) : EReal)) (hpu1 : ∀ r j, pu1 (ix2 r j) = (a.up (n r) (col1 j) : EReal))
  (hpg2 : ∀ r j, pg2 (ix2 r j) = (a.gate (n r) (col2 j) : EReal)) (hpu2 : ∀ r j, pu2 (ix2 r j) = (a.up (n r) (col2 j) : EReal))
  (hwg0 : ∀ j d, wg0 (ix2 j d) = (a.wg d (col0 j) : EReal)) (hwu0 : ∀ j d, wu0 (ix2 j d) = (a.wu d (col0 j) : EReal))
  (hwg1 : ∀ j d, wg1 (ix2 j d) = (a.wg d (col1 j) : EReal)) (hwu1 : ∀ j d, wu1 (ix2 j d) = (a.wu d (col1 j) : EReal))
  (hwg2 : ∀ j d, wg2 (ix2 j d) = (a.wg d (col2 j) : EReal)) (hwu2 : ∀ j d, wu2 (ix2 j d) = (a.wu d (col2 j) : EReal))

include hct hwd0 hwd1 hwd2 hpg0 hpu0 hpg1 hpu1 hpg2 hpu2 hwg0 hwu0 hwg1 hwu1 hwg2 hwu2 in
theorem dh_block (r : Fin 256) (d : Fin 1024) :
    k0_pay22 (k0_pay3 ct)
        (k0_pay10 (k0_pay7 ct wd0 pg0 pu0) (k0_pay8 ct wd0 pg0) (k0_pay9 wg0) (constant S256x1024 .f32 0#32) wu0)
        (k0_pay16 (k0_pay3 ct) wd1 pg1 pu1 wg1 wu1) wd2 pg2 pu2 wg2 wu2 (ix2 r d) = (a.dh (n r) d : EReal) := by
  pointwise [k0_pay22, k0_pay10, k0_pay9, k0_pay16]
  simp only [dgate_first hct hwd0 hpg0 hpu0, dup_first hct hwd0 hpg0, dgate_second (ct_cast hct) hwd1 hpg1 hpu1,
    dup_second (ct_cast hct) hwd1 hpg1, dgate_third (ct_cast hct) hwd2 hpg2 hpu2, dup_third (ct_cast hct) hwd2 hpg2,
    hwg0, hwu0, hwg1, hwu1, hwg2, hwu2, mul_real, sum_real, add_real]
  rw [In.dh, ← sum_cols]
  simp only [In.dhPart, Finset.sum_add_distrib]

end Rows

section Tail

variable {dh ct x : FVec Ideal S256x1024 .f32} {g acc : FVec Ideal S1x1024 .f32} {wo : FVec Ideal S1024x1024 .bf16}
  (hdh : ∀ r d, dh (ix2 r d) = (a.dh (n r) d : EReal)) (hx : ∀ r d, x (ix2 r d) = (a.x1 (n r) d : EReal))
  (hct : ∀ r d, ct (ix2 r d) = (a.ct (n r) d : EReal)) (hg : ∀ d, g (ix2 0 d) = (a.g d : EReal))
  (hwo : ∀ k d, wo (ix2 k d) = (a.wo k d : EReal))

include hdh hx in
theorem gain_block (d : Fin 1024) :
    k0_pay27 dh x acc (ix2 0 d) = acc (ix2 0 d) + ((∑ r, a.dgain (n r) d : ℝ) : EReal) := by
  pointwise [k0_pay27, k0_pay26, k0_pay25, k0_pay24]
  simp only [hdh, hx, bits_1024, bits_eps, mul_real, add_real, sum_real, div_1024, Fin.sum_univ_one, var_def, rsqrt_var]
  rfl

include hdh hx hct hg in
theorem dx1_block (r : Fin 256) (d : Fin 1024) : k0_pay28 ct dh (k0_pay23 g) x (ix2 r d) = (a.dx1 (n r) d : EReal) := by
  pointwise [k0_pay28, k0_pay26, k0_pay25, k0_pay24, k0_pay23]
  simp only [hdh, hx, hct, hg, bits_1024, bits_eps, mul_real, add_real, sub_real, sum_real, div_1024, Fin.sum_univ_one, var_def, rsqrt_var]
  rfl

include hdh hx hct hg hwo in
theorem dy_block (r : Fin 256) (k : Fin 1024) : k0_pay30 ct dh (k0_pay23 g) x wo (ix2 r k) = (a.dy (n r) k : EReal) := by
  pointwise [k0_pay30, k0_pay29]
  simp only [dx1_block hdh hx hct hg, hwo, mul_real, sum_real]
  rfl

end Tail

/-- A block the three column stores fill. -/
theorem columns {G : Fin 256 → Fin 2816 → ℝ} {p0 p1 : Vec Ideal S256x1024 .bf16} {p2 : Vec Ideal S256x768 .bf16}
    (h0 : ∀ r j, p0 (ix2 r j) = (G r (col0 j) : EReal)) (h1 : ∀ r j, p1 (ix2 r j) = (G r (col1 j) : EReal))
    (h2 : ∀ r j, p2 (ix2 r j) = (G r (col2 j) : EReal)) (r : Fin 256) (j : Fin 2816) :
    View.canon [(⟨Rect.unit ![0, 2048] ![256, 768] inb_S256x2816_S256x768_0_2048, p2⟩ : View.Piece (Elt Ideal) S256x2816 .bf16),
      ⟨Rect.unit ![0, 1024] ![256, 1024] inb_S256x2816_S256x1024_0_1024, p1⟩,
      ⟨Rect.unit ![0, 0] ![256, 1024] inb_S256x2816_S256x1024_0_0, p0⟩] (ix2 r j) = (G r j : EReal) := by
  have hc := View.cover_of_tiledBy [(⟨Rect.unit ![0, 2048] ![256, 768] inb_S256x2816_S256x768_0_2048, p2⟩ : View.Piece (Elt Ideal) S256x2816 .bf16),
      ⟨Rect.unit ![0, 1024] ![256, 1024] inb_S256x2816_S256x1024_0_1024, p1⟩,
      ⟨Rect.unit ![0, 0] ![256, 1024] inb_S256x2816_S256x1024_0_0, p0⟩] ![256, 256] (by sl_kernel_rfl) (ix2 r j)
  canon_tiles x hx using hc
  all_goals
    idx_vars x
    obtain rfl : x0 = r := Fin.ext hx0.symm
  · obtain rfl : j = col2 x1 := Fin.ext hx1
    exact h2 x0 x1
  · obtain rfl : j = col1 x1 := Fin.ext hx1
    exact h1 x0 x1
  · obtain rfl : j = col0 x1 := Fin.ext (hx1.trans (Nat.zero_add _).symm)
    exact h0 x0 x1

end Block

/-! ## The windows -/

variable (m : (ℓ : Loc nD τ sig) → Buf (Elt Ideal) ℓ) (c : Dev nD)

/-- The inputs the memory holds. -/
abbrev inp : In := input (m ((c : Thread nD τ).loc main_arg0)) (m ((c : Thread nD τ).loc main_arg1)) (m ((c : Thread nD τ).loc main_arg2))
  (m ((c : Thread nD τ).loc main_arg3)) (m ((c : Thread nD τ).loc main_arg4)) (m ((c : Thread nD τ).loc main_arg5))
  (m ((c : Thread nD τ).loc main_arg6)) (m ((c : Thread nD τ).loc main_arg7))

/-- The memory's arguments are real. -/
abbrev Real : Prop := Holds (inp m c) (m ((c : Thread nD τ).loc main_arg0)) (m ((c : Thread nD τ).loc main_arg1))
  (m ((c : Thread nD τ).loc main_arg2)) (m ((c : Thread nD τ).loc main_arg3)) (m ((c : Thread nD τ).loc main_arg4))
  (m ((c : Thread nD τ).loc main_arg5)) (m ((c : Thread nD τ).loc main_arg6)) (m ((c : Thread nD τ).loc main_arg7))

theorem idx : ∀ t : Fin cfg0.N, win0_0.index t = ![t.val, 0] ∧ win0_1.index t = ![0, 0] ∧ win0_2.index t = ![t.val, 0]
    ∧ win0_3.index t = ![t.val, 0] ∧ win0_4.index t = ![0, 0] ∧ win0_5.index t = ![0, 0] ∧ win0_6.index t = ![t.val, 0]
    ∧ win0_7.index t = ![0, 0] ∧ win0_8.index t = ![0, 0] ∧ win0_9.index t = ![t.val, 0] ∧ win0_10.index t = ![t.val, 0]
    ∧ win0_11.index t = ![t.val, 0] ∧ win0_12.index t = ![t.val, 0] ∧ win0_13.index t = ![0, 0] ∧ win0_14.index t = ![t.val, 0]
    ∧ win0_15.index t = ![t.val, 0] :=
  (by decide +kernel : ∀ t : Fin grid0.N, _)

theorem lt_points : ∀ t : Fin cfg0.N, t.val < 16 := (by decide +kernel : ∀ t : Fin grid0.N, _)

/-- Row `r` of block `t`. -/
def at_ (t : Fin cfg0.N) (r : Fin 256) : Fin 4096 := ⟨t.val * 256 + r.val, by have := lt_points t; omega⟩

variable {m c}

/-- Summing a block's rows over the blocks sums all rows. -/
theorem sum_points (f : Fin 4096 → ℝ) : ∑ t : Fin cfg0.N, ∑ r, f (at_ t r) = ∑ n, f n :=
  Fin.sum_mul_add_congr (L := 4096) (S := 16) (n := 256) (F := fun t r => f (at_ t r)) fun t k hl => rfl

theorem block_ct (h : Real m c) (t : Fin cfg0.N) (r : Fin 256) (d : Fin 1024) :
    (iblk m c 0 t : Vec Ideal S256x1024 .f32) (ix2 r d) = ((inp m c).ct (at_ t r) d : EReal) := by
  have e : ((cfg0.win 0).blk t).view.emb (ix2 r d) = (ix2 (at_ t r) d : S4096x1024.Idx) := by blk_ext [idx t] <;> rfl
  blk_simp [iblk]
  rw [e]
  entry_read
  pointwise
  rw [h.ct, row_split]

theorem block_pg (h : Real m c) (t : Fin cfg0.N) (r : Fin 256) (j : Fin 2816) :
    (iblk m c 2 t : Vec Ideal S256x2816 .bf16) (ix2 r j) = ((inp m c).gate (at_ t r) j : EReal) := by
  have e : ((cfg0.win 2).blk t).view.emb (ix2 r j) = (ix2 (at_ t r) j : S4096x2816.Idx) := by blk_ext [idx t] <;> rfl
  blk_simp [iblk]
  rw [e]
  entry_read
  pointwise
  simp only [h.x, h.y, h.wo, h.g, h.wg, row_split, mul_real, add_real, sum_real, In.x1_def, bits_1024, bits_eps, div_1024, var_def, rsqrt_var]
  rfl

theorem block_pu (h : Real m c) (t : Fin cfg0.N) (r : Fin 256) (j : Fin 2816) :
    (iblk m c 3 t : Vec Ideal S256x2816 .bf16) (ix2 r j) = ((inp m c).up (at_ t r) j : EReal) := by
  have e : ((cfg0.win 3).blk t).view.emb (ix2 r j) = (ix2 (at_ t r) j : S4096x2816.Idx) := by blk_ext [idx t] <;> rfl
  blk_simp [iblk]
  rw [e]
  entry_read
  pointwise
  simp only [h.x, h.y, h.wo, h.g, h.wu, row_split, mul_real, add_real, sum_real, In.x1_def, bits_1024, bits_eps, div_1024, var_def, rsqrt_var]
  rfl

theorem block_x1 (h : Real m c) (t : Fin cfg0.N) (r : Fin 256) (d : Fin 1024) :
    (iblk m c 6 t : Vec Ideal S256x1024 .f32) (ix2 r d) = ((inp m c).x1 (at_ t r) d : EReal) := by
  have e : ((cfg0.win 6).blk t).view.emb (ix2 r d) = (ix2 (at_ t r) d : S4096x1024.Idx) := by blk_ext [idx t] <;> rfl
  blk_simp [iblk]
  rw [e]
  entry_read
  pointwise
  simp only [h.x, h.y, h.wo, row_split, mul_real, add_real, sum_real]
  rfl

theorem block_wd (h : Real m c) (t : Fin cfg0.N) (j : Fin 2816) (d : Fin 1024) :
    (iblk m c 1 t : Vec Ideal S2816x1024 .bf16) (ix2 j d) = ((inp m c).wd j d : EReal) := by
  have e : ((cfg0.win 1).blk t).view.emb (ix2 j d) = (ix2 j d : S2816x1024.Idx) := by blk_ext [idx t] <;> rfl
  blk_simp [iblk]
  rw [e]
  entry_read
  pointwise
  rw [h.wd]

theorem block_wg (h : Real m c) (t : Fin cfg0.N) (j : Fin 2816) (d : Fin 1024) :
    (iblk m c 4 t : Vec Ideal S2816x1024 .bf16) (ix2 j d) = ((inp m c).wg d j : EReal) := by
  have e : ((cfg0.win 4).blk t).view.emb (ix2 j d) = (ix2 j d : S2816x1024.Idx) := by blk_ext [idx t] <;> rfl
  blk_simp [iblk]
  rw [e]
  entry_read
  pointwise
  rw [h.wg]

theorem block_wu (h : Real m c) (t : Fin cfg0.N) (j : Fin 2816) (d : Fin 1024) :
    (iblk m c 5 t : Vec Ideal S2816x1024 .bf16) (ix2 j d) = ((inp m c).wu d j : EReal) := by
  have e : ((cfg0.win 5).blk t).view.emb (ix2 j d) = (ix2 j d : S2816x1024.Idx) := by blk_ext [idx t] <;> rfl
  blk_simp [iblk]
  rw [e]
  entry_read
  pointwise
  rw [h.wu]

theorem block_g (h : Real m c) (t : Fin cfg0.N) (d : Fin 1024) :
    (iblk m c 7 t : Vec Ideal S1x1024 .f32) (ix2 0 d) = ((inp m c).g d : EReal) := by
  have e : ((cfg0.win 7).blk t).view.emb (ix2 0 d) = (ix2 0 d : S1x1024.Idx) := by blk_ext [idx t] <;> rfl
  blk_simp [iblk]
  rw [e]
  entry_read
  pointwise
  rw [h.g]

theorem block_wo (h : Real m c) (t : Fin cfg0.N) (k d : Fin 1024) :
    (iblk m c 8 t : Vec Ideal S1024x1024 .bf16) (ix2 k d) = ((inp m c).wo k d : EReal) := by
  have e : ((cfg0.win 8).blk t).view.emb (ix2 k d) = (ix2 k d : S1024x1024.Idx) := by blk_ext [idx t] <;> rfl
  blk_simp [iblk]
  rw [e]
  entry_read
  pointwise
  rw [h.wo]

section Chunks

variable (h : Real m c) (t : Fin cfg0.N)

/-! The chunks the body loads of the weights and of the projections. -/

include h in
theorem wd0 (j : Fin 1024) (d : Fin 1024) : View.ld (iblk m c 1 t : Vec Ideal S2816x1024 .bf16) (Rect.unit ![0, 0] ![1024, 1024] inb_S2816x1024_S1024x1024_0_0) (ix2 j d)
    = ((inp m c).wd (col0 j) d : EReal) :=
  (ld_rows _ _ j d (by omega)).trans (block_wd h t (col0 j) d)

include h in
theorem wd1 (j : Fin 1024) (d : Fin 1024) : View.ld (iblk m c 1 t : Vec Ideal S2816x1024 .bf16) (Rect.unit ![1024, 0] ![1024, 1024] inb_S2816x1024_S1024x1024_1024_0) (ix2 j d)
    = ((inp m c).wd (col1 j) d : EReal) :=
  (ld_rows _ _ j d (by omega)).trans (block_wd h t (col1 j) d)

include h in
theorem wd2 (j : Fin 768) (d : Fin 1024) : View.ld (iblk m c 1 t : Vec Ideal S2816x1024 .bf16) (Rect.unit ![2048, 0] ![768, 1024] inb_S2816x1024_S768x1024_2048_0) (ix2 j d)
    = ((inp m c).wd (col2 j) d : EReal) :=
  (ld_rows _ _ j d (by omega)).trans (block_wd h t (col2 j) d)

include h in
theorem wg0 (j : Fin 1024) (d : Fin 1024) : View.ld (iblk m c 4 t : Vec Ideal S2816x1024 .bf16) (Rect.unit ![0, 0] ![1024, 1024] inb_S2816x1024_S1024x1024_0_0) (ix2 j d)
    = ((inp m c).wg d (col0 j) : EReal) :=
  (ld_rows _ _ j d (by omega)).trans (block_wg h t (col0 j) d)

include h in
theorem wg1 (j : Fin 1024) (d : Fin 1024) : View.ld (iblk m c 4 t : Vec Ideal S2816x1024 .bf16) (Rect.unit ![1024, 0] ![1024, 1024] inb_S2816x1024_S1024x1024_1024_0) (ix2 j d)
    = ((inp m c).wg d (col1 j) : EReal) :=
  (ld_rows _ _ j d (by omega)).trans (block_wg h t (col1 j) d)

include h in
theorem wg2 (j : Fin 768) (d : Fin 1024) : View.ld (iblk m c 4 t : Vec Ideal S2816x1024 .bf16) (Rect.unit ![2048, 0] ![768, 1024] inb_S2816x1024_S768x1024_2048_0) (ix2 j d)
    = ((inp m c).wg d (col2 j) : EReal) :=
  (ld_rows _ _ j d (by omega)).trans (block_wg h t (col2 j) d)

include h in
theorem wu0 (j : Fin 1024) (d : Fin 1024) : View.ld (iblk m c 5 t : Vec Ideal S2816x1024 .bf16) (Rect.unit ![0, 0] ![1024, 1024] inb_S2816x1024_S1024x1024_0_0) (ix2 j d)
    = ((inp m c).wu d (col0 j) : EReal) :=
  (ld_rows _ _ j d (by omega)).trans (block_wu h t (col0 j) d)

include h in
theorem wu1 (j : Fin 1024) (d : Fin 1024) : View.ld (iblk m c 5 t : Vec Ideal S2816x1024 .bf16) (Rect.unit ![1024, 0] ![1024, 1024] inb_S2816x1024_S1024x1024_1024_0) (ix2 j d)
    = ((inp m c).wu d (col1 j) : EReal) :=
  (ld_rows _ _ j d (by omega)).trans (block_wu h t (col1 j) d)

include h in
theorem wu2 (j : Fin 768) (d : Fin 1024) : View.ld (iblk m c 5 t : Vec Ideal S2816x1024 .bf16) (Rect.unit ![2048, 0] ![768, 1024] inb_S2816x1024_S768x1024_2048_0) (ix2 j d)
    = ((inp m c).wu d (col2 j) : EReal) :=
  (ld_rows _ _ j d (by omega)).trans (block_wu h t (col2 j) d)

include h in
theorem pg0 (r : Fin 256) (j : Fin 1024) : View.ld (iblk m c 2 t : Vec Ideal S256x2816 .bf16) (Rect.unit ![0, 0] ![256, 1024] inb_S256x2816_S256x1024_0_0) (ix2 r j)
    = ((inp m c).gate (at_ t r) (col0 j) : EReal) :=
  (ld_cols _ _ r j (by omega)).trans (block_pg h t r (col0 j))

include h in
theorem pg1 (r : Fin 256) (j : Fin 1024) : View.ld (iblk m c 2 t : Vec Ideal S256x2816 .bf16) (Rect.unit ![0, 1024] ![256, 1024] inb_S256x2816_S256x1024_0_1024) (ix2 r j)
    = ((inp m c).gate (at_ t r) (col1 j) : EReal) :=
  (ld_cols _ _ r j (by omega)).trans (block_pg h t r (col1 j))

include h in
theorem pg2 (r : Fin 256) (j : Fin 768) : View.ld (iblk m c 2 t : Vec Ideal S256x2816 .bf16) (Rect.unit ![0, 2048] ![256, 768] inb_S256x2816_S256x768_0_2048) (ix2 r j)
    = ((inp m c).gate (at_ t r) (col2 j) : EReal) :=
  (ld_cols _ _ r j (by omega)).trans (block_pg h t r (col2 j))

include h in
theorem pu0 (r : Fin 256) (j : Fin 1024) : View.ld (iblk m c 3 t : Vec Ideal S256x2816 .bf16) (Rect.unit ![0, 0] ![256, 1024] inb_S256x2816_S256x1024_0_0) (ix2 r j)
    = ((inp m c).up (at_ t r) (col0 j) : EReal) :=
  (ld_cols _ _ r j (by omega)).trans (block_pu h t r (col0 j))

include h in
theorem pu1 (r : Fin 256) (j : Fin 1024) : View.ld (iblk m c 3 t : Vec Ideal S256x2816 .bf16) (Rect.unit ![0, 1024] ![256, 1024] inb_S256x2816_S256x1024_0_1024) (ix2 r j)
    = ((inp m c).up (at_ t r) (col1 j) : EReal) :=
  (ld_cols _ _ r j (by omega)).trans (block_pu h t r (col1 j))

include h in
theorem pu2 (r : Fin 256) (j : Fin 768) : View.ld (iblk m c 3 t : Vec Ideal S256x2816 .bf16) (Rect.unit ![0, 2048] ![256, 768] inb_S256x2816_S256x768_0_2048) (ix2 r j)
    = ((inp m c).up (at_ t r) (col2 j) : EReal) :=
  (ld_cols _ _ r j (by omega)).trans (block_pu h t r (col2 j))

end Chunks

/-! What the body computes at a point. -/

def dh_at (h : Real m c) (t : Fin cfg0.N) := dh_block (block_ct h t) (wd0 h t) (wd1 h t) (wd2 h t) (pg0 h t) (pu0 h t) (pg1 h t) (pu1 h t)
  (pg2 h t) (pu2 h t) (wg0 h t) (wu0 h t) (wg1 h t) (wu1 h t) (wg2 h t) (wu2 h t)

def gate0_at (h : Real m c) (t : Fin cfg0.N) := dgate_first (block_ct h t) (wd0 h t) (pg0 h t) (pu0 h t)
def gate1_at (h : Real m c) (t : Fin cfg0.N) := dgate_second (ct_cast (block_ct h t)) (wd1 h t) (pg1 h t) (pu1 h t)
def gate2_at (h : Real m c) (t : Fin cfg0.N) := dgate_third (ct_cast (block_ct h t)) (wd2 h t) (pg2 h t) (pu2 h t)
def up0_at (h : Real m c) (t : Fin cfg0.N) := dup_first (block_ct h t) (wd0 h t) (pg0 h t)
def up1_at (h : Real m c) (t : Fin cfg0.N) := dup_second (ct_cast (block_ct h t)) (wd1 h t) (pg1 h t)
def up2_at (h : Real m c) (t : Fin cfg0.N) := dup_third (ct_cast (block_ct h t)) (wd2 h t) (pg2 h t)

theorem rows_at (h : Real m c) (t : Fin cfg0.N) (r : Fin 256) (d : Fin 1024) :
    (outsAt0 m c t.val t.isLt).2.2.1 (ix2 r d) = ((inp m c).ct (at_ t r) d : EReal)
    ∧ (outsAt0 m c t.val t.isLt).2.2.2.1 (ix2 r d) = ((inp m c).dx1 (at_ t r) d : EReal)
    ∧ (outsAt0 m c t.val t.isLt).2.2.2.2.2.1 (ix2 r d) = ((inp m c).dy (at_ t r) d : EReal)
    ∧ (outsAt0 m c t.val t.isLt).2.2.2.2.2.2 (ix2 r d) = ((inp m c).dx1 (at_ t r) d : EReal) := by
  have h1 := dx1_block (dh_at h t) (block_x1 h t) (ct_wide (block_ct h t)) (block_g h t) r d
  have h2 := dy_block (dh_at h t) (block_x1 h t) (ct_wide (block_ct h t)) (block_g h t) (block_wo h t) r d
  have h3 := ct_cast (block_ct h t) r d
  by_cases h0 : t.val % 16 = 0
  · rw [outsAt0_A m c t h0]; frame_out
    exact ⟨h3, h1, h2, h1⟩
  · rw [outsAt0_B m c t h0]; frame_out
    exact ⟨h3, h1, h2, h1⟩

theorem gain_last (h : Real m c) (d : Fin 1024) :
    (outsAt0 m c t0_15.val t0_15.isLt).2.2.2.2.1 (ix2 0 d) = ((∑ n, (inp m c).dgain n d : ℝ) : EReal) := by
  have hb := fun (t : Fin cfg0.N) acc => gain_block (acc := acc) (dh_at h t) (block_x1 h t)
  rw [Pipeline.eq_sum_fin_of_reset_step_apply_last (fun n h (d : Fin 1024) => (outsAt0 m c n h).2.2.2.2.1 (ix2 0 d)) 16 (fun _ => (0 : EReal))
    (fun t d => ((∑ r, (inp m c).dgain (at_ t r) d : ℝ) : EReal))
    (fun t h0 i => by
      rw [outsAt0_A m c t h0]; frame_out
      exact (hb t _ i).trans (congrArg (· + _) (by pointwise [k0_pay1])))
    (fun t h0 i => by
      rw [outsAt0_B m c t h0]; frame_out
      exact hb t _ i) (le_of_eq N_0) t0_15 rfl]
  rw [sum_real, sum_points (fun n => (inp m c).dgain n d), zero_add]

theorem gate_at (h : Real m c) (t : Fin cfg0.N) (r : Fin 256) (j : Fin 2816) :
    (outsAt0 m c t.val t.isLt).1 (ix2 r j) = ((inp m c).dgate (at_ t r) j : EReal) := by
  by_cases h0 : t.val % 16 = 0
  · rw [outsAt0_A m c t h0]; frame_out
    exact columns (G := fun r j => (inp m c).dgate (at_ t r) j) (gate0_at h t) (gate1_at h t) (gate2_at h t) r j
  · rw [outsAt0_B m c t h0]; frame_out
    exact columns (G := fun r j => (inp m c).dgate (at_ t r) j) (gate0_at h t) (gate1_at h t) (gate2_at h t) r j

theorem up_at (h : Real m c) (t : Fin cfg0.N) (r : Fin 256) (j : Fin 2816) :
    (outsAt0 m c t.val t.isLt).2.1 (ix2 r j) = ((inp m c).dup (at_ t r) j : EReal) := by
  by_cases h0 : t.val % 16 = 0
  · rw [outsAt0_A m c t h0]; frame_out
    exact columns (G := fun r j => (inp m c).dup (at_ t r) j) (up0_at h t) (up1_at h t) (up2_at h t) r j
  · rw [outsAt0_B m c t h0]; frame_out
    exact columns (G := fun r j => (inp m c).dup (at_ t r) j) (up0_at h t) (up1_at h t) (up2_at h t) r j

/-! ## The arrays the call leaves -/

variable (m c) in
/-- Rows of 1024 and rows of 2816, as arrays. -/
def arr (f : In → Fin 4096 → Fin 1024 → ℝ) : S4096x1024.Idx → EReal := fun i => (f (inp m c) (i 0) (i 1) : EReal)
variable (m c) in
def arrWide (f : In → Fin 4096 → Fin 2816 → ℝ) : S4096x2816.Idx → EReal := fun i => (f (inp m c) (i 0) (i 1) : EReal)

theorem final_gate (h : Real m c) : (dats m 0 c).arrAt 9 cfg0.N = arrWide m c In.dgate := by
  refine (dats m 0 c).arrAt_eq_of_covers 9 (arrWide m c In.dgate) (by decide +kernel) fun t hf y => ?_
  blk_simp
  rw [after0_9]
  idx_vars y
  have e : ((cfg0.win 9).blk t).view.emb (ix2 y0 y1) = (ix2 (at_ t y0) y1 : S4096x2816.Idx) := by blk_ext [idx t] <;> rfl
  exact (gate_at h t y0 y1).trans (congrArg (arrWide m c In.dgate) e).symm

theorem final_up (h : Real m c) : (dats m 0 c).arrAt 10 cfg0.N = arrWide m c In.dup := by
  refine (dats m 0 c).arrAt_eq_of_covers 10 (arrWide m c In.dup) (by decide +kernel) fun t hf y => ?_
  blk_simp
  rw [after0_10]
  idx_vars y
  have e : ((cfg0.win 10).blk t).view.emb (ix2 y0 y1) = (ix2 (at_ t y0) y1 : S4096x2816.Idx) := by blk_ext [idx t] <;> rfl
  exact (up_at h t y0 y1).trans (congrArg (arrWide m c In.dup) e).symm

theorem final_ct (h : Real m c) : (dats m 0 c).arrAt 11 cfg0.N = arr m c In.ct := by
  refine (dats m 0 c).arrAt_eq_of_covers 11 (arr m c In.ct) (by decide +kernel) fun t hf y => ?_
  blk_simp
  rw [after0_11]
  idx_vars y
  have e : ((cfg0.win 11).blk t).view.emb (ix2 y0 y1) = (ix2 (at_ t y0) y1 : S4096x1024.Idx) := by blk_ext [idx t] <;> rfl
  exact (rows_at h t y0 y1).1.trans (congrArg (arr m c In.ct) e).symm

theorem final_x1 (h : Real m c) : (dats m 0 c).arrAt 12 cfg0.N = arr m c In.dx1 := by
  refine (dats m 0 c).arrAt_eq_of_covers 12 (arr m c In.dx1) (by decide +kernel) fun t hf y => ?_
  blk_simp
  rw [after0_12]
  idx_vars y
  have e : ((cfg0.win 12).blk t).view.emb (ix2 y0 y1) = (ix2 (at_ t y0) y1 : S4096x1024.Idx) := by blk_ext [idx t] <;> rfl
  exact (rows_at h t y0 y1).2.1.trans (congrArg (arr m c In.dx1) e).symm

theorem final_gain (h : Real m c) : ((dats m 0 c).arrAt 13 cfg0.N : S1x1024.Idx → EReal)
    = fun i => ((∑ n, (inp m c).dgain n (i 1) : ℝ) : EReal) := by
  refine (dats m 0 c).arrAt_eq_of_after_last 13 t0_15 (by decide +kernel) _ fun y => ?_
  blk_simp
  rw [after0_13]
  obtain ⟨a, d, rfl⟩ : ∃ (a : Fin 1) (d : Fin 1024), y = ix2 a d := ⟨y 0, y 1, by blk_ext⟩
  obtain rfl : a = 0 := Subsingleton.elim _ _
  exact gain_last h d

theorem final_y (h : Real m c) : (dats m 0 c).arrAt 14 cfg0.N = arr m c In.dy := by
  refine (dats m 0 c).arrAt_eq_of_covers 14 (arr m c In.dy) (by decide +kernel) fun t hf y => ?_
  blk_simp
  rw [after0_14]
  idx_vars y
  have e : ((cfg0.win 14).blk t).view.emb (ix2 y0 y1) = (ix2 (at_ t y0) y1 : S4096x1024.Idx) := by blk_ext [idx t] <;> rfl
  exact (rows_at h t y0 y1).2.2.1.trans (congrArg (arr m c In.dy) e).symm

theorem final_x1_narrow (h : Real m c) : (dats m 0 c).arrAt 15 cfg0.N = arr m c In.dx1 := by
  refine (dats m 0 c).arrAt_eq_of_covers 15 (arr m c In.dx1) (by decide +kernel) fun t hf y => ?_
  blk_simp
  rw [after0_15]
  idx_vars y
  have e : ((cfg0.win 15).blk t).view.emb (ix2 y0 y1) = (ix2 (at_ t y0) y1 : S4096x1024.Idx) := by blk_ext [idx t] <;> rfl
  exact (rows_at h t y0 y1).2.2.2.trans (congrArg (arr m c In.dx1) e).symm

end Cert.FfnBwdIdeal.Value

end
-- ==== Proof.FfnRef.lean ====
/- The reference of the feed-forward block's gradients on real arguments: its seven results as real quantities. -/
module

public import proofs.«01_k».proof.Proof.FfnReal
public import proofs.«01_k».proof.Proof.Gen.FfnRefIdeal.Run
public import Idealize.ShloMosaic.Lib.Claim

@[expose] public section

set_option maxRecDepth 16384

noncomputable section

namespace Cert.FfnRefIdeal.Value

open Cert.FfnRefIdeal Cert.FfnRefIdeal.Gen Cert.Reals Cert.Ffn Idealize.ShloMosaic Idealize.ShloMosaic.TcCoe Idealize.SL.Sem

variable (m : (ℓ : Loc nD τ sig) → Buf (Elt Ideal) ℓ) (ρ : Dev nD → PrngReg) (a : Dev nD → In)

/-- The memory's arguments hold the inputs. -/
abbrev Real (m : (ℓ : Loc nD τ sig) → Buf (Elt Ideal) ℓ) (c : Dev nD) (a : In) : Prop :=
  Holds a (m ((c : Thread nD τ).loc main_arg0)) (m ((c : Thread nD τ).loc main_arg1)) (m ((c : Thread nD τ).loc main_arg2))
    (m ((c : Thread nD τ).loc main_arg3)) (m ((c : Thread nD τ).loc main_arg4)) (m ((c : Thread nD τ).loc main_arg5))
    (m ((c : Thread nD τ).loc main_arg6)) (m ((c : Thread nD τ).loc main_arg7))

theorem gate_real {m : (ℓ : Loc nD τ sig) → Buf (Elt Ideal) ℓ} {c : Dev nD} {a : In} (h : Real m c a) :
    res_main_v61 m c = (fun i : S4096x2816.Idx => ((a.dgate (i 0) (i 1) : ℝ) : EReal)) := by
  funext i
  idx_vars i
  pointwise [res_main_v61]
  simp only [h.x, h.g, h.y, h.wo, h.wg, h.wu, h.wd, h.ct, bits_1024, bits_eps, bits_one, bits_two, bits_neg_half, row_split, mul_real, sub_real,
    add_real, sum_real, neg_real, In.x1_def, In.gate_def, In.up_def, In.da_def, var_def, rsqrt_var, div_1024, div_var, exp_real, div_one_add_exp,
    one_sub_real, In.dup_def, In.dgate_def, In.dh_def, In.dx1_def, Fin.sum_univ_one]

theorem x1_real {m : (ℓ : Loc nD τ sig) → Buf (Elt Ideal) ℓ} {c : Dev nD} {a : In} (h : Real m c a) :
    res_main_v66 m c = (fun i : S4096x1024.Idx => ((a.dx1 (i 0) (i 1) : ℝ) : EReal)) := by
  funext i
  idx_vars i
  pointwise [res_main_v66]
  simp only [h.x, h.g, h.y, h.wo, h.wg, h.wu, h.wd, h.ct, bits_1024, bits_eps, bits_one, bits_two, bits_neg_half, row_split, mul_real, sub_real,
    add_real, sum_real, neg_real, In.x1_def, In.gate_def, In.up_def, In.da_def, var_def, rsqrt_var, div_1024, div_var, exp_real, div_one_add_exp,
    one_sub_real, In.dup_def, In.dgate_def, In.dh_def, In.dx1_def, Fin.sum_univ_one]

theorem gain_real {m : (ℓ : Loc nD τ sig) → Buf (Elt Ideal) ℓ} {c : Dev nD} {a : In} (h : Real m c a) :
    res_main_v67 m c = (fun i : S1x1024.Idx => ((∑ n, a.dgain n (i 1) : ℝ) : EReal)) := by
  funext i
  idx_vars i
  pointwise [res_main_v67]
  simp only [h.x, h.g, h.y, h.wo, h.wg, h.wu, h.wd, h.ct, bits_1024, bits_eps, bits_one, bits_two, bits_neg_half, row_split, mul_real, sub_real,
    add_real, sum_real, neg_real, In.x1_def, In.gate_def, In.up_def, In.da_def, var_def, rsqrt_var, div_1024, div_var, exp_real, div_one_add_exp,
    one_sub_real, In.dup_def, In.dgate_def, In.dh_def, In.dx1_def, Fin.sum_univ_one]
  rw [sum_rows fun n => a.x1 n i1 * rstd (a.x1 n) * a.dh n i1]
  exact congrArg _ (Finset.sum_congr rfl fun n _ => mul_comm _ _)

theorem y_real {m : (ℓ : Loc nD τ sig) → Buf (Elt Ideal) ℓ} {c : Dev nD} {a : In} (h : Real m c a) :
    res_main_v69 m c = (fun i : S4096x1024.Idx => ((a.dy (i 0) (i 1) : ℝ) : EReal)) := by
  funext i
  idx_vars i
  pointwise [res_main_v69]
  simp only [h.x, h.g, h.y, h.wo, h.wg, h.wu, h.wd, h.ct, bits_1024, bits_eps, bits_one, bits_two, bits_neg_half, row_split, mul_real, sub_real,
    add_real, sum_real, neg_real, In.x1_def, In.gate_def, In.up_def, In.da_def, var_def, rsqrt_var, div_1024, div_var, exp_real, div_one_add_exp,
    one_sub_real, In.dup_def, In.dgate_def, In.dh_def, In.dx1_def, Fin.sum_univ_one]
  rfl

theorem x1_narrow_real {m : (ℓ : Loc nD τ sig) → Buf (Elt Ideal) ℓ} {c : Dev nD} {a : In} (h : Real m c a) :
    res_main_v71 m c = (fun i : S4096x1024.Idx => ((a.dx1 (i 0) (i 1) : ℝ) : EReal)) := by
  funext i
  idx_vars i
  pointwise [res_main_v71]
  simp only [h.x, h.g, h.y, h.wo, h.wg, h.wu, h.wd, h.ct, bits_1024, bits_eps, bits_one, bits_two, bits_neg_half, row_split, mul_real, sub_real,
    add_real, sum_real, neg_real, In.x1_def, In.gate_def, In.up_def, In.da_def, var_def, rsqrt_var, div_1024, div_var, exp_real, div_one_add_exp,
    one_sub_real, In.dup_def, In.dgate_def, In.dh_def, In.dx1_def, Fin.sum_univ_one]

theorem flat_rows (A : FVec Ideal S2x2048x1024 .f32) (r : Fin 4096) (d : Fin 1024) :
    truncf .bf16 (shapeCast S4096x1024 (shapeCast S2x2048x1024 A shapeCasts_S2x2048x1024_S2x2048x1024) shapeCasts_S2x2048x1024_S4096x1024)
      bitsLt_bf16_f32 (ix2 r d) = A (ix3 ⟨r.val / 2048, by omega⟩ ⟨r.val % 2048, by omega⟩ d) := by
  rw [shapeCast_id]
  pointwise

theorem real_run (h : ∀ c, Real m c (a c)) :
    θ_run defs (onTc (τ := τ) (main (F := Ideal))) ⟨m, fun _ => 0, ρ⟩ fun r => ∀ c : Dev nD,
      r.2.mem ((c : Thread nD τ).loc main_v61) = (fun i : S4096x2816.Idx => ((a c).dgate (i 0) (i 1) : EReal))
      ∧ r.2.mem ((c : Thread nD τ).loc main_v63) = (fun i : S4096x2816.Idx => ((a c).dup (i 0) (i 1) : EReal))
      ∧ r.2.mem ((c : Thread nD τ).loc main_v65) = (fun i : S4096x1024.Idx => ((a c).ct (i 0) (i 1) : EReal))
      ∧ r.2.mem ((c : Thread nD τ).loc main_v66) = (fun i : S4096x1024.Idx => ((a c).dx1 (i 0) (i 1) : EReal))
      ∧ r.2.mem ((c : Thread nD τ).loc main_v67) = (fun i : S1x1024.Idx => ((∑ n, (a c).dgain n (i 1) : ℝ) : EReal))
      ∧ r.2.mem ((c : Thread nD τ).loc main_v69) = (fun i : S4096x1024.Idx => ((a c).dy (i 0) (i 1) : EReal))
      ∧ r.2.mem ((c : Thread nD τ).loc main_v71) = (fun i : S4096x1024.Idx => ((a c).dx1 (i 0) (i 1) : EReal))
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4)
      ∧ r.2.mem ((c : Thread nD τ).loc main_arg5) = m ((c : Thread nD τ).loc main_arg5)
      ∧ r.2.mem ((c : Thread nD τ).loc main_arg6) = m ((c : Thread nD τ).loc main_arg6)
      ∧ r.2.mem ((c : Thread nD τ).loc main_arg7) = m ((c : Thread nD τ).loc main_arg7) := by
  refine (θ_run defs _ _).mono (fun r hr c => ⟨(hr c).1.trans (gate_real (h c)), (hr c).2.1.trans ?_, (hr c).2.2.1.trans ?_,
    (hr c).2.2.2.1.trans (x1_real (h c)), (hr c).2.2.2.2.1.trans (gain_real (h c)), (hr c).2.2.2.2.2.1.trans (y_real (h c)),
    (hr c).2.2.2.2.2.2.1.trans (x1_narrow_real (h c)), (hr c).2.2.2.2.2.2.2⟩) (run m ρ)
  · clear hr
    refine funext fun i : S4096x2816.Idx => ?_
    idx_vars i
    have h := h c
    generalize a c = a at h ⊢
    pointwise
    simp only [h.x, h.g, h.y, h.wo, h.wg, h.wu, h.wd, h.ct, bits_1024, bits_eps, bits_one, bits_two, bits_neg_half, row_split, mul_real, sub_real,
      add_real, sum_real, neg_real, In.x1_def, In.gate_def, In.up_def, In.da_def, var_def, rsqrt_var, div_1024, div_var, exp_real, div_one_add_exp,
      one_sub_real, In.dup_def, In.dgate_def, In.dh_def, In.dx1_def, Fin.sum_univ_one]
  · clear hr
    refine funext fun i : S4096x1024.Idx => ?_
    idx_vars i
    refine (flat_rows _ i0 i1).trans ?_
    rw [(h c).ct, row_split]

end Cert.FfnRefIdeal.Value

end
-- ==== Proof.FfnClaim.lean ====
/- The feed-forward block's backward pair: on finite arguments both programs leave the same seven arrays. -/
module

public import proofs.«01_k».proof.Defs
public import proofs.«01_k».proof.Proof.FfnKernel
public import proofs.«01_k».proof.Proof.FfnRef
public import proofs.«01_k».proof.Proof.Gen.FfnBwd.Frame
public import proofs.«01_k».proof.Proof.Gen.FfnBwdIdeal.Frame
public import proofs.«01_k».proof.Proof.Gen.Pre_finite_ffn
public import Idealize.ShloMosaic.Lib.Quiescent

@[expose] public section

noncomputable section

namespace Cert.Ffn

open Idealize.ShloMosaic Idealize.ShloMosaic.TcCoe Idealize.SL.Sem Cert.Reals

theorem real (m : (ℓ : Loc FfnBwdIdeal.nD FfnBwdIdeal.τ FfnBwdIdeal.sig) → Buf (Elt Ideal) ℓ) (h : Pre_FfnBwdIdeal_finite_ffn m)
    (c : Dev FfnBwdIdeal.nD) : FfnBwdIdeal.Value.Real m c := by
  obtain ⟨h06, h7⟩ := both_of_and (h c)
  obtain ⟨h05, h6⟩ := both_of_and h06
  obtain ⟨h04, h5⟩ := both_of_and h05
  obtain ⟨h03, h4⟩ := both_of_and h04
  obtain ⟨h02, h3⟩ := both_of_and h03
  obtain ⟨h01, h2⟩ := both_of_and h02
  obtain ⟨h0, h1⟩ := both_of_and h01
  exact ⟨rows_real (real_of_finite _ _ _ _ _ _ (congrFun h0 ix0)), matrix_real (real_of_finite _ _ _ _ _ _ (congrFun h1 ix0)),
    rows_real (real_of_finite _ _ _ _ _ _ (congrFun h2 ix0)), entries_real (real_of_finite _ _ _ _ _ _ (congrFun h3 ix0)),
    matrix_real (real_of_finite _ _ _ _ _ _ (congrFun h4 ix0)), matrix_real (real_of_finite _ _ _ _ _ _ (congrFun h5 ix0)),
    matrix_real (real_of_finite _ _ _ _ _ _ (congrFun h6 ix0)), rows_real (real_of_finite _ _ _ _ _ _ (congrFun h7 ix0))⟩

theorem frame_ref : quiescent_FfnRefIdeal := fun m ρ _ =>
  (θ_run FfnRefIdeal.defs _ _).mono (fun r h => ⟨fun c => (h c).2.2.2.2.2.2.2, sem_eq_zero_of_no_sems (by decide) r.2⟩)
    (FfnRefIdeal.Value.run m ρ)

theorem algebraic : algebraic_FfnBwdIdeal_FfnRefIdeal_pre_finite_ffn := by
  intro m g m' g' hpre hargs
  have hr := real m hpre
  refine ⟨_, _, _, _, _, _, _, (θ_run FfnBwdIdeal.defs _ _).mono (fun r h c =>
      ⟨(h c).1.trans (FfnBwdIdeal.Value.final_gate (hr c)), (h c).2.1.trans (FfnBwdIdeal.Value.final_up (hr c)),
      (h c).2.2.1.trans (FfnBwdIdeal.Value.final_ct (hr c)), (h c).2.2.2.1.trans (FfnBwdIdeal.Value.final_x1 (hr c)),
      (h c).2.2.2.2.1.trans (FfnBwdIdeal.Value.final_gain (hr c)), (h c).2.2.2.2.2.1.trans (FfnBwdIdeal.Value.final_y (hr c)),
      (h c).2.2.2.2.2.2.1.trans (FfnBwdIdeal.Value.final_x1_narrow (hr c)), (h c).2.2.2.2.2.2.2⟩)
    (FfnBwdIdeal.Value.run_blocks m g), ?_⟩
  refine FfnRefIdeal.Value.real_run m' g' (FfnBwdIdeal.Value.inp m) fun c => ?_
  obtain ⟨e0, e1, e2, e3, e4, e5, e6, e7⟩ := hargs c
  unfold FfnRefIdeal.Value.Real
  rw [e0, e1, e2, e3, e4, e5, e6, e7]
  exact hr c

end Cert.Ffn

end
-- ==== Proof.Pieces.lean ====
/- Reading a buffer back from the pieces stored into it. -/
module

public import proofs.«01_k».proof.Proof.Reals
public import Idealize.ShloMosaic.Lib.Pipeline.ValueKit
public import Idealize.ShloMosaic.Lib.Pipeline.ReadBack

@[expose] public section

noncomputable section

namespace Cert.Pieces

open Cert.Reals Idealize.ShloMosaic Idealize.ShloMosaic.TcCoe Idealize.SL.Sem

theorem both {p q : Prop} (hp : p) (hq : p → q) : p ∧ q := ⟨hp, hq hp⟩

/-- Pieces that miss an index do not matter there. -/
theorem canon_after {s : Shape} {e : EltTy} {y : s.Idx} (L : List (View.Piece (Elt Ideal) s e)) :
    ∀ M : List (View.Piece (Elt Ideal) s e), (∀ p ∈ M, y ∉ p.1.set) → View.canon (M ++ L) y = View.canon L y
  | [], _ => rfl
  | p :: M, h => (View.canon_cons_of_not_mem p (M ++ L) (h p List.mem_cons_self)).trans
      (canon_after L M fun q hq => h q (List.mem_cons_of_mem _ hq))

/-- Pieces of one array that cover an index. -/
theorem canon_pieces {s : Shape} {e : EltTy} (G : s.Idx → Elt Ideal e) {L : List (View.Piece (Elt Ideal) s e)} (h : View.PiecesOf G L) (y : s.Idx)
    (hc : ∃ p ∈ L, y ∈ p.1.set) : View.canon L y = G y := by
  have := View.canon_append_of_piecesOf G [] L h y hc
  rwa [List.append_nil] at this

/-- A load that misses every store but the first reads what the first stored. -/
theorem read_last {sg : RefSig} {κ : Kind} {sp : Space} {s : Shape} {e : EltTy} {v : View sg κ sp s e} (M : List (View.Piece (Elt Ideal) s e)) (F : View.Piece (Elt Ideal) s e)
    (hM : M = M.dropLast ++ [F]) (R : LoadRect s) (hd : LoadRect.disjAll (M.dropLast.map Sigma.fst) R = true) (x : R.shape.Idx) (y : F.1.shape.Idx)
    (hx : R.idx x = F.1.emb y) : v.readCov (Val := Elt Ideal) M R x = F.2 y := by
  rw [hM, View.readCov_eq_canon']
  show View.canon (Val := Elt Ideal) _ (R.idx x) = _
  rw [canon_after _ _ fun p hp => LoadRect.forall_not_mem_of_disjAll _ _ hd _ p hp, hx]
  exact View.canon_cons_emb (Val := Elt Ideal) F.1 F.2 [] y

/-- A load of a whole buffer of rows. -/
theorem read_whole {sg : RefSig} {κ : Kind} {sp : Space} {n k : ℕ} {e : EltTy} {v : View sg κ sp ⟨2, ![n, k]⟩ e} {L : List (View.Piece (Elt Ideal) ⟨2, ![n, k]⟩ e)}
    {G : Fin n → Fin k → Elt Ideal e} (hP : ∀ r j, View.canon L (ix2 r j) = G r j) {inb} (r : Fin n) (j : Fin k) :
    v.readCov L (Rect.unit (s := ⟨2, ![n, k]⟩) ![0, 0] ![n, k] inb).toLoadRect (ix2 r j) = G r j := by
  rw [View.readCov_eq_canon']
  refine Eq.trans (congrArg (View.canon L) ?_) (hP r j)
  blk_ext <;> simp

theorem ld_tile {n k : ℕ} {e : EltTy} (A : Vec Ideal ⟨2, ![n, k]⟩ e) {ro co : ℕ} (inb) (i j : Fin 128) (hi : ro + i.val < n) (hj : co + j.val < k) :
    View.ld A (Rect.unit ![ro, co] ![128, 128] inb) (ix2 i j) = A (ix2 ⟨ro + i.val, hi⟩ ⟨co + j.val, hj⟩) := by
  pointwise
  exact congrArg A (by blk_ext <;> rfl)

theorem ld_slab {k : ℕ} {e : EltTy} (A : Vec Ideal ⟨3, ![8, 128, k]⟩ e) {o : ℕ} (g : Fin 8) (ho : o = g.val) (inb) (i : Fin 128) (j : Fin k) :
    View.ld A (Rect.unit ![o, 0, 0] ![1, 128, k] inb) (ix3 0 i j) = A (ix3 g i j) := by
  subst ho
  exact congrArg A (by blk_ext; exacts [rfl, by simp, by simp])

end Cert.Pieces

end
-- ==== Proof.Halo.lean ====
/- A block of 512 rows with the sixteen rows before it, or after it, in its sequence. -/
module

public import proofs.«01_k».proof.Proof.Pieces

@[expose] public section

noncomputable section

namespace Cert.Halo

open Cert.Reals Idealize.ShloMosaic Idealize.ShloMosaic.TcCoe Idealize.SL.Sem

/-- The row `k` rows before `n` in `n`'s sequence; zero before the sequence's first row. -/
def back (k : ℕ) (f : Fin 4096 → ℝ) (n : Fin 4096) : ℝ := if n.val % 2048 < k then 0 else f ⟨n.val - k, by omega⟩

/-- The row `k` rows after `n` in `n`'s sequence; zero past the sequence's last row. -/
def ahead (k : ℕ) (f : Fin 4096 → ℝ) (n : Fin 4096) : ℝ := if h : n.val % 2048 + k < 2048 then f ⟨n.val + k, by omega⟩ else 0

/-- The rows of block `t` after the sixteen before them, which are zero at a sequence's start. -/
def headRow (F : Fin 4096 → Fin 1024 → ℝ) (t : ℕ) (p : Fin 528) (d : Fin 1024) : ℝ :=
  if t % 4 = 0 ∧ p.val < 16 then 0 else F ⟨(t * 512 + p.val - 16) % 4096, by omega⟩ d

/-- The rows of block `t` and the sixteen after them, which are zero at a sequence's end. -/
def tailRow (F : Fin 4096 → Fin 1024 → ℝ) (t : ℕ) (p : Fin 528) (d : Fin 1024) : ℝ :=
  if t % 4 = 3 ∧ 512 ≤ p.val then 0 else F ⟨(t * 512 + p.val) % 4096, by omega⟩ d

section Rows

variable {F : Fin 4096 → Fin 1024 → ℝ} {t : ℕ} (ht : t < 8)

include ht in
theorem headRow_block (r : Fin 512) (d : Fin 1024) (hp : 16 + r.val < 528) : headRow F t ⟨16 + r.val, hp⟩ d = F ⟨t * 512 + r.val, by omega⟩ d := by
  unfold headRow
  rw [if_neg (by show ¬ (t % 4 = 0 ∧ 16 + r.val < 16); omega)]
  exact congrArg (F · d) (Fin.ext (by show (t * 512 + (16 + r.val) - 16) % 4096 = t * 512 + r.val; omega))

include ht in
theorem tailRow_block (r : Fin 512) (d : Fin 1024) (hp : r.val < 528) : tailRow F t ⟨r.val, hp⟩ d = F ⟨t * 512 + r.val, by omega⟩ d := by
  unfold tailRow
  rw [if_neg (by show ¬ (t % 4 = 3 ∧ 512 ≤ r.val); omega)]
  exact congrArg (F · d) (Fin.ext (by show (t * 512 + r.val) % 4096 = t * 512 + r.val; omega))

theorem headRow_back (k : ℕ) (hk : k ≤ 16) (r : Fin 512) (d : Fin 1024) (hp : 16 - k + r.val < 528) :
    headRow F t ⟨16 - k + r.val, hp⟩ d = back k (fun n => F n d) ⟨t * 512 + r.val, by omega⟩ := by
  have e : (t * 512 + r.val) % 2048 < k ↔ t % 4 = 0 ∧ 16 - k + r.val < 16 := by omega
  unfold headRow back
  by_cases hc : t % 4 = 0 ∧ 16 - k + r.val < 16
  · rw [if_pos hc, if_pos (e.mpr hc)]
  · rw [if_neg hc, if_neg (mt e.mp hc)]
    exact congrArg (F · d) (Fin.ext (by show (t * 512 + (16 - k + r.val) - 16) % 4096 = t * 512 + r.val - k; omega))

theorem tailRow_ahead (k : ℕ) (hk : k ≤ 16) (r : Fin 512) (d : Fin 1024) (hp : k + r.val < 528) :
    tailRow F t ⟨k + r.val, hp⟩ d = ahead k (fun n => F n d) ⟨t * 512 + r.val, by omega⟩ := by
  have e : (t * 512 + r.val) % 2048 + k < 2048 ↔ ¬ (t % 4 = 3 ∧ 512 ≤ k + r.val) := by omega
  unfold tailRow ahead
  by_cases hc : t % 4 = 3 ∧ 512 ≤ k + r.val
  · rw [if_pos hc, dif_neg (fun h => e.mp h hc)]
  · rw [if_neg hc, dif_pos (e.mpr hc)]
    exact congrArg (F · d) (Fin.ext (by show (t * 512 + (k + r.val)) % 4096 = t * 512 + r.val + k; omega))

end Rows

/-- A chunk of 512 rows of the scratch, read after the two stores that fill its columns with `G`. -/
theorem tall_load {sg : RefSig} {κ : Kind} {sp : Space} {na nb q w o k : ℕ} (hn : nb + na = 528) (hq : q ≤ o) (hw : o + 256 ≤ q + w) (ho : q + w ≤ 1024) (hk : k + 512 ≤ 528)
    (G : Fin 528 → Fin 1024 → ℝ) (v : View sg κ sp ⟨2, ![528, 1024]⟩ .f32) {inbA inbB inbL} {pa : Vec Ideal ⟨2, ![na, w]⟩ .f32} {pb : Vec Ideal ⟨2, ![nb, w]⟩ .f32}
    (L : List (View.Piece (Elt Ideal) ⟨2, ![528, 1024]⟩ .f32))
    (ha : ∀ (r : Fin na) (j : Fin w), pa (ix2 r j) = (G ⟨nb + r.val, by omega⟩ ⟨q + j.val, by omega⟩ : EReal))
    (hb : ∀ (r : Fin nb) (j : Fin w), pb (ix2 r j) = (G ⟨r.val, by omega⟩ ⟨q + j.val, by omega⟩ : EReal)) (r : Fin 512) (j : Fin 256) :
    v.readCov (⟨Rect.unit ![nb, q] ![na, w] inbA, pa⟩ :: ⟨Rect.unit ![0, q] ![nb, w] inbB, pb⟩ :: L)
      (Rect.unit (s := ⟨2, ![528, 1024]⟩) ![k, o] ![512, 256] inbL).toLoadRect (ix2 r j) = (G ⟨k + r.val, by omega⟩ ⟨o + j.val, by omega⟩ : EReal) := by
  rw [View.readCov_eq_canon']
  have e : (Rect.unit (s := ⟨2, ![528, 1024]⟩) ![k, o] ![512, 256] inbL).toLoadRect.idx (ix2 r j)
      = (ix2 ⟨k + r.val, by omega⟩ ⟨o + j.val, by omega⟩ : (⟨2, ![528, 1024]⟩ : Shape).Idx) := by
    blk_ext <;> simp
  show View.canon _ ((Rect.unit (s := ⟨2, ![528, 1024]⟩) ![k, o] ![512, 256] inbL).toLoadRect.idx (ix2 r j)) = _
  rw [e]
  refine View.canon_append_of_piecesOf (fun i => (G (i 0) (i 1) : EReal)) L
    [⟨Rect.unit ![nb, q] ![na, w] inbA, pa⟩, ⟨Rect.unit ![0, q] ![nb, w] inbB, pb⟩] ⟨fun x => ?_, fun x => ?_, trivial⟩ _ ?_
  · obtain ⟨x0, x1, rfl⟩ : ∃ (x0 : Fin na) (x1 : Fin w), x = ix2 x0 x1 := ⟨x 0, x 1, by blk_ext⟩
    have e : (Rect.unit (s := ⟨2, ![528, 1024]⟩) ![nb, q] ![na, w] inbA).emb (ix2 x0 x1)
        = (ix2 ⟨nb + x0.val, by omega⟩ ⟨q + x1.val, by omega⟩ : (⟨2, ![528, 1024]⟩ : Shape).Idx) := by
      blk_ext <;> simp
    exact (ha x0 x1).trans (congrArg (fun i : (⟨2, ![528, 1024]⟩ : Shape).Idx => (G (i 0) (i 1) : EReal)) e).symm
  · obtain ⟨x0, x1, rfl⟩ : ∃ (x0 : Fin nb) (x1 : Fin w), x = ix2 x0 x1 := ⟨x 0, x 1, by blk_ext⟩
    have e : (Rect.unit (s := ⟨2, ![528, 1024]⟩) ![0, q] ![nb, w] inbB).emb (ix2 x0 x1)
        = (ix2 ⟨x0.val, by omega⟩ ⟨q + x1.val, by omega⟩ : (⟨2, ![528, 1024]⟩ : Shape).Idx) := by
      blk_ext <;> simp
    exact (hb x0 x1).trans (congrArg (fun i : (⟨2, ![528, 1024]⟩ : Shape).Idx => (G (i 0) (i 1) : EReal)) e).symm
  · by_cases hc : k + r.val < nb
    · refine ⟨⟨Rect.unit ![0, q] ![nb, w] inbB, pb⟩, List.mem_cons_of_mem _ List.mem_cons_self, (Rect.mem_set_unit (inb := inbB)).mpr fun i => ?_⟩
      fin_cases i
      · exact ⟨Nat.zero_le _, by show k + r.val < 0 + nb; omega⟩
      · exact ⟨by show q ≤ o + j.val; omega, by show o + j.val < q + w; omega⟩
    · refine ⟨⟨Rect.unit ![nb, q] ![na, w] inbA, pa⟩, List.mem_cons_self, (Rect.mem_set_unit (inb := inbA)).mpr fun i => ?_⟩
      fin_cases i
      · exact ⟨Nat.le_of_not_lt hc, by show k + r.val < nb + na; omega⟩
      · exact ⟨by show q ≤ o + j.val; omega, by show o + j.val < q + w; omega⟩

end Cert.Halo

end
-- ==== Proof.ConvReal.lean ====
/- The gated short convolution and its gradients on real rows. -/
module

public import proofs.«01_k».proof.Proof.Halo

@[expose] public section

noncomputable section

namespace Cert.Conv

open Idealize.ShloMosaic Cert.Reals Cert.Halo

/-- The block's inputs: the rows, the norm's gain, the input weight, the three taps, the cotangent of the mixer's rows and
    that of the residual. -/
structure In where
  x : Fin 4096 → Fin 1024 → ℝ
  g : Fin 1024 → ℝ
  win : Fin 1024 → Fin 3072 → ℝ
  cw : Fin 3 → Fin 1024 → ℝ
  dy : Fin 4096 → Fin 1024 → ℝ
  dres : Fin 4096 → Fin 1024 → ℝ

/-- A column of the projection's three thirds. -/
def colB (j : Fin 1024) : Fin 3072 := ⟨j.val, by omega⟩
def colC (j : Fin 1024) : Fin 3072 := ⟨1024 + j.val, by omega⟩
def colX (j : Fin 1024) : Fin 3072 := ⟨2048 + j.val, by omega⟩

/-- A sum over `N` indices, the first `p` apart. -/
theorem sum_two {N p q : ℕ} (h : N = p + q) (f : Fin N → ℝ) :
    ∑ j, f j = (∑ j : Fin p, f ⟨j.val, by omega⟩) + ∑ j : Fin q, f ⟨p + j.val, by omega⟩ := by
  subst h
  exact Fin.sum_univ_add f

namespace In

variable (a : In) (n : Fin 4096)

/-- The normalised row. -/
def hat (d : Fin 1024) : ℝ := a.x n d * rstd (a.x n)

/-- The projection, and its three parts: the output's gate, the input's gate, the row to convolve. -/
def p (j : Fin 3072) : ℝ := ∑ d, a.hat n d * a.g d * a.win d j
def gb (j : Fin 1024) : ℝ := a.p n (colB j)
def gc (j : Fin 1024) : ℝ := a.p n (colC j)
def xt (j : Fin 1024) : ℝ := a.p n (colX j)

/-- The row the convolution takes. -/
def q (j : Fin 1024) : ℝ := a.gc n j * a.xt n j

/-- The convolution with the three taps. -/
def y (j : Fin 1024) : ℝ := a.cw 0 j * back 2 (fun n => a.q n j) n + a.cw 1 j * back 1 (fun n => a.q n j) n + a.cw 2 j * a.q n j

/-- The gradient of the convolution's row. -/
def dyc (j : Fin 1024) : ℝ := a.dy n j * a.gb n j

/-- The gradient of the row the convolution takes. -/
def dq (j : Fin 1024) : ℝ := a.cw 2 j * a.dyc n j + a.cw 1 j * ahead 1 (fun n => a.dyc n j) n + a.cw 0 j * ahead 2 (fun n => a.dyc n j) n

def dgb (j : Fin 1024) : ℝ := a.dy n j * a.y n j
def dgc (j : Fin 1024) : ℝ := a.dq n j * a.xt n j
def dxt (j : Fin 1024) : ℝ := a.dq n j * a.gc n j

/-- The gradient of the projection. -/
def dp (j : Fin 3072) : ℝ :=
  if h : j.val < 1024 then a.dgb n ⟨j.val, h⟩
  else if h : j.val - 1024 < 1024 then a.dgc n ⟨j.val - 1024, h⟩ else a.dxt n ⟨j.val - 1024 - 1024, by omega⟩

/-- The gradient of the scaled normalised row. -/
def dh (d : Fin 1024) : ℝ := ∑ j, a.dp n j * a.win d j

/-- The gradient of the block's input row. -/
def dx (d : Fin 1024) : ℝ := a.dres n d + normBwd (a.x n) (fun k => a.dh n k * a.g k) d

/-- The row's part of the gain's gradient. -/
def dgain (d : Fin 1024) : ℝ := a.dh n d * a.hat n d

/-- The row's part of the taps' gradients. -/
def dtap (k : Fin 3) (j : Fin 1024) : ℝ :=
  a.dyc n j * if k = 0 then back 2 (fun n => a.q n j) n else if k = 1 then back 1 (fun n => a.q n j) n else a.q n j

theorem dp_colB (j : Fin 1024) : a.dp n (colB j) = a.dgb n j := dif_pos j.isLt
theorem dp_colC (j : Fin 1024) : a.dp n (colC j) = a.dgc n j := by
  have h1 : ¬ (colC j).val < 1024 := by show ¬ 1024 + j.val < 1024; omega
  have h2 : (colC j).val - 1024 = j.val := by show 1024 + j.val - 1024 = j.val; omega
  unfold dp
  rw [dif_neg h1, dif_pos (by omega)]
  exact congrArg _ (Fin.ext h2)
theorem dp_colX (j : Fin 1024) : a.dp n (colX j) = a.dxt n j := by
  have h1 : ¬ (colX j).val < 1024 := by show ¬ 2048 + j.val < 1024; omega
  have h2 : ¬ (colX j).val - 1024 < 1024 := by show ¬ 2048 + j.val - 1024 < 1024; omega
  have h3 : (colX j).val - 1024 - 1024 = j.val := by show 2048 + j.val - 1024 - 1024 = j.val; omega
  unfold dp
  rw [dif_neg h1, dif_neg h2]
  exact congrArg _ (Fin.ext h3)

theorem p_def (j : Fin 3072) : ∑ d, a.x n d * rstd (a.x n) * a.g d * a.win d j = a.p n j := rfl
/-! The same quantities as a program over columns by number writes them. -/

/-- `q` at a column number, zero past the last column. -/
def qAt (j : ℕ) : ℝ := if h : j < 1024 then a.q n ⟨j, h⟩ else 0

theorem qAt_def (j : ℕ) (h1 : 1024 + j < 3072) (h2 : 2048 + j < 3072) : a.p n ⟨1024 + j, h1⟩ * a.p n ⟨2048 + j, h2⟩ = a.qAt n j := by
  have h : j < 1024 := by omega
  unfold qAt
  rw [dif_pos h]; rfl
theorem qAt_eq (j : Fin 1024) : a.qAt n j.val = a.q n j := dif_pos j.isLt
theorem dyc_def (j : ℕ) (h1 : j < 3072) (h2 : j < 1024) : a.p n ⟨j, h1⟩ * a.dy n ⟨j, h2⟩ = a.dyc n ⟨j, h2⟩ := mul_comm _ _

theorem dyc_fin (j : Fin 1024) (h : j.val < 3072) : a.p n ⟨j.val, h⟩ * a.dy n j = a.dyc n j := mul_comm _ _

theorem back2_def (b : Fin 2) (s : Fin 2048) (j : ℕ) :
    (if h : s.val < 2 then (0 : EReal) else (a.qAt (row b ⟨s.val - 2, by omega⟩) j : EReal)) = (back 2 (fun n => a.qAt n j) (row b s) : EReal) := by
  have e : (2048 * b.val + s.val) % 2048 = s.val := by omega
  unfold back
  by_cases h : s.val < 2
  · rw [dif_pos h, if_pos (by simpa only [e] using h)]; rfl
  · rw [dif_neg h, if_neg (by simpa only [e] using h)]
    exact congrArg (fun n => (a.qAt n j : EReal)) (Fin.ext (by show 2048 * b.val + (s.val - 2) = 2048 * b.val + s.val - 2; omega))

theorem back1_def (b : Fin 2) (s : Fin 2048) (j : ℕ) :
    (if h : 1 + s.val < 2 then (0 : EReal) else (a.qAt (row b ⟨1 + s.val - 2, by omega⟩) j : EReal)) = (back 1 (fun n => a.qAt n j) (row b s) : EReal) := by
  have e : (2048 * b.val + s.val) % 2048 = s.val := by omega
  unfold back
  by_cases h : 1 + s.val < 2
  · rw [dif_pos h, if_pos (by simp only [e]; omega)]; rfl
  · rw [dif_neg h, if_neg (by simp only [e]; omega)]
    exact congrArg (fun n => (a.qAt n j : EReal)) (Fin.ext (by show 2048 * b.val + (1 + s.val - 2) = 2048 * b.val + s.val - 1; omega))

theorem y_def (j : ℕ) (h : j < 1024) : a.cw 0 ⟨j, h⟩ * back 2 (fun n => a.qAt n j) n + a.cw 1 ⟨j, h⟩ * back 1 (fun n => a.qAt n j) n
    + a.cw 2 ⟨j, h⟩ * a.qAt n j = a.y n ⟨j, h⟩ := by
  have e : ∀ n, a.qAt n j = a.q n ⟨j, h⟩ := fun n => dif_pos h
  simp only [e]; rfl

/-- `dq` at a column number, zero past the last column. -/
def dqAt (j : ℕ) : ℝ := if h : j < 1024 then a.dq n ⟨j, h⟩ else 0

theorem dqAt_def (b : Fin 2) (s : Fin 2048) (j : ℕ) :
    (if h : j < 1024 then ((a.cw 2 ⟨j, h⟩ * a.dyc (row b s) ⟨j, h⟩ : ℝ) : EReal) else 0)
      + (if h : (1 ≤ 2 + s.val ∧ 2 + s.val - 1 < 2048) ∧ j < 1024 then
          ((a.cw 1 ⟨j, h.2⟩ * a.dyc (row b ⟨2 + s.val - 1, h.1.2⟩) ⟨j, h.2⟩ : ℝ) : EReal) else 0)
      + (if h : 2 + s.val < 2048 ∧ j < 1024 then ((a.cw 0 ⟨j, h.2⟩ * a.dyc (row b ⟨2 + s.val, h.1⟩) ⟨j, h.2⟩ : ℝ) : EReal) else 0)
      = (a.dqAt (row b s) j : EReal) := by
  have e : (2048 * b.val + s.val) % 2048 = s.val := by omega
  unfold dqAt
  by_cases h : j < 1024
  · have e1 : (if h : (1 ≤ 2 + s.val ∧ 2 + s.val - 1 < 2048) ∧ j < 1024 then
          ((a.cw 1 ⟨j, h.2⟩ * a.dyc (row b ⟨2 + s.val - 1, h.1.2⟩) ⟨j, h.2⟩ : ℝ) : EReal) else 0)
        = ((a.cw 1 ⟨j, h⟩ * ahead 1 (fun n => a.dyc n ⟨j, h⟩) (row b s) : ℝ) : EReal) := by
      unfold ahead
      by_cases h' : 2 + s.val - 1 < 2048
      · rw [dif_pos ⟨⟨by omega, h'⟩, h⟩, dif_pos (by simp only [e]; omega)]
        exact congrArg (fun n => ((a.cw 1 ⟨j, h⟩ * a.dyc n ⟨j, h⟩ : ℝ) : EReal))
          (Fin.ext (by show 2048 * b.val + (2 + s.val - 1) = 2048 * b.val + s.val + 1; omega))
      · rw [dif_neg fun x => h' x.1.2, dif_neg (by simp only [e]; omega), mul_zero]; rfl
    have e2 : (if h : 2 + s.val < 2048 ∧ j < 1024 then ((a.cw 0 ⟨j, h.2⟩ * a.dyc (row b ⟨2 + s.val, h.1⟩) ⟨j, h.2⟩ : ℝ) : EReal) else 0)
        = ((a.cw 0 ⟨j, h⟩ * ahead 2 (fun n => a.dyc n ⟨j, h⟩) (row b s) : ℝ) : EReal) := by
      unfold ahead
      by_cases h' : 2 + s.val < 2048
      · rw [dif_pos ⟨h', h⟩, dif_pos (by simp only [e]; omega)]
        exact congrArg (fun n => ((a.cw 0 ⟨j, h⟩ * a.dyc n ⟨j, h⟩ : ℝ) : EReal))
          (Fin.ext (by show 2048 * b.val + (2 + s.val) = 2048 * b.val + s.val + 2; omega))
      · rw [dif_neg fun x => h' x.1, dif_neg (by simp only [e]; omega), mul_zero]; rfl
    rw [e1, e2, dif_pos h, dif_pos h, add_real, add_real]
    rfl
  · rw [dif_neg h, dif_neg fun x => h x.2, dif_neg fun x => h x.2, dif_neg h, zero_add, zero_add]; rfl

theorem dp_def (j : Fin 3072) :
    (if h : j.val < 1024 then ((a.dy n ⟨j.val, h⟩ * a.y n ⟨j.val, h⟩ : ℝ) : EReal)
      else if h : j.val - 1024 < 1024 then ((a.dqAt n (j.val - 1024) * a.p n ⟨2048 + (j.val - 1024), by omega⟩ : ℝ) : EReal)
      else ((a.p n ⟨1024 + (j.val - 1024 - 1024), by omega⟩ * a.dqAt n (j.val - 1024 - 1024) : ℝ) : EReal)) = (a.dp n j : EReal) := by
  unfold dp
  by_cases h : j.val < 1024
  · rw [dif_pos h, dif_pos h]; rfl
  · rw [dif_neg h, dif_neg h]
    by_cases h' : j.val - 1024 < 1024
    · rw [dif_pos h', dif_pos h', dqAt, dif_pos h']; rfl
    · rw [dif_neg h', dif_neg h', dqAt, dif_pos (by omega), mul_comm]; rfl

theorem gain_def (d : Fin 1024) : ∑ b, ∑ s, a.x (row b s) d * rstd (a.x (row b s)) * a.dh (row b s) d = ∑ n, a.dgain n d := by
  rw [sum_rows fun n => a.x n d * rstd (a.x n) * a.dh n d]
  exact Finset.sum_congr rfl fun n _ => mul_comm _ _

/-- The last tap's sum, and the middle one's. -/
theorem tap2_def (j : Fin 1024) :
    ∑ b, ∑ s, a.dyc (row b s) j * a.qAt (row b s) j.val = ∑ n, a.dtap n 2 j := by
  rw [sum_rows fun n => a.dyc n j * a.qAt n j.val]
  refine Finset.sum_congr rfl fun n _ => ?_
  rw [qAt_eq]; rfl
theorem tap1_def (j : Fin 1024) :
    ∑ b, ∑ s, a.dyc (row b s) j * back 1 (fun n => a.qAt n j.val) (row b s) = ∑ n, a.dtap n 1 j := by
  rw [sum_rows fun n => a.dyc n j * back 1 (fun n => a.qAt n j.val) n]
  refine Finset.sum_congr rfl fun n _ => ?_
  simp only [qAt_eq]; rfl

/-- The first tap's sum: the two first rows of a sequence meet no row. -/
theorem tap0_def (j : Fin 1024) :
    ∑ b, ∑ s : Fin 2046, a.dyc (row b ⟨2 + s.val, by omega⟩) j * a.qAt (row b ⟨s.val, by omega⟩) j.val
      = ∑ n, a.dtap n 0 j := by
  rw [← sum_rows fun n => a.dtap n 0 j]
  refine Finset.sum_congr rfl fun b _ => ?_
  rw [sum_two (p := 2) (q := 2046) (by norm_num) fun s => a.dtap (row b s) 0 j]
  have e : ∀ s : Fin 2048, (2048 * b.val + s.val) % 2048 = s.val := fun s => by omega
  have e0 : ∀ s : Fin 2, a.dtap (row b ⟨s.val, by omega⟩) 0 j = 0 := fun s => by
    unfold dtap back
    rw [if_pos rfl, if_pos (by rw [e]; exact s.isLt), mul_zero]
  simp only [e0, Finset.sum_const_zero, zero_add]
  refine Finset.sum_congr rfl fun s _ => ?_
  unfold dtap back
  rw [if_pos rfl, if_neg (by rw [e]; exact Nat.not_lt.mpr (Nat.le_add_right 2 s.val)), qAt_eq]
  refine congrArg (fun n => a.dyc (row b ⟨2 + s.val, by omega⟩) j * a.q n j) (Fin.ext ?_)
  show 2048 * b.val + s.val = 2048 * b.val + (2 + s.val) - 2
  omega

theorem dh_def (d : Fin 1024) : ∑ j, a.dp n j * a.win d j = a.dh n d := rfl
theorem dx_def (d : Fin 1024) : a.dres n d + a.dh n d * a.g d * rstd (a.x n)
      + a.x n d * ((∑ k, a.x n k * (a.dh n k * a.g k)) * (-(1 / 2) * (rstd (a.x n) / var (a.x n))) / 1024)
      + (∑ k, a.x n k * (a.dh n k * a.g k)) * (-(1 / 2) * (rstd (a.x n) / var (a.x n))) / 1024 * a.x n d = a.dx n d :=
  norm_bwd_add _ _ (fun k => a.dh n k * a.g k) d

end In

/-- The inputs a program's six arrays hold. -/
def input (x : FVec Ideal ⟨3, ![2, 2048, 1024]⟩ .f32) (g : FVec Ideal ⟨1, ![1024]⟩ .f32) (win : FVec Ideal ⟨2, ![1024, 3072]⟩ .f32)
    (cw : FVec Ideal ⟨2, ![3, 1024]⟩ .f32) (dy dres : FVec Ideal ⟨3, ![2, 2048, 1024]⟩ .f32) : In :=
  ⟨rows x, entries g, matrix win, matrix cw, rows dy, rows dres⟩

/-- The six arrays are real: they hold the inputs. -/
structure Holds (a : In) (x : FVec Ideal ⟨3, ![2, 2048, 1024]⟩ .f32) (g : FVec Ideal ⟨1, ![1024]⟩ .f32)
    (win : FVec Ideal ⟨2, ![1024, 3072]⟩ .f32) (cw : FVec Ideal ⟨2, ![3, 1024]⟩ .f32)
    (dy dres : FVec Ideal ⟨3, ![2, 2048, 1024]⟩ .f32) : Prop where
  x : ∀ b s d, x (ix3 b s d) = (a.x (row b s) d : EReal)
  g : ∀ d, g (ix1 d) = (a.g d : EReal)
  win : ∀ d j, win (ix2 d j) = (a.win d j : EReal)
  cw : ∀ k j, cw (ix2 k j) = (a.cw k j : EReal)
  dy : ∀ b s d, dy (ix3 b s d) = (a.dy (row b s) d : EReal)
  dres : ∀ b s d, dres (ix3 b s d) = (a.dres (row b s) d : EReal)

end Cert.Conv

end
-- ==== Proof.ConvKernel.lean ====
/- The gated convolution's backward kernel on real inputs: the four arrays it leaves. -/
module

public import proofs.«01_k».proof.Proof.ConvReal
public import proofs.«01_k».proof.Proof.Pieces
public import proofs.«01_k».proof.Proof.Gen.ConvBwdIdeal.Value
public import Idealize.ShloMosaic.Lib.Pipeline.ValueKit
public import Idealize.ShloMosaic.Lib.Pipeline.ReadBack
public import Idealize.ShloMosaic.Lib.Claim

@[expose] public section

set_option maxRecDepth 16384

noncomputable section

namespace Cert.ConvBwdIdeal.Value

open Cert.ConvBwdIdeal Cert.ConvBwdIdeal.Gen Cert.Reals Cert.Pieces Cert.Halo Cert.Conv Idealize.ShloMosaic Idealize.ShloMosaic.TcCoe Idealize.SL.Sem

section Block

/-! ## One chunk of columns -/

variable {a : In} {n : Fin 512 → Fin 4096} {f : Fin 256 → Fin 1024}

theorem q_block {gc xt : Vec Ideal S512x256 .bf16} (hgc : ∀ r j, gc (ix2 r j) = (a.gc (n r) (f j) : EReal))
    (hxt : ∀ r j, xt (ix2 r j) = (a.xt (n r) (f j) : EReal)) (r : Fin 512) (j : Fin 256) :
    k0_pay12 (k0_pay10 gc xt) (ix2 r j) = (a.q (n r) (f j) : EReal) := by
  pointwise [k0_pay12, k0_pay10, k0_pay9, k0_pay8]
  rw [hgc, hxt, mul_real]
  rfl

theorem dyc_block {gb dy : Vec Ideal S512x256 .bf16} (hgb : ∀ r j, gb (ix2 r j) = (a.gb (n r) (f j) : EReal))
    (hdy : ∀ r j, dy (ix2 r j) = (a.dy (n r) (f j) : EReal)) (r : Fin 512) (j : Fin 256) :
    k0_pay16 (k0_pay15 (k0_pay7 gb) dy) (ix2 r j) = (a.dyc (n r) (f j) : EReal) := by
  pointwise [k0_pay16, k0_pay15, k0_pay13, k0_pay7]
  rw [hgb, hdy, mul_real]
  rfl

variable {gb gc xt dy : Vec Ideal S512x256 .bf16} {q2 q1 d1 d2 : Vec Ideal S512x256 .f32} {w0 w1 w2 : Vec Ideal S1x256 .f32}

section Reads

variable (hgb : ∀ r j, gb (ix2 r j) = (a.gb (n r) (f j) : EReal)) (hgc : ∀ r j, gc (ix2 r j) = (a.gc (n r) (f j) : EReal))
  (hxt : ∀ r j, xt (ix2 r j) = (a.xt (n r) (f j) : EReal)) (hdy : ∀ r j, dy (ix2 r j) = (a.dy (n r) (f j) : EReal))
  (hq2 : ∀ r j, q2 (ix2 r j) = (back 2 (fun n => a.q n (f j)) (n r) : EReal)) (hq1 : ∀ r j, q1 (ix2 r j) = (back 1 (fun n => a.q n (f j)) (n r) : EReal))
  (hd1 : ∀ r j, d1 (ix2 r j) = (ahead 1 (fun n => a.dyc n (f j)) (n r) : EReal)) (hd2 : ∀ r j, d2 (ix2 r j) = (ahead 2 (fun n => a.dyc n (f j)) (n r) : EReal))
  (hw0 : ∀ j, w0 (ix2 0 j) = (a.cw 0 (f j) : EReal)) (hw1 : ∀ j, w1 (ix2 0 j) = (a.cw 1 (f j) : EReal)) (hw2 : ∀ j, w2 (ix2 0 j) = (a.cw 2 (f j) : EReal))

include hgc hxt hdy hq2 hq1 hw0 hw1 hw2 in
theorem dgb_block (r : Fin 512) (j : Fin 256) : k0_pay14 (k0_pay10 gc xt) q2 q1 w0 w1 w2 dy (ix2 r j) = (a.dgb (n r) (f j) : EReal) := by
  pointwise [k0_pay14, k0_pay13, k0_pay10, k0_pay9, k0_pay8]
  simp only [hgc, hxt, hdy, hq2, hq1, hw0, hw1, hw2, mul_real, add_real]
  rfl

include hgb hdy hd1 hd2 hw0 hw1 hw2 in
theorem dq_block (r : Fin 512) (j : Fin 256) :
    k0_pay18 (k0_pay15 (k0_pay7 gb) dy) w2 w1 d1 w0 d2 (ix2 r j) = (a.dq (n r) (f j) : EReal) := by
  pointwise [k0_pay18, k0_pay15, k0_pay13, k0_pay7]
  simp only [hgb, hdy, hd2, hd1, hw0, hw1, hw2, mul_real, add_real]
  rfl

include hgb hxt hdy hd1 hd2 hw0 hw1 hw2 in
theorem dgc_block (r : Fin 512) (j : Fin 256) :
    k0_pay19 (k0_pay9 xt) (k0_pay15 (k0_pay7 gb) dy) w2 w1 d1 w0 d2 (ix2 r j) = (a.dgc (n r) (f j) : EReal) := by
  pointwise [k0_pay19, k0_pay9]
  simp only [dq_block hgb hdy hd1 hd2 hw0 hw1 hw2, hxt, mul_real]
  rfl

include hgb hgc hdy hd1 hd2 hw0 hw1 hw2 in
theorem dxt_block (r : Fin 512) (j : Fin 256) :
    k0_pay20 (k0_pay8 gc) (k0_pay15 (k0_pay7 gb) dy) w2 w1 d1 w0 d2 (ix2 r j) = (a.dxt (n r) (f j) : EReal) := by
  pointwise [k0_pay20, k0_pay8]
  simp only [dq_block hgb hdy hd1 hd2 hw0 hw1 hw2, hgc, mul_real]
  rfl

variable {acc : Vec Ideal S1x256 .f32} {A : Fin 256 → EReal} (hacc : ∀ j, acc (ix2 0 j) = A j)

include hgb hdy hq2 hacc in
theorem tap0_block (j : Fin 256) :
    k0_pay21 q2 (k0_pay15 (k0_pay7 gb) dy) acc (ix2 0 j) = A j + ((∑ r, a.dtap (n r) 0 (f j) : ℝ) : EReal) := by
  pointwise [k0_pay21, k0_pay15, k0_pay13, k0_pay7]
  simp only [hgb, hdy, hq2, hacc, mul_real, sum_real]
  rfl

include hgb hdy hq1 hacc in
theorem tap1_block (j : Fin 256) :
    k0_pay22 q1 (k0_pay15 (k0_pay7 gb) dy) acc (ix2 0 j) = A j + ((∑ r, a.dtap (n r) 1 (f j) : ℝ) : EReal) := by
  pointwise [k0_pay22, k0_pay15, k0_pay13, k0_pay7]
  simp only [hgb, hdy, hq1, hacc, mul_real, sum_real]
  rfl

include hgb hgc hxt hdy hacc in
theorem tap2_block (j : Fin 256) :
    k0_pay23 (k0_pay10 gc xt) (k0_pay15 (k0_pay7 gb) dy) acc (ix2 0 j) = A j + ((∑ r, a.dtap (n r) 2 (f j) : ℝ) : EReal) := by
  pointwise [k0_pay23, k0_pay15, k0_pay13, k0_pay10, k0_pay9, k0_pay8, k0_pay7]
  simp only [hgb, hdy, hgc, hxt, hacc, mul_real, sum_real]
  rfl

end Reads

/-! ## The stores -/

/-- The columns of a chunk. -/
def col (o : ℕ) (ho : o + 256 ≤ 1024) (j : Fin 256) : Fin 1024 := ⟨o + j.val, by omega⟩

section Stores

theorem store_b {o : ℕ} {ho} {p : Vec Ideal S512x256 .bf16} (h : ∀ r j, p (ix2 r j) = (a.dgb (n r) (col o ho j) : EReal)) (r : Fin 512) (i : Fin 256)
    (j : Fin 3072) (hj : j.val = o + i.val) : p (ix2 r i) = (a.dp (n r) j : EReal) := by
  obtain rfl : j = colB (col o ho i) := Fin.ext hj
  rw [h, a.dp_colB]

theorem store_c {o : ℕ} {ho} {p : Vec Ideal S512x256 .bf16} (h : ∀ r j, p (ix2 r j) = (a.dgc (n r) (col o ho j) : EReal)) (r : Fin 512) (i : Fin 256)
    (j : Fin 3072) (hj : j.val = 1024 + (o + i.val)) : p (ix2 r i) = (a.dp (n r) j : EReal) := by
  obtain rfl : j = colC (col o ho i) := Fin.ext hj
  rw [h, a.dp_colC]

theorem store_x {o : ℕ} {ho} {p : Vec Ideal S512x256 .bf16} (h : ∀ r j, p (ix2 r j) = (a.dxt (n r) (col o ho j) : EReal)) (r : Fin 512) (i : Fin 256)
    (j : Fin 3072) (hj : j.val = 2048 + (o + i.val)) : p (ix2 r i) = (a.dp (n r) j : EReal) := by
  obtain rfl : j = colX (col o ho i) := Fin.ext hj
  rw [h, a.dp_colX]

/-- The twelve stores that fill a block of the projection's gradient. -/
theorem dp_tiles {b0 b1 b2 b3 c0 c1 c2 c3 e0 e1 e2 e3 : Vec Ideal S512x256 .bf16}
    (kb0 : ∀ r j, b0 (ix2 r j) = (a.dgb (n r) (col 0 (by omega) j) : EReal))
    (kb1 : ∀ r j, b1 (ix2 r j) = (a.dgb (n r) (col 256 (by omega) j) : EReal))
    (kb2 : ∀ r j, b2 (ix2 r j) = (a.dgb (n r) (col 512 (by omega) j) : EReal))
    (kb3 : ∀ r j, b3 (ix2 r j) = (a.dgb (n r) (col 768 (by omega) j) : EReal))
    (kc0 : ∀ r j, c0 (ix2 r j) = (a.dgc (n r) (col 0 (by omega) j) : EReal))
    (kc1 : ∀ r j, c1 (ix2 r j) = (a.dgc (n r) (col 256 (by omega) j) : EReal))
    (kc2 : ∀ r j, c2 (ix2 r j) = (a.dgc (n r) (col 512 (by omega) j) : EReal))
    (kc3 : ∀ r j, c3 (ix2 r j) = (a.dgc (n r) (col 768 (by omega) j) : EReal))
    (ke0 : ∀ r j, e0 (ix2 r j) = (a.dxt (n r) (col 0 (by omega) j) : EReal))
    (ke1 : ∀ r j, e1 (ix2 r j) = (a.dxt (n r) (col 256 (by omega) j) : EReal))
    (ke2 : ∀ r j, e2 (ix2 r j) = (a.dxt (n r) (col 512 (by omega) j) : EReal))
    (ke3 : ∀ r j, e3 (ix2 r j) = (a.dxt (n r) (col 768 (by omega) j) : EReal))
    (r : Fin 512) (j : Fin 3072) :
    View.canon [(⟨Rect.unit ![0, 2816] ![512, 256] inb_S512x3072_S512x256_0_2816, e3⟩ : View.Piece (Elt Ideal) S512x3072 .bf16),
      ⟨Rect.unit ![0, 1792] ![512, 256] inb_S512x3072_S512x256_0_1792, c3⟩,
      ⟨Rect.unit ![0, 768] ![512, 256] inb_S512x3072_S512x256_0_768, b3⟩,
      ⟨Rect.unit ![0, 2560] ![512, 256] inb_S512x3072_S512x256_0_2560, e2⟩,
      ⟨Rect.unit ![0, 1536] ![512, 256] inb_S512x3072_S512x256_0_1536, c2⟩,
      ⟨Rect.unit ![0, 512] ![512, 256] inb_S512x3072_S512x256_0_512, b2⟩,
      ⟨Rect.unit ![0, 2304] ![512, 256] inb_S512x3072_S512x256_0_2304, e1⟩,
      ⟨Rect.unit ![0, 1280] ![512, 256] inb_S512x3072_S512x256_0_1280, c1⟩,
      ⟨Rect.unit ![0, 256] ![512, 256] inb_S512x3072_S512x256_0_256, b1⟩,
      ⟨Rect.unit ![0, 2048] ![512, 256] inb_S512x3072_S512x256_0_2048, e0⟩,
      ⟨Rect.unit ![0, 1024] ![512, 256] inb_S512x3072_S512x256_0_1024, c0⟩,
      ⟨Rect.unit ![0, 0] ![512, 256] inb_S512x3072_S512x256_0_0, b0⟩] (ix2 r j) = (a.dp (n r) j : EReal) := by
  canon_tiles x hx
  all_goals
    idx_vars x
    obtain rfl : x0 = r := Fin.ext hx0.symm
  exacts [store_x ke3 _ _ _ (by omega), store_c kc3 _ _ _ (by omega), store_b kb3 _ _ _ (by omega), store_x ke2 _ _ _ (by omega), store_c kc2 _ _ _ (by omega), store_b kb2 _ _ _ (by omega), store_x ke1 _ _ _ (by omega), store_c kc1 _ _ _ (by omega), store_b kb1 _ _ _ (by omega), store_x ke0 _ _ _ (by omega), store_c kc0 _ _ _ (by omega), store_b kb0 _ _ _ (by omega)]

/-- The taps' gradient as an array. -/
def tapOf (G : Fin 3 → Fin 1024 → EReal) : S3x1024.Idx → Elt Ideal .f32 := fun i => G (i 0) (i 1)

theorem store_tap {G : Fin 3 → Fin 1024 → EReal} {k o : ℕ} (hk : k < 3) {ho} (inb) {p : Vec Ideal S1x256 .f32} (h : ∀ j, p (ix2 0 j) = G ⟨k, hk⟩ (col o ho j))
    (x : S1x256.Idx) : p x = tapOf G ((Rect.unit (s := S3x1024) ![k, o] ![1, 256] inb).emb x) := by
  obtain ⟨x0, x1, rfl⟩ : ∃ (x0 : Fin 1) (x1 : Fin 256), x = ix2 x0 x1 := ⟨x 0, x 1, by blk_ext⟩
  obtain rfl : x0 = 0 := Subsingleton.elim _ _
  have e : (Rect.unit (s := S3x1024) ![k, o] ![1, 256] inb).emb (ix2 0 x1) = (ix2 ⟨k, hk⟩ (col o ho x1) : S3x1024.Idx) := by
    blk_ext <;> simp [col]
  exact (h x1).trans (congrArg (tapOf G) e).symm

/-- The twelve stores that fill the taps' gradient, over any earlier stores. -/
theorem tap_tiles {G : Fin 3 → Fin 1024 → EReal} {b0 b1 b2 b3 c0 c1 c2 c3 e0 e1 e2 e3 : Vec Ideal S1x256 .f32}
    (L : List (View.Piece (Elt Ideal) S3x1024 .f32))
    (kb0 : ∀ j, b0 (ix2 0 j) = G 0 (col 0 (by omega) j))
    (kb1 : ∀ j, b1 (ix2 0 j) = G 0 (col 256 (by omega) j))
    (kb2 : ∀ j, b2 (ix2 0 j) = G 0 (col 512 (by omega) j))
    (kb3 : ∀ j, b3 (ix2 0 j) = G 0 (col 768 (by omega) j))
    (kc0 : ∀ j, c0 (ix2 0 j) = G 1 (col 0 (by omega) j))
    (kc1 : ∀ j, c1 (ix2 0 j) = G 1 (col 256 (by omega) j))
    (kc2 : ∀ j, c2 (ix2 0 j) = G 1 (col 512 (by omega) j))
    (kc3 : ∀ j, c3 (ix2 0 j) = G 1 (col 768 (by omega) j))
    (ke0 : ∀ j, e0 (ix2 0 j) = G 2 (col 0 (by omega) j))
    (ke1 : ∀ j, e1 (ix2 0 j) = G 2 (col 256 (by omega) j))
    (ke2 : ∀ j, e2 (ix2 0 j) = G 2 (col 512 (by omega) j))
    (ke3 : ∀ j, e3 (ix2 0 j) = G 2 (col 768 (by omega) j))
    (k : Fin 3) (j : Fin 1024) :
    View.canon ((⟨Rect.unit ![2, 768] ![1, 256] inb_S3x1024_S1x256_2_768, e3⟩ : View.Piece (Elt Ideal) S3x1024 .f32) ::
      ⟨Rect.unit ![1, 768] ![1, 256] inb_S3x1024_S1x256_1_768, c3⟩ ::
      ⟨Rect.unit ![0, 768] ![1, 256] inb_S3x1024_S1x256_0_768, b3⟩ ::
      ⟨Rect.unit ![2, 512] ![1, 256] inb_S3x1024_S1x256_2_512, e2⟩ ::
      ⟨Rect.unit ![1, 512] ![1, 256] inb_S3x1024_S1x256_1_512, c2⟩ ::
      ⟨Rect.unit ![0, 512] ![1, 256] inb_S3x1024_S1x256_0_512, b2⟩ ::
      ⟨Rect.unit ![2, 256] ![1, 256] inb_S3x1024_S1x256_2_256, e1⟩ ::
      ⟨Rect.unit ![1, 256] ![1, 256] inb_S3x1024_S1x256_1_256, c1⟩ ::
      ⟨Rect.unit ![0, 256] ![1, 256] inb_S3x1024_S1x256_0_256, b1⟩ ::
      ⟨Rect.unit ![2, 0] ![1, 256] inb_S3x1024_S1x256_2_0, e0⟩ ::
      ⟨Rect.unit ![1, 0] ![1, 256] inb_S3x1024_S1x256_1_0, c0⟩ ::
      ⟨Rect.unit ![0, 0] ![1, 256] inb_S3x1024_S1x256_0_0, b0⟩ :: L) (ix2 k j) = G k j := by
  refine View.canon_append_of_piecesOf (tapOf G) L
    [(⟨Rect.unit ![2, 768] ![1, 256] inb_S3x1024_S1x256_2_768, e3⟩ : View.Piece (Elt Ideal) S3x1024 .f32),
      ⟨Rect.unit ![1, 768] ![1, 256] inb_S3x1024_S1x256_1_768, c3⟩,
      ⟨Rect.unit ![0, 768] ![1, 256] inb_S3x1024_S1x256_0_768, b3⟩,
      ⟨Rect.unit ![2, 512] ![1, 256] inb_S3x1024_S1x256_2_512, e2⟩,
      ⟨Rect.unit ![1, 512] ![1, 256] inb_S3x1024_S1x256_1_512, c2⟩,
      ⟨Rect.unit ![0, 512] ![1, 256] inb_S3x1024_S1x256_0_512, b2⟩,
      ⟨Rect.unit ![2, 256] ![1, 256] inb_S3x1024_S1x256_2_256, e1⟩,
      ⟨Rect.unit ![1, 256] ![1, 256] inb_S3x1024_S1x256_1_256, c1⟩,
      ⟨Rect.unit ![0, 256] ![1, 256] inb_S3x1024_S1x256_0_256, b1⟩,
      ⟨Rect.unit ![2, 0] ![1, 256] inb_S3x1024_S1x256_2_0, e0⟩,
      ⟨Rect.unit ![1, 0] ![1, 256] inb_S3x1024_S1x256_1_0, c0⟩,
      ⟨Rect.unit ![0, 0] ![1, 256] inb_S3x1024_S1x256_0_0, b0⟩]
    ⟨store_tap (k := 2) (by omega) inb_S3x1024_S1x256_2_768 ke3, store_tap (k := 1) (by omega) inb_S3x1024_S1x256_1_768 kc3, store_tap (k := 0) (by omega) inb_S3x1024_S1x256_0_768 kb3, store_tap (k := 2) (by omega) inb_S3x1024_S1x256_2_512 ke2, store_tap (k := 1) (by omega) inb_S3x1024_S1x256_1_512 kc2, store_tap (k := 0) (by omega) inb_S3x1024_S1x256_0_512 kb2, store_tap (k := 2) (by omega) inb_S3x1024_S1x256_2_256 ke1, store_tap (k := 1) (by omega) inb_S3x1024_S1x256_1_256 kc1, store_tap (k := 0) (by omega) inb_S3x1024_S1x256_0_256 kb1, store_tap (k := 2) (by omega) inb_S3x1024_S1x256_2_0 ke0, store_tap (k := 1) (by omega) inb_S3x1024_S1x256_1_0 kc0, store_tap (k := 0) (by omega) inb_S3x1024_S1x256_0_0 kb0, trivial⟩ (ix2 k j)
    (View.cover_of_tiledBy _ ![1, 256] (by sl_kernel_rfl) (ix2 k j))

end Stores

section Tail

variable {dh x dres : FVec Ideal S512x1024 .f32} {g acc : FVec Ideal S1x1024 .f32} {tok : FVec Ideal S1x1 .f32}
  (hdh : ∀ r d, dh (ix2 r d) = (a.dh (n r) d : EReal)) (hx : ∀ r d, x (ix2 r d) = (a.x (n r) d : EReal))
  (hg : ∀ d, g (ix2 0 d) = (a.g d : EReal)) (htok : tok (ix2 0 0) = ((0 : ℝ) : EReal))
  (hres : ∀ r d, dres (ix2 r d) = (a.dres (n r) d : EReal))

theorem dh_block {dp : Vec Ideal S512x3072 .bf16} {wt : Vec Ideal S3072x1024 .bf16} (hdp : ∀ r j, dp (ix2 r j) = (a.dp (n r) j : EReal))
    (hwt : ∀ j d, wt (ix2 j d) = (a.win d j : EReal)) (r : Fin 512) (d : Fin 1024) : k0_pay83 dp wt (ix2 r d) = (a.dh (n r) d : EReal) := by
  pointwise [k0_pay83]
  simp only [hdp, hwt, mul_real, sum_real]
  rfl

include hdh hx in
theorem gain_block (d : Fin 1024) :
    k0_pay3 dh (k0_pay85 x) (k0_pay86 x) (Scalar.ofBits .f32 0x44800000#32) acc (ix2 0 d) = acc (ix2 0 d) + ((∑ r, a.dgain (n r) d : ℝ) : EReal) := by
  pointwise [k0_pay3, k0_pay2, k0_pay1, k0_pay85, k0_pay86]
  simp only [hdh, hx, bits_1024, bits_eps, mul_real, add_real, sum_real, div_1024, Fin.sum_univ_one, var_def, rsqrt_var]
  rfl

include hdh hx hg htok hres in
theorem dx_block (r : Fin 512) (d : Fin 1024) :
    k0_pay4 dh (k0_pay84 g tok) (k0_pay85 x) (k0_pay86 x) (Scalar.ofBits .f32 0x44800000#32) dres (ix2 r d) = (a.dx (n r) d : EReal) := by
  pointwise [k0_pay4, k0_pay2, k0_pay1, k0_pay84, k0_pay85, k0_pay86]
  simp only [hdh, hx, hg, htok, hres, bits_1024, bits_eps, mul_real, add_real, sub_real, sum_real, div_1024, Fin.sum_univ_one, var_def, rsqrt_var, add_zero]
  rfl

end Tail

end Block

/-! ## The windows -/

variable (m : (ℓ : Loc nD τ sig) → Buf (Elt Ideal) ℓ) (c : Dev nD)

/-- The inputs the memory holds. -/
abbrev inp : In := input (m ((c : Thread nD τ).loc main_arg0)) (m ((c : Thread nD τ).loc main_arg1)) (m ((c : Thread nD τ).loc main_arg2))
  (m ((c : Thread nD τ).loc main_arg3)) (m ((c : Thread nD τ).loc main_arg4)) (m ((c : Thread nD τ).loc main_arg5))

/-- The memory's arguments are real. -/
abbrev Real : Prop := Holds (inp m c) (m ((c : Thread nD τ).loc main_arg0)) (m ((c : Thread nD τ).loc main_arg1))
  (m ((c : Thread nD τ).loc main_arg2)) (m ((c : Thread nD τ).loc main_arg3)) (m ((c : Thread nD τ).loc main_arg4))
  (m ((c : Thread nD τ).loc main_arg5))

theorem idx : ∀ t : Fin cfg0.N, win0_0.index t = ![t.val, 0] ∧ win0_1.index t = ![t.val * 32 - 1, 0]
    ∧ win0_2.index t = ![min (t.val * 32 + 32) 255, 0] ∧ win0_3.index t = ![t.val, 0] ∧ win0_4.index t = ![min (t.val * 32 + 32) 255, 0]
    ∧ win0_5.index t = ![0, 0] ∧ win0_6.index t = ![0, 0] ∧ win0_7.index t = ![t.val, 0] ∧ win0_8.index t = ![0, 0]
    ∧ win0_9.index t = ![0, 0] ∧ win0_10.index t = ![t.val, 0] ∧ win0_11.index t = ![t.val, 0] ∧ win0_12.index t = ![0, 0]
    ∧ win0_13.index t = ![t.val, 0] ∧ win0_14.index t = ![0, 0] :=
  (by decide +kernel : ∀ t : Fin grid0.N, _)

theorem lt_points : ∀ t : Fin cfg0.N, t.val < 8 := (by decide +kernel : ∀ t : Fin grid0.N, _)

/-- Row `r` of block `t`. -/
def at_ (t : Fin cfg0.N) (r : Fin 512) : Fin 4096 := ⟨t.val * 512 + r.val, by have := lt_points t; omega⟩

/-- Row `r` of the sixteen before block `t`, and of the sixteen after it. -/
def before (t : Fin cfg0.N) (r : Fin 16) : Fin 4096 := ⟨(t.val * 32 - 1) * 16 + r.val, by have := lt_points t; omega⟩
def after (t : Fin cfg0.N) (r : Fin 16) : Fin 4096 := ⟨min (t.val * 32 + 32) 255 * 16 + r.val, by omega⟩

variable {m c}

/-- Summing a block's rows over the blocks sums all rows. -/
theorem sum_points (f : Fin 4096 → ℝ) : ∑ t : Fin cfg0.N, ∑ r, f (at_ t r) = ∑ n, f n :=
  Fin.sum_mul_add_congr (L := 4096) (S := 8) (n := 512) (F := fun t r => f (at_ t r)) fun t k hl => rfl

theorem block_p (h : Real m c) (t : Fin cfg0.N) (r : Fin 512) (j : Fin 3072) :
    (iblk m c 0 t : Vec Ideal S512x3072 .bf16) (ix2 r j) = ((inp m c).p (at_ t r) j : EReal) := by
  have e : ((cfg0.win 0).blk t).view.emb (ix2 r j) = (ix2 (at_ t r) j : S4096x3072.Idx) := by blk_ext [idx t] <;> rfl
  blk_simp [iblk]
  rw [e]
  entry_read
  pointwise
  simp only [h.x, h.g, h.win, row_split, mul_real, add_real, sum_real, bits_1024, bits_eps, div_1024, var_def, rsqrt_var]
  rfl

theorem block_p_before (h : Real m c) (t : Fin cfg0.N) (r : Fin 16) (j : Fin 3072) :
    (iblk m c 1 t : Vec Ideal S16x3072 .bf16) (ix2 r j) = ((inp m c).p (before t r) j : EReal) := by
  have e : ((cfg0.win 1).blk t).view.emb (ix2 r j) = (ix2 (before t r) j : S4096x3072.Idx) := by blk_ext [idx t] <;> rfl
  blk_simp [iblk]
  rw [e]
  entry_read
  pointwise
  simp only [h.x, h.g, h.win, row_split, mul_real, add_real, sum_real, bits_1024, bits_eps, div_1024, var_def, rsqrt_var]
  rfl

theorem block_p_after (h : Real m c) (t : Fin cfg0.N) (r : Fin 16) (j : Fin 3072) :
    (iblk m c 2 t : Vec Ideal S16x3072 .bf16) (ix2 r j) = ((inp m c).p (after t r) j : EReal) := by
  have e : ((cfg0.win 2).blk t).view.emb (ix2 r j) = (ix2 (after t r) j : S4096x3072.Idx) := by blk_ext [idx t] <;> rfl
  blk_simp [iblk]
  rw [e]
  entry_read
  pointwise
  simp only [h.x, h.g, h.win, row_split, mul_real, add_real, sum_real, bits_1024, bits_eps, div_1024, var_def, rsqrt_var]
  rfl

theorem block_dy (h : Real m c) (t : Fin cfg0.N) (r : Fin 512) (j : Fin 1024) :
    (iblk m c 3 t : Vec Ideal S512x1024 .bf16) (ix2 r j) = ((inp m c).dy (at_ t r) j : EReal) := by
  have e : ((cfg0.win 3).blk t).view.emb (ix2 r j) = (ix2 (at_ t r) j : S4096x1024.Idx) := by blk_ext [idx t] <;> rfl
  blk_simp [iblk]
  rw [e]
  entry_read
  pointwise
  rw [h.dy, row_split]

theorem block_dy_after (h : Real m c) (t : Fin cfg0.N) (r : Fin 16) (j : Fin 1024) :
    (iblk m c 4 t : Vec Ideal S16x1024 .bf16) (ix2 r j) = ((inp m c).dy (after t r) j : EReal) := by
  have e : ((cfg0.win 4).blk t).view.emb (ix2 r j) = (ix2 (after t r) j : S4096x1024.Idx) := by blk_ext [idx t] <;> rfl
  blk_simp [iblk]
  rw [e]
  entry_read
  pointwise
  rw [h.dy, row_split]

theorem block_cw (h : Real m c) (t : Fin cfg0.N) (k : Fin 3) (j : Fin 1024) :
    (iblk m c 5 t : Vec Ideal S3x1024 .f32) (ix2 k j) = ((inp m c).cw k j : EReal) := by
  have e : ((cfg0.win 5).blk t).view.emb (ix2 k j) = (ix2 k j : S3x1024.Idx) := by blk_ext [idx t] <;> rfl
  blk_simp [iblk]
  rw [e]
  entry_read
  pointwise
  rw [h.cw]

theorem block_wt (h : Real m c) (t : Fin cfg0.N) (j : Fin 3072) (d : Fin 1024) :
    (iblk m c 6 t : Vec Ideal S3072x1024 .bf16) (ix2 j d) = ((inp m c).win d j : EReal) := by
  have e : ((cfg0.win 6).blk t).view.emb (ix2 j d) = (ix2 j d : S3072x1024.Idx) := by blk_ext [idx t] <;> rfl
  blk_simp [iblk]
  rw [e]
  entry_read
  pointwise
  rw [h.win]

theorem block_x (h : Real m c) (t : Fin cfg0.N) (r : Fin 512) (d : Fin 1024) :
    (iblk m c 7 t : Vec Ideal S512x1024 .f32) (ix2 r d) = ((inp m c).x (at_ t r) d : EReal) := by
  have e : ((cfg0.win 7).blk t).view.emb (ix2 r d) = (ix2 (at_ t r) d : S4096x1024.Idx) := by blk_ext [idx t] <;> rfl
  blk_simp [iblk]
  rw [e]
  entry_read
  pointwise
  rw [h.x, row_split]

theorem block_g (h : Real m c) (t : Fin cfg0.N) (d : Fin 1024) :
    (iblk m c 8 t : Vec Ideal S1x1024 .f32) (ix2 0 d) = ((inp m c).g d : EReal) := by
  have e : ((cfg0.win 8).blk t).view.emb (ix2 0 d) = (ix2 0 d : S1x1024.Idx) := by blk_ext [idx t] <;> rfl
  blk_simp [iblk]
  rw [e]
  entry_read
  pointwise
  rw [h.g]

theorem block_tok (t : Fin cfg0.N) (r : Fin 8) (d : Fin 128) : (iblk m c 9 t : Vec Ideal S8x128 .f32) (ix2 r d) = ((0 : ℝ) : EReal) := by
  have e : ((cfg0.win 9).blk t).view.emb (ix2 r d) = (ix2 r d : S8x128.Idx) := by blk_ext [idx t] <;> rfl
  blk_simp [iblk]
  rw [e]
  entry_read
  pointwise
  rfl

theorem block_res (h : Real m c) (t : Fin cfg0.N) (r : Fin 512) (d : Fin 1024) :
    (iblk m c 10 t : Vec Ideal S512x1024 .f32) (ix2 r d) = ((inp m c).dres (at_ t r) d : EReal) := by
  have e : ((cfg0.win 10).blk t).view.emb (ix2 r d) = (ix2 (at_ t r) d : S4096x1024.Idx) := by blk_ext [idx t] <;> rfl
  blk_simp [iblk]
  rw [e]
  entry_read
  pointwise
  rw [h.dres, row_split]

/-! ## The rows before and after a block -/

/-- Whether the block is its sequence's first, and whether it is the last, as the body computes it. -/
abbrev place (t : Fin cfg0.N) : BitVec 32 :=
  Scalar.select
    (Scalar.andi
      (Scalar.xori (Scalar.cmpi CmpIPredicate.slt (Scalar.remsi (BitVec.ofNat 32 (grid0.coords t 0).val) 4#32) 0#32) 0#1)
      (Scalar.cmpi CmpIPredicate.ne (Scalar.remsi (BitVec.ofNat 32 (grid0.coords t 0).val) 4#32) 0#32))
    (Scalar.addi (Scalar.remsi (BitVec.ofNat 32 (grid0.coords t 0).val) 4#32) 4#32)
    (Scalar.remsi (BitVec.ofNat 32 (grid0.coords t 0).val) 4#32)
abbrev firstBit (t : Fin cfg0.N) : BitVec 1 := Scalar.cmpi CmpIPredicate.eq (place t) 0#32
abbrev lastBit (t : Fin cfg0.N) : BitVec 1 := Scalar.cmpi CmpIPredicate.eq (place t) 3#32

theorem first_bit : ∀ t : Fin cfg0.N, firstBit t = if t.val % 4 = 0 then 1#1 else 0#1 := (by decide +kernel : ∀ t : Fin grid0.N, _)
theorem last_bit : ∀ t : Fin cfg0.N, lastBit t = if t.val % 4 = 3 then 1#1 else 0#1 := (by decide +kernel : ∀ t : Fin grid0.N, _)

variable {a : In} {o : ℕ}

theorem halo_before {t : Fin cfg0.N} {f : Fin 256 → Fin 1024} {gc xt : Vec Ideal S16x256 .bf16} (hgc : ∀ r j, gc (ix2 r j) = (a.gc (before t r) (f j) : EReal))
    (hxt : ∀ r j, xt (ix2 r j) = (a.xt (before t r) (f j) : EReal)) (r : Fin 16) (j : Fin 256) (hp : r.val < 528) :
    k0_pay11 (firstBit t) gc xt (ix2 r j) = (headRow a.q t.val ⟨r.val, hp⟩ (f j) : EReal) := by
  rw [first_bit]
  unfold headRow
  by_cases h0 : t.val % 4 = 0
  · rw [if_pos h0, if_pos ⟨h0, r.isLt⟩]
    pointwise [k0_pay11]
    rfl
  · rw [if_neg h0, if_neg (fun h => h0 h.1)]
    pointwise [k0_pay11]
    rw [hgc, hxt, mul_real]
    exact congrArg (fun n => (a.q n (f j) : EReal)) (Fin.ext (by
      have := lt_points t
      show (t.val * 32 - 1) * 16 + r.val = (t.val * 512 + r.val - 16) % 4096; omega))

theorem halo_after {t : Fin cfg0.N} {f : Fin 256 → Fin 1024} {dy gb : Vec Ideal S16x256 .bf16} (hdy : ∀ r j, dy (ix2 r j) = (a.dy (after t r) (f j) : EReal))
    (hgb : ∀ r j, gb (ix2 r j) = (a.gb (after t r) (f j) : EReal)) (r : Fin 16) (j : Fin 256) (hp : 512 + r.val < 528) :
    k0_pay17 (lastBit t) dy gb (ix2 r j) = (tailRow a.dyc t.val ⟨512 + r.val, hp⟩ (f j) : EReal) := by
  rw [last_bit]
  unfold tailRow
  by_cases h0 : t.val % 4 = 3
  · rw [if_pos h0, if_pos ⟨h0, Nat.le_add_right _ _⟩]
    pointwise [k0_pay17]
    rfl
  · rw [if_neg h0, if_neg (fun h => h0 h.1)]
    pointwise [k0_pay17]
    rw [hdy, hgb, mul_real]
    exact congrArg (fun n => (a.dyc n (f j) : EReal)) (Fin.ext (by
      have := lt_points t
      show min (t.val * 32 + 32) 255 * 16 + r.val = (t.val * 512 + (512 + r.val)) % 4096; omega))

section Chunks

variable (h : Real m c) (t : Fin cfg0.N) (ho : o + 256 ≤ 1024)

/-! The chunks the body loads of the projection and of the cotangent. -/

include h in
theorem ld_b {inb} (r : Fin 512) (j : Fin 256) : View.ld (iblk m c 0 t : Vec Ideal S512x3072 .bf16) (Rect.unit ![0, o] ![512, 256] inb) (ix2 r j)
    = ((inp m c).gb (at_ t r) (col o ho j) : EReal) :=
  (ld_cols _ _ r j (by omega)).trans (block_p h t r (colB (col o ho j)))

include h in
theorem ld_c {oc : ℕ} (hc : oc = 1024 + o) {inb} (r : Fin 512) (j : Fin 256) : View.ld (iblk m c 0 t : Vec Ideal S512x3072 .bf16) (Rect.unit ![0, oc] ![512, 256] inb) (ix2 r j)
    = ((inp m c).gc (at_ t r) (col o ho j) : EReal) := by
  rw [ld_cols _ _ r j (by omega), show (⟨oc + j.val, by omega⟩ : Fin 3072) = colC (col o ho j) from Fin.ext (by show oc + j.val = 1024 + (o + j.val); omega)]
  exact block_p h t r _

include h in
theorem ld_x {ox : ℕ} (hx : ox = 2048 + o) {inb} (r : Fin 512) (j : Fin 256) : View.ld (iblk m c 0 t : Vec Ideal S512x3072 .bf16) (Rect.unit ![0, ox] ![512, 256] inb) (ix2 r j)
    = ((inp m c).xt (at_ t r) (col o ho j) : EReal) := by
  rw [ld_cols _ _ r j (by omega), show (⟨ox + j.val, by omega⟩ : Fin 3072) = colX (col o ho j) from Fin.ext (by show ox + j.val = 2048 + (o + j.val); omega)]
  exact block_p h t r _

include h in
theorem ld_c_before {oc : ℕ} (hc : oc = 1024 + o) {inb} (r : Fin 16) (j : Fin 256) : View.ld (iblk m c 1 t : Vec Ideal S16x3072 .bf16) (Rect.unit ![0, oc] ![16, 256] inb) (ix2 r j)
    = ((inp m c).gc (before t r) (col o ho j) : EReal) := by
  rw [ld_cols _ _ r j (by omega), show (⟨oc + j.val, by omega⟩ : Fin 3072) = colC (col o ho j) from Fin.ext (by show oc + j.val = 1024 + (o + j.val); omega)]
  exact block_p_before h t r _

include h in
theorem ld_x_before {ox : ℕ} (hx : ox = 2048 + o) {inb} (r : Fin 16) (j : Fin 256) : View.ld (iblk m c 1 t : Vec Ideal S16x3072 .bf16) (Rect.unit ![0, ox] ![16, 256] inb) (ix2 r j)
    = ((inp m c).xt (before t r) (col o ho j) : EReal) := by
  rw [ld_cols _ _ r j (by omega), show (⟨ox + j.val, by omega⟩ : Fin 3072) = colX (col o ho j) from Fin.ext (by show ox + j.val = 2048 + (o + j.val); omega)]
  exact block_p_before h t r _

include h in
theorem ld_b_after {inb} (r : Fin 16) (j : Fin 256) : View.ld (iblk m c 2 t : Vec Ideal S16x3072 .bf16) (Rect.unit ![0, o] ![16, 256] inb) (ix2 r j)
    = ((inp m c).gb (after t r) (col o ho j) : EReal) :=
  (ld_cols _ _ r j (by omega)).trans (block_p_after h t r (colB (col o ho j)))

include h in
theorem ld_dy {inb} (r : Fin 512) (j : Fin 256) : View.ld (iblk m c 3 t : Vec Ideal S512x1024 .bf16) (Rect.unit ![0, o] ![512, 256] inb) (ix2 r j)
    = ((inp m c).dy (at_ t r) (col o ho j) : EReal) :=
  (ld_cols _ _ r j (by omega)).trans (block_dy h t r (col o ho j))

include h in
theorem ld_dy_after {inb} (r : Fin 16) (j : Fin 256) : View.ld (iblk m c 4 t : Vec Ideal S16x1024 .bf16) (Rect.unit ![0, o] ![16, 256] inb) (ix2 r j)
    = ((inp m c).dy (after t r) (col o ho j) : EReal) :=
  (ld_cols _ _ r j (by omega)).trans (block_dy_after h t r (col o ho j))

include h in
theorem ld_tap {k : ℕ} (hk : k < 3) {inb} (j : Fin 256) : View.ld (iblk m c 5 t : Vec Ideal S3x1024 .f32) (Rect.unit ![k, o] ![1, 256] inb) (ix2 0 j)
    = ((inp m c).cw ⟨k, hk⟩ (col o ho j) : EReal) := by
  refine Eq.trans ?_ (block_cw h t ⟨k, hk⟩ (col o ho j))
  pointwise
  blk_ext <;> rfl

variable {sg : RefSig} {κ : Kind} {sp : Space} {v : View sg κ sp S528x1024 .f32} {L : List (View.Piece (Elt Ideal) S528x1024 .f32)}

include h in
/-- The convolved rows, read `16 - l` rows before the block's. -/
theorem back_at {oc ox l : ℕ} (hc : oc = 1024 + o) (hx : ox = 2048 + o) (k : ℕ) (hk : 0 < k ∧ k ≤ 2) (hl : l = 16 - k) {iA ic ix iB jc jx il} (r : Fin 512) (j : Fin 256) :
    v.readCov (⟨Rect.unit ![16, o] ![512, 256] iA, k0_pay12 (k0_pay10
            (View.ld (iblk m c 0 t : Vec Ideal S512x3072 .bf16) (Rect.unit ![0, oc] ![512, 256] ic))
            (View.ld (iblk m c 0 t : Vec Ideal S512x3072 .bf16) (Rect.unit ![0, ox] ![512, 256] ix)))⟩
          :: ⟨Rect.unit ![0, o] ![16, 256] iB, k0_pay11 (firstBit t)
            (View.ld (iblk m c 1 t : Vec Ideal S16x3072 .bf16) (Rect.unit ![0, oc] ![16, 256] jc))
            (View.ld (iblk m c 1 t : Vec Ideal S16x3072 .bf16) (Rect.unit ![0, ox] ![16, 256] jx))⟩ :: L)
        (Rect.unit (s := S528x1024) ![l, o] ![512, 256] il).toLoadRect (ix2 r j) = (back k (fun n => (inp m c).q n (col o ho j)) (at_ t r) : EReal) := by
  subst hl
  exact (tall_load (nb := 16) (na := 512) rfl le_rfl le_rfl ho (by omega) (headRow (inp m c).q t.val) v L
      (fun r j => (q_block (ld_c h t ho hc) (ld_x h t ho hx) r j).trans (congrArg _ (headRow_block (lt_points t) r (col o ho j) (by omega)).symm))
      (fun r j => halo_before (f := col o ho) (ld_c_before h t ho hc) (ld_x_before h t ho hx) r j (by omega)) r j).trans
    (congrArg _ (headRow_back (lt_points t) k (by omega) r (col o ho j) (by omega)))

include h in
/-- The convolution's gradient, read `k` rows after the block's. -/
theorem ahead_at (k : ℕ) (hk : 0 < k ∧ k ≤ 2) {iA jd jb iB ib id il} (r : Fin 512) (j : Fin 256) :
    v.readCov (⟨Rect.unit ![512, o] ![16, 256] iA, k0_pay17 (lastBit t)
            (View.ld (iblk m c 4 t : Vec Ideal S16x1024 .bf16) (Rect.unit ![0, o] ![16, 256] jd))
            (View.ld (iblk m c 2 t : Vec Ideal S16x3072 .bf16) (Rect.unit ![0, o] ![16, 256] jb))⟩
          :: ⟨Rect.unit ![0, o] ![512, 256] iB, k0_pay16 (k0_pay15
            (k0_pay7 (View.ld (iblk m c 0 t : Vec Ideal S512x3072 .bf16) (Rect.unit ![0, o] ![512, 256] ib)))
            (View.ld (iblk m c 3 t : Vec Ideal S512x1024 .bf16) (Rect.unit ![0, o] ![512, 256] id)))⟩ :: L)
        (Rect.unit (s := S528x1024) ![k, o] ![512, 256] il).toLoadRect (ix2 r j) = (ahead k (fun n => (inp m c).dyc n (col o ho j)) (at_ t r) : EReal) :=
  (tall_load (nb := 512) (na := 16) rfl le_rfl le_rfl ho (by omega) (tailRow (inp m c).dyc t.val) v L
      (fun r j => halo_after (f := col o ho) (ld_dy_after h t ho) (ld_b_after h t ho) r j (by omega))
      (fun r j => (dyc_block (ld_b h t ho) (ld_dy h t ho) r j).trans (congrArg _ (tailRow_block (lt_points t) r (col o ho j) (by omega)).symm)) r j).trans
    (congrArg _ (tailRow_ahead (lt_points t) k (by omega) r (col o ho j) (by omega)))

end Chunks

/-- The taps' accumulator before a chunk's row is stored: what the point before left, or the zeros it starts from. -/
theorem acc_next (A : Vec Ideal S3x1024 .f32) {k : ℕ} (hk : k < 3) (ho : o + 256 ≤ 1024) {inb} (j : Fin 256) :
    View.ld A (Rect.unit ![k, o] ![1, 256] inb) (ix2 0 j) = A (ix2 ⟨k, hk⟩ (col o ho j)) := by
  pointwise
  exact congrArg A (by blk_ext <;> rfl)

theorem acc_first {sg : RefSig} {κ : Kind} {sp : Space} {v : View sg κ sp S3x1024 .f32} {k : ℕ} (hk : k < 3) (ho : o + 256 ≤ 1024) {inb zi} (M : List (View.Piece (Elt Ideal) S3x1024 .f32))
    (hM : M = M.dropLast ++ [⟨Rect.unit ![0, 0] ![3, 1024] zi, k0_pay6 (F := Ideal)⟩])
    (hd : LoadRect.disjAll (M.dropLast.map Sigma.fst) (Rect.unit (s := S3x1024) ![k, o] ![1, 256] inb).toLoadRect = true) (j : Fin 256) :
    v.readCov M (Rect.unit (s := S3x1024) ![k, o] ![1, 256] inb).toLoadRect (ix2 0 j) = (0 : EReal) := by
  rw [read_last M _ hM _ hd (ix2 0 j) (ix2 ⟨k, hk⟩ (col o ho j)) (by blk_ext <;> simp [col])]
  pointwise [k0_pay6]

set_option maxHeartbeats 4000000 in
theorem tap_at (h : Real m c) (t : Fin cfg0.N) (W : Fin 3 → Fin 1024 → EReal) (hA : t.val % 8 = 0 → ∀ k j, W k j = 0)
    (hB : ¬ t.val % 8 = 0 → ∀ k j, W k j = (outsAt0 m c (t.val - 1) (by have := t.isLt; omega)).2.1 (ix2 k j)) (k : Fin 3) (j : Fin 1024) :
    (outsAt0 m c t.val t.isLt).2.1 (ix2 k j) = W k j + ((∑ r, (inp m c).dtap (at_ t r) k j : ℝ) : EReal) := by
  by_cases h0 : t.val % 8 = 0
  all_goals
    first
    | rw [outsAt0_A m c t h0]
    | rw [outsAt0_B m c t h0]
    frame_out
    refine tap_tiles (G := fun k j => W k j + ((∑ r, (inp m c).dtap (at_ t r) k j : ℝ) : EReal)) _
      (tap0_block (ld_b h t (o := 0) (by omega)) (ld_dy h t (o := 0) (by omega)) (back_at h t (oc := 1024) (ox := 2048) (l := 14) (o := 0) (by omega) rfl rfl 2 (by omega) rfl) ?_)
      (tap0_block (ld_b h t (o := 256) (by omega)) (ld_dy h t (o := 256) (by omega)) (back_at h t (oc := 1280) (ox := 2304) (l := 14) (o := 256) (by omega) rfl rfl 2 (by omega) rfl) ?_)
      (tap0_block (ld_b h t (o := 512) (by omega)) (ld_dy h t (o := 512) (by omega)) (back_at h t (oc := 1536) (ox := 2560) (l := 14) (o := 512) (by omega) rfl rfl 2 (by omega) rfl) ?_)
      (tap0_block (ld_b h t (o := 768) (by omega)) (ld_dy h t (o := 768) (by omega)) (back_at h t (oc := 1792) (ox := 2816) (l := 14) (o := 768) (by omega) rfl rfl 2 (by omega) rfl) ?_)
      (tap1_block (ld_b h t (o := 0) (by omega)) (ld_dy h t (o := 0) (by omega)) (back_at h t (oc := 1024) (ox := 2048) (l := 15) (o := 0) (by omega) rfl rfl 1 (by omega) rfl) ?_)
      (tap1_block (ld_b h t (o := 256) (by omega)) (ld_dy h t (o := 256) (by omega)) (back_at h t (oc := 1280) (ox := 2304) (l := 15) (o := 256) (by omega) rfl rfl 1 (by omega) rfl) ?_)
      (tap1_block (ld_b h t (o := 512) (by omega)) (ld_dy h t (o := 512) (by omega)) (back_at h t (oc := 1536) (ox := 2560) (l := 15) (o := 512) (by omega) rfl rfl 1 (by omega) rfl) ?_)
      (tap1_block (ld_b h t (o := 768) (by omega)) (ld_dy h t (o := 768) (by omega)) (back_at h t (oc := 1792) (ox := 2816) (l := 15) (o := 768) (by omega) rfl rfl 1 (by omega) rfl) ?_)
      (tap2_block (ld_b h t (o := 0) (by omega)) (ld_c h t (oc := 1024) (o := 0) (by omega) rfl) (ld_x h t (ox := 2048) (o := 0) (by omega) rfl) (ld_dy h t (o := 0) (by omega)) ?_)
      (tap2_block (ld_b h t (o := 256) (by omega)) (ld_c h t (oc := 1280) (o := 256) (by omega) rfl) (ld_x h t (ox := 2304) (o := 256) (by omega) rfl) (ld_dy h t (o := 256) (by omega)) ?_)
      (tap2_block (ld_b h t (o := 512) (by omega)) (ld_c h t (oc := 1536) (o := 512) (by omega) rfl) (ld_x h t (ox := 2560) (o := 512) (by omega) rfl) (ld_dy h t (o := 512) (by omega)) ?_)
      (tap2_block (ld_b h t (o := 768) (by omega)) (ld_c h t (oc := 1792) (o := 768) (by omega) rfl) (ld_x h t (ox := 2816) (o := 768) (by omega) rfl) (ld_dy h t (o := 768) (by omega)) ?_) k j
    all_goals
      intro j
      first
      | rw [hB h0]
        exact acc_next _ _ _ j
      | rw [hA h0]
        exact acc_first (by omega) (by omega) _ rfl (by sl_kernel_rfl) j

set_option maxHeartbeats 4000000 in
theorem point_at (h : Real m c) (t : Fin cfg0.N) (Z : Fin 1024 → EReal) (hA : t.val % 8 = 0 → ∀ d, Z d = 0)
    (hB : ¬ t.val % 8 = 0 → ∀ d, Z d = (outsAt0 m c (t.val - 1) (by have := t.isLt; omega)).2.2.2 (ix2 0 d)) :
    (∀ r j, (outsAt0 m c t.val t.isLt).1 (ix2 r j) = ((inp m c).dp (at_ t r) j : EReal))
    ∧ (∀ r d, (outsAt0 m c t.val t.isLt).2.2.1 (ix2 r d) = ((inp m c).dx (at_ t r) d : EReal))
    ∧ ∀ d, (outsAt0 m c t.val t.isLt).2.2.2 (ix2 0 d) = Z d + ((∑ r, (inp m c).dgain (at_ t r) d : ℝ) : EReal) := by
  have htok : View.ld (iblk m c 9 t : Vec Ideal S8x128 .f32) (Rect.unit ![0, 0] ![1, 1] inb_S8x128_S1x1_0_0) (ix2 0 0) = ((0 : ℝ) : EReal) := by
    refine Eq.trans ?_ (block_tok (m := m) (c := c) t 0 0)
    pointwise
  by_cases h0 : t.val % 8 = 0
  all_goals
    first
    | rw [outsAt0_A m c t h0]
    | rw [outsAt0_B m c t h0]
    frame_out
    refine both ?_ fun hP => ⟨fun r d => dx_block (dh_block (read_whole hP) (block_wt h t)) (block_x h t) (block_g h t) htok (block_res h t) r d,
      fun d => (gain_block (dh_block (read_whole hP) (block_wt h t)) (block_x h t) d).trans (congrArg (· + _) ?_)⟩
    rotate_left
    · first
      | exact (hB h0 d).symm
      | rw [hA h0]
        pointwise [k0_pay5]
    exact dp_tiles
      (dgb_block (ld_c h t (oc := 1024) (o := 0) (by omega) rfl) (ld_x h t (ox := 2048) (o := 0) (by omega) rfl) (ld_dy h t (o := 0) (by omega)) (back_at h t (oc := 1024) (ox := 2048) (l := 14) (o := 0) (by omega) rfl rfl 2 (by omega) rfl) (back_at h t (oc := 1024) (ox := 2048) (l := 15) (o := 0) (by omega) rfl rfl 1 (by omega) rfl) (ld_tap h t (o := 0) (by omega) (k := 0) (by omega)) (ld_tap h t (o := 0) (by omega) (k := 1) (by omega)) (ld_tap h t (o := 0) (by omega) (k := 2) (by omega)))
      (dgb_block (ld_c h t (oc := 1280) (o := 256) (by omega) rfl) (ld_x h t (ox := 2304) (o := 256) (by omega) rfl) (ld_dy h t (o := 256) (by omega)) (back_at h t (oc := 1280) (ox := 2304) (l := 14) (o := 256) (by omega) rfl rfl 2 (by omega) rfl) (back_at h t (oc := 1280) (ox := 2304) (l := 15) (o := 256) (by omega) rfl rfl 1 (by omega) rfl) (ld_tap h t (o := 256) (by omega) (k := 0) (by omega)) (ld_tap h t (o := 256) (by omega) (k := 1) (by omega)) (ld_tap h t (o := 256) (by omega) (k := 2) (by omega)))
      (dgb_block (ld_c h t (oc := 1536) (o := 512) (by omega) rfl) (ld_x h t (ox := 2560) (o := 512) (by omega) rfl) (ld_dy h t (o := 512) (by omega)) (back_at h t (oc := 1536) (ox := 2560) (l := 14) (o := 512) (by omega) rfl rfl 2 (by omega) rfl) (back_at h t (oc := 1536) (ox := 2560) (l := 15) (o := 512) (by omega) rfl rfl 1 (by omega) rfl) (ld_tap h t (o := 512) (by omega) (k := 0) (by omega)) (ld_tap h t (o := 512) (by omega) (k := 1) (by omega)) (ld_tap h t (o := 512) (by omega) (k := 2) (by omega)))
      (dgb_block (ld_c h t (oc := 1792) (o := 768) (by omega) rfl) (ld_x h t (ox := 2816) (o := 768) (by omega) rfl) (ld_dy h t (o := 768) (by omega)) (back_at h t (oc := 1792) (ox := 2816) (l := 14) (o := 768) (by omega) rfl rfl 2 (by omega) rfl) (back_at h t (oc := 1792) (ox := 2816) (l := 15) (o := 768) (by omega) rfl rfl 1 (by omega) rfl) (ld_tap h t (o := 768) (by omega) (k := 0) (by omega)) (ld_tap h t (o := 768) (by omega) (k := 1) (by omega)) (ld_tap h t (o := 768) (by omega) (k := 2) (by omega)))
      (dgc_block (ld_b h t (o := 0) (by omega)) (ld_x h t (ox := 2048) (o := 0) (by omega) rfl) (ld_dy h t (o := 0) (by omega)) (ahead_at h t (o := 0) (by omega) 1 (by omega)) (ahead_at h t (o := 0) (by omega) 2 (by omega)) (ld_tap h t (o := 0) (by omega) (k := 0) (by omega)) (ld_tap h t (o := 0) (by omega) (k := 1) (by omega)) (ld_tap h t (o := 0) (by omega) (k := 2) (by omega)))
      (dgc_block (ld_b h t (o := 256) (by omega)) (ld_x h t (ox := 2304) (o := 256) (by omega) rfl) (ld_dy h t (o := 256) (by omega)) (ahead_at h t (o := 256) (by omega) 1 (by omega)) (ahead_at h t (o := 256) (by omega) 2 (by omega)) (ld_tap h t (o := 256) (by omega) (k := 0) (by omega)) (ld_tap h t (o := 256) (by omega) (k := 1) (by omega)) (ld_tap h t (o := 256) (by omega) (k := 2) (by omega)))
      (dgc_block (ld_b h t (o := 512) (by omega)) (ld_x h t (ox := 2560) (o := 512) (by omega) rfl) (ld_dy h t (o := 512) (by omega)) (ahead_at h t (o := 512) (by omega) 1 (by omega)) (ahead_at h t (o := 512) (by omega) 2 (by omega)) (ld_tap h t (o := 512) (by omega) (k := 0) (by omega)) (ld_tap h t (o := 512) (by omega) (k := 1) (by omega)) (ld_tap h t (o := 512) (by omega) (k := 2) (by omega)))
      (dgc_block (ld_b h t (o := 768) (by omega)) (ld_x h t (ox := 2816) (o := 768) (by omega) rfl) (ld_dy h t (o := 768) (by omega)) (ahead_at h t (o := 768) (by omega) 1 (by omega)) (ahead_at h t (o := 768) (by omega) 2 (by omega)) (ld_tap h t (o := 768) (by omega) (k := 0) (by omega)) (ld_tap h t (o := 768) (by omega) (k := 1) (by omega)) (ld_tap h t (o := 768) (by omega) (k := 2) (by omega)))
      (dxt_block (ld_b h t (o := 0) (by omega)) (ld_c h t (oc := 1024) (o := 0) (by omega) rfl) (ld_dy h t (o := 0) (by omega)) (ahead_at h t (o := 0) (by omega) 1 (by omega)) (ahead_at h t (o := 0) (by omega) 2 (by omega)) (ld_tap h t (o := 0) (by omega) (k := 0) (by omega)) (ld_tap h t (o := 0) (by omega) (k := 1) (by omega)) (ld_tap h t (o := 0) (by omega) (k := 2) (by omega)))
      (dxt_block (ld_b h t (o := 256) (by omega)) (ld_c h t (oc := 1280) (o := 256) (by omega) rfl) (ld_dy h t (o := 256) (by omega)) (ahead_at h t (o := 256) (by omega) 1 (by omega)) (ahead_at h t (o := 256) (by omega) 2 (by omega)) (ld_tap h t (o := 256) (by omega) (k := 0) (by omega)) (ld_tap h t (o := 256) (by omega) (k := 1) (by omega)) (ld_tap h t (o := 256) (by omega) (k := 2) (by omega)))
      (dxt_block (ld_b h t (o := 512) (by omega)) (ld_c h t (oc := 1536) (o := 512) (by omega) rfl) (ld_dy h t (o := 512) (by omega)) (ahead_at h t (o := 512) (by omega) 1 (by omega)) (ahead_at h t (o := 512) (by omega) 2 (by omega)) (ld_tap h t (o := 512) (by omega) (k := 0) (by omega)) (ld_tap h t (o := 512) (by omega) (k := 1) (by omega)) (ld_tap h t (o := 512) (by omega) (k := 2) (by omega)))
      (dxt_block (ld_b h t (o := 768) (by omega)) (ld_c h t (oc := 1792) (o := 768) (by omega) rfl) (ld_dy h t (o := 768) (by omega)) (ahead_at h t (o := 768) (by omega) 1 (by omega)) (ahead_at h t (o := 768) (by omega) 2 (by omega)) (ld_tap h t (o := 768) (by omega) (k := 0) (by omega)) (ld_tap h t (o := 768) (by omega) (k := 1) (by omega)) (ld_tap h t (o := 768) (by omega) (k := 2) (by omega)))

theorem lt_last (t : Fin cfg0.N) : t.val - 1 < cfg0.N := by have := t.isLt; omega

theorem gain_last (h : Real m c) (d : Fin 1024) :
    (outsAt0 m c t0_7.val t0_7.isLt).2.2.2 (ix2 0 d) = ((∑ n, (inp m c).dgain n d : ℝ) : EReal) := by
  rw [Pipeline.eq_sum_fin_of_reset_step_apply_last (fun n h (d : Fin 1024) => (outsAt0 m c n h).2.2.2 (ix2 0 d)) 8 (fun _ => (0 : EReal))
    (fun t d => ((∑ r, (inp m c).dgain (at_ t r) d : ℝ) : EReal))
    (fun t h0 i => (point_at h t (fun _ => 0) (fun _ _ => rfl) (fun hn => absurd h0 hn)).2.2 i)
    (fun t h0 i => (point_at h t (fun d => (outsAt0 m c (t.val - 1) (lt_last t)).2.2.2 (ix2 0 d)) (fun hn => absurd hn h0) (fun _ _ => rfl)).2.2 i)
    (le_of_eq N_0) t0_7 rfl]
  rw [sum_real, sum_points (fun n => (inp m c).dgain n d), zero_add]

theorem tap_last (h : Real m c) (k : Fin 3) (j : Fin 1024) :
    (outsAt0 m c t0_7.val t0_7.isLt).2.1 (ix2 k j) = ((∑ n, (inp m c).dtap n k j : ℝ) : EReal) := by
  rw [Pipeline.eq_sum_fin_of_reset_step_apply_last (fun n h (j : Fin 1024) => (outsAt0 m c n h).2.1 (ix2 k j)) 8 (fun _ => (0 : EReal))
    (fun t j => ((∑ r, (inp m c).dtap (at_ t r) k j : ℝ) : EReal))
    (fun t h0 i => tap_at h t (fun _ _ => 0) (fun _ _ _ => rfl) (fun hn => absurd h0 hn) k i)
    (fun t h0 i => tap_at h t (fun k j => (outsAt0 m c (t.val - 1) (lt_last t)).2.1 (ix2 k j)) (fun hn => absurd hn h0) (fun _ _ _ => rfl) k i)
    (le_of_eq N_0) t0_7 rfl]
  rw [sum_real, sum_points (fun n => (inp m c).dtap n k j), zero_add]

/-! ## The arrays the call leaves -/

variable (m c) in
/-- Rows of 1024 and rows of 3072, as arrays. -/
def arr (f : In → Fin 4096 → Fin 1024 → ℝ) : S4096x1024.Idx → EReal := fun i => (f (inp m c) (i 0) (i 1) : EReal)
variable (m c) in
def arrWide (f : In → Fin 4096 → Fin 3072 → ℝ) : S4096x3072.Idx → EReal := fun i => (f (inp m c) (i 0) (i 1) : EReal)

/-- What a point leaves of its block's rows. -/
def rows_at (h : Real m c) (t : Fin cfg0.N) := point_at h t (fun d => if t.val % 8 = 0 then 0 else (outsAt0 m c (t.val - 1) (lt_last t)).2.2.2 (ix2 0 d))
  (fun h0 _ => if_pos h0) (fun h0 _ => if_neg h0)

theorem final_p (h : Real m c) : (dats m 0 c).arrAt 11 cfg0.N = arrWide m c In.dp := by
  refine (dats m 0 c).arrAt_eq_of_covers 11 (arrWide m c In.dp) (by decide +kernel) fun t hf y => ?_
  blk_simp
  rw [after0_11]
  idx_vars y
  have e : ((cfg0.win 11).blk t).view.emb (ix2 y0 y1) = (ix2 (at_ t y0) y1 : S4096x3072.Idx) := by blk_ext [idx t] <;> rfl
  exact ((rows_at h t).1 y0 y1).trans (congrArg (arrWide m c In.dp) e).symm

theorem final_taps (h : Real m c) : ((dats m 0 c).arrAt 12 cfg0.N : S3x1024.Idx → EReal)
    = fun i => ((∑ n, (inp m c).dtap n (i 0) (i 1) : ℝ) : EReal) := by
  refine (dats m 0 c).arrAt_eq_of_after_last 12 t0_7 (by decide +kernel) _ fun y => ?_
  blk_simp
  rw [after0_12]
  obtain ⟨a, d, rfl⟩ : ∃ (a : Fin 3) (d : Fin 1024), y = ix2 a d := ⟨y 0, y 1, by blk_ext⟩
  exact tap_last h a d

theorem final_x (h : Real m c) : (dats m 0 c).arrAt 13 cfg0.N = arr m c In.dx := by
  refine (dats m 0 c).arrAt_eq_of_covers 13 (arr m c In.dx) (by decide +kernel) fun t hf y => ?_
  blk_simp
  rw [after0_13]
  idx_vars y
  have e : ((cfg0.win 13).blk t).view.emb (ix2 y0 y1) = (ix2 (at_ t y0) y1 : S4096x1024.Idx) := by blk_ext [idx t] <;> rfl
  exact ((rows_at h t).2.1 y0 y1).trans (congrArg (arr m c In.dx) e).symm

theorem final_gain (h : Real m c) : ((dats m 0 c).arrAt 14 cfg0.N : S1x1024.Idx → EReal)
    = fun i => ((∑ n, (inp m c).dgain n (i 1) : ℝ) : EReal) := by
  refine (dats m 0 c).arrAt_eq_of_after_last 14 t0_7 (by decide +kernel) _ fun y => ?_
  blk_simp
  rw [after0_14]
  obtain ⟨a, d, rfl⟩ : ∃ (a : Fin 1) (d : Fin 1024), y = ix2 a d := ⟨y 0, y 1, by blk_ext⟩
  obtain rfl : a = 0 := Subsingleton.elim _ _
  exact gain_last h d

end Cert.ConvBwdIdeal.Value

end
-- ==== Proof.ConvRef.lean ====
/- The reference of the convolution's gradients on real arguments: its four results as real quantities. -/
module

public import proofs.«01_k».proof.Proof.ConvReal
public import proofs.«01_k».proof.Proof.Gen.ConvRefIdeal.Run
public import Idealize.ShloMosaic.Lib.Claim

@[expose] public section

set_option maxRecDepth 16384

noncomputable section

namespace Cert.ConvRefIdeal.Value

open Cert.ConvRefIdeal Cert.ConvRefIdeal.Gen Cert.Reals Cert.Halo Cert.Conv Idealize.ShloMosaic Idealize.ShloMosaic.TcCoe Idealize.SL.Sem

/-- The memory's arguments hold the inputs. -/
abbrev Real (m : (ℓ : Loc nD τ sig) → Buf (Elt Ideal) ℓ) (c : Dev nD) (a : In) : Prop :=
  Holds a (m ((c : Thread nD τ).loc main_arg0)) (m ((c : Thread nD τ).loc main_arg1)) (m ((c : Thread nD τ).loc main_arg2))
    (m ((c : Thread nD τ).loc main_arg3)) (m ((c : Thread nD τ).loc main_arg4)) (m ((c : Thread nD τ).loc main_arg5))

theorem flat_wide (A : FVec Ideal S2x2048x3072 .f32) (b : Fin 2) (s : Fin 2048) (j : Fin 3072) :
    truncf .bf16 (shapeCast S4096x3072 A shapeCasts_S2x2048x3072_S4096x3072) bitsLt_bf16_f32 (ix2 (row b s) j) = A (ix3 b s j) := by
  pointwise
  have hb : (2048 * b.val + s.val) / 2048 = b.val := by omega
  have hs : (2048 * b.val + s.val) % 2048 = s.val := by omega
  simp only [hb, hs]

section Results

variable {m : (ℓ : Loc nD τ sig) → Buf (Elt Ideal) ℓ} {c : Dev nD} {a : In} (h : Real m c a)
include h

theorem p_real : res_main_v110 m c = (fun i : S4096x3072.Idx => ((a.dp (i 0) (i 1) : ℝ) : EReal)) := by
  funext i
  idx_vars i
  obtain ⟨b, s, rfl⟩ := row_exists i0
  unfold res_main_v110
  refine (flat_wide _ b s i1).trans ?_
  pointwise
  simp only [h.x, h.g, h.win, h.cw, h.dy, h.dres, bits_1024, bits_eps, bits_zero, bits_neg_half, mul_real, add_real, sum_real, var_def, rsqrt_var,
    div_1024, div_var, In.p_def, In.qAt_def, In.dyc_def, In.dyc_fin, In.back2_def, In.back1_def, In.y_def, In.dqAt_def, In.dp_def, In.dh_def, In.dx_def,
    Fin.sum_univ_one]

theorem x_real : res_main_v111 m c = (fun i : S4096x1024.Idx => ((a.dx (i 0) (i 1) : ℝ) : EReal)) := by
  funext i
  idx_vars i
  obtain ⟨b, s, rfl⟩ := row_exists i0
  unfold res_main_v111
  refine (flat _ b s i1).trans ?_
  pointwise
  simp only [h.x, h.g, h.win, h.cw, h.dy, h.dres, bits_1024, bits_eps, bits_zero, bits_neg_half, mul_real, add_real, sum_real, var_def, rsqrt_var,
    div_1024, div_var, In.p_def, In.qAt_def, In.dyc_def, In.dyc_fin, In.back2_def, In.back1_def, In.y_def, In.dqAt_def, In.dp_def, In.dh_def, In.dx_def,
    Fin.sum_univ_one]

theorem gain_real : res_main_v112 m c = (fun i : S1x1024.Idx => ((∑ n, a.dgain n (i 1) : ℝ) : EReal)) := by
  funext i
  idx_vars i
  pointwise [res_main_v112]
  simp only [h.x, h.g, h.win, h.cw, h.dy, h.dres, bits_1024, bits_eps, bits_zero, bits_neg_half, mul_real, add_real, sum_real, var_def, rsqrt_var,
    div_1024, div_var, In.p_def, In.qAt_def, In.dyc_def, In.dyc_fin, In.back2_def, In.back1_def, In.y_def, In.dqAt_def, In.dp_def, In.dh_def, In.dx_def,
    Fin.sum_univ_one, In.gain_def]

set_option maxHeartbeats 1000000 in
theorem tap_real : res_main_v81 m c = (fun i : S3x1024.Idx => ((∑ n, a.dtap n (i 0) (i 1) : ℝ) : EReal)) := by
  funext i
  idx_vars i
  pointwise [res_main_v81]
  simp only [h.x, h.g, h.win, h.cw, h.dy, h.dres, bits_1024, bits_eps, bits_zero, bits_neg_half, mul_real, add_real, sum_real, var_def, rsqrt_var,
    div_1024, div_var, In.p_def, In.qAt_def, In.dyc_def, In.dyc_fin, In.back2_def, In.back1_def, In.y_def, In.dqAt_def, In.dp_def, In.dh_def, In.dx_def,
    Fin.sum_univ_one, mul_zero, Finset.sum_const_zero, zero_add, Fin.eta]
  match i0 with
  | 0 => rw [dif_neg (by decide), dif_neg (by decide), dif_pos (by decide), zero_add, zero_add, a.tap0_def]
  | 1 => rw [dif_neg (by decide), dif_pos (by decide), dif_neg (by decide), zero_add, add_zero, a.tap1_def]
  | 2 => rw [dif_pos (by decide), dif_neg (by decide), dif_neg (by decide), add_zero, add_zero, a.tap2_def]

end Results

theorem real_run (m : (ℓ : Loc nD τ sig) → Buf (Elt Ideal) ℓ) (ρ : Dev nD → PrngReg) (a : Dev nD → In) (h : ∀ c, Real m c (a c)) :
    θ_run defs (onTc (τ := τ) (main (F := Ideal))) ⟨m, fun _ => 0, ρ⟩ fun r => ∀ c : Dev nD,
      r.2.mem ((c : Thread nD τ).loc main_v110) = (fun i : S4096x3072.Idx => ((a c).dp (i 0) (i 1) : EReal))
      ∧ r.2.mem ((c : Thread nD τ).loc main_v81) = (fun i : S3x1024.Idx => ((∑ n, (a c).dtap n (i 0) (i 1) : ℝ) : EReal))
      ∧ r.2.mem ((c : Thread nD τ).loc main_v111) = (fun i : S4096x1024.Idx => ((a c).dx (i 0) (i 1) : EReal))
      ∧ r.2.mem ((c : Thread nD τ).loc main_v112) = (fun i : S1x1024.Idx => ((∑ n, (a c).dgain n (i 1) : ℝ) : EReal))
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4)
      ∧ r.2.mem ((c : Thread nD τ).loc main_arg5) = m ((c : Thread nD τ).loc main_arg5) :=
  (θ_run defs _ _).mono (fun r hr c => ⟨(hr c).1.trans (p_real (h c)), (hr c).2.1.trans (tap_real (h c)),
    (hr c).2.2.1.trans (x_real (h c)), (hr c).2.2.2.1.trans (gain_real (h c)), (hr c).2.2.2.2⟩) (run m ρ)

end Cert.ConvRefIdeal.Value

end
-- ==== Proof.ConvClaim.lean ====
/- The gated convolution's backward pair: on finite arguments both programs leave the same four arrays. -/
module

public import proofs.«01_k».proof.Defs
public import proofs.«01_k».proof.Proof.ConvKernel
public import proofs.«01_k».proof.Proof.ConvRef
public import proofs.«01_k».proof.Proof.Gen.ConvBwd.Frame
public import proofs.«01_k».proof.Proof.Gen.ConvBwdIdeal.Frame
public import proofs.«01_k».proof.Proof.Gen.Pre_finite_conv
public import Idealize.ShloMosaic.Lib.Quiescent

@[expose] public section

noncomputable section

namespace Cert.Conv

open Idealize.ShloMosaic Idealize.ShloMosaic.TcCoe Idealize.SL.Sem Cert.Reals

theorem real (m : (ℓ : Loc ConvBwdIdeal.nD ConvBwdIdeal.τ ConvBwdIdeal.sig) → Buf (Elt Ideal) ℓ) (h : Pre_ConvBwdIdeal_finite_conv m)
    (c : Dev ConvBwdIdeal.nD) : ConvBwdIdeal.Value.Real m c := by
  obtain ⟨h04, h5⟩ := both_of_and (h c)
  obtain ⟨h03, h4⟩ := both_of_and h04
  obtain ⟨h02, h3⟩ := both_of_and h03
  obtain ⟨h01, h2⟩ := both_of_and h02
  obtain ⟨h0, h1⟩ := both_of_and h01
  exact ⟨rows_real (real_of_finite _ _ _ _ _ _ (congrFun h0 ix0)), entries_real (real_of_finite _ _ _ _ _ _ (congrFun h1 ix0)),
    matrix_real (real_of_finite _ _ _ _ _ _ (congrFun h2 ix0)), matrix_real (real_of_finite _ _ _ _ _ _ (congrFun h3 ix0)),
    rows_real (real_of_finite _ _ _ _ _ _ (congrFun h4 ix0)), rows_real (real_of_finite _ _ _ _ _ _ (congrFun h5 ix0))⟩

theorem frame_ref : quiescent_ConvRefIdeal := fun m ρ _ =>
  (θ_run ConvRefIdeal.defs _ _).mono (fun r h => ⟨fun c => (h c).2.2.2.2, sem_eq_zero_of_no_sems (by decide) r.2⟩)
    (ConvRefIdeal.Value.run m ρ)

theorem algebraic : algebraic_ConvBwdIdeal_ConvRefIdeal_pre_finite_conv := by
  intro m g m' g' hpre hargs
  have hr := real m hpre
  refine ⟨_, _, _, _, (θ_run ConvBwdIdeal.defs _ _).mono (fun r h c =>
      ⟨(h c).1.trans (ConvBwdIdeal.Value.final_p (hr c)), (h c).2.1.trans (ConvBwdIdeal.Value.final_taps (hr c)),
      (h c).2.2.1.trans (ConvBwdIdeal.Value.final_x (hr c)), (h c).2.2.2.1.trans (ConvBwdIdeal.Value.final_gain (hr c)), (h c).2.2.2.2⟩)
    (ConvBwdIdeal.Value.run_blocks m g), ?_⟩
  refine ConvRefIdeal.Value.real_run m' g' (ConvBwdIdeal.Value.inp m) fun c => ?_
  obtain ⟨e0, e1, e2, e3, e4, e5⟩ := hargs c
  unfold ConvRefIdeal.Value.Real
  rw [e0, e1, e2, e3, e4, e5]
  exact hr c

end Cert.Conv

end
-- ==== Proof.PoolReal.lean ====
/- The multi-scale trailing pooling and its gradients on real rows. -/
module

public import proofs.«01_k».proof.Proof.Halo

@[expose] public section

noncomputable section

namespace Cert.Pool

open Idealize.ShloMosaic Cert.Reals Cert.Halo

/-- The block's inputs: the rows, the norm's gain, the input weight, the groups' weights, the output's scale, the cotangent
    of the mixer's rows and that of the residual. -/
structure In where
  x : Fin 4096 → Fin 1024 → ℝ
  g : Fin 1024 → ℝ
  win : Fin 1024 → Fin 1024 → ℝ
  wg : Fin 4 → Fin 256 → Fin 256 → ℝ
  sc : Fin 1024 → ℝ
  dy : Fin 4096 → Fin 1024 → ℝ
  dres : Fin 4096 → Fin 1024 → ℝ

/-- Lane `c` of group `k`, as a column; a column's group and its lane. -/
def col (k : Fin 4) (c : Fin 256) : Fin 1024 := ⟨256 * k.val + c.val, by omega⟩
def grp (j : Fin 1024) : Fin 4 := ⟨j.val / 256, by omega⟩
def lane (j : Fin 1024) : Fin 256 := ⟨j.val % 256, by omega⟩

theorem col_split (j : Fin 1024) : col (grp j) (lane j) = j := Fin.ext (Nat.div_add_mod j.val 256)
theorem grp_col (k : Fin 4) (c : Fin 256) : grp (col k c) = k := Fin.ext (by show (256 * k.val + c.val) / 256 = k.val; omega)
theorem lane_col (k : Fin 4) (c : Fin 256) : lane (col k c) = c := Fin.ext (by show (256 * k.val + c.val) % 256 = c.val; omega)

/-- A group's window, and the number of rows of it that a sequence has up to its row `n`. -/
def width : Fin 4 → ℕ := ![2, 4, 8, 16]
def cnt (w : ℕ) (n : Fin 4096) : ℝ := ((min (n.val % 2048 + 1) w : ℕ) : ℝ)

theorem cnt_ne_zero {w : ℕ} (hw : 0 < w) (n : Fin 4096) : cnt w n ≠ 0 := Nat.cast_ne_zero.mpr (by omega)

namespace In

variable (a : In) (n : Fin 4096)

/-- The normalised row. -/
def hat (d : Fin 1024) : ℝ := a.x n d * rstd (a.x n)

/-- The projection. -/
def p (j : Fin 1024) : ℝ := ∑ d, a.hat n d * a.g d * a.win d j

/-- The mean over the group's trailing window, less the row itself. -/
def dev (k : Fin 4) (c : Fin 256) : ℝ := (∑ i ∈ Finset.range (width k), back i (fun n => a.p n (col k c)) n) / cnt (width k) n - a.p n (col k c)

/-- The group's mixed lanes, before the output's scale. -/
def y (j : Fin 1024) : ℝ := ∑ c, a.dev n (grp j) c * a.wg (grp j) c (lane j)

/-- The gradient of the mixed lanes, and that of the deviations. -/
def u (j : Fin 1024) : ℝ := a.dy n j * a.sc j
def dd (k : Fin 4) (c : Fin 256) : ℝ := ∑ l, a.u n (col k l) * a.wg k c l

/-- The gradient of the window's sum. -/
def q (j : Fin 1024) : ℝ := a.dd n (grp j) (lane j) / cnt (width (grp j)) n

/-- The gradient of the projection. -/
def dp (j : Fin 1024) : ℝ := (∑ i ∈ Finset.range (width (grp j)), ahead i (fun n => a.q n j) n) - a.dd n (grp j) (lane j)

/-- The gradient of the scaled normalised row. -/
def dh (d : Fin 1024) : ℝ := ∑ j, a.dp n j * a.win d j

/-- The gradient of the block's input row. -/
def dx (d : Fin 1024) : ℝ := a.dres n d + normBwd (a.x n) (fun k => a.dh n k * a.g k) d

/-- The row's parts of the gradients of the gain, of the scale and of the groups' weights. -/
def dgain (d : Fin 1024) : ℝ := a.dh n d * a.hat n d
def dsc (j : Fin 1024) : ℝ := a.dy n j * a.y n j
def dwg (k : Fin 4) (c l : Fin 256) : ℝ := a.dev n k c * a.u n (col k l)

theorem y_col (k : Fin 4) (l : Fin 256) : a.y n (col k l) = ∑ c, a.dev n k c * a.wg k c l := by
  unfold y; rw [grp_col, lane_col]
theorem q_col (k : Fin 4) (c : Fin 256) : a.q n (col k c) = a.dd n k c / cnt (width k) n := by
  unfold q; rw [grp_col, lane_col]
theorem dp_col (k : Fin 4) (c : Fin 256) :
    a.dp n (col k c) = (∑ i ∈ Finset.range (width k), ahead i (fun n => a.q n (col k c)) n) - a.dd n k c := by
  unfold dp; rw [grp_col, lane_col]

end In

/-! ## Running sums along a sequence -/

/-- A sequence's values by number, zero past its last row. -/
def seqAt (f : Fin 4096 → ℝ) (b : Fin 2) (i : ℕ) : ℝ := if h : i < 2048 then f (row b ⟨i, h⟩) else 0

/-- The sum over the window of 2048 rows that starts `lo` rows before `s`. -/
def windowSum (lo : ℕ) (f : Fin 4096 → ℝ) (b : Fin 2) (s : Fin 2048) : ℝ :=
  ∑ w : Fin 2048, if h : lo ≤ s.val + w.val ∧ s.val + w.val - lo < 2048 then f (row b ⟨s.val + w.val - lo, h.2⟩) else 0

theorem back_seq (k : ℕ) (f : Fin 4096 → ℝ) (b : Fin 2) (s : Fin 2048) :
    back k f (row b s) = if s.val < k then 0 else seqAt f b (s.val - k) := by
  have e : (2048 * b.val + s.val) % 2048 = s.val := by omega
  unfold back seqAt
  by_cases h : s.val < k
  · rw [if_pos h, if_pos (by show (2048 * b.val + s.val) % 2048 < k; omega)]
  · rw [if_neg h, if_neg (by show ¬ (2048 * b.val + s.val) % 2048 < k; omega), dif_pos (by omega)]
    exact congrArg f (Fin.ext (by show 2048 * b.val + s.val - k = 2048 * b.val + (s.val - k); omega))

theorem ahead_seq (k : ℕ) (f : Fin 4096 → ℝ) (b : Fin 2) (s : Fin 2048) : ahead k f (row b s) = seqAt f b (s.val + k) := by
  have e : (2048 * b.val + s.val) % 2048 = s.val := by omega
  unfold ahead seqAt
  by_cases h : s.val + k < 2048
  · rw [dif_pos h, dif_pos (by show (2048 * b.val + s.val) % 2048 + k < 2048; omega)]
    exact congrArg f (Fin.ext (by show 2048 * b.val + s.val + k = 2048 * b.val + (s.val + k); omega))
  · rw [dif_neg h, dif_neg (by show ¬ (2048 * b.val + s.val) % 2048 + k < 2048; omega)]

theorem run_upto (f : Fin 4096 → ℝ) (b : Fin 2) (s : Fin 2048) : windowSum 2047 f b s = ∑ i ∈ Finset.range (s.val + 1), seqAt f b i := by
  have h1 : windowSum 2047 f b s = ∑ w ∈ Finset.range 2048, if 2047 ≤ s.val + w then seqAt f b (s.val + w - 2047) else 0 := by
    rw [Finset.sum_range]
    refine Finset.sum_congr rfl fun w _ => ?_
    unfold seqAt
    by_cases h : 2047 ≤ s.val + w.val
    · rw [dif_pos ⟨h, by omega⟩, if_pos h, dif_pos (by omega)]
    · rw [dif_neg fun x => h x.1, if_neg h]
  have h2 : Finset.range 2048 = Finset.range ((2047 - s.val) + (s.val + 1)) := congrArg Finset.range (by omega)
  rw [h1, h2, Finset.sum_range_add, Finset.sum_eq_zero, zero_add]
  · refine Finset.sum_congr rfl fun i _ => ?_
    rw [if_pos (by omega)]
    exact congrArg _ (by omega)
  · intro w hw
    rw [if_neg (by have := Finset.mem_range.mp hw; omega)]

theorem run_from (f : Fin 4096 → ℝ) (b : Fin 2) (s : Fin 2048) : windowSum 0 f b s = ∑ m ∈ Finset.range 2048, seqAt f b (s.val + m) := by
  rw [Finset.sum_range]
  refine Finset.sum_congr rfl fun w _ => ?_
  unfold seqAt
  by_cases h : s.val + w.val < 2048
  · rw [dif_pos ⟨Nat.zero_le _, h⟩, dif_pos h]; rfl
  · rw [dif_neg fun x => h x.2, dif_neg h]

/-- The trailing window's sum is a difference of two running sums. -/
theorem window_back (w : ℕ) (f : Fin 4096 → ℝ) (b : Fin 2) (s : Fin 2048) :
    (windowSum 2047 f b s - if h : s.val < w then 0 else windowSum 2047 f b ⟨s.val - w, by omega⟩) = ∑ i ∈ Finset.range w, back i f (row b s) := by
  have e : (if h : s.val < w then 0 else windowSum 2047 f b ⟨s.val - w, by omega⟩)
      = if s.val < w then 0 else ∑ i ∈ Finset.range (s.val - w + 1), seqAt f b i := by
    by_cases h : s.val < w
    · rw [dif_pos h, if_pos h]
    · rw [dif_neg h, if_neg h, run_upto]
  rw [e, run_upto]
  clear e
  induction w with
  | zero => simp
  | succ w ih =>
    rw [Finset.sum_range_succ (fun i => back i f (row b s)), ← ih, back_seq]
    by_cases h : s.val < w
    · rw [if_pos h, if_pos (by omega), if_pos h]; ring
    · rw [if_neg h, if_neg h]
      by_cases h' : s.val < w + 1
      · rw [if_pos h', show s.val - w = 0 by omega]; simp
      · rw [if_neg h', show s.val - w = s.val - (w + 1) + 1 by omega, Finset.sum_range_succ (seqAt f b) (s.val - (w + 1) + 1)]; ring

/-- The leading window's sum is the running sum, from the row on, of the differences with the rows `w` after. -/
theorem window_ahead (w : ℕ) (f : Fin 4096 → ℝ) (b : Fin 2) (s : Fin 2048) :
    windowSum 0 (fun n => f n - ahead w f n) b s = ∑ i ∈ Finset.range w, ahead i f (row b s) := by
  have e : ∀ m, seqAt (fun n => f n - ahead w f n) b m = seqAt f b m - seqAt f b (m + w) := fun m => by
    by_cases h : m < 2048
    · have := ahead_seq w f b ⟨m, h⟩
      unfold seqAt at this ⊢
      rw [dif_pos h, dif_pos h]
      exact congrArg (f (row b ⟨m, h⟩) - ·) this
    · unfold seqAt
      rw [dif_neg h, dif_neg h, dif_neg (by omega), sub_zero]
  rw [run_from]
  simp only [e, ahead_seq]
  clear e
  induction w with
  | zero => simp
  | succ w ih =>
    rw [Finset.sum_range_succ (fun i => seqAt f b (s.val + i)) w, ← ih]
    have t : ∑ m ∈ Finset.range 2048, (seqAt f b (s.val + w + m) - seqAt f b (s.val + w + (m + 1))) = seqAt f b (s.val + w) := by
      rw [Finset.sum_range_sub' (fun m => seqAt f b (s.val + w + m))]
      have z : seqAt f b (s.val + w + 2048) = 0 := dif_neg (by omega)
      rw [z, sub_zero, Nat.add_zero]
    rw [← t, ← Finset.sum_add_distrib]
    refine Finset.sum_congr rfl fun m _ => ?_
    rw [show s.val + w + m = s.val + m + w by omega, show s.val + w + (m + 1) = s.val + m + (w + 1) by omega]
    ring

/-! ## Row numbers as words -/

theorem toInt_word {k : ℕ} (h : k < 2 ^ 31) : (BitVec.ofNat 32 k).toInt = (k : ℤ) := by
  rw [BitVec.toInt_eq_toNat_of_lt (by rw [BitVec.toNat_ofNat]; omega), BitVec.toNat_ofNat, Nat.mod_eq_of_lt (by omega)]

theorem min_words {k l : ℕ} (hk : k < 2 ^ 31) (hl : l < 2 ^ 31) : IntOp.minsi (BitVec.ofNat 32 k) (BitVec.ofNat 32 l) = BitVec.ofNat 32 (min k l) := by
  unfold IntOp.minsi
  rw [BitVec.slt_eq_decide, toInt_word hk, toInt_word hl]
  by_cases h : k < l
  · rw [if_pos (decide_eq_true (by exact_mod_cast h)), min_eq_left h.le]
  · rw [if_neg (by simpa using h), min_eq_right (Nat.le_of_not_lt h)]

theorem real_word {k : ℕ} (h : k < 2 ^ 31) : FloatOps.sitofp (F := Ideal) .f32 (BitVec.ofNat 32 k) = ((k : ℝ) : EReal) := by
  show (((BitVec.ofNat 32 k).toInt : ℝ) : EReal) = _
  rw [toInt_word h]
  norm_cast

/-- The inputs a program's seven arrays hold. -/
def input (x : FVec Ideal ⟨3, ![2, 2048, 1024]⟩ .f32) (g : FVec Ideal ⟨1, ![1024]⟩ .f32) (win : FVec Ideal ⟨2, ![1024, 1024]⟩ .f32)
    (wg : FVec Ideal ⟨3, ![4, 256, 256]⟩ .f32) (sc : FVec Ideal ⟨1, ![1024]⟩ .f32) (dy dres : FVec Ideal ⟨3, ![2, 2048, 1024]⟩ .f32) : In :=
  ⟨rows x, entries g, matrix win, fun k c l => (wg (ix3 k c l)).toReal, entries sc, rows dy, rows dres⟩

/-- The seven arrays are real: they hold the inputs. -/
structure Holds (a : In) (x : FVec Ideal ⟨3, ![2, 2048, 1024]⟩ .f32) (g : FVec Ideal ⟨1, ![1024]⟩ .f32)
    (win : FVec Ideal ⟨2, ![1024, 1024]⟩ .f32) (wg : FVec Ideal ⟨3, ![4, 256, 256]⟩ .f32) (sc : FVec Ideal ⟨1, ![1024]⟩ .f32)
    (dy dres : FVec Ideal ⟨3, ![2, 2048, 1024]⟩ .f32) : Prop where
  x : ∀ b s d, x (ix3 b s d) = (a.x (row b s) d : EReal)
  g : ∀ d, g (ix1 d) = (a.g d : EReal)
  win : ∀ d j, win (ix2 d j) = (a.win d j : EReal)
  wg : ∀ k c l, wg (ix3 k c l) = (a.wg k c l : EReal)
  sc : ∀ j, sc (ix1 j) = (a.sc j : EReal)
  dy : ∀ b s d, dy (ix3 b s d) = (a.dy (row b s) d : EReal)
  dres : ∀ b s d, dres (ix3 b s d) = (a.dres (row b s) d : EReal)

end Cert.Pool

end
-- ==== Proof.PoolKernel.lean ====
/- The pooling's backward kernel on real inputs: the five arrays it leaves. -/
module

public import proofs.«01_k».proof.Proof.PoolReal
public import proofs.«01_k».proof.Proof.Gen.PoolBwdIdeal.Value
public import Idealize.ShloMosaic.Lib.Claim

@[expose] public section

set_option maxRecDepth 16384

noncomputable section

namespace Cert.PoolBwdIdeal.Value

open Cert.PoolBwdIdeal Cert.PoolBwdIdeal.Gen Cert.Reals Cert.Pieces Cert.Halo Cert.Pool Idealize.ShloMosaic Idealize.ShloMosaic.TcCoe Idealize.SL.Sem

section Block

/-! ## One group of lanes -/

/-- The numbers of rows a sequence has up to each row of a block, at most `W`: `M` is the block's place in its sequence and `R`
    the first row's place in the block. -/
def counts {N : ℕ} (h : (⟨2, ![N, 1]⟩ : Shape).Iotas .tc 32 [0]) (M R W : BitVec 32) : FVec Ideal ⟨2, ![N, 1]⟩ .f32 :=
  sitofp .f32 (minsi (addi (addi (broadcast ⟨2, ![N, 1]⟩ (Scalar.addi (Scalar.muli M 512#32) R)) (iota .tc ⟨2, ![N, 1]⟩ 32 [0] h)) (broadcast ⟨2, ![N, 1]⟩ 1#32))
    (broadcast ⟨2, ![N, 1]⟩ W))

theorem counts_at {N i o w : ℕ} {h} {M R W : BitVec 32} (hM : M = BitVec.ofNat 32 i) (hR : R = BitVec.ofNat 32 o) (hW : W = BitVec.ofNat 32 w) (hi : i < 4) (ho : o ≤ 512)
    (hN : N ≤ 512) (hw : w ≤ 16) (r : Fin N) : counts h M R W (ix2 r 0) = (((min (i * 512 + o + r.val + 1) w : ℕ) : ℝ) : EReal) := by
  subst hM hR hW
  pointwise [counts]
  have e : IntOp.addi (IntOp.addi (Scalar.addi (Scalar.muli (BitVec.ofNat 32 i) 512#32) (BitVec.ofNat 32 o)) (BitVec.ofNat 32 r.val)) 1#32
      = BitVec.ofNat 32 (i * 512 + o + r.val + 1) := by
    simp only [IntOp.addi, Scalar.addi, Scalar.muli, IntOp.muli, BitVec.ofNat_add, BitVec.ofNat_mul]
  rw [e, min_words (by omega) (by omega), real_word (by omega)]

/-- A block with `N` loads added to it. -/
def sumLoads (A : FVec Ideal S512x256 .f32) (e : ℕ → FVec Ideal S512x256 .f32) : ℕ → FVec Ideal S512x256 .f32
  | 0 => A
  | N + 1 => addf (sumLoads A e N) (e N)

theorem sum_loads {A : FVec Ideal S512x256 .f32} {e : ℕ → FVec Ideal S512x256 .f32} {f : ℝ} {u : ℕ → ℝ} {r : Fin 512} {c : Fin 256} (hA : A (ix2 r c) = (f : EReal)) :
    ∀ {N : ℕ}, (∀ i < N, e i (ix2 r c) = (u i : EReal)) → sumLoads A e N (ix2 r c) = ((f + ∑ i ∈ Finset.range N, u i : ℝ) : EReal)
  | 0, _ => by rw [Finset.sum_range_zero, add_zero]; exact hA
  | N + 1, he => by
    show sumLoads A e N (ix2 r c) + e N (ix2 r c) = _
    rw [sum_loads hA fun i hi => he i (by omega), he N (by omega), add_real, Finset.sum_range_succ, add_assoc]

variable {a : In} {n : Fin 512 → Fin 4096} {k : Fin 4}

theorem wg_block {w : Vec Ideal S8x1x32x256 .bf16} (hw : ∀ i e l, w (ix4 i 0 e l) = (a.wg k ⟨32 * i.val + e.val, by omega⟩ l : EReal)) (c l : Fin 256) :
    k0_pay8 w (ix2 c l) = (a.wg k c l : EReal) := by
  pointwise [k0_pay8]
  rw [hw]
  exact congrArg (fun c => (a.wg k c l : EReal)) (Fin.ext (by show 32 * (c.val / 32) + c.val % 32 = c.val; omega))

theorem u_block {dy : Vec Ideal S512x256 .bf16} {sc : Vec Ideal S1x256 .f32} (hdy : ∀ r l, dy (ix2 r l) = (a.dy (n r) (col k l) : EReal))
    (hsc : ∀ l, sc (ix2 0 l) = (a.sc (col k l) : EReal)) (r : Fin 512) (l : Fin 256) : k0_pay11 dy sc (ix2 r l) = (a.u (n r) (col k l) : EReal) := by
  pointwise [k0_pay11, k0_pay9]
  rw [hdy, hsc, mul_real]
  rfl

theorem u_tail {n : Fin 16 → Fin 4096} {dy : Vec Ideal S16x256 .bf16} {sc : Vec Ideal S1x256 .f32} (hdy : ∀ r l, dy (ix2 r l) = (a.dy (n r) (col k l) : EReal))
    (hsc : ∀ l, sc (ix2 0 l) = (a.sc (col k l) : EReal)) (r : Fin 16) (l : Fin 256) : k0_pay58 dy sc (ix2 r l) = (a.u (n r) (col k l) : EReal) := by
  pointwise [k0_pay58]
  rw [hdy, hsc, mul_real]
  rfl

section Products

variable {d u : FVec Ideal S512x256 .bf16} {w : FVec Ideal S256x256 .bf16} (hw : ∀ c l, w (ix2 c l) = (a.wg k c l : EReal))
  (hd : ∀ r c, d (ix2 r c) = (a.dev (n r) k c : EReal)) (hu : ∀ r l, u (ix2 r l) = (a.u (n r) (col k l) : EReal))

include hw hd in
theorem dsc_block {dy : Vec Ideal S512x256 .bf16} (hdy : ∀ r l, dy (ix2 r l) = (a.dy (n r) (col k l) : EReal)) {acc : Vec Ideal S1x256 .f32} {A : Fin 256 → EReal}
    (hacc : ∀ l, acc (ix2 0 l) = A l) (l : Fin 256) : k0_pay10 d w dy acc (ix2 0 l) = A l + ((∑ r, a.dsc (n r) (col k l) : ℝ) : EReal) := by
  pointwise [k0_pay10, k0_pay9]
  simp only [hw, hd, hdy, hacc, mul_real, sum_real, In.dsc, In.y_col]

include hd hu in
theorem dwg_block {acc : Vec Ideal S1x256x256 .f32} {A : Fin 256 → Fin 256 → EReal} (hacc : ∀ c l, acc (ix3 0 c l) = A c l) (c l : Fin 256) :
    k0_pay27 d u acc (ix3 0 c l) = A c l + ((∑ r, a.dwg (n r) k c l : ℝ) : EReal) := by
  pointwise [k0_pay27]
  simp only [hd, hu, hacc, mul_real, sum_real]
  rfl

include hw hu in
theorem dd_block (r : Fin 512) (c : Fin 256) : k0_pay28 w u (ix2 r c) = (a.dd (n r) k c : EReal) := by
  pointwise [k0_pay28]
  simp only [hw, hu, mul_real, sum_real]
  rfl

include hw in
theorem dd_tail {n : Fin 16 → Fin 4096} {u : FVec Ideal S16x256 .bf16} (hu : ∀ r l, u (ix2 r l) = (a.u (n r) (col k l) : EReal)) (r : Fin 16) (c : Fin 256) :
    k0_pay61 w u (ix2 r c) = (a.dd (n r) k c : EReal) := by
  pointwise [k0_pay61]
  simp only [hw, hu, mul_real, sum_real]
  rfl

end Products

section Tail

variable {dh x dres : FVec Ideal S512x1024 .f32} {g acc : FVec Ideal S1x1024 .f32} {tok : FVec Ideal S1x1 .f32}
  (hdh : ∀ r d, dh (ix2 r d) = (a.dh (n r) d : EReal)) (hx : ∀ r d, x (ix2 r d) = (a.x (n r) d : EReal))
  (hg : ∀ d, g (ix2 0 d) = (a.g d : EReal)) (htok : tok (ix2 0 0) = ((0 : ℝ) : EReal))
  (hres : ∀ r d, dres (ix2 r d) = (a.dres (n r) d : EReal))

theorem dh_block {dp : Vec Ideal S512x1024 .bf16} {w : Vec Ideal S1024x1024 .bf16} (hdp : ∀ r j, dp (ix2 r j) = (a.dp (n r) j : EReal))
    (hw : ∀ d j, w (ix2 d j) = (a.win d j : EReal)) (r : Fin 512) (d : Fin 1024) : k0_pay66 dp w (ix2 r d) = (a.dh (n r) d : EReal) := by
  pointwise [k0_pay66]
  simp only [hdp, hw, mul_real, sum_real]
  rfl

include hdh hx in
theorem gain_block (d : Fin 1024) : k0_pay71 dh (k0_pay68 x) acc (ix2 0 d) = acc (ix2 0 d) + ((∑ r, a.dgain (n r) d : ℝ) : EReal) := by
  pointwise [k0_pay71, k0_pay70, k0_pay69, k0_pay68]
  simp only [hdh, hx, bits_1024, bits_eps, mul_real, add_real, sum_real, div_1024, Fin.sum_univ_one, var_def, rsqrt_var]
  rfl

include hdh hx hg htok hres in
theorem dx_block (r : Fin 512) (d : Fin 1024) :
    k0_pay1 (k0_pay69 (k0_pay68 x)) (k0_pay72 dres) (k0_pay73 dh (k0_pay67 g tok) (k0_pay68 x)) (ix2 r d) = (a.dx (n r) d : EReal) := by
  pointwise [k0_pay1, k0_pay67, k0_pay68, k0_pay69, k0_pay70, k0_pay72, k0_pay73]
  simp only [hdh, hx, hg, htok, hres, bits_1024, bits_eps, mul_real, add_real, sub_real, sum_real, div_1024, Fin.sum_univ_one, var_def, rsqrt_var, add_zero]
  rfl

end Tail

section Stores

/-- The four stores that fill a block of the projection's gradient. -/
theorem dp_tiles {b0 b1 b2 b3 : Vec Ideal S512x256 .bf16}
    (h0 : ∀ r c, b0 (ix2 r c) = (a.dp (n r) (col 0 c) : EReal)) (h1 : ∀ r c, b1 (ix2 r c) = (a.dp (n r) (col 1 c) : EReal))
    (h2 : ∀ r c, b2 (ix2 r c) = (a.dp (n r) (col 2 c) : EReal)) (h3 : ∀ r c, b3 (ix2 r c) = (a.dp (n r) (col 3 c) : EReal)) (r : Fin 512) (j : Fin 1024) :
    View.canon [(⟨Rect.unit ![0, 768] ![512, 256] inb_S512x1024_S512x256_0_768, b3⟩ : View.Piece (Elt Ideal) S512x1024 .bf16),
      ⟨Rect.unit ![0, 512] ![512, 256] inb_S512x1024_S512x256_0_512, b2⟩,
      ⟨Rect.unit ![0, 256] ![512, 256] inb_S512x1024_S512x256_0_256, b1⟩,
      ⟨Rect.unit ![0, 0] ![512, 256] inb_S512x1024_S512x256_0_0, b0⟩] (ix2 r j) = (a.dp (n r) j : EReal) := by
  canon_tiles x hx
  all_goals
    idx_vars x
    obtain rfl : x0 = r := Fin.ext hx0.symm
  exacts [(h3 _ _).trans (congrArg (fun j => (a.dp (n x0) j : EReal)) (Fin.ext hx1.symm)), (h2 _ _).trans (congrArg (fun j => (a.dp (n x0) j : EReal)) (Fin.ext hx1.symm)),
    (h1 _ _).trans (congrArg (fun j => (a.dp (n x0) j : EReal)) (Fin.ext hx1.symm)), (h0 _ _).trans (congrArg (fun j => (a.dp (n x0) j : EReal)) (Fin.ext (by simpa [col] using hx1.symm)))]

/-- A row of 1024 columns, and a group's square of lanes, as arrays. -/
def rowOf (G : Fin 1024 → EReal) : S1x1024.Idx → Elt Ideal .f32 := fun i => G (i 1)
def cubeOf (G : Fin 4 → Fin 256 → Fin 256 → EReal) : S4x256x256.Idx → Elt Ideal .f32 := fun i => G (i 0) (i 1) (i 2)

theorem store_row {G : Fin 1024 → EReal} (k : Fin 4) {o : ℕ} (ho : o = 256 * k.val) (inb) {p : Vec Ideal S1x256 .f32} (h : ∀ l, p (ix2 0 l) = G (col k l)) (x : S1x256.Idx) :
    p x = rowOf G ((Rect.unit (s := S1x1024) ![0, o] ![1, 256] inb).emb x) := by
  subst ho
  obtain ⟨x0, x1, rfl⟩ : ∃ (x0 : Fin 1) (x1 : Fin 256), x = ix2 x0 x1 := ⟨x 0, x 1, by blk_ext⟩
  obtain rfl : x0 = 0 := Subsingleton.elim _ _
  have e : (Rect.unit (s := S1x1024) ![0, 256 * k.val] ![1, 256] inb).emb (ix2 0 x1) = (ix2 0 (col k x1) : S1x1024.Idx) := by
    blk_ext <;> simp [col]
  exact (h x1).trans (congrArg (rowOf G) e).symm

theorem store_cube {G : Fin 4 → Fin 256 → Fin 256 → EReal} (k : Fin 4) {o : ℕ} (ho : o = k.val) (inb) {p : Vec Ideal S1x256x256 .f32} (h : ∀ c l, p (ix3 0 c l) = G k c l)
    (x : S1x256x256.Idx) : p x = cubeOf G ((Rect.unit (s := S4x256x256) ![o, 0, 0] ![1, 256, 256] inb).emb x) := by
  subst ho
  obtain ⟨x0, x1, x2, rfl⟩ : ∃ (x0 : Fin 1) (x1 x2 : Fin 256), x = ix3 x0 x1 x2 := ⟨x 0, x 1, x 2, by blk_ext⟩
  obtain rfl : x0 = 0 := Subsingleton.elim _ _
  have e : (Rect.unit (s := S4x256x256) ![k.val, 0, 0] ![1, 256, 256] inb).emb (ix3 0 x1 x2) = (ix3 k x1 x2 : S4x256x256.Idx) := by
    blk_ext <;> simp
  exact (h x1 x2).trans (congrArg (cubeOf G) e).symm

/-- The four stores that fill the scale's gradient, and those that fill the weights', over any earlier stores. -/
theorem row_tiles {G : Fin 1024 → EReal} {b0 b1 b2 b3 : Vec Ideal S1x256 .f32} (L : List (View.Piece (Elt Ideal) S1x1024 .f32))
    (h0 : ∀ l, b0 (ix2 0 l) = G (col 0 l)) (h1 : ∀ l, b1 (ix2 0 l) = G (col 1 l)) (h2 : ∀ l, b2 (ix2 0 l) = G (col 2 l)) (h3 : ∀ l, b3 (ix2 0 l) = G (col 3 l)) (j : Fin 1024) :
    View.canon ((⟨Rect.unit ![0, 768] ![1, 256] inb_S1x1024_S1x256_0_768, b3⟩ : View.Piece (Elt Ideal) S1x1024 .f32) ::
      ⟨Rect.unit ![0, 512] ![1, 256] inb_S1x1024_S1x256_0_512, b2⟩ ::
      ⟨Rect.unit ![0, 256] ![1, 256] inb_S1x1024_S1x256_0_256, b1⟩ ::
      ⟨Rect.unit ![0, 0] ![1, 256] inb_S1x1024_S1x256_0_0, b0⟩ :: L) (ix2 0 j) = G j :=
  View.canon_append_of_piecesOf (rowOf G) L
    [(⟨Rect.unit ![0, 768] ![1, 256] inb_S1x1024_S1x256_0_768, b3⟩ : View.Piece (Elt Ideal) S1x1024 .f32),
      ⟨Rect.unit ![0, 512] ![1, 256] inb_S1x1024_S1x256_0_512, b2⟩,
      ⟨Rect.unit ![0, 256] ![1, 256] inb_S1x1024_S1x256_0_256, b1⟩,
      ⟨Rect.unit ![0, 0] ![1, 256] inb_S1x1024_S1x256_0_0, b0⟩]
    ⟨store_row 3 rfl inb_S1x1024_S1x256_0_768 h3, store_row 2 rfl inb_S1x1024_S1x256_0_512 h2, store_row 1 rfl inb_S1x1024_S1x256_0_256 h1,
      store_row 0 rfl inb_S1x1024_S1x256_0_0 h0, trivial⟩ (ix2 0 j) (View.cover_of_tiledBy _ ![1, 256] (by sl_kernel_rfl) (ix2 0 j))

theorem cube_tiles {G : Fin 4 → Fin 256 → Fin 256 → EReal} {b0 b1 b2 b3 : Vec Ideal S1x256x256 .f32} (L : List (View.Piece (Elt Ideal) S4x256x256 .f32))
    (h0 : ∀ c l, b0 (ix3 0 c l) = G 0 c l) (h1 : ∀ c l, b1 (ix3 0 c l) = G 1 c l) (h2 : ∀ c l, b2 (ix3 0 c l) = G 2 c l) (h3 : ∀ c l, b3 (ix3 0 c l) = G 3 c l)
    (k : Fin 4) (c l : Fin 256) :
    View.canon ((⟨Rect.unit ![3, 0, 0] ![1, 256, 256] inb_S4x256x256_S1x256x256_3_0_0, b3⟩ : View.Piece (Elt Ideal) S4x256x256 .f32) ::
      ⟨Rect.unit ![2, 0, 0] ![1, 256, 256] inb_S4x256x256_S1x256x256_2_0_0, b2⟩ ::
      ⟨Rect.unit ![1, 0, 0] ![1, 256, 256] inb_S4x256x256_S1x256x256_1_0_0, b1⟩ ::
      ⟨Rect.unit ![0, 0, 0] ![1, 256, 256] inb_S4x256x256_S1x256x256_0_0_0, b0⟩ :: L) (ix3 k c l) = G k c l :=
  View.canon_append_of_piecesOf (cubeOf G) L
    [(⟨Rect.unit ![3, 0, 0] ![1, 256, 256] inb_S4x256x256_S1x256x256_3_0_0, b3⟩ : View.Piece (Elt Ideal) S4x256x256 .f32),
      ⟨Rect.unit ![2, 0, 0] ![1, 256, 256] inb_S4x256x256_S1x256x256_2_0_0, b2⟩,
      ⟨Rect.unit ![1, 0, 0] ![1, 256, 256] inb_S4x256x256_S1x256x256_1_0_0, b1⟩,
      ⟨Rect.unit ![0, 0, 0] ![1, 256, 256] inb_S4x256x256_S1x256x256_0_0_0, b0⟩]
    ⟨store_cube 3 rfl inb_S4x256x256_S1x256x256_3_0_0 h3, store_cube 2 rfl inb_S4x256x256_S1x256x256_2_0_0 h2, store_cube 1 rfl inb_S4x256x256_S1x256x256_1_0_0 h1,
      store_cube 0 rfl inb_S4x256x256_S1x256x256_0_0_0 h0, trivial⟩ (ix3 k c l) (View.cover_of_tiledBy _ ![1, 256, 256] (by sl_kernel_rfl) (ix3 k c l))

end Stores

end Block

/-! ## The windows -/

variable (m : (ℓ : Loc nD τ sig) → Buf (Elt Ideal) ℓ) (c : Dev nD)

/-- The inputs the memory holds. -/
abbrev inp : In := input (m ((c : Thread nD τ).loc main_arg0)) (m ((c : Thread nD τ).loc main_arg1)) (m ((c : Thread nD τ).loc main_arg2))
  (m ((c : Thread nD τ).loc main_arg3)) (m ((c : Thread nD τ).loc main_arg4)) (m ((c : Thread nD τ).loc main_arg5)) (m ((c : Thread nD τ).loc main_arg6))

/-- The memory's arguments are real. -/
abbrev Real : Prop := Holds (inp m c) (m ((c : Thread nD τ).loc main_arg0)) (m ((c : Thread nD τ).loc main_arg1))
  (m ((c : Thread nD τ).loc main_arg2)) (m ((c : Thread nD τ).loc main_arg3)) (m ((c : Thread nD τ).loc main_arg4))
  (m ((c : Thread nD τ).loc main_arg5)) (m ((c : Thread nD τ).loc main_arg6))

theorem idx : ∀ t : Fin cfg0.N, win0_0.index t = ![t.val, 0] ∧ win0_1.index t = ![t.val * 32 - 1, 0] ∧ win0_2.index t = ![t.val, 0]
    ∧ win0_3.index t = ![min (t.val * 32 + 32) 255, 0] ∧ win0_4.index t = ![0, 0, 0, 0] ∧ win0_5.index t = ![0, 0] ∧ win0_6.index t = ![0, 0]
    ∧ win0_7.index t = ![t.val, 0] ∧ win0_8.index t = ![0, 0] ∧ win0_9.index t = ![0, 0] ∧ win0_10.index t = ![t.val, 0] ∧ win0_11.index t = ![t.val, 0]
    ∧ win0_12.index t = ![0, 0] ∧ win0_13.index t = ![0, 0, 0] ∧ win0_14.index t = ![t.val, 0] ∧ win0_15.index t = ![0, 0] :=
  (by decide +kernel : ∀ t : Fin grid0.N, _)

theorem lt_points : ∀ t : Fin cfg0.N, t.val < 8 := (by decide +kernel : ∀ t : Fin grid0.N, _)

/-- Row `r` of block `t`. -/
def at_ (t : Fin cfg0.N) (r : Fin 512) : Fin 4096 := ⟨t.val * 512 + r.val, by have := lt_points t; omega⟩

/-- Row `r` of the sixteen before block `t`, and of the sixteen after it. -/
def before (t : Fin cfg0.N) (r : Fin 16) : Fin 4096 := ⟨(t.val * 32 - 1) * 16 + r.val, by have := lt_points t; omega⟩
def after (t : Fin cfg0.N) (r : Fin 16) : Fin 4096 := ⟨min (t.val * 32 + 32) 255 * 16 + r.val, by omega⟩

variable {m c}

/-- Summing a block's rows over the blocks sums all rows. -/
theorem sum_points (f : Fin 4096 → ℝ) : ∑ t : Fin cfg0.N, ∑ r, f (at_ t r) = ∑ n, f n :=
  Fin.sum_mul_add_congr (L := 4096) (S := 8) (n := 512) (F := fun t r => f (at_ t r)) fun t k hl => rfl

theorem block_p (h : Real m c) (t : Fin cfg0.N) (r : Fin 512) (j : Fin 1024) :
    (iblk m c 0 t : Vec Ideal S512x1024 .bf16) (ix2 r j) = ((inp m c).p (at_ t r) j : EReal) := by
  have e : ((cfg0.win 0).blk t).view.emb (ix2 r j) = (ix2 (at_ t r) j : S4096x1024.Idx) := by blk_ext [idx t] <;> rfl
  blk_simp [iblk]
  rw [e]
  entry_read
  pointwise
  simp only [h.x, h.g, h.win, row_split, mul_real, add_real, sum_real, bits_1024, bits_eps, div_1024, var_def, rsqrt_var]
  rfl

theorem block_p_before (h : Real m c) (t : Fin cfg0.N) (r : Fin 16) (j : Fin 1024) :
    (iblk m c 1 t : Vec Ideal S16x1024 .bf16) (ix2 r j) = ((inp m c).p (before t r) j : EReal) := by
  have e : ((cfg0.win 1).blk t).view.emb (ix2 r j) = (ix2 (before t r) j : S4096x1024.Idx) := by blk_ext [idx t] <;> rfl
  blk_simp [iblk]
  rw [e]
  entry_read
  pointwise
  simp only [h.x, h.g, h.win, row_split, mul_real, add_real, sum_real, bits_1024, bits_eps, div_1024, var_def, rsqrt_var]
  rfl

theorem block_dy (h : Real m c) (t : Fin cfg0.N) (r : Fin 512) (j : Fin 1024) :
    (iblk m c 2 t : Vec Ideal S512x1024 .bf16) (ix2 r j) = ((inp m c).dy (at_ t r) j : EReal) := by
  have e : ((cfg0.win 2).blk t).view.emb (ix2 r j) = (ix2 (at_ t r) j : S4096x1024.Idx) := by blk_ext [idx t] <;> rfl
  blk_simp [iblk]
  rw [e]
  entry_read
  pointwise
  rw [h.dy, row_split]

theorem block_dy_after (h : Real m c) (t : Fin cfg0.N) (r : Fin 16) (j : Fin 1024) :
    (iblk m c 3 t : Vec Ideal S16x1024 .bf16) (ix2 r j) = ((inp m c).dy (after t r) j : EReal) := by
  have e : ((cfg0.win 3).blk t).view.emb (ix2 r j) = (ix2 (after t r) j : S4096x1024.Idx) := by blk_ext [idx t] <;> rfl
  blk_simp [iblk]
  rw [e]
  entry_read
  pointwise
  rw [h.dy, row_split]

theorem block_wg (h : Real m c) (t : Fin cfg0.N) (i : Fin 8) (k : Fin 4) (s : Fin 32) (l : Fin 256) :
    (iblk m c 4 t : Vec Ideal S8x4x32x256 .bf16) (ix4 i k s l) = ((inp m c).wg k ⟨32 * i.val + s.val, by omega⟩ l : EReal) := by
  have e : ((cfg0.win 4).blk t).view.emb (ix4 i k s l) = (ix4 i k s l : S8x4x32x256.Idx) := by blk_ext [idx t] <;> rfl
  blk_simp [iblk]
  rw [e]
  entry_read
  pointwise
  exact (h.wg _ _ _).trans (congrArg (fun q => ((inp m c).wg k q l : EReal)) (Fin.ext (by show i.val * 32 + s.val = 32 * i.val + s.val; omega)))

theorem block_sc (h : Real m c) (t : Fin cfg0.N) (j : Fin 1024) :
    (iblk m c 5 t : Vec Ideal S1x1024 .f32) (ix2 0 j) = ((inp m c).sc j : EReal) := by
  have e : ((cfg0.win 5).blk t).view.emb (ix2 0 j) = (ix2 0 j : S1x1024.Idx) := by blk_ext [idx t] <;> rfl
  blk_simp [iblk]
  rw [e]
  entry_read
  pointwise
  rw [h.sc]

theorem block_w (h : Real m c) (t : Fin cfg0.N) (d j : Fin 1024) :
    (iblk m c 6 t : Vec Ideal S1024x1024 .bf16) (ix2 d j) = ((inp m c).win d j : EReal) := by
  have e : ((cfg0.win 6).blk t).view.emb (ix2 d j) = (ix2 d j : S1024x1024.Idx) := by blk_ext [idx t] <;> rfl
  blk_simp [iblk]
  rw [e]
  entry_read
  pointwise
  rw [h.win]

theorem block_x (h : Real m c) (t : Fin cfg0.N) (r : Fin 512) (d : Fin 1024) :
    (iblk m c 7 t : Vec Ideal S512x1024 .f32) (ix2 r d) = ((inp m c).x (at_ t r) d : EReal) := by
  have e : ((cfg0.win 7).blk t).view.emb (ix2 r d) = (ix2 (at_ t r) d : S4096x1024.Idx) := by blk_ext [idx t] <;> rfl
  blk_simp [iblk]
  rw [e]
  entry_read
  pointwise
  rw [h.x, row_split]

theorem block_g (h : Real m c) (t : Fin cfg0.N) (d : Fin 1024) :
    (iblk m c 8 t : Vec Ideal S1x1024 .f32) (ix2 0 d) = ((inp m c).g d : EReal) := by
  have e : ((cfg0.win 8).blk t).view.emb (ix2 0 d) = (ix2 0 d : S1x1024.Idx) := by blk_ext [idx t] <;> rfl
  blk_simp [iblk]
  rw [e]
  entry_read
  pointwise
  rw [h.g]

theorem block_tok (t : Fin cfg0.N) (r : Fin 8) (d : Fin 128) :
    (iblk m c 9 t : Vec Ideal S8x128 .f32) (ix2 r d) = ((0 : ℝ) : EReal) := by
  have e : ((cfg0.win 9).blk t).view.emb (ix2 r d) = (ix2 r d : S8x128.Idx) := by blk_ext [idx t] <;> rfl
  blk_simp [iblk]
  rw [e]
  entry_read
  pointwise
  rfl

theorem block_res (h : Real m c) (t : Fin cfg0.N) (r : Fin 512) (d : Fin 1024) :
    (iblk m c 10 t : Vec Ideal S512x1024 .f32) (ix2 r d) = ((inp m c).dres (at_ t r) d : EReal) := by
  have e : ((cfg0.win 10).blk t).view.emb (ix2 r d) = (ix2 (at_ t r) d : S4096x1024.Idx) := by blk_ext [idx t] <;> rfl
  blk_simp [iblk]
  rw [e]
  entry_read
  pointwise
  rw [h.dres, row_split]

/-! ## The rows before and after a block -/

/-- A block's place in its sequence, and whether it is the first and the last, as the body computes them. -/
abbrev place (t : Fin cfg0.N) : BitVec 32 :=
  Scalar.select
    (Scalar.andi
      (Scalar.xori (Scalar.cmpi CmpIPredicate.slt (Scalar.remsi (BitVec.ofNat 32 (grid0.coords t 0).val) 4#32) 0#32) 0#1)
      (Scalar.cmpi CmpIPredicate.ne (Scalar.remsi (BitVec.ofNat 32 (grid0.coords t 0).val) 4#32) 0#32))
    (Scalar.addi (Scalar.remsi (BitVec.ofNat 32 (grid0.coords t 0).val) 4#32) 4#32)
    (Scalar.remsi (BitVec.ofNat 32 (grid0.coords t 0).val) 4#32)
abbrev lastBit (t : Fin cfg0.N) : BitVec 1 := Scalar.cmpi CmpIPredicate.eq (place t) 3#32

theorem place_word : ∀ t : Fin cfg0.N, place t = BitVec.ofNat 32 (t.val % 4) := (by decide +kernel : ∀ t : Fin grid0.N, _)
theorem first_bit : ∀ t : Fin cfg0.N, Scalar.cmpi CmpIPredicate.eq (place t) 0#32 = if t.val % 4 = 0 then 1#1 else 0#1 := (by decide +kernel : ∀ t : Fin grid0.N, _)
theorem last_bit : ∀ t : Fin cfg0.N, lastBit t = if t.val % 4 = 3 then 1#1 else 0#1 := (by decide +kernel : ∀ t : Fin grid0.N, _)

section Group

variable (h : Real m c) (t : Fin cfg0.N) (k : Fin 4) {o : ℕ} (ho : o = 256 * k.val)

theorem width_le : 0 < width k ∧ width k ≤ 16 := by fin_cases k <;> decide

/-! What the body loads of a group's lanes. -/

include h ho in
theorem ld_p {inb} (r : Fin 512) (j : Fin 256) : k0_pay19 (View.ld (iblk m c 0 t : Vec Ideal S512x1024 .bf16) (Rect.unit ![0, o] ![512, 256] inb)) (ix2 r j)
    = ((inp m c).p (at_ t r) (col k j) : EReal) := by
  subst ho
  pointwise [k0_pay19]
  exact Eq.trans (congrArg _ (by blk_ext <;> simp [col])) (block_p h t r (col k j))

include h ho in
theorem ld_dy {inb} (r : Fin 512) (j : Fin 256) : View.ld (iblk m c 2 t : Vec Ideal S512x1024 .bf16) (Rect.unit ![0, o] ![512, 256] inb) (ix2 r j)
    = ((inp m c).dy (at_ t r) (col k j) : EReal) := by
  subst ho
  exact (ld_cols _ _ r j (by omega)).trans (block_dy h t r (col k j))

include h ho in
theorem ld_dy_after {inb} (r : Fin 16) (j : Fin 256) : View.ld (iblk m c 3 t : Vec Ideal S16x1024 .bf16) (Rect.unit ![0, o] ![16, 256] inb) (ix2 r j)
    = ((inp m c).dy (after t r) (col k j) : EReal) := by
  subst ho
  exact (ld_cols _ _ r j (by omega)).trans (block_dy_after h t r (col k j))

include h ho in
theorem ld_sc {inb} (j : Fin 256) : View.ld (iblk m c 5 t : Vec Ideal S1x1024 .f32) (Rect.unit ![0, o] ![1, 256] inb) (ix2 0 j)
    = ((inp m c).sc (col k j) : EReal) := by
  subst ho
  exact (ld_cols _ _ 0 j (by omega)).trans (block_sc h t (col k j))

include h in
theorem wg_at {kk : ℕ} (hk : kk = k.val) {inb} (x l : Fin 256) :
    k0_pay8 (View.ld (iblk m c 4 t : Vec Ideal S8x4x32x256 .bf16) (Rect.unit ![0, kk, 0, 0] ![8, 1, 32, 256] inb)) (ix2 x l) = ((inp m c).wg k x l : EReal) := by
  subst hk
  refine wg_block (fun i s l => ?_) x l
  refine Eq.trans ?_ (block_wg h t i k s l)
  pointwise

include h ho in
theorem u_at {ib ic} (r : Fin 512) (l : Fin 256) : k0_pay11 (View.ld (iblk m c 2 t : Vec Ideal S512x1024 .bf16) (Rect.unit ![0, o] ![512, 256] ib))
    (View.ld (iblk m c 5 t : Vec Ideal S1x1024 .f32) (Rect.unit ![0, o] ![1, 256] ic)) (ix2 r l) = ((inp m c).u (at_ t r) (col k l) : EReal) :=
  u_block (ld_dy h t k ho) (ld_sc h t k ho) r l

include h ho in
theorem dd_at {kk : ℕ} (hk : kk = k.val) {ia ib ic} (r : Fin 512) (x : Fin 256) :
    k0_pay28 (k0_pay8 (View.ld (iblk m c 4 t : Vec Ideal S8x4x32x256 .bf16) (Rect.unit ![0, kk, 0, 0] ![8, 1, 32, 256] ia)))
      (k0_pay11 (View.ld (iblk m c 2 t : Vec Ideal S512x1024 .bf16) (Rect.unit ![0, o] ![512, 256] ib))
        (View.ld (iblk m c 5 t : Vec Ideal S1x1024 .f32) (Rect.unit ![0, o] ![1, 256] ic))) (ix2 r x) = ((inp m c).dd (at_ t r) k x : EReal) :=
  dd_block (wg_at h t k hk) (u_at h t k ho) r x

include h ho in
theorem dd_after {kk : ℕ} (hk : kk = k.val) {ia ib ic} (r : Fin 16) (x : Fin 256) :
    k0_pay61 (k0_pay8 (View.ld (iblk m c 4 t : Vec Ideal S8x4x32x256 .bf16) (Rect.unit ![0, kk, 0, 0] ![8, 1, 32, 256] ia)))
      (k0_pay58 (View.ld (iblk m c 3 t : Vec Ideal S16x1024 .bf16) (Rect.unit ![0, o] ![16, 256] ib))
        (View.ld (iblk m c 5 t : Vec Ideal S1x1024 .f32) (Rect.unit ![0, o] ![1, 256] ic))) (ix2 r x) = ((inp m c).dd (after t r) k x : EReal) :=
  dd_tail (wg_at h t k hk) (u_tail (ld_dy_after h t k ho) (ld_sc h t k ho)) r x

theorem counts_block {W : BitVec 32} (hW : W = BitVec.ofNat 32 (width k)) (r : Fin 512) :
    counts iota_S512x1_d0_w32 (place t) 0#32 W (ix2 r 0) = (cnt (width k) (at_ t r) : EReal) := by
  rw [counts_at (o := 0) (place_word t) rfl hW (by omega) (by omega) (by omega) (width_le k).2]
  exact congrArg (fun n => (((min n (width k) : ℕ) : ℝ) : EReal)) (by show _ = (t.val * 512 + r.val) % 2048 + 1; omega)

theorem counts_tail {W : BitVec 32} (hW : W = BitVec.ofNat 32 (width k)) (h3 : ¬ t.val % 4 = 3) (r : Fin 16) :
    counts iota_S16x1_d0_w32 (place t) 512#32 W (ix2 r 0) = (cnt (width k) (after t r) : EReal) := by
  have := lt_points t
  rw [counts_at (o := 512) (place_word t) rfl hW (by omega) (by omega) (by omega) (width_le k).2]
  exact congrArg (fun n => (((min n (width k) : ℕ) : ℝ) : EReal)) (by show _ = (min (t.val * 32 + 32) 255 * 16 + r.val) % 2048 + 1; omega)

/-- A window of 512 rows of the scratch, at most sixteen rows down. -/
theorem inb_tall (l : ℕ) (hl : l ≤ 16) (hk : o = 256 * k.val) : ∀ a, (![l, o] : Fin 2 → ℕ) a + S512x256.size a ≤ S528x1024.size a := by
  intro a
  fin_cases a
  · show l + 512 ≤ 528; omega
  · show o + 256 ≤ 1024; omega

variable {sg : RefSig} {κ : Kind} {sp : Space} {v : View sg κ sp S528x1024 .f32} {L : List (View.Piece (Elt Ideal) S528x1024 .f32)}

theorem halo_before (h : Real m c) (r : Fin 16) (j : Fin 1024) (hp : r.val < 528) :
    k0_pay5 (grid0.coords t) (iblk m c 1 t : Vec Ideal S16x1024 .bf16) (ix2 r j) = (headRow (inp m c).p t.val ⟨r.val, hp⟩ j : EReal) := by
  show Scalar.select (Scalar.cmpi CmpIPredicate.eq (place t) 0#32) (broadcast S16x1024 (Scalar.ofBits .f32 0x00000000#32))
    (extf (F := Ideal) .f32 (shapeCast S16x1024 (iblk m c 1 t : Vec Ideal S16x1024 .bf16) shapeCasts_S16x1024_S16x1024) bitsLt_bf16_f32) _ = _
  rw [first_bit]
  unfold headRow
  by_cases h0 : t.val % 4 = 0
  · rw [if_pos h0, if_pos ⟨h0, r.isLt⟩]
    pointwise
    rfl
  · rw [if_neg h0, if_neg (fun h => h0 h.1)]
    pointwise
    rw [block_p_before h]
    exact congrArg (fun n => ((inp m c).p n j : EReal)) (Fin.ext (by
      have := lt_points t
      show (t.val * 32 - 1) * 16 + r.val = (t.val * 512 + r.val - 16) % 4096; omega))

include h ho in
/-- The projection, read `i + 1` rows before the block's. -/
theorem back_at (i : ℕ) (hi : i < 16) {iA iB} (r : Fin 512) (j : Fin 256) :
    v.readCov (Val := Elt Ideal) [⟨Rect.unit ![16, 0] ![512, 1024] iA, k0_pay6 (iblk m c 0 t : Vec Ideal S512x1024 .bf16)⟩,
          ⟨Rect.unit ![0, 0] ![16, 1024] iB, k0_pay5 (grid0.coords t) (iblk m c 1 t : Vec Ideal S16x1024 .bf16)⟩]
        (Rect.unit (s := S528x1024) ![16 - (i + 1), o] ![512, 256] (inb_tall k _ (Nat.sub_le _ _) ho)).toLoadRect (ix2 r j)
      = (back (i + 1) (fun n => (inp m c).p n (col k j)) (at_ t r) : EReal) := by
  subst ho
  refine (tall_load (nb := 16) (na := 512) rfl (Nat.zero_le _) (by omega) le_rfl (by omega) (headRow (inp m c).p t.val) v [] (fun r j => ?_) (fun r j => ?_) r j).trans
    (congrArg _ (headRow_back (lt_points t) (i + 1) (by omega) r (col k j) (by omega)))
  · pointwise [k0_pay6]
    refine (block_p h t r j).trans (congrArg _ ?_)
    rw [headRow_block (lt_points t)]
    rfl
  · rw [halo_before t h r j (by omega)]
    exact congrArg (fun d => (headRow (inp m c).p t.val _ d : EReal)) (Fin.ext (Nat.zero_add _).symm)

/-- The deviations of a block's rows from their window's mean, by `N` loads of the rows above. -/
def devBlock (M W : BitVec 32) (P : FVec Ideal S512x256 .f32) (e : ℕ → FVec Ideal S512x256 .f32) (N : ℕ) : FVec Ideal S512x256 .bf16 :=
  truncf .bf16 (subf (divf (sumLoads P e N) (broadcastTo S512x256 (counts iota_S512x1_d0_w32 M 0#32 W) broadcasts_S512x1_S512x256)) P) bitsLt_bf16_f32

include h ho in
theorem dev_at (N : ℕ) (hN : width k = N + 1) {W : BitVec 32} (hW : W = BitVec.ofNat 32 (width k)) {ip iA iB} (r : Fin 512) (x : Fin 256) :
    devBlock (place t) W (k0_pay19 (View.ld (iblk m c 0 t : Vec Ideal S512x1024 .bf16) (Rect.unit ![0, o] ![512, 256] ip)))
      (fun i => v.readCov (Val := Elt Ideal) [⟨Rect.unit ![16, 0] ![512, 1024] iA, k0_pay6 (iblk m c 0 t : Vec Ideal S512x1024 .bf16)⟩,
          ⟨Rect.unit ![0, 0] ![16, 1024] iB, k0_pay5 (grid0.coords t) (iblk m c 1 t : Vec Ideal S16x1024 .bf16)⟩]
        (Rect.unit (s := S528x1024) ![16 - (i + 1), o] ![512, 256] (inb_tall k _ (Nat.sub_le _ _) ho)).toLoadRect) N (ix2 r x)
      = ((inp m c).dev (at_ t r) k x : EReal) := by
  have := width_le k
  have hs := sum_loads (N := N) (ld_p h t k ho (inb := ip) r x) (fun i hi => back_at h t k ho i (by omega) (v := v) (iA := iA) (iB := iB) r x)
  pointwise [devBlock]
  rw [hs, counts_block t k hW, ld_p h t k ho, div_real _ (cnt_ne_zero this.1 _), sub_real]
  unfold In.dev
  rw [show ∑ i ∈ Finset.range (width k), back i (fun n => (inp m c).p n (col k x)) (at_ t r) = _ from
    (congrArg (fun w => ∑ i ∈ Finset.range w, back i (fun n => (inp m c).p n (col k x)) (at_ t r)) hN).trans (Finset.sum_range_succ' _ _)]
  rw [add_comm]
  rfl

/-- The gradient of the windows' sums, at the block's rows and at the sixteen after it. -/
def spread (M W : BitVec 32) (A : FVec Ideal S512x256 .f32) : FVec Ideal S512x256 .f32 :=
  shapeCast S512x256 (divf A (broadcastTo S512x256 (counts iota_S512x1_d0_w32 M 0#32 W) broadcasts_S512x1_S512x256)) shapeCasts_S512x256_S512x256
def spreadTail (v : BitVec 1) (M W : BitVec 32) (A : FVec Ideal S16x256 .f32) : FVec Ideal S16x256 .f32 :=
  shapeCast S16x256 (Scalar.select v (broadcast S16x256 (Scalar.ofBits .f32 0x00000000#32))
    (divf A (broadcastTo S16x256 (counts iota_S16x1_d0_w32 M 512#32 W) broadcasts_S16x1_S16x256))) shapeCasts_S16x256_S16x256

variable {a : In}

theorem spread_block {W : BitVec 32} (hW : W = BitVec.ofNat 32 (width k)) {A : FVec Ideal S512x256 .f32} (hA : ∀ r x, A (ix2 r x) = (a.dd (at_ t r) k x : EReal))
    (r : Fin 512) (x : Fin 256) : spread (place t) W A (ix2 r x) = (a.q (at_ t r) (col k x) : EReal) := by
  pointwise [spread]
  rw [hA, counts_block t k hW, div_real _ (cnt_ne_zero (width_le k).1 _), In.q_col]

theorem spread_tail {W : BitVec 32} (hW : W = BitVec.ofNat 32 (width k)) {A : FVec Ideal S16x256 .f32} (hA : ∀ r x, A (ix2 r x) = (a.dd (after t r) k x : EReal))
    (r : Fin 16) (x : Fin 256) (hp : 512 + r.val < 528) :
    spreadTail (lastBit t) (place t) W A (ix2 r x) = (tailRow a.q t.val ⟨512 + r.val, hp⟩ (col k x) : EReal) := by
  unfold spreadTail tailRow
  rw [last_bit]
  by_cases h0 : t.val % 4 = 3
  · rw [if_pos h0, if_pos ⟨h0, Nat.le_add_right _ _⟩]
    pointwise
    rfl
  · rw [if_neg h0, if_neg (fun h => h0 h.1)]
    pointwise
    rw [hA, counts_tail t k hW h0, div_real _ (cnt_ne_zero (width_le k).1 _), ← In.q_col]
    exact congrArg (fun n => (a.q n (col k x) : EReal)) (Fin.ext (by
      have := lt_points t
      show min (t.val * 32 + 32) 255 * 16 + r.val = (t.val * 512 + (512 + r.val)) % 4096; omega))

/-- The projection's gradient, by `N` loads of the windows' gradients. -/
def dpBlock (A : FVec Ideal S512x256 .f32) (e : ℕ → FVec Ideal S512x256 .f32) (N : ℕ) : FVec Ideal S512x256 .bf16 :=
  truncf .bf16 (sumLoads (subf (broadcast S512x256 (Scalar.ofBits .f32 0x00000000#32)) A) e N) bitsLt_bf16_f32

theorem dp_block {N : ℕ} (hw : N = width k) {W : BitVec 32} (hW : W = BitVec.ofNat 32 (width k)) {A : FVec Ideal S512x256 .f32} (hA : ∀ r x, A (ix2 r x) = (a.dd (at_ t r) k x : EReal))
    {B : FVec Ideal S16x256 .f32} (hB : ∀ r x, B (ix2 r x) = (a.dd (after t r) k x : EReal)) {iA iB} (r : Fin 512) (x : Fin 256) :
    dpBlock A (fun i => v.readCov (Val := Elt Ideal) (⟨Rect.unit ![512, o] ![16, 256] iA, spreadTail (lastBit t) (place t) W B⟩
          :: ⟨Rect.unit ![0, o] ![512, 256] iB, spread (place t) W A⟩ :: L)
        (Rect.unit (s := S528x1024) ![16 - (16 - i), o] ![512, 256] (inb_tall k _ (Nat.sub_le _ _) ho)).toLoadRect) N (ix2 r x)
      = (a.dp (at_ t r) (col k x) : EReal) := by
  have := width_le k
  subst ho
  have hs := sum_loads (N := N) (A := subf (broadcast S512x256 (Scalar.ofBits .f32 0x00000000#32)) A) (f := - a.dd (at_ t r) k x) (r := r) (c := x)
    (e := fun i => v.readCov (Val := Elt Ideal) (⟨Rect.unit ![512, 256 * k.val] ![16, 256] iA, spreadTail (lastBit t) (place t) W B⟩
          :: ⟨Rect.unit ![0, 256 * k.val] ![512, 256] iB, spread (place t) W A⟩ :: L)
        (Rect.unit (s := S528x1024) ![16 - (16 - i), 256 * k.val] ![512, 256] (inb_tall k _ (Nat.sub_le _ _) rfl)).toLoadRect)
    (u := fun i => ahead i (fun n => a.q n (col k x)) (at_ t r)) (by pointwise; rw [hA]; exact (sub_real 0 _).trans (congrArg _ (zero_sub _))) fun i hi =>
      (tall_load (nb := 512) (na := 16) rfl le_rfl le_rfl (by omega) (by omega) (tailRow a.q t.val) v L
        (fun r j => spread_tail t k hW hB r j (by omega))
        (fun r j => (spread_block t k hW hA r j).trans (congrArg _ (tailRow_block (lt_points t) r (col k j) (by omega)).symm)) r x).trans
      (congrArg _ ((congrArg (fun p => tailRow a.q t.val p (col k x)) (Fin.ext (by show 16 - (16 - i) + r.val = i + r.val; omega))).trans
        (tailRow_ahead (lt_points t) i (by omega) r (col k x) (by omega))))
  refine Eq.trans hs ?_
  rw [In.dp_col, hw, neg_add_eq_sub]

end Group

/-! ## What a point leaves -/

/-- The accumulators before a group's lanes are stored: what the point before left, or the zeros they start from. -/
theorem acc_next (A : Vec Ideal S1x1024 .f32) (k : Fin 4) {o : ℕ} (ho : o = 256 * k.val) {inb} (l : Fin 256) :
    View.ld A (Rect.unit ![0, o] ![1, 256] inb) (ix2 0 l) = A (ix2 0 (col k l)) := by
  subst ho
  exact ld_cols A _ 0 l (by omega)

theorem cube_next (A : Vec Ideal S4x256x256 .f32) (k : Fin 4) {o : ℕ} (ho : o = k.val) {inb} (x l : Fin 256) :
    View.ld A (Rect.unit ![o, 0, 0] ![1, 256, 256] inb) (ix3 0 x l) = A (ix3 k x l) := by
  subst ho
  pointwise

section First

variable {sg : RefSig} {κ : Kind} {sp : Space} {o : ℕ}

theorem acc_first {v : View sg κ sp S1x1024 .f32} (ho : o + 256 ≤ 1024) {inb zi} (M : List (View.Piece (Elt Ideal) S1x1024 .f32))
    (hM : M = M.dropLast ++ [⟨Rect.unit ![0, 0] ![1, 1024] zi, k0_pay3 (F := Ideal)⟩])
    (hd : LoadRect.disjAll (M.dropLast.map Sigma.fst) (Rect.unit (s := S1x1024) ![0, o] ![1, 256] inb).toLoadRect = true) (l : Fin 256) :
    v.readCov M (Rect.unit (s := S1x1024) ![0, o] ![1, 256] inb).toLoadRect (ix2 0 l) = (0 : EReal) := by
  rw [read_last M _ hM _ hd (ix2 0 l) (ix2 0 ⟨o + l.val, by omega⟩) (by blk_ext <;> simp)]
  pointwise [k0_pay3]

theorem cube_first {v : View sg κ sp S4x256x256 .f32} (ho : o < 4) {inb zi} (M : List (View.Piece (Elt Ideal) S4x256x256 .f32))
    (hM : M = M.dropLast ++ [⟨Rect.unit ![0, 0, 0] ![4, 256, 256] zi, k0_pay4 (F := Ideal)⟩])
    (hd : LoadRect.disjAll (M.dropLast.map Sigma.fst) (Rect.unit (s := S4x256x256) ![o, 0, 0] ![1, 256, 256] inb).toLoadRect = true) (x l : Fin 256) :
    v.readCov M (Rect.unit (s := S4x256x256) ![o, 0, 0] ![1, 256, 256] inb).toLoadRect (ix3 0 x l) = (0 : EReal) := by
  rw [read_last M _ hM _ hd (ix3 0 x l) (ix3 ⟨o, ho⟩ x l) (by blk_ext <;> simp)]
  pointwise [k0_pay4]

end First

theorem lt_last (t : Fin cfg0.N) : t.val - 1 < cfg0.N := by have := t.isLt; omega

set_option maxHeartbeats 4000000 in
theorem dsc_at (h : Real m c) (t : Fin cfg0.N) (Z : Fin 1024 → EReal) (hA : t.val % 8 = 0 → ∀ j, Z j = 0)
    (hB : ¬ t.val % 8 = 0 → ∀ j, Z j = (outsAt0 m c (t.val - 1) (lt_last t)).2.1 (ix2 0 j)) (j : Fin 1024) :
    (outsAt0 m c t.val t.isLt).2.1 (ix2 0 j) = Z j + ((∑ r, (inp m c).dsc (at_ t r) j : ℝ) : EReal) := by
  by_cases h0 : t.val % 8 = 0
  all_goals
    first
    | rw [outsAt0_A m c t h0]
    | rw [outsAt0_B m c t h0]
    frame_out
    refine row_tiles (G := fun j => Z j + ((∑ r, (inp m c).dsc (at_ t r) j : ℝ) : EReal)) _
      (dsc_block (wg_at h t 0 (kk := 0) rfl) (dev_at h t 0 (o := 0) rfl 1 rfl (W := 2#32) rfl) (ld_dy h t 0 (o := 0) rfl) (A := fun l => Z (col 0 l)) ?_)
      (dsc_block (wg_at h t 1 (kk := 1) rfl) (dev_at h t 1 (o := 256) rfl 3 rfl (W := 4#32) rfl) (ld_dy h t 1 (o := 256) rfl) (A := fun l => Z (col 1 l)) ?_)
      (dsc_block (wg_at h t 2 (kk := 2) rfl) (dev_at h t 2 (o := 512) rfl 7 rfl (W := 8#32) rfl) (ld_dy h t 2 (o := 512) rfl) (A := fun l => Z (col 2 l)) ?_)
      (dsc_block (wg_at h t 3 (kk := 3) rfl) (dev_at h t 3 (o := 768) rfl 15 rfl (W := 16#32) rfl) (ld_dy h t 3 (o := 768) rfl) (A := fun l => Z (col 3 l)) ?_) j
    all_goals
      intro l
      first
      | rw [hB h0]
        exact acc_next _ _ (by rfl) l
      | rw [hA h0]
        exact acc_first (by omega) _ rfl (by sl_kernel_rfl) l

set_option maxHeartbeats 4000000 in
theorem dwg_at (h : Real m c) (t : Fin cfg0.N) (Z : Fin 4 → Fin 256 → Fin 256 → EReal) (hA : t.val % 8 = 0 → ∀ k x l, Z k x l = 0)
    (hB : ¬ t.val % 8 = 0 → ∀ k x l, Z k x l = (outsAt0 m c (t.val - 1) (lt_last t)).2.2.1 (ix3 k x l)) (k : Fin 4) (x l : Fin 256) :
    (outsAt0 m c t.val t.isLt).2.2.1 (ix3 k x l) = Z k x l + ((∑ r, (inp m c).dwg (at_ t r) k x l : ℝ) : EReal) := by
  by_cases h0 : t.val % 8 = 0
  all_goals
    first
    | rw [outsAt0_A m c t h0]
    | rw [outsAt0_B m c t h0]
    frame_out
    refine cube_tiles (G := fun k x l => Z k x l + ((∑ r, (inp m c).dwg (at_ t r) k x l : ℝ) : EReal)) _
      (dwg_block (dev_at h t 0 (o := 0) rfl 1 rfl (W := 2#32) rfl) (u_at h t 0 (o := 0) rfl) (A := Z 0) ?_)
      (dwg_block (dev_at h t 1 (o := 256) rfl 3 rfl (W := 4#32) rfl) (u_at h t 1 (o := 256) rfl) (A := Z 1) ?_)
      (dwg_block (dev_at h t 2 (o := 512) rfl 7 rfl (W := 8#32) rfl) (u_at h t 2 (o := 512) rfl) (A := Z 2) ?_)
      (dwg_block (dev_at h t 3 (o := 768) rfl 15 rfl (W := 16#32) rfl) (u_at h t 3 (o := 768) rfl) (A := Z 3) ?_) k x l
    all_goals
      intro x l
      first
      | rw [hB h0]
        exact cube_next _ _ (by rfl) x l
      | rw [hA h0]
        exact cube_first (by omega) _ rfl (by sl_kernel_rfl) x l

set_option maxHeartbeats 4000000 in
theorem point_at (h : Real m c) (t : Fin cfg0.N) (Z : Fin 1024 → EReal) (hA : t.val % 8 = 0 → ∀ d, Z d = 0)
    (hB : ¬ t.val % 8 = 0 → ∀ d, Z d = (outsAt0 m c (t.val - 1) (lt_last t)).2.2.2.2 (ix2 0 d)) :
    (∀ r j, (outsAt0 m c t.val t.isLt).1 (ix2 r j) = ((inp m c).dp (at_ t r) j : EReal))
    ∧ (∀ r d, (outsAt0 m c t.val t.isLt).2.2.2.1 (ix2 r d) = ((inp m c).dx (at_ t r) d : EReal))
    ∧ ∀ d, (outsAt0 m c t.val t.isLt).2.2.2.2 (ix2 0 d) = Z d + ((∑ r, (inp m c).dgain (at_ t r) d : ℝ) : EReal) := by
  have htok : View.ld (iblk m c 9 t : Vec Ideal S8x128 .f32) (Rect.unit ![0, 0] ![1, 1] inb_S8x128_S1x1_0_0) (ix2 0 0) = ((0 : ℝ) : EReal) := by
    refine Eq.trans ?_ (block_tok (m := m) (c := c) t 0 0)
    pointwise
  by_cases h0 : t.val % 8 = 0
  all_goals
    first
    | rw [outsAt0_A m c t h0]
    | rw [outsAt0_B m c t h0]
    frame_out
    refine both ?_ fun hP => ⟨fun r d => dx_block (dh_block (read_whole hP) (block_w h t)) (block_x h t) (block_g h t) htok (block_res h t) r d,
      fun d => (gain_block (dh_block (read_whole hP) (block_w h t)) (block_x h t) d).trans (congrArg (· + _) ?_)⟩
    rotate_left
    · first
      | exact (hB h0 d).symm
      | rw [hA h0]
        pointwise [k0_pay2]
    exact dp_tiles
      (dp_block t 0 (o := 0) rfl (N := 2) rfl (W := 2#32) rfl (dd_at h t 0 (o := 0) rfl (kk := 0) rfl) (dd_after h t 0 (o := 0) rfl (kk := 0) rfl))
      (dp_block t 1 (o := 256) rfl (N := 4) rfl (W := 4#32) rfl (dd_at h t 1 (o := 256) rfl (kk := 1) rfl) (dd_after h t 1 (o := 256) rfl (kk := 1) rfl))
      (dp_block t 2 (o := 512) rfl (N := 8) rfl (W := 8#32) rfl (dd_at h t 2 (o := 512) rfl (kk := 2) rfl) (dd_after h t 2 (o := 512) rfl (kk := 2) rfl))
      (dp_block t 3 (o := 768) rfl (N := 16) rfl (W := 16#32) rfl (dd_at h t 3 (o := 768) rfl (kk := 3) rfl) (dd_after h t 3 (o := 768) rfl (kk := 3) rfl))

theorem gain_last (h : Real m c) (d : Fin 1024) :
    (outsAt0 m c t0_7.val t0_7.isLt).2.2.2.2 (ix2 0 d) = ((∑ n, (inp m c).dgain n d : ℝ) : EReal) := by
  rw [Pipeline.eq_sum_fin_of_reset_step_apply_last (fun n h (d : Fin 1024) => (outsAt0 m c n h).2.2.2.2 (ix2 0 d)) 8 (fun _ => (0 : EReal))
    (fun t d => ((∑ r, (inp m c).dgain (at_ t r) d : ℝ) : EReal))
    (fun t h0 i => (point_at h t (fun _ => 0) (fun _ _ => rfl) (fun hn => absurd h0 hn)).2.2 i)
    (fun t h0 i => (point_at h t (fun d => (outsAt0 m c (t.val - 1) (lt_last t)).2.2.2.2 (ix2 0 d)) (fun hn => absurd hn h0) (fun _ _ => rfl)).2.2 i)
    (le_of_eq N_0) t0_7 rfl]
  rw [sum_real, sum_points (fun n => (inp m c).dgain n d), zero_add]

theorem dsc_last (h : Real m c) (j : Fin 1024) :
    (outsAt0 m c t0_7.val t0_7.isLt).2.1 (ix2 0 j) = ((∑ n, (inp m c).dsc n j : ℝ) : EReal) := by
  rw [Pipeline.eq_sum_fin_of_reset_step_apply_last (fun n h (j : Fin 1024) => (outsAt0 m c n h).2.1 (ix2 0 j)) 8 (fun _ => (0 : EReal))
    (fun t j => ((∑ r, (inp m c).dsc (at_ t r) j : ℝ) : EReal))
    (fun t h0 i => dsc_at h t (fun _ => 0) (fun _ _ => rfl) (fun hn => absurd h0 hn) i)
    (fun t h0 i => dsc_at h t (fun j => (outsAt0 m c (t.val - 1) (lt_last t)).2.1 (ix2 0 j)) (fun hn => absurd hn h0) (fun _ _ => rfl) i)
    (le_of_eq N_0) t0_7 rfl]
  rw [sum_real, sum_points (fun n => (inp m c).dsc n j), zero_add]

theorem dwg_last (h : Real m c) (k : Fin 4) (x l : Fin 256) :
    (outsAt0 m c t0_7.val t0_7.isLt).2.2.1 (ix3 k x l) = ((∑ n, (inp m c).dwg n k x l : ℝ) : EReal) := by
  rw [Pipeline.eq_sum_fin_of_reset_step_apply_last (fun n h (l : Fin 256) => (outsAt0 m c n h).2.2.1 (ix3 k x l)) 8 (fun _ => (0 : EReal))
    (fun t l => ((∑ r, (inp m c).dwg (at_ t r) k x l : ℝ) : EReal))
    (fun t h0 i => dwg_at h t (fun _ _ _ => 0) (fun _ _ _ _ => rfl) (fun hn => absurd h0 hn) k x i)
    (fun t h0 i => dwg_at h t (fun k x l => (outsAt0 m c (t.val - 1) (lt_last t)).2.2.1 (ix3 k x l)) (fun hn => absurd hn h0) (fun _ _ _ _ => rfl) k x i)
    (le_of_eq N_0) t0_7 rfl]
  rw [sum_real, sum_points (fun n => (inp m c).dwg n k x l), zero_add]

/-! ## The arrays the call leaves -/

variable (m c) in
/-- Rows of 1024, as an array. -/
def arr (f : In → Fin 4096 → Fin 1024 → ℝ) : S4096x1024.Idx → EReal := fun i => (f (inp m c) (i 0) (i 1) : EReal)

/-- What a point leaves of its block's rows. -/
def rows_at (h : Real m c) (t : Fin cfg0.N) := point_at h t (fun d => if t.val % 8 = 0 then 0 else (outsAt0 m c (t.val - 1) (lt_last t)).2.2.2.2 (ix2 0 d))
  (fun h0 _ => if_pos h0) (fun h0 _ => if_neg h0)

theorem final_p (h : Real m c) : (dats m 0 c).arrAt 11 cfg0.N = arr m c In.dp := by
  refine (dats m 0 c).arrAt_eq_of_covers 11 (arr m c In.dp) (by decide +kernel) fun t hf y => ?_
  blk_simp
  rw [after0_11]
  idx_vars y
  have e : ((cfg0.win 11).blk t).view.emb (ix2 y0 y1) = (ix2 (at_ t y0) y1 : S4096x1024.Idx) := by blk_ext [idx t] <;> rfl
  exact ((rows_at h t).1 y0 y1).trans (congrArg (arr m c In.dp) e).symm

theorem final_sc (h : Real m c) : ((dats m 0 c).arrAt 12 cfg0.N : S1x1024.Idx → EReal)
    = fun i => ((∑ n, (inp m c).dsc n (i 1) : ℝ) : EReal) := by
  refine (dats m 0 c).arrAt_eq_of_after_last 12 t0_7 (by decide +kernel) _ fun y => ?_
  blk_simp
  rw [after0_12]
  obtain ⟨a, d, rfl⟩ : ∃ (a : Fin 1) (d : Fin 1024), y = ix2 a d := ⟨y 0, y 1, by blk_ext⟩
  obtain rfl : a = 0 := Subsingleton.elim _ _
  exact dsc_last h d

theorem final_wg (h : Real m c) : ((dats m 0 c).arrAt 13 cfg0.N : S4x256x256.Idx → EReal)
    = fun i => ((∑ n, (inp m c).dwg n (i 0) (i 1) (i 2) : ℝ) : EReal) := by
  refine (dats m 0 c).arrAt_eq_of_after_last 13 t0_7 (by decide +kernel) _ fun y => ?_
  blk_simp
  rw [after0_13]
  obtain ⟨k, x, l, rfl⟩ : ∃ (k : Fin 4) (x l : Fin 256), y = ix3 k x l := ⟨y 0, y 1, y 2, by blk_ext⟩
  exact dwg_last h k x l

theorem final_x (h : Real m c) : (dats m 0 c).arrAt 14 cfg0.N = arr m c In.dx := by
  refine (dats m 0 c).arrAt_eq_of_covers 14 (arr m c In.dx) (by decide +kernel) fun t hf y => ?_
  blk_simp
  rw [after0_14]
  idx_vars y
  have e : ((cfg0.win 14).blk t).view.emb (ix2 y0 y1) = (ix2 (at_ t y0) y1 : S4096x1024.Idx) := by blk_ext [idx t] <;> rfl
  exact ((rows_at h t).2.1 y0 y1).trans (congrArg (arr m c In.dx) e).symm

theorem final_gain (h : Real m c) : ((dats m 0 c).arrAt 15 cfg0.N : S1x1024.Idx → EReal)
    = fun i => ((∑ n, (inp m c).dgain n (i 1) : ℝ) : EReal) := by
  refine (dats m 0 c).arrAt_eq_of_after_last 15 t0_7 (by decide +kernel) _ fun y => ?_
  blk_simp
  rw [after0_15]
  obtain ⟨a, d, rfl⟩ : ∃ (a : Fin 1) (d : Fin 1024), y = ix2 a d := ⟨y 0, y 1, by blk_ext⟩
  obtain rfl : a = 0 := Subsingleton.elim _ _
  exact gain_last h d

end Cert.PoolBwdIdeal.Value

end
-- ==== Proof.PoolRef.lean ====
/- The reference of the pooling's gradients on real arguments: its five results as real quantities. -/
module

public import proofs.«01_k».proof.Proof.PoolReal
public import proofs.«01_k».proof.Proof.Gen.PoolRefIdeal.Run
public import Idealize.ShloMosaic.Lib.Claim

@[expose] public section

set_option maxRecDepth 16384

noncomputable section

namespace Cert.PoolRefIdeal.Value

open Cert.PoolRefIdeal Cert.PoolRefIdeal.Gen Cert.Reals Cert.Halo Cert.Pool Idealize.ShloMosaic Idealize.ShloMosaic.TcCoe Idealize.SL.Sem

/-! ## A window's sum -/

theorem foldl_sum {N : ℕ} (g : Fin N → EReal) (v : EReal) : (List.finRange N).foldl (fun r n => r + g n) v = v + ∑ n, g n := by
  rw [← List.sum_ofFn, List.ofFn_eq_map]
  induction List.finRange N generalizing v with
  | nil => simp
  | cons n l ih => rw [List.foldl_cons, ih, List.map_cons, List.sum_cons, add_assoc]

/-- The sum over windows of `S` rows, each starting `lo` rows before its own. -/
theorem window_sum {B S K C lo hi : ℕ} (x : (⟨4, ![B, S, K, C]⟩ : Shape).Idx → EReal)
    (h : (⟨4, ![B, S, K, C]⟩ : Shape).ReduceWindows ![1, S, 1, 1] ![1, 1, 1, 1] ![0, lo, 0, 0] ![0, hi, 0, 0] ⟨4, ![B, S, K, C]⟩) (b : Fin B) (s : Fin S) (k : Fin K) (c : Fin C) :
    Ideal.hostReduceWindowAdd ![1, S, 1, 1] ![1, 1, 1, 1] ![0, lo, 0, 0] ![0, hi, 0, 0] h x 0 (ix4 b s k c)
      = ∑ w : Fin S, if hw : lo ≤ s.val + w.val ∧ s.val + w.val - lo < S then x (ix4 b ⟨s.val + w.val - lo, hw.2⟩ k c) else 0 := by
  have hb := b.isLt
  have hk := k.isLt
  have hc := c.isLt
  unfold Ideal.hostReduceWindowAdd Host.reduceWindow
  dsimp only
  rw [foldl_sum, zero_add]
  let e : Fin S → Fin (⟨4, ![1, S, 1, 1]⟩ : Shape).numel := fun w => (⟨4, ![1, S, 1, 1]⟩ : Shape).rowMajor (ix4 0 w 0 0)
  have he : Function.Bijective e := (Equiv.bijective _).comp ⟨fun u v huv => congrFun huv 1, fun y => ⟨y 1, by
    obtain ⟨y0, y1, y2, y3, rfl⟩ : ∃ (y0 : Fin 1) (y1 : Fin S) (y2 y3 : Fin 1), y = ix4 y0 y1 y2 y3 := ⟨y 0, y 1, y 2, y 3, by blk_ext⟩
    obtain rfl : y0 = 0 := Subsingleton.elim _ _
    obtain rfl : y2 = 0 := Subsingleton.elim _ _
    obtain rfl : y3 = 0 := Subsingleton.elim _ _
    rfl⟩⟩
  refine (he.sum_comp _).symm.trans (Finset.sum_congr rfl fun w _ => ?_)
  have ew : (⟨4, ![1, S, 1, 1]⟩ : Shape).rowMajor.symm (e w) = ix4 0 w 0 0 := Equiv.symm_apply_apply _ _
  by_cases hw : lo ≤ s.val + w.val ∧ s.val + w.val - lo < S
  · have hin : ∀ a : Fin 4, (![0, lo, 0, 0] : Fin 4 → ℕ) a ≤ (ix4 b s k c (a.cast h.1.symm)).val * (![1, 1, 1, 1] : Fin 4 → ℕ) a + (((⟨4, ![1, S, 1, 1]⟩ : Shape).rowMajor.symm (e w)) a).val
        ∧ (ix4 b s k c (a.cast h.1.symm)).val * (![1, 1, 1, 1] : Fin 4 → ℕ) a + (((⟨4, ![1, S, 1, 1]⟩ : Shape).rowMajor.symm (e w)) a).val - (![0, lo, 0, 0] : Fin 4 → ℕ) a < (![B, S, K, C] : Fin 4 → ℕ) a := fun a => by
      rw [ew]
      match a with
      | ⟨0, _⟩ => show 0 ≤ b.val * 1 + 0 ∧ b.val * 1 + 0 - 0 < B; omega
      | ⟨1, _⟩ => show lo ≤ s.val * 1 + w.val ∧ s.val * 1 + w.val - lo < S; omega
      | ⟨2, _⟩ => show 0 ≤ k.val * 1 + 0 ∧ k.val * 1 + 0 - 0 < K; omega
      | ⟨3, _⟩ => show 0 ≤ c.val * 1 + 0 ∧ c.val * 1 + 0 - 0 < C; omega
    rw [dif_pos hw, dif_pos hin]
    refine congrArg x (funext fun a => Fin.ext ?_)
    show (ix4 b s k c (a.cast h.1.symm)).val * (![1, 1, 1, 1] : Fin 4 → ℕ) a + (((⟨4, ![1, S, 1, 1]⟩ : Shape).rowMajor.symm (e w)) a).val - (![0, lo, 0, 0] : Fin 4 → ℕ) a = _
    rw [ew]
    match a with
    | ⟨0, _⟩ => show b.val * 1 + 0 - 0 = b.val; omega
    | ⟨1, _⟩ => show s.val * 1 + w.val - lo = s.val + w.val - lo; omega
    | ⟨2, _⟩ => show k.val * 1 + 0 - 0 = k.val; omega
    | ⟨3, _⟩ => show c.val * 1 + 0 - 0 = c.val; omega
  · rw [dif_neg hw, dif_neg fun hin => hw (by
      have h1 := hin 1
      rw [ew] at h1
      change lo ≤ s.val * 1 + w.val ∧ s.val * 1 + w.val - lo < S at h1
      omega)]

theorem window_real {lo hi : ℕ} (x : FVec Ideal S2x2048x4x256 .f32) (f : Fin 4 → Fin 256 → Fin 4096 → ℝ) (hx : ∀ b s k c, x (ix4 b s k c) = (f k c (row b s) : EReal))
    (init : FVec Ideal S_ .f32) (hinit : init ix0 = 0) (h : S2x2048x4x256.ReduceWindows ![1, 2048, 1, 1] ![1, 1, 1, 1] ![0, lo, 0, 0] ![0, hi, 0, 0] S2x2048x4x256)
    (hu : 0 < S_.numel) (b : Fin 2) (s : Fin 2048) (k : Fin 4) (c : Fin 256) :
    Host.reduceWindowAdd ![1, 2048, 1, 1] ![1, 1, 1, 1] ![0, lo, 0, 0] ![0, hi, 0, 0] x init h hu (ix4 b s k c) = (windowSum lo (f k c) b s : EReal) := by
  have hv : init (Shape.Idx.first hu) = 0 := (congrArg init (funext fun i => i.elim0)).trans hinit
  unfold Host.reduceWindowAdd
  rw [Ideal.hostReduceWindowAdd_def, hv]
  refine (window_sum x h b s k c).trans ?_
  unfold windowSum
  rw [← sum_real]
  refine Finset.sum_congr rfl fun w _ => ?_
  by_cases hw : lo ≤ s.val + w.val ∧ s.val + w.val - lo < 2048
  · rw [dif_pos hw, dif_pos hw, hx]
  · rw [dif_neg hw, dif_neg hw]; rfl

/-! ## The intermediate arrays -/

theorem col_mul (k : Fin 4) (c : Fin 256) (h : k.val * 256 + c.val < 1024) : (⟨k.val * 256 + c.val, h⟩ : Fin 1024) = col k c :=
  Fin.ext (by show k.val * 256 + c.val = 256 * k.val + c.val; omega)

section Intermediate

variable {V : Valuation τ sig (Elt Ideal)} {a : In} (h : Holds a (V (Proc.devRef .tc main_arg0)) (V (Proc.devRef .tc main_arg1)) (V (Proc.devRef .tc main_arg2))
  (V (Proc.devRef .tc main_arg3)) (V (Proc.devRef .tc main_arg4)) (V (Proc.devRef .tc main_arg5)) (V (Proc.devRef .tc main_arg6)))

include h in
theorem p_at (b : Fin 2) (s : Fin 2048) (k : Fin 4) (l : Fin 256) : res_main_v19 V (ix4 b s k l) = (a.p (row b s) (col k l) : EReal) := by
  pointwise [res_main_v19, res_main_v14, res_main_v13, res_main_v8, res_main_v7]
  simp only [h.x, h.g, h.win, bits_1024, bits_eps, mul_real, add_real, sum_real, var_def, rsqrt_var, div_1024, add_zero, col_mul]
  rfl

include h in
theorem sum_at (b : Fin 2) (s : Fin 2048) (k : Fin 4) (l : Fin 256) :
    res_main_v20 V (ix4 b s k l) = (windowSum 2047 (fun n => a.p n (col k l)) b s : EReal) := by
  unfold res_main_v20
  exact window_real _ (fun k l n => a.p n (col k l)) (p_at h) _ (by pointwise) _ _ b s k l

theorem cnt_at {w : ℕ} (s : Fin 2048) (b : Fin 2) {A : FVec Ideal S2048 .f32} (hA : A (ix1 s) = (((s.val + 1 : ℕ) : ℝ) : EReal)) {W : EReal} (hW : W = ((w : ℝ) : EReal)) :
    min (A (ix1 s) : EReal) W = (cnt w (row b s) : EReal) := by
  rw [hW, hA]
  unfold cnt
  rw [show (row b s).val % 2048 = s.val from by show (2048 * b.val + s.val) % 2048 = s.val; omega, Nat.cast_min]
  exact (EReal.coe_strictMono.monotone.map_min).symm

theorem place_at (V : Valuation τ sig (Elt Ideal)) (s : Fin 2048) : res_main_v24 V (ix1 s) = (((s.val + 1 : ℕ) : ℝ) : EReal) := by
  pointwise [res_main_v24]
  rw [show IntOp.addi 1#32 (BitVec.ofNat 32 s.val) = BitVec.ofNat 32 (s.val + 1) from (BitVec.add_comm _ _).trans (BitVec.ofNat_add _ _).symm, real_word (by omega)]

theorem bits_four : Ideal.ofBits .f32 0x40800000#32 = (((4 : ℕ) : ℝ) : EReal) := by
  simp [Ideal.ofBits, Ideal.ieee, -EReal.coe_mul]; norm_num
theorem bits_eight : Ideal.ofBits .f32 0x41000000#32 = (((8 : ℕ) : ℝ) : EReal) := by
  simp [Ideal.ofBits, Ideal.ieee, -EReal.coe_mul]; norm_num
theorem bits_sixteen : Ideal.ofBits .f32 0x41800000#32 = (((16 : ℕ) : ℝ) : EReal) := by
  simp [Ideal.ofBits, Ideal.ieee, -EReal.coe_mul]; norm_num
theorem bits_pair : Ideal.ofBits .f32 0x40000000#32 = (((2 : ℕ) : ℝ) : EReal) := by
  simp [Ideal.ofBits, Ideal.ieee, -EReal.coe_mul]; norm_num

theorem dev_of {P T : FVec Ideal S2x2048x4x256 .f32} {A : FVec Ideal S2048 .f32} (hP : ∀ b s k l, P (ix4 b s k l) = (a.p (row b s) (col k l) : EReal))
    (hT : ∀ b s k l, T (ix4 b s k l) = (windowSum 2047 (fun n => a.p n (col k l)) b s : EReal)) (hA : ∀ s : Fin 2048, A (ix1 s) = (((s.val + 1 : ℕ) : ℝ) : EReal))
    (k : Fin 4) {w : ℕ} (hw : width k = w) (hw0 : 0 < w) {W : EReal} (hW : W = ((w : ℝ) : EReal)) (b : Fin 2) (s : Fin 2048) (l : Fin 256) :
    Ideal.div ((T (ix4 b s k l) : EReal) - if h : s.val < w then 0 else T (ix4 b ⟨s.val - w, by omega⟩ k l)) (min (A (ix1 s) : EReal) W) - P (ix4 b s k l)
      = (a.dev (row b s) k l : EReal) := by
  have e : (if h : s.val < w then (0 : EReal) else T (ix4 b ⟨s.val - w, by omega⟩ k l))
      = ((if h : s.val < w then 0 else windowSum 2047 (fun n => a.p n (col k l)) b ⟨s.val - w, by omega⟩ : ℝ) : EReal) := by
    by_cases hs : s.val < w
    · rw [dif_pos hs, dif_pos hs]; rfl
    · rw [dif_neg hs, dif_neg hs, hT]
  rw [e, hT, cnt_at s b (hA s) hW, hP, sub_real, window_back, div_real _ (cnt_ne_zero hw0 _), sub_real]
  subst hw
  rfl

include h in
theorem dev_at (b : Fin 2) (s : Fin 2048) (k : Fin 4) (l : Fin 256) : res_main_v89 V (ix4 b s k l) = (a.dev (row b s) k l : EReal) := by
  match k with
  | 0 => pointwise [res_main_v89, res_main_v26, res_main_v34]; exact dev_of (p_at h) (sum_at h) (place_at V) 0 (w := 2) rfl (by omega) bits_pair b s l
  | 1 => pointwise [res_main_v89, res_main_v41, res_main_v49]; exact dev_of (p_at h) (sum_at h) (place_at V) 1 (w := 4) rfl (by omega) bits_four b s l
  | 2 => pointwise [res_main_v89, res_main_v56, res_main_v64]; exact dev_of (p_at h) (sum_at h) (place_at V) 2 (w := 8) rfl (by omega) bits_eight b s l
  | 3 => pointwise [res_main_v89, res_main_v71, res_main_v79]; exact dev_of (p_at h) (sum_at h) (place_at V) 3 (w := 16) rfl (by omega) bits_sixteen b s l

include h in
theorem dd_at (b : Fin 2) (s : Fin 2048) (k : Fin 4) (x : Fin 256) : res_main_v105 V (ix4 b s k x) = (a.dd (row b s) k x : EReal) := by
  pointwise [res_main_v105, res_main_v103, res_main_v93]
  simp only [h.dy, h.sc, h.wg, mul_real, sum_real, col_mul]
  rfl

/-- The lanes of a row, as its columns. -/
theorem lanes {e : EltTy} (A : Vec Ideal S2x2048x4x256 e) (b : Fin 2) (s : Fin 2048) (k : Fin 4) (x : Fin 256) :
    shapeCast S2x2048x1024 A shapeCasts_S2x2048x4x256_S2x2048x1024 (ix3 b s (col k x)) = A (ix4 b s k x) := by
  pointwise
  exact congrArg₂ (fun k x => A (ix4 b s k x)) (grp_col k x) (lane_col k x)

theorem dp_sum {A R : FVec Ideal S2x2048x4x256 .f32} (hA : ∀ b s k x, A (ix4 b s k x) = ((- a.dd (row b s) k x : ℝ) : EReal)) (b : Fin 2) (s : Fin 2048) (k : Fin 4) (x : Fin 256)
    (hR : R (ix4 b s k x) = (windowSum 0 (fun n => a.q n (col k x) - ahead (width k) (fun n => a.q n (col k x)) n) b s : EReal)) :
    shapeCast S2x2048x1024 (addf A R) shapeCasts_S2x2048x4x256_S2x2048x1024 (ix3 b s (col k x)) = (a.dp (row b s) (col k x) : EReal) := by
  refine (lanes (e := .f32) (addf A R) b s k x).trans ?_
  show (A (ix4 b s k x) : EReal) + R (ix4 b s k x) = _
  rw [hA, hR, window_ahead, add_real, In.dp_col, neg_add_eq_sub]

theorem dp_of {A X : FVec Ideal S2x2048x4x256 .f32} {init : FVec Ideal S_ .f32} (hw : S2x2048x4x256.ReduceWindows ![1, 2048, 1, 1] ![1, 1, 1, 1] ![0, 0, 0, 0] ![0, 2047, 0, 0] S2x2048x4x256)
    (hu : 0 < S_.numel) (hA : ∀ b s k x, A (ix4 b s k x) = ((- a.dd (row b s) k x : ℝ) : EReal))
    (hX : ∀ b s k x, X (ix4 b s k x) = ((a.q (row b s) (col k x) - ahead (width k) (fun n => a.q n (col k x)) (row b s) : ℝ) : EReal)) (hinit : init ix0 = 0)
    (b : Fin 2) (s : Fin 2048) (k : Fin 4) (x : Fin 256) :
    shapeCast S2x2048x1024 (addf A (Host.reduceWindowAdd ![1, 2048, 1, 1] ![1, 1, 1, 1] ![0, 0, 0, 0] ![0, 2047, 0, 0] X init hw hu))
      shapeCasts_S2x2048x4x256_S2x2048x1024 (ix3 b s (col k x)) = (a.dp (row b s) (col k x) : EReal) :=
  dp_sum hA b s k x (window_real X (fun k x n => a.q n (col k x) - ahead (width k) (fun n => a.q n (col k x)) n) hX init hinit hw hu b s k x)

theorem neg_of {z : EReal} {r : ℝ} (h : z = (r : EReal)) : -z = ((- r : ℝ) : EReal) := by rw [h, neg_real]

theorem q_of {D : FVec Ideal S2x2048x4x256 .f32} {A : FVec Ideal S2048 .f32} (hD : ∀ b s k x, D (ix4 b s k x) = (a.dd (row b s) k x : EReal))
    (hA : ∀ s : Fin 2048, A (ix1 s) = (((s.val + 1 : ℕ) : ℝ) : EReal)) (k : Fin 4) {w : ℕ} (hw : width k = w) (hw0 : 0 < w) {W : EReal} (hW : W = ((w : ℝ) : EReal))
    (b : Fin 2) (s : Fin 2048) (x : Fin 256) : Ideal.div (D (ix4 b s k x)) (min (A (ix1 s) : EReal) W) = (a.q (row b s) (col k x) : EReal) := by
  rw [hD, cnt_at s b (hA s) hW, div_real _ (cnt_ne_zero hw0 _), In.q_col, hw]

theorem diff_of {D : FVec Ideal S2x2048x4x256 .f32} {A : FVec Ideal S2048 .f32} (hD : ∀ b s k x, D (ix4 b s k x) = (a.dd (row b s) k x : EReal))
    (hA : ∀ s : Fin 2048, A (ix1 s) = (((s.val + 1 : ℕ) : ℝ) : EReal)) (k : Fin 4) {w : ℕ} (hw : width k = w) (hw0 : 0 < w) {W : EReal} (hW : W = ((w : ℝ) : EReal))
    {o : ℕ} (ho : w + o = 2048) (b : Fin 2) (s : Fin 2048) (x : Fin 256) :
    (Ideal.div (D (ix4 b s k x)) (min (A (ix1 s) : EReal) W)
        + if h : s.val < o then - Ideal.div (D (ix4 b ⟨w + s.val, by omega⟩ k x)) (min (A (ix1 ⟨w + s.val, by omega⟩) : EReal) W) else 0)
      = ((a.q (row b s) (col k x) - ahead (width k) (fun n => a.q n (col k x)) (row b s) : ℝ) : EReal) := by
  rw [q_of hD hA k hw hw0 hW, ahead_seq, hw]
  unfold seqAt
  by_cases hs : s.val < o
  · rw [dif_pos hs, q_of hD hA k hw hw0 hW, dif_pos (by omega), neg_real, add_real, sub_eq_add_neg]
    simp only [Nat.add_comm]
  · rw [dif_neg hs, dif_neg (by omega), sub_zero, add_zero]

set_option maxHeartbeats 1000000 in
include h in
theorem dp_at (b : Fin 2) (s : Fin 2048) (k : Fin 4) (x : Fin 256) : res_main_v172 V (ix3 b s (col k x)) = (a.dp (row b s) (col k x) : EReal) := by
  unfold res_main_v172
  refine dp_of _ _ ?_ ?_ ?_ b s k x
  rotate_left 2
  · pointwise
  · intro b s k x
    refine Eq.trans ?_ (neg_of (dd_at h b s k x))
    match k with
    | 0 => pointwise [res_main_v109]
    | 1 => pointwise [res_main_v111]
    | 2 => pointwise [res_main_v113]
    | 3 => pointwise [res_main_v115]
  · intro b s k x
    match k with
    | 0 => pointwise [res_main_v161, res_main_v162, res_main_v109, res_main_v34]; exact diff_of (dd_at h) (place_at V) 0 (w := 2) rfl (by omega) bits_pair (o := 2046) rfl b s x
    | 1 => pointwise [res_main_v147, res_main_v148, res_main_v111, res_main_v49]; exact diff_of (dd_at h) (place_at V) 1 (w := 4) rfl (by omega) bits_four (o := 2044) rfl b s x
    | 2 => pointwise [res_main_v133, res_main_v134, res_main_v113, res_main_v64]; exact diff_of (dd_at h) (place_at V) 2 (w := 8) rfl (by omega) bits_eight (o := 2040) rfl b s x
    | 3 => pointwise [res_main_v120, res_main_v121, res_main_v115, res_main_v79]; exact diff_of (dd_at h) (place_at V) 3 (w := 16) rfl (by omega) bits_sixteen (o := 2032) rfl b s x

end Intermediate

end Cert.PoolRefIdeal.Value

end
-- ==== Proof.PoolResults.lean ====
/- The reference of the pooling's gradients on real arguments: its five results as real quantities. -/
module

public import proofs.«01_k».proof.Proof.PoolRef

@[expose] public section

set_option maxRecDepth 16384

noncomputable section

namespace Cert.PoolRefIdeal.Value

open Cert.PoolRefIdeal Cert.PoolRefIdeal.Gen Cert.Reals Cert.Halo Cert.Pool Idealize.ShloMosaic Idealize.ShloMosaic.TcCoe Idealize.SL.Sem

section Results

variable {V : Valuation τ sig (Elt Ideal)} {a : In} (h : Holds a (V (Proc.devRef .tc main_arg0)) (V (Proc.devRef .tc main_arg1)) (V (Proc.devRef .tc main_arg2))
  (V (Proc.devRef .tc main_arg3)) (V (Proc.devRef .tc main_arg4)) (V (Proc.devRef .tc main_arg5)) (V (Proc.devRef .tc main_arg6)))
include h

theorem dp_row (b : Fin 2) (s : Fin 2048) (j : Fin 1024) : res_main_v172 V (ix3 b s j) = (a.dp (row b s) j : EReal) := by
  have e := dp_at h b s (grp j) (lane j)
  rwa [col_split] at e

theorem dh_at (b : Fin 2) (s : Fin 2048) (d : Fin 1024) : res_main_v173 V (ix3 b s d) = (a.dh (row b s) d : EReal) := by
  pointwise [res_main_v173]
  simp only [dp_row h, h.win, mul_real, sum_real]
  rfl

theorem y_at (b : Fin 2) (s : Fin 2048) (j : Fin 1024) : res_main_v92 V (ix3 b s j) = (a.y (row b s) j : EReal) := by
  pointwise [res_main_v92]
  simp only [dev_at h, h.wg, mul_real, sum_real]
  exact congrArg _ (Finset.sum_congr rfl fun c _ => mul_comm _ _)

theorem u_at (b : Fin 2) (s : Fin 2048) (k : Fin 4) (l : Fin 256) : res_main_v103 V (ix4 k l b s) = (a.u (row b s) (col k l) : EReal) := by
  pointwise [res_main_v103, res_main_v93]
  simp only [h.dy, h.sc, mul_real, col_mul]
  rfl

theorem p_real : truncf .bf16 (shapeCast S4096x1024 (res_main_v172 V) shapeCasts_S2x2048x1024_S4096x1024) bitsLt_bf16_f32
    = (fun i : S4096x1024.Idx => ((a.dp (i 0) (i 1) : ℝ) : EReal)) := by
  funext i
  idx_vars i
  obtain ⟨b, s, rfl⟩ := row_exists i0
  exact (flat (res_main_v172 V) b s i1).trans (dp_row h b s i1)

theorem sc_real : broadcastInDim S1x1024 ![1] bcast_S1024_S1x1024_1 (Host.reduceAdd (shapeCast S1x1x1024
      (Host.reduceAdd (mulf (res_main_v92 V) (V (Proc.devRef .tc main_arg5))) (constant S_ .f32 0x00000000#32) reducesTo_S2x2048x1024_S1024_d0_1 h_S_)
      shapeCasts_S1024_S1x1x1024) (constant S_ .f32 0x00000000#32) reducesTo_S1x1x1024_S1024_d0_1 h_S_)
    = (fun i : S1x1024.Idx => ((∑ n, a.dsc n (i 1) : ℝ) : EReal)) := by
  funext i
  idx_vars i
  pointwise
  simp only [y_at h, h.dy, mul_real, sum_real, Fin.sum_univ_one, zero_add]
  rw [← sum_rows]
  simp only [In.dsc, mul_comm]

theorem wg_real : transpose S4x256x256 [0, 2, 1] (Host.dotGeneral (φ₂ := .f32) dot_S4x256x2x2048_S2x2048x4x256_S4x256x256_23_01_1_3_0_2 none (res_main_v103 V) (res_main_v89 V))
      transposes_S4x256x256_S4x256x256_0_2_1
    = (fun i : S4x256x256.Idx => ((∑ n, a.dwg n (i 0) (i 1) (i 2) : ℝ) : EReal)) := by
  funext i
  idx_vars i
  pointwise
  simp only [u_at h, dev_at h, mul_real, sum_real]
  rw [← sum_rows]
  simp only [In.dwg, mul_comm]

theorem gain_real : broadcastInDim S1x1024 ![1] bcast_S1024_S1x1024_1 (Host.reduceAdd (shapeCast S1x1x1024
      (Host.reduceAdd (mulf (res_main_v13 V) (res_main_v173 V)) (constant S_ .f32 0x00000000#32) reducesTo_S2x2048x1024_S1024_d0_1 h_S_)
      shapeCasts_S1024_S1x1x1024) (constant S_ .f32 0x00000000#32) reducesTo_S1x1x1024_S1024_d0_1 h_S_)
    = (fun i : S1x1024.Idx => ((∑ n, a.dgain n (i 1) : ℝ) : EReal)) := by
  funext i
  idx_vars i
  pointwise [res_main_v13, res_main_v8, res_main_v7]
  simp only [dh_at h, h.x, bits_1024, bits_eps, mul_real, add_real, sum_real, var_def, rsqrt_var, div_1024, Fin.sum_univ_one, zero_add, add_zero]
  rw [← sum_rows]
  simp only [In.dgain, In.hat, mul_comm]

theorem rstd_at (b : Fin 2) (s : Fin 2048) (z : Fin 1) : res_main_v8 V (ix3 b s z) = (rstd (a.x (row b s)) : EReal) := by
  pointwise [res_main_v8, res_main_v7]
  simp only [h.x, bits_1024, bits_eps, mul_real, add_real, sum_real, div_1024, var_def, rsqrt_var, zero_add]

theorem dhat_of {D : FVec Ideal S2x2048x1024 .f32} (hD : ∀ b s d, D (ix3 b s d) = (a.dh (row b s) d : EReal)) (b : Fin 2) (s : Fin 2048) (d : Fin 1024) :
    mulf D (broadcastInDim S2x2048x1024 ![0, 1, 2] bcast_S1x1x1024_S2x2048x1024_0_1_2 (res_main_v14 V)) (ix3 b s d) = ((a.dh (row b s) d * a.g d : ℝ) : EReal) := by
  pointwise [res_main_v14]
  rw [hD, h.g, mul_real]

theorem dhat_at (b : Fin 2) (s : Fin 2048) (d : Fin 1024) : res_main_v178 V (ix3 b s d) = ((a.dh (row b s) d * a.g d : ℝ) : EReal) := by
  unfold res_main_v178
  exact dhat_of h (dh_at h) b s d

theorem back_of {D : FVec Ideal S2x2048x1024 .f32} (hD : ∀ b s d, D (ix3 b s d) = ((a.dh (row b s) d * a.g d : ℝ) : EReal)) (b : Fin 2) (s : Fin 2048) (d : Fin 1024) :
    broadcastInDim S2x2048x1024 ![0, 1] bcast_S2x2048_S2x2048x1024_0_1 (Host.reduceAdd (Host.divf (mulf (shapeCast S2x2048x1
        (Host.reduceAdd (mulf (V (Proc.devRef .tc main_arg0)) D) (constant S_ .f32 0x00000000#32) reducesTo_S2x2048x1024_S2x2048_d2 h_S_) shapeCasts_S2x2048_S2x2048x1)
        (mulf (broadcastInDim S2x2048x1 ![] bcast_S_S2x2048x1 (constant S_ .f32 0xBF000000#32)) (Host.divf (res_main_v8 V) (res_main_v7 V))))
        (broadcastInDim S2x2048x1 ![] bcast_S_S2x2048x1 (constant S_ .f32 0x44800000#32))) (constant S_ .f32 0x00000000#32) reducesTo_S2x2048x1_S2x2048_d2 h_S_) (ix3 b s d)
      = (((∑ k, a.x (row b s) k * (a.dh (row b s) k * a.g k)) * (-(1 / 2) * (rstd (a.x (row b s)) / var (a.x (row b s)))) / 1024 : ℝ) : EReal) := by
  pointwise [res_main_v7]
  simp only [hD, rstd_at h, h.x, mul_real, add_real, sum_real, bits_1024, bits_eps, bits_neg_half, div_1024, var_def, div_var, Fin.sum_univ_one, zero_add]

theorem back_at (b : Fin 2) (s : Fin 2048) (d : Fin 1024) :
    res_main_v190 V (ix3 b s d) = (((∑ k, a.x (row b s) k * (a.dh (row b s) k * a.g k))
      * (-(1 / 2) * (rstd (a.x (row b s)) / var (a.x (row b s)))) / 1024 : ℝ) : EReal) := by
  unfold res_main_v190
  exact back_of h (dhat_at h) b s d

theorem x_of {D B : FVec Ideal S2x2048x1024 .f32} (hD : ∀ b s d, D (ix3 b s d) = ((a.dh (row b s) d * a.g d : ℝ) : EReal))
    (hB : ∀ b s d, B (ix3 b s d) = (((∑ k, a.x (row b s) k * (a.dh (row b s) k * a.g k)) * (-(1 / 2) * (rstd (a.x (row b s)) / var (a.x (row b s)))) / 1024 : ℝ) : EReal)) :
    shapeCast S4096x1024 (addf (addf (addf (V (Proc.devRef .tc main_arg6)) (mulf D (broadcastInDim S2x2048x1024 ![0, 1, 2] bcast_S2x2048x1_S2x2048x1024_0_1_2 (res_main_v8 V))))
        (mulf (V (Proc.devRef .tc main_arg0)) B)) (mulf B (V (Proc.devRef .tc main_arg0)))) shapeCasts_S2x2048x1024_S4096x1024
    = (fun i : S4096x1024.Idx => ((a.dx (i 0) (i 1) : ℝ) : EReal)) := by
  funext i
  idx_vars i
  obtain ⟨b, s, rfl⟩ := row_exists i0
  refine (flat _ b s i1).trans ?_
  pointwise
  rw [h.dres, h.x, hD, rstd_at h, hB]
  simp only [mul_real, add_real]
  exact congrArg _ (norm_bwd_add _ (a.x (row b s)) (fun k => a.dh (row b s) k * a.g k) i1)

theorem x_real : shapeCast S4096x1024 (addf (addf (addf (V (Proc.devRef .tc main_arg6))
        (mulf (res_main_v178 V) (broadcastInDim S2x2048x1024 ![0, 1, 2] bcast_S2x2048x1_S2x2048x1024_0_1_2 (res_main_v8 V))))
        (mulf (V (Proc.devRef .tc main_arg0)) (res_main_v190 V))) (mulf (res_main_v190 V) (V (Proc.devRef .tc main_arg0)))) shapeCasts_S2x2048x1024_S4096x1024
    = (fun i : S4096x1024.Idx => ((a.dx (i 0) (i 1) : ℝ) : EReal)) := x_of h (dhat_at h) (back_at h)

end Results

/-- The memory's arguments hold the inputs. -/
abbrev Real (m : (ℓ : Loc nD τ sig) → Buf (Elt Ideal) ℓ) (c : Dev nD) (a : In) : Prop :=
  Holds a (m ((c : Thread nD τ).loc main_arg0)) (m ((c : Thread nD τ).loc main_arg1)) (m ((c : Thread nD τ).loc main_arg2))
    (m ((c : Thread nD τ).loc main_arg3)) (m ((c : Thread nD τ).loc main_arg4)) (m ((c : Thread nD τ).loc main_arg5))
    (m ((c : Thread nD τ).loc main_arg6))

theorem real_run (m : (ℓ : Loc nD τ sig) → Buf (Elt Ideal) ℓ) (ρ : Dev nD → PrngReg) (a : Dev nD → In) (h : ∀ c, Real m c (a c)) :
    θ_run defs (onTc (τ := τ) (main (F := Ideal))) ⟨m, fun _ => 0, ρ⟩ fun r => ∀ c : Dev nD,
      r.2.mem ((c : Thread nD τ).loc main_v196) = (fun i : S4096x1024.Idx => ((a c).dp (i 0) (i 1) : EReal))
      ∧ r.2.mem ((c : Thread nD τ).loc main_v197) = (fun i : S1x1024.Idx => ((∑ n, (a c).dsc n (i 1) : ℝ) : EReal))
      ∧ r.2.mem ((c : Thread nD τ).loc main_v107) = (fun i : S4x256x256.Idx => ((∑ n, (a c).dwg n (i 0) (i 1) (i 2) : ℝ) : EReal))
      ∧ r.2.mem ((c : Thread nD τ).loc main_v198) = (fun i : S4096x1024.Idx => ((a c).dx (i 0) (i 1) : EReal))
      ∧ r.2.mem ((c : Thread nD τ).loc main_v199) = (fun i : S1x1024.Idx => ((∑ n, (a c).dgain n (i 1) : ℝ) : EReal))
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4)
      ∧ r.2.mem ((c : Thread nD τ).loc main_arg5) = m ((c : Thread nD τ).loc main_arg5)
      ∧ r.2.mem ((c : Thread nD τ).loc main_arg6) = m ((c : Thread nD τ).loc main_arg6) :=
  (θ_run defs _ _).mono (fun r hr c => ⟨(hr c).1.trans (p_real (V := StableHlo.launchContents m c) (h c)), (hr c).2.1.trans (sc_real (V := StableHlo.launchContents m c) (h c)),
    (hr c).2.2.1.trans (wg_real (V := StableHlo.launchContents m c) (h c)), (hr c).2.2.2.1.trans (x_real (V := StableHlo.launchContents m c) (h c)),
    (hr c).2.2.2.2.1.trans (gain_real (V := StableHlo.launchContents m c) (h c)), (hr c).2.2.2.2.2⟩) (run m ρ)

end Cert.PoolRefIdeal.Value

end
-- ==== Proof.PoolClaim.lean ====
/- The pooling's backward pair: on finite arguments both programs leave the same five arrays. -/
module

public import proofs.«01_k».proof.Defs
public import proofs.«01_k».proof.Proof.PoolKernel
public import proofs.«01_k».proof.Proof.PoolResults
public import proofs.«01_k».proof.Proof.Gen.PoolBwd.Frame
public import proofs.«01_k».proof.Proof.Gen.PoolBwdIdeal.Frame
public import proofs.«01_k».proof.Proof.Gen.Pre_finite_pool
public import Idealize.ShloMosaic.Lib.Quiescent

@[expose] public section

noncomputable section

namespace Cert.Pool

open Idealize.ShloMosaic Idealize.ShloMosaic.TcCoe Idealize.SL.Sem Cert.Reals

theorem real (m : (ℓ : Loc PoolBwdIdeal.nD PoolBwdIdeal.τ PoolBwdIdeal.sig) → Buf (Elt Ideal) ℓ) (h : Pre_PoolBwdIdeal_finite_pool m)
    (c : Dev PoolBwdIdeal.nD) : PoolBwdIdeal.Value.Real m c := by
  obtain ⟨h05, h6⟩ := both_of_and (h c)
  obtain ⟨h04, h5⟩ := both_of_and h05
  obtain ⟨h03, h4⟩ := both_of_and h04
  obtain ⟨h02, h3⟩ := both_of_and h03
  obtain ⟨h01, h2⟩ := both_of_and h02
  obtain ⟨h0, h1⟩ := both_of_and h01
  exact ⟨rows_real (real_of_finite _ _ _ _ _ _ (congrFun h0 ix0)), entries_real (real_of_finite _ _ _ _ _ _ (congrFun h1 ix0)),
    matrix_real (real_of_finite _ _ _ _ _ _ (congrFun h2 ix0)), fun k c l => real_of_finite _ _ _ _ _ _ (congrFun h3 ix0) (ix3 k c l),
    entries_real (real_of_finite _ _ _ _ _ _ (congrFun h4 ix0)), rows_real (real_of_finite _ _ _ _ _ _ (congrFun h5 ix0)),
    rows_real (real_of_finite _ _ _ _ _ _ (congrFun h6 ix0))⟩

theorem frame_ref : quiescent_PoolRefIdeal := fun m ρ _ =>
  (θ_run PoolRefIdeal.defs _ _).mono (fun r h => ⟨fun c => (h c).2.2.2.2.2, sem_eq_zero_of_no_sems (by decide) r.2⟩)
    (PoolRefIdeal.Value.run m ρ)

theorem algebraic : algebraic_PoolBwdIdeal_PoolRefIdeal_pre_finite_pool := by
  intro m g m' g' hpre hargs
  have hr := real m hpre
  refine ⟨_, _, _, _, _, (θ_run PoolBwdIdeal.defs _ _).mono (fun r h c =>
      ⟨(h c).1.trans (PoolBwdIdeal.Value.final_p (hr c)), (h c).2.1.trans (PoolBwdIdeal.Value.final_sc (hr c)),
      (h c).2.2.1.trans (PoolBwdIdeal.Value.final_wg (hr c)), (h c).2.2.2.1.trans (PoolBwdIdeal.Value.final_x (hr c)),
      (h c).2.2.2.2.1.trans (PoolBwdIdeal.Value.final_gain (hr c)), (h c).2.2.2.2.2⟩)
    (PoolBwdIdeal.Value.run_blocks m g), ?_⟩
  refine PoolRefIdeal.Value.real_run m' g' (PoolBwdIdeal.Value.inp m) fun c => ?_
  obtain ⟨e0, e1, e2, e3, e4, e5, e6⟩ := hargs c
  unfold PoolRefIdeal.Value.Real
  rw [e0, e1, e2, e3, e4, e5, e6]
  exact hr c

end Cert.Pool

end
-- ==== Proof.GmlpReal.lean ====
/- The gated spatial-mixing block and its gradients on real rows: sequences are cut into chunks of 128 rows, and the
   columns into 8 groups of 128; each group has a weight that mixes the rows of a chunk. -/
module

public import proofs.«01_k».proof.Proof.Reals
public import Idealize.ShloMosaic.PureOps.Ideal.Laws

@[expose] public section

noncomputable section

namespace Cert.Gmlp

open Idealize.ShloMosaic Cert.Reals

/-! ## The Gaussian unit -/

/-- One over the root of two. -/
def root : ℝ := (Real.sqrt 2)⁻¹

/-- The factor of the density, with the binary fraction a derivative of `erfc` carries for 2/√π. -/
def density : ℝ := 9465531 / 16777216 * root

/-- The error function. -/
def erfR (z : ℝ) : ℝ := 2 / Real.sqrt Real.pi * ∫ t in (0 : ℝ)..z, Real.exp (-(t ^ 2))

/-- The normal distribution's function, the unit `z · cdf z` and its slope. -/
def cdf (z : ℝ) : ℝ := 1 / 2 * (1 + erfR (z * root))
def gelu (z : ℝ) : ℝ := z * cdf z
def slope (z : ℝ) : ℝ := cdf z + z * Real.exp (-(1 / 2) * z * z) * density

theorem erf_real (z : ℝ) : Ideal.erf (z : EReal) = (erfR z : EReal) := rfl

theorem root_sq : root * root = 1 / 2 := by
  unfold root
  rw [← mul_inv, Real.mul_self_sqrt (by norm_num), one_div]

theorem sqrt_two_ne_zero : Real.sqrt 2 ≠ 0 := Real.sqrt_ne_zero'.mpr (by norm_num)

theorem sqrt_two : Ideal.sqrt ((2 : ℝ) : EReal) = (Real.sqrt 2 : EReal) := by
  rw [Ideal.sqrt_coe, if_neg (by norm_num)]

/-- The complementary error function at the quotient a host program takes. -/
theorem erfc_quot (z : ℝ) : Ideal.erfc (Ideal.div ((-z : ℝ) : EReal) (Real.sqrt 2 : EReal)) = ((1 + erfR (z * root) : ℝ) : EReal) := by
  rw [div_real _ sqrt_two_ne_zero, neg_div, ← neg_real, Ideal.erfc_neg, div_eq_mul_inv]
  exact one_add_real _

theorem bits_erfc_slope : Ideal.ofBits .f32 0xBF906EBB#32 = ((-(9465531 / 8388608) : ℝ) : EReal) := by
  simp [Ideal.ofBits, Ideal.ieee, -EReal.coe_mul, -EReal.coe_neg]; norm_num

/-- The unit's gradient as the chain rule writes it through the complementary error function. -/
theorem gelu_back (z dz : ℝ) :
    -(Ideal.div (Ideal.ofBits .f32 0xBF906EBB#32 * ((1 / 2 * z * dz : ℝ) : EReal) * Ideal.exp (-(Ideal.div ((-z : ℝ) : EReal) (Real.sqrt 2 : EReal)
        * Ideal.div ((-z : ℝ) : EReal) (Real.sqrt 2 : EReal)))) (Real.sqrt 2 : EReal))
      + ((1 / 2 * (dz * (1 + erfR (z * root))) : ℝ) : EReal) = ((dz * slope z : ℝ) : EReal) := by
  have e : -(-z / Real.sqrt 2 * (-z / Real.sqrt 2)) = -(1 / 2) * z * z := by
    rw [div_eq_mul_inv]; show -(-z * root * (-z * root)) = _
    rw [show -(-z * root * (-z * root)) = -(z * z * (root * root)) by ring, root_sq]; ring
  rw [bits_erfc_slope, div_real _ sqrt_two_ne_zero, mul_real, mul_real, neg_real, exp_real, mul_real, div_real _ sqrt_two_ne_zero, neg_real, add_real, e]
  refine congrArg _ ?_
  unfold slope cdf density
  rw [div_eq_mul_inv]; change -(_ * root) + _ = _
  ring

/-! ## Layer norm of one row -/

/-- The row less its mean. -/
def centred (v : Fin 1024 → ℝ) (j : Fin 1024) : ℝ := v j - (∑ k, v k) / 1024

theorem sum_centred (v : Fin 1024 → ℝ) : ∑ j, centred v j = 0 := by
  unfold centred
  rw [Finset.sum_sub_distrib, Finset.sum_const, Finset.card_univ, Fintype.card_fin, nsmul_eq_mul]
  push_cast
  ring

/-- The row's gradient through the layer norm, `u` being the cotangent of the normalised row. -/
def layerBwd (c u : Fin 1024 → ℝ) (j : Fin 1024) : ℝ :=
  rstd c * (u j - (∑ k, u k) / 1024 - c j * rstd c * ((∑ k, u k * (c k * rstd c)) / 1024))

/-- The gradient as the chain rule writes it: through the centred row, through its square, and through the mean of both. -/
theorem layer_bwd (v u : Fin 1024 → ℝ) (j : Fin 1024) :
    u j * rstd (centred v)
        + (∑ k, centred v k * u k) * (-(1 / 2) * (rstd (centred v) / var (centred v))) / 1024 * (2 * centred v j)
        + (∑ k, -(u k * rstd (centred v))
            + ∑ k, -((∑ k, centred v k * u k) * (-(1 / 2) * (rstd (centred v) / var (centred v))) / 1024 * (2 * centred v k))) / 1024
      = layerBwd (centred v) u j := by
  have h1 : ∑ k, u k * (centred v k * rstd (centred v)) = (∑ k, centred v k * u k) * rstd (centred v) := by
    rw [Finset.sum_mul]; exact Finset.sum_congr rfl fun k _ => by ring
  have h2 : ∀ q : ℝ, ∑ k, -(q * (2 * centred v k)) = 0 := fun q => by
    rw [Finset.sum_neg_distrib, ← Finset.mul_sum, ← Finset.mul_sum, sum_centred]; ring
  have h3 : ∑ k, -(u k * rstd (centred v)) = -((∑ k, u k) * rstd (centred v)) := by
    rw [Finset.sum_neg_distrib, Finset.sum_mul]
  have hv : rstd (centred v) / var (centred v) = rstd (centred v) * (rstd (centred v) * rstd (centred v)) := by rw [rstd_sq]; ring
  unfold layerBwd
  rw [h1, h2, h3, hv]; ring

/-! ## The mask of the mixing weights -/

/-- A row's place over 64, rounded down, as a host program computes it on 32-bit words. -/
def run64 (x : BitVec 32) : BitVec 32 :=
  Scalar.select
    (IntOp.andi
      (IntOp.cmpi .ne (if x = 0 then 0 else if x.msb = true then -1 else 1 : BitVec 32)
        (if (64#32 : BitVec 32) = 0 then 0 else if (64#32 : BitVec 32).msb = true then -1 else 1))
      (IntOp.cmpi .ne (IntOp.remsi .host x 64#32) 0#32))
    (IntOp.subi (IntOp.divsi .host x 64#32) 1#32) (IntOp.divsi .host x 64#32)

theorem run64_at : ∀ k : Fin 128, run64 (BitVec.ofNat 32 k.val) = BitVec.ofNat 32 (k.val / 64) := by decide +kernel

theorem mask_at : ∀ p q : Fin 2,
    IntOp.cmpi .sle (BitVec.ofNat 32 p.val) (BitVec.ofNat 32 q.val) = if p.val ≤ q.val then 1#1 else 0#1 := by decide +kernel

/-- Selecting by the mask: the weight where the column's run of 64 is no later than the row's. -/
theorem mask_select (i k : Fin 128) (w z : EReal) :
    Scalar.select (IntOp.cmpi .sle (run64 (BitVec.ofNat 32 k.val)) (run64 (BitVec.ofNat 32 i.val))) w z
      = if k.val / 64 ≤ i.val / 64 then w else z := by
  rw [run64_at, run64_at]
  have e := mask_at ⟨k.val / 64, by omega⟩ ⟨i.val / 64, by omega⟩
  dsimp only at e
  rw [e]
  split <;> rfl

/-! ## The block -/

/-- The block's inputs: the rows, the norm's gain, the input weight, the layer norm's gain, the mixing weights and their
    offsets, the cotangent of the mixer's rows and that of the residual. -/
structure In where
  x : Fin 4096 → Fin 1024 → ℝ
  g : Fin 1024 → ℝ
  win : Fin 1024 → Fin 2048 → ℝ
  gv : Fin 1024 → ℝ
  ws : Fin 8 → Fin 128 → Fin 128 → ℝ
  bs : Fin 8 → Fin 128 → ℝ
  dy : Fin 4096 → Fin 1024 → ℝ
  dres : Fin 4096 → Fin 1024 → ℝ

/-- A column of the projection's two halves. -/
def colU (j : Fin 1024) : Fin 2048 := ⟨j.val, by omega⟩
def colV (j : Fin 1024) : Fin 2048 := ⟨1024 + j.val, by omega⟩

/-- Row `i` of chunk `q`, and column `k` of group `g`. -/
def rowAt (q : Fin 32) (i : Fin 128) : Fin 4096 := ⟨q.val * 128 + i.val, by omega⟩
def colAt (g : Fin 8) (k : Fin 128) : Fin 1024 := ⟨g.val * 128 + k.val, by omega⟩

/-- The chunk of a row and its place there, and the group of a column. -/
def chunk (n : Fin 4096) : Fin 32 := ⟨n.val / 128, by omega⟩
def place (n : Fin 4096) : Fin 128 := ⟨n.val % 128, by omega⟩
def grp (j : Fin 1024) : Fin 8 := ⟨j.val / 128, by omega⟩

theorem chunk_rowAt (q : Fin 32) (i : Fin 128) : chunk (rowAt q i) = q := Fin.ext (by show (q.val * 128 + i.val) / 128 = q.val; omega)
theorem place_rowAt (q : Fin 32) (i : Fin 128) : place (rowAt q i) = i := Fin.ext (by show (q.val * 128 + i.val) % 128 = i.val; omega)
theorem grp_colAt (g : Fin 8) (k : Fin 128) : grp (colAt g k) = g := Fin.ext (by show (g.val * 128 + k.val) / 128 = g.val; omega)

namespace In

variable (a : In) (n : Fin 4096)

/-- The normalised row. -/
def hat (d : Fin 1024) : ℝ := a.x n d * rstd (a.x n)

/-- The projection and its two halves. -/
def p (j : Fin 2048) : ℝ := ∑ d, a.hat n d * a.g d * a.win d j
def zu (j : Fin 1024) : ℝ := a.p n (colU j)
def zv (j : Fin 1024) : ℝ := a.p n (colV j)

/-- The gate, and the row to mix, less its mean and normalised. -/
def u (j : Fin 1024) : ℝ := gelu (a.zu n j)
def vc : Fin 1024 → ℝ := centred fun j => gelu (a.zv n j)
def vhat (j : Fin 1024) : ℝ := a.vc n j * rstd (a.vc n)
def vn (j : Fin 1024) : ℝ := a.vhat n j * a.gv j

/-- The mixing weight: rows of a later run of 64 do not reach a row. -/
def wm (g : Fin 8) (i k : Fin 128) : ℝ := if k.val / 64 ≤ i.val / 64 then a.ws g i k else 0

/-- The mixed rows. -/
def sv (j : Fin 1024) : ℝ := ∑ k, a.wm (grp j) (place n) k * a.vn (rowAt (chunk n) k) j + a.bs (grp j) (place n)

/-- The mixer's rows: gate times mixed rows. -/
def y (j : Fin 1024) : ℝ := a.u n j * a.sv n j

/-- The gradients of the mixed rows, of the rows to mix, of those normalised, and of the projection's second half before its
    unit. -/
def dsv (j : Fin 1024) : ℝ := a.dy n j * a.u n j
def dvn (j : Fin 1024) : ℝ := ∑ i, a.wm (grp j) i (place n) * a.dsv (rowAt (chunk n) i) j
def dv (j : Fin 1024) : ℝ := layerBwd (a.vc n) (fun k => a.dvn n k * a.gv k) j

/-- The gradient of the projection. -/
def dzu (j : Fin 1024) : ℝ := a.dy n j * a.sv n j * slope (a.zu n j)
def dzv (j : Fin 1024) : ℝ := a.dv n j * slope (a.zv n j)
def dp (j : Fin 2048) : ℝ := if h : j.val < 1024 then a.dzu n ⟨j.val, h⟩ else a.dzv n ⟨j.val - 1024, by omega⟩

/-- The gradient of the scaled normalised row. -/
def dh (d : Fin 1024) : ℝ := ∑ j, a.dp n j * a.win d j

/-- The gradient of the block's input row. -/
def dx (d : Fin 1024) : ℝ := a.dres n d + normBwd (a.x n) (fun k => a.dh n k * a.g k) d

/-- The row's part of the gains' gradients. -/
def dgain (d : Fin 1024) : ℝ := a.dh n d * a.hat n d
def dvgain (j : Fin 1024) : ℝ := a.dvn n j * a.vhat n j

/-- The chunk's part of the gradients of the mixing weights and of their offsets. -/
def dmix (q : Fin 32) (g : Fin 8) (i k : Fin 128) : ℝ := ∑ j, a.dsv (rowAt q i) (colAt g j) * a.vn (rowAt q k) (colAt g j)
def doff (q : Fin 32) (g : Fin 8) (i : Fin 128) : ℝ := ∑ j, a.dsv (rowAt q i) (colAt g j)

theorem dp_colU (j : Fin 1024) : a.dp n (colU j) = a.dzu n j := dif_pos j.isLt
theorem dp_colV (j : Fin 1024) : a.dp n (colV j) = a.dzv n j := by
  have h1 : ¬ (colV j).val < 1024 := by show ¬ 1024 + j.val < 1024; omega
  have h2 : (colV j).val - 1024 = j.val := by show 1024 + j.val - 1024 = j.val; omega
  unfold dp
  rw [dif_neg h1]
  exact congrArg _ (Fin.ext h2)

theorem sv_at (q : Fin 32) (i : Fin 128) (g : Fin 8) (j : Fin 128) :
    a.sv (rowAt q i) (colAt g j) = ∑ k, a.wm g i k * a.vn (rowAt q k) (colAt g j) + a.bs g i := by
  unfold sv
  rw [grp_colAt, place_rowAt, chunk_rowAt]
theorem dvn_at (q : Fin 32) (k : Fin 128) (g : Fin 8) (j : Fin 128) :
    a.dvn (rowAt q k) (colAt g j) = ∑ i, a.wm g i k * a.dsv (rowAt q i) (colAt g j) := by
  unfold dvn
  rw [grp_colAt, place_rowAt, chunk_rowAt]

end In

/-- The inputs a program's eight arrays hold. -/
def input (x : FVec Ideal ⟨3, ![2, 2048, 1024]⟩ .f32) (g : FVec Ideal ⟨1, ![1024]⟩ .f32) (win : FVec Ideal ⟨2, ![1024, 2048]⟩ .f32)
    (gv : FVec Ideal ⟨1, ![1024]⟩ .f32) (ws : FVec Ideal ⟨3, ![8, 128, 128]⟩ .f32) (bs : FVec Ideal ⟨2, ![8, 128]⟩ .f32)
    (dy dres : FVec Ideal ⟨3, ![2, 2048, 1024]⟩ .f32) : In :=
  ⟨rows x, entries g, matrix win, entries gv, fun g i k => (ws (ix3 g i k)).toReal, matrix bs, rows dy, rows dres⟩

/-- The eight arrays are real: they hold the inputs. -/
structure Holds (a : In) (x : FVec Ideal ⟨3, ![2, 2048, 1024]⟩ .f32) (g : FVec Ideal ⟨1, ![1024]⟩ .f32)
    (win : FVec Ideal ⟨2, ![1024, 2048]⟩ .f32) (gv : FVec Ideal ⟨1, ![1024]⟩ .f32) (ws : FVec Ideal ⟨3, ![8, 128, 128]⟩ .f32)
    (bs : FVec Ideal ⟨2, ![8, 128]⟩ .f32) (dy dres : FVec Ideal ⟨3, ![2, 2048, 1024]⟩ .f32) : Prop where
  x : ∀ b s d, x (ix3 b s d) = (a.x (row b s) d : EReal)
  g : ∀ d, g (ix1 d) = (a.g d : EReal)
  win : ∀ d j, win (ix2 d j) = (a.win d j : EReal)
  gv : ∀ d, gv (ix1 d) = (a.gv d : EReal)
  ws : ∀ g i k, ws (ix3 g i k) = (a.ws g i k : EReal)
  bs : ∀ g i, bs (ix2 g i) = (a.bs g i : EReal)
  dy : ∀ b s d, dy (ix3 b s d) = (a.dy (row b s) d : EReal)
  dres : ∀ b s d, dres (ix3 b s d) = (a.dres (row b s) d : EReal)

/-! ## Rows and columns of the two layouts -/

/-- Row `i` of a sequence's chunk `q`. -/
abbrev seqRow (q : Fin 16) (i : Fin 128) : Fin 2048 := ⟨q.val * 128 + i.val, by omega⟩
/-- Chunk `q` of sequence `b`. -/
abbrev seqChunk (b : Fin 2) (q : Fin 16) : Fin 32 := ⟨b.val * 16 + q.val, by omega⟩

theorem row_seqRow (b : Fin 2) (q : Fin 16) (i : Fin 128) : row b (seqRow q i) = rowAt (seqChunk b q) i :=
  Fin.ext (by show 2048 * b.val + (q.val * 128 + i.val) = (b.val * 16 + q.val) * 128 + i.val; omega)

theorem seqRow_exists (s : Fin 2048) : ∃ q i, s = seqRow q i :=
  ⟨⟨s.val / 128, by omega⟩, ⟨s.val % 128, by omega⟩, Fin.ext (Nat.div_add_mod' s.val 128).symm⟩
theorem colAt_exists (j : Fin 1024) : ∃ g k, j = colAt g k :=
  ⟨⟨j.val / 128, by omega⟩, ⟨j.val % 128, by omega⟩, Fin.ext (Nat.div_add_mod' j.val 128).symm⟩
theorem col_exists (j : Fin 2048) : (∃ k, j = colU k) ∨ ∃ k, j = colV k := by
  by_cases h : j.val < 1024
  · exact Or.inl ⟨⟨j.val, h⟩, rfl⟩
  · exact Or.inr ⟨⟨j.val - 1024, by omega⟩, Fin.ext (by show j.val = 1024 + (j.val - 1024); omega)⟩

theorem split_read {h : (⟨3, ![2, 2048, 1024]⟩ : Shape).ShapeCasts ⟨5, ![2, 16, 128, 8, 128]⟩} (A : FVec Ideal ⟨3, ![2, 2048, 1024]⟩ .f32) (b : Fin 2) (q : Fin 16) (i : Fin 128) (g : Fin 8) (j : Fin 128) :
    shapeCast ⟨5, ![2, 16, 128, 8, 128]⟩ A h (ix5 b q i g j) = A (ix3 b (seqRow q i) (colAt g j)) := by
  pointwise
  rfl

theorem join_read {h : (⟨5, ![2, 16, 128, 8, 128]⟩ : Shape).ShapeCasts ⟨3, ![2, 2048, 1024]⟩} (A : FVec Ideal ⟨5, ![2, 16, 128, 8, 128]⟩ .f32) (b : Fin 2) (q : Fin 16) (i : Fin 128) (g : Fin 8) (j : Fin 128) :
    shapeCast ⟨3, ![2, 2048, 1024]⟩ A h (ix3 b (seqRow q i) (colAt g j)) = A (ix5 b q i g j) := by
  pointwise
  have hq : (q.val * 128 + i.val) / 128 = q.val := by omega
  have hi : (q.val * 128 + i.val) % 128 = i.val := by omega
  have hg : (colAt g j).val / 128 = g.val := by show (g.val * 128 + j.val) / 128 = g.val; omega
  have hj : (colAt g j).val % 128 = j.val := by show (g.val * 128 + j.val) % 128 = j.val; omega
  simp only [hq, hi, hg, hj]

theorem flat_wide {h : (⟨3, ![2, 2048, 2048]⟩ : Shape).ShapeCasts ⟨2, ![4096, 2048]⟩} {hb : FTy.bits .bf16 < FTy.bits .f32} (A : FVec Ideal ⟨3, ![2, 2048, 2048]⟩ .f32) (b : Fin 2) (s : Fin 2048) (j : Fin 2048) :
    truncf .bf16 (shapeCast ⟨2, ![4096, 2048]⟩ A h) hb (ix2 (row b s) j) = A (ix3 b s j) := by
  pointwise
  have hq : (2048 * b.val + s.val) / 2048 = b.val := by omega
  have hs : (2048 * b.val + s.val) % 2048 = s.val := by omega
  simp only [hq, hs]

end Cert.Gmlp

end
-- ==== Proof.GmlpKernel.lean ====
/- The gated spatial-mixing block's backward kernel on real inputs: the six arrays it leaves. -/
module

public import proofs.«01_k».proof.Proof.GmlpReal
public import proofs.«01_k».proof.Proof.Pieces
public import proofs.«01_k».proof.Proof.Gen.GmlpBwdIdeal.Value
public import Idealize.ShloMosaic.Lib.Pipeline.ValueKit
public import Idealize.ShloMosaic.Lib.Pipeline.ReadBack
public import Idealize.ShloMosaic.Lib.Claim

@[expose] public section

set_option maxRecDepth 16384

noncomputable section

namespace Cert.GmlpBwdIdeal.Value

open Cert.GmlpBwdIdeal Cert.GmlpBwdIdeal.Gen Cert.Reals Cert.Pieces Cert.Gmlp Idealize.ShloMosaic Idealize.ShloMosaic.TcCoe Idealize.SL.Sem

/-- The two named constants. -/
theorem named_root : (Named.named κ "root_half" 0x3F3504F3#32 : Ideal .f32) = (root : EReal) :=
  IdealRules.named_const.ideal_named_scalar _ _ _ _ rfl
theorem named_density : (Named.named κ "density" 0x3ECC422A#32 : Ideal .f32) = (density : EReal) :=
  IdealRules.named_const.ideal_named_scalar _ _ _ _ rfl

theorem erf_op (z : ℝ) : (FloatOps.erf (φ := .f32) (z : EReal) : Ideal .f32) = (erfR z : EReal) := erf_real z

theorem cdf_def (z : ℝ) : 1 / 2 * (1 + erfR (z * root)) = cdf z := rfl
theorem gelu_def (z : ℝ) : z * cdf z = gelu z := rfl
theorem slope_def (z : ℝ) : cdf z + z * Real.exp (-(1 / 2) * z * z) * density = slope z := rfl

section Block

variable {a : In}

/-! ## One chunk of rows and one group of columns -/

section Group

variable {q : Fin 32} {g : Fin 8} {z vn dy : Vec Ideal S128x128 .bf16} {w : Vec Ideal S1x128x128 .bf16} {b : Vec Ideal S1x128x128 .f32}
  (hz : ∀ i j, z (ix2 i j) = (a.zu (rowAt q i) (colAt g j) : EReal)) (hv : ∀ i j, vn (ix2 i j) = (a.vn (rowAt q i) (colAt g j) : EReal))
  (hw : ∀ i k, w (ix3 0 i k) = (a.wm g i k : EReal)) (hb : ∀ i j, b (ix3 0 i j) = (a.bs g i : EReal))
  (hdy : ∀ i j, dy (ix2 i j) = (a.dy (rowAt q i) (colAt g j) : EReal))

include hz hdy in
theorem dsv_block (i j : Fin 128) : k0_pay17 z dy (ix2 i j) = (a.dsv (rowAt q i) (colAt g j) : EReal) := by
  pointwise [k0_pay17, k0_pay16, k0_pay15, k0_pay14]
  simp only [hz, hdy, named_root, bits_half, erf_op, mul_real, one_add_real]
  rfl

include hz hv hw hb hdy in
theorem dzu_block (i j : Fin 128) : k0_pay19 z vn w b dy (ix2 i j) = (a.dzu (rowAt q i) (colAt g j) : EReal) := by
  pointwise [k0_pay19, k0_pay16, k0_pay15, k0_pay14]
  simp only [hz, hv, hw, hb, hdy, named_root, named_density, bits_half, bits_neg_half, erf_op, exp_real, mul_real, one_add_real, sum_real, add_real, cdf_def,
    slope_def, ← In.sv_at]
  rfl

include hz hw hdy in
theorem dvn_block (i j : Fin 128) : k0_pay22 (k0_pay18 z dy) w (ix2 i j) = (a.dvn (rowAt q i) (colAt g j) : EReal) := by
  pointwise [k0_pay22, k0_pay18]
  simp only [dsv_block hz hdy, hw, mul_real, sum_real, ← In.dvn_at]

variable {q' : Fin 32} {z' vn' dy' : Vec Ideal S128x128 .bf16}
  (hz' : ∀ i j, z' (ix2 i j) = (a.zu (rowAt q' i) (colAt g j) : EReal)) (hv' : ∀ i j, vn' (ix2 i j) = (a.vn (rowAt q' i) (colAt g j) : EReal))
  (hdy' : ∀ i j, dy' (ix2 i j) = (a.dy (rowAt q' i) (colAt g j) : EReal))

include hz hv hdy hz' hv' hdy' in
theorem mix_block {acc : Vec Ideal S1x128x128 .f32} {A : Fin 128 → Fin 128 → EReal} (hacc : ∀ i k, acc (ix3 0 i k) = A i k) (i k : Fin 128) :
    k0_pay32 (k0_pay20 k0_pay12 z vn dy) vn' (k0_pay27 z' dy') acc (ix3 0 i k) = A i k + ((a.dmix q g i k + a.dmix q' g i k : ℝ) : EReal) := by
  have e : k0_pay27 z' dy' = k0_pay18 z' dy' := rfl
  rw [e]
  pointwise [k0_pay32, k0_pay20, k0_pay12, k0_pay18]
  simp only [dsv_block hz hdy, dsv_block hz' hdy', hv, hv', hacc, mul_real, sum_real, add_real, zero_add]
  rfl

include hz hdy hz' hdy' in
theorem off_block {acc : Vec Ideal S1x128x1 .f32} {A : Fin 128 → EReal} (hacc : ∀ i, acc (ix3 0 i 0) = A i) (i : Fin 128) :
    k0_pay33 (k0_pay21 (k0_pay13 (Scalar.ofBits .f32 0x00000000#32)) (k0_pay17 z dy)) (k0_pay26 z' dy') acc (ix3 0 i 0) = A i + ((a.doff q g i + a.doff q' g i : ℝ) : EReal) := by
  have e : k0_pay26 z' dy' = k0_pay17 z' dy' := rfl
  rw [e]
  pointwise [k0_pay33, k0_pay21, k0_pay13]
  simp only [dsv_block hz hdy, dsv_block hz' hdy', hacc, sum_real, add_real, zero_add]
  rfl

end Group

/-! ## Whole rows -/

section Rows

variable {n : Fin 256 → Fin 4096} {zv : Vec Ideal S256x1024 .bf16} {gv : Vec Ideal S1x1024 .f32} {dvn : Vec Ideal S256x1024 .f32}
  (hz : ∀ r j, zv (ix2 r j) = (a.zv (n r) j : EReal)) (hgv : ∀ j, gv (ix2 0 j) = (a.gv j : EReal))
  (hdvn : ∀ r j, dvn (ix2 r j) = (a.dvn (n r) j : EReal))

include hz in
theorem cdf_block (r : Fin 256) (j : Fin 1024) : k0_pay7 zv (ix2 r j) = (cdf (a.zv (n r) j) : EReal) := by
  pointwise [k0_pay7, k0_pay6]
  simp only [hz, named_root, bits_half, erf_op, mul_real, one_add_real, cdf_def]

include hz in
theorem vc_block (r : Fin 256) (j : Fin 1024) : k0_pay8 zv (ix2 r j) = (a.vc (n r) j : EReal) := by
  pointwise [k0_pay8, k0_pay6]
  simp only [cdf_block hz, hz, bits_1024, mul_real, sum_real, div_1024, sub_real]
  rfl

include hz in
theorem rstd_block (r : Fin 256) : k0_pay9 zv (ix2 r 0) = (rstd (a.vc (n r)) : EReal) := by
  pointwise [k0_pay9]
  simp only [vc_block hz, bits_1024, bits_eps, mul_real, sum_real, div_1024, add_real, var_def, rsqrt_var]

include hz in
theorem hat_block (r : Fin 256) (j : Fin 1024) : k0_pay10 zv (ix2 r j) = (a.vhat (n r) j : EReal) := by
  pointwise [k0_pay10]
  simp only [vc_block hz, rstd_block hz, mul_real]
  rfl

include hz hgv in
theorem vn_block (r : Fin 256) (j : Fin 1024) : k0_pay11 zv gv (ix2 r j) = (a.vn (n r) j : EReal) := by
  pointwise [k0_pay11]
  simp only [hat_block hz, hgv, mul_real]
  rfl

include hz hgv hdvn in
theorem dzv_block (r : Fin 256) (j : Fin 1024) :
    k0_pay199 (k0_pay6 zv) (k0_pay7 zv) (k0_pay197 (k0_pay9 zv) (k0_pay10 zv) dvn gv) (k0_pay198 (k0_pay6 zv)) (ix2 r j) = (a.dzv (n r) j : EReal) := by
  pointwise [k0_pay199, k0_pay197, k0_pay198, k0_pay6]
  simp only [cdf_block hz, rstd_block hz, hat_block hz, hz, hgv, hdvn, named_density, bits_1024, bits_neg_half, exp_real, mul_real, sum_real, div_1024, sub_real, add_real,
    slope_def]
  rfl

include hz hdvn in
theorem vgain_block {acc : Vec Ideal S1x1024 .f32} {A : Fin 1024 → EReal} (hacc : ∀ j, acc (ix2 0 j) = A j) (j : Fin 1024) :
    k0_pay196 (k0_pay10 zv) dvn acc (ix2 0 j) = A j + ((∑ r, a.dvgain (n r) j : ℝ) : EReal) := by
  pointwise [k0_pay196]
  simp only [hat_block hz, hdvn, hacc, mul_real, sum_real]
  rfl

variable {dp : Vec Ideal S256x2048 .bf16} {wt : Vec Ideal S2048x1024 .bf16} {x dres : FVec Ideal S256x1024 .f32} {g acc : FVec Ideal S1x1024 .f32} {tok : FVec Ideal S1x1 .f32}
  (hdp : ∀ r j, dp (ix2 r j) = (a.dp (n r) j : EReal)) (hwt : ∀ j d, wt (ix2 j d) = (a.win d j : EReal))
  (hx : ∀ r d, x (ix2 r d) = (a.x (n r) d : EReal))
  (hg : ∀ d, g (ix2 0 d) = (a.g d : EReal)) (htok : tok (ix2 0 0) = ((0 : ℝ) : EReal))
  (hres : ∀ r d, dres (ix2 r d) = (a.dres (n r) d : EReal))

include hdp hwt in
theorem dh_block (r : Fin 256) (d : Fin 1024) : k0_pay200 dp wt (ix2 r d) = (a.dh (n r) d : EReal) := by
  pointwise [k0_pay200]
  simp only [hdp, hwt, mul_real, sum_real]
  rfl

include hdp hwt hx in
theorem gain_block {A : Fin 1024 → EReal} (hacc : ∀ d, acc (ix2 0 d) = A d) (d : Fin 1024) :
    k0_pay205 dp wt x acc (ix2 0 d) = A d + ((∑ r, a.dgain (n r) d : ℝ) : EReal) := by
  pointwise [k0_pay205, k0_pay204, k0_pay203, k0_pay202]
  simp only [dh_block hdp hwt, hx, hacc, bits_1024, bits_eps, mul_real, add_real, sum_real, div_1024, var_def, rsqrt_var]
  rfl

include hdp hwt hx hg htok hres in
theorem dx_block (r : Fin 256) (d : Fin 1024) :
    k0_pay1 (k0_pay200 dp wt) (k0_pay201 g tok) (k0_pay203 x) (k0_pay204 x) dres (ix2 r d) = (a.dx (n r) d : EReal) := by
  pointwise [k0_pay1, k0_pay201, k0_pay204, k0_pay203, k0_pay202]
  simp only [dh_block hdp hwt, hx, hg, htok, hres, bits_1024, bits_eps, mul_real, add_real, sub_real, sum_real, div_1024, var_def, rsqrt_var, add_zero]
  rfl

end Rows

end Block

/-! ## The windows -/

variable (m : (ℓ : Loc nD τ sig) → Buf (Elt Ideal) ℓ) (c : Dev nD)

/-- The inputs the memory holds. -/
abbrev inp : In := input (m ((c : Thread nD τ).loc main_arg0)) (m ((c : Thread nD τ).loc main_arg1)) (m ((c : Thread nD τ).loc main_arg2))
  (m ((c : Thread nD τ).loc main_arg3)) (m ((c : Thread nD τ).loc main_arg4)) (m ((c : Thread nD τ).loc main_arg5))
  (m ((c : Thread nD τ).loc main_arg6)) (m ((c : Thread nD τ).loc main_arg7))

/-- The memory's arguments are real. -/
abbrev Real : Prop := Holds (inp m c) (m ((c : Thread nD τ).loc main_arg0)) (m ((c : Thread nD τ).loc main_arg1))
  (m ((c : Thread nD τ).loc main_arg2)) (m ((c : Thread nD τ).loc main_arg3)) (m ((c : Thread nD τ).loc main_arg4))
  (m ((c : Thread nD τ).loc main_arg5)) (m ((c : Thread nD τ).loc main_arg6)) (m ((c : Thread nD τ).loc main_arg7))

theorem idx : ∀ t : Fin cfg0.N, win0_0.index t = ![t.val, 0] ∧ win0_1.index t = ![t.val, 0] ∧ win0_2.index t = ![0, 0]
    ∧ win0_3.index t = ![0, 0, 0] ∧ win0_4.index t = ![0, 0, 0] ∧ win0_5.index t = ![0, 0] ∧ win0_6.index t = ![t.val, 0]
    ∧ win0_7.index t = ![0, 0] ∧ win0_8.index t = ![0, 0] ∧ win0_9.index t = ![t.val, 0] ∧ win0_10.index t = ![t.val, 0]
    ∧ win0_11.index t = ![0, 0] ∧ win0_12.index t = ![0, 0, 0] ∧ win0_13.index t = ![0, 0, 0] ∧ win0_14.index t = ![t.val, 0]
    ∧ win0_15.index t = ![0, 0] :=
  (by decide +kernel : ∀ t : Fin grid0.N, _)

theorem lt_points : ∀ t : Fin cfg0.N, t.val < 16 := (by decide +kernel : ∀ t : Fin grid0.N, _)

/-- Row `r` of block `t`, and the block's two chunks. -/
def at_ (t : Fin cfg0.N) (r : Fin 256) : Fin 4096 := ⟨t.val * 256 + r.val, by have := lt_points t; omega⟩
def half (t : Fin cfg0.N) (ρ : Fin 2) : Fin 32 := ⟨t.val * 2 + ρ.val, by have := lt_points t; omega⟩

variable {m c}

/-- Summing a block's rows, or its chunks, over the blocks sums them all. -/
theorem sum_points (f : Fin 4096 → ℝ) : ∑ t : Fin cfg0.N, ∑ r, f (at_ t r) = ∑ n, f n :=
  Fin.sum_mul_add_congr (L := 4096) (S := 16) (n := 256) (F := fun t r => f (at_ t r)) fun t k hl => rfl
theorem sum_halves (f : Fin 32 → ℝ) : ∑ t : Fin cfg0.N, (f (half t 0) + f (half t 1)) = ∑ q, f q := by
  refine Eq.trans (Finset.sum_congr rfl fun t _ => (Fin.sum_univ_two fun ρ => f (half t ρ)).symm) ?_
  exact Fin.sum_mul_add_congr (L := 32) (S := 16) (n := 2) (F := fun t r => f (half t r)) fun t k hl => rfl

theorem block_p (h : Real m c) (t : Fin cfg0.N) (r : Fin 256) (j : Fin 2048) :
    (iblk m c 0 t : Vec Ideal S256x2048 .bf16) (ix2 r j) = ((inp m c).p (at_ t r) j : EReal) := by
  have e : ((cfg0.win 0).blk t).view.emb (ix2 r j) = (ix2 (at_ t r) j : S4096x2048.Idx) := by blk_ext [idx t] <;> rfl
  blk_simp [iblk]
  rw [e]
  unfold V
  simp only [List.flatten_cons, List.flatten_nil, List.cons_append, List.nil_append, List.append_nil]
  after_results
  pointwise
  simp only [h.x, h.g, h.win, row_split, mul_real, add_real, sum_real, bits_1024, bits_eps, div_1024, var_def, rsqrt_var]
  rfl

theorem block_wm (h : Real m c) (t : Fin cfg0.N) (g : Fin 8) (i k : Fin 128) :
    (iblk m c 3 t : Vec Ideal S8x128x128 .bf16) (ix3 g i k) = ((inp m c).wm g i k : EReal) := by
  have e : ((cfg0.win 3).blk t).view.emb (ix3 g i k) = (ix3 g i k : S8x128x128.Idx) := by blk_ext [idx t] <;> rfl
  blk_simp [iblk]
  rw [e]
  unfold V
  simp only [List.flatten_cons, List.flatten_nil, List.cons_append, List.nil_append, List.append_nil]
  after_results
  simp -implicitDefEqProofs only [StableHlo.TRef.toBuf, StableHlo.TRef.ofBuf, cast_cast, cast_eq, id_eq]
  pointwise
  refine (mask_select i k _ _).trans ?_
  rw [h.ws]
  unfold In.wm
  split <;> rfl

theorem block_dy (h : Real m c) (t : Fin cfg0.N) (r : Fin 256) (j : Fin 1024) :
    (iblk m c 1 t : Vec Ideal S256x1024 .bf16) (ix2 r j) = ((inp m c).dy (at_ t r) j : EReal) := by
  have e : ((cfg0.win 1).blk t).view.emb (ix2 r j) = (ix2 (at_ t r) j : S4096x1024.Idx) := by blk_ext [idx t] <;> rfl
  blk_simp [iblk]
  rw [e]
  unfold V
  simp only [List.flatten_cons, List.flatten_nil, List.cons_append, List.nil_append, List.append_nil]
  after_results
  pointwise
  rw [h.dy, row_split]

theorem block_gv (h : Real m c) (t : Fin cfg0.N) (j : Fin 1024) :
    (iblk m c 2 t : Vec Ideal S1x1024 .f32) (ix2 0 j) = ((inp m c).gv j : EReal) := by
  have e : ((cfg0.win 2).blk t).view.emb (ix2 0 j) = (ix2 0 j : S1x1024.Idx) := by blk_ext [idx t] <;> rfl
  blk_simp [iblk]
  rw [e]
  unfold V
  simp only [List.flatten_cons, List.flatten_nil, List.cons_append, List.nil_append, List.append_nil]
  after_results
  pointwise
  rw [h.gv]

theorem block_bs (h : Real m c) (t : Fin cfg0.N) (g : Fin 8) (i j : Fin 128) :
    (iblk m c 4 t : Vec Ideal S8x128x128 .f32) (ix3 g i j) = ((inp m c).bs g i : EReal) := by
  have e : ((cfg0.win 4).blk t).view.emb (ix3 g i j) = (ix3 g i j : S8x128x128.Idx) := by blk_ext [idx t] <;> rfl
  blk_simp [iblk]
  rw [e]
  unfold V
  simp only [List.flatten_cons, List.flatten_nil, List.cons_append, List.nil_append, List.append_nil]
  after_results
  pointwise
  rw [h.bs]

theorem block_wt (h : Real m c) (t : Fin cfg0.N) (j : Fin 2048) (d : Fin 1024) :
    (iblk m c 5 t : Vec Ideal S2048x1024 .bf16) (ix2 j d) = ((inp m c).win d j : EReal) := by
  have e : ((cfg0.win 5).blk t).view.emb (ix2 j d) = (ix2 j d : S2048x1024.Idx) := by blk_ext [idx t] <;> rfl
  blk_simp [iblk]
  rw [e]
  unfold V
  simp only [List.flatten_cons, List.flatten_nil, List.cons_append, List.nil_append, List.append_nil]
  after_results
  pointwise
  rw [h.win]

theorem block_x (h : Real m c) (t : Fin cfg0.N) (r : Fin 256) (d : Fin 1024) :
    (iblk m c 6 t : Vec Ideal S256x1024 .f32) (ix2 r d) = ((inp m c).x (at_ t r) d : EReal) := by
  have e : ((cfg0.win 6).blk t).view.emb (ix2 r d) = (ix2 (at_ t r) d : S4096x1024.Idx) := by blk_ext [idx t] <;> rfl
  blk_simp [iblk]
  rw [e]
  unfold V
  simp only [List.flatten_cons, List.flatten_nil, List.cons_append, List.nil_append, List.append_nil]
  after_results
  pointwise
  rw [h.x, row_split]

theorem block_g (h : Real m c) (t : Fin cfg0.N) (d : Fin 1024) :
    (iblk m c 7 t : Vec Ideal S1x1024 .f32) (ix2 0 d) = ((inp m c).g d : EReal) := by
  have e : ((cfg0.win 7).blk t).view.emb (ix2 0 d) = (ix2 0 d : S1x1024.Idx) := by blk_ext [idx t] <;> rfl
  blk_simp [iblk]
  rw [e]
  unfold V
  simp only [List.flatten_cons, List.flatten_nil, List.cons_append, List.nil_append, List.append_nil]
  after_results
  pointwise
  rw [h.g]

theorem block_tok (t : Fin cfg0.N) (r : Fin 8) (d : Fin 128) :
    (iblk m c 8 t : Vec Ideal S8x128 .f32) (ix2 r d) = ((0 : ℝ) : EReal) := by
  have e : ((cfg0.win 8).blk t).view.emb (ix2 r d) = (ix2 r d : S8x128.Idx) := by blk_ext [idx t] <;> rfl
  blk_simp [iblk]
  rw [e]
  unfold V
  simp only [List.flatten_cons, List.flatten_nil, List.cons_append, List.nil_append, List.append_nil]
  after_results
  pointwise
  rfl

theorem block_res (h : Real m c) (t : Fin cfg0.N) (r : Fin 256) (d : Fin 1024) :
    (iblk m c 9 t : Vec Ideal S256x1024 .f32) (ix2 r d) = ((inp m c).dres (at_ t r) d : EReal) := by
  have e : ((cfg0.win 9).blk t).view.emb (ix2 r d) = (ix2 (at_ t r) d : S4096x1024.Idx) := by blk_ext [idx t] <;> rfl
  blk_simp [iblk]
  rw [e]
  unfold V
  simp only [List.flatten_cons, List.flatten_nil, List.cons_append, List.nil_append, List.append_nil]
  after_results
  pointwise
  rw [h.dres, row_split]

/-! ## The loads of one chunk and one group -/

theorem at_half (t : Fin cfg0.N) (ρ : Fin 2) (i : Fin 128) (hi : ρ.val * 128 + i.val < 256) : at_ t ⟨ρ.val * 128 + i.val, hi⟩ = rowAt (half t ρ) i :=
  Fin.ext (by show t.val * 256 + (ρ.val * 128 + i.val) = (t.val * 2 + ρ.val) * 128 + i.val; omega)

section Chunk

variable (h : Real m c) (t : Fin cfg0.N) (ρ : Fin 2) (g : Fin 8)

include h in
theorem ld_z {ro co : ℕ} (hr : ro = ρ.val * 128) (hc : co = g.val * 128) {inb} (i j : Fin 128) :
    View.ld (iblk m c 0 t : Vec Ideal S256x2048 .bf16) (Rect.unit ![ro, co] ![128, 128] inb) (ix2 i j) = ((inp m c).zu (rowAt (half t ρ) i) (colAt g j) : EReal) := by
  subst hr hc
  rw [ld_tile _ _ _ _ (by omega) (by omega), block_p h, at_half]
  rfl

include h in
theorem ld_dy {ro co : ℕ} (hr : ro = ρ.val * 128) (hc : co = g.val * 128) {inb} (i j : Fin 128) :
    View.ld (iblk m c 1 t : Vec Ideal S256x1024 .bf16) (Rect.unit ![ro, co] ![128, 128] inb) (ix2 i j) = ((inp m c).dy (rowAt (half t ρ) i) (colAt g j) : EReal) := by
  subst hr hc
  rw [ld_tile _ _ _ _ (by omega) (by omega), block_dy h, at_half]
  rfl

include h in
theorem ld_wm {o : ℕ} (ho : o = g.val) {inb} (i k : Fin 128) :
    View.ld (iblk m c 3 t : Vec Ideal S8x128x128 .bf16) (Rect.unit ![o, 0, 0] ![1, 128, 128] inb) (ix3 0 i k) = ((inp m c).wm g i k : EReal) := by
  rw [ld_slab _ g ho, block_wm h]

include h in
theorem ld_bs {o : ℕ} (ho : o = g.val) {inb} (i j : Fin 128) :
    View.ld (iblk m c 4 t : Vec Ideal S8x128x128 .f32) (Rect.unit ![o, 0, 0] ![1, 128, 128] inb) (ix3 0 i j) = ((inp m c).bs g i : EReal) := by
  rw [ld_slab _ g ho, block_bs h]

include h in
theorem ld_zv {inb} (r : Fin 256) (j : Fin 1024) :
    View.ld (iblk m c 0 t : Vec Ideal S256x2048 .bf16) (Rect.unit ![0, 1024] ![256, 1024] inb) (ix2 r j) = ((inp m c).zv (at_ t r) j : EReal) :=
  (ld_cols _ _ r j (by omega)).trans (block_p h t r (colV j))

include h in
/-- The rows to mix, read back from the scratch that holds them. -/
theorem ld_vn {sg : RefSig} {κ : Kind} {sp : Space} {v : View sg κ sp S256x1024 .bf16} {ro co : ℕ} (hr : ro = ρ.val * 128) (hc : co = g.val * 128) {inb iz iv} (i j : Fin 128) :
    View.readCov (Val := Elt Ideal) v [⟨Rect.unit ![0, 0] ![256, 1024] iv, k0_pay11 (View.ld (iblk m c 0 t : Vec Ideal S256x2048 .bf16) (Rect.unit ![0, 1024] ![256, 1024] iz)) (iblk m c 2 t)⟩]
      (Rect.unit (s := S256x1024) ![ro, co] ![128, 128] inb).toLoadRect (ix2 i j) = ((inp m c).vn (rowAt (half t ρ) i) (colAt g j) : EReal) := by
  subst hr hc
  refine (congrFun (View.readCov_fill v iv _ [] (Rect.unit (s := S256x1024) ![_, _] ![128, 128] inb) fun a => by fin_cases a <;> rfl) (ix2 i j)).trans ?_
  rw [ld_tile _ _ _ _ (by omega) (by omega), vn_block (ld_zv h t) (block_gv h t), at_half]
  rfl

end Chunk

/-! ## The tiles the body stores -/

/-- Rows of 1024 of block `t`, as an array. -/
def tileOf (t : Fin cfg0.N) (H : Fin 4096 → Fin 1024 → ℝ) : S256x1024.Idx → Elt Ideal .f32 := fun i => (H (at_ t (i 0)) (i 1) : EReal)
/-- Rows of the projection's gradient of block `t`. -/
def wideOf (t : Fin cfg0.N) (a : In) : S256x2048.Idx → Elt Ideal .bf16 := fun i => (a.dp (at_ t (i 0)) (i 1) : EReal)
/-- The mixing weights' gradient, and their offsets'. -/
def mixOf (G : Fin 8 → Fin 128 → Fin 128 → EReal) : S8x128x128.Idx → Elt Ideal .f32 := fun i => G (i 0) (i 1) (i 2)
def offOf (G : Fin 8 → Fin 128 → EReal) : S8x128x1.Idx → Elt Ideal .f32 := fun i => G (i 0) (i 1)

theorem store_tile {t : Fin cfg0.N} {H : Fin 4096 → Fin 1024 → ℝ} (ρ : Fin 2) (g : Fin 8) {ro co : ℕ} (hr : ro = ρ.val * 128) (hc : co = g.val * 128) (inb)
    {p : Vec Ideal S128x128 .f32} (h : ∀ i j, p (ix2 i j) = (H (rowAt (half t ρ) i) (colAt g j) : EReal)) (x : S128x128.Idx) :
    p x = tileOf t H ((Rect.unit (s := S256x1024) ![ro, co] ![128, 128] inb).emb x) := by
  subst hr hc
  obtain ⟨x0, x1, rfl⟩ : ∃ (x0 x1 : Fin 128), x = ix2 x0 x1 := ⟨x 0, x 1, by blk_ext⟩
  have e : (Rect.unit (s := S256x1024) ![ρ.val * 128, g.val * 128] ![128, 128] inb).emb (ix2 x0 x1)
      = (ix2 ⟨ρ.val * 128 + x0.val, by omega⟩ (colAt g x1) : S256x1024.Idx) := by blk_ext <;> simp [colAt]
  refine (h x0 x1).trans (Eq.trans ?_ (congrArg (tileOf t H) e).symm)
  rw [← at_half t ρ x0 (by omega)]
  rfl

theorem store_u {t : Fin cfg0.N} {a : In} (ρ : Fin 2) (g : Fin 8) {ro co : ℕ} (hr : ro = ρ.val * 128) (hc : co = g.val * 128) (inb)
    {p : Vec Ideal S128x128 .bf16} (h : ∀ i j, p (ix2 i j) = (a.dzu (rowAt (half t ρ) i) (colAt g j) : EReal)) (x : S128x128.Idx) :
    p x = wideOf t a ((Rect.unit (s := S256x2048) ![ro, co] ![128, 128] inb).emb x) := by
  subst hr hc
  obtain ⟨x0, x1, rfl⟩ : ∃ (x0 x1 : Fin 128), x = ix2 x0 x1 := ⟨x 0, x 1, by blk_ext⟩
  have e : (Rect.unit (s := S256x2048) ![ρ.val * 128, g.val * 128] ![128, 128] inb).emb (ix2 x0 x1)
      = (ix2 ⟨ρ.val * 128 + x0.val, by omega⟩ (colU (colAt g x1)) : S256x2048.Idx) := by blk_ext <;> simp [colAt, colU]
  refine (h x0 x1).trans (Eq.trans ?_ (congrArg (wideOf t a) e).symm)
  rw [← at_half t ρ x0 (by omega), ← a.dp_colU]
  rfl

theorem store_v {t : Fin cfg0.N} {a : In} (inb) {p : Vec Ideal S256x1024 .bf16} (h : ∀ r j, p (ix2 r j) = (a.dzv (at_ t r) j : EReal)) (x : S256x1024.Idx) :
    p x = wideOf t a ((Rect.unit (s := S256x2048) ![0, 1024] ![256, 1024] inb).emb x) := by
  obtain ⟨x0, x1, rfl⟩ : ∃ (x0 : Fin 256) (x1 : Fin 1024), x = ix2 x0 x1 := ⟨x 0, x 1, by blk_ext⟩
  have e : (Rect.unit (s := S256x2048) ![0, 1024] ![256, 1024] inb).emb (ix2 x0 x1) = (ix2 x0 (colV x1) : S256x2048.Idx) := by
    blk_ext <;> simp [colV]
  refine (h x0 x1).trans (Eq.trans ?_ (congrArg (wideOf t a) e).symm)
  rw [← a.dp_colV]
  rfl

theorem store_mix {G : Fin 8 → Fin 128 → Fin 128 → EReal} (g : Fin 8) {o : ℕ} (ho : o = g.val) (inb) {p : Vec Ideal S1x128x128 .f32}
    (h : ∀ i k, p (ix3 0 i k) = G g i k) (x : S1x128x128.Idx) : p x = mixOf G ((Rect.unit (s := S8x128x128) ![o, 0, 0] ![1, 128, 128] inb).emb x) := by
  subst ho
  obtain ⟨x0, x1, x2, rfl⟩ : ∃ (x0 : Fin 1) (x1 x2 : Fin 128), x = ix3 x0 x1 x2 := ⟨x 0, x 1, x 2, by blk_ext⟩
  obtain rfl : x0 = 0 := Subsingleton.elim _ _
  have e : (Rect.unit (s := S8x128x128) ![g.val, 0, 0] ![1, 128, 128] inb).emb (ix3 0 x1 x2) = (ix3 g x1 x2 : S8x128x128.Idx) := by blk_ext <;> simp
  exact (h x1 x2).trans (congrArg (mixOf G) e).symm

theorem store_off {G : Fin 8 → Fin 128 → EReal} (g : Fin 8) {o : ℕ} (ho : o = g.val) (inb) {p : Vec Ideal S1x128x1 .f32}
    (h : ∀ i, p (ix3 0 i 0) = G g i) (x : S1x128x1.Idx) : p x = offOf G ((Rect.unit (s := S8x128x1) ![o, 0, 0] ![1, 128, 1] inb).emb x) := by
  subst ho
  obtain ⟨x0, x1, x2, rfl⟩ : ∃ (x0 : Fin 1) (x1 : Fin 128) (x2 : Fin 1), x = ix3 x0 x1 x2 := ⟨x 0, x 1, x 2, by blk_ext⟩
  obtain rfl : x0 = 0 := Subsingleton.elim _ _
  obtain rfl : x2 = 0 := Subsingleton.elim _ _
  have e : (Rect.unit (s := S8x128x1) ![g.val, 0, 0] ![1, 128, 1] inb).emb (ix3 0 x1 0) = (ix3 g x1 0 : S8x128x1.Idx) := by blk_ext <;> simp
  exact (h x1).trans (congrArg (offOf G) e).symm

/-- A load of the whole scratch its sixteen tiles fill. -/
theorem tiles_read {t : Fin cfg0.N} {H : Fin 4096 → Fin 1024 → ℝ} {p00 p10 p01 p11 p02 p12 p03 p13 p04 p14 p05 p15 p06 p16 p07 p17 : Vec Ideal S128x128 .f32}
    (k00 : ∀ i j, p00 (ix2 i j) = (H (rowAt (half t 0) i) (colAt 0 j) : EReal))
    (k10 : ∀ i j, p10 (ix2 i j) = (H (rowAt (half t 1) i) (colAt 0 j) : EReal))
    (k01 : ∀ i j, p01 (ix2 i j) = (H (rowAt (half t 0) i) (colAt 1 j) : EReal))
    (k11 : ∀ i j, p11 (ix2 i j) = (H (rowAt (half t 1) i) (colAt 1 j) : EReal))
    (k02 : ∀ i j, p02 (ix2 i j) = (H (rowAt (half t 0) i) (colAt 2 j) : EReal))
    (k12 : ∀ i j, p12 (ix2 i j) = (H (rowAt (half t 1) i) (colAt 2 j) : EReal))
    (k03 : ∀ i j, p03 (ix2 i j) = (H (rowAt (half t 0) i) (colAt 3 j) : EReal))
    (k13 : ∀ i j, p13 (ix2 i j) = (H (rowAt (half t 1) i) (colAt 3 j) : EReal))
    (k04 : ∀ i j, p04 (ix2 i j) = (H (rowAt (half t 0) i) (colAt 4 j) : EReal))
    (k14 : ∀ i j, p14 (ix2 i j) = (H (rowAt (half t 1) i) (colAt 4 j) : EReal))
    (k05 : ∀ i j, p05 (ix2 i j) = (H (rowAt (half t 0) i) (colAt 5 j) : EReal))
    (k15 : ∀ i j, p15 (ix2 i j) = (H (rowAt (half t 1) i) (colAt 5 j) : EReal))
    (k06 : ∀ i j, p06 (ix2 i j) = (H (rowAt (half t 0) i) (colAt 6 j) : EReal))
    (k16 : ∀ i j, p16 (ix2 i j) = (H (rowAt (half t 1) i) (colAt 6 j) : EReal))
    (k07 : ∀ i j, p07 (ix2 i j) = (H (rowAt (half t 0) i) (colAt 7 j) : EReal))
    (k17 : ∀ i j, p17 (ix2 i j) = (H (rowAt (half t 1) i) (colAt 7 j) : EReal))
    {sg : RefSig} {κ : Kind} {sp : Space} {v : View sg κ sp S256x1024 .f32} {inb} (r : Fin 256) (j : Fin 1024) :
    v.readCov [⟨Rect.unit ![128, 896] ![128, 128] inb_S256x1024_S128x128_128_896, p17⟩,
    ⟨Rect.unit ![0, 896] ![128, 128] inb_S256x1024_S128x128_0_896, p07⟩,
    ⟨Rect.unit ![128, 768] ![128, 128] inb_S256x1024_S128x128_128_768, p16⟩,
    ⟨Rect.unit ![0, 768] ![128, 128] inb_S256x1024_S128x128_0_768, p06⟩,
    ⟨Rect.unit ![128, 640] ![128, 128] inb_S256x1024_S128x128_128_640, p15⟩,
    ⟨Rect.unit ![0, 640] ![128, 128] inb_S256x1024_S128x128_0_640, p05⟩,
    ⟨Rect.unit ![128, 512] ![128, 128] inb_S256x1024_S128x128_128_512, p14⟩,
    ⟨Rect.unit ![0, 512] ![128, 128] inb_S256x1024_S128x128_0_512, p04⟩,
    ⟨Rect.unit ![128, 384] ![128, 128] inb_S256x1024_S128x128_128_384, p13⟩,
    ⟨Rect.unit ![0, 384] ![128, 128] inb_S256x1024_S128x128_0_384, p03⟩,
    ⟨Rect.unit ![128, 256] ![128, 128] inb_S256x1024_S128x128_128_256, p12⟩,
    ⟨Rect.unit ![0, 256] ![128, 128] inb_S256x1024_S128x128_0_256, p02⟩,
    ⟨Rect.unit ![128, 128] ![128, 128] inb_S256x1024_S128x128_128_128, p11⟩,
    ⟨Rect.unit ![0, 128] ![128, 128] inb_S256x1024_S128x128_0_128, p01⟩,
    ⟨Rect.unit ![128, 0] ![128, 128] inb_S256x1024_S128x128_128_0, p10⟩,
    ⟨Rect.unit ![0, 0] ![128, 128] inb_S256x1024_S128x128_0_0, p00⟩]
      (Rect.unit (s := S256x1024) ![0, 0] ![256, 1024] inb).toLoadRect (ix2 r j) = (H (at_ t r) j : EReal) := by
  refine read_whole (e := .f32) (G := fun r j => (H (at_ t r) j : EReal)) (fun r j => ?_) r j
  refine canon_pieces (tileOf t H) ?_ (ix2 r j) (View.cover_of_tiledBy _ ![128, 128] (by sl_kernel_rfl) (ix2 r j))
  exact ⟨store_tile 1 7 rfl rfl inb_S256x1024_S128x128_128_896 k17, store_tile 0 7 rfl rfl inb_S256x1024_S128x128_0_896 k07, store_tile 1 6 rfl rfl inb_S256x1024_S128x128_128_768 k16, store_tile 0 6 rfl rfl inb_S256x1024_S128x128_0_768 k06, store_tile 1 5 rfl rfl inb_S256x1024_S128x128_128_640 k15, store_tile 0 5 rfl rfl inb_S256x1024_S128x128_0_640 k05, store_tile 1 4 rfl rfl inb_S256x1024_S128x128_128_512 k14, store_tile 0 4 rfl rfl inb_S256x1024_S128x128_0_512 k04, store_tile 1 3 rfl rfl inb_S256x1024_S128x128_128_384 k13, store_tile 0 3 rfl rfl inb_S256x1024_S128x128_0_384 k03, store_tile 1 2 rfl rfl inb_S256x1024_S128x128_128_256 k12, store_tile 0 2 rfl rfl inb_S256x1024_S128x128_0_256 k02, store_tile 1 1 rfl rfl inb_S256x1024_S128x128_128_128 k11, store_tile 0 1 rfl rfl inb_S256x1024_S128x128_0_128 k01, store_tile 1 0 rfl rfl inb_S256x1024_S128x128_128_0 k10, store_tile 0 0 rfl rfl inb_S256x1024_S128x128_0_0 k00, trivial⟩

/-- The stores that fill a block of the projection's gradient. -/
theorem dp_tiles {t : Fin cfg0.N} {a : In} {p00 p10 p01 p11 p02 p12 p03 p13 p04 p14 p05 p15 p06 p16 p07 p17 : Vec Ideal S128x128 .bf16} {pv : Vec Ideal S256x1024 .bf16}
    (k00 : ∀ i j, p00 (ix2 i j) = (a.dzu (rowAt (half t 0) i) (colAt 0 j) : EReal))
    (k10 : ∀ i j, p10 (ix2 i j) = (a.dzu (rowAt (half t 1) i) (colAt 0 j) : EReal))
    (k01 : ∀ i j, p01 (ix2 i j) = (a.dzu (rowAt (half t 0) i) (colAt 1 j) : EReal))
    (k11 : ∀ i j, p11 (ix2 i j) = (a.dzu (rowAt (half t 1) i) (colAt 1 j) : EReal))
    (k02 : ∀ i j, p02 (ix2 i j) = (a.dzu (rowAt (half t 0) i) (colAt 2 j) : EReal))
    (k12 : ∀ i j, p12 (ix2 i j) = (a.dzu (rowAt (half t 1) i) (colAt 2 j) : EReal))
    (k03 : ∀ i j, p03 (ix2 i j) = (a.dzu (rowAt (half t 0) i) (colAt 3 j) : EReal))
    (k13 : ∀ i j, p13 (ix2 i j) = (a.dzu (rowAt (half t 1) i) (colAt 3 j) : EReal))
    (k04 : ∀ i j, p04 (ix2 i j) = (a.dzu (rowAt (half t 0) i) (colAt 4 j) : EReal))
    (k14 : ∀ i j, p14 (ix2 i j) = (a.dzu (rowAt (half t 1) i) (colAt 4 j) : EReal))
    (k05 : ∀ i j, p05 (ix2 i j) = (a.dzu (rowAt (half t 0) i) (colAt 5 j) : EReal))
    (k15 : ∀ i j, p15 (ix2 i j) = (a.dzu (rowAt (half t 1) i) (colAt 5 j) : EReal))
    (k06 : ∀ i j, p06 (ix2 i j) = (a.dzu (rowAt (half t 0) i) (colAt 6 j) : EReal))
    (k16 : ∀ i j, p16 (ix2 i j) = (a.dzu (rowAt (half t 1) i) (colAt 6 j) : EReal))
    (k07 : ∀ i j, p07 (ix2 i j) = (a.dzu (rowAt (half t 0) i) (colAt 7 j) : EReal))
    (k17 : ∀ i j, p17 (ix2 i j) = (a.dzu (rowAt (half t 1) i) (colAt 7 j) : EReal))
    (kv : ∀ r j, pv (ix2 r j) = (a.dzv (at_ t r) j : EReal)) (r : Fin 256) (j : Fin 2048) :
    View.canon [(⟨Rect.unit ![0, 1024] ![256, 1024] inb_S256x2048_S256x1024_0_1024, pv⟩ : View.Piece (Elt Ideal) S256x2048 .bf16),
      ⟨Rect.unit ![128, 896] ![128, 128] inb_S256x2048_S128x128_128_896, p17⟩,
      ⟨Rect.unit ![0, 896] ![128, 128] inb_S256x2048_S128x128_0_896, p07⟩,
      ⟨Rect.unit ![128, 768] ![128, 128] inb_S256x2048_S128x128_128_768, p16⟩,
      ⟨Rect.unit ![0, 768] ![128, 128] inb_S256x2048_S128x128_0_768, p06⟩,
      ⟨Rect.unit ![128, 640] ![128, 128] inb_S256x2048_S128x128_128_640, p15⟩,
      ⟨Rect.unit ![0, 640] ![128, 128] inb_S256x2048_S128x128_0_640, p05⟩,
      ⟨Rect.unit ![128, 512] ![128, 128] inb_S256x2048_S128x128_128_512, p14⟩,
      ⟨Rect.unit ![0, 512] ![128, 128] inb_S256x2048_S128x128_0_512, p04⟩,
      ⟨Rect.unit ![128, 384] ![128, 128] inb_S256x2048_S128x128_128_384, p13⟩,
      ⟨Rect.unit ![0, 384] ![128, 128] inb_S256x2048_S128x128_0_384, p03⟩,
      ⟨Rect.unit ![128, 256] ![128, 128] inb_S256x2048_S128x128_128_256, p12⟩,
      ⟨Rect.unit ![0, 256] ![128, 128] inb_S256x2048_S128x128_0_256, p02⟩,
      ⟨Rect.unit ![128, 128] ![128, 128] inb_S256x2048_S128x128_128_128, p11⟩,
      ⟨Rect.unit ![0, 128] ![128, 128] inb_S256x2048_S128x128_0_128, p01⟩,
      ⟨Rect.unit ![128, 0] ![128, 128] inb_S256x2048_S128x128_128_0, p10⟩,
      ⟨Rect.unit ![0, 0] ![128, 128] inb_S256x2048_S128x128_0_0, p00⟩]
      (ix2 r j) = (a.dp (at_ t r) j : EReal) := by
  refine canon_pieces (wideOf t a) ?_ (ix2 r j) (View.cover_of_tiledBy _ ![128, 128] (by sl_kernel_rfl) (ix2 r j))
  exact ⟨store_v inb_S256x2048_S256x1024_0_1024 kv, store_u 1 7 rfl rfl inb_S256x2048_S128x128_128_896 k17, store_u 0 7 rfl rfl inb_S256x2048_S128x128_0_896 k07, store_u 1 6 rfl rfl inb_S256x2048_S128x128_128_768 k16, store_u 0 6 rfl rfl inb_S256x2048_S128x128_0_768 k06, store_u 1 5 rfl rfl inb_S256x2048_S128x128_128_640 k15, store_u 0 5 rfl rfl inb_S256x2048_S128x128_0_640 k05, store_u 1 4 rfl rfl inb_S256x2048_S128x128_128_512 k14, store_u 0 4 rfl rfl inb_S256x2048_S128x128_0_512 k04, store_u 1 3 rfl rfl inb_S256x2048_S128x128_128_384 k13, store_u 0 3 rfl rfl inb_S256x2048_S128x128_0_384 k03, store_u 1 2 rfl rfl inb_S256x2048_S128x128_128_256 k12, store_u 0 2 rfl rfl inb_S256x2048_S128x128_0_256 k02, store_u 1 1 rfl rfl inb_S256x2048_S128x128_128_128 k11, store_u 0 1 rfl rfl inb_S256x2048_S128x128_0_128 k01, store_u 1 0 rfl rfl inb_S256x2048_S128x128_128_0 k10, store_u 0 0 rfl rfl inb_S256x2048_S128x128_0_0 k00, trivial⟩

theorem mix_tiles {G : Fin 8 → Fin 128 → Fin 128 → EReal} {p0 p1 p2 p3 p4 p5 p6 p7 : Vec Ideal S1x128x128 .f32} (L : List (View.Piece (Elt Ideal) S8x128x128 .f32))
    (k0 : ∀ i k, p0 (ix3 0 i k) = G 0 i k)
    (k1 : ∀ i k, p1 (ix3 0 i k) = G 1 i k)
    (k2 : ∀ i k, p2 (ix3 0 i k) = G 2 i k)
    (k3 : ∀ i k, p3 (ix3 0 i k) = G 3 i k)
    (k4 : ∀ i k, p4 (ix3 0 i k) = G 4 i k)
    (k5 : ∀ i k, p5 (ix3 0 i k) = G 5 i k)
    (k6 : ∀ i k, p6 (ix3 0 i k) = G 6 i k)
    (k7 : ∀ i k, p7 (ix3 0 i k) = G 7 i k)
    (g : Fin 8) (i k : Fin 128) :
    View.canon ((⟨Rect.unit ![7, 0, 0] ![1, 128, 128] inb_S8x128x128_S1x128x128_7_0_0, p7⟩ : View.Piece (Elt Ideal) S8x128x128 .f32) ::
      ⟨Rect.unit ![6, 0, 0] ![1, 128, 128] inb_S8x128x128_S1x128x128_6_0_0, p6⟩ ::
      ⟨Rect.unit ![5, 0, 0] ![1, 128, 128] inb_S8x128x128_S1x128x128_5_0_0, p5⟩ ::
      ⟨Rect.unit ![4, 0, 0] ![1, 128, 128] inb_S8x128x128_S1x128x128_4_0_0, p4⟩ ::
      ⟨Rect.unit ![3, 0, 0] ![1, 128, 128] inb_S8x128x128_S1x128x128_3_0_0, p3⟩ ::
      ⟨Rect.unit ![2, 0, 0] ![1, 128, 128] inb_S8x128x128_S1x128x128_2_0_0, p2⟩ ::
      ⟨Rect.unit ![1, 0, 0] ![1, 128, 128] inb_S8x128x128_S1x128x128_1_0_0, p1⟩ ::
      ⟨Rect.unit ![0, 0, 0] ![1, 128, 128] inb_S8x128x128_S1x128x128_0_0_0, p0⟩ :: L) (ix3 g i k) = G g i k :=
  View.canon_append_of_piecesOf (mixOf G) L
    [(⟨Rect.unit ![7, 0, 0] ![1, 128, 128] inb_S8x128x128_S1x128x128_7_0_0, p7⟩ : View.Piece (Elt Ideal) S8x128x128 .f32),
      ⟨Rect.unit ![6, 0, 0] ![1, 128, 128] inb_S8x128x128_S1x128x128_6_0_0, p6⟩,
      ⟨Rect.unit ![5, 0, 0] ![1, 128, 128] inb_S8x128x128_S1x128x128_5_0_0, p5⟩,
      ⟨Rect.unit ![4, 0, 0] ![1, 128, 128] inb_S8x128x128_S1x128x128_4_0_0, p4⟩,
      ⟨Rect.unit ![3, 0, 0] ![1, 128, 128] inb_S8x128x128_S1x128x128_3_0_0, p3⟩,
      ⟨Rect.unit ![2, 0, 0] ![1, 128, 128] inb_S8x128x128_S1x128x128_2_0_0, p2⟩,
      ⟨Rect.unit ![1, 0, 0] ![1, 128, 128] inb_S8x128x128_S1x128x128_1_0_0, p1⟩,
      ⟨Rect.unit ![0, 0, 0] ![1, 128, 128] inb_S8x128x128_S1x128x128_0_0_0, p0⟩]
    ⟨store_mix 7 rfl inb_S8x128x128_S1x128x128_7_0_0 k7, store_mix 6 rfl inb_S8x128x128_S1x128x128_6_0_0 k6, store_mix 5 rfl inb_S8x128x128_S1x128x128_5_0_0 k5, store_mix 4 rfl inb_S8x128x128_S1x128x128_4_0_0 k4, store_mix 3 rfl inb_S8x128x128_S1x128x128_3_0_0 k3, store_mix 2 rfl inb_S8x128x128_S1x128x128_2_0_0 k2, store_mix 1 rfl inb_S8x128x128_S1x128x128_1_0_0 k1, store_mix 0 rfl inb_S8x128x128_S1x128x128_0_0_0 k0, trivial⟩ (ix3 g i k)
    (View.cover_of_tiledBy _ ![1, 128, 128] (by sl_kernel_rfl) (ix3 g i k))

theorem off_tiles {G : Fin 8 → Fin 128 → EReal} {p0 p1 p2 p3 p4 p5 p6 p7 : Vec Ideal S1x128x1 .f32} (L : List (View.Piece (Elt Ideal) S8x128x1 .f32))
    (k0 : ∀ i, p0 (ix3 0 i 0) = G 0 i)
    (k1 : ∀ i, p1 (ix3 0 i 0) = G 1 i)
    (k2 : ∀ i, p2 (ix3 0 i 0) = G 2 i)
    (k3 : ∀ i, p3 (ix3 0 i 0) = G 3 i)
    (k4 : ∀ i, p4 (ix3 0 i 0) = G 4 i)
    (k5 : ∀ i, p5 (ix3 0 i 0) = G 5 i)
    (k6 : ∀ i, p6 (ix3 0 i 0) = G 6 i)
    (k7 : ∀ i, p7 (ix3 0 i 0) = G 7 i)
    (g : Fin 8) (i : Fin 128) :
    View.canon ((⟨Rect.unit ![7, 0, 0] ![1, 128, 1] inb_S8x128x1_S1x128x1_7_0_0, p7⟩ : View.Piece (Elt Ideal) S8x128x1 .f32) ::
      ⟨Rect.unit ![6, 0, 0] ![1, 128, 1] inb_S8x128x1_S1x128x1_6_0_0, p6⟩ ::
      ⟨Rect.unit ![5, 0, 0] ![1, 128, 1] inb_S8x128x1_S1x128x1_5_0_0, p5⟩ ::
      ⟨Rect.unit ![4, 0, 0] ![1, 128, 1] inb_S8x128x1_S1x128x1_4_0_0, p4⟩ ::
      ⟨Rect.unit ![3, 0, 0] ![1, 128, 1] inb_S8x128x1_S1x128x1_3_0_0, p3⟩ ::
      ⟨Rect.unit ![2, 0, 0] ![1, 128, 1] inb_S8x128x1_S1x128x1_2_0_0, p2⟩ ::
      ⟨Rect.unit ![1, 0, 0] ![1, 128, 1] inb_S8x128x1_S1x128x1_1_0_0, p1⟩ ::
      ⟨Rect.unit ![0, 0, 0] ![1, 128, 1] inb_S8x128x1_S1x128x1_0_0_0, p0⟩ :: L) (ix3 g i 0) = G g i :=
  View.canon_append_of_piecesOf (offOf G) L
    [(⟨Rect.unit ![7, 0, 0] ![1, 128, 1] inb_S8x128x1_S1x128x1_7_0_0, p7⟩ : View.Piece (Elt Ideal) S8x128x1 .f32),
      ⟨Rect.unit ![6, 0, 0] ![1, 128, 1] inb_S8x128x1_S1x128x1_6_0_0, p6⟩,
      ⟨Rect.unit ![5, 0, 0] ![1, 128, 1] inb_S8x128x1_S1x128x1_5_0_0, p5⟩,
      ⟨Rect.unit ![4, 0, 0] ![1, 128, 1] inb_S8x128x1_S1x128x1_4_0_0, p4⟩,
      ⟨Rect.unit ![3, 0, 0] ![1, 128, 1] inb_S8x128x1_S1x128x1_3_0_0, p3⟩,
      ⟨Rect.unit ![2, 0, 0] ![1, 128, 1] inb_S8x128x1_S1x128x1_2_0_0, p2⟩,
      ⟨Rect.unit ![1, 0, 0] ![1, 128, 1] inb_S8x128x1_S1x128x1_1_0_0, p1⟩,
      ⟨Rect.unit ![0, 0, 0] ![1, 128, 1] inb_S8x128x1_S1x128x1_0_0_0, p0⟩]
    ⟨store_off 7 rfl inb_S8x128x1_S1x128x1_7_0_0 k7, store_off 6 rfl inb_S8x128x1_S1x128x1_6_0_0 k6, store_off 5 rfl inb_S8x128x1_S1x128x1_5_0_0 k5, store_off 4 rfl inb_S8x128x1_S1x128x1_4_0_0 k4, store_off 3 rfl inb_S8x128x1_S1x128x1_3_0_0 k3, store_off 2 rfl inb_S8x128x1_S1x128x1_2_0_0 k2, store_off 1 rfl inb_S8x128x1_S1x128x1_1_0_0 k1, store_off 0 rfl inb_S8x128x1_S1x128x1_0_0_0 k0, trivial⟩ (ix3 g i 0)
    (View.cover_of_tiledBy _ ![1, 128, 1] (by sl_kernel_rfl) (ix3 g i 0))

/-! ## What a point leaves -/

section Groups

variable (h : Real m c) (t : Fin cfg0.N) (ρ : Fin 2) (g : Fin 8)

include h in
theorem dvn_at {ro co o : ℕ} (hr : ro = ρ.val * 128) (hc : co = g.val * 128) (ho : o = g.val) {iz iy iw} (i j : Fin 128) :
    k0_pay22 (k0_pay18 (View.ld (iblk m c 0 t : Vec Ideal S256x2048 .bf16) (Rect.unit ![ro, co] ![128, 128] iz))
        (View.ld (iblk m c 1 t : Vec Ideal S256x1024 .bf16) (Rect.unit ![ro, co] ![128, 128] iy)))
      (View.ld (iblk m c 3 t : Vec Ideal S8x128x128 .bf16) (Rect.unit ![o, 0, 0] ![1, 128, 128] iw)) (ix2 i j) = ((inp m c).dvn (rowAt (half t ρ) i) (colAt g j) : EReal) :=
  dvn_block (ld_z h t ρ g hr hc) (ld_wm h t g ho) (ld_dy h t ρ g hr hc) i j

/-- A chunk's gradient of the gate's first half. -/
def dzu_at {sg : RefSig} {κ : Kind} {sp : Space} {v : View sg κ sp S256x1024 .bf16} {ro co o : ℕ} (hr : ro = ρ.val * 128) (hc : co = g.val * 128) (ho : o = g.val) {iz iv is il iw ib iy} :=
  dzu_block (ld_z h t ρ g hr hc (inb := iz)) (ld_vn h t ρ g hr hc (v := v) (iv := iv) (iz := is) (inb := il)) (ld_wm h t g ho (inb := iw)) (ld_bs h t g ho (inb := ib))
    (ld_dy h t ρ g hr hc (inb := iy))

/-- The two chunks' mixing gradient of a group of columns. -/
def mix_chunks {sg : RefSig} {κ : Kind} {sp : Space} {v : View sg κ sp S256x1024 .bf16} {co o : ℕ} (hc : co = g.val * 128) {iz iv is il iy iz' il' iy'} {acc : Vec Ideal S1x128x128 .f32} {A : Fin 128 → Fin 128 → EReal}
    (hacc : ∀ i k, acc (ix3 0 i k) = A i k) :=
  mix_block (ld_z h t 0 g (ro := 0) rfl hc (inb := iz)) (ld_vn h t 0 g (ro := 0) rfl hc (v := v) (iv := iv) (iz := is) (inb := il)) (ld_dy h t 0 g (ro := 0) rfl hc (inb := iy))
    (ld_z h t 1 g (ro := 128) rfl hc (inb := iz')) (ld_vn h t 1 g (ro := 128) rfl hc (v := v) (iv := iv) (iz := is) (inb := il')) (ld_dy h t 1 g (ro := 128) rfl hc (inb := iy')) hacc

/-- The two chunks' gradient of the offsets. -/
def off_chunks {co : ℕ} (hc : co = g.val * 128) {iz iy iz' iy'} {acc : Vec Ideal S1x128x1 .f32} {A : Fin 128 → EReal} (hacc : ∀ i, acc (ix3 0 i 0) = A i) :=
  off_block (ld_z h t 0 g (ro := 0) rfl hc (inb := iz)) (ld_dy h t 0 g (ro := 0) rfl hc (inb := iy)) (ld_z h t 1 g (ro := 128) rfl hc (inb := iz')) (ld_dy h t 1 g (ro := 128) rfl hc (inb := iy')) hacc

end Groups

/-- An accumulator of slabs before one slab is stored, where the body has just cleared it: the slabs stored since are others. -/
theorem slab_first {sg : RefSig} {κ : Kind} {sp : Space} {k : ℕ} {v : View sg κ sp ⟨3, ![8, 128, k]⟩ .f32} {o : ℕ} (ho : o < 8) {inb zi}
    (Z : Vec Ideal ⟨3, ![8, 128, k]⟩ .f32) (hZ : ∀ g i j, Z (ix3 g i j) = (0 : EReal)) (M : List (View.Piece (Elt Ideal) ⟨3, ![8, 128, k]⟩ .f32))
    (hM : M = M.dropLast ++ [⟨Rect.unit ![0, 0, 0] ![8, 128, k] zi, Z⟩])
    (hd : LoadRect.disjAll (M.dropLast.map Sigma.fst) (Rect.unit (s := ⟨3, ![8, 128, k]⟩) ![o, 0, 0] ![1, 128, k] inb).toLoadRect = true) (i : Fin 128) (j : Fin k) :
    v.readCov M (Rect.unit (s := ⟨3, ![8, 128, k]⟩) ![o, 0, 0] ![1, 128, k] inb).toLoadRect (ix3 0 i j) = (0 : EReal) := by
  rw [hM, View.readCov_eq_canon']
  have e : (Rect.unit (s := ⟨3, ![8, 128, k]⟩) ![o, 0, 0] ![1, 128, k] inb).toLoadRect.idx (ix3 0 i j)
      = (Rect.unit (s := ⟨3, ![8, 128, k]⟩) ![0, 0, 0] ![8, 128, k] zi).emb (ix3 ⟨o, ho⟩ i j) := by
    blk_ext <;> simp
  show View.canon _ ((Rect.unit (s := ⟨3, ![8, 128, k]⟩) ![o, 0, 0] ![1, 128, k] inb).toLoadRect.idx (ix3 0 i j)) = 0
  rw [canon_after _ _ fun p hp => LoadRect.forall_not_mem_of_disjAll _ _ hd _ p hp, e, View.canon_cons_emb]
  exact hZ ⟨o, ho⟩ i j

theorem lt_last (t : Fin cfg0.N) : t.val - 1 < cfg0.N := by have := t.isLt; omega

set_option maxHeartbeats 4000000 in
theorem mix_at (h : Real m c) (t : Fin cfg0.N) (W : Fin 8 → Fin 128 → Fin 128 → EReal) (hA : t.val % 16 = 0 → ∀ g i k, W g i k = 0)
    (hB : ¬ t.val % 16 = 0 → ∀ g i k, W g i k = (outsAt0 m c (t.val - 1) (lt_last t)).2.2.1 (ix3 g i k)) (g : Fin 8) (i k : Fin 128) :
    (outsAt0 m c t.val t.isLt).2.2.1 (ix3 g i k) = W g i k + (((inp m c).dmix (half t 0) g i k + (inp m c).dmix (half t 1) g i k : ℝ) : EReal) := by
  by_cases h0 : t.val % 16 = 0
  all_goals
    first
    | rw [outsAt0_A m c t h0]
    | rw [outsAt0_B m c t h0]
    frame_out
    refine mix_tiles (G := fun g i k => W g i k + (((inp m c).dmix (half t 0) g i k + (inp m c).dmix (half t 1) g i k : ℝ) : EReal)) _
      (mix_chunks h t 0 (co := 0) (o := 0) rfl ?_)
      (mix_chunks h t 1 (co := 128) (o := 1) rfl ?_)
      (mix_chunks h t 2 (co := 256) (o := 2) rfl ?_)
      (mix_chunks h t 3 (co := 384) (o := 3) rfl ?_)
      (mix_chunks h t 4 (co := 512) (o := 4) rfl ?_)
      (mix_chunks h t 5 (co := 640) (o := 5) rfl ?_)
      (mix_chunks h t 6 (co := 768) (o := 6) rfl ?_)
      (mix_chunks h t 7 (co := 896) (o := 7) rfl ?_) g i k
    all_goals
      intro i k
      first
      | rw [hB h0]
        exact ld_slab _ _ (by rfl) _ _ _
      | rw [hA h0]
        exact slab_first (by omega) (k0_pay4 (F := Ideal)) (fun g i j => by pointwise [k0_pay4]) _ (by rfl) (by sl_kernel_rfl) _ _

set_option maxHeartbeats 4000000 in
theorem off_at (h : Real m c) (t : Fin cfg0.N) (W : Fin 8 → Fin 128 → EReal) (hA : t.val % 16 = 0 → ∀ g i, W g i = 0)
    (hB : ¬ t.val % 16 = 0 → ∀ g i, W g i = (outsAt0 m c (t.val - 1) (lt_last t)).2.2.2.1 (ix3 g i 0)) (g : Fin 8) (i : Fin 128) :
    (outsAt0 m c t.val t.isLt).2.2.2.1 (ix3 g i 0) = W g i + (((inp m c).doff (half t 0) g i + (inp m c).doff (half t 1) g i : ℝ) : EReal) := by
  by_cases h0 : t.val % 16 = 0
  all_goals
    first
    | rw [outsAt0_A m c t h0]
    | rw [outsAt0_B m c t h0]
    frame_out
    refine off_tiles (G := fun g i => W g i + (((inp m c).doff (half t 0) g i + (inp m c).doff (half t 1) g i : ℝ) : EReal)) _
      (off_chunks h t 0 (co := 0) rfl ?_)
      (off_chunks h t 1 (co := 128) rfl ?_)
      (off_chunks h t 2 (co := 256) rfl ?_)
      (off_chunks h t 3 (co := 384) rfl ?_)
      (off_chunks h t 4 (co := 512) rfl ?_)
      (off_chunks h t 5 (co := 640) rfl ?_)
      (off_chunks h t 6 (co := 768) rfl ?_)
      (off_chunks h t 7 (co := 896) rfl ?_) g i
    all_goals
      intro i
      first
      | rw [hB h0]
        exact ld_slab (k := 1) _ _ (by rfl) _ _ _
      | rw [hA h0]
        exact slab_first (k := 1) (by omega) (k0_pay5 (F := Ideal)) (fun g i j => by pointwise [k0_pay5]) _ (by rfl) (by sl_kernel_rfl) _ _

/-- The layer norm's input gradient, read back from the scratch the groups fill. -/
def dvn_read (h : Real m c) (t : Fin cfg0.N) {sg : RefSig} {κ : Kind} {sp : Space} {v : View sg κ sp S256x1024 .f32} {inb} :=
  tiles_read (v := v) (inb := inb)
    (dvn_at h t 0 0 (ro := 0) (co := 0) (o := 0) rfl rfl rfl (iz := inb_S256x2048_S128x128_0_0) (iy := inb_S256x1024_S128x128_0_0) (iw := inb_S8x128x128_S1x128x128_0_0_0))
    (dvn_at h t 1 0 (ro := 128) (co := 0) (o := 0) rfl rfl rfl (iz := inb_S256x2048_S128x128_128_0) (iy := inb_S256x1024_S128x128_128_0) (iw := inb_S8x128x128_S1x128x128_0_0_0))
    (dvn_at h t 0 1 (ro := 0) (co := 128) (o := 1) rfl rfl rfl (iz := inb_S256x2048_S128x128_0_128) (iy := inb_S256x1024_S128x128_0_128) (iw := inb_S8x128x128_S1x128x128_1_0_0))
    (dvn_at h t 1 1 (ro := 128) (co := 128) (o := 1) rfl rfl rfl (iz := inb_S256x2048_S128x128_128_128) (iy := inb_S256x1024_S128x128_128_128) (iw := inb_S8x128x128_S1x128x128_1_0_0))
    (dvn_at h t 0 2 (ro := 0) (co := 256) (o := 2) rfl rfl rfl (iz := inb_S256x2048_S128x128_0_256) (iy := inb_S256x1024_S128x128_0_256) (iw := inb_S8x128x128_S1x128x128_2_0_0))
    (dvn_at h t 1 2 (ro := 128) (co := 256) (o := 2) rfl rfl rfl (iz := inb_S256x2048_S128x128_128_256) (iy := inb_S256x1024_S128x128_128_256) (iw := inb_S8x128x128_S1x128x128_2_0_0))
    (dvn_at h t 0 3 (ro := 0) (co := 384) (o := 3) rfl rfl rfl (iz := inb_S256x2048_S128x128_0_384) (iy := inb_S256x1024_S128x128_0_384) (iw := inb_S8x128x128_S1x128x128_3_0_0))
    (dvn_at h t 1 3 (ro := 128) (co := 384) (o := 3) rfl rfl rfl (iz := inb_S256x2048_S128x128_128_384) (iy := inb_S256x1024_S128x128_128_384) (iw := inb_S8x128x128_S1x128x128_3_0_0))
    (dvn_at h t 0 4 (ro := 0) (co := 512) (o := 4) rfl rfl rfl (iz := inb_S256x2048_S128x128_0_512) (iy := inb_S256x1024_S128x128_0_512) (iw := inb_S8x128x128_S1x128x128_4_0_0))
    (dvn_at h t 1 4 (ro := 128) (co := 512) (o := 4) rfl rfl rfl (iz := inb_S256x2048_S128x128_128_512) (iy := inb_S256x1024_S128x128_128_512) (iw := inb_S8x128x128_S1x128x128_4_0_0))
    (dvn_at h t 0 5 (ro := 0) (co := 640) (o := 5) rfl rfl rfl (iz := inb_S256x2048_S128x128_0_640) (iy := inb_S256x1024_S128x128_0_640) (iw := inb_S8x128x128_S1x128x128_5_0_0))
    (dvn_at h t 1 5 (ro := 128) (co := 640) (o := 5) rfl rfl rfl (iz := inb_S256x2048_S128x128_128_640) (iy := inb_S256x1024_S128x128_128_640) (iw := inb_S8x128x128_S1x128x128_5_0_0))
    (dvn_at h t 0 6 (ro := 0) (co := 768) (o := 6) rfl rfl rfl (iz := inb_S256x2048_S128x128_0_768) (iy := inb_S256x1024_S128x128_0_768) (iw := inb_S8x128x128_S1x128x128_6_0_0))
    (dvn_at h t 1 6 (ro := 128) (co := 768) (o := 6) rfl rfl rfl (iz := inb_S256x2048_S128x128_128_768) (iy := inb_S256x1024_S128x128_128_768) (iw := inb_S8x128x128_S1x128x128_6_0_0))
    (dvn_at h t 0 7 (ro := 0) (co := 896) (o := 7) rfl rfl rfl (iz := inb_S256x2048_S128x128_0_896) (iy := inb_S256x1024_S128x128_0_896) (iw := inb_S8x128x128_S1x128x128_7_0_0))
    (dvn_at h t 1 7 (ro := 128) (co := 896) (o := 7) rfl rfl rfl (iz := inb_S256x2048_S128x128_128_896) (iy := inb_S256x1024_S128x128_128_896) (iw := inb_S8x128x128_S1x128x128_7_0_0))

set_option maxHeartbeats 4000000 in
theorem point_at (h : Real m c) (t : Fin cfg0.N) (Y Z : Fin 1024 → EReal) (hA : t.val % 16 = 0 → ∀ d, Y d = 0 ∧ Z d = 0)
    (hB : ¬ t.val % 16 = 0 → ∀ d, Y d = (outsAt0 m c (t.val - 1) (lt_last t)).2.1 (ix2 0 d) ∧ Z d = (outsAt0 m c (t.val - 1) (lt_last t)).2.2.2.2.2 (ix2 0 d)) :
    (∀ r j, (outsAt0 m c t.val t.isLt).1 (ix2 r j) = ((inp m c).dp (at_ t r) j : EReal))
    ∧ (∀ r d, (outsAt0 m c t.val t.isLt).2.2.2.2.1 (ix2 r d) = ((inp m c).dx (at_ t r) d : EReal))
    ∧ (∀ d, (outsAt0 m c t.val t.isLt).2.1 (ix2 0 d) = Y d + ((∑ r, (inp m c).dvgain (at_ t r) d : ℝ) : EReal))
    ∧ ∀ d, (outsAt0 m c t.val t.isLt).2.2.2.2.2 (ix2 0 d) = Z d + ((∑ r, (inp m c).dgain (at_ t r) d : ℝ) : EReal) := by
  have htok : View.ld (iblk m c 8 t : Vec Ideal S8x128 .f32) (Rect.unit ![0, 0] ![1, 1] inb_S8x128_S1x1_0_0) (ix2 0 0) = ((0 : ℝ) : EReal) := by
    refine Eq.trans ?_ (block_tok (m := m) (c := c) t 0 0)
    pointwise
  by_cases h0 : t.val % 16 = 0
  all_goals
    first
    | rw [outsAt0_A m c t h0]
    | rw [outsAt0_B m c t h0]
    frame_out
    refine both ?_ fun hP => ⟨fun r d => dx_block (read_whole hP) (block_wt h t) (block_x h t) (block_g h t) htok (block_res h t) r d,
      fun d => vgain_block (ld_zv h t) (dvn_read h t) ?_ d, fun d => gain_block (read_whole hP) (block_wt h t) (block_x h t) ?_ d⟩
    rotate_left
    · intro d
      first
      | exact (hB h0 d).1.symm
      | rw [(hA h0 d).1]
        pointwise [k0_pay3]
    · intro d
      first
      | exact (hB h0 d).2.symm
      | rw [(hA h0 d).2]
        pointwise [k0_pay2]
    exact dp_tiles
      (dzu_at h t 0 0 (ro := 0) (co := 0) (o := 0) rfl rfl rfl)
      (dzu_at h t 1 0 (ro := 128) (co := 0) (o := 0) rfl rfl rfl)
      (dzu_at h t 0 1 (ro := 0) (co := 128) (o := 1) rfl rfl rfl)
      (dzu_at h t 1 1 (ro := 128) (co := 128) (o := 1) rfl rfl rfl)
      (dzu_at h t 0 2 (ro := 0) (co := 256) (o := 2) rfl rfl rfl)
      (dzu_at h t 1 2 (ro := 128) (co := 256) (o := 2) rfl rfl rfl)
      (dzu_at h t 0 3 (ro := 0) (co := 384) (o := 3) rfl rfl rfl)
      (dzu_at h t 1 3 (ro := 128) (co := 384) (o := 3) rfl rfl rfl)
      (dzu_at h t 0 4 (ro := 0) (co := 512) (o := 4) rfl rfl rfl)
      (dzu_at h t 1 4 (ro := 128) (co := 512) (o := 4) rfl rfl rfl)
      (dzu_at h t 0 5 (ro := 0) (co := 640) (o := 5) rfl rfl rfl)
      (dzu_at h t 1 5 (ro := 128) (co := 640) (o := 5) rfl rfl rfl)
      (dzu_at h t 0 6 (ro := 0) (co := 768) (o := 6) rfl rfl rfl)
      (dzu_at h t 1 6 (ro := 128) (co := 768) (o := 6) rfl rfl rfl)
      (dzu_at h t 0 7 (ro := 0) (co := 896) (o := 7) rfl rfl rfl)
      (dzu_at h t 1 7 (ro := 128) (co := 896) (o := 7) rfl rfl rfl)
      (dzv_block (ld_zv h t) (block_gv h t) (dvn_read h t))

theorem gain_last (h : Real m c) (d : Fin 1024) :
    (outsAt0 m c t0_15.val t0_15.isLt).2.2.2.2.2 (ix2 0 d) = ((∑ n, (inp m c).dgain n d : ℝ) : EReal) := by
  rw [Pipeline.eq_sum_fin_of_reset_step_apply_last (fun n h (d : Fin 1024) => (outsAt0 m c n h).2.2.2.2.2 (ix2 0 d)) 16 (fun _ => (0 : EReal))
    (fun t d => ((∑ r, (inp m c).dgain (at_ t r) d : ℝ) : EReal))
    (fun t h0 i => (point_at h t (fun _ => 0) (fun _ => 0) (fun _ _ => ⟨rfl, rfl⟩) (fun hn => absurd h0 hn)).2.2.2 i)
    (fun t h0 i => (point_at h t (fun d => (outsAt0 m c (t.val - 1) (lt_last t)).2.1 (ix2 0 d)) (fun d => (outsAt0 m c (t.val - 1) (lt_last t)).2.2.2.2.2 (ix2 0 d))
      (fun hn => absurd hn h0) (fun _ _ => ⟨rfl, rfl⟩)).2.2.2 i)
    (le_of_eq N_0) t0_15 rfl]
  rw [sum_real, sum_points (fun n => (inp m c).dgain n d), zero_add]

theorem vgain_last (h : Real m c) (d : Fin 1024) :
    (outsAt0 m c t0_15.val t0_15.isLt).2.1 (ix2 0 d) = ((∑ n, (inp m c).dvgain n d : ℝ) : EReal) := by
  rw [Pipeline.eq_sum_fin_of_reset_step_apply_last (fun n h (d : Fin 1024) => (outsAt0 m c n h).2.1 (ix2 0 d)) 16 (fun _ => (0 : EReal))
    (fun t d => ((∑ r, (inp m c).dvgain (at_ t r) d : ℝ) : EReal))
    (fun t h0 i => (point_at h t (fun _ => 0) (fun _ => 0) (fun _ _ => ⟨rfl, rfl⟩) (fun hn => absurd h0 hn)).2.2.1 i)
    (fun t h0 i => (point_at h t (fun d => (outsAt0 m c (t.val - 1) (lt_last t)).2.1 (ix2 0 d)) (fun d => (outsAt0 m c (t.val - 1) (lt_last t)).2.2.2.2.2 (ix2 0 d))
      (fun hn => absurd hn h0) (fun _ _ => ⟨rfl, rfl⟩)).2.2.1 i)
    (le_of_eq N_0) t0_15 rfl]
  rw [sum_real, sum_points (fun n => (inp m c).dvgain n d), zero_add]

theorem mix_last (h : Real m c) (g : Fin 8) (i k : Fin 128) :
    (outsAt0 m c t0_15.val t0_15.isLt).2.2.1 (ix3 g i k) = ((∑ q, (inp m c).dmix q g i k : ℝ) : EReal) := by
  rw [Pipeline.eq_sum_fin_of_reset_step_apply_last (fun n h (k : Fin 128) => (outsAt0 m c n h).2.2.1 (ix3 g i k)) 16 (fun _ => (0 : EReal))
    (fun t k => (((inp m c).dmix (half t 0) g i k + (inp m c).dmix (half t 1) g i k : ℝ) : EReal))
    (fun t h0 k => mix_at h t (fun _ _ _ => 0) (fun _ _ _ _ => rfl) (fun hn => absurd h0 hn) g i k)
    (fun t h0 k => mix_at h t (fun g i k => (outsAt0 m c (t.val - 1) (lt_last t)).2.2.1 (ix3 g i k)) (fun hn => absurd hn h0) (fun _ _ _ _ => rfl) g i k)
    (le_of_eq N_0) t0_15 rfl]
  rw [sum_real, sum_halves (fun q => (inp m c).dmix q g i k), zero_add]

theorem off_last (h : Real m c) (g : Fin 8) (i : Fin 128) :
    (outsAt0 m c t0_15.val t0_15.isLt).2.2.2.1 (ix3 g i 0) = ((∑ q, (inp m c).doff q g i : ℝ) : EReal) := by
  rw [Pipeline.eq_sum_fin_of_reset_step_apply_last (fun n h (i : Fin 128) => (outsAt0 m c n h).2.2.2.1 (ix3 g i 0)) 16 (fun _ => (0 : EReal))
    (fun t i => (((inp m c).doff (half t 0) g i + (inp m c).doff (half t 1) g i : ℝ) : EReal))
    (fun t h0 i => off_at h t (fun _ _ => 0) (fun _ _ _ => rfl) (fun hn => absurd h0 hn) g i)
    (fun t h0 i => off_at h t (fun g i => (outsAt0 m c (t.val - 1) (lt_last t)).2.2.2.1 (ix3 g i 0)) (fun hn => absurd hn h0) (fun _ _ _ => rfl) g i)
    (le_of_eq N_0) t0_15 rfl]
  rw [sum_real, sum_halves (fun q => (inp m c).doff q g i), zero_add]

/-! ## The arrays the call leaves -/

/-- What a point leaves of its block's rows. -/
def rows_at (h : Real m c) (t : Fin cfg0.N) := point_at h t (fun d => if t.val % 16 = 0 then 0 else (outsAt0 m c (t.val - 1) (lt_last t)).2.1 (ix2 0 d))
  (fun d => if t.val % 16 = 0 then 0 else (outsAt0 m c (t.val - 1) (lt_last t)).2.2.2.2.2 (ix2 0 d)) (fun h0 _ => ⟨if_pos h0, if_pos h0⟩) (fun h0 _ => ⟨if_neg h0, if_neg h0⟩)

theorem final_p (h : Real m c) : ((dats m 0 c).arrAt 10 cfg0.N : S4096x2048.Idx → EReal) = fun i => ((inp m c).dp (i 0) (i 1) : EReal) := by
  refine (dats m 0 c).arrAt_eq_of_covers 10 (fun i : S4096x2048.Idx => ((inp m c).dp (i 0) (i 1) : EReal)) (by decide +kernel) fun t hf y => ?_
  blk_simp
  rw [after0_10]
  idx_vars y
  have e : ((cfg0.win 10).blk t).view.emb (ix2 y0 y1) = (ix2 (at_ t y0) y1 : S4096x2048.Idx) := by blk_ext [idx t] <;> rfl
  exact ((rows_at h t).1 y0 y1).trans (congrArg (fun i : S4096x2048.Idx => ((inp m c).dp (i 0) (i 1) : EReal)) e).symm

theorem final_vgain (h : Real m c) : ((dats m 0 c).arrAt 11 cfg0.N : S1x1024.Idx → EReal)
    = fun i => ((∑ n, (inp m c).dvgain n (i 1) : ℝ) : EReal) := by
  refine (dats m 0 c).arrAt_eq_of_after_last 11 t0_15 (by decide +kernel) _ fun y => ?_
  blk_simp
  rw [after0_11]
  obtain ⟨a, d, rfl⟩ : ∃ (a : Fin 1) (d : Fin 1024), y = ix2 a d := ⟨y 0, y 1, by blk_ext⟩
  obtain rfl : a = 0 := Subsingleton.elim _ _
  exact vgain_last h d

theorem final_mix (h : Real m c) : ((dats m 0 c).arrAt 12 cfg0.N : S8x128x128.Idx → EReal)
    = fun i => ((∑ q, (inp m c).dmix q (i 0) (i 1) (i 2) : ℝ) : EReal) := by
  refine (dats m 0 c).arrAt_eq_of_after_last 12 t0_15 (by decide +kernel) _ fun y => ?_
  blk_simp
  rw [after0_12]
  obtain ⟨g, i, k, rfl⟩ : ∃ (g : Fin 8) (i k : Fin 128), y = ix3 g i k := ⟨y 0, y 1, y 2, by blk_ext⟩
  exact mix_last h g i k

theorem final_off (h : Real m c) : ((dats m 0 c).arrAt 13 cfg0.N : S8x128x1.Idx → EReal)
    = fun i => ((∑ q, (inp m c).doff q (i 0) (i 1) : ℝ) : EReal) := by
  refine (dats m 0 c).arrAt_eq_of_after_last 13 t0_15 (by decide +kernel) _ fun y => ?_
  blk_simp
  rw [after0_13]
  obtain ⟨g, i, k, rfl⟩ : ∃ (g : Fin 8) (i : Fin 128) (k : Fin 1), y = ix3 g i k := ⟨y 0, y 1, y 2, by blk_ext⟩
  obtain rfl : k = 0 := Subsingleton.elim _ _
  exact off_last h g i

theorem final_x (h : Real m c) : ((dats m 0 c).arrAt 14 cfg0.N : S4096x1024.Idx → EReal) = fun i => ((inp m c).dx (i 0) (i 1) : EReal) := by
  refine (dats m 0 c).arrAt_eq_of_covers 14 (fun i : S4096x1024.Idx => ((inp m c).dx (i 0) (i 1) : EReal)) (by decide +kernel) fun t hf y => ?_
  blk_simp
  rw [after0_14]
  idx_vars y
  have e : ((cfg0.win 14).blk t).view.emb (ix2 y0 y1) = (ix2 (at_ t y0) y1 : S4096x1024.Idx) := by blk_ext [idx t] <;> rfl
  exact ((rows_at h t).2.1 y0 y1).trans (congrArg (fun i : S4096x1024.Idx => ((inp m c).dx (i 0) (i 1) : EReal)) e).symm

theorem final_gain (h : Real m c) : ((dats m 0 c).arrAt 15 cfg0.N : S1x1024.Idx → EReal)
    = fun i => ((∑ n, (inp m c).dgain n (i 1) : ℝ) : EReal) := by
  refine (dats m 0 c).arrAt_eq_of_after_last 15 t0_15 (by decide +kernel) _ fun y => ?_
  blk_simp
  rw [after0_15]
  obtain ⟨a, d, rfl⟩ : ∃ (a : Fin 1) (d : Fin 1024), y = ix2 a d := ⟨y 0, y 1, by blk_ext⟩
  obtain rfl : a = 0 := Subsingleton.elim _ _
  exact gain_last h d

end Cert.GmlpBwdIdeal.Value

end
-- ==== Proof.GmlpRef.lean ====
/- The reference of the gated spatial-mixing block's gradients on real arguments: its six results as real quantities. -/
module

public import proofs.«01_k».proof.Proof.GmlpReal
public import proofs.«01_k».proof.Proof.Gen.GmlpRefIdeal.Run
public import Idealize.ShloMosaic.Lib.Claim

@[expose] public section

set_option maxRecDepth 16384

noncomputable section

namespace Cert.GmlpRefIdeal.Value

open Cert.GmlpRefIdeal Cert.GmlpRefIdeal.Gen Cert.Reals Cert.Gmlp Idealize.ShloMosaic Idealize.ShloMosaic.TcCoe Idealize.SL.Sem
  Idealize.ShloMosaic.StableHlo

/-- The product over a batch, its chunks and a group's columns. -/
theorem dot_mix (L : FVec Ideal S8x2x16x128x128 .f32) (R : FVec Ideal S2x16x128x8x128 .f32) (g : Fin 8) (i k : Fin 128) :
    Host.dotGeneral dot_S8x2x16x128x128_S2x16x128x8x128_S8x128x128_123_014_4_2_0_3 none L R (ix3 g i k)
      = ∑ b : Fin 2, ∑ q : Fin 16, ∑ j : Fin 128, L (ix5 g b q j i) * R (ix5 b q k g j) := by
  let d := dot_S8x2x16x128x128_S2x16x128x8x128_S8x128x128_123_014_4_2_0_3
  let e : Fin 2 × Fin 16 × Fin 128 ≃ d.contr.Idx :=
    { toFun := fun k p => match p with | ⟨0, _⟩ => k.1 | ⟨1, _⟩ => k.2.1 | ⟨2, _⟩ => k.2.2
      invFun := fun kk => (kk ⟨0, by decide⟩, kk ⟨1, by decide⟩, kk ⟨2, by decide⟩)
      left_inv := fun _ => rfl
      right_inv := fun kk => funext fun p => match p with | ⟨0, _⟩ => rfl | ⟨1, _⟩ => rfl | ⟨2, _⟩ => rfl }
  refine (Ideal.dotGeneral_apply d _ _ _ _ _).trans ?_
  rw [← Fintype.sum_equiv e (fun k' => L (ix5 g k'.1 k'.2.1 k'.2.2 i) * R (ix5 k'.1 k'.2.1 k g k'.2.2)) _ fun k' => ?_]
  · simp only [Fintype.sum_prod_type]
  · refine congrArg₂ (fun p q => L p * R q) (funext fun x => ?_) (funext fun x => ?_)
    · match x with | ⟨0, _⟩ => rfl | ⟨1, _⟩ => rfl | ⟨2, _⟩ => rfl | ⟨3, _⟩ => rfl | ⟨4, _⟩ => rfl
    · match x with | ⟨0, _⟩ => rfl | ⟨1, _⟩ => rfl | ⟨2, _⟩ => rfl | ⟨3, _⟩ => rfl | ⟨4, _⟩ => rfl

/-- The host's sum over the first two axes and the last of five. -/
theorem sum_outer {n₀ n₁ n₂ n₃ n₄ : ℕ} (h : (⟨5, ![n₀, n₁, n₂, n₃, n₄]⟩ : Shape).ReducesTo [0, 1, 4] ⟨2, ![n₂, n₃]⟩)
    (v : (⟨5, ![n₀, n₁, n₂, n₃, n₄]⟩ : Shape).Idx → EReal) (init : EReal) (i : Fin n₂) (g : Fin n₃) :
    Ideal.hostReduceAdd h v init (ix2 i g) = init + ∑ b : Fin n₀, ∑ q : Fin n₁, ∑ j : Fin n₄, v (ix5 b q i g j) := by
  have fiber : ∀ x : (⟨5, ![n₀, n₁, n₂, n₃, n₄]⟩ : Shape).Idx, h.drop x = ix2 i g ↔
      ∃ k : Fin n₀ × Fin n₁ × Fin n₄, ix5 k.1 k.2.1 i g k.2.2 = x := fun x => by
    constructor
    · intro e
      refine ⟨(x 0, x 1, x 4), funext fun y => Fin.ext ?_⟩
      have e2 : (x 2).val = i.val := congrArg Fin.val (congrFun e 0)
      have e3 : (x 3).val = g.val := congrArg Fin.val (congrFun e 1)
      match y with
      | ⟨0, _⟩ => rfl
      | ⟨1, _⟩ => rfl
      | ⟨2, _⟩ => exact e2.symm
      | ⟨3, _⟩ => exact e3.symm
      | ⟨4, _⟩ => rfl
    · rintro ⟨k, rfl⟩
      refine funext fun y => Fin.ext ?_
      match y with
      | ⟨0, _⟩ => rfl
      | ⟨1, _⟩ => rfl
  refine congrArg (init + ·) ?_
  rw [Finset.sum_filter_eq_sum_of_fiber _ (fun k : Fin n₀ × Fin n₁ × Fin n₄ => (ix5 k.1 k.2.1 i g k.2.2 : (⟨5, ![n₀, n₁, n₂, n₃, n₄]⟩ : Shape).Idx))
    (fun _ _ e => Prod.ext (congrFun e 0) (Prod.ext (congrFun e 1) (congrFun e 4))) fiber v]
  simp only [Fintype.sum_prod_type]

theorem sum_chunks (f : Fin 32 → ℝ) : ∑ b, ∑ q, f (seqChunk b q) = ∑ q, f q := by
  refine Fin.sum_mul_add_congr (L := 32) (S := 2) (n := 16) (F := fun b q => f (seqChunk b q)) fun b q hl => rfl

section Stages

variable {V : Valuation τ sig (Elt Ideal)} {a : In}
  (h : Holds a (V (Proc.devRef .tc main_arg0)) (V (Proc.devRef .tc main_arg1)) (V (Proc.devRef .tc main_arg2)) (V (Proc.devRef .tc main_arg3))
    (V (Proc.devRef .tc main_arg4)) (V (Proc.devRef .tc main_arg5)) (V (Proc.devRef .tc main_arg6)) (V (Proc.devRef .tc main_arg7)))
  (b : Fin 2) (s : Fin 2048)
include h

theorem var_x (z : Fin 1) : res_main_v8 V (ix3 b s z) = (var (a.x (row b s)) : EReal) := by
  pointwise [res_main_v8]
  simp only [h.x, mul_real, sum_real, bits_1024, bits_eps, div_1024, add_real, var_def]

theorem rstd_x (z : Fin 1) : res_main_v9 V (ix3 b s z) = (rstd (a.x (row b s)) : EReal) := by
  pointwise [res_main_v9]
  rw [var_x h, rsqrt_var]

theorem hat_at (d : Fin 1024) : res_main_v14 V (ix3 b s d) = (a.hat (row b s) d : EReal) := by
  pointwise [res_main_v14]
  rw [rstd_x h, h.x, mul_real]; rfl

theorem gain_at (y z : Fin 1) (d : Fin 1024) : res_main_v15 V (ix3 y z d) = (a.g d : EReal) := by
  pointwise [res_main_v15]
  exact h.g d

theorem p_at (j : Fin 2048) : res_main_v19 V (ix3 b s j) = (a.p (row b s) j : EReal) := by
  pointwise [res_main_v19]
  simp only [hat_at h, gain_at h, h.win, mul_real, sum_real, bits_zero, add_real, add_zero]; rfl

theorem half_p (j : Fin 2048) : res_main_v21 V (ix3 b s j) = ((1 / 2 * a.p (row b s) j : ℝ) : EReal) := by
  pointwise [res_main_v21]
  rw [p_at h, bits_half, mul_real]

omit h in
theorem sqrt_at : res_main_v23 V ix0 = (Real.sqrt 2 : EReal) := by
  pointwise [res_main_v23]
  rw [bits_two, sqrt_two]

theorem quot_at (j : Fin 2048) : res_main_v25 V (ix3 b s j) = Ideal.div ((-a.p (row b s) j : ℝ) : EReal) (Real.sqrt 2 : EReal) := by
  pointwise [res_main_v25]
  rw [p_at h, sqrt_at, neg_real]

theorem erfc_at (j : Fin 2048) : res_main_v26 V (ix3 b s j) = ((1 + erfR (a.p (row b s) j * root) : ℝ) : EReal) := by
  pointwise [res_main_v26]
  rw [quot_at h]; exact erfc_quot _

theorem gelu_at (j : Fin 2048) : res_main_v30 V (ix3 b s j) = (gelu (a.p (row b s) j) : EReal) := by
  pointwise [res_main_v30]
  rw [half_p h, erfc_at h, mul_real]
  unfold gelu cdf
  exact congrArg _ (by ring)

theorem u_at (j : Fin 1024) : res_main_v31 V (ix3 b s j) = (a.u (row b s) j : EReal) := by
  pointwise [res_main_v31]
  exact gelu_at h b s (colU j)

theorem v_at (j : Fin 1024) : res_main_v32 V (ix3 b s j) = (gelu (a.zv (row b s) j) : EReal) := by
  pointwise [res_main_v32]
  exact gelu_at h b s (colV j)

theorem mean_at (z : Fin 1) : res_main_v36 V (ix3 b s z) = (((∑ k, gelu (a.zv (row b s) k)) / 1024 : ℝ) : EReal) := by
  pointwise [res_main_v36]
  simp only [v_at h, sum_real, bits_1024, div_1024]

theorem centred_at (j : Fin 1024) : res_main_v38 V (ix3 b s j) = (a.vc (row b s) j : EReal) := by
  pointwise [res_main_v38]
  rw [v_at h, mean_at h, sub_real]; rfl

theorem centred_at' (j : Fin 1024) : res_main_v47 V (ix3 b s j) = (a.vc (row b s) j : EReal) := centred_at h b s j

theorem var_v (z : Fin 1) : res_main_v49 V (ix3 b s z) = (var (a.vc (row b s)) : EReal) := by
  pointwise [res_main_v49]
  simp only [centred_at h, mul_real, sum_real, bits_1024, bits_eps, div_1024, add_real, var_def]

theorem rstd_v (z : Fin 1) : res_main_v50 V (ix3 b s z) = (rstd (a.vc (row b s)) : EReal) := by
  pointwise [res_main_v50]
  rw [var_v h, rsqrt_var]

theorem vhat_at (j : Fin 1024) : res_main_v55 V (ix3 b s j) = (a.vhat (row b s) j : EReal) := by
  pointwise [res_main_v55]
  rw [rstd_v h, centred_at' h, mul_real]; rfl

theorem vgain_at (y z : Fin 1) (d : Fin 1024) : res_main_v56 V (ix3 y z d) = (a.gv d : EReal) := by
  pointwise [res_main_v56]
  exact h.gv d

theorem vn_at (q : Fin 16) (i : Fin 128) (g : Fin 8) (j : Fin 128) :
    res_main_v59 V (ix5 b q i g j) = (a.vn (rowAt (seqChunk b q) i) (colAt g j) : EReal) := by
  unfold res_main_v59
  refine (split_read _ b q i g j).trans ?_
  pointwise
  rw [vhat_at h, vgain_at h, mul_real, row_seqRow]; rfl

theorem wm_at (g : Fin 8) (i k : Fin 128) : res_main_v70 V (ix3 g i k) = (a.wm g i k : EReal) := by
  pointwise [res_main_v70, res_main_v61, res_main_v63, res_main_call0_v0, res_main_call0_v2, res_main_call1_v0, res_main_call1_v2, res_main_v60]
  refine (mask_select i k _ _).trans ?_
  rw [h.ws]; show (if _ then _ else Ideal.ofBits .f32 0x00000000#32) = _
  rw [bits_zero]; unfold In.wm
  split <;> rfl

theorem sv_at (j : Fin 1024) : res_main_v77 V (ix3 b s j) = (a.sv (row b s) j : EReal) := by
  obtain ⟨q, i, rfl⟩ := seqRow_exists s
  obtain ⟨g, k, rfl⟩ := colAt_exists j
  unfold res_main_v77
  refine (join_read _ b q i g k).trans ?_
  pointwise
  simp only [vn_at h, wm_at h, h.bs, mul_real, sum_real, add_real]
  rw [row_seqRow, In.sv_at]
  exact congrArg _ (congrArg (· + _) (Finset.sum_congr rfl fun k _ => mul_comm _ _))

theorem dsv_at (q : Fin 16) (i : Fin 128) (g : Fin 8) (j : Fin 128) :
    res_main_v81 V (ix5 b q i g j) = (a.dsv (rowAt (seqChunk b q) i) (colAt g j) : EReal) := by
  unfold res_main_v81
  refine (split_read _ b q i g j).trans ?_
  pointwise
  rw [u_at h, h.dy, mul_real, row_seqRow]
  exact congrArg _ (mul_comm _ _)

theorem dsv_at' (q : Fin 16) (i : Fin 128) (g : Fin 8) (j : Fin 128) :
    res_main_v86 V (ix5 g b q j i) = (a.dsv (rowAt (seqChunk b q) i) (colAt g j) : EReal) := by
  pointwise [res_main_v86]
  exact dsv_at h b q i g j

theorem dvn_at (j : Fin 1024) : res_main_v90 V (ix3 b s j) = (a.dvn (row b s) j : EReal) := by
  obtain ⟨q, i, rfl⟩ := seqRow_exists s
  obtain ⟨g, k, rfl⟩ := colAt_exists j
  unfold res_main_v90
  refine (join_read _ b q i g k).trans ?_
  pointwise
  simp only [dsv_at' h, wm_at h, mul_real, sum_real]
  rw [row_seqRow, In.dvn_at]
  exact congrArg _ (Finset.sum_congr rfl fun k _ => mul_comm _ _)

theorem dvhat_at (j : Fin 1024) : res_main_v95 V (ix3 b s j) = ((a.dvn (row b s) j * a.gv j : ℝ) : EReal) := by
  pointwise [res_main_v95]
  rw [dvn_at h, vgain_at h, mul_real]

theorem back1_at (j : Fin 1024) :
    res_main_v101 V (ix3 b s j) = ((a.dvn (row b s) j * a.gv j * rstd (a.vc (row b s)) : ℝ) : EReal) := by
  pointwise [res_main_v101]
  rw [dvhat_at h, rstd_v h, mul_real]

theorem back2_at (j : Fin 1024) :
    res_main_v110 V (ix3 b s j) = (((∑ k, a.vc (row b s) k * (a.dvn (row b s) k * a.gv k))
      * (-(1 / 2) * (rstd (a.vc (row b s)) / var (a.vc (row b s)))) / 1024 * (2 * a.vc (row b s) j) : ℝ) : EReal) := by
  pointwise [res_main_v110]
  simp only [dvhat_at h, rstd_v h, var_v h, centred_at h, centred_at' h, mul_real, sum_real, bits_1024, bits_neg_half, bits_two, div_1024, div_var,
    Fin.sum_univ_one]

theorem dz_u (j : Fin 1024) : res_main_v121 V (ix3 b s (colU j)) = ((a.dy (row b s) j * a.sv (row b s) j : ℝ) : EReal) := by
  pointwise [res_main_v121]
  rw [dif_pos (show (colU j).val < 1024 from j.isLt), h.dy, ← mul_real]
  exact congrArg _ (sv_at h b s j)

theorem dz_v (j : Fin 1024) : res_main_v121 V (ix3 b s (colV j)) = (a.dv (row b s) j : EReal) := by
  pointwise [res_main_v121]
  have e : (colV j).val - 1024 = j.val := by show 1024 + j.val - 1024 = j.val; omega
  rw [dif_neg (show ¬ (colV j).val < 1024 by show ¬ 1024 + j.val < 1024; omega)]
  simp only [e, back1_at h, back2_at h, neg_real, sum_real, add_real, bits_1024, div_1024, Fin.sum_univ_one]
  exact congrArg _ (layer_bwd _ (fun k => a.dvn (row b s) k * a.gv k) j)

theorem dp_at (j : Fin 2048) : res_main_v132 V (ix3 b s j) = (a.dp (row b s) j : EReal) := by
  rcases col_exists j with ⟨k, rfl⟩ | ⟨k, rfl⟩
  all_goals pointwise [res_main_v132]
  · rw [dz_u h, half_p h, quot_at h, erfc_at h, sqrt_at, bits_half]
    simp only [mul_real]
    exact (gelu_back _ _).trans (congrArg _ (a.dp_colU _ k).symm)
  · rw [dz_v h, half_p h, quot_at h, erfc_at h, sqrt_at, bits_half]
    simp only [mul_real]
    exact (gelu_back _ _).trans (congrArg _ (a.dp_colV _ k).symm)

theorem dh_at (d : Fin 1024) : res_main_v133 V (ix3 b s d) = (a.dh (row b s) d : EReal) := by
  pointwise [res_main_v133]
  simp only [dp_at h, h.win, mul_real, sum_real]; rfl

theorem dhat_at (d : Fin 1024) : res_main_v138 V (ix3 b s d) = ((a.dh (row b s) d * a.g d : ℝ) : EReal) := by
  pointwise [res_main_v138]
  rw [dh_at h, gain_at h, mul_real]

theorem back_at (d : Fin 1024) :
    res_main_v150 V (ix3 b s d) = (((∑ k, a.x (row b s) k * (a.dh (row b s) k * a.g k))
      * (-(1 / 2) * (rstd (a.x (row b s)) / var (a.x (row b s)))) / 1024 : ℝ) : EReal) := by
  pointwise [res_main_v150]
  simp only [dhat_at h, rstd_x h, var_x h, h.x, mul_real, sum_real, bits_1024, bits_neg_half, div_1024, div_var, Fin.sum_univ_one]

theorem p_real : truncf .bf16 (shapeCast S4096x2048 (res_main_v132 V) shapeCasts_S2x2048x2048_S4096x2048) bitsLt_bf16_f32
    = (fun i : S4096x2048.Idx => ((a.dp (i 0) (i 1) : ℝ) : EReal)) := by
  funext i
  idx_vars i
  obtain ⟨b, s, rfl⟩ := row_exists i0
  exact (flat_wide _ b s i1).trans (dp_at h b s i1)

theorem vgain_real : broadcastInDim S1x1024 ![1] bcast_S1024_S1x1024_1 (Host.reduceAdd (shapeCast S1x1x1024
      (Host.reduceAdd (mulf (res_main_v55 V) (res_main_v90 V)) (constant S_ .f32 0x00000000#32) reducesTo_S2x2048x1024_S1024_d0_1 h_S_)
      shapeCasts_S1024_S1x1x1024) (constant S_ .f32 0x00000000#32) reducesTo_S1x1x1024_S1024_d0_1 h_S_)
    = (fun i : S1x1024.Idx => ((∑ n, a.dvgain n (i 1) : ℝ) : EReal)) := by
  funext i
  idx_vars i
  pointwise
  simp only [vhat_at h, dvn_at h, mul_real, sum_real, Fin.sum_univ_one]
  refine congrArg _ ((Finset.sum_congr rfl fun b _ => Finset.sum_congr rfl fun s _ => mul_comm _ _).trans (sum_rows fun n => a.dvgain n i1))

theorem mix_real : Host.dotGeneral (F := Ideal) (φ₁ := .f32) (φ₂ := .f32) dot_S8x2x16x128x128_S2x16x128x8x128_S8x128x128_123_014_4_2_0_3 none
      (res_main_v86 V : FVec Ideal S8x2x16x128x128 .f32) (res_main_v59 V : FVec Ideal S2x16x128x8x128 .f32)
    = (fun i : S8x128x128.Idx => ((∑ q, a.dmix q (i 0) (i 1) (i 2) : ℝ) : EReal)) := by
  funext i
  idx_vars i
  refine (dot_mix _ _ i0 i1 i2).trans ?_
  simp only [dsv_at' h, vn_at h, mul_real, sum_real]
  exact congrArg _ (sum_chunks fun q => a.dmix q i0 i1 i2)

theorem off_real : broadcastInDim S8x128x1 ![0, 1] bcast_S8x128_S8x128x1_0_1 (transpose S8x128 [1, 0] (Host.reduceAdd (shapeCast S1x1x128x8x1
      (Host.reduceAdd (res_main_v81 V) (constant S_ .f32 0x00000000#32) reducesTo_S2x16x128x8x128_S128x8_d0_1_4 h_S_)
      shapeCasts_S128x8_S1x1x128x8x1) (constant S_ .f32 0x00000000#32) reducesTo_S1x1x128x8x1_S128x8_d0_1_4 h_S_)
      transposes_S128x8_S8x128_1_0)
    = (fun i : S8x128x1.Idx => ((∑ q, a.doff q (i 0) (i 1) : ℝ) : EReal)) := by
  funext i
  idx_vars i
  pointwise
  simp only [sum_outer]
  pointwise
  simp only [sum_outer, dsv_at h, sum_real, Fin.sum_univ_one]
  exact (zero_add _).trans (congrArg _ (sum_chunks fun q => a.doff q i0 i1))

theorem x_real : shapeCast S4096x1024 (addf (addf (addf (V (Proc.devRef .tc main_arg7)) (mulf (res_main_v138 V)
      (broadcastInDim S2x2048x1024 ![0, 1, 2] bcast_S2x2048x1_S2x2048x1024_0_1_2 (res_main_v9 V))))
      (mulf (V (Proc.devRef .tc main_arg0)) (res_main_v150 V))) (mulf (res_main_v150 V) (V (Proc.devRef .tc main_arg0))))
      shapeCasts_S2x2048x1024_S4096x1024
    = (fun i : S4096x1024.Idx => ((a.dx (i 0) (i 1) : ℝ) : EReal)) := by
  funext i
  idx_vars i
  obtain ⟨b, s, rfl⟩ := row_exists i0
  refine (flat _ b s i1).trans ?_
  pointwise
  rw [h.dres, h.x, dhat_at h, rstd_x h, back_at h]
  simp only [mul_real, add_real]
  exact congrArg _ (norm_bwd_add _ (a.x (row b s)) (fun k => a.dh (row b s) k * a.g k) i1)

theorem gain_real : broadcastInDim S1x1024 ![1] bcast_S1024_S1x1024_1 (Host.reduceAdd (shapeCast S1x1x1024
      (Host.reduceAdd (mulf (res_main_v14 V) (res_main_v133 V)) (constant S_ .f32 0x00000000#32) reducesTo_S2x2048x1024_S1024_d0_1 h_S_)
      shapeCasts_S1024_S1x1x1024) (constant S_ .f32 0x00000000#32) reducesTo_S1x1x1024_S1024_d0_1 h_S_)
    = (fun i : S1x1024.Idx => ((∑ n, a.dgain n (i 1) : ℝ) : EReal)) := by
  funext i
  idx_vars i
  pointwise
  simp only [hat_at h, dh_at h, mul_real, sum_real, Fin.sum_univ_one]
  refine congrArg _ ((Finset.sum_congr rfl fun b _ => Finset.sum_congr rfl fun s _ => mul_comm _ _).trans (sum_rows fun n => a.dgain n i1))

end Stages

/-- The memory's arguments hold the inputs. -/
abbrev Real (m : (ℓ : Loc nD τ sig) → Buf (Elt Ideal) ℓ) (c : Dev nD) (a : In) : Prop :=
  Holds a (m ((c : Thread nD τ).loc main_arg0)) (m ((c : Thread nD τ).loc main_arg1)) (m ((c : Thread nD τ).loc main_arg2))
    (m ((c : Thread nD τ).loc main_arg3)) (m ((c : Thread nD τ).loc main_arg4)) (m ((c : Thread nD τ).loc main_arg5))
    (m ((c : Thread nD τ).loc main_arg6)) (m ((c : Thread nD τ).loc main_arg7))

theorem real_run (m : (ℓ : Loc nD τ sig) → Buf (Elt Ideal) ℓ) (ρ : Dev nD → PrngReg) (a : Dev nD → In) (h : ∀ c, Real m c (a c)) :
    θ_run defs (onTc (τ := τ) (main (F := Ideal))) ⟨m, fun _ => 0, ρ⟩ fun r => ∀ c : Dev nD,
      r.2.mem ((c.tc : Thread nD τ).loc main_v156) = (fun i : S4096x2048.Idx => ((a c).dp (i 0) (i 1) : EReal))
      ∧ r.2.mem ((c.tc : Thread nD τ).loc main_v157) = (fun i : S1x1024.Idx => ((∑ n, (a c).dvgain n (i 1) : ℝ) : EReal))
      ∧ r.2.mem ((c.tc : Thread nD τ).loc main_v87) = (fun i : S8x128x128.Idx => ((∑ q, (a c).dmix q (i 0) (i 1) (i 2) : ℝ) : EReal))
      ∧ r.2.mem ((c.tc : Thread nD τ).loc main_v158) = (fun i : S8x128x1.Idx => ((∑ q, (a c).doff q (i 0) (i 1) : ℝ) : EReal))
      ∧ r.2.mem ((c.tc : Thread nD τ).loc main_v159) = (fun i : S4096x1024.Idx => ((a c).dx (i 0) (i 1) : EReal))
      ∧ r.2.mem ((c.tc : Thread nD τ).loc main_v160) = (fun i : S1x1024.Idx => ((∑ n, (a c).dgain n (i 1) : ℝ) : EReal))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7) :=
  (θ_run defs _ _).mono (fun r hr c => ⟨(hr c).1.trans (p_real (h c)), (hr c).2.1.trans (vgain_real (h c)),
    (hr c).2.2.1.trans (mix_real (h c)), (hr c).2.2.2.1.trans (off_real (h c)), (hr c).2.2.2.2.1.trans (x_real (h c)),
    (hr c).2.2.2.2.2.1.trans (gain_real (h c)), (hr c).2.2.2.2.2.2⟩) (run m ρ)

end Cert.GmlpRefIdeal.Value

end
-- ==== Proof.GmlpClaim.lean ====
/- The gated spatial-mixing block's backward pair: on finite arguments both programs leave the same six arrays. -/
module

public import proofs.«01_k».proof.Defs
public import proofs.«01_k».proof.Proof.GmlpKernel
public import proofs.«01_k».proof.Proof.GmlpRef
public import proofs.«01_k».proof.Proof.Gen.GmlpBwd.Frame
public import proofs.«01_k».proof.Proof.Gen.GmlpBwdIdeal.Frame
public import proofs.«01_k».proof.Proof.Gen.Pre_finite_gmlp
public import Idealize.ShloMosaic.Lib.Quiescent

@[expose] public section

noncomputable section

namespace Cert.Gmlp

open Idealize.ShloMosaic Idealize.ShloMosaic.TcCoe Idealize.SL.Sem Cert.Reals

theorem real (m : (ℓ : Loc GmlpBwdIdeal.nD GmlpBwdIdeal.τ GmlpBwdIdeal.sig) → Buf (Elt Ideal) ℓ) (h : Pre_GmlpBwdIdeal_finite_gmlp m)
    (c : Dev GmlpBwdIdeal.nD) : GmlpBwdIdeal.Value.Real m c := by
  obtain ⟨h06, h7⟩ := both_of_and (h c)
  obtain ⟨h05, h6⟩ := both_of_and h06
  obtain ⟨h04, h5⟩ := both_of_and h05
  obtain ⟨h03, h4⟩ := both_of_and h04
  obtain ⟨h02, h3⟩ := both_of_and h03
  obtain ⟨h01, h2⟩ := both_of_and h02
  obtain ⟨h0, h1⟩ := both_of_and h01
  exact ⟨rows_real (real_of_finite _ _ _ _ _ _ (congrFun h0 ix0)), entries_real (real_of_finite _ _ _ _ _ _ (congrFun h1 ix0)),
    matrix_real (real_of_finite _ _ _ _ _ _ (congrFun h2 ix0)), entries_real (real_of_finite _ _ _ _ _ _ (congrFun h3 ix0)),
    fun g i k => real_of_finite _ _ _ _ _ _ (congrFun h4 ix0) (ix3 g i k), matrix_real (real_of_finite _ _ _ _ _ _ (congrFun h5 ix0)),
    rows_real (real_of_finite _ _ _ _ _ _ (congrFun h6 ix0)), rows_real (real_of_finite _ _ _ _ _ _ (congrFun h7 ix0))⟩

theorem frame_ref : quiescent_GmlpRefIdeal := fun m ρ _ =>
  (θ_run GmlpRefIdeal.defs _ _).mono (fun r h => ⟨fun c => (h c).2.2.2.2.2.2, sem_eq_zero_of_no_sems (by decide) r.2⟩)
    (GmlpRefIdeal.Value.run m ρ)

/-- The named constants are within rounding of the printed ones. -/
theorem preserves : preserves_GmlpBwd_GmlpBwdIdeal :=
  ⟨IdealRules.named_const.statement Cert.GmlpBwdIdeal.κ "root_half" .f32 0x3F3504F3#32 (((Real.sqrt 2)⁻¹ : ℝ) : EReal) rfl,
    IdealRules.named_const.statement Cert.GmlpBwdIdeal.κ "density" .f32 0x3ECC422A#32 (((9465531 / 16777216) * (Real.sqrt 2)⁻¹ : ℝ) : EReal) rfl⟩

theorem algebraic : algebraic_GmlpBwdIdeal_GmlpRefIdeal_pre_finite_gmlp := by
  intro m g m' g' hpre hargs
  have hr := real m hpre
  refine ⟨_, _, _, _, _, _, (θ_run GmlpBwdIdeal.defs _ _).mono (fun r h c =>
      ⟨(h c).1.trans (GmlpBwdIdeal.Value.final_p (hr c)), (h c).2.1.trans (GmlpBwdIdeal.Value.final_vgain (hr c)),
      (h c).2.2.1.trans (GmlpBwdIdeal.Value.final_mix (hr c)), (h c).2.2.2.1.trans (GmlpBwdIdeal.Value.final_off (hr c)),
      (h c).2.2.2.2.1.trans (GmlpBwdIdeal.Value.final_x (hr c)), (h c).2.2.2.2.2.1.trans (GmlpBwdIdeal.Value.final_gain (hr c)), (h c).2.2.2.2.2.2⟩)
    (GmlpBwdIdeal.Value.run_blocks m g), ?_⟩
  refine GmlpRefIdeal.Value.real_run m' g' (GmlpBwdIdeal.Value.inp m) fun c => ?_
  obtain ⟨e0, e1, e2, e3, e4, e5, e6, e7⟩ := hargs c
  unfold GmlpRefIdeal.Value.Real
  rw [e0, e1, e2, e3, e4, e5, e6, e7]
  exact hr c

end Cert.Gmlp

end
-- ==== Proof.FfnFReal.lean ====
/- The gated feed-forward block's result on real rows. -/
module

public import proofs.«01_k».proof.Proof.FfnReal

@[expose] public section

noncomputable section

namespace Cert.Ffn

open Idealize.ShloMosaic Cert.Reals

namespace In

variable (a : In) (n : Fin 4096)

/-- The scaled normalised row. -/
def h (d : Fin 1024) : ℝ := a.hat n d * a.g d

/-- The gated product. -/
def act (j : Fin 2816) : ℝ := a.gate n j * sig (a.gate n j) * a.up n j

/-- The block's result. -/
def out (d : Fin 1024) : ℝ := a.x1 n d + ∑ j, a.act n j * a.wd j d

theorem h_def (d : Fin 1024) : a.x1 n d * rstd (a.x1 n) * a.g d = a.h n d := rfl
theorem gate_of_h (j : Fin 2816) : ∑ d, a.h n d * a.wg d j = a.gate n j := rfl
theorem up_of_h (j : Fin 2816) : ∑ d, a.h n d * a.wu d j = a.up n j := rfl
theorem act_def (j : Fin 2816) : a.gate n j * sig (a.gate n j) * a.up n j = a.act n j := rfl
theorem out_def (d : Fin 1024) : a.x1 n d + ∑ j, a.act n j * a.wd j d = a.out n d := rfl

end In

/-- No cotangent enters the forward call: an array of zeros stands for it. -/
theorem no_cotangent (b : Fin 2) (s : Fin 2048) (d : Fin 1024) : (0 : EReal) = (((0 : EReal).toReal : ℝ) : EReal) :=
  (congrArg ((↑) : ℝ → EReal) EReal.toReal_zero).symm

end Cert.Ffn

end
-- ==== Proof.FfnFKernel.lean ====
/- The feed-forward block's forward kernel on real inputs: the six arrays it leaves. -/
module

public import proofs.«01_k».proof.Proof.FfnFReal
public import proofs.«01_k».proof.Proof.FfnKernel
public import proofs.«01_k».proof.Proof.Gen.FfnFwdIdeal.Value
public import Idealize.ShloMosaic.Lib.Pipeline.ValueKit
public import Idealize.ShloMosaic.Lib.Claim

@[expose] public section

set_option maxRecDepth 16384

noncomputable section

namespace Cert.FfnFwdIdeal.Value

open Cert.FfnFwdIdeal Cert.FfnFwdIdeal.Gen Cert.Reals Cert.Ffn Idealize.ShloMosaic Idealize.ShloMosaic.TcCoe Idealize.SL.Sem
open Cert.FfnBwdIdeal.Value (col0 col1 col2 sum_cols columns)

section Block

variable {a : In} {n : Fin 256 → Fin 4096}

/-! ## The input rows and the first chunk of columns -/

section First

variable {x : Vec Ideal S256x1024 .f32} {y : Vec Ideal S256x1024 .bf16} {wo : Vec Ideal S1024x1024 .bf16} {g : Vec Ideal S1x1024 .f32}
  {wg wu : Vec Ideal S1024x1024 .bf16} {f : Fin 1024 → Fin 2816}
  (hx : ∀ r d, x (ix2 r d) = (a.x (n r) d : EReal)) (hy : ∀ r d, y (ix2 r d) = (a.y (n r) d : EReal))
  (hwo : ∀ k d, wo (ix2 k d) = (a.wo k d : EReal)) (hg : ∀ d, g (ix2 0 d) = (a.g d : EReal))
  (hwg : ∀ j d, wg (ix2 j d) = (a.wg d (f j) : EReal)) (hwu : ∀ j d, wu (ix2 j d) = (a.wu d (f j) : EReal))

include hx hy hwo in
theorem x1_block (r : Fin 256) (d : Fin 1024) : k0_pay7 x y wo (ix2 r d) = (a.x1 (n r) d : EReal) := by
  pointwise [k0_pay7]
  simp only [hx, hy, hwo, mul_real, sum_real, add_real, In.x1_def]

include hx hy hwo hg in
theorem h_block (r : Fin 256) (d : Fin 1024) : k0_pay8 x y wo g (ix2 r d) = (a.h (n r) d : EReal) := by
  pointwise [k0_pay8]
  simp only [x1_block hx hy hwo, hg, bits_1024, bits_eps, mul_real, add_real, sum_real, div_1024, var_def, rsqrt_var, In.h_def]

include hx hy hwo hg hwg in
theorem gate_first (r : Fin 256) (j : Fin 1024) : k0_pay9 x y wo g wg (ix2 r j) = (a.gate (n r) (f j) : EReal) := by
  pointwise [k0_pay9]
  simp only [h_block hx hy hwo hg, hwg, mul_real, sum_real, In.gate_of_h]

include hx hy hwo hg hwu in
theorem up_first (r : Fin 256) (j : Fin 1024) : k0_pay10 x y wo g wu (ix2 r j) = (a.up (n r) (f j) : EReal) := by
  pointwise [k0_pay10]
  simp only [h_block hx hy hwo hg, hwu, mul_real, sum_real, In.up_of_h]

include hx hy hwo hg hwg hwu in
theorem act_first (r : Fin 256) (j : Fin 1024) :
    k0_pay13 (k0_pay9 x y wo g wg) (k0_pay10 x y wo g wu) (ix2 r j) = (a.act (n r) (f j) : EReal) := by
  pointwise [k0_pay13]
  simp only [gate_first hx hy hwo hg hwg, up_first hx hy hwo hg hwu, logistic_real, mul_real, In.act_def]

end First

/-! ## The other chunks -/

section Second

variable {h : FVec Ideal S256x1024 .bf16} {wg wu : Vec Ideal S1024x1024 .bf16} {f : Fin 1024 → Fin 2816}
  (hh : ∀ r d, h (ix2 r d) = (a.h (n r) d : EReal))
  (hwg : ∀ j d, wg (ix2 j d) = (a.wg d (f j) : EReal)) (hwu : ∀ j d, wu (ix2 j d) = (a.wu d (f j) : EReal))

include hh hwg in
theorem gate_second (r : Fin 256) (j : Fin 1024) : k0_pay14 h wg (ix2 r j) = (a.gate (n r) (f j) : EReal) := by
  pointwise [k0_pay14]
  simp only [hh, hwg, mul_real, sum_real, In.gate_of_h]

include hh hwu in
theorem up_second (r : Fin 256) (j : Fin 1024) : k0_pay15 h wu (ix2 r j) = (a.up (n r) (f j) : EReal) := by
  pointwise [k0_pay15]
  simp only [hh, hwu, mul_real, sum_real, In.up_of_h]

include hh hwg hwu in
theorem act_second (r : Fin 256) (j : Fin 1024) : k0_pay18 h wg wu (ix2 r j) = (a.act (n r) (f j) : EReal) := by
  pointwise [k0_pay18]
  simp only [gate_second hh hwg, up_second hh hwu, logistic_real, mul_real, In.act_def]

end Second

section Third

variable {h : FVec Ideal S256x1024 .bf16} {wg wu : Vec Ideal S768x1024 .bf16} {f : Fin 768 → Fin 2816}
  (hh : ∀ r d, h (ix2 r d) = (a.h (n r) d : EReal))
  (hwg : ∀ j d, wg (ix2 j d) = (a.wg d (f j) : EReal)) (hwu : ∀ j d, wu (ix2 j d) = (a.wu d (f j) : EReal))

include hh hwg in
theorem gate_third (r : Fin 256) (j : Fin 768) : k0_pay1 h wg (ix2 r j) = (a.gate (n r) (f j) : EReal) := by
  pointwise [k0_pay1]
  simp only [hh, hwg, mul_real, sum_real, In.gate_of_h]

include hh hwu in
theorem up_third (r : Fin 256) (j : Fin 768) : k0_pay2 h wu (ix2 r j) = (a.up (n r) (f j) : EReal) := by
  pointwise [k0_pay2]
  simp only [hh, hwu, mul_real, sum_real, In.up_of_h]

include hh hwg hwu in
theorem act_third (r : Fin 256) (j : Fin 768) : k0_pay5 h wg wu (ix2 r j) = (a.act (n r) (f j) : EReal) := by
  pointwise [k0_pay5]
  simp only [gate_third hh hwg, up_third hh hwu, logistic_real, mul_real, In.act_def]

end Third

/-- The block's result, from the three chunks' gated products. -/
theorem out_block {x1 : FVec Ideal S256x1024 .f32} {h : FVec Ideal S256x1024 .bf16} {g0 u0 : FVec Ideal S256x1024 .f32}
    {wd0 wd1 wg1 wu1 : Vec Ideal S1024x1024 .bf16} {wd2 wg2 wu2 : Vec Ideal S768x1024 .bf16}
    (hx1 : ∀ r d, x1 (ix2 r d) = (a.x1 (n r) d : EReal))
    (h0 : ∀ r j, k0_pay13 g0 u0 (ix2 r j) = (a.act (n r) (col0 j) : EReal))
    (h1 : ∀ r j, k0_pay18 h wg1 wu1 (ix2 r j) = (a.act (n r) (col1 j) : EReal))
    (h2 : ∀ r j, k0_pay5 h wg2 wu2 (ix2 r j) = (a.act (n r) (col2 j) : EReal))
    (hd0 : ∀ j d, wd0 (ix2 j d) = (a.wd (col0 j) d : EReal)) (hd1 : ∀ j d, wd1 (ix2 j d) = (a.wd (col1 j) d : EReal))
    (hd2 : ∀ j d, wd2 (ix2 j d) = (a.wd (col2 j) d : EReal)) (r : Fin 256) (d : Fin 1024) :
    k0_pay6 x1 h (k0_pay19 h g0 u0 wd0 wg1 wu1 wd1) wg2 wu2 wd2 (ix2 r d) = (a.out (n r) d : EReal) := by
  pointwise [k0_pay6, k0_pay19]
  simp only [hx1, h0, h1, h2, hd0, hd1, hd2, mul_real, sum_real, add_real]
  rw [In.out, ← sum_cols]

end Block

/-! ## The windows -/

variable (m : (ℓ : Loc nD τ sig) → Buf (Elt Ideal) ℓ) (c : Dev nD)

/-- The inputs the memory holds; no cotangent. -/
abbrev inp : In := input (m ((c : Thread nD τ).loc main_arg0)) (m ((c : Thread nD τ).loc main_arg1)) (m ((c : Thread nD τ).loc main_arg2))
  (m ((c : Thread nD τ).loc main_arg3)) (m ((c : Thread nD τ).loc main_arg4)) (m ((c : Thread nD τ).loc main_arg5))
  (m ((c : Thread nD τ).loc main_arg6)) (fun _ => (0 : EReal))

/-- The memory's arguments are real. -/
abbrev Real : Prop := Holds (inp m c) (m ((c : Thread nD τ).loc main_arg0)) (m ((c : Thread nD τ).loc main_arg1))
  (m ((c : Thread nD τ).loc main_arg2)) (m ((c : Thread nD τ).loc main_arg3)) (m ((c : Thread nD τ).loc main_arg4))
  (m ((c : Thread nD τ).loc main_arg5)) (m ((c : Thread nD τ).loc main_arg6)) (fun _ => (0 : EReal))

theorem idx : ∀ t : Fin cfg0.N, win0_0.index t = ![t.val, 0] ∧ win0_1.index t = ![0, 0] ∧ win0_2.index t = ![t.val, 0]
    ∧ win0_3.index t = ![0, 0] ∧ win0_4.index t = ![0, 0] ∧ win0_5.index t = ![0, 0] ∧ win0_6.index t = ![0, 0]
    ∧ win0_7.index t = ![t.val, 0] ∧ win0_8.index t = ![t.val, 0] ∧ win0_9.index t = ![t.val, 0] ∧ win0_10.index t = ![t.val, 0]
    ∧ win0_11.index t = ![t.val, 0] ∧ win0_12.index t = ![t.val, 0] :=
  (by decide +kernel : ∀ t : Fin grid0.N, _)

theorem lt_points : ∀ t : Fin cfg0.N, t.val < 16 := (by decide +kernel : ∀ t : Fin grid0.N, _)

/-- Row `r` of block `t`. -/
def at_ (t : Fin cfg0.N) (r : Fin 256) : Fin 4096 := ⟨t.val * 256 + r.val, by have := lt_points t; omega⟩

variable {m c}

theorem block_y (h : Real m c) (t : Fin cfg0.N) (r : Fin 256) (d : Fin 1024) :
    (iblk m c 0 t : Vec Ideal S256x1024 .bf16) (ix2 r d) = ((inp m c).y (at_ t r) d : EReal) := by
  have e : ((cfg0.win 0).blk t).view.emb (ix2 r d) = (ix2 (at_ t r) d : S4096x1024.Idx) := by blk_ext [idx t] <;> rfl
  blk_simp [iblk]
  rw [e]
  entry_read
  pointwise
  rw [h.y, row_split]

theorem block_wo (h : Real m c) (t : Fin cfg0.N) (k d : Fin 1024) :
    (iblk m c 1 t : Vec Ideal S1024x1024 .bf16) (ix2 k d) = ((inp m c).wo k d : EReal) := by
  have e : ((cfg0.win 1).blk t).view.emb (ix2 k d) = (ix2 k d : S1024x1024.Idx) := by blk_ext [idx t] <;> rfl
  blk_simp [iblk]
  rw [e]
  entry_read
  pointwise
  rw [h.wo]

theorem block_x (h : Real m c) (t : Fin cfg0.N) (r : Fin 256) (d : Fin 1024) :
    (iblk m c 2 t : Vec Ideal S256x1024 .f32) (ix2 r d) = ((inp m c).x (at_ t r) d : EReal) := by
  have e : ((cfg0.win 2).blk t).view.emb (ix2 r d) = (ix2 (at_ t r) d : S4096x1024.Idx) := by blk_ext [idx t] <;> rfl
  blk_simp [iblk]
  rw [e]
  entry_read
  pointwise
  rw [h.x, row_split]

theorem block_g (h : Real m c) (t : Fin cfg0.N) (d : Fin 1024) :
    (iblk m c 3 t : Vec Ideal S1x1024 .f32) (ix2 0 d) = ((inp m c).g d : EReal) := by
  have e : ((cfg0.win 3).blk t).view.emb (ix2 0 d) = (ix2 0 d : S1x1024.Idx) := by blk_ext [idx t] <;> rfl
  blk_simp [iblk]
  rw [e]
  entry_read
  pointwise
  rw [h.g]

theorem block_wg (h : Real m c) (t : Fin cfg0.N) (j : Fin 2816) (d : Fin 1024) :
    (iblk m c 4 t : Vec Ideal S2816x1024 .bf16) (ix2 j d) = ((inp m c).wg d j : EReal) := by
  have e : ((cfg0.win 4).blk t).view.emb (ix2 j d) = (ix2 j d : S2816x1024.Idx) := by blk_ext [idx t] <;> rfl
  blk_simp [iblk]
  rw [e]
  entry_read
  pointwise
  rw [h.wg]

theorem block_wu (h : Real m c) (t : Fin cfg0.N) (j : Fin 2816) (d : Fin 1024) :
    (iblk m c 5 t : Vec Ideal S2816x1024 .bf16) (ix2 j d) = ((inp m c).wu d j : EReal) := by
  have e : ((cfg0.win 5).blk t).view.emb (ix2 j d) = (ix2 j d : S2816x1024.Idx) := by blk_ext [idx t] <;> rfl
  blk_simp [iblk]
  rw [e]
  entry_read
  pointwise
  rw [h.wu]

theorem block_wd (h : Real m c) (t : Fin cfg0.N) (j : Fin 2816) (d : Fin 1024) :
    (iblk m c 6 t : Vec Ideal S2816x1024 .bf16) (ix2 j d) = ((inp m c).wd j d : EReal) := by
  have e : ((cfg0.win 6).blk t).view.emb (ix2 j d) = (ix2 j d : S2816x1024.Idx) := by blk_ext [idx t] <;> rfl
  blk_simp [iblk]
  rw [e]
  entry_read
  pointwise
  rw [h.wd]

/-! The chunks the body loads of a weight. -/

section Chunks

variable {W : Vec Ideal S2816x1024 .bf16} {R : Fin 2816 → Fin 1024 → ℝ} (hW : ∀ j d, W (ix2 j d) = (R j d : EReal))

include hW in
theorem chunk0 (j d : Fin 1024) : View.ld W (Rect.unit ![0, 0] ![1024, 1024] inb_S2816x1024_S1024x1024_0_0) (ix2 j d) = (R (col0 j) d : EReal) :=
  (ld_rows _ _ j d (by omega)).trans (hW (col0 j) d)

include hW in
theorem chunk1 (j d : Fin 1024) : View.ld W (Rect.unit ![1024, 0] ![1024, 1024] inb_S2816x1024_S1024x1024_1024_0) (ix2 j d) = (R (col1 j) d : EReal) :=
  (ld_rows _ _ j d (by omega)).trans (hW (col1 j) d)

include hW in
theorem chunk2 (j : Fin 768) (d : Fin 1024) : View.ld W (Rect.unit ![2048, 0] ![768, 1024] inb_S2816x1024_S768x1024_2048_0) (ix2 j d) = (R (col2 j) d : EReal) :=
  (ld_rows _ _ j d (by omega)).trans (hW (col2 j) d)

end Chunks

/-! ## What the body leaves at a point -/

section Point

variable (h : Real m c) (t : Fin cfg0.N)

def x1_at := x1_block (block_x h t) (block_y h t) (block_wo h t)
def h_at := h_block (block_x h t) (block_y h t) (block_wo h t) (block_g h t)
def wg0 := chunk0 (R := fun j d => (inp m c).wg d j) (block_wg h t)
def wg1 := chunk1 (R := fun j d => (inp m c).wg d j) (block_wg h t)
def wg2 := chunk2 (R := fun j d => (inp m c).wg d j) (block_wg h t)
def wu0 := chunk0 (R := fun j d => (inp m c).wu d j) (block_wu h t)
def wu1 := chunk1 (R := fun j d => (inp m c).wu d j) (block_wu h t)
def wu2 := chunk2 (R := fun j d => (inp m c).wu d j) (block_wu h t)
def gate0_at := gate_first (f := col0) (block_x h t) (block_y h t) (block_wo h t) (block_g h t) (wg0 h t)
def up0_at := up_first (f := col0) (block_x h t) (block_y h t) (block_wo h t) (block_g h t) (wu0 h t)
def act0_at := act_first (f := col0) (block_x h t) (block_y h t) (block_wo h t) (block_g h t) (wg0 h t) (wu0 h t)
def act1_at := act_second (f := col1) (h_at h t) (wg1 h t) (wu1 h t)
def act2_at := act_third (f := col2) (h_at h t) (wg2 h t) (wu2 h t)

include h in
theorem rows_left (r : Fin 256) (d : Fin 1024) : (outsAt0 m c t).1 (ix2 r d) = ((inp m c).x1 (at_ t r) d : EReal)
    ∧ (outsAt0 m c t).2.1 (ix2 r d) = ((inp m c).out (at_ t r) d : EReal)
    ∧ (outsAt0 m c t).2.2.2.2.2 (ix2 r d) = ((inp m c).h (at_ t r) d : EReal) := by
  unfold outsAt0
  frame_out
  exact ⟨x1_at h t r d, out_block (x1_at h t) (act0_at h t) (act1_at h t) (act2_at h t) (chunk0 (block_wd h t)) (chunk1 (block_wd h t))
    (chunk2 (block_wd h t)) r d, h_at h t r d⟩

include h in
theorem columns_left (r : Fin 256) (j : Fin 2816) : (outsAt0 m c t).2.2.1 (ix2 r j) = ((inp m c).gate (at_ t r) j : EReal)
    ∧ (outsAt0 m c t).2.2.2.1 (ix2 r j) = ((inp m c).up (at_ t r) j : EReal)
    ∧ (outsAt0 m c t).2.2.2.2.1 (ix2 r j) = ((inp m c).act (at_ t r) j : EReal) := by
  unfold outsAt0
  frame_out
  exact ⟨columns (G := fun r j => (inp m c).gate (at_ t r) j) (gate0_at h t) (gate_second (h_at h t) (wg1 h t)) (gate_third (h_at h t) (wg2 h t)) r j,
    columns (G := fun r j => (inp m c).up (at_ t r) j) (up0_at h t) (up_second (h_at h t) (wu1 h t)) (up_third (h_at h t) (wu2 h t)) r j,
    columns (G := fun r j => (inp m c).act (at_ t r) j) (act0_at h t) (act1_at h t) (act2_at h t) r j⟩

end Point

/-! ## The arrays the call leaves -/

variable (m c) in
/-- Rows of 1024 and rows of 2816, as arrays. -/
def arr (f : In → Fin 4096 → Fin 1024 → ℝ) : S4096x1024.Idx → EReal := fun i => (f (inp m c) (i 0) (i 1) : EReal)
variable (m c) in
def arrWide (f : In → Fin 4096 → Fin 2816 → ℝ) : S4096x2816.Idx → EReal := fun i => (f (inp m c) (i 0) (i 1) : EReal)

theorem final_x1 (h : Real m c) : (dats m 0 c).arrAt 7 cfg0.N = arr m c In.x1 := by
  refine (dats m 0 c).arrAt_eq_of_covers 7 (arr m c In.x1) (by decide +kernel) fun t hf y => ?_
  blk_simp
  rw [after0_7]
  idx_vars y
  have e : ((cfg0.win 7).blk t).view.emb (ix2 y0 y1) = (ix2 (at_ t y0) y1 : S4096x1024.Idx) := by blk_ext [idx t] <;> rfl
  exact (rows_left h t y0 y1).1.trans (congrArg (arr m c In.x1) e).symm

theorem final_out (h : Real m c) : (dats m 0 c).arrAt 8 cfg0.N = arr m c In.out := by
  refine (dats m 0 c).arrAt_eq_of_covers 8 (arr m c In.out) (by decide +kernel) fun t hf y => ?_
  blk_simp
  rw [after0_8]
  idx_vars y
  have e : ((cfg0.win 8).blk t).view.emb (ix2 y0 y1) = (ix2 (at_ t y0) y1 : S4096x1024.Idx) := by blk_ext [idx t] <;> rfl
  exact (rows_left h t y0 y1).2.1.trans (congrArg (arr m c In.out) e).symm

theorem final_gate (h : Real m c) : (dats m 0 c).arrAt 9 cfg0.N = arrWide m c In.gate := by
  refine (dats m 0 c).arrAt_eq_of_covers 9 (arrWide m c In.gate) (by decide +kernel) fun t hf y => ?_
  blk_simp
  rw [after0_9]
  idx_vars y
  have e : ((cfg0.win 9).blk t).view.emb (ix2 y0 y1) = (ix2 (at_ t y0) y1 : S4096x2816.Idx) := by blk_ext [idx t] <;> rfl
  exact (columns_left h t y0 y1).1.trans (congrArg (arrWide m c In.gate) e).symm

theorem final_up (h : Real m c) : (dats m 0 c).arrAt 10 cfg0.N = arrWide m c In.up := by
  refine (dats m 0 c).arrAt_eq_of_covers 10 (arrWide m c In.up) (by decide +kernel) fun t hf y => ?_
  blk_simp
  rw [after0_10]
  idx_vars y
  have e : ((cfg0.win 10).blk t).view.emb (ix2 y0 y1) = (ix2 (at_ t y0) y1 : S4096x2816.Idx) := by blk_ext [idx t] <;> rfl
  exact (columns_left h t y0 y1).2.1.trans (congrArg (arrWide m c In.up) e).symm

theorem final_act (h : Real m c) : (dats m 0 c).arrAt 11 cfg0.N = arrWide m c In.act := by
  refine (dats m 0 c).arrAt_eq_of_covers 11 (arrWide m c In.act) (by decide +kernel) fun t hf y => ?_
  blk_simp
  rw [after0_11]
  idx_vars y
  have e : ((cfg0.win 11).blk t).view.emb (ix2 y0 y1) = (ix2 (at_ t y0) y1 : S4096x2816.Idx) := by blk_ext [idx t] <;> rfl
  exact (columns_left h t y0 y1).2.2.trans (congrArg (arrWide m c In.act) e).symm

theorem final_h (h : Real m c) : (dats m 0 c).arrAt 12 cfg0.N = arr m c In.h := by
  refine (dats m 0 c).arrAt_eq_of_covers 12 (arr m c In.h) (by decide +kernel) fun t hf y => ?_
  blk_simp
  rw [after0_12]
  idx_vars y
  have e : ((cfg0.win 12).blk t).view.emb (ix2 y0 y1) = (ix2 (at_ t y0) y1 : S4096x1024.Idx) := by blk_ext [idx t] <;> rfl
  exact (rows_left h t y0 y1).2.2.trans (congrArg (arr m c In.h) e).symm

end Cert.FfnFwdIdeal.Value

end
-- ==== Proof.FfnFRef.lean ====
/- The reference of the feed-forward block on real arguments: its six results as real quantities. -/
module

public import proofs.«01_k».proof.Proof.FfnFReal
public import proofs.«01_k».proof.Proof.Gen.FfnFwdRefIdeal.Run
public import Idealize.ShloMosaic.Lib.Claim

@[expose] public section

set_option maxRecDepth 16384

noncomputable section

namespace Cert.FfnFwdRefIdeal.Value

open Cert.FfnFwdRefIdeal Cert.FfnFwdRefIdeal.Gen Cert.Reals Cert.Ffn Idealize.ShloMosaic Idealize.ShloMosaic.TcCoe Idealize.SL.Sem

/-- The memory's arguments hold the inputs. -/
abbrev Real (m : (ℓ : Loc nD τ sig) → Buf (Elt Ideal) ℓ) (c : Dev nD) (a : In) : Prop :=
  Holds a (m ((c : Thread nD τ).loc main_arg0)) (m ((c : Thread nD τ).loc main_arg1)) (m ((c : Thread nD τ).loc main_arg2))
    (m ((c : Thread nD τ).loc main_arg3)) (m ((c : Thread nD τ).loc main_arg4)) (m ((c : Thread nD τ).loc main_arg5))
    (m ((c : Thread nD τ).loc main_arg6)) (fun _ => (0 : EReal))

/-- The lowered array at row `(b, s)` is the array before flattening at `(b, s)`. -/
theorem lowered (A : FVec Ideal S2x2048x1024 .f32) (b : Fin 2) (s : Fin 2048) (d : Fin 1024) :
    truncf .bf16 (shapeCast S4096x1024 A shapeCasts_S2x2048x1024_S4096x1024) bitsLt_bf16_f32 (ix2 (row b s) d) = A (ix3 b s d) := by
  refine Eq.trans ?_ (flat (h := shapeCasts_S2x2048x1024_S4096x1024) A b s d)
  rw [truncf_apply]
  rfl

section Results

variable {m : (ℓ : Loc nD τ sig) → Buf (Elt Ideal) ℓ} {c : Dev nD} {a : In} (h : Real m c a)

include h in
theorem out_real : res_main_v22 m c = (fun i : S4096x1024.Idx => (a.out (i 0) (i 1) : EReal)) := by
  funext i
  idx_vars i
  obtain ⟨b, s, rfl⟩ := row_exists i0
  unfold res_main_v22
  refine (flat _ b s i1).trans ?_
  pointwise
  simp only [h.x, h.g, h.y, h.wo, h.wg, h.wu, h.wd, bits_1024, bits_eps, bits_one, row_split, mul_real, add_real, sum_real, neg_real,
    In.x1_def, var_def, rsqrt_var, div_1024, exp_real, div_one_add_exp, In.h_def, In.gate_of_h, In.up_of_h, In.act_def, In.out_def]

include h in
theorem act_real : res_main_v28 m c = (fun i : S4096x2816.Idx => (a.act (i 0) (i 1) : EReal)) := by
  funext i
  idx_vars i
  pointwise [res_main_v28]
  simp only [h.x, h.g, h.y, h.wo, h.wg, h.wu, h.wd, bits_1024, bits_eps, bits_one, row_split, mul_real, add_real, sum_real, neg_real,
    In.x1_def, var_def, rsqrt_var, div_1024, exp_real, div_one_add_exp, In.h_def, In.gate_of_h, In.up_of_h, In.act_def, In.out_def]

end Results

set_option maxHeartbeats 1600000 in
theorem real_run (m : (ℓ : Loc nD τ sig) → Buf (Elt Ideal) ℓ) (ρ : Dev nD → PrngReg) (a : Dev nD → In) (h : ∀ c, Real m c (a c)) :
    θ_run defs (onTc (τ := τ) (main (F := Ideal))) ⟨m, fun _ => 0, ρ⟩ fun r => ∀ c : Dev nD,
      r.2.mem ((c.tc : Thread nD τ).loc main_v21) = (fun i : S4096x1024.Idx => ((a c).x1 (i 0) (i 1) : EReal))
      ∧ r.2.mem ((c.tc : Thread nD τ).loc main_v22) = (fun i : S4096x1024.Idx => ((a c).out (i 0) (i 1) : EReal))
      ∧ r.2.mem ((c.tc : Thread nD τ).loc main_v24) = (fun i : S4096x2816.Idx => ((a c).gate (i 0) (i 1) : EReal))
      ∧ r.2.mem ((c.tc : Thread nD τ).loc main_v26) = (fun i : S4096x2816.Idx => ((a c).up (i 0) (i 1) : EReal))
      ∧ r.2.mem ((c.tc : Thread nD τ).loc main_v28) = (fun i : S4096x2816.Idx => ((a c).act (i 0) (i 1) : EReal))
      ∧ r.2.mem ((c.tc : Thread nD τ).loc main_v30) = (fun i : S4096x1024.Idx => ((a c).h (i 0) (i 1) : EReal))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6) := by
  refine (θ_run defs _ _).mono (fun r hr c => ⟨(hr c).1.trans (?_ : _ = fun i : S4096x1024.Idx => ((a c).x1 (i 0) (i 1) : EReal)),
    (hr c).2.1.trans (out_real (h c)), (hr c).2.2.1.trans (?_ : _ = fun i : S4096x2816.Idx => ((a c).gate (i 0) (i 1) : EReal)),
    (hr c).2.2.2.1.trans (?_ : _ = fun i : S4096x2816.Idx => ((a c).up (i 0) (i 1) : EReal)), (hr c).2.2.2.2.1.trans (act_real (h c)),
    (hr c).2.2.2.2.2.1.trans (?_ : _ = fun i : S4096x1024.Idx => ((a c).h (i 0) (i 1) : EReal)), (hr c).2.2.2.2.2.2⟩) (run m ρ)
  all_goals
    clear hr
    have h := h c
    generalize a c = a at h ⊢
    funext i
    idx_vars i
  on_goal 1 =>
    obtain ⟨b, s, rfl⟩ := row_exists i0
    refine (flat _ b s i1).trans ?_
  on_goal 4 =>
    obtain ⟨b, s, rfl⟩ := row_exists i0
    refine (lowered _ b s i1).trans ?_
  all_goals
    pointwise
    simp only [h.x, h.g, h.y, h.wo, h.wg, h.wu, h.wd, bits_1024, bits_eps, bits_one, row_split, mul_real, add_real, sum_real, neg_real,
      In.x1_def, var_def, rsqrt_var, div_1024, exp_real, div_one_add_exp, In.h_def, In.gate_of_h, In.up_of_h, In.act_def, In.out_def]

end Cert.FfnFwdRefIdeal.Value

end
-- ==== Proof.FfnFClaim.lean ====
/- The feed-forward block's forward pair: on finite arguments both programs leave the same six arrays. -/
module

public import proofs.«01_k».proof.Defs
public import proofs.«01_k».proof.Proof.FfnFKernel
public import proofs.«01_k».proof.Proof.FfnFRef
public import proofs.«01_k».proof.Proof.Gen.FfnFwd.Frame
public import proofs.«01_k».proof.Proof.Gen.FfnFwdIdeal.Frame
public import proofs.«01_k».proof.Proof.Gen.Pre_finite_ffn_fwd
public import Idealize.ShloMosaic.Lib.Quiescent

@[expose] public section

noncomputable section

namespace Cert.FfnF

open Idealize.ShloMosaic Idealize.ShloMosaic.TcCoe Idealize.SL.Sem Cert.Reals Cert.Ffn

theorem real (m : (ℓ : Loc FfnFwdIdeal.nD FfnFwdIdeal.τ FfnFwdIdeal.sig) → Buf (Elt Ideal) ℓ) (h : Pre_FfnFwdIdeal_finite_ffn_fwd m)
    (c : Dev FfnFwdIdeal.nD) : FfnFwdIdeal.Value.Real m c := by
  obtain ⟨h05, h6⟩ := both_of_and (h c)
  obtain ⟨h04, h5⟩ := both_of_and h05
  obtain ⟨h03, h4⟩ := both_of_and h04
  obtain ⟨h02, h3⟩ := both_of_and h03
  obtain ⟨h01, h2⟩ := both_of_and h02
  obtain ⟨h0, h1⟩ := both_of_and h01
  exact ⟨rows_real (real_of_finite _ _ _ _ _ _ (congrFun h0 ix0)), matrix_real (real_of_finite _ _ _ _ _ _ (congrFun h1 ix0)),
    rows_real (real_of_finite _ _ _ _ _ _ (congrFun h2 ix0)), entries_real (real_of_finite _ _ _ _ _ _ (congrFun h3 ix0)),
    matrix_real (real_of_finite _ _ _ _ _ _ (congrFun h4 ix0)), matrix_real (real_of_finite _ _ _ _ _ _ (congrFun h5 ix0)),
    matrix_real (real_of_finite _ _ _ _ _ _ (congrFun h6 ix0)), no_cotangent⟩

theorem frame_ref : quiescent_FfnFwdRefIdeal := fun m ρ _ =>
  (θ_run FfnFwdRefIdeal.defs _ _).mono (fun r h => ⟨fun c => (h c).2.2.2.2.2.2, sem_eq_zero_of_no_sems (by decide) r.2⟩)
    (FfnFwdRefIdeal.Value.run m ρ)

theorem algebraic : algebraic_FfnFwdIdeal_FfnFwdRefIdeal_pre_finite_ffn_fwd := by
  intro m g m' g' hpre hargs
  have hr := real m hpre
  refine ⟨_, _, _, _, _, _, (θ_run FfnFwdIdeal.defs _ _).mono (fun r h c =>
      ⟨(h c).1.trans (FfnFwdIdeal.Value.final_x1 (hr c)), (h c).2.1.trans (FfnFwdIdeal.Value.final_out (hr c)),
      (h c).2.2.1.trans (FfnFwdIdeal.Value.final_gate (hr c)), (h c).2.2.2.1.trans (FfnFwdIdeal.Value.final_up (hr c)),
      (h c).2.2.2.2.1.trans (FfnFwdIdeal.Value.final_act (hr c)), (h c).2.2.2.2.2.1.trans (FfnFwdIdeal.Value.final_h (hr c)),
      (h c).2.2.2.2.2.2⟩)
    (FfnFwdIdeal.Value.run_blocks m g), ?_⟩
  refine FfnFwdRefIdeal.Value.real_run m' g' (FfnFwdIdeal.Value.inp m) fun c => ?_
  obtain ⟨e0, e1, e2, e3, e4, e5, e6⟩ := hargs c
  unfold FfnFwdRefIdeal.Value.Real
  rw [e0, e1, e2, e3, e4, e5, e6]
  exact hr c

end Cert.FfnF

end
-- ==== Proof.GmlpFKernel.lean ====
/- The gated spatial-mixing block's forward kernel on real inputs: the arrays it leaves. -/
module

public import proofs.«01_k».proof.Proof.GmlpReal
public import proofs.«01_k».proof.Proof.Pieces
public import proofs.«01_k».proof.Proof.Gen.GmlpFwdIdeal.Value
public import Idealize.ShloMosaic.Lib.Pipeline.ValueKit
public import Idealize.ShloMosaic.Lib.Pipeline.ReadBack
public import Idealize.ShloMosaic.Lib.Claim

@[expose] public section

set_option maxRecDepth 16384

noncomputable section

namespace Cert.GmlpFwdIdeal.Value

open Cert.GmlpFwdIdeal Cert.GmlpFwdIdeal.Gen Cert.Reals Cert.Pieces Cert.Gmlp Idealize.ShloMosaic Idealize.ShloMosaic.TcCoe Idealize.SL.Sem

/-- The named constant. -/
theorem named_root : (Named.named κ "root_half" 0x3F3504F3#32 : Ideal .f32) = (root : EReal) :=
  IdealRules.named_const.ideal_named_scalar _ _ _ _ rfl

theorem erf_op (z : ℝ) : (FloatOps.erf (φ := .f32) (z : EReal) : Ideal .f32) = (erfR z : EReal) := erf_real z

theorem gelu_def (z : ℝ) : 1 / 2 * z * (1 + erfR (z * root)) = gelu z := by unfold gelu cdf; ring

section Block

variable {a : In}

/-! ## One chunk of rows and one group of columns -/

/-- A tile of the mixer's rows: the gate times the mixed rows. -/
theorem y_block {q : Fin 32} {g : Fin 8} {z vn : Vec Ideal S128x128 .bf16} {w : Vec Ideal S1x128x128 .bf16} {b : Vec Ideal S1x128x128 .f32}
    (hz : ∀ i j, z (ix2 i j) = (a.zu (rowAt q i) (colAt g j) : EReal)) (hv : ∀ i j, vn (ix2 i j) = (a.vn (rowAt q i) (colAt g j) : EReal))
    (hw : ∀ i k, w (ix3 0 i k) = (a.wm g i k : EReal)) (hb : ∀ i j, b (ix3 0 i j) = (a.bs g i : EReal)) (i j : Fin 128) :
    k0_pay15 w vn b z (ix2 i j) = (a.y (rowAt q i) (colAt g j) : EReal) := by
  pointwise [k0_pay15]
  simp only [hz, hv, hw, hb, named_root, bits_half, erf_op, mul_real, one_add_real, sum_real, add_real, gelu_def, ← In.sv_at]
  rfl

/-! ## Whole rows -/

section Rows

variable {n : Fin 256 → Fin 4096} {x : Vec Ideal S256x1024 .f32} {g gv : Vec Ideal S1x1024 .f32} {wt : Vec Ideal S2048x1024 .bf16} {zv : Vec Ideal S256x1024 .bf16}
  (hx : ∀ r d, x (ix2 r d) = (a.x (n r) d : EReal)) (hg : ∀ d, g (ix2 0 d) = (a.g d : EReal)) (hwt : ∀ j d, wt (ix2 j d) = (a.win d j : EReal))
  (hz : ∀ r j, zv (ix2 r j) = (a.zv (n r) j : EReal)) (hgv : ∀ j, gv (ix2 0 j) = (a.gv j : EReal))

include hx hg in
theorem h_block (r : Fin 256) (d : Fin 1024) : k0_pay4 x g (ix2 r d) = ((a.hat (n r) d * a.g d : ℝ) : EReal) := by
  pointwise [k0_pay4]
  simp only [hx, hg, bits_1024, bits_eps, mul_real, add_real, sum_real, div_1024, var_def, rsqrt_var]
  rfl

include hx hg hwt in
theorem p_block (r : Fin 256) (j : Fin 2048) : k0_pay5 x g wt (ix2 r j) = (a.p (n r) j : EReal) := by
  pointwise [k0_pay5]
  simp only [h_block hx hg, hwt, mul_real, sum_real]
  rfl

include hz in
theorem gelu_block (r : Fin 256) (j : Fin 1024) : mulf (k0_pay7 zv) (addf k0_pay9 (k0_pay8 zv)) (ix2 r j) = (gelu (a.zv (n r) j) : EReal) := by
  pointwise [k0_pay7, k0_pay9, k0_pay8, k0_pay6]
  simp only [hz, named_root, bits_half, erf_op, mul_real, one_add_real, gelu_def]

include hz hgv in
theorem vn_block (r : Fin 256) (j : Fin 1024) : k0_pay10 (k0_pay7 zv) (k0_pay8 zv) k0_pay9 gv (ix2 r j) = (a.vn (n r) j : EReal) := by
  pointwise [k0_pay10, k0_pay7, k0_pay9, k0_pay8, k0_pay6]
  simp only [hz, hgv, named_root, bits_half, erf_op, mul_real, one_add_real, gelu_def, bits_1024, bits_eps, sum_real, div_1024, sub_real, add_real]
  simp only [var_def]
  simp only [rsqrt_var, mul_real]
  rfl

end Rows

end Block

/-! ## The windows -/

variable (m : (ℓ : Loc nD τ sig) → Buf (Elt Ideal) ℓ) (c : Dev nD)

/-- The inputs the memory holds; no cotangent. -/
abbrev inp : In := input (m ((c : Thread nD τ).loc main_arg0)) (m ((c : Thread nD τ).loc main_arg1)) (m ((c : Thread nD τ).loc main_arg2))
  (m ((c : Thread nD τ).loc main_arg3)) (m ((c : Thread nD τ).loc main_arg4)) (m ((c : Thread nD τ).loc main_arg5)) (fun _ => (0 : EReal)) (fun _ => (0 : EReal))

/-- The memory's arguments are real. -/
abbrev Real : Prop := Holds (inp m c) (m ((c : Thread nD τ).loc main_arg0)) (m ((c : Thread nD τ).loc main_arg1))
  (m ((c : Thread nD τ).loc main_arg2)) (m ((c : Thread nD τ).loc main_arg3)) (m ((c : Thread nD τ).loc main_arg4))
  (m ((c : Thread nD τ).loc main_arg5)) (fun _ => (0 : EReal)) (fun _ => (0 : EReal))

theorem idx : ∀ t : Fin cfg0.N, win0_0.index t = ![t.val, 0] ∧ win0_1.index t = ![0, 0] ∧ win0_2.index t = ![0, 0]
    ∧ win0_3.index t = ![0, 0] ∧ win0_4.index t = ![0, 0, 0] ∧ win0_5.index t = ![0, 0, 0] ∧ win0_6.index t = ![t.val, 0]
    ∧ win0_7.index t = ![t.val, 0] ∧ win0_8.index t = ![t.val, 0] :=
  (by decide +kernel : ∀ t : Fin grid0.N, _)

theorem lt_points : ∀ t : Fin cfg0.N, t.val < 16 := (by decide +kernel : ∀ t : Fin grid0.N, _)

/-- Row `r` of block `t`, and the block's two chunks. -/
def at_ (t : Fin cfg0.N) (r : Fin 256) : Fin 4096 := ⟨t.val * 256 + r.val, by have := lt_points t; omega⟩
def half (t : Fin cfg0.N) (ρ : Fin 2) : Fin 32 := ⟨t.val * 2 + ρ.val, by have := lt_points t; omega⟩

variable {m c}

theorem block_x (h : Real m c) (t : Fin cfg0.N) (r : Fin 256) (d : Fin 1024) :
    (iblk m c 0 t : Vec Ideal S256x1024 .f32) (ix2 r d) = ((inp m c).x (at_ t r) d : EReal) := by
  have e : ((cfg0.win 0).blk t).view.emb (ix2 r d) = (ix2 (at_ t r) d : S4096x1024.Idx) := by blk_ext [idx t] <;> rfl
  blk_simp [iblk]
  rw [e]
  unfold V
  simp only [List.flatten_cons, List.flatten_nil, List.cons_append, List.nil_append, List.append_nil]
  after_results
  pointwise
  rw [h.x, row_split]

theorem block_g (h : Real m c) (t : Fin cfg0.N) (d : Fin 1024) :
    (iblk m c 1 t : Vec Ideal S1x1024 .f32) (ix2 0 d) = ((inp m c).g d : EReal) := by
  have e : ((cfg0.win 1).blk t).view.emb (ix2 0 d) = (ix2 0 d : S1x1024.Idx) := by blk_ext [idx t] <;> rfl
  blk_simp [iblk]
  rw [e]
  unfold V
  simp only [List.flatten_cons, List.flatten_nil, List.cons_append, List.nil_append, List.append_nil]
  after_results
  pointwise
  rw [h.g]

theorem block_wt (h : Real m c) (t : Fin cfg0.N) (j : Fin 2048) (d : Fin 1024) :
    (iblk m c 2 t : Vec Ideal S2048x1024 .bf16) (ix2 j d) = ((inp m c).win d j : EReal) := by
  have e : ((cfg0.win 2).blk t).view.emb (ix2 j d) = (ix2 j d : S2048x1024.Idx) := by blk_ext [idx t] <;> rfl
  blk_simp [iblk]
  rw [e]
  unfold V
  simp only [List.flatten_cons, List.flatten_nil, List.cons_append, List.nil_append, List.append_nil]
  after_results
  pointwise
  rw [h.win]

theorem block_gv (h : Real m c) (t : Fin cfg0.N) (j : Fin 1024) :
    (iblk m c 3 t : Vec Ideal S1x1024 .f32) (ix2 0 j) = ((inp m c).gv j : EReal) := by
  have e : ((cfg0.win 3).blk t).view.emb (ix2 0 j) = (ix2 0 j : S1x1024.Idx) := by blk_ext [idx t] <;> rfl
  blk_simp [iblk]
  rw [e]
  unfold V
  simp only [List.flatten_cons, List.flatten_nil, List.cons_append, List.nil_append, List.append_nil]
  after_results
  pointwise
  rw [h.gv]

theorem block_wm (h : Real m c) (t : Fin cfg0.N) (g : Fin 8) (i k : Fin 128) :
    (iblk m c 4 t : Vec Ideal S8x128x128 .bf16) (ix3 g i k) = ((inp m c).wm g i k : EReal) := by
  have e : ((cfg0.win 4).blk t).view.emb (ix3 g i k) = (ix3 g i k : S8x128x128.Idx) := by blk_ext [idx t] <;> rfl
  blk_simp [iblk]
  rw [e]
  unfold V
  simp only [List.flatten_cons, List.flatten_nil, List.cons_append, List.nil_append, List.append_nil]
  after_results
  simp -implicitDefEqProofs only [StableHlo.TRef.toBuf, StableHlo.TRef.ofBuf, cast_cast, cast_eq, id_eq]
  pointwise
  refine (mask_select i k _ _).trans ?_
  rw [h.ws]
  unfold In.wm
  split <;> rfl

theorem block_bs (h : Real m c) (t : Fin cfg0.N) (g : Fin 8) (i j : Fin 128) :
    (iblk m c 5 t : Vec Ideal S8x128x128 .f32) (ix3 g i j) = ((inp m c).bs g i : EReal) := by
  have e : ((cfg0.win 5).blk t).view.emb (ix3 g i j) = (ix3 g i j : S8x128x128.Idx) := by blk_ext [idx t] <;> rfl
  blk_simp [iblk]
  rw [e]
  unfold V
  simp only [List.flatten_cons, List.flatten_nil, List.cons_append, List.nil_append, List.append_nil]
  after_results
  pointwise
  rw [h.bs]

/-! ## The loads of one chunk and one group -/

theorem at_half (t : Fin cfg0.N) (ρ : Fin 2) (i : Fin 128) (hi : ρ.val * 128 + i.val < 256) : at_ t ⟨ρ.val * 128 + i.val, hi⟩ = rowAt (half t ρ) i :=
  Fin.ext (by show t.val * 256 + (ρ.val * 128 + i.val) = (t.val * 2 + ρ.val) * 128 + i.val; omega)

section Chunk

variable (h : Real m c) (t : Fin cfg0.N) (ρ : Fin 2) (g : Fin 8)

/-- The projection's store, which fills its buffer, and that of the rows to mix. -/
abbrev pStore : View.Piece (Elt Ideal) S256x2048 .bf16 := ⟨Rect.unit ![0, 0] ![256, 2048] inb_S256x2048_S256x2048_0_0, k0_pay5 (iblk m c 0 t) (iblk m c 1 t) (iblk m c 2 t)⟩
abbrev zvLoad {sg : RefSig} {κ : Kind} {sp : Space} (v : View sg κ sp S256x2048 .bf16) : Vec Ideal S256x1024 .bf16 :=
  View.readCov (Val := Elt Ideal) v [pStore (m := m) (c := c) t] (Rect.unit (s := S256x2048) ![0, 1024] ![256, 1024] inb_S256x2048_S256x1024_0_1024).toLoadRect
abbrev vnStore {sg : RefSig} {κ : Kind} {sp : Space} (v : View sg κ sp S256x2048 .bf16) : View.Piece (Elt Ideal) S256x1024 .bf16 :=
  ⟨Rect.unit ![0, 0] ![256, 1024] inb_S256x1024_S256x1024_0_0, k0_pay10 (k0_pay7 (zvLoad (m := m) (c := c) t v)) (k0_pay8 (zvLoad (m := m) (c := c) t v)) k0_pay9 (iblk m c 3 t)⟩

include h in
theorem p_at (r : Fin 256) (j : Fin 2048) : k0_pay5 (iblk m c 0 t) (iblk m c 1 t) (iblk m c 2 t) (ix2 r j) = ((inp m c).p (at_ t r) j : EReal) :=
  p_block (block_x h t) (block_g h t) (block_wt h t) r j

include h in
theorem ld_z {sg : RefSig} {κ : Kind} {sp : Space} {v : View sg κ sp S256x2048 .bf16} {ro co : ℕ} (hr : ro = ρ.val * 128) (hc : co = g.val * 128) {inb} (i j : Fin 128) :
    View.readCov (Val := Elt Ideal) v [pStore (m := m) (c := c) t] (Rect.unit (s := S256x2048) ![ro, co] ![128, 128] inb).toLoadRect (ix2 i j)
      = ((inp m c).zu (rowAt (half t ρ) i) (colAt g j) : EReal) := by
  subst hr hc
  refine (congrFun (View.readCov_fill v inb_S256x2048_S256x2048_0_0 _ [] (Rect.unit (s := S256x2048) ![_, _] ![128, 128] inb) fun a => by fin_cases a <;> rfl) (ix2 i j)).trans ?_
  rw [ld_tile _ _ _ _ (by omega) (by omega), p_at h, at_half]
  rfl

include h in
theorem ld_zv {sg : RefSig} {κ : Kind} {sp : Space} {v : View sg κ sp S256x2048 .bf16} (r : Fin 256) (j : Fin 1024) :
    zvLoad (m := m) (c := c) t v (ix2 r j) = ((inp m c).zv (at_ t r) j : EReal) := by
  refine (congrFun (View.readCov_fill v inb_S256x2048_S256x2048_0_0 _ [] (Rect.unit (s := S256x2048) ![_, _] ![256, 1024] inb_S256x2048_S256x1024_0_1024) fun a => by fin_cases a <;> rfl) (ix2 r j)).trans ?_
  exact (ld_cols _ _ r j (by omega)).trans (p_at h t r (colV j))

include h in
theorem ld_vn {sg sg' : RefSig} {κ κ' : Kind} {sp sp' : Space} {v : View sg κ sp S256x2048 .bf16} {v' : View sg' κ' sp' S256x1024 .bf16} {ro co : ℕ} (hr : ro = ρ.val * 128)
    (hc : co = g.val * 128) {inb} (i j : Fin 128) :
    View.readCov (Val := Elt Ideal) v' [vnStore (m := m) (c := c) t v] (Rect.unit (s := S256x1024) ![ro, co] ![128, 128] inb).toLoadRect (ix2 i j)
      = ((inp m c).vn (rowAt (half t ρ) i) (colAt g j) : EReal) := by
  subst hr hc
  refine (congrFun (View.readCov_fill v' inb_S256x1024_S256x1024_0_0 _ [] (Rect.unit (s := S256x1024) ![_, _] ![128, 128] inb) fun a => by fin_cases a <;> rfl) (ix2 i j)).trans ?_
  rw [ld_tile _ _ _ _ (by omega) (by omega), vn_block (ld_zv h t) (block_gv h t), at_half]
  rfl

include h in
theorem ld_wm {o : ℕ} (ho : o = g.val) {inb} (i k : Fin 128) :
    View.ld (iblk m c 4 t : Vec Ideal S8x128x128 .bf16) (Rect.unit ![o, 0, 0] ![1, 128, 128] inb) (ix3 0 i k) = ((inp m c).wm g i k : EReal) := by
  rw [ld_slab _ g ho, block_wm h]

include h in
theorem ld_bs {o : ℕ} (ho : o = g.val) {inb} (i j : Fin 128) :
    View.ld (iblk m c 5 t : Vec Ideal S8x128x128 .f32) (Rect.unit ![o, 0, 0] ![1, 128, 128] inb) (ix3 0 i j) = ((inp m c).bs g i : EReal) := by
  rw [ld_slab _ g ho, block_bs h]

/-- A tile of the mixer's rows, from the body's loads. -/
def y_at {sg sg' : RefSig} {κ κ' : Kind} {sp sp' : Space} {v : View sg κ sp S256x2048 .bf16} {v' : View sg' κ' sp' S256x1024 .bf16} {ro co o : ℕ} (hr : ro = ρ.val * 128)
    (hc : co = g.val * 128) (ho : o = g.val) {il im ib ig} :=
  y_block (ld_z h t ρ g (v := v) hr hc (inb := il)) (ld_vn h t ρ g (v := v) (v' := v') hr hc (inb := im))
    (ld_wm h t g ho (inb := ig)) (ld_bs h t g ho (inb := ib))

end Chunk

/-! ## The tiles the body stores -/

/-- The mixer's rows of block `t`, as an array. -/
def tileOf (t : Fin cfg0.N) (a : In) : S256x1024.Idx → Elt Ideal .bf16 := fun i => (a.y (at_ t (i 0)) (i 1) : EReal)

/-- A tile of the mixer's rows. -/
abbrev IsTile (t : Fin cfg0.N) (a : In) (ρ : Fin 2) (g : Fin 8) (p : Vec Ideal S128x128 .bf16) : Prop :=
  ∀ i j, p (ix2 i j) = (a.y (rowAt (half t ρ) i) (colAt g j) : EReal)

theorem store_tile {t : Fin cfg0.N} {a : In} (ρ : Fin 2) (g : Fin 8) {ro co : ℕ} (hr : ro = ρ.val * 128) (hc : co = g.val * 128) (inb)
    {p : Vec Ideal S128x128 .bf16} (h : IsTile t a ρ g p) (x : S128x128.Idx) :
    p x = tileOf t a ((Rect.unit (s := S256x1024) ![ro, co] ![128, 128] inb).emb x) := by
  subst hr hc
  obtain ⟨x0, x1, rfl⟩ : ∃ (x0 x1 : Fin 128), x = ix2 x0 x1 := ⟨x 0, x 1, by blk_ext⟩
  have e : (Rect.unit (s := S256x1024) ![ρ.val * 128, g.val * 128] ![128, 128] inb).emb (ix2 x0 x1)
      = (ix2 ⟨ρ.val * 128 + x0.val, by omega⟩ (colAt g x1) : S256x1024.Idx) := by blk_ext <;> simp [colAt]
  refine (h x0 x1).trans (Eq.trans ?_ (congrArg (tileOf t a) e).symm)
  rw [← at_half t ρ x0 (by omega)]
  rfl

/-- The sixteen stores that fill a block of the mixer's rows. -/
theorem y_tiles {t : Fin cfg0.N} {a : In} {p17 p07 p16 p06 p15 p05 p14 p04 p13 p03 p12 p02 p11 p01 p10 p00 : Vec Ideal S128x128 .bf16}
    (k17 : IsTile t a 1 7 p17) (k07 : IsTile t a 0 7 p07)
    (k16 : IsTile t a 1 6 p16) (k06 : IsTile t a 0 6 p06)
    (k15 : IsTile t a 1 5 p15) (k05 : IsTile t a 0 5 p05)
    (k14 : IsTile t a 1 4 p14) (k04 : IsTile t a 0 4 p04)
    (k13 : IsTile t a 1 3 p13) (k03 : IsTile t a 0 3 p03)
    (k12 : IsTile t a 1 2 p12) (k02 : IsTile t a 0 2 p02)
    (k11 : IsTile t a 1 1 p11) (k01 : IsTile t a 0 1 p01)
    (k10 : IsTile t a 1 0 p10) (k00 : IsTile t a 0 0 p00) (r : Fin 256) (j : Fin 1024) :
    View.canon [(⟨Rect.unit ![128, 896] ![128, 128] inb_S256x1024_S128x128_128_896, p17⟩ : View.Piece (Elt Ideal) S256x1024 .bf16),
      ⟨Rect.unit ![0, 896] ![128, 128] inb_S256x1024_S128x128_0_896, p07⟩,
      ⟨Rect.unit ![128, 768] ![128, 128] inb_S256x1024_S128x128_128_768, p16⟩,
      ⟨Rect.unit ![0, 768] ![128, 128] inb_S256x1024_S128x128_0_768, p06⟩,
      ⟨Rect.unit ![128, 640] ![128, 128] inb_S256x1024_S128x128_128_640, p15⟩,
      ⟨Rect.unit ![0, 640] ![128, 128] inb_S256x1024_S128x128_0_640, p05⟩,
      ⟨Rect.unit ![128, 512] ![128, 128] inb_S256x1024_S128x128_128_512, p14⟩,
      ⟨Rect.unit ![0, 512] ![128, 128] inb_S256x1024_S128x128_0_512, p04⟩,
      ⟨Rect.unit ![128, 384] ![128, 128] inb_S256x1024_S128x128_128_384, p13⟩,
      ⟨Rect.unit ![0, 384] ![128, 128] inb_S256x1024_S128x128_0_384, p03⟩,
      ⟨Rect.unit ![128, 256] ![128, 128] inb_S256x1024_S128x128_128_256, p12⟩,
      ⟨Rect.unit ![0, 256] ![128, 128] inb_S256x1024_S128x128_0_256, p02⟩,
      ⟨Rect.unit ![128, 128] ![128, 128] inb_S256x1024_S128x128_128_128, p11⟩,
      ⟨Rect.unit ![0, 128] ![128, 128] inb_S256x1024_S128x128_0_128, p01⟩,
      ⟨Rect.unit ![128, 0] ![128, 128] inb_S256x1024_S128x128_128_0, p10⟩,
      ⟨Rect.unit ![0, 0] ![128, 128] inb_S256x1024_S128x128_0_0, p00⟩]
      (ix2 r j) = (a.y (at_ t r) j : EReal) := by
  refine canon_pieces (tileOf t a) ?_ (ix2 r j) (View.cover_of_tiledBy _ ![128, 128] (by sl_kernel_rfl) (ix2 r j))
  exact ⟨store_tile 1 7 rfl rfl inb_S256x1024_S128x128_128_896 k17,
    store_tile 0 7 rfl rfl inb_S256x1024_S128x128_0_896 k07,
    store_tile 1 6 rfl rfl inb_S256x1024_S128x128_128_768 k16,
    store_tile 0 6 rfl rfl inb_S256x1024_S128x128_0_768 k06,
    store_tile 1 5 rfl rfl inb_S256x1024_S128x128_128_640 k15,
    store_tile 0 5 rfl rfl inb_S256x1024_S128x128_0_640 k05,
    store_tile 1 4 rfl rfl inb_S256x1024_S128x128_128_512 k14,
    store_tile 0 4 rfl rfl inb_S256x1024_S128x128_0_512 k04,
    store_tile 1 3 rfl rfl inb_S256x1024_S128x128_128_384 k13,
    store_tile 0 3 rfl rfl inb_S256x1024_S128x128_0_384 k03,
    store_tile 1 2 rfl rfl inb_S256x1024_S128x128_128_256 k12,
    store_tile 0 2 rfl rfl inb_S256x1024_S128x128_0_256 k02,
    store_tile 1 1 rfl rfl inb_S256x1024_S128x128_128_128 k11,
    store_tile 0 1 rfl rfl inb_S256x1024_S128x128_0_128 k01,
    store_tile 1 0 rfl rfl inb_S256x1024_S128x128_128_0 k10,
    store_tile 0 0 rfl rfl inb_S256x1024_S128x128_0_0 k00, trivial⟩

/-! ## What a point leaves -/

theorem p_left (h : Real m c) (t : Fin cfg0.N) (r : Fin 256) (j : Fin 2048) : (outsAt0 m c t).1 (ix2 r j) = ((inp m c).p (at_ t r) j : EReal) := by
  unfold outsAt0
  frame_out
  exact p_at h t r j

theorem h_left (h : Real m c) (t : Fin cfg0.N) (r : Fin 256) (d : Fin 1024) :
    (outsAt0 m c t).2.1 (ix2 r d) = (((inp m c).hat (at_ t r) d * (inp m c).g d : ℝ) : EReal) := by
  unfold outsAt0
  frame_out
  exact h_block (block_x h t) (block_g h t) r d

set_option maxHeartbeats 4000000 in
theorem y_left (h : Real m c) (t : Fin cfg0.N) (r : Fin 256) (j : Fin 1024) : (outsAt0 m c t).2.2.1 (ix2 r j) = ((inp m c).y (at_ t r) j : EReal) := by
  unfold outsAt0
  frame_out
  refine y_tiles ?_ ?_ ?_ ?_ ?_ ?_ ?_ ?_ ?_ ?_ ?_ ?_ ?_ ?_ ?_ ?_ r j
  · exact y_at h t 1 7 (ro := 128) (co := 896) (o := 7) rfl rfl rfl
  · exact y_at h t 0 7 (ro := 0) (co := 896) (o := 7) rfl rfl rfl
  · exact y_at h t 1 6 (ro := 128) (co := 768) (o := 6) rfl rfl rfl
  · exact y_at h t 0 6 (ro := 0) (co := 768) (o := 6) rfl rfl rfl
  · exact y_at h t 1 5 (ro := 128) (co := 640) (o := 5) rfl rfl rfl
  · exact y_at h t 0 5 (ro := 0) (co := 640) (o := 5) rfl rfl rfl
  · exact y_at h t 1 4 (ro := 128) (co := 512) (o := 4) rfl rfl rfl
  · exact y_at h t 0 4 (ro := 0) (co := 512) (o := 4) rfl rfl rfl
  · exact y_at h t 1 3 (ro := 128) (co := 384) (o := 3) rfl rfl rfl
  · exact y_at h t 0 3 (ro := 0) (co := 384) (o := 3) rfl rfl rfl
  · exact y_at h t 1 2 (ro := 128) (co := 256) (o := 2) rfl rfl rfl
  · exact y_at h t 0 2 (ro := 0) (co := 256) (o := 2) rfl rfl rfl
  · exact y_at h t 1 1 (ro := 128) (co := 128) (o := 1) rfl rfl rfl
  · exact y_at h t 0 1 (ro := 0) (co := 128) (o := 1) rfl rfl rfl
  · exact y_at h t 1 0 (ro := 128) (co := 0) (o := 0) rfl rfl rfl
  · exact y_at h t 0 0 (ro := 0) (co := 0) (o := 0) rfl rfl rfl

/-! ## The arrays after the run -/

theorem final_p (h : Real m c) : ((dats m 0 c).arrAt 6 cfg0.N : S4096x2048.Idx → EReal) = fun i => ((inp m c).p (i 0) (i 1) : EReal) := by
  refine (dats m 0 c).arrAt_eq_of_covers 6 (fun i : S4096x2048.Idx => ((inp m c).p (i 0) (i 1) : EReal)) (by decide +kernel) fun t hf y => ?_
  blk_simp
  rw [after0_6]
  idx_vars y
  have e : ((cfg0.win 6).blk t).view.emb (ix2 y0 y1) = (ix2 (at_ t y0) y1 : S4096x2048.Idx) := by blk_ext [idx t] <;> rfl
  exact (p_left h t y0 y1).trans (congrArg (fun i : S4096x2048.Idx => ((inp m c).p (i 0) (i 1) : EReal)) e).symm

theorem final_h (h : Real m c) : ((dats m 0 c).arrAt 7 cfg0.N : S4096x1024.Idx → EReal) = fun i => (((inp m c).hat (i 0) (i 1) * (inp m c).g (i 1) : ℝ) : EReal) := by
  refine (dats m 0 c).arrAt_eq_of_covers 7 (fun i : S4096x1024.Idx => (((inp m c).hat (i 0) (i 1) * (inp m c).g (i 1) : ℝ) : EReal)) (by decide +kernel) fun t hf y => ?_
  blk_simp
  rw [after0_7]
  idx_vars y
  have e : ((cfg0.win 7).blk t).view.emb (ix2 y0 y1) = (ix2 (at_ t y0) y1 : S4096x1024.Idx) := by blk_ext [idx t] <;> rfl
  exact (h_left h t y0 y1).trans (congrArg (fun i : S4096x1024.Idx => (((inp m c).hat (i 0) (i 1) * (inp m c).g (i 1) : ℝ) : EReal)) e).symm

theorem final_y (h : Real m c) : ((dats m 0 c).arrAt 8 cfg0.N : S4096x1024.Idx → EReal) = fun i => ((inp m c).y (i 0) (i 1) : EReal) := by
  refine (dats m 0 c).arrAt_eq_of_covers 8 (fun i : S4096x1024.Idx => ((inp m c).y (i 0) (i 1) : EReal)) (by decide +kernel) fun t hf y => ?_
  blk_simp
  rw [after0_8]
  idx_vars y
  have e : ((cfg0.win 8).blk t).view.emb (ix2 y0 y1) = (ix2 (at_ t y0) y1 : S4096x1024.Idx) := by blk_ext [idx t] <;> rfl
  exact (y_left h t y0 y1).trans (congrArg (fun i : S4096x1024.Idx => ((inp m c).y (i 0) (i 1) : EReal)) e).symm

end Cert.GmlpFwdIdeal.Value

end
-- ==== Proof.GmlpFRef.lean ====
/- The reference of the gated spatial-mixing block's forward pass on real arguments: its three results as real quantities. -/
module

public import proofs.«01_k».proof.Proof.GmlpReal
public import proofs.«01_k».proof.Proof.Gen.GmlpFwdRefIdeal.Run
public import Idealize.ShloMosaic.Lib.Claim

@[expose] public section

set_option maxRecDepth 16384

noncomputable section

namespace Cert.GmlpFwdRefIdeal.Value

open Cert.GmlpFwdRefIdeal Cert.GmlpFwdRefIdeal.Gen Cert.Reals Cert.Gmlp Idealize.ShloMosaic Idealize.ShloMosaic.TcCoe Idealize.SL.Sem
  Idealize.ShloMosaic.StableHlo

/-! ## The stages as operations on arrays -/

/-- The mean of every row. -/
def means (A : FVec Ideal S2x2048x1024 .f32) : FVec Ideal S2x2048x1 .f32 :=
  Host.divf (broadcastInDim S2x2048x1 ![0, 1] bcast_S2x2048_S2x2048x1_0_1 (Host.reduceAdd A (constant S_ .f32 0x00000000#32) reducesTo_S2x2048x1024_S2x2048_d2 h_S_))
    (broadcastInDim S2x2048x1 ![] bcast_S_S2x2048x1 (constant S_ .f32 0x44800000#32))

/-- A column of one number per row, along the row. -/
def along (A : FVec Ideal S2x2048x1 .f32) : FVec Ideal S2x2048x1024 .f32 :=
  broadcastInDim S2x2048x1024 ![0, 1, 2] bcast_S2x2048x1_S2x2048x1024_0_1_2 A

/-- Every row less its mean. -/
def lessMean (A : FVec Ideal S2x2048x1024 .f32) : FVec Ideal S2x2048x1024 .f32 := subf A (along (means A))

/-- Every row over its root mean square, times a gain. -/
def normed (A : FVec Ideal S2x2048x1024 .f32) (G : FVec Ideal S1024 .f32) : FVec Ideal S2x2048x1024 .f32 :=
  mulf (mulf A (along (Host.rsqrt (addf (means (mulf A A)) (broadcastInDim S2x2048x1 ![] bcast_S_S2x2048x1 (constant S_ .f32 0x358637BD#32))))))
    (broadcastInDim S2x2048x1024 ![0, 1, 2] bcast_S1x1x1024_S2x2048x1024_0_1_2 (broadcastInDim S1x1x1024 ![2] bcast_S1024_S1x1x1024_2 G))

/-- The product with the input weight. -/
def proj (H : FVec Ideal S2x2048x1024 .f32) (W : FVec Ideal S1024x2048 .f32) : FVec Ideal S2x2048x2048 .f32 :=
  Host.dotGeneral dot_S2x2048x1024_S1024x2048_S2x2048x2048_2_0_01_1_n_n none H W

/-- A number everywhere. -/
def all (x : FVec Ideal S_ .f32) : FVec Ideal S2x2048x2048 .f32 := broadcastInDim S2x2048x2048 ![] bcast_S_S2x2048x2048 x

/-- The Gaussian unit of every element. -/
def unit (P : FVec Ideal S2x2048x2048 .f32) : FVec Ideal S2x2048x2048 .f32 :=
  mulf (mulf (all (constant S_ .f32 0x3F000000#32)) P) (Host.erfc (Host.divf (Host.negf P) (all (Host.sqrt (constant S_ .f32 0x40000000#32)))))

/-- The two halves of the columns. -/
def lower (P : FVec Ideal S2x2048x2048 .f32) : FVec Ideal S2x2048x1024 .f32 := extractStridedSlice S2x2048x1024 ![0, 0, 0] P slices_S2x2048x2048_S2x2048x1024_0_0_0
def upper (P : FVec Ideal S2x2048x2048 .f32) : FVec Ideal S2x2048x1024 .f32 := extractStridedSlice S2x2048x1024 ![0, 0, 1024] P slices_S2x2048x2048_S2x2048x1024_0_0_1024

/-- The rows of every chunk mixed by a group's weight, plus the row's offset. -/
def mixed (N : FVec Ideal S2x2048x1024 .f32) (W : FVec Ideal S8x128x128 .f32) (B : FVec Ideal S8x128 .f32) : FVec Ideal S2x2048x1024 .f32 :=
  shapeCast S2x2048x1024 (addf (transpose S2x16x128x8x128 [1, 2, 4, 0, 3] (Host.dotGeneral dot_S2x16x128x8x128_S8x128x128_S8x2x16x128x128_2_2_014_1_3_0 none
      (shapeCast S2x16x128x8x128 N shapeCasts_S2x2048x1024_S2x16x128x8x128) W) transposes_S8x2x16x128x128_S2x16x128x8x128_1_2_4_0_3)
    (broadcastInDim S2x16x128x8x128 ![0, 1, 2, 3, 4] bcast_S1x1x128x8x1_S2x16x128x8x128_0_1_2_3_4
      (broadcastInDim S1x1x128x8x1 ![2, 3] bcast_S128x8_S1x1x128x8x1_2_3 (transpose S128x8 [1, 0] B transposes_S8x128_S128x8_1_0)))) shapeCasts_S2x16x128x8x128_S2x2048x1024

/-! ## What they compute -/

section Stages

variable {A : FVec Ideal S2x2048x1024 .f32} {f : Fin 2 → Fin 2048 → Fin 1024 → ℝ} (hA : ∀ b s d, A (ix3 b s d) = (f b s d : EReal)) (b : Fin 2) (s : Fin 2048)

include hA in
theorem means_at (z : Fin 1) : means A (ix3 b s z) = (((∑ k, f b s k) / 1024 : ℝ) : EReal) := by
  pointwise [means]
  simp only [hA, sum_real, bits_1024, div_1024]

include hA in
theorem lessMean_at (d : Fin 1024) : lessMean A (ix3 b s d) = (centred (f b s) d : EReal) := by
  pointwise [lessMean, along]
  rw [hA, means_at hA, sub_real]; rfl

include hA in
theorem normed_at {G : FVec Ideal S1024 .f32} {g : Fin 1024 → ℝ} (hG : ∀ d, G (ix1 d) = (g d : EReal)) (d : Fin 1024) :
    normed A G (ix3 b s d) = ((f b s d * rstd (f b s) * g d : ℝ) : EReal) := by
  have sq : ∀ b s d, mulf A A (ix3 b s d) = ((f b s d * f b s d : ℝ) : EReal) := fun b s d => by
    pointwise
    rw [hA, mul_real]
  pointwise [normed, along]
  rw [means_at sq, hA, hG, bits_eps, add_real, var_def, rsqrt_var, mul_real, mul_real]

variable {P : FVec Ideal S2x2048x2048 .f32} {p : Fin 2 → Fin 2048 → Fin 2048 → ℝ} (hP : ∀ b s j, P (ix3 b s j) = (p b s j : EReal))

include hP in
theorem unit_at (j : Fin 2048) : unit P (ix3 b s j) = (gelu (p b s j) : EReal) := by
  pointwise [unit, all]
  rw [hP, bits_half, bits_two, sqrt_two, neg_real, erfc_quot, mul_real, mul_real]
  unfold gelu cdf
  exact congrArg _ (by ring)

theorem lower_at (j : Fin 1024) : lower P (ix3 b s j) = P (ix3 b s (colU j)) := by
  pointwise [lower]
  rfl

theorem upper_at (j : Fin 1024) : upper P (ix3 b s j) = P (ix3 b s (colV j)) := by
  pointwise [upper]
  rfl

end Stages

section Block

variable {a : In} {X : FVec Ideal S2x2048x1024 .f32} {G : FVec Ideal S1024 .f32} {W : FVec Ideal S1024x2048 .f32} {GV : FVec Ideal S1024 .f32}
  {WS WM : FVec Ideal S8x128x128 .f32} {BS : FVec Ideal S8x128 .f32} {DY DR : FVec Ideal S2x2048x1024 .f32} (h : Holds a X G W GV WS BS DY DR)
  (hW : ∀ g i k, WM (ix3 g i k) = (a.wm g i k : EReal)) (b : Fin 2) (s : Fin 2048)
include h

theorem proj_at (j : Fin 2048) : proj (normed X G) W (ix3 b s j) = (a.p (row b s) j : EReal) := by
  pointwise [proj]
  simp only [normed_at h.x b s h.g, h.win, mul_real, sum_real]; rfl

/-- The projection, with nothing added. -/
theorem proj_zero (j : Fin 2048) : addf (proj (normed X G) W) (all (constant S_ .f32 0x00000000#32)) (ix3 b s j) = (a.p (row b s) j : EReal) := by
  pointwise [all]
  exact proj_at h b s j

theorem rows_at (j : Fin 1024) :
    normed (lessMean (upper (unit (addf (proj (normed X G) W) (all (constant S_ .f32 0x00000000#32)))))) GV (ix3 b s j) = (a.vn (row b s) j : EReal) :=
  normed_at (lessMean_at fun b s d => (upper_at b s d).trans (unit_at b s (proj_zero h) (colV d))) b s h.gv j

include hW in
theorem mixed_at {N : FVec Ideal S2x2048x1024 .f32} (hN : ∀ b s j, N (ix3 b s j) = (a.vn (row b s) j : EReal)) (j : Fin 1024) :
    mixed N (addf WM (broadcastInDim S8x128x128 ![] bcast_S_S8x128x128 (constant S_ .f32 0x00000000#32))) BS (ix3 b s j) = (a.sv (row b s) j : EReal) := by
  obtain ⟨q, i, rfl⟩ := seqRow_exists s
  obtain ⟨g, k, rfl⟩ := colAt_exists j
  refine (join_read _ b q i g k).trans ?_
  pointwise
  simp only [split_read, hN, hW, h.bs, bits_zero, add_zero, mul_real, sum_real, add_real]
  simp only [row_seqRow, In.sv_at]
  exact congrArg _ (congrArg (· + _) (Finset.sum_congr rfl fun k _ => mul_comm _ _))

end Block

/-! ## The run -/

section Run

variable {m : (ℓ : Loc nD τ sig) → Buf (Elt Ideal) ℓ} {c : Dev nD} {a : In}

/-- The memory's arguments hold the inputs. -/
abbrev Real (m : (ℓ : Loc nD τ sig) → Buf (Elt Ideal) ℓ) (c : Dev nD) (a : In) : Prop :=
  Holds a (m ((c : Thread nD τ).loc main_arg0)) (m ((c : Thread nD τ).loc main_arg1)) (m ((c : Thread nD τ).loc main_arg2))
    (m ((c : Thread nD τ).loc main_arg3)) (m ((c : Thread nD τ).loc main_arg4)) (m ((c : Thread nD τ).loc main_arg5)) (fun _ => (0 : EReal)) (fun _ => (0 : EReal))

theorem y_of {Z : FVec Ideal S2x2048x2048 .f32} {M : FVec Ideal S2x2048x1024 .f32} (hZ : ∀ b s j, Z (ix3 b s j) = (gelu (a.p (row b s) j) : EReal))
    (hM : ∀ b s j, M (ix3 b s j) = (a.sv (row b s) j : EReal)) :
    truncf .bf16 (shapeCast S4096x1024 (mulf (lower Z) M) shapeCasts_S2x2048x1024_S4096x1024) bitsLt_bf16_f32 = (fun i : S4096x1024.Idx => (a.y (i 0) (i 1) : EReal)) := by
  funext i
  idx_vars i
  obtain ⟨b, s, rfl⟩ := row_exists i0
  show shapeCast S4096x1024 (mulf (lower Z) M) shapeCasts_S2x2048x1024_S4096x1024 (ix2 (row b s) i1) = _
  refine (flat _ b s i1).trans ?_
  show lower Z (ix3 b s i1) * M (ix3 b s i1) = _
  rw [lower_at, hZ, hM, mul_real]
  rfl

theorem y_real (h : Real m c a) : res_main_v87 m c = (fun i : S4096x1024.Idx => (a.y (i 0) (i 1) : EReal)) := by
  unfold res_main_v87
  refine y_of (unit_at · · (proj_zero h)) (mixed_at h ?_ · · (rows_at h))
  intro g i k
  pointwise
  refine (mask_select i k _ _).trans ?_
  rw [h.ws]; show (if _ then _ else Ideal.ofBits .f32 0x00000000#32) = _
  rw [bits_zero]; unfold In.wm
  split <;> rfl

theorem real_run (m : (ℓ : Loc nD τ sig) → Buf (Elt Ideal) ℓ) (ρ : Dev nD → PrngReg) (a : Dev nD → In) (h : ∀ c, Real m c (a c)) :
    θ_run defs (onTc (τ := τ) (main (F := Ideal))) ⟨m, fun _ => 0, ρ⟩ fun r => ∀ c : Dev nD,
      r.2.mem ((c.tc : Thread nD τ).loc main_v83) = (fun i : S4096x2048.Idx => ((a c).p (i 0) (i 1) : EReal))
      ∧ r.2.mem ((c.tc : Thread nD τ).loc main_v85) = (fun i : S4096x1024.Idx => (((a c).hat (i 0) (i 1) * (a c).g (i 1) : ℝ) : EReal))
      ∧ r.2.mem ((c.tc : Thread nD τ).loc main_v87) = (fun i : S4096x1024.Idx => ((a c).y (i 0) (i 1) : EReal))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5) := by
  refine (θ_run defs _ _).mono (fun r hr c => ⟨(hr c).1.trans ?_, (hr c).2.1.trans ?_, (hr c).2.2.1.trans (y_real (h c)), (hr c).2.2.2⟩) (run m ρ)
  all_goals
    funext i
    idx_vars i
    obtain ⟨b, s, rfl⟩ := row_exists i0
  · exact (flat_wide _ b s i1).trans (proj_at (h c) b s i1)
  · show shapeCast S4096x1024 (normed (m ((c : Thread nD τ).loc main_arg0)) (m ((c : Thread nD τ).loc main_arg1))) shapeCasts_S2x2048x1024_S4096x1024 (ix2 (row b s) i1) = _
    exact (flat _ b s i1).trans (normed_at (h c).x b s (h c).g i1)

end Run

end Cert.GmlpFwdRefIdeal.Value

end
-- ==== Proof.GmlpFClaim.lean ====
/- The gated spatial-mixing block's forward pair: on finite arguments both programs leave the same three arrays. -/
module

public import proofs.«01_k».proof.Defs
public import proofs.«01_k».proof.Proof.GmlpFKernel
public import proofs.«01_k».proof.Proof.GmlpFRef
public import proofs.«01_k».proof.Proof.Gen.GmlpFwd.Frame
public import proofs.«01_k».proof.Proof.Gen.GmlpFwdIdeal.Frame
public import proofs.«01_k».proof.Proof.Gen.Pre_finite_gmlp_fwd
public import Idealize.ShloMosaic.Lib.Quiescent

@[expose] public section

noncomputable section

namespace Cert.GmlpF

open Idealize.ShloMosaic Idealize.ShloMosaic.TcCoe Idealize.SL.Sem Cert.Reals

/-- The number no cotangent holds. -/
theorem zero : ∀ (b : Fin 2) (s : Fin 2048) (d : Fin 1024), (0 : EReal) = (((0 : EReal).toReal : ℝ) : EReal) :=
  fun _ _ _ => (congrArg ((↑) : ℝ → EReal) EReal.toReal_zero).symm

theorem real (m : (ℓ : Loc GmlpFwdIdeal.nD GmlpFwdIdeal.τ GmlpFwdIdeal.sig) → Buf (Elt Ideal) ℓ) (h : Pre_GmlpFwdIdeal_finite_gmlp_fwd m)
    (c : Dev GmlpFwdIdeal.nD) : GmlpFwdIdeal.Value.Real m c := by
  obtain ⟨h04, h5⟩ := both_of_and (h c)
  obtain ⟨h03, h4⟩ := both_of_and h04
  obtain ⟨h02, h3⟩ := both_of_and h03
  obtain ⟨h01, h2⟩ := both_of_and h02
  obtain ⟨h0, h1⟩ := both_of_and h01
  exact ⟨rows_real (real_of_finite _ _ _ _ _ _ (congrFun h0 ix0)), entries_real (real_of_finite _ _ _ _ _ _ (congrFun h1 ix0)),
    matrix_real (real_of_finite _ _ _ _ _ _ (congrFun h2 ix0)), entries_real (real_of_finite _ _ _ _ _ _ (congrFun h3 ix0)),
    fun g i k => real_of_finite _ _ _ _ _ _ (congrFun h4 ix0) (ix3 g i k), matrix_real (real_of_finite _ _ _ _ _ _ (congrFun h5 ix0)),
    zero, zero⟩

theorem frame_ref : quiescent_GmlpFwdRefIdeal := fun m ρ _ =>
  (θ_run GmlpFwdRefIdeal.defs _ _).mono (fun r h => ⟨fun c => (h c).2.2.2, sem_eq_zero_of_no_sems (by decide) r.2⟩)
    (GmlpFwdRefIdeal.Value.run m ρ)

/-- The named constant is within rounding of the printed one. -/
theorem preserves : preserves_GmlpFwd_GmlpFwdIdeal :=
  IdealRules.named_const.statement Cert.GmlpFwdIdeal.κ "root_half" .f32 0x3F3504F3#32 (((Real.sqrt 2)⁻¹ : ℝ) : EReal) rfl

theorem algebraic : algebraic_GmlpFwdIdeal_GmlpFwdRefIdeal_pre_finite_gmlp_fwd := by
  intro m g m' g' hpre hargs
  have hr := real m hpre
  refine ⟨_, _, _, (θ_run GmlpFwdIdeal.defs _ _).mono (fun r h c =>
      ⟨(h c).1.trans (GmlpFwdIdeal.Value.final_p (hr c)), (h c).2.1.trans (GmlpFwdIdeal.Value.final_h (hr c)),
      (h c).2.2.1.trans (GmlpFwdIdeal.Value.final_y (hr c)), (h c).2.2.2.2⟩)
    (GmlpFwdIdeal.Value.run_blocks m g), ?_⟩
  refine GmlpFwdRefIdeal.Value.real_run m' g' (GmlpFwdIdeal.Value.inp m) fun c => ?_
  obtain ⟨e0, e1, e2, e3, e4, e5⟩ := hargs c
  unfold GmlpFwdRefIdeal.Value.Real
  rw [e0, e1, e2, e3, e4, e5]
  exact hr c

end Cert.GmlpF

end
-- ==== Proof.lean ====
/- The certificate: every program's frame, the idealized kernels' faithfulness, and the value claims. -/
module

public import proofs.«01_k».proof.Defs
public import proofs.«01_k».proof.Proof.LossClaim
public import proofs.«01_k».proof.Proof.Gen.LossBwd
public import proofs.«01_k».proof.Proof.Gen.LossBwd.Frame
public import proofs.«01_k».proof.Proof.Gen.LossBwdIdeal
public import proofs.«01_k».proof.Proof.Gen.LossBwdIdeal.Frame
public import proofs.«01_k».proof.Proof.Gen.LossRefIdeal
public import proofs.«01_k».proof.Proof.Gen.Pre_finite_final
public import proofs.«01_k».proof.Proof.Gen.LossBwdIdeal.Value
public import proofs.«01_k».proof.Proof.Gen.LossRefIdeal.Run
public import proofs.«01_k».proof.Proof.FfnClaim
public import proofs.«01_k».proof.Proof.Gen.FfnBwd
public import proofs.«01_k».proof.Proof.Gen.FfnBwd.Frame
public import proofs.«01_k».proof.Proof.Gen.FfnBwdIdeal
public import proofs.«01_k».proof.Proof.Gen.FfnBwdIdeal.Frame
public import proofs.«01_k».proof.Proof.Gen.FfnRefIdeal
public import proofs.«01_k».proof.Proof.Gen.Pre_finite_ffn
public import proofs.«01_k».proof.Proof.Gen.FfnBwdIdeal.Value
public import proofs.«01_k».proof.Proof.Gen.FfnRefIdeal.Run
public import proofs.«01_k».proof.Proof.ConvClaim
public import proofs.«01_k».proof.Proof.Gen.ConvBwd
public import proofs.«01_k».proof.Proof.Gen.ConvBwd.Frame
public import proofs.«01_k».proof.Proof.Gen.ConvBwdIdeal
public import proofs.«01_k».proof.Proof.Gen.ConvBwdIdeal.Frame
public import proofs.«01_k».proof.Proof.Gen.ConvRefIdeal
public import proofs.«01_k».proof.Proof.Gen.Pre_finite_conv
public import proofs.«01_k».proof.Proof.Gen.ConvBwdIdeal.Value
public import proofs.«01_k».proof.Proof.Gen.ConvRefIdeal.Run
public import proofs.«01_k».proof.Proof.PoolClaim
public import proofs.«01_k».proof.Proof.Gen.PoolBwd
public import proofs.«01_k».proof.Proof.Gen.PoolBwd.Frame
public import proofs.«01_k».proof.Proof.Gen.PoolBwdIdeal
public import proofs.«01_k».proof.Proof.Gen.PoolBwdIdeal.Frame
public import proofs.«01_k».proof.Proof.Gen.PoolRefIdeal
public import proofs.«01_k».proof.Proof.Gen.Pre_finite_pool
public import proofs.«01_k».proof.Proof.Gen.PoolBwdIdeal.Value
public import proofs.«01_k».proof.Proof.Gen.PoolRefIdeal.Run
public import proofs.«01_k».proof.Proof.GmlpClaim
public import proofs.«01_k».proof.Proof.Gen.GmlpBwd
public import proofs.«01_k».proof.Proof.Gen.GmlpBwd.Frame
public import proofs.«01_k».proof.Proof.Gen.GmlpBwdIdeal
public import proofs.«01_k».proof.Proof.Gen.GmlpBwdIdeal.Frame
public import proofs.«01_k».proof.Proof.Gen.GmlpRefIdeal
public import proofs.«01_k».proof.Proof.Gen.Pre_finite_gmlp
public import proofs.«01_k».proof.Proof.Gen.GmlpBwdIdeal.Value
public import proofs.«01_k».proof.Proof.Gen.GmlpRefIdeal.Run
public import proofs.«01_k».proof.Proof.FfnFClaim
public import proofs.«01_k».proof.Proof.Gen.FfnFwd
public import proofs.«01_k».proof.Proof.Gen.FfnFwd.Frame
public import proofs.«01_k».proof.Proof.Gen.FfnFwdIdeal
public import proofs.«01_k».proof.Proof.Gen.FfnFwdIdeal.Frame
public import proofs.«01_k».proof.Proof.Gen.FfnFwdRefIdeal
public import proofs.«01_k».proof.Proof.Gen.Pre_finite_ffn_fwd
public import proofs.«01_k».proof.Proof.Gen.FfnFwdIdeal.Value
public import proofs.«01_k».proof.Proof.Gen.FfnFwdRefIdeal.Run
public import proofs.«01_k».proof.Proof.GmlpFClaim
public import proofs.«01_k».proof.Proof.Gen.GmlpFwd
public import proofs.«01_k».proof.Proof.Gen.GmlpFwd.Frame
public import proofs.«01_k».proof.Proof.Gen.GmlpFwdIdeal
public import proofs.«01_k».proof.Proof.Gen.GmlpFwdIdeal.Frame
public import proofs.«01_k».proof.Proof.Gen.GmlpFwdRefIdeal
public import proofs.«01_k».proof.Proof.Gen.Pre_finite_gmlp_fwd
public import proofs.«01_k».proof.Proof.Gen.GmlpFwdIdeal.Value
public import proofs.«01_k».proof.Proof.Gen.GmlpFwdRefIdeal.Run

@[expose] public section

noncomputable section

namespace Cert.Proof

open Idealize.ShloMosaic Idealize.SL.Sem

theorem claim : Cert.Claim :=
  ⟨LossBwd.Gen.facts, LossBwdIdeal.Gen.facts, LossRefIdeal.Gen.facts,
    FfnBwd.Gen.facts, FfnBwdIdeal.Gen.facts, FfnRefIdeal.Gen.facts,
    ConvBwd.Gen.facts, ConvBwdIdeal.Gen.facts, ConvRefIdeal.Gen.facts,
    PoolBwd.Gen.facts, PoolBwdIdeal.Gen.facts, PoolRefIdeal.Gen.facts,
    GmlpBwd.Gen.facts, GmlpBwdIdeal.Gen.facts, GmlpRefIdeal.Gen.facts,
    FfnFwd.Gen.facts, FfnFwdIdeal.Gen.facts, FfnFwdRefIdeal.Gen.facts,
    GmlpFwd.Gen.facts, GmlpFwdIdeal.Gen.facts, GmlpFwdRefIdeal.Gen.facts,
    Pre_finite_final.Gen.facts, Pre_finite_ffn.Gen.facts, Pre_finite_conv.Gen.facts, Pre_finite_pool.Gen.facts, Pre_finite_gmlp.Gen.facts, Pre_finite_ffn_fwd.Gen.facts, Pre_finite_gmlp_fwd.Gen.facts,
    fun m ρ _ => LossBwd.Gen.frame m ρ, fun m ρ _ => LossBwdIdeal.Gen.frame m ρ, fun m ρ _ => LossBwdIdeal.Gen.frame m ρ,
    Loss.frame_ref, fun m ρ _ => Loss.frame_ref m ρ trivial,
    fun m ρ _ => FfnBwd.Gen.frame m ρ, fun m ρ _ => FfnBwdIdeal.Gen.frame m ρ, fun m ρ _ => FfnBwdIdeal.Gen.frame m ρ,
    Ffn.frame_ref, fun m ρ _ => Ffn.frame_ref m ρ trivial,
    fun m ρ _ => ConvBwd.Gen.frame m ρ, fun m ρ _ => ConvBwdIdeal.Gen.frame m ρ, fun m ρ _ => ConvBwdIdeal.Gen.frame m ρ,
    Conv.frame_ref, fun m ρ _ => Conv.frame_ref m ρ trivial,
    fun m ρ _ => PoolBwd.Gen.frame m ρ, fun m ρ _ => PoolBwdIdeal.Gen.frame m ρ, fun m ρ _ => PoolBwdIdeal.Gen.frame m ρ,
    Pool.frame_ref, fun m ρ _ => Pool.frame_ref m ρ trivial,
    fun m ρ _ => GmlpBwd.Gen.frame m ρ, fun m ρ _ => GmlpBwdIdeal.Gen.frame m ρ, fun m ρ _ => GmlpBwdIdeal.Gen.frame m ρ,
    Gmlp.frame_ref, fun m ρ _ => Gmlp.frame_ref m ρ trivial,
    fun m ρ _ => FfnFwd.Gen.frame m ρ, fun m ρ _ => FfnFwdIdeal.Gen.frame m ρ, fun m ρ _ => FfnFwdIdeal.Gen.frame m ρ,
    FfnF.frame_ref, fun m ρ _ => FfnF.frame_ref m ρ trivial,
    fun m ρ _ => GmlpFwd.Gen.frame m ρ, fun m ρ _ => GmlpFwdIdeal.Gen.frame m ρ, fun m ρ _ => GmlpFwdIdeal.Gen.frame m ρ,
    GmlpF.frame_ref, fun m ρ _ => GmlpF.frame_ref m ρ trivial,
    trivial, Loss.algebraic,
    trivial, Ffn.algebraic,
    trivial, Conv.algebraic,
    trivial, Pool.algebraic,
    Gmlp.preserves, Gmlp.algebraic,
    trivial, FfnF.algebraic,
    GmlpF.preserves, GmlpF.algebraic⟩

end Cert.Proof

end
